-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_KernelDownDw (m : (ℓ : Loc Cert.KernelDownDw.nD Cert.KernelDownDw.τ Cert.KernelDownDw.sig) → Buf (Elt Bits) ℓ) : Prop :=
  True

def Pre_KernelDownDwIdeal (m : (ℓ : Loc Cert.KernelDownDwIdeal.nD Cert.KernelDownDwIdeal.τ Cert.KernelDownDwIdeal.sig) → Buf (Elt Ideal) ℓ) : Prop :=
  True

def Pre_ReferenceDownDwIdeal (m : (ℓ : Loc Cert.ReferenceDownDwIdeal.nD Cert.ReferenceDownDwIdeal.τ Cert.ReferenceDownDwIdeal.sig) → Buf (Elt Ideal) ℓ) : Prop :=
  True

def Pre_KernelUpDw (m : (ℓ : Loc Cert.KernelUpDw.nD Cert.KernelUpDw.τ Cert.KernelUpDw.sig) → Buf (Elt Bits) ℓ) : Prop :=
  True

def Pre_KernelUpDwIdeal (m : (ℓ : Loc Cert.KernelUpDwIdeal.nD Cert.KernelUpDwIdeal.τ Cert.KernelUpDwIdeal.sig) → Buf (Elt Ideal) ℓ) : Prop :=
  True

def Pre_ReferenceUpDwIdeal (m : (ℓ : Loc Cert.ReferenceUpDwIdeal.nD Cert.ReferenceUpDwIdeal.τ Cert.ReferenceUpDwIdeal.sig) → Buf (Elt Ideal) ℓ) : Prop :=
  True

def Pre_KernelDownBwd (m : (ℓ : Loc Cert.KernelDownBwd.nD Cert.KernelDownBwd.τ Cert.KernelDownBwd.sig) → Buf (Elt Bits) ℓ) : Prop :=
  True

def Pre_KernelDownBwdIdeal (m : (ℓ : Loc Cert.KernelDownBwdIdeal.nD Cert.KernelDownBwdIdeal.τ Cert.KernelDownBwdIdeal.sig) → Buf (Elt Ideal) ℓ) : Prop :=
  True

def Pre_KernelDownBwdIdeal_finite_down_bwd [hPre_finite_down_bwd : Cert.Pre_finite_down_bwd.Facts] (m : (ℓ : Loc Cert.KernelDownBwdIdeal.nD Cert.KernelDownBwdIdeal.τ Cert.KernelDownBwdIdeal.sig) → Buf (Elt Ideal) ℓ) : Prop :=
  ∀ c : Dev Cert.KernelDownBwdIdeal.nD,
    (Cert.Pre_finite_down_bwd.fn (F := Ideal) (m ((c.tc : Thread Cert.KernelDownBwdIdeal.nD Cert.KernelDownBwdIdeal.τ).loc Cert.KernelDownBwdIdeal.main_arg0)) (m ((c.tc : Thread Cert.KernelDownBwdIdeal.nD Cert.KernelDownBwdIdeal.τ).loc Cert.KernelDownBwdIdeal.main_arg1)) (m ((c.tc : Thread Cert.KernelDownBwdIdeal.nD Cert.KernelDownBwdIdeal.τ).loc Cert.KernelDownBwdIdeal.main_arg2)) (m ((c.tc : Thread Cert.KernelDownBwdIdeal.nD Cert.KernelDownBwdIdeal.τ).loc Cert.KernelDownBwdIdeal.main_arg3))).1 = (fun _ => 1#1)
    ∧ (Cert.Pre_finite_down_bwd.fn (F := Ideal) (m ((c.tc : Thread Cert.KernelDownBwdIdeal.nD Cert.KernelDownBwdIdeal.τ).loc Cert.KernelDownBwdIdeal.main_arg0)) (m ((c.tc : Thread Cert.KernelDownBwdIdeal.nD Cert.KernelDownBwdIdeal.τ).loc Cert.KernelDownBwdIdeal.main_arg1)) (m ((c.tc : Thread Cert.KernelDownBwdIdeal.nD Cert.KernelDownBwdIdeal.τ).loc Cert.KernelDownBwdIdeal.main_arg2)) (m ((c.tc : Thread Cert.KernelDownBwdIdeal.nD Cert.KernelDownBwdIdeal.τ).loc Cert.KernelDownBwdIdeal.main_arg3))).2.1 = (fun _ => 1#1)
    ∧ (Cert.Pre_finite_down_bwd.fn (F := Ideal) (m ((c.tc : Thread Cert.KernelDownBwdIdeal.nD Cert.KernelDownBwdIdeal.τ).loc Cert.KernelDownBwdIdeal.main_arg0)) (m ((c.tc : Thread Cert.KernelDownBwdIdeal.nD Cert.KernelDownBwdIdeal.τ).loc Cert.KernelDownBwdIdeal.main_arg1)) (m ((c.tc : Thread Cert.KernelDownBwdIdeal.nD Cert.KernelDownBwdIdeal.τ).loc Cert.KernelDownBwdIdeal.main_arg2)) (m ((c.tc : Thread Cert.KernelDownBwdIdeal.nD Cert.KernelDownBwdIdeal.τ).loc Cert.KernelDownBwdIdeal.main_arg3))).2.2 = (fun _ => 1#1)

def Pre_ReferenceDownBwdIdeal (m : (ℓ : Loc Cert.ReferenceDownBwdIdeal.nD Cert.ReferenceDownBwdIdeal.τ Cert.ReferenceDownBwdIdeal.sig) → Buf (Elt Ideal) ℓ) : Prop :=
  True

def Pre_ReferenceDownBwdIdeal_finite_down_bwd [hPre_finite_down_bwd : Cert.Pre_finite_down_bwd.Facts] (m : (ℓ : Loc Cert.ReferenceDownBwdIdeal.nD Cert.ReferenceDownBwdIdeal.τ Cert.ReferenceDownBwdIdeal.sig) → Buf (Elt Ideal) ℓ) : Prop :=
  ∀ c : Dev Cert.ReferenceDownBwdIdeal.nD,
    (Cert.Pre_finite_down_bwd.fn (F := Ideal) (m ((c.tc : Thread Cert.ReferenceDownBwdIdeal.nD Cert.ReferenceDownBwdIdeal.τ).loc Cert.ReferenceDownBwdIdeal.main_arg0)) (m ((c.tc : Thread Cert.ReferenceDownBwdIdeal.nD Cert.ReferenceDownBwdIdeal.τ).loc Cert.ReferenceDownBwdIdeal.main_arg1)) (m ((c.tc : Thread Cert.ReferenceDownBwdIdeal.nD Cert.ReferenceDownBwdIdeal.τ).loc Cert.ReferenceDownBwdIdeal.main_arg2)) (m ((c.tc : Thread Cert.ReferenceDownBwdIdeal.nD Cert.ReferenceDownBwdIdeal.τ).loc Cert.ReferenceDownBwdIdeal.main_arg3))).1 = (fun _ => 1#1)
    ∧ (Cert.Pre_finite_down_bwd.fn (F := Ideal) (m ((c.tc : Thread Cert.ReferenceDownBwdIdeal.nD Cert.ReferenceDownBwdIdeal.τ).loc Cert.ReferenceDownBwdIdeal.main_arg0)) (m ((c.tc : Thread Cert.ReferenceDownBwdIdeal.nD Cert.ReferenceDownBwdIdeal.τ).loc Cert.ReferenceDownBwdIdeal.main_arg1)) (m ((c.tc : Thread Cert.ReferenceDownBwdIdeal.nD Cert.ReferenceDownBwdIdeal.τ).loc Cert.ReferenceDownBwdIdeal.main_arg2)) (m ((c.tc : Thread Cert.ReferenceDownBwdIdeal.nD Cert.ReferenceDownBwdIdeal.τ).loc Cert.ReferenceDownBwdIdeal.main_arg3))).2.1 = (fun _ => 1#1)
    ∧ (Cert.Pre_finite_down_bwd.fn (F := Ideal) (m ((c.tc : Thread Cert.ReferenceDownBwdIdeal.nD Cert.ReferenceDownBwdIdeal.τ).loc Cert.ReferenceDownBwdIdeal.main_arg0)) (m ((c.tc : Thread Cert.ReferenceDownBwdIdeal.nD Cert.ReferenceDownBwdIdeal.τ).loc Cert.ReferenceDownBwdIdeal.main_arg1)) (m ((c.tc : Thread Cert.ReferenceDownBwdIdeal.nD Cert.ReferenceDownBwdIdeal.τ).loc Cert.ReferenceDownBwdIdeal.main_arg2)) (m ((c.tc : Thread Cert.ReferenceDownBwdIdeal.nD Cert.ReferenceDownBwdIdeal.τ).loc Cert.ReferenceDownBwdIdeal.main_arg3))).2.2 = (fun _ => 1#1)

def Pre_KernelUpBwd (m : (ℓ : Loc Cert.KernelUpBwd.nD Cert.KernelUpBwd.τ Cert.KernelUpBwd.sig) → Buf (Elt Bits) ℓ) : Prop :=
  True

def Pre_KernelUpBwdIdeal (m : (ℓ : Loc Cert.KernelUpBwdIdeal.nD Cert.KernelUpBwdIdeal.τ Cert.KernelUpBwdIdeal.sig) → Buf (Elt Ideal) ℓ) : Prop :=
  True

def Pre_ReferenceUpBwdIdeal (m : (ℓ : Loc Cert.ReferenceUpBwdIdeal.nD Cert.ReferenceUpBwdIdeal.τ Cert.ReferenceUpBwdIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOutFwd (m : (ℓ : Loc Cert.KernelOutFwd.nD Cert.KernelOutFwd.τ Cert.KernelOutFwd.sig) → Buf (Elt Bits) ℓ) : Prop :=
  True

def Pre_KernelOutFwdIdeal (m : (ℓ : Loc Cert.KernelOutFwdIdeal.nD Cert.KernelOutFwdIdeal.τ Cert.KernelOutFwdIdeal.sig) → Buf (Elt Ideal) ℓ) : Prop :=
  True

def Pre_ReferenceOutFwdIdeal (m : (ℓ : Loc Cert.ReferenceOutFwdIdeal.nD Cert.ReferenceOutFwdIdeal.τ Cert.ReferenceOutFwdIdeal.sig) → Buf (Elt Ideal) ℓ) : Prop :=
  True

def Pre_KernelOutBwd (m : (ℓ : Loc Cert.KernelOutBwd.nD Cert.KernelOutBwd.τ Cert.KernelOutBwd.sig) → Buf (Elt Bits) ℓ) : Prop :=
  True

def Pre_KernelOutBwdIdeal (m : (ℓ : Loc Cert.KernelOutBwdIdeal.nD Cert.KernelOutBwdIdeal.τ Cert.KernelOutBwdIdeal.sig) → Buf (Elt Ideal) ℓ) : Prop :=
  True

def Pre_ReferenceOutBwdIdeal (m : (ℓ : Loc Cert.ReferenceOutBwdIdeal.nD Cert.ReferenceOutBwdIdeal.τ Cert.ReferenceOutBwdIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_KernelInFwd (m : (ℓ : Loc Cert.KernelInFwd.nD Cert.KernelInFwd.τ Cert.KernelInFwd.sig) → Buf (Elt Bits) ℓ) : Prop :=
  True

def Pre_KernelInFwdIdeal (m : (ℓ : Loc Cert.KernelInFwdIdeal.nD Cert.KernelInFwdIdeal.τ Cert.KernelInFwdIdeal.sig) → Buf (Elt Ideal) ℓ) : Prop :=
  True

def Pre_ReferenceInFwdIdeal (m : (ℓ : Loc Cert.ReferenceInFwdIdeal.nD Cert.ReferenceInFwdIdeal.τ Cert.ReferenceInFwdIdeal.sig) → Buf (Elt Ideal) ℓ) : Prop :=
  True

def Pre_KernelInDw (m : (ℓ : Loc Cert.KernelInDw.nD Cert.KernelInDw.τ Cert.KernelInDw.sig) → Buf (Elt Bits) ℓ) : Prop :=
  True

def Pre_KernelInDwIdeal (m : (ℓ : Loc Cert.KernelInDwIdeal.nD Cert.KernelInDwIdeal.τ Cert.KernelInDwIdeal.sig) → Buf (Elt Ideal) ℓ) : Prop :=
  True

def Pre_ReferenceInDwIdeal (m : (ℓ : Loc Cert.ReferenceInDwIdeal.nD Cert.ReferenceInDwIdeal.τ Cert.ReferenceInDwIdeal.sig) → Buf (Elt Ideal) ℓ) : Prop :=
  True

def Pre_KernelInBwd (m : (ℓ : Loc Cert.KernelInBwd.nD Cert.KernelInBwd.τ Cert.KernelInBwd.sig) → Buf (Elt Bits) ℓ) : Prop :=
  True

def Pre_KernelInBwdIdeal (m : (ℓ : Loc Cert.KernelInBwdIdeal.nD Cert.KernelInBwdIdeal.τ Cert.KernelInBwdIdeal.sig) → Buf (Elt Ideal) ℓ) : Prop :=
  True

def Pre_ReferenceInBwdIdeal (m : (ℓ : Loc Cert.ReferenceInBwdIdeal.nD Cert.ReferenceInBwdIdeal.τ Cert.ReferenceInBwdIdeal.sig) → Buf (Elt Ideal) ℓ) : Prop :=
  True

def Pre_KernelEvenOutBwd (m : (ℓ : Loc Cert.KernelEvenOutBwd.nD Cert.KernelEvenOutBwd.τ Cert.KernelEvenOutBwd.sig) → Buf (Elt Bits) ℓ) : Prop :=
  True

def Pre_KernelEvenOutBwdIdeal (m : (ℓ : Loc Cert.KernelEvenOutBwdIdeal.nD Cert.KernelEvenOutBwdIdeal.τ Cert.KernelEvenOutBwdIdeal.sig) → Buf (Elt Ideal) ℓ) : Prop :=
  True

def Pre_ReferenceEvenOutBwdIdeal (m : (ℓ : Loc Cert.ReferenceEvenOutBwdIdeal.nD Cert.ReferenceEvenOutBwdIdeal.τ Cert.ReferenceEvenOutBwdIdeal.sig) → Buf (Elt Ideal) ℓ) : Prop :=
  True

def Pre_KernelEvenIn (m : (ℓ : Loc Cert.KernelEvenIn.nD Cert.KernelEvenIn.τ Cert.KernelEvenIn.sig) → Buf (Elt Bits) ℓ) : Prop :=
  True

def Pre_KernelEvenInIdeal (m : (ℓ : Loc Cert.KernelEvenInIdeal.nD Cert.KernelEvenInIdeal.τ Cert.KernelEvenInIdeal.sig) → Buf (Elt Ideal) ℓ) : Prop :=
  True

def Pre_ReferenceEvenInIdeal (m : (ℓ : Loc Cert.ReferenceEvenInIdeal.nD Cert.ReferenceEvenInIdeal.τ Cert.ReferenceEvenInIdeal.sig) → Buf (Elt Ideal) ℓ) : Prop :=
  True

def Pre_KernelEvenInDw (m : (ℓ : Loc Cert.KernelEvenInDw.nD Cert.KernelEvenInDw.τ Cert.KernelEvenInDw.sig) → Buf (Elt Bits) ℓ) : Prop :=
  True

def Pre_KernelEvenInDwIdeal (m : (ℓ : Loc Cert.KernelEvenInDwIdeal.nD Cert.KernelEvenInDwIdeal.τ Cert.KernelEvenInDwIdeal.sig) → Buf (Elt Ideal) ℓ) : Prop :=
  True

def Pre_ReferenceEvenInDwIdeal (m : (ℓ : Loc Cert.ReferenceEvenInDwIdeal.nD Cert.ReferenceEvenInDwIdeal.τ Cert.ReferenceEvenInDwIdeal.sig) → Buf (Elt Ideal) ℓ) : Prop :=
  True

def Pre_KernelEvenInBwd (m : (ℓ : Loc Cert.KernelEvenInBwd.nD Cert.KernelEvenInBwd.τ Cert.KernelEvenInBwd.sig) → Buf (Elt Bits) ℓ) : Prop :=
  True

def Pre_KernelEvenInBwdIdeal (m : (ℓ : Loc Cert.KernelEvenInBwdIdeal.nD Cert.KernelEvenInBwdIdeal.τ Cert.KernelEvenInBwdIdeal.sig) → Buf (Elt Ideal) ℓ) : Prop :=
  True

def Pre_ReferenceEvenInBwdIdeal (m : (ℓ : Loc Cert.ReferenceEvenInBwdIdeal.nD Cert.ReferenceEvenInBwdIdeal.τ Cert.ReferenceEvenInBwdIdeal.sig) → Buf (Elt Ideal) ℓ) : Prop :=
  True

def Pre_KernelAdamGu (m : (ℓ : Loc Cert.KernelAdamGu.nD Cert.KernelAdamGu.τ Cert.KernelAdamGu.sig) → Buf (Elt Bits) ℓ) : Prop :=
  True

def Pre_KernelAdamGuIdeal (m : (ℓ : Loc Cert.KernelAdamGuIdeal.nD Cert.KernelAdamGuIdeal.τ Cert.KernelAdamGuIdeal.sig) → Buf (Elt Ideal) ℓ) : Prop :=
  True

def Pre_ReferenceAdamGuIdeal (m : (ℓ : Loc Cert.ReferenceAdamGuIdeal.nD Cert.ReferenceAdamGuIdeal.τ Cert.ReferenceAdamGuIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelAdamInEven (m : (ℓ : Loc Cert.KernelAdamInEven.nD Cert.KernelAdamInEven.τ Cert.KernelAdamInEven.sig) → Buf (Elt Bits) ℓ) : Prop :=
  True

def Pre_KernelAdamInEvenIdeal (m : (ℓ : Loc Cert.KernelAdamInEvenIdeal.nD Cert.KernelAdamInEvenIdeal.τ Cert.KernelAdamInEvenIdeal.sig) → Buf (Elt Ideal) ℓ) : Prop :=
  True

def Pre_ReferenceAdamInEvenIdeal (m : (ℓ : Loc Cert.ReferenceAdamInEvenIdeal.nD Cert.ReferenceAdamInEvenIdeal.τ Cert.ReferenceAdamInEvenIdeal.sig) → Buf (Elt Ideal) ℓ) : Prop :=
  True

def Pre_KernelAdamInOdd (m : (ℓ : Loc Cert.KernelAdamInOdd.nD Cert.KernelAdamInOdd.τ Cert.KernelAdamInOdd.sig) → Buf (Elt Bits) ℓ) : Prop :=
  True

def Pre_KernelAdamInOddIdeal (m : (ℓ : Loc Cert.KernelAdamInOddIdeal.nD Cert.KernelAdamInOddIdeal.τ Cert.KernelAdamInOddIdeal.sig) → Buf (Elt Ideal) ℓ) : Prop :=
  True

def Pre_ReferenceAdamInOddIdeal (m : (ℓ : Loc Cert.ReferenceAdamInOddIdeal.nD Cert.ReferenceAdamInOddIdeal.τ Cert.ReferenceAdamInOddIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelSbFwd (m : (ℓ : Loc Cert.KernelSbFwd.nD Cert.KernelSbFwd.τ Cert.KernelSbFwd.sig) → Buf (Elt Bits) ℓ) : Prop :=
  True

def Pre_KernelSbFwdIdeal (m : (ℓ : Loc Cert.KernelSbFwdIdeal.nD Cert.KernelSbFwdIdeal.τ Cert.KernelSbFwdIdeal.sig) → Buf (Elt Ideal) ℓ) : Prop :=
  True

def Pre_KernelSbFwdIdeal_finite_sb_fwd [hPre_finite_sb_fwd : Cert.Pre_finite_sb_fwd.Facts] (m : (ℓ : Loc Cert.KernelSbFwdIdeal.nD Cert.KernelSbFwdIdeal.τ Cert.KernelSbFwdIdeal.sig) → Buf (Elt Ideal) ℓ) : Prop :=
  ∀ c : Dev Cert.KernelSbFwdIdeal.nD,
    (Cert.Pre_finite_sb_fwd.fn (F := Ideal) (m ((c.tc : Thread Cert.KernelSbFwdIdeal.nD Cert.KernelSbFwdIdeal.τ).loc Cert.KernelSbFwdIdeal.main_arg0))) = (fun _ => 1#1)

def Pre_ReferenceSbFwdIdeal (m : (ℓ : Loc Cert.ReferenceSbFwdIdeal.nD Cert.ReferenceSbFwdIdeal.τ Cert.ReferenceSbFwdIdeal.sig) → Buf (Elt Ideal) ℓ) : Prop :=
  True

def Pre_ReferenceSbFwdIdeal_finite_sb_fwd [hPre_finite_sb_fwd : Cert.Pre_finite_sb_fwd.Facts] (m : (ℓ : Loc Cert.ReferenceSbFwdIdeal.nD Cert.ReferenceSbFwdIdeal.τ Cert.ReferenceSbFwdIdeal.sig) → Buf (Elt Ideal) ℓ) : Prop :=
  ∀ c : Dev Cert.ReferenceSbFwdIdeal.nD,
    (Cert.Pre_finite_sb_fwd.fn (F := Ideal) (m ((c.tc : Thread Cert.ReferenceSbFwdIdeal.nD Cert.ReferenceSbFwdIdeal.τ).loc Cert.ReferenceSbFwdIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelDownDw [hKernelDownDw : Cert.KernelDownDw.Facts] : Prop :=
  ∀ (m : (ℓ : Loc Cert.KernelDownDw.nD Cert.KernelDownDw.τ Cert.KernelDownDw.sig) → Buf (Elt Bits) ℓ) (g : Dev Cert.KernelDownDw.nD → PrngReg), Pre_KernelDownDw m →
    θ_run (Cert.KernelDownDw.defs (F := Bits)) (onTc (τ := Cert.KernelDownDw.τ) (Cert.KernelDownDw.main (F := Bits))) ⟨m, fun _ => 0, g⟩ (fun r => (∀ c : Dev Cert.KernelDownDw.nD,
      r.2.mem ((c.tc : Thread Cert.KernelDownDw.nD Cert.KernelDownDw.τ).loc Cert.KernelDownDw.main_arg0) = m ((c.tc : Thread Cert.KernelDownDw.nD Cert.KernelDownDw.τ).loc Cert.KernelDownDw.main_arg0)
      ∧ r.2.mem ((c.tc : Thread Cert.KernelDownDw.nD Cert.KernelDownDw.τ).loc Cert.KernelDownDw.main_arg1) = m ((c.tc : Thread Cert.KernelDownDw.nD Cert.KernelDownDw.τ).loc Cert.KernelDownDw.main_arg1)
      ∧ r.2.mem ((c.tc : Thread Cert.KernelDownDw.nD Cert.KernelDownDw.τ).loc Cert.KernelDownDw.main_arg2) = m ((c.tc : Thread Cert.KernelDownDw.nD Cert.KernelDownDw.τ).loc Cert.KernelDownDw.main_arg2)
      ∧ r.2.mem ((c.tc : Thread Cert.KernelDownDw.nD Cert.KernelDownDw.τ).loc Cert.KernelDownDw.main_arg3) = m ((c.tc : Thread Cert.KernelDownDw.nD Cert.KernelDownDw.τ).loc Cert.KernelDownDw.main_arg3))
      ∧ r.2.sem = fun _ => 0)

def quiescent_KernelDownDwIdeal [hKernelDownDwIdeal : Cert.KernelDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg), Pre_KernelDownDwIdeal m →
    θ_run (Cert.KernelDownDwIdeal.defs (F := Ideal)) (onTc (τ := Cert.KernelDownDwIdeal.τ) (Cert.KernelDownDwIdeal.main (F := Ideal))) ⟨m, fun _ => 0, g⟩ (fun r => (∀ c : Dev Cert.KernelDownDwIdeal.nD,
      r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
      ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1)
      ∧ r.2.mem ((c.tc : Thread Cert.KernelDownDwIdeal.nD Cert.KernelDownDwIdeal.τ).loc Cert.KernelDownDwIdeal.main_arg2) = m ((c.tc : Thread Cert.KernelDownDwIdeal.nD Cert.KernelDownDwIdeal.τ).loc Cert.KernelDownDwIdeal.main_arg2)
      ∧ r.2.mem ((c.tc : Thread Cert.KernelDownDwIdeal.nD Cert.KernelDownDwIdeal.τ).loc Cert.KernelDownDwIdeal.main_arg3) = m ((c.tc : Thread Cert.KernelDownDwIdeal.nD Cert.KernelDownDwIdeal.τ).loc Cert.KernelDownDwIdeal.main_arg3))
      ∧ r.2.sem = fun _ => 0)

def quiescent_ReferenceDownDwIdeal [hReferenceDownDwIdeal : Cert.ReferenceDownDwIdeal.Facts] : Prop :=
  ∀ (m : (ℓ : Loc Cert.ReferenceDownDwIdeal.nD Cert.ReferenceDownDwIdeal.τ Cert.ReferenceDownDwIdeal.sig) → Buf (Elt Ideal) ℓ) (g : Dev Cert.ReferenceDownDwIdeal.nD → PrngReg), Pre_ReferenceDownDwIdeal m →
    θ_run (Cert.ReferenceDownDwIdeal.defs (F := Ideal)) (onTc (τ := Cert.ReferenceDownDwIdeal.τ) (Cert.ReferenceDownDwIdeal.main (F := Ideal))) ⟨m, fun _ => 0, g⟩ (fun r => (∀ c : Dev Cert.ReferenceDownDwIdeal.nD,
      r.2.mem ((c.tc : Thread Cert.ReferenceDownDwIdeal.nD Cert.ReferenceDownDwIdeal.τ).loc Cert.ReferenceDownDwIdeal.main_arg0) = m ((c.tc : Thread Cert.ReferenceDownDwIdeal.nD Cert.ReferenceDownDwIdeal.τ).loc Cert.ReferenceDownDwIdeal.main_arg0)
      ∧ r.2.mem ((c.tc : Thread Cert.ReferenceDownDwIdeal.nD Cert.ReferenceDownDwIdeal.τ).loc Cert.ReferenceDownDwIdeal.main_arg1) = m ((c.tc : Thread Cert.ReferenceDownDwIdeal.nD Cert.ReferenceDownDwIdeal.τ).loc Cert.ReferenceDownDwIdeal.main_arg1)
      ∧ r.2.mem ((c.tc : Thread Cert.ReferenceDownDwIdeal.nD Cert.ReferenceDownDwIdeal.τ).loc Cert.ReferenceDownDwIdeal.main_arg2) = m ((c.tc : Thread Cert.ReferenceDownDwIdeal.nD Cert.ReferenceDownDwIdeal.τ).loc Cert.ReferenceDownDwIdeal.main_arg2)
      ∧ r.2.mem ((c.tc : Thread Cert.ReferenceDownDwIdeal.nD Cert.ReferenceDownDwIdeal.τ).loc Cert.ReferenceDownDwIdeal.main_arg3) = m ((c.tc : Thread Cert.ReferenceDownDwIdeal.nD Cert.ReferenceDownDwIdeal.τ).loc Cert.ReferenceDownDwIdeal.main_arg3))
      ∧ r.2.sem = fun _ => 0)

def quiescent_KernelUpDw [hKernelUpDw : Cert.KernelUpDw.Facts] : Prop :=
  ∀ (m : (ℓ : Loc Cert.KernelUpDw.nD Cert.KernelUpDw.τ Cert.KernelUpDw.sig) → Buf (Elt Bits) ℓ) (g : Dev Cert.KernelUpDw.nD → PrngReg), Pre_KernelUpDw m →
    θ_run (Cert.KernelUpDw.defs (F := Bits)) (onTc (τ := Cert.KernelUpDw.τ) (Cert.KernelUpDw.main (F := Bits))) ⟨m, fun _ => 0, g⟩ (fun r => (∀ c : Dev Cert.KernelUpDw.nD,
      r.2.mem ((c.tc : Thread Cert.KernelUpDw.nD Cert.KernelUpDw.τ).loc Cert.KernelUpDw.main_arg0) = m ((c.tc : Thread Cert.KernelUpDw.nD Cert.KernelUpDw.τ).loc Cert.KernelUpDw.main_arg0)
      ∧ r.2.mem ((c.tc : Thread Cert.KernelUpDw.nD Cert.KernelUpDw.τ).loc Cert.KernelUpDw.main_arg1) = m ((c.tc : Thread Cert.KernelUpDw.nD Cert.KernelUpDw.τ).loc Cert.KernelUpDw.main_arg1)
      ∧ r.2.mem ((c.tc : Thread Cert.KernelUpDw.nD Cert.KernelUpDw.τ).loc Cert.KernelUpDw.main_arg2) = m ((c.tc : Thread Cert.KernelUpDw.nD Cert.KernelUpDw.τ).loc Cert.KernelUpDw.main_arg2)
      ∧ r.2.mem ((c.tc : Thread Cert.KernelUpDw.nD Cert.KernelUpDw.τ).loc Cert.KernelUpDw.main_arg3) = m ((c.tc : Thread Cert.KernelUpDw.nD Cert.KernelUpDw.τ).loc Cert.KernelUpDw.main_arg3))
      ∧ r.2.sem = fun _ => 0)

def quiescent_KernelUpDwIdeal [hKernelUpDwIdeal : Cert.KernelUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg), Pre_KernelUpDwIdeal m →
    θ_run (Cert.KernelUpDwIdeal.defs (F := Ideal)) (onTc (τ := Cert.KernelUpDwIdeal.τ) (Cert.KernelUpDwIdeal.main (F := Ideal))) ⟨m, fun _ => 0, g⟩ (fun r => (∀ c : Dev Cert.KernelUpDwIdeal.nD,
      r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
      ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1)
      ∧ r.2.mem ((c.tc : Thread Cert.KernelUpDwIdeal.nD Cert.KernelUpDwIdeal.τ).loc Cert.KernelUpDwIdeal.main_arg2) = m ((c.tc : Thread Cert.KernelUpDwIdeal.nD Cert.KernelUpDwIdeal.τ).loc Cert.KernelUpDwIdeal.main_arg2)
      ∧ r.2.mem ((c.tc : Thread Cert.KernelUpDwIdeal.nD Cert.KernelUpDwIdeal.τ).loc Cert.KernelUpDwIdeal.main_arg3) = m ((c.tc : Thread Cert.KernelUpDwIdeal.nD Cert.KernelUpDwIdeal.τ).loc Cert.KernelUpDwIdeal.main_arg3))
      ∧ r.2.sem = fun _ => 0)

def quiescent_ReferenceUpDwIdeal [hReferenceUpDwIdeal : Cert.ReferenceUpDwIdeal.Facts] : Prop :=
  ∀ (m : (ℓ : Loc Cert.ReferenceUpDwIdeal.nD Cert.ReferenceUpDwIdeal.τ Cert.ReferenceUpDwIdeal.sig) → Buf (Elt Ideal) ℓ) (g : Dev Cert.ReferenceUpDwIdeal.nD → PrngReg), Pre_ReferenceUpDwIdeal m →
    θ_run (Cert.ReferenceUpDwIdeal.defs (F := Ideal)) (onTc (τ := Cert.ReferenceUpDwIdeal.τ) (Cert.ReferenceUpDwIdeal.main (F := Ideal))) ⟨m, fun _ => 0, g⟩ (fun r => (∀ c : Dev Cert.ReferenceUpDwIdeal.nD,
      r.2.mem ((c.tc : Thread Cert.ReferenceUpDwIdeal.nD Cert.ReferenceUpDwIdeal.τ).loc Cert.ReferenceUpDwIdeal.main_arg0) = m ((c.tc : Thread Cert.ReferenceUpDwIdeal.nD Cert.ReferenceUpDwIdeal.τ).loc Cert.ReferenceUpDwIdeal.main_arg0)
      ∧ r.2.mem ((c.tc : Thread Cert.ReferenceUpDwIdeal.nD Cert.ReferenceUpDwIdeal.τ).loc Cert.ReferenceUpDwIdeal.main_arg1) = m ((c.tc : Thread Cert.ReferenceUpDwIdeal.nD Cert.ReferenceUpDwIdeal.τ).loc Cert.ReferenceUpDwIdeal.main_arg1)
      ∧ r.2.mem ((c.tc : Thread Cert.ReferenceUpDwIdeal.nD Cert.ReferenceUpDwIdeal.τ).loc Cert.ReferenceUpDwIdeal.main_arg2) = m ((c.tc : Thread Cert.ReferenceUpDwIdeal.nD Cert.ReferenceUpDwIdeal.τ).loc Cert.ReferenceUpDwIdeal.main_arg2)
      ∧ r.2.mem ((c.tc : Thread Cert.ReferenceUpDwIdeal.nD Cert.ReferenceUpDwIdeal.τ).loc Cert.ReferenceUpDwIdeal.main_arg3) = m ((c.tc : Thread Cert.ReferenceUpDwIdeal.nD Cert.ReferenceUpDwIdeal.τ).loc Cert.ReferenceUpDwIdeal.main_arg3))
      ∧ r.2.sem = fun _ => 0)

def quiescent_KernelDownBwd [hKernelDownBwd : Cert.KernelDownBwd.Facts] : Prop :=
  ∀ (m : (ℓ : Loc Cert.KernelDownBwd.nD Cert.KernelDownBwd.τ Cert.KernelDownBwd.sig) → Buf (Elt Bits) ℓ) (g : Dev Cert.KernelDownBwd.nD → PrngReg), Pre_KernelDownBwd m →
    θ_run (Cert.KernelDownBwd.defs (F := Bits)) (onTc (τ := Cert.KernelDownBwd.τ) (Cert.KernelDownBwd.main (F := Bits))) ⟨m, fun _ => 0, g⟩ (fun r => (∀ c : Dev Cert.KernelDownBwd.nD,
      r.2.mem ((c.tc : Thread Cert.KernelDownBwd.nD Cert.KernelDownBwd.τ).loc Cert.KernelDownBwd.main_arg0) = m ((c.tc : Thread Cert.KernelDownBwd.nD Cert.KernelDownBwd.τ).loc Cert.KernelDownBwd.main_arg0)
      ∧ r.2.mem ((c.tc : Thread Cert.KernelDownBwd.nD Cert.KernelDownBwd.τ).loc Cert.KernelDownBwd.main_arg1) = m ((c.tc : Thread Cert.KernelDownBwd.nD Cert.KernelDownBwd.τ).loc Cert.KernelDownBwd.main_arg1)
      ∧ r.2.mem ((c.tc : Thread Cert.KernelDownBwd.nD Cert.KernelDownBwd.τ).loc Cert.KernelDownBwd.main_arg2) = m ((c.tc : Thread Cert.KernelDownBwd.nD Cert.KernelDownBwd.τ).loc Cert.KernelDownBwd.main_arg2)
      ∧ r.2.mem ((c.tc : Thread Cert.KernelDownBwd.nD Cert.KernelDownBwd.τ).loc Cert.KernelDownBwd.main_arg3) = m ((c.tc : Thread Cert.KernelDownBwd.nD Cert.KernelDownBwd.τ).loc Cert.KernelDownBwd.main_arg3))
      ∧ r.2.sem = fun _ => 0)

def quiescent_KernelDownBwdIdeal [hKernelDownBwdIdeal : Cert.KernelDownBwdIdeal.Facts] : Prop :=
  ∀ (m : (ℓ : Loc Cert.KernelDownBwdIdeal.nD Cert.KernelDownBwdIdeal.τ Cert.KernelDownBwdIdeal.sig) → Buf (Elt Ideal) ℓ) (g : Dev Cert.KernelDownBwdIdeal.nD → PrngReg), Pre_KernelDownBwdIdeal m →
    θ_run (Cert.KernelDownBwdIdeal.defs (F := Ideal)) (onTc (τ := Cert.KernelDownBwdIdeal.τ) (Cert.KernelDownBwdIdeal.main (F := Ideal))) ⟨m, fun _ => 0, g⟩ (fun r => (∀ c : Dev Cert.KernelDownBwdIdeal.nD,
      r.2.mem ((c.tc : Thread Cert.KernelDownBwdIdeal.nD Cert.KernelDownBwdIdeal.τ).loc Cert.KernelDownBwdIdeal.main_arg0) = m ((c.tc : Thread Cert.KernelDownBwdIdeal.nD Cert.KernelDownBwdIdeal.τ).loc Cert.KernelDownBwdIdeal.main_arg0)
      ∧ r.2.mem ((c.tc : Thread Cert.KernelDownBwdIdeal.nD Cert.KernelDownBwdIdeal.τ).loc Cert.KernelDownBwdIdeal.main_arg1) = m ((c.tc : Thread Cert.KernelDownBwdIdeal.nD Cert.KernelDownBwdIdeal.τ).loc Cert.KernelDownBwdIdeal.main_arg1)
      ∧ r.2.mem ((c.tc : Thread Cert.KernelDownBwdIdeal.nD Cert.KernelDownBwdIdeal.τ).loc Cert.KernelDownBwdIdeal.main_arg2) = m ((c.tc : Thread Cert.KernelDownBwdIdeal.nD Cert.KernelDownBwdIdeal.τ).loc Cert.KernelDownBwdIdeal.main_arg2)
      ∧ r.2.mem ((c.tc : Thread Cert.KernelDownBwdIdeal.nD Cert.KernelDownBwdIdeal.τ).loc Cert.KernelDownBwdIdeal.main_arg3) = m ((c.tc : Thread Cert.KernelDownBwdIdeal.nD Cert.KernelDownBwdIdeal.τ).loc Cert.KernelDownBwdIdeal.main_arg3))
      ∧ r.2.sem = fun _ => 0)

def quiescent_KernelDownBwdIdeal_pre_finite_down_bwd [hKernelDownBwdIdeal : Cert.KernelDownBwdIdeal.Facts] [hPre_finite_down_bwd : Cert.Pre_finite_down_bwd.Facts] : Prop :=
  ∀ (m : (ℓ : Loc Cert.KernelDownBwdIdeal.nD Cert.KernelDownBwdIdeal.τ Cert.KernelDownBwdIdeal.sig) → Buf (Elt Ideal) ℓ) (g : Dev Cert.KernelDownBwdIdeal.nD → PrngReg), Pre_KernelDownBwdIdeal_finite_down_bwd m →
    θ_run (Cert.KernelDownBwdIdeal.defs (F := Ideal)) (onTc (τ := Cert.KernelDownBwdIdeal.τ) (Cert.KernelDownBwdIdeal.main (F := Ideal))) ⟨m, fun _ => 0, g⟩ (fun r => (∀ c : Dev Cert.KernelDownBwdIdeal.nD,
      r.2.mem ((c.tc : Thread Cert.KernelDownBwdIdeal.nD Cert.KernelDownBwdIdeal.τ).loc Cert.KernelDownBwdIdeal.main_arg0) = m ((c.tc : Thread Cert.KernelDownBwdIdeal.nD Cert.KernelDownBwdIdeal.τ).loc Cert.KernelDownBwdIdeal.main_arg0)
      ∧ r.2.mem ((c.tc : Thread Cert.KernelDownBwdIdeal.nD Cert.KernelDownBwdIdeal.τ).loc Cert.KernelDownBwdIdeal.main_arg1) = m ((c.tc : Thread Cert.KernelDownBwdIdeal.nD Cert.KernelDownBwdIdeal.τ).loc Cert.KernelDownBwdIdeal.main_arg1)
      ∧ r.2.mem ((c.tc : Thread Cert.KernelDownBwdIdeal.nD Cert.KernelDownBwdIdeal.τ).loc Cert.KernelDownBwdIdeal.main_arg2) = m ((c.tc : Thread Cert.KernelDownBwdIdeal.nD Cert.KernelDownBwdIdeal.τ).loc Cert.KernelDownBwdIdeal.main_arg2)
      ∧ r.2.mem ((c.tc : Thread Cert.KernelDownBwdIdeal.nD Cert.KernelDownBwdIdeal.τ).loc Cert.KernelDownBwdIdeal.main_arg3) = m ((c.tc : Thread Cert.KernelDownBwdIdeal.nD Cert.KernelDownBwdIdeal.τ).loc Cert.KernelDownBwdIdeal.main_arg3))
      ∧ r.2.sem = fun _ => 0)

def quiescent_ReferenceDownBwdIdeal [hReferenceDownBwdIdeal : Cert.ReferenceDownBwdIdeal.Facts] : Prop :=
  ∀ (m : (ℓ : Loc Cert.ReferenceDownBwdIdeal.nD Cert.ReferenceDownBwdIdeal.τ Cert.ReferenceDownBwdIdeal.sig) → Buf (Elt Ideal) ℓ) (g : Dev Cert.ReferenceDownBwdIdeal.nD → PrngReg), Pre_ReferenceDownBwdIdeal m →
    θ_run (Cert.ReferenceDownBwdIdeal.defs (F := Ideal)) (onTc (τ := Cert.ReferenceDownBwdIdeal.τ) (Cert.ReferenceDownBwdIdeal.main (F := Ideal))) ⟨m, fun _ => 0, g⟩ (fun r => (∀ c : Dev Cert.ReferenceDownBwdIdeal.nD,
      r.2.mem ((c.tc : Thread Cert.ReferenceDownBwdIdeal.nD Cert.ReferenceDownBwdIdeal.τ).loc Cert.ReferenceDownBwdIdeal.main_arg0) = m ((c.tc : Thread Cert.ReferenceDownBwdIdeal.nD Cert.ReferenceDownBwdIdeal.τ).loc Cert.ReferenceDownBwdIdeal.main_arg0)
      ∧ r.2.mem ((c.tc : Thread Cert.ReferenceDownBwdIdeal.nD Cert.ReferenceDownBwdIdeal.τ).loc Cert.ReferenceDownBwdIdeal.main_arg1) = m ((c.tc : Thread Cert.ReferenceDownBwdIdeal.nD Cert.ReferenceDownBwdIdeal.τ).loc Cert.ReferenceDownBwdIdeal.main_arg1)
      ∧ r.2.mem ((c.tc : Thread Cert.ReferenceDownBwdIdeal.nD Cert.ReferenceDownBwdIdeal.τ).loc Cert.ReferenceDownBwdIdeal.main_arg2) = m ((c.tc : Thread Cert.ReferenceDownBwdIdeal.nD Cert.ReferenceDownBwdIdeal.τ).loc Cert.ReferenceDownBwdIdeal.main_arg2)
      ∧ r.2.mem ((c.tc : Thread Cert.ReferenceDownBwdIdeal.nD Cert.ReferenceDownBwdIdeal.τ).loc Cert.ReferenceDownBwdIdeal.main_arg3) = m ((c.tc : Thread Cert.ReferenceDownBwdIdeal.nD Cert.ReferenceDownBwdIdeal.τ).loc Cert.ReferenceDownBwdIdeal.main_arg3))
      ∧ r.2.sem = fun _ => 0)

def quiescent_ReferenceDownBwdIdeal_pre_finite_down_bwd [hReferenceDownBwdIdeal : Cert.ReferenceDownBwdIdeal.Facts] [hPre_finite_down_bwd : Cert.Pre_finite_down_bwd.Facts] : Prop :=
  ∀ (m : (ℓ : Loc Cert.ReferenceDownBwdIdeal.nD Cert.ReferenceDownBwdIdeal.τ Cert.ReferenceDownBwdIdeal.sig) → Buf (Elt Ideal) ℓ) (g : Dev Cert.ReferenceDownBwdIdeal.nD → PrngReg), Pre_ReferenceDownBwdIdeal_finite_down_bwd m →
    θ_run (Cert.ReferenceDownBwdIdeal.defs (F := Ideal)) (onTc (τ := Cert.ReferenceDownBwdIdeal.τ) (Cert.ReferenceDownBwdIdeal.main (F := Ideal))) ⟨m, fun _ => 0, g⟩ (fun r => (∀ c : Dev Cert.ReferenceDownBwdIdeal.nD,
      r.2.mem ((c.tc : Thread Cert.ReferenceDownBwdIdeal.nD Cert.ReferenceDownBwdIdeal.τ).loc Cert.ReferenceDownBwdIdeal.main_arg0) = m ((c.tc : Thread Cert.ReferenceDownBwdIdeal.nD Cert.ReferenceDownBwdIdeal.τ).loc Cert.ReferenceDownBwdIdeal.main_arg0)
      ∧ r.2.mem ((c.tc : Thread Cert.ReferenceDownBwdIdeal.nD Cert.ReferenceDownBwdIdeal.τ).loc Cert.ReferenceDownBwdIdeal.main_arg1) = m ((c.tc : Thread Cert.ReferenceDownBwdIdeal.nD Cert.ReferenceDownBwdIdeal.τ).loc Cert.ReferenceDownBwdIdeal.main_arg1)
      ∧ r.2.mem ((c.tc : Thread Cert.ReferenceDownBwdIdeal.nD Cert.ReferenceDownBwdIdeal.τ).loc Cert.ReferenceDownBwdIdeal.main_arg2) = m ((c.tc : Thread Cert.ReferenceDownBwdIdeal.nD Cert.ReferenceDownBwdIdeal.τ).loc Cert.ReferenceDownBwdIdeal.main_arg2)
      ∧ r.2.mem ((c.tc : Thread Cert.ReferenceDownBwdIdeal.nD Cert.ReferenceDownBwdIdeal.τ).loc Cert.ReferenceDownBwdIdeal.main_arg3) = m ((c.tc : Thread Cert.ReferenceDownBwdIdeal.nD Cert.ReferenceDownBwdIdeal.τ).loc Cert.ReferenceDownBwdIdeal.main_arg3))
      ∧ r.2.sem = fun _ => 0)

def quiescent_KernelUpBwd [hKernelUpBwd : Cert.KernelUpBwd.Facts] : Prop :=
  ∀ (m : (ℓ : Loc Cert.KernelUpBwd.nD Cert.KernelUpBwd.τ Cert.KernelUpBwd.sig) → Buf (Elt Bits) ℓ) (g : Dev Cert.KernelUpBwd.nD → PrngReg), Pre_KernelUpBwd m →
    θ_run (Cert.KernelUpBwd.defs (F := Bits)) (onTc (τ := Cert.KernelUpBwd.τ) (Cert.KernelUpBwd.main (F := Bits))) ⟨m, fun _ => 0, g⟩ (fun r => (∀ c : Dev Cert.KernelUpBwd.nD,
      r.2.mem ((c.tc : Thread Cert.KernelUpBwd.nD Cert.KernelUpBwd.τ).loc Cert.KernelUpBwd.main_arg0) = m ((c.tc : Thread Cert.KernelUpBwd.nD Cert.KernelUpBwd.τ).loc Cert.KernelUpBwd.main_arg0)
      ∧ r.2.mem ((c.tc : Thread Cert.KernelUpBwd.nD Cert.KernelUpBwd.τ).loc Cert.KernelUpBwd.main_arg1) = m ((c.tc : Thread Cert.KernelUpBwd.nD Cert.KernelUpBwd.τ).loc Cert.KernelUpBwd.main_arg1)
      ∧ r.2.mem ((c.tc : Thread Cert.KernelUpBwd.nD Cert.KernelUpBwd.τ).loc Cert.KernelUpBwd.main_arg2) = m ((c.tc : Thread Cert.KernelUpBwd.nD Cert.KernelUpBwd.τ).loc Cert.KernelUpBwd.main_arg2)
      ∧ r.2.mem ((c.tc : Thread Cert.KernelUpBwd.nD Cert.KernelUpBwd.τ).loc Cert.KernelUpBwd.main_arg3) = m ((c.tc : Thread Cert.KernelUpBwd.nD Cert.KernelUpBwd.τ).loc Cert.KernelUpBwd.main_arg3)
      ∧ r.2.mem ((c.tc : Thread Cert.KernelUpBwd.nD Cert.KernelUpBwd.τ).loc Cert.KernelUpBwd.main_arg4) = m ((c.tc : Thread Cert.KernelUpBwd.nD Cert.KernelUpBwd.τ).loc Cert.KernelUpBwd.main_arg4))
      ∧ r.2.sem = fun _ => 0)

def quiescent_KernelUpBwdIdeal [hKernelUpBwdIdeal : Cert.KernelUpBwdIdeal.Facts] : Prop :=
  ∀ (m : (ℓ : Loc Cert.KernelUpBwdIdeal.nD Cert.KernelUpBwdIdeal.τ Cert.KernelUpBwdIdeal.sig) → Buf (Elt Ideal) ℓ) (g : Dev Cert.KernelUpBwdIdeal.nD → PrngReg), Pre_KernelUpBwdIdeal m →
    θ_run (Cert.KernelUpBwdIdeal.defs (F := Ideal)) (onTc (τ := Cert.KernelUpBwdIdeal.τ) (Cert.KernelUpBwdIdeal.main (F := Ideal))) ⟨m, fun _ => 0, g⟩ (fun r => (∀ c : Dev Cert.KernelUpBwdIdeal.nD,
      r.2.mem ((c.tc : Thread Cert.KernelUpBwdIdeal.nD Cert.KernelUpBwdIdeal.τ).loc Cert.KernelUpBwdIdeal.main_arg0) = m ((c.tc : Thread Cert.KernelUpBwdIdeal.nD Cert.KernelUpBwdIdeal.τ).loc Cert.KernelUpBwdIdeal.main_arg0)
      ∧ r.2.mem ((c.tc : Thread Cert.KernelUpBwdIdeal.nD Cert.KernelUpBwdIdeal.τ).loc Cert.KernelUpBwdIdeal.main_arg1) = m ((c.tc : Thread Cert.KernelUpBwdIdeal.nD Cert.KernelUpBwdIdeal.τ).loc Cert.KernelUpBwdIdeal.main_arg1)
      ∧ r.2.mem ((c.tc : Thread Cert.KernelUpBwdIdeal.nD Cert.KernelUpBwdIdeal.τ).loc Cert.KernelUpBwdIdeal.main_arg2) = m ((c.tc : Thread Cert.KernelUpBwdIdeal.nD Cert.KernelUpBwdIdeal.τ).loc Cert.KernelUpBwdIdeal.main_arg2)
      ∧ r.2.mem ((c.tc : Thread Cert.KernelUpBwdIdeal.nD Cert.KernelUpBwdIdeal.τ).loc Cert.KernelUpBwdIdeal.main_arg3) = m ((c.tc : Thread Cert.KernelUpBwdIdeal.nD Cert.KernelUpBwdIdeal.τ).loc Cert.KernelUpBwdIdeal.main_arg3)
      ∧ r.2.mem ((c.tc : Thread Cert.KernelUpBwdIdeal.nD Cert.KernelUpBwdIdeal.τ).loc Cert.KernelUpBwdIdeal.main_arg4) = m ((c.tc : Thread Cert.KernelUpBwdIdeal.nD Cert.KernelUpBwdIdeal.τ).loc Cert.KernelUpBwdIdeal.main_arg4))
      ∧ r.2.sem = fun _ => 0)

def quiescent_ReferenceUpBwdIdeal [hReferenceUpBwdIdeal : Cert.ReferenceUpBwdIdeal.Facts] : Prop :=
  ∀ (m : (ℓ : Loc Cert.ReferenceUpBwdIdeal.nD Cert.ReferenceUpBwdIdeal.τ Cert.ReferenceUpBwdIdeal.sig) → Buf (Elt Ideal) ℓ) (g : Dev Cert.ReferenceUpBwdIdeal.nD → PrngReg), Pre_ReferenceUpBwdIdeal m →
    θ_run (Cert.ReferenceUpBwdIdeal.defs (F := Ideal)) (onTc (τ := Cert.ReferenceUpBwdIdeal.τ) (Cert.ReferenceUpBwdIdeal.main (F := Ideal))) ⟨m, fun _ => 0, g⟩ (fun r => (∀ c : Dev Cert.ReferenceUpBwdIdeal.nD,
      r.2.mem ((c.tc : Thread Cert.ReferenceUpBwdIdeal.nD Cert.ReferenceUpBwdIdeal.τ).loc Cert.ReferenceUpBwdIdeal.main_arg0) = m ((c.tc : Thread Cert.ReferenceUpBwdIdeal.nD Cert.ReferenceUpBwdIdeal.τ).loc Cert.ReferenceUpBwdIdeal.main_arg0)
      ∧ r.2.mem ((c.tc : Thread Cert.ReferenceUpBwdIdeal.nD Cert.ReferenceUpBwdIdeal.τ).loc Cert.ReferenceUpBwdIdeal.main_arg1) = m ((c.tc : Thread Cert.ReferenceUpBwdIdeal.nD Cert.ReferenceUpBwdIdeal.τ).loc Cert.ReferenceUpBwdIdeal.main_arg1)
      ∧ r.2.mem ((c.tc : Thread Cert.ReferenceUpBwdIdeal.nD Cert.ReferenceUpBwdIdeal.τ).loc Cert.ReferenceUpBwdIdeal.main_arg2) = m ((c.tc : Thread Cert.ReferenceUpBwdIdeal.nD Cert.ReferenceUpBwdIdeal.τ).loc Cert.ReferenceUpBwdIdeal.main_arg2)
      ∧ r.2.mem ((c.tc : Thread Cert.ReferenceUpBwdIdeal.nD Cert.ReferenceUpBwdIdeal.τ).loc Cert.ReferenceUpBwdIdeal.main_arg3) = m ((c.tc : Thread Cert.ReferenceUpBwdIdeal.nD Cert.ReferenceUpBwdIdeal.τ).loc Cert.ReferenceUpBwdIdeal.main_arg3)
      ∧ r.2.mem ((c.tc : Thread Cert.ReferenceUpBwdIdeal.nD Cert.ReferenceUpBwdIdeal.τ).loc Cert.ReferenceUpBwdIdeal.main_arg4) = m ((c.tc : Thread Cert.ReferenceUpBwdIdeal.nD Cert.ReferenceUpBwdIdeal.τ).loc Cert.ReferenceUpBwdIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelOutFwd [hKernelOutFwd : Cert.KernelOutFwd.Facts] : Prop :=
  ∀ (m : (ℓ : Loc Cert.KernelOutFwd.nD Cert.KernelOutFwd.τ Cert.KernelOutFwd.sig) → Buf (Elt Bits) ℓ) (g : Dev Cert.KernelOutFwd.nD → PrngReg), Pre_KernelOutFwd m →
    θ_run (Cert.KernelOutFwd.defs (F := Bits)) (onTc (τ := Cert.KernelOutFwd.τ) (Cert.KernelOutFwd.main (F := Bits))) ⟨m, fun _ => 0, g⟩ (fun r => (∀ c : Dev Cert.KernelOutFwd.nD,
      r.2.mem ((c.tc : Thread Cert.KernelOutFwd.nD Cert.KernelOutFwd.τ).loc Cert.KernelOutFwd.main_arg0) = m ((c.tc : Thread Cert.KernelOutFwd.nD Cert.KernelOutFwd.τ).loc Cert.KernelOutFwd.main_arg0)
      ∧ r.2.mem ((c.tc : Thread Cert.KernelOutFwd.nD Cert.KernelOutFwd.τ).loc Cert.KernelOutFwd.main_arg1) = m ((c.tc : Thread Cert.KernelOutFwd.nD Cert.KernelOutFwd.τ).loc Cert.KernelOutFwd.main_arg1)
      ∧ r.2.mem ((c.tc : Thread Cert.KernelOutFwd.nD Cert.KernelOutFwd.τ).loc Cert.KernelOutFwd.main_arg2) = m ((c.tc : Thread Cert.KernelOutFwd.nD Cert.KernelOutFwd.τ).loc Cert.KernelOutFwd.main_arg2))
      ∧ r.2.sem = fun _ => 0)

def quiescent_KernelOutFwdIdeal [hKernelOutFwdIdeal : Cert.KernelOutFwdIdeal.Facts] : Prop :=
  ∀ (m : (ℓ : Loc Cert.KernelOutFwdIdeal.nD Cert.KernelOutFwdIdeal.τ Cert.KernelOutFwdIdeal.sig) → Buf (Elt Ideal) ℓ) (g : Dev Cert.KernelOutFwdIdeal.nD → PrngReg), Pre_KernelOutFwdIdeal m →
    θ_run (Cert.KernelOutFwdIdeal.defs (F := Ideal)) (onTc (τ := Cert.KernelOutFwdIdeal.τ) (Cert.KernelOutFwdIdeal.main (F := Ideal))) ⟨m, fun _ => 0, g⟩ (fun r => (∀ c : Dev Cert.KernelOutFwdIdeal.nD,
      r.2.mem ((c.tc : Thread Cert.KernelOutFwdIdeal.nD Cert.KernelOutFwdIdeal.τ).loc Cert.KernelOutFwdIdeal.main_arg0) = m ((c.tc : Thread Cert.KernelOutFwdIdeal.nD Cert.KernelOutFwdIdeal.τ).loc Cert.KernelOutFwdIdeal.main_arg0)
      ∧ r.2.mem ((c.tc : Thread Cert.KernelOutFwdIdeal.nD Cert.KernelOutFwdIdeal.τ).loc Cert.KernelOutFwdIdeal.main_arg1) = m ((c.tc : Thread Cert.KernelOutFwdIdeal.nD Cert.KernelOutFwdIdeal.τ).loc Cert.KernelOutFwdIdeal.main_arg1)
      ∧ r.2.mem ((c.tc : Thread Cert.KernelOutFwdIdeal.nD Cert.KernelOutFwdIdeal.τ).loc Cert.KernelOutFwdIdeal.main_arg2) = m ((c.tc : Thread Cert.KernelOutFwdIdeal.nD Cert.KernelOutFwdIdeal.τ).loc Cert.KernelOutFwdIdeal.main_arg2))
      ∧ r.2.sem = fun _ => 0)

def quiescent_ReferenceOutFwdIdeal [hReferenceOutFwdIdeal : Cert.ReferenceOutFwdIdeal.Facts] : Prop :=
  ∀ (m : (ℓ : Loc Cert.ReferenceOutFwdIdeal.nD Cert.ReferenceOutFwdIdeal.τ Cert.ReferenceOutFwdIdeal.sig) → Buf (Elt Ideal) ℓ) (g : Dev Cert.ReferenceOutFwdIdeal.nD → PrngReg), Pre_ReferenceOutFwdIdeal m →
    θ_run (Cert.ReferenceOutFwdIdeal.defs (F := Ideal)) (onTc (τ := Cert.ReferenceOutFwdIdeal.τ) (Cert.ReferenceOutFwdIdeal.main (F := Ideal))) ⟨m, fun _ => 0, g⟩ (fun r => (∀ c : Dev Cert.ReferenceOutFwdIdeal.nD,
      r.2.mem ((c.tc : Thread Cert.ReferenceOutFwdIdeal.nD Cert.ReferenceOutFwdIdeal.τ).loc Cert.ReferenceOutFwdIdeal.main_arg0) = m ((c.tc : Thread Cert.ReferenceOutFwdIdeal.nD Cert.ReferenceOutFwdIdeal.τ).loc Cert.ReferenceOutFwdIdeal.main_arg0)
      ∧ r.2.mem ((c.tc : Thread Cert.ReferenceOutFwdIdeal.nD Cert.ReferenceOutFwdIdeal.τ).loc Cert.ReferenceOutFwdIdeal.main_arg1) = m ((c.tc : Thread Cert.ReferenceOutFwdIdeal.nD Cert.ReferenceOutFwdIdeal.τ).loc Cert.ReferenceOutFwdIdeal.main_arg1)
      ∧ r.2.mem ((c.tc : Thread Cert.ReferenceOutFwdIdeal.nD Cert.ReferenceOutFwdIdeal.τ).loc Cert.ReferenceOutFwdIdeal.main_arg2) = m ((c.tc : Thread Cert.ReferenceOutFwdIdeal.nD Cert.ReferenceOutFwdIdeal.τ).loc Cert.ReferenceOutFwdIdeal.main_arg2))
      ∧ r.2.sem = fun _ => 0)

def quiescent_KernelOutBwd [hKernelOutBwd : Cert.KernelOutBwd.Facts] : Prop :=
  ∀ (m : (ℓ : Loc Cert.KernelOutBwd.nD Cert.KernelOutBwd.τ Cert.KernelOutBwd.sig) → Buf (Elt Bits) ℓ) (g : Dev Cert.KernelOutBwd.nD → PrngReg), Pre_KernelOutBwd m →
    θ_run (Cert.KernelOutBwd.defs (F := Bits)) (onTc (τ := Cert.KernelOutBwd.τ) (Cert.KernelOutBwd.main (F := Bits))) ⟨m, fun _ => 0, g⟩ (fun r => (∀ c : Dev Cert.KernelOutBwd.nD,
      r.2.mem ((c.tc : Thread Cert.KernelOutBwd.nD Cert.KernelOutBwd.τ).loc Cert.KernelOutBwd.main_arg0) = m ((c.tc : Thread Cert.KernelOutBwd.nD Cert.KernelOutBwd.τ).loc Cert.KernelOutBwd.main_arg0)
      ∧ r.2.mem ((c.tc : Thread Cert.KernelOutBwd.nD Cert.KernelOutBwd.τ).loc Cert.KernelOutBwd.main_arg1) = m ((c.tc : Thread Cert.KernelOutBwd.nD Cert.KernelOutBwd.τ).loc Cert.KernelOutBwd.main_arg1)
      ∧ r.2.mem ((c.tc : Thread Cert.KernelOutBwd.nD Cert.KernelOutBwd.τ).loc Cert.KernelOutBwd.main_arg2) = m ((c.tc : Thread Cert.KernelOutBwd.nD Cert.KernelOutBwd.τ).loc Cert.KernelOutBwd.main_arg2))
      ∧ r.2.sem = fun _ => 0)

def quiescent_KernelOutBwdIdeal [hKernelOutBwdIdeal : Cert.KernelOutBwdIdeal.Facts] : Prop :=
  ∀ (m : (ℓ : Loc Cert.KernelOutBwdIdeal.nD Cert.KernelOutBwdIdeal.τ Cert.KernelOutBwdIdeal.sig) → Buf (Elt Ideal) ℓ) (g : Dev Cert.KernelOutBwdIdeal.nD → PrngReg), Pre_KernelOutBwdIdeal m →
    θ_run (Cert.KernelOutBwdIdeal.defs (F := Ideal)) (onTc (τ := Cert.KernelOutBwdIdeal.τ) (Cert.KernelOutBwdIdeal.main (F := Ideal))) ⟨m, fun _ => 0, g⟩ (fun r => (∀ c : Dev Cert.KernelOutBwdIdeal.nD,
      r.2.mem ((c.tc : Thread Cert.KernelOutBwdIdeal.nD Cert.KernelOutBwdIdeal.τ).loc Cert.KernelOutBwdIdeal.main_arg0) = m ((c.tc : Thread Cert.KernelOutBwdIdeal.nD Cert.KernelOutBwdIdeal.τ).loc Cert.KernelOutBwdIdeal.main_arg0)
      ∧ r.2.mem ((c.tc : Thread Cert.KernelOutBwdIdeal.nD Cert.KernelOutBwdIdeal.τ).loc Cert.KernelOutBwdIdeal.main_arg1) = m ((c.tc : Thread Cert.KernelOutBwdIdeal.nD Cert.KernelOutBwdIdeal.τ).loc Cert.KernelOutBwdIdeal.main_arg1)
      ∧ r.2.mem ((c.tc : Thread Cert.KernelOutBwdIdeal.nD Cert.KernelOutBwdIdeal.τ).loc Cert.KernelOutBwdIdeal.main_arg2) = m ((c.tc : Thread Cert.KernelOutBwdIdeal.nD Cert.KernelOutBwdIdeal.τ).loc Cert.KernelOutBwdIdeal.main_arg2))
      ∧ r.2.sem = fun _ => 0)

def quiescent_ReferenceOutBwdIdeal [hReferenceOutBwdIdeal : Cert.ReferenceOutBwdIdeal.Facts] : Prop :=
  ∀ (m : (ℓ : Loc Cert.ReferenceOutBwdIdeal.nD Cert.ReferenceOutBwdIdeal.τ Cert.ReferenceOutBwdIdeal.sig) → Buf (Elt Ideal) ℓ) (g : Dev Cert.ReferenceOutBwdIdeal.nD → PrngReg), Pre_ReferenceOutBwdIdeal m →
    θ_run (Cert.ReferenceOutBwdIdeal.defs (F := Ideal)) (onTc (τ := Cert.ReferenceOutBwdIdeal.τ) (Cert.ReferenceOutBwdIdeal.main (F := Ideal))) ⟨m, fun _ => 0, g⟩ (fun r => (∀ c : Dev Cert.ReferenceOutBwdIdeal.nD,
      r.2.mem ((c.tc : Thread Cert.ReferenceOutBwdIdeal.nD Cert.ReferenceOutBwdIdeal.τ).loc Cert.ReferenceOutBwdIdeal.main_arg0) = m ((c.tc : Thread Cert.ReferenceOutBwdIdeal.nD Cert.ReferenceOutBwdIdeal.τ).loc Cert.ReferenceOutBwdIdeal.main_arg0)
      ∧ r.2.mem ((c.tc : Thread Cert.ReferenceOutBwdIdeal.nD Cert.ReferenceOutBwdIdeal.τ).loc Cert.ReferenceOutBwdIdeal.main_arg1) = m ((c.tc : Thread Cert.ReferenceOutBwdIdeal.nD Cert.ReferenceOutBwdIdeal.τ).loc Cert.ReferenceOutBwdIdeal.main_arg1)
      ∧ r.2.mem ((c.tc : Thread Cert.ReferenceOutBwdIdeal.nD Cert.ReferenceOutBwdIdeal.τ).loc Cert.ReferenceOutBwdIdeal.main_arg2) = m ((c.tc : Thread Cert.ReferenceOutBwdIdeal.nD Cert.ReferenceOutBwdIdeal.τ).loc Cert.ReferenceOutBwdIdeal.main_arg2))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1)
      ∧ r.2.mem ((c.tc : Thread Cert.KernelOutDw.nD Cert.KernelOutDw.τ).loc Cert.KernelOutDw.main_arg2) = m ((c.tc : Thread Cert.KernelOutDw.nD Cert.KernelOutDw.τ).loc Cert.KernelOutDw.main_arg2)
      ∧ r.2.mem ((c.tc : Thread Cert.KernelOutDw.nD Cert.KernelOutDw.τ).loc Cert.KernelOutDw.main_arg3) = m ((c.tc : Thread Cert.KernelOutDw.nD Cert.KernelOutDw.τ).loc Cert.KernelOutDw.main_arg3))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1)
      ∧ r.2.mem ((c.tc : Thread Cert.KernelOutDwIdeal.nD Cert.KernelOutDwIdeal.τ).loc Cert.KernelOutDwIdeal.main_arg2) = m ((c.tc : Thread Cert.KernelOutDwIdeal.nD Cert.KernelOutDwIdeal.τ).loc Cert.KernelOutDwIdeal.main_arg2)
      ∧ r.2.mem ((c.tc : Thread Cert.KernelOutDwIdeal.nD Cert.KernelOutDwIdeal.τ).loc Cert.KernelOutDwIdeal.main_arg3) = m ((c.tc : Thread Cert.KernelOutDwIdeal.nD Cert.KernelOutDwIdeal.τ).loc Cert.KernelOutDwIdeal.main_arg3))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1)
      ∧ r.2.mem ((c.tc : Thread Cert.ReferenceOutDwIdeal.nD Cert.ReferenceOutDwIdeal.τ).loc Cert.ReferenceOutDwIdeal.main_arg2) = m ((c.tc : Thread Cert.ReferenceOutDwIdeal.nD Cert.ReferenceOutDwIdeal.τ).loc Cert.ReferenceOutDwIdeal.main_arg2)
      ∧ r.2.mem ((c.tc : Thread Cert.ReferenceOutDwIdeal.nD Cert.ReferenceOutDwIdeal.τ).loc Cert.ReferenceOutDwIdeal.main_arg3) = m ((c.tc : Thread Cert.ReferenceOutDwIdeal.nD Cert.ReferenceOutDwIdeal.τ).loc Cert.ReferenceOutDwIdeal.main_arg3))
      ∧ r.2.sem = fun _ => 0)

def quiescent_KernelInFwd [hKernelInFwd : Cert.KernelInFwd.Facts] : Prop :=
  ∀ (m : (ℓ : Loc Cert.KernelInFwd.nD Cert.KernelInFwd.τ Cert.KernelInFwd.sig) → Buf (Elt Bits) ℓ) (g : Dev Cert.KernelInFwd.nD → PrngReg), Pre_KernelInFwd m →
    θ_run (Cert.KernelInFwd.defs (F := Bits)) (onTc (τ := Cert.KernelInFwd.τ) (Cert.KernelInFwd.main (F := Bits))) ⟨m, fun _ => 0, g⟩ (fun r => (∀ c : Dev Cert.KernelInFwd.nD,
      r.2.mem ((c.tc : Thread Cert.KernelInFwd.nD Cert.KernelInFwd.τ).loc Cert.KernelInFwd.main_arg0) = m ((c.tc : Thread Cert.KernelInFwd.nD Cert.KernelInFwd.τ).loc Cert.KernelInFwd.main_arg0)
      ∧ r.2.mem ((c.tc : Thread Cert.KernelInFwd.nD Cert.KernelInFwd.τ).loc Cert.KernelInFwd.main_arg1) = m ((c.tc : Thread Cert.KernelInFwd.nD Cert.KernelInFwd.τ).loc Cert.KernelInFwd.main_arg1)
      ∧ r.2.mem ((c.tc : Thread Cert.KernelInFwd.nD Cert.KernelInFwd.τ).loc Cert.KernelInFwd.main_arg2) = m ((c.tc : Thread Cert.KernelInFwd.nD Cert.KernelInFwd.τ).loc Cert.KernelInFwd.main_arg2))
      ∧ r.2.sem = fun _ => 0)

def quiescent_KernelInFwdIdeal [hKernelInFwdIdeal : Cert.KernelInFwdIdeal.Facts] : Prop :=
  ∀ (m : (ℓ : Loc Cert.KernelInFwdIdeal.nD Cert.KernelInFwdIdeal.τ Cert.KernelInFwdIdeal.sig) → Buf (Elt Ideal) ℓ) (g : Dev Cert.KernelInFwdIdeal.nD → PrngReg), Pre_KernelInFwdIdeal m →
    θ_run (Cert.KernelInFwdIdeal.defs (F := Ideal)) (onTc (τ := Cert.KernelInFwdIdeal.τ) (Cert.KernelInFwdIdeal.main (F := Ideal))) ⟨m, fun _ => 0, g⟩ (fun r => (∀ c : Dev Cert.KernelInFwdIdeal.nD,
      r.2.mem ((c.tc : Thread Cert.KernelInFwdIdeal.nD Cert.KernelInFwdIdeal.τ).loc Cert.KernelInFwdIdeal.main_arg0) = m ((c.tc : Thread Cert.KernelInFwdIdeal.nD Cert.KernelInFwdIdeal.τ).loc Cert.KernelInFwdIdeal.main_arg0)
      ∧ r.2.mem ((c.tc : Thread Cert.KernelInFwdIdeal.nD Cert.KernelInFwdIdeal.τ).loc Cert.KernelInFwdIdeal.main_arg1) = m ((c.tc : Thread Cert.KernelInFwdIdeal.nD Cert.KernelInFwdIdeal.τ).loc Cert.KernelInFwdIdeal.main_arg1)
      ∧ r.2.mem ((c.tc : Thread Cert.KernelInFwdIdeal.nD Cert.KernelInFwdIdeal.τ).loc Cert.KernelInFwdIdeal.main_arg2) = m ((c.tc : Thread Cert.KernelInFwdIdeal.nD Cert.KernelInFwdIdeal.τ).loc Cert.KernelInFwdIdeal.main_arg2))
      ∧ r.2.sem = fun _ => 0)

def quiescent_ReferenceInFwdIdeal [hReferenceInFwdIdeal : Cert.ReferenceInFwdIdeal.Facts] : Prop :=
  ∀ (m : (ℓ : Loc Cert.ReferenceInFwdIdeal.nD Cert.ReferenceInFwdIdeal.τ Cert.ReferenceInFwdIdeal.sig) → Buf (Elt Ideal) ℓ) (g : Dev Cert.ReferenceInFwdIdeal.nD → PrngReg), Pre_ReferenceInFwdIdeal m →
    θ_run (Cert.ReferenceInFwdIdeal.defs (F := Ideal)) (onTc (τ := Cert.ReferenceInFwdIdeal.τ) (Cert.ReferenceInFwdIdeal.main (F := Ideal))) ⟨m, fun _ => 0, g⟩ (fun r => (∀ c : Dev Cert.ReferenceInFwdIdeal.nD,
      r.2.mem ((c.tc : Thread Cert.ReferenceInFwdIdeal.nD Cert.ReferenceInFwdIdeal.τ).loc Cert.ReferenceInFwdIdeal.main_arg0) = m ((c.tc : Thread Cert.ReferenceInFwdIdeal.nD Cert.ReferenceInFwdIdeal.τ).loc Cert.ReferenceInFwdIdeal.main_arg0)
      ∧ r.2.mem ((c.tc : Thread Cert.ReferenceInFwdIdeal.nD Cert.ReferenceInFwdIdeal.τ).loc Cert.ReferenceInFwdIdeal.main_arg1) = m ((c.tc : Thread Cert.ReferenceInFwdIdeal.nD Cert.ReferenceInFwdIdeal.τ).loc Cert.ReferenceInFwdIdeal.main_arg1)
      ∧ r.2.mem ((c.tc : Thread Cert.ReferenceInFwdIdeal.nD Cert.ReferenceInFwdIdeal.τ).loc Cert.ReferenceInFwdIdeal.main_arg2) = m ((c.tc : Thread Cert.ReferenceInFwdIdeal.nD Cert.ReferenceInFwdIdeal.τ).loc Cert.ReferenceInFwdIdeal.main_arg2))
      ∧ r.2.sem = fun _ => 0)

def quiescent_KernelInDw [hKernelInDw : Cert.KernelInDw.Facts] : Prop :=
  ∀ (m : (ℓ : Loc Cert.KernelInDw.nD Cert.KernelInDw.τ Cert.KernelInDw.sig) → Buf (Elt Bits) ℓ) (g : Dev Cert.KernelInDw.nD → PrngReg), Pre_KernelInDw m →
    θ_run (Cert.KernelInDw.defs (F := Bits)) (onTc (τ := Cert.KernelInDw.τ) (Cert.KernelInDw.main (F := Bits))) ⟨m, fun _ => 0, g⟩ (fun r => (∀ c : Dev Cert.KernelInDw.nD,
      r.2.mem ((c.tc : Thread Cert.KernelInDw.nD Cert.KernelInDw.τ).loc Cert.KernelInDw.main_arg0) = m ((c.tc : Thread Cert.KernelInDw.nD Cert.KernelInDw.τ).loc Cert.KernelInDw.main_arg0)
      ∧ r.2.mem ((c.tc : Thread Cert.KernelInDw.nD Cert.KernelInDw.τ).loc Cert.KernelInDw.main_arg1) = m ((c.tc : Thread Cert.KernelInDw.nD Cert.KernelInDw.τ).loc Cert.KernelInDw.main_arg1)
      ∧ r.2.mem ((c.tc : Thread Cert.KernelInDw.nD Cert.KernelInDw.τ).loc Cert.KernelInDw.main_arg2) = m ((c.tc : Thread Cert.KernelInDw.nD Cert.KernelInDw.τ).loc Cert.KernelInDw.main_arg2)
      ∧ r.2.mem ((c.tc : Thread Cert.KernelInDw.nD Cert.KernelInDw.τ).loc Cert.KernelInDw.main_arg3) = m ((c.tc : Thread Cert.KernelInDw.nD Cert.KernelInDw.τ).loc Cert.KernelInDw.main_arg3))
      ∧ r.2.sem = fun _ => 0)

def quiescent_KernelInDwIdeal [hKernelInDwIdeal : Cert.KernelInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg), Pre_KernelInDwIdeal m →
    θ_run (Cert.KernelInDwIdeal.defs (F := Ideal)) (onTc (τ := Cert.KernelInDwIdeal.τ) (Cert.KernelInDwIdeal.main (F := Ideal))) ⟨m, fun _ => 0, g⟩ (fun r => (∀ c : Dev Cert.KernelInDwIdeal.nD,
      r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
      ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1)
      ∧ r.2.mem ((c.tc : Thread Cert.KernelInDwIdeal.nD Cert.KernelInDwIdeal.τ).loc Cert.KernelInDwIdeal.main_arg2) = m ((c.tc : Thread Cert.KernelInDwIdeal.nD Cert.KernelInDwIdeal.τ).loc Cert.KernelInDwIdeal.main_arg2)
      ∧ r.2.mem ((c.tc : Thread Cert.KernelInDwIdeal.nD Cert.KernelInDwIdeal.τ).loc Cert.KernelInDwIdeal.main_arg3) = m ((c.tc : Thread Cert.KernelInDwIdeal.nD Cert.KernelInDwIdeal.τ).loc Cert.KernelInDwIdeal.main_arg3))
      ∧ r.2.sem = fun _ => 0)

def quiescent_ReferenceInDwIdeal [hReferenceInDwIdeal : Cert.ReferenceInDwIdeal.Facts] : Prop :=
  ∀ (m : (ℓ : Loc Cert.ReferenceInDwIdeal.nD Cert.ReferenceInDwIdeal.τ Cert.ReferenceInDwIdeal.sig) → Buf (Elt Ideal) ℓ) (g : Dev Cert.ReferenceInDwIdeal.nD → PrngReg), Pre_ReferenceInDwIdeal m →
    θ_run (Cert.ReferenceInDwIdeal.defs (F := Ideal)) (onTc (τ := Cert.ReferenceInDwIdeal.τ) (Cert.ReferenceInDwIdeal.main (F := Ideal))) ⟨m, fun _ => 0, g⟩ (fun r => (∀ c : Dev Cert.ReferenceInDwIdeal.nD,
      r.2.mem ((c.tc : Thread Cert.ReferenceInDwIdeal.nD Cert.ReferenceInDwIdeal.τ).loc Cert.ReferenceInDwIdeal.main_arg0) = m ((c.tc : Thread Cert.ReferenceInDwIdeal.nD Cert.ReferenceInDwIdeal.τ).loc Cert.ReferenceInDwIdeal.main_arg0)
      ∧ r.2.mem ((c.tc : Thread Cert.ReferenceInDwIdeal.nD Cert.ReferenceInDwIdeal.τ).loc Cert.ReferenceInDwIdeal.main_arg1) = m ((c.tc : Thread Cert.ReferenceInDwIdeal.nD Cert.ReferenceInDwIdeal.τ).loc Cert.ReferenceInDwIdeal.main_arg1)
      ∧ r.2.mem ((c.tc : Thread Cert.ReferenceInDwIdeal.nD Cert.ReferenceInDwIdeal.τ).loc Cert.ReferenceInDwIdeal.main_arg2) = m ((c.tc : Thread Cert.ReferenceInDwIdeal.nD Cert.ReferenceInDwIdeal.τ).loc Cert.ReferenceInDwIdeal.main_arg2)
      ∧ r.2.mem ((c.tc : Thread Cert.ReferenceInDwIdeal.nD Cert.ReferenceInDwIdeal.τ).loc Cert.ReferenceInDwIdeal.main_arg3) = m ((c.tc : Thread Cert.ReferenceInDwIdeal.nD Cert.ReferenceInDwIdeal.τ).loc Cert.ReferenceInDwIdeal.main_arg3))
      ∧ r.2.sem = fun _ => 0)

def quiescent_KernelInBwd [hKernelInBwd : Cert.KernelInBwd.Facts] : Prop :=
  ∀ (m : (ℓ : Loc Cert.KernelInBwd.nD Cert.KernelInBwd.τ Cert.KernelInBwd.sig) → Buf (Elt Bits) ℓ) (g : Dev Cert.KernelInBwd.nD → PrngReg), Pre_KernelInBwd m →
    θ_run (Cert.KernelInBwd.defs (F := Bits)) (onTc (τ := Cert.KernelInBwd.τ) (Cert.KernelInBwd.main (F := Bits))) ⟨m, fun _ => 0, g⟩ (fun r => (∀ c : Dev Cert.KernelInBwd.nD,
      r.2.mem ((c.tc : Thread Cert.KernelInBwd.nD Cert.KernelInBwd.τ).loc Cert.KernelInBwd.main_arg0) = m ((c.tc : Thread Cert.KernelInBwd.nD Cert.KernelInBwd.τ).loc Cert.KernelInBwd.main_arg0)
      ∧ r.2.mem ((c.tc : Thread Cert.KernelInBwd.nD Cert.KernelInBwd.τ).loc Cert.KernelInBwd.main_arg1) = m ((c.tc : Thread Cert.KernelInBwd.nD Cert.KernelInBwd.τ).loc Cert.KernelInBwd.main_arg1)
      ∧ r.2.mem ((c.tc : Thread Cert.KernelInBwd.nD Cert.KernelInBwd.τ).loc Cert.KernelInBwd.main_arg2) = m ((c.tc : Thread Cert.KernelInBwd.nD Cert.KernelInBwd.τ).loc Cert.KernelInBwd.main_arg2)
      ∧ r.2.mem ((c.tc : Thread Cert.KernelInBwd.nD Cert.KernelInBwd.τ).loc Cert.KernelInBwd.main_arg3) = m ((c.tc : Thread Cert.KernelInBwd.nD Cert.KernelInBwd.τ).loc Cert.KernelInBwd.main_arg3)
      ∧ r.2.mem ((c.tc : Thread Cert.KernelInBwd.nD Cert.KernelInBwd.τ).loc Cert.KernelInBwd.main_arg4) = m ((c.tc : Thread Cert.KernelInBwd.nD Cert.KernelInBwd.τ).loc Cert.KernelInBwd.main_arg4))
      ∧ r.2.sem = fun _ => 0)

def quiescent_KernelInBwdIdeal [hKernelInBwdIdeal : Cert.KernelInBwdIdeal.Facts] : Prop :=
  ∀ (m : (ℓ : Loc Cert.KernelInBwdIdeal.nD Cert.KernelInBwdIdeal.τ Cert.KernelInBwdIdeal.sig) → Buf (Elt Ideal) ℓ) (g : Dev Cert.KernelInBwdIdeal.nD → PrngReg), Pre_KernelInBwdIdeal m →
    θ_run (Cert.KernelInBwdIdeal.defs (F := Ideal)) (onTc (τ := Cert.KernelInBwdIdeal.τ) (Cert.KernelInBwdIdeal.main (F := Ideal))) ⟨m, fun _ => 0, g⟩ (fun r => (∀ c : Dev Cert.KernelInBwdIdeal.nD,
      r.2.mem ((c.tc : Thread Cert.KernelInBwdIdeal.nD Cert.KernelInBwdIdeal.τ).loc Cert.KernelInBwdIdeal.main_arg0) = m ((c.tc : Thread Cert.KernelInBwdIdeal.nD Cert.KernelInBwdIdeal.τ).loc Cert.KernelInBwdIdeal.main_arg0)
      ∧ r.2.mem ((c.tc : Thread Cert.KernelInBwdIdeal.nD Cert.KernelInBwdIdeal.τ).loc Cert.KernelInBwdIdeal.main_arg1) = m ((c.tc : Thread Cert.KernelInBwdIdeal.nD Cert.KernelInBwdIdeal.τ).loc Cert.KernelInBwdIdeal.main_arg1)
      ∧ r.2.mem ((c.tc : Thread Cert.KernelInBwdIdeal.nD Cert.KernelInBwdIdeal.τ).loc Cert.KernelInBwdIdeal.main_arg2) = m ((c.tc : Thread Cert.KernelInBwdIdeal.nD Cert.KernelInBwdIdeal.τ).loc Cert.KernelInBwdIdeal.main_arg2)
      ∧ r.2.mem ((c.tc : Thread Cert.KernelInBwdIdeal.nD Cert.KernelInBwdIdeal.τ).loc Cert.KernelInBwdIdeal.main_arg3) = m ((c.tc : Thread Cert.KernelInBwdIdeal.nD Cert.KernelInBwdIdeal.τ).loc Cert.KernelInBwdIdeal.main_arg3)
      ∧ r.2.mem ((c.tc : Thread Cert.KernelInBwdIdeal.nD Cert.KernelInBwdIdeal.τ).loc Cert.KernelInBwdIdeal.main_arg4) = m ((c.tc : Thread Cert.KernelInBwdIdeal.nD Cert.KernelInBwdIdeal.τ).loc Cert.KernelInBwdIdeal.main_arg4))
      ∧ r.2.sem = fun _ => 0)

def quiescent_ReferenceInBwdIdeal [hReferenceInBwdIdeal : Cert.ReferenceInBwdIdeal.Facts] : Prop :=
  ∀ (m : (ℓ : Loc Cert.ReferenceInBwdIdeal.nD Cert.ReferenceInBwdIdeal.τ Cert.ReferenceInBwdIdeal.sig) → Buf (Elt Ideal) ℓ) (g : Dev Cert.ReferenceInBwdIdeal.nD → PrngReg), Pre_ReferenceInBwdIdeal m →
    θ_run (Cert.ReferenceInBwdIdeal.defs (F := Ideal)) (onTc (τ := Cert.ReferenceInBwdIdeal.τ) (Cert.ReferenceInBwdIdeal.main (F := Ideal))) ⟨m, fun _ => 0, g⟩ (fun r => (∀ c : Dev Cert.ReferenceInBwdIdeal.nD,
      r.2.mem ((c.tc : Thread Cert.ReferenceInBwdIdeal.nD Cert.ReferenceInBwdIdeal.τ).loc Cert.ReferenceInBwdIdeal.main_arg0) = m ((c.tc : Thread Cert.ReferenceInBwdIdeal.nD Cert.ReferenceInBwdIdeal.τ).loc Cert.ReferenceInBwdIdeal.main_arg0)
      ∧ r.2.mem ((c.tc : Thread Cert.ReferenceInBwdIdeal.nD Cert.ReferenceInBwdIdeal.τ).loc Cert.ReferenceInBwdIdeal.main_arg1) = m ((c.tc : Thread Cert.ReferenceInBwdIdeal.nD Cert.ReferenceInBwdIdeal.τ).loc Cert.ReferenceInBwdIdeal.main_arg1)
      ∧ r.2.mem ((c.tc : Thread Cert.ReferenceInBwdIdeal.nD Cert.ReferenceInBwdIdeal.τ).loc Cert.ReferenceInBwdIdeal.main_arg2) = m ((c.tc : Thread Cert.ReferenceInBwdIdeal.nD Cert.ReferenceInBwdIdeal.τ).loc Cert.ReferenceInBwdIdeal.main_arg2)
      ∧ r.2.mem ((c.tc : Thread Cert.ReferenceInBwdIdeal.nD Cert.ReferenceInBwdIdeal.τ).loc Cert.ReferenceInBwdIdeal.main_arg3) = m ((c.tc : Thread Cert.ReferenceInBwdIdeal.nD Cert.ReferenceInBwdIdeal.τ).loc Cert.ReferenceInBwdIdeal.main_arg3)
      ∧ r.2.mem ((c.tc : Thread Cert.ReferenceInBwdIdeal.nD Cert.ReferenceInBwdIdeal.τ).loc Cert.ReferenceInBwdIdeal.main_arg4) = m ((c.tc : Thread Cert.ReferenceInBwdIdeal.nD Cert.ReferenceInBwdIdeal.τ).loc Cert.ReferenceInBwdIdeal.main_arg4))
      ∧ r.2.sem = fun _ => 0)

def quiescent_KernelEvenOutBwd [hKernelEvenOutBwd : Cert.KernelEvenOutBwd.Facts] : Prop :=
  ∀ (m : (ℓ : Loc Cert.KernelEvenOutBwd.nD Cert.KernelEvenOutBwd.τ Cert.KernelEvenOutBwd.sig) → Buf (Elt Bits) ℓ) (g : Dev Cert.KernelEvenOutBwd.nD → PrngReg), Pre_KernelEvenOutBwd m →
    θ_run (Cert.KernelEvenOutBwd.defs (F := Bits)) (onTc (τ := Cert.KernelEvenOutBwd.τ) (Cert.KernelEvenOutBwd.main (F := Bits))) ⟨m, fun _ => 0, g⟩ (fun r => (∀ c : Dev Cert.KernelEvenOutBwd.nD,
      r.2.mem ((c.tc : Thread Cert.KernelEvenOutBwd.nD Cert.KernelEvenOutBwd.τ).loc Cert.KernelEvenOutBwd.main_arg0) = m ((c.tc : Thread Cert.KernelEvenOutBwd.nD Cert.KernelEvenOutBwd.τ).loc Cert.KernelEvenOutBwd.main_arg0)
      ∧ r.2.mem ((c.tc : Thread Cert.KernelEvenOutBwd.nD Cert.KernelEvenOutBwd.τ).loc Cert.KernelEvenOutBwd.main_arg1) = m ((c.tc : Thread Cert.KernelEvenOutBwd.nD Cert.KernelEvenOutBwd.τ).loc Cert.KernelEvenOutBwd.main_arg1)
      ∧ r.2.mem ((c.tc : Thread Cert.KernelEvenOutBwd.nD Cert.KernelEvenOutBwd.τ).loc Cert.KernelEvenOutBwd.main_arg2) = m ((c.tc : Thread Cert.KernelEvenOutBwd.nD Cert.KernelEvenOutBwd.τ).loc Cert.KernelEvenOutBwd.main_arg2))
      ∧ r.2.sem = fun _ => 0)

def quiescent_KernelEvenOutBwdIdeal [hKernelEvenOutBwdIdeal : Cert.KernelEvenOutBwdIdeal.Facts] : Prop :=
  ∀ (m : (ℓ : Loc Cert.KernelEvenOutBwdIdeal.nD Cert.KernelEvenOutBwdIdeal.τ Cert.KernelEvenOutBwdIdeal.sig) → Buf (Elt Ideal) ℓ) (g : Dev Cert.KernelEvenOutBwdIdeal.nD → PrngReg), Pre_KernelEvenOutBwdIdeal m →
    θ_run (Cert.KernelEvenOutBwdIdeal.defs (F := Ideal)) (onTc (τ := Cert.KernelEvenOutBwdIdeal.τ) (Cert.KernelEvenOutBwdIdeal.main (F := Ideal))) ⟨m, fun _ => 0, g⟩ (fun r => (∀ c : Dev Cert.KernelEvenOutBwdIdeal.nD,
      r.2.mem ((c.tc : Thread Cert.KernelEvenOutBwdIdeal.nD Cert.KernelEvenOutBwdIdeal.τ).loc Cert.KernelEvenOutBwdIdeal.main_arg0) = m ((c.tc : Thread Cert.KernelEvenOutBwdIdeal.nD Cert.KernelEvenOutBwdIdeal.τ).loc Cert.KernelEvenOutBwdIdeal.main_arg0)
      ∧ r.2.mem ((c.tc : Thread Cert.KernelEvenOutBwdIdeal.nD Cert.KernelEvenOutBwdIdeal.τ).loc Cert.KernelEvenOutBwdIdeal.main_arg1) = m ((c.tc : Thread Cert.KernelEvenOutBwdIdeal.nD Cert.KernelEvenOutBwdIdeal.τ).loc Cert.KernelEvenOutBwdIdeal.main_arg1)
      ∧ r.2.mem ((c.tc : Thread Cert.KernelEvenOutBwdIdeal.nD Cert.KernelEvenOutBwdIdeal.τ).loc Cert.KernelEvenOutBwdIdeal.main_arg2) = m ((c.tc : Thread Cert.KernelEvenOutBwdIdeal.nD Cert.KernelEvenOutBwdIdeal.τ).loc Cert.KernelEvenOutBwdIdeal.main_arg2))
      ∧ r.2.sem = fun _ => 0)

def quiescent_ReferenceEvenOutBwdIdeal [hReferenceEvenOutBwdIdeal : Cert.ReferenceEvenOutBwdIdeal.Facts] : Prop :=
  ∀ (m : (ℓ : Loc Cert.ReferenceEvenOutBwdIdeal.nD Cert.ReferenceEvenOutBwdIdeal.τ Cert.ReferenceEvenOutBwdIdeal.sig) → Buf (Elt Ideal) ℓ) (g : Dev Cert.ReferenceEvenOutBwdIdeal.nD → PrngReg), Pre_ReferenceEvenOutBwdIdeal m →
    θ_run (Cert.ReferenceEvenOutBwdIdeal.defs (F := Ideal)) (onTc (τ := Cert.ReferenceEvenOutBwdIdeal.τ) (Cert.ReferenceEvenOutBwdIdeal.main (F := Ideal))) ⟨m, fun _ => 0, g⟩ (fun r => (∀ c : Dev Cert.ReferenceEvenOutBwdIdeal.nD,
      r.2.mem ((c.tc : Thread Cert.ReferenceEvenOutBwdIdeal.nD Cert.ReferenceEvenOutBwdIdeal.τ).loc Cert.ReferenceEvenOutBwdIdeal.main_arg0) = m ((c.tc : Thread Cert.ReferenceEvenOutBwdIdeal.nD Cert.ReferenceEvenOutBwdIdeal.τ).loc Cert.ReferenceEvenOutBwdIdeal.main_arg0)
      ∧ r.2.mem ((c.tc : Thread Cert.ReferenceEvenOutBwdIdeal.nD Cert.ReferenceEvenOutBwdIdeal.τ).loc Cert.ReferenceEvenOutBwdIdeal.main_arg1) = m ((c.tc : Thread Cert.ReferenceEvenOutBwdIdeal.nD Cert.ReferenceEvenOutBwdIdeal.τ).loc Cert.ReferenceEvenOutBwdIdeal.main_arg1)
      ∧ r.2.mem ((c.tc : Thread Cert.ReferenceEvenOutBwdIdeal.nD Cert.ReferenceEvenOutBwdIdeal.τ).loc Cert.ReferenceEvenOutBwdIdeal.main_arg2) = m ((c.tc : Thread Cert.ReferenceEvenOutBwdIdeal.nD Cert.ReferenceEvenOutBwdIdeal.τ).loc Cert.ReferenceEvenOutBwdIdeal.main_arg2))
      ∧ r.2.sem = fun _ => 0)

def quiescent_KernelEvenIn [hKernelEvenIn : Cert.KernelEvenIn.Facts] : Prop :=
  ∀ (m : (ℓ : Loc Cert.KernelEvenIn.nD Cert.KernelEvenIn.τ Cert.KernelEvenIn.sig) → Buf (Elt Bits) ℓ) (g : Dev Cert.KernelEvenIn.nD → PrngReg), Pre_KernelEvenIn m →
    θ_run (Cert.KernelEvenIn.defs (F := Bits)) (onTc (τ := Cert.KernelEvenIn.τ) (Cert.KernelEvenIn.main (F := Bits))) ⟨m, fun _ => 0, g⟩ (fun r => (∀ c : Dev Cert.KernelEvenIn.nD,
      r.2.mem ((c.tc : Thread Cert.KernelEvenIn.nD Cert.KernelEvenIn.τ).loc Cert.KernelEvenIn.main_arg0) = m ((c.tc : Thread Cert.KernelEvenIn.nD Cert.KernelEvenIn.τ).loc Cert.KernelEvenIn.main_arg0)
      ∧ r.2.mem ((c.tc : Thread Cert.KernelEvenIn.nD Cert.KernelEvenIn.τ).loc Cert.KernelEvenIn.main_arg1) = m ((c.tc : Thread Cert.KernelEvenIn.nD Cert.KernelEvenIn.τ).loc Cert.KernelEvenIn.main_arg1)
      ∧ r.2.mem ((c.tc : Thread Cert.KernelEvenIn.nD Cert.KernelEvenIn.τ).loc Cert.KernelEvenIn.main_arg2) = m ((c.tc : Thread Cert.KernelEvenIn.nD Cert.KernelEvenIn.τ).loc Cert.KernelEvenIn.main_arg2))
      ∧ r.2.sem = fun _ => 0)

def quiescent_KernelEvenInIdeal [hKernelEvenInIdeal : Cert.KernelEvenInIdeal.Facts] : Prop :=
  ∀ (m : (ℓ : Loc Cert.KernelEvenInIdeal.nD Cert.KernelEvenInIdeal.τ Cert.KernelEvenInIdeal.sig) → Buf (Elt Ideal) ℓ) (g : Dev Cert.KernelEvenInIdeal.nD → PrngReg), Pre_KernelEvenInIdeal m →
    θ_run (Cert.KernelEvenInIdeal.defs (F := Ideal)) (onTc (τ := Cert.KernelEvenInIdeal.τ) (Cert.KernelEvenInIdeal.main (F := Ideal))) ⟨m, fun _ => 0, g⟩ (fun r => (∀ c : Dev Cert.KernelEvenInIdeal.nD,
      r.2.mem ((c.tc : Thread Cert.KernelEvenInIdeal.nD Cert.KernelEvenInIdeal.τ).loc Cert.KernelEvenInIdeal.main_arg0) = m ((c.tc : Thread Cert.KernelEvenInIdeal.nD Cert.KernelEvenInIdeal.τ).loc Cert.KernelEvenInIdeal.main_arg0)
      ∧ r.2.mem ((c.tc : Thread Cert.KernelEvenInIdeal.nD Cert.KernelEvenInIdeal.τ).loc Cert.KernelEvenInIdeal.main_arg1) = m ((c.tc : Thread Cert.KernelEvenInIdeal.nD Cert.KernelEvenInIdeal.τ).loc Cert.KernelEvenInIdeal.main_arg1)
      ∧ r.2.mem ((c.tc : Thread Cert.KernelEvenInIdeal.nD Cert.KernelEvenInIdeal.τ).loc Cert.KernelEvenInIdeal.main_arg2) = m ((c.tc : Thread Cert.KernelEvenInIdeal.nD Cert.KernelEvenInIdeal.τ).loc Cert.KernelEvenInIdeal.main_arg2))
      ∧ r.2.sem = fun _ => 0)

def quiescent_ReferenceEvenInIdeal [hReferenceEvenInIdeal : Cert.ReferenceEvenInIdeal.Facts] : Prop :=
  ∀ (m : (ℓ : Loc Cert.ReferenceEvenInIdeal.nD Cert.ReferenceEvenInIdeal.τ Cert.ReferenceEvenInIdeal.sig) → Buf (Elt Ideal) ℓ) (g : Dev Cert.ReferenceEvenInIdeal.nD → PrngReg), Pre_ReferenceEvenInIdeal m →
    θ_run (Cert.ReferenceEvenInIdeal.defs (F := Ideal)) (onTc (τ := Cert.ReferenceEvenInIdeal.τ) (Cert.ReferenceEvenInIdeal.main (F := Ideal))) ⟨m, fun _ => 0, g⟩ (fun r => (∀ c : Dev Cert.ReferenceEvenInIdeal.nD,
      r.2.mem ((c.tc : Thread Cert.ReferenceEvenInIdeal.nD Cert.ReferenceEvenInIdeal.τ).loc Cert.ReferenceEvenInIdeal.main_arg0) = m ((c.tc : Thread Cert.ReferenceEvenInIdeal.nD Cert.ReferenceEvenInIdeal.τ).loc Cert.ReferenceEvenInIdeal.main_arg0)
      ∧ r.2.mem ((c.tc : Thread Cert.ReferenceEvenInIdeal.nD Cert.ReferenceEvenInIdeal.τ).loc Cert.ReferenceEvenInIdeal.main_arg1) = m ((c.tc : Thread Cert.ReferenceEvenInIdeal.nD Cert.ReferenceEvenInIdeal.τ).loc Cert.ReferenceEvenInIdeal.main_arg1)
      ∧ r.2.mem ((c.tc : Thread Cert.ReferenceEvenInIdeal.nD Cert.ReferenceEvenInIdeal.τ).loc Cert.ReferenceEvenInIdeal.main_arg2) = m ((c.tc : Thread Cert.ReferenceEvenInIdeal.nD Cert.ReferenceEvenInIdeal.τ).loc Cert.ReferenceEvenInIdeal.main_arg2))
      ∧ r.2.sem = fun _ => 0)

def quiescent_KernelEvenInDw [hKernelEvenInDw : Cert.KernelEvenInDw.Facts] : Prop :=
  ∀ (m : (ℓ : Loc Cert.KernelEvenInDw.nD Cert.KernelEvenInDw.τ Cert.KernelEvenInDw.sig) → Buf (Elt Bits) ℓ) (g : Dev Cert.KernelEvenInDw.nD → PrngReg), Pre_KernelEvenInDw m →
    θ_run (Cert.KernelEvenInDw.defs (F := Bits)) (onTc (τ := Cert.KernelEvenInDw.τ) (Cert.KernelEvenInDw.main (F := Bits))) ⟨m, fun _ => 0, g⟩ (fun r => (∀ c : Dev Cert.KernelEvenInDw.nD,
      r.2.mem ((c.tc : Thread Cert.KernelEvenInDw.nD Cert.KernelEvenInDw.τ).loc Cert.KernelEvenInDw.main_arg0) = m ((c.tc : Thread Cert.KernelEvenInDw.nD Cert.KernelEvenInDw.τ).loc Cert.KernelEvenInDw.main_arg0)
      ∧ r.2.mem ((c.tc : Thread Cert.KernelEvenInDw.nD Cert.KernelEvenInDw.τ).loc Cert.KernelEvenInDw.main_arg1) = m ((c.tc : Thread Cert.KernelEvenInDw.nD Cert.KernelEvenInDw.τ).loc Cert.KernelEvenInDw.main_arg1)
      ∧ r.2.mem ((c.tc : Thread Cert.KernelEvenInDw.nD Cert.KernelEvenInDw.τ).loc Cert.KernelEvenInDw.main_arg2) = m ((c.tc : Thread Cert.KernelEvenInDw.nD Cert.KernelEvenInDw.τ).loc Cert.KernelEvenInDw.main_arg2)
      ∧ r.2.mem ((c.tc : Thread Cert.KernelEvenInDw.nD Cert.KernelEvenInDw.τ).loc Cert.KernelEvenInDw.main_arg3) = m ((c.tc : Thread Cert.KernelEvenInDw.nD Cert.KernelEvenInDw.τ).loc Cert.KernelEvenInDw.main_arg3))
      ∧ r.2.sem = fun _ => 0)

def quiescent_KernelEvenInDwIdeal [hKernelEvenInDwIdeal : Cert.KernelEvenInDwIdeal.Facts] : Prop :=
  ∀ (m : (ℓ : Loc Cert.KernelEvenInDwIdeal.nD Cert.KernelEvenInDwIdeal.τ Cert.KernelEvenInDwIdeal.sig) → Buf (Elt Ideal) ℓ) (g : Dev Cert.KernelEvenInDwIdeal.nD → PrngReg), Pre_KernelEvenInDwIdeal m →
    θ_run (Cert.KernelEvenInDwIdeal.defs (F := Ideal)) (onTc (τ := Cert.KernelEvenInDwIdeal.τ) (Cert.KernelEvenInDwIdeal.main (F := Ideal))) ⟨m, fun _ => 0, g⟩ (fun r => (∀ c : Dev Cert.KernelEvenInDwIdeal.nD,
      r.2.mem ((c.tc : Thread Cert.KernelEvenInDwIdeal.nD Cert.KernelEvenInDwIdeal.τ).loc Cert.KernelEvenInDwIdeal.main_arg0) = m ((c.tc : Thread Cert.KernelEvenInDwIdeal.nD Cert.KernelEvenInDwIdeal.τ).loc Cert.KernelEvenInDwIdeal.main_arg0)
      ∧ r.2.mem ((c.tc : Thread Cert.KernelEvenInDwIdeal.nD Cert.KernelEvenInDwIdeal.τ).loc Cert.KernelEvenInDwIdeal.main_arg1) = m ((c.tc : Thread Cert.KernelEvenInDwIdeal.nD Cert.KernelEvenInDwIdeal.τ).loc Cert.KernelEvenInDwIdeal.main_arg1)
      ∧ r.2.mem ((c.tc : Thread Cert.KernelEvenInDwIdeal.nD Cert.KernelEvenInDwIdeal.τ).loc Cert.KernelEvenInDwIdeal.main_arg2) = m ((c.tc : Thread Cert.KernelEvenInDwIdeal.nD Cert.KernelEvenInDwIdeal.τ).loc Cert.KernelEvenInDwIdeal.main_arg2)
      ∧ r.2.mem ((c.tc : Thread Cert.KernelEvenInDwIdeal.nD Cert.KernelEvenInDwIdeal.τ).loc Cert.KernelEvenInDwIdeal.main_arg3) = m ((c.tc : Thread Cert.KernelEvenInDwIdeal.nD Cert.KernelEvenInDwIdeal.τ).loc Cert.KernelEvenInDwIdeal.main_arg3))
      ∧ r.2.sem = fun _ => 0)

def quiescent_ReferenceEvenInDwIdeal [hReferenceEvenInDwIdeal : Cert.ReferenceEvenInDwIdeal.Facts] : Prop :=
  ∀ (m : (ℓ : Loc Cert.ReferenceEvenInDwIdeal.nD Cert.ReferenceEvenInDwIdeal.τ Cert.ReferenceEvenInDwIdeal.sig) → Buf (Elt Ideal) ℓ) (g : Dev Cert.ReferenceEvenInDwIdeal.nD → PrngReg), Pre_ReferenceEvenInDwIdeal m →
    θ_run (Cert.ReferenceEvenInDwIdeal.defs (F := Ideal)) (onTc (τ := Cert.ReferenceEvenInDwIdeal.τ) (Cert.ReferenceEvenInDwIdeal.main (F := Ideal))) ⟨m, fun _ => 0, g⟩ (fun r => (∀ c : Dev Cert.ReferenceEvenInDwIdeal.nD,
      r.2.mem ((c.tc : Thread Cert.ReferenceEvenInDwIdeal.nD Cert.ReferenceEvenInDwIdeal.τ).loc Cert.ReferenceEvenInDwIdeal.main_arg0) = m ((c.tc : Thread Cert.ReferenceEvenInDwIdeal.nD Cert.ReferenceEvenInDwIdeal.τ).loc Cert.ReferenceEvenInDwIdeal.main_arg0)
      ∧ r.2.mem ((c.tc : Thread Cert.ReferenceEvenInDwIdeal.nD Cert.ReferenceEvenInDwIdeal.τ).loc Cert.ReferenceEvenInDwIdeal.main_arg1) = m ((c.tc : Thread Cert.ReferenceEvenInDwIdeal.nD Cert.ReferenceEvenInDwIdeal.τ).loc Cert.ReferenceEvenInDwIdeal.main_arg1)
      ∧ r.2.mem ((c.tc : Thread Cert.ReferenceEvenInDwIdeal.nD Cert.ReferenceEvenInDwIdeal.τ).loc Cert.ReferenceEvenInDwIdeal.main_arg2) = m ((c.tc : Thread Cert.ReferenceEvenInDwIdeal.nD Cert.ReferenceEvenInDwIdeal.τ).loc Cert.ReferenceEvenInDwIdeal.main_arg2)
      ∧ r.2.mem ((c.tc : Thread Cert.ReferenceEvenInDwIdeal.nD Cert.ReferenceEvenInDwIdeal.τ).loc Cert.ReferenceEvenInDwIdeal.main_arg3) = m ((c.tc : Thread Cert.ReferenceEvenInDwIdeal.nD Cert.ReferenceEvenInDwIdeal.τ).loc Cert.ReferenceEvenInDwIdeal.main_arg3))
      ∧ r.2.sem = fun _ => 0)

def quiescent_KernelEvenInBwd [hKernelEvenInBwd : Cert.KernelEvenInBwd.Facts] : Prop :=
  ∀ (m : (ℓ : Loc Cert.KernelEvenInBwd.nD Cert.KernelEvenInBwd.τ Cert.KernelEvenInBwd.sig) → Buf (Elt Bits) ℓ) (g : Dev Cert.KernelEvenInBwd.nD → PrngReg), Pre_KernelEvenInBwd m →
    θ_run (Cert.KernelEvenInBwd.defs (F := Bits)) (onTc (τ := Cert.KernelEvenInBwd.τ) (Cert.KernelEvenInBwd.main (F := Bits))) ⟨m, fun _ => 0, g⟩ (fun r => (∀ c : Dev Cert.KernelEvenInBwd.nD,
      r.2.mem ((c.tc : Thread Cert.KernelEvenInBwd.nD Cert.KernelEvenInBwd.τ).loc Cert.KernelEvenInBwd.main_arg0) = m ((c.tc : Thread Cert.KernelEvenInBwd.nD Cert.KernelEvenInBwd.τ).loc Cert.KernelEvenInBwd.main_arg0)
      ∧ r.2.mem ((c.tc : Thread Cert.KernelEvenInBwd.nD Cert.KernelEvenInBwd.τ).loc Cert.KernelEvenInBwd.main_arg1) = m ((c.tc : Thread Cert.KernelEvenInBwd.nD Cert.KernelEvenInBwd.τ).loc Cert.KernelEvenInBwd.main_arg1)
      ∧ r.2.mem ((c.tc : Thread Cert.KernelEvenInBwd.nD Cert.KernelEvenInBwd.τ).loc Cert.KernelEvenInBwd.main_arg2) = m ((c.tc : Thread Cert.KernelEvenInBwd.nD Cert.KernelEvenInBwd.τ).loc Cert.KernelEvenInBwd.main_arg2)
      ∧ r.2.mem ((c.tc : Thread Cert.KernelEvenInBwd.nD Cert.KernelEvenInBwd.τ).loc Cert.KernelEvenInBwd.main_arg3) = m ((c.tc : Thread Cert.KernelEvenInBwd.nD Cert.KernelEvenInBwd.τ).loc Cert.KernelEvenInBwd.main_arg3)
      ∧ r.2.mem ((c.tc : Thread Cert.KernelEvenInBwd.nD Cert.KernelEvenInBwd.τ).loc Cert.KernelEvenInBwd.main_arg4) = m ((c.tc : Thread Cert.KernelEvenInBwd.nD Cert.KernelEvenInBwd.τ).loc Cert.KernelEvenInBwd.main_arg4))
      ∧ r.2.sem = fun _ => 0)

def quiescent_KernelEvenInBwdIdeal [hKernelEvenInBwdIdeal : Cert.KernelEvenInBwdIdeal.Facts] : Prop :=
  ∀ (m : (ℓ : Loc Cert.KernelEvenInBwdIdeal.nD Cert.KernelEvenInBwdIdeal.τ Cert.KernelEvenInBwdIdeal.sig) → Buf (Elt Ideal) ℓ) (g : Dev Cert.KernelEvenInBwdIdeal.nD → PrngReg), Pre_KernelEvenInBwdIdeal m →
    θ_run (Cert.KernelEvenInBwdIdeal.defs (F := Ideal)) (onTc (τ := Cert.KernelEvenInBwdIdeal.τ) (Cert.KernelEvenInBwdIdeal.main (F := Ideal))) ⟨m, fun _ => 0, g⟩ (fun r => (∀ c : Dev Cert.KernelEvenInBwdIdeal.nD,
      r.2.mem ((c.tc : Thread Cert.KernelEvenInBwdIdeal.nD Cert.KernelEvenInBwdIdeal.τ).loc Cert.KernelEvenInBwdIdeal.main_arg0) = m ((c.tc : Thread Cert.KernelEvenInBwdIdeal.nD Cert.KernelEvenInBwdIdeal.τ).loc Cert.KernelEvenInBwdIdeal.main_arg0)
      ∧ r.2.mem ((c.tc : Thread Cert.KernelEvenInBwdIdeal.nD Cert.KernelEvenInBwdIdeal.τ).loc Cert.KernelEvenInBwdIdeal.main_arg1) = m ((c.tc : Thread Cert.KernelEvenInBwdIdeal.nD Cert.KernelEvenInBwdIdeal.τ).loc Cert.KernelEvenInBwdIdeal.main_arg1)
      ∧ r.2.mem ((c.tc : Thread Cert.KernelEvenInBwdIdeal.nD Cert.KernelEvenInBwdIdeal.τ).loc Cert.KernelEvenInBwdIdeal.main_arg2) = m ((c.tc : Thread Cert.KernelEvenInBwdIdeal.nD Cert.KernelEvenInBwdIdeal.τ).loc Cert.KernelEvenInBwdIdeal.main_arg2)
      ∧ r.2.mem ((c.tc : Thread Cert.KernelEvenInBwdIdeal.nD Cert.KernelEvenInBwdIdeal.τ).loc Cert.KernelEvenInBwdIdeal.main_arg3) = m ((c.tc : Thread Cert.KernelEvenInBwdIdeal.nD Cert.KernelEvenInBwdIdeal.τ).loc Cert.KernelEvenInBwdIdeal.main_arg3)
      ∧ r.2.mem ((c.tc : Thread Cert.KernelEvenInBwdIdeal.nD Cert.KernelEvenInBwdIdeal.τ).loc Cert.KernelEvenInBwdIdeal.main_arg4) = m ((c.tc : Thread Cert.KernelEvenInBwdIdeal.nD Cert.KernelEvenInBwdIdeal.τ).loc Cert.KernelEvenInBwdIdeal.main_arg4))
      ∧ r.2.sem = fun _ => 0)

def quiescent_ReferenceEvenInBwdIdeal [hReferenceEvenInBwdIdeal : Cert.ReferenceEvenInBwdIdeal.Facts] : Prop :=
  ∀ (m : (ℓ : Loc Cert.ReferenceEvenInBwdIdeal.nD Cert.ReferenceEvenInBwdIdeal.τ Cert.ReferenceEvenInBwdIdeal.sig) → Buf (Elt Ideal) ℓ) (g : Dev Cert.ReferenceEvenInBwdIdeal.nD → PrngReg), Pre_ReferenceEvenInBwdIdeal m →
    θ_run (Cert.ReferenceEvenInBwdIdeal.defs (F := Ideal)) (onTc (τ := Cert.ReferenceEvenInBwdIdeal.τ) (Cert.ReferenceEvenInBwdIdeal.main (F := Ideal))) ⟨m, fun _ => 0, g⟩ (fun r => (∀ c : Dev Cert.ReferenceEvenInBwdIdeal.nD,
      r.2.mem ((c.tc : Thread Cert.ReferenceEvenInBwdIdeal.nD Cert.ReferenceEvenInBwdIdeal.τ).loc Cert.ReferenceEvenInBwdIdeal.main_arg0) = m ((c.tc : Thread Cert.ReferenceEvenInBwdIdeal.nD Cert.ReferenceEvenInBwdIdeal.τ).loc Cert.ReferenceEvenInBwdIdeal.main_arg0)
      ∧ r.2.mem ((c.tc : Thread Cert.ReferenceEvenInBwdIdeal.nD Cert.ReferenceEvenInBwdIdeal.τ).loc Cert.ReferenceEvenInBwdIdeal.main_arg1) = m ((c.tc : Thread Cert.ReferenceEvenInBwdIdeal.nD Cert.ReferenceEvenInBwdIdeal.τ).loc Cert.ReferenceEvenInBwdIdeal.main_arg1)
      ∧ r.2.mem ((c.tc : Thread Cert.ReferenceEvenInBwdIdeal.nD Cert.ReferenceEvenInBwdIdeal.τ).loc Cert.ReferenceEvenInBwdIdeal.main_arg2) = m ((c.tc : Thread Cert.ReferenceEvenInBwdIdeal.nD Cert.ReferenceEvenInBwdIdeal.τ).loc Cert.ReferenceEvenInBwdIdeal.main_arg2)
      ∧ r.2.mem ((c.tc : Thread Cert.ReferenceEvenInBwdIdeal.nD Cert.ReferenceEvenInBwdIdeal.τ).loc Cert.ReferenceEvenInBwdIdeal.main_arg3) = m ((c.tc : Thread Cert.ReferenceEvenInBwdIdeal.nD Cert.ReferenceEvenInBwdIdeal.τ).loc Cert.ReferenceEvenInBwdIdeal.main_arg3)
      ∧ r.2.mem ((c.tc : Thread Cert.ReferenceEvenInBwdIdeal.nD Cert.ReferenceEvenInBwdIdeal.τ).loc Cert.ReferenceEvenInBwdIdeal.main_arg4) = m ((c.tc : Thread Cert.ReferenceEvenInBwdIdeal.nD Cert.ReferenceEvenInBwdIdeal.τ).loc Cert.ReferenceEvenInBwdIdeal.main_arg4))
      ∧ r.2.sem = fun _ => 0)

def quiescent_KernelAdamGu [hKernelAdamGu : Cert.KernelAdamGu.Facts] : Prop :=
  ∀ (m : (ℓ : Loc Cert.KernelAdamGu.nD Cert.KernelAdamGu.τ Cert.KernelAdamGu.sig) → Buf (Elt Bits) ℓ) (g : Dev Cert.KernelAdamGu.nD → PrngReg), Pre_KernelAdamGu m →
    θ_run (Cert.KernelAdamGu.defs (F := Bits)) (onTc (τ := Cert.KernelAdamGu.τ) (Cert.KernelAdamGu.main (F := Bits))) ⟨m, fun _ => 0, g⟩ (fun r => (∀ c : Dev Cert.KernelAdamGu.nD,
      r.2.mem ((c.tc : Thread Cert.KernelAdamGu.nD Cert.KernelAdamGu.τ).loc Cert.KernelAdamGu.main_arg0) = m ((c.tc : Thread Cert.KernelAdamGu.nD Cert.KernelAdamGu.τ).loc Cert.KernelAdamGu.main_arg0)
      ∧ r.2.mem ((c.tc : Thread Cert.KernelAdamGu.nD Cert.KernelAdamGu.τ).loc Cert.KernelAdamGu.main_arg1) = m ((c.tc : Thread Cert.KernelAdamGu.nD Cert.KernelAdamGu.τ).loc Cert.KernelAdamGu.main_arg1)
      ∧ r.2.mem ((c.tc : Thread Cert.KernelAdamGu.nD Cert.KernelAdamGu.τ).loc Cert.KernelAdamGu.main_arg2) = m ((c.tc : Thread Cert.KernelAdamGu.nD Cert.KernelAdamGu.τ).loc Cert.KernelAdamGu.main_arg2)
      ∧ r.2.mem ((c.tc : Thread Cert.KernelAdamGu.nD Cert.KernelAdamGu.τ).loc Cert.KernelAdamGu.main_arg3) = m ((c.tc : Thread Cert.KernelAdamGu.nD Cert.KernelAdamGu.τ).loc Cert.KernelAdamGu.main_arg3)
      ∧ r.2.mem ((c.tc : Thread Cert.KernelAdamGu.nD Cert.KernelAdamGu.τ).loc Cert.KernelAdamGu.main_arg4) = m ((c.tc : Thread Cert.KernelAdamGu.nD Cert.KernelAdamGu.τ).loc Cert.KernelAdamGu.main_arg4)
      ∧ r.2.mem ((c.tc : Thread Cert.KernelAdamGu.nD Cert.KernelAdamGu.τ).loc Cert.KernelAdamGu.main_arg5) = m ((c.tc : Thread Cert.KernelAdamGu.nD Cert.KernelAdamGu.τ).loc Cert.KernelAdamGu.main_arg5)
      ∧ r.2.mem ((c.tc : Thread Cert.KernelAdamGu.nD Cert.KernelAdamGu.τ).loc Cert.KernelAdamGu.main_arg6) = m ((c.tc : Thread Cert.KernelAdamGu.nD Cert.KernelAdamGu.τ).loc Cert.KernelAdamGu.main_arg6)
      ∧ r.2.mem ((c.tc : Thread Cert.KernelAdamGu.nD Cert.KernelAdamGu.τ).loc Cert.KernelAdamGu.main_arg7) = m ((c.tc : Thread Cert.KernelAdamGu.nD Cert.KernelAdamGu.τ).loc Cert.KernelAdamGu.main_arg7))
      ∧ r.2.sem = fun _ => 0)

def quiescent_KernelAdamGuIdeal [hKernelAdamGuIdeal : Cert.KernelAdamGuIdeal.Facts] : Prop :=
  ∀ (m : (ℓ : Loc Cert.KernelAdamGuIdeal.nD Cert.KernelAdamGuIdeal.τ Cert.KernelAdamGuIdeal.sig) → Buf (Elt Ideal) ℓ) (g : Dev Cert.KernelAdamGuIdeal.nD → PrngReg), Pre_KernelAdamGuIdeal m →
    θ_run (Cert.KernelAdamGuIdeal.defs (F := Ideal)) (onTc (τ := Cert.KernelAdamGuIdeal.τ) (Cert.KernelAdamGuIdeal.main (F := Ideal))) ⟨m, fun _ => 0, g⟩ (fun r => (∀ c : Dev Cert.KernelAdamGuIdeal.nD,
      r.2.mem ((c.tc : Thread Cert.KernelAdamGuIdeal.nD Cert.KernelAdamGuIdeal.τ).loc Cert.KernelAdamGuIdeal.main_arg0) = m ((c.tc : Thread Cert.KernelAdamGuIdeal.nD Cert.KernelAdamGuIdeal.τ).loc Cert.KernelAdamGuIdeal.main_arg0)
      ∧ r.2.mem ((c.tc : Thread Cert.KernelAdamGuIdeal.nD Cert.KernelAdamGuIdeal.τ).loc Cert.KernelAdamGuIdeal.main_arg1) = m ((c.tc : Thread Cert.KernelAdamGuIdeal.nD Cert.KernelAdamGuIdeal.τ).loc Cert.KernelAdamGuIdeal.main_arg1)
      ∧ r.2.mem ((c.tc : Thread Cert.KernelAdamGuIdeal.nD Cert.KernelAdamGuIdeal.τ).loc Cert.KernelAdamGuIdeal.main_arg2) = m ((c.tc : Thread Cert.KernelAdamGuIdeal.nD Cert.KernelAdamGuIdeal.τ).loc Cert.KernelAdamGuIdeal.main_arg2)
      ∧ r.2.mem ((c.tc : Thread Cert.KernelAdamGuIdeal.nD Cert.KernelAdamGuIdeal.τ).loc Cert.KernelAdamGuIdeal.main_arg3) = m ((c.tc : Thread Cert.KernelAdamGuIdeal.nD Cert.KernelAdamGuIdeal.τ).loc Cert.KernelAdamGuIdeal.main_arg3)
      ∧ r.2.mem ((c.tc : Thread Cert.KernelAdamGuIdeal.nD Cert.KernelAdamGuIdeal.τ).loc Cert.KernelAdamGuIdeal.main_arg4) = m ((c.tc : Thread Cert.KernelAdamGuIdeal.nD Cert.KernelAdamGuIdeal.τ).loc Cert.KernelAdamGuIdeal.main_arg4)
      ∧ r.2.mem ((c.tc : Thread Cert.KernelAdamGuIdeal.nD Cert.KernelAdamGuIdeal.τ).loc Cert.KernelAdamGuIdeal.main_arg5) = m ((c.tc : Thread Cert.KernelAdamGuIdeal.nD Cert.KernelAdamGuIdeal.τ).loc Cert.KernelAdamGuIdeal.main_arg5)
      ∧ r.2.mem ((c.tc : Thread Cert.KernelAdamGuIdeal.nD Cert.KernelAdamGuIdeal.τ).loc Cert.KernelAdamGuIdeal.main_arg6) = m ((c.tc : Thread Cert.KernelAdamGuIdeal.nD Cert.KernelAdamGuIdeal.τ).loc Cert.KernelAdamGuIdeal.main_arg6)
      ∧ r.2.mem ((c.tc : Thread Cert.KernelAdamGuIdeal.nD Cert.KernelAdamGuIdeal.τ).loc Cert.KernelAdamGuIdeal.main_arg7) = m ((c.tc : Thread Cert.KernelAdamGuIdeal.nD Cert.KernelAdamGuIdeal.τ).loc Cert.KernelAdamGuIdeal.main_arg7))
      ∧ r.2.sem = fun _ => 0)

def quiescent_ReferenceAdamGuIdeal [hReferenceAdamGuIdeal : Cert.ReferenceAdamGuIdeal.Facts] : Prop :=
  ∀ (m : (ℓ : Loc Cert.ReferenceAdamGuIdeal.nD Cert.ReferenceAdamGuIdeal.τ Cert.ReferenceAdamGuIdeal.sig) → Buf (Elt Ideal) ℓ) (g : Dev Cert.ReferenceAdamGuIdeal.nD → PrngReg), Pre_ReferenceAdamGuIdeal m →
    θ_run (Cert.ReferenceAdamGuIdeal.defs (F := Ideal)) (onTc (τ := Cert.ReferenceAdamGuIdeal.τ) (Cert.ReferenceAdamGuIdeal.main (F := Ideal))) ⟨m, fun _ => 0, g⟩ (fun r => (∀ c : Dev Cert.ReferenceAdamGuIdeal.nD,
      r.2.mem ((c.tc : Thread Cert.ReferenceAdamGuIdeal.nD Cert.ReferenceAdamGuIdeal.τ).loc Cert.ReferenceAdamGuIdeal.main_arg0) = m ((c.tc : Thread Cert.ReferenceAdamGuIdeal.nD Cert.ReferenceAdamGuIdeal.τ).loc Cert.ReferenceAdamGuIdeal.main_arg0)
      ∧ r.2.mem ((c.tc : Thread Cert.ReferenceAdamGuIdeal.nD Cert.ReferenceAdamGuIdeal.τ).loc Cert.ReferenceAdamGuIdeal.main_arg1) = m ((c.tc : Thread Cert.ReferenceAdamGuIdeal.nD Cert.ReferenceAdamGuIdeal.τ).loc Cert.ReferenceAdamGuIdeal.main_arg1)
      ∧ r.2.mem ((c.tc : Thread Cert.ReferenceAdamGuIdeal.nD Cert.ReferenceAdamGuIdeal.τ).loc Cert.ReferenceAdamGuIdeal.main_arg2) = m ((c.tc : Thread Cert.ReferenceAdamGuIdeal.nD Cert.ReferenceAdamGuIdeal.τ).loc Cert.ReferenceAdamGuIdeal.main_arg2)
      ∧ r.2.mem ((c.tc : Thread Cert.ReferenceAdamGuIdeal.nD Cert.ReferenceAdamGuIdeal.τ).loc Cert.ReferenceAdamGuIdeal.main_arg3) = m ((c.tc : Thread Cert.ReferenceAdamGuIdeal.nD Cert.ReferenceAdamGuIdeal.τ).loc Cert.ReferenceAdamGuIdeal.main_arg3)
      ∧ r.2.mem ((c.tc : Thread Cert.ReferenceAdamGuIdeal.nD Cert.ReferenceAdamGuIdeal.τ).loc Cert.ReferenceAdamGuIdeal.main_arg4) = m ((c.tc : Thread Cert.ReferenceAdamGuIdeal.nD Cert.ReferenceAdamGuIdeal.τ).loc Cert.ReferenceAdamGuIdeal.main_arg4)
      ∧ r.2.mem ((c.tc : Thread Cert.ReferenceAdamGuIdeal.nD Cert.ReferenceAdamGuIdeal.τ).loc Cert.ReferenceAdamGuIdeal.main_arg5) = m ((c.tc : Thread Cert.ReferenceAdamGuIdeal.nD Cert.ReferenceAdamGuIdeal.τ).loc Cert.ReferenceAdamGuIdeal.main_arg5)
      ∧ r.2.mem ((c.tc : Thread Cert.ReferenceAdamGuIdeal.nD Cert.ReferenceAdamGuIdeal.τ).loc Cert.ReferenceAdamGuIdeal.main_arg6) = m ((c.tc : Thread Cert.ReferenceAdamGuIdeal.nD Cert.ReferenceAdamGuIdeal.τ).loc Cert.ReferenceAdamGuIdeal.main_arg6)
      ∧ r.2.mem ((c.tc : Thread Cert.ReferenceAdamGuIdeal.nD Cert.ReferenceAdamGuIdeal.τ).loc Cert.ReferenceAdamGuIdeal.main_arg7) = m ((c.tc : Thread Cert.ReferenceAdamGuIdeal.nD Cert.ReferenceAdamGuIdeal.τ).loc Cert.ReferenceAdamGuIdeal.main_arg7))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3)
      ∧ r.2.mem ((c.tc : Thread Cert.KernelAdamDown.nD Cert.KernelAdamDown.τ).loc Cert.KernelAdamDown.main_arg4) = m ((c.tc : Thread Cert.KernelAdamDown.nD Cert.KernelAdamDown.τ).loc Cert.KernelAdamDown.main_arg4)
      ∧ r.2.mem ((c.tc : Thread Cert.KernelAdamDown.nD Cert.KernelAdamDown.τ).loc Cert.KernelAdamDown.main_arg5) = m ((c.tc : Thread Cert.KernelAdamDown.nD Cert.KernelAdamDown.τ).loc Cert.KernelAdamDown.main_arg5)
      ∧ r.2.mem ((c.tc : Thread Cert.KernelAdamDown.nD Cert.KernelAdamDown.τ).loc Cert.KernelAdamDown.main_arg6) = m ((c.tc : Thread Cert.KernelAdamDown.nD Cert.KernelAdamDown.τ).loc Cert.KernelAdamDown.main_arg6)
      ∧ r.2.mem ((c.tc : Thread Cert.KernelAdamDown.nD Cert.KernelAdamDown.τ).loc Cert.KernelAdamDown.main_arg7) = m ((c.tc : Thread Cert.KernelAdamDown.nD Cert.KernelAdamDown.τ).loc Cert.KernelAdamDown.main_arg7))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3)
      ∧ r.2.mem ((c.tc : Thread Cert.KernelAdamDownIdeal.nD Cert.KernelAdamDownIdeal.τ).loc Cert.KernelAdamDownIdeal.main_arg4) = m ((c.tc : Thread Cert.KernelAdamDownIdeal.nD Cert.KernelAdamDownIdeal.τ).loc Cert.KernelAdamDownIdeal.main_arg4)
      ∧ r.2.mem ((c.tc : Thread Cert.KernelAdamDownIdeal.nD Cert.KernelAdamDownIdeal.τ).loc Cert.KernelAdamDownIdeal.main_arg5) = m ((c.tc : Thread Cert.KernelAdamDownIdeal.nD Cert.KernelAdamDownIdeal.τ).loc Cert.KernelAdamDownIdeal.main_arg5)
      ∧ r.2.mem ((c.tc : Thread Cert.KernelAdamDownIdeal.nD Cert.KernelAdamDownIdeal.τ).loc Cert.KernelAdamDownIdeal.main_arg6) = m ((c.tc : Thread Cert.KernelAdamDownIdeal.nD Cert.KernelAdamDownIdeal.τ).loc Cert.KernelAdamDownIdeal.main_arg6)
      ∧ r.2.mem ((c.tc : Thread Cert.KernelAdamDownIdeal.nD Cert.KernelAdamDownIdeal.τ).loc Cert.KernelAdamDownIdeal.main_arg7) = m ((c.tc : Thread Cert.KernelAdamDownIdeal.nD Cert.KernelAdamDownIdeal.τ).loc Cert.KernelAdamDownIdeal.main_arg7))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3)
      ∧ r.2.mem ((c.tc : Thread Cert.ReferenceAdamDownIdeal.nD Cert.ReferenceAdamDownIdeal.τ).loc Cert.ReferenceAdamDownIdeal.main_arg4) = m ((c.tc : Thread Cert.ReferenceAdamDownIdeal.nD Cert.ReferenceAdamDownIdeal.τ).loc Cert.ReferenceAdamDownIdeal.main_arg4)
      ∧ r.2.mem ((c.tc : Thread Cert.ReferenceAdamDownIdeal.nD Cert.ReferenceAdamDownIdeal.τ).loc Cert.ReferenceAdamDownIdeal.main_arg5) = m ((c.tc : Thread Cert.ReferenceAdamDownIdeal.nD Cert.ReferenceAdamDownIdeal.τ).loc Cert.ReferenceAdamDownIdeal.main_arg5)
      ∧ r.2.mem ((c.tc : Thread Cert.ReferenceAdamDownIdeal.nD Cert.ReferenceAdamDownIdeal.τ).loc Cert.ReferenceAdamDownIdeal.main_arg6) = m ((c.tc : Thread Cert.ReferenceAdamDownIdeal.nD Cert.ReferenceAdamDownIdeal.τ).loc Cert.ReferenceAdamDownIdeal.main_arg6)
      ∧ r.2.mem ((c.tc : Thread Cert.ReferenceAdamDownIdeal.nD Cert.ReferenceAdamDownIdeal.τ).loc Cert.ReferenceAdamDownIdeal.main_arg7) = m ((c.tc : Thread Cert.ReferenceAdamDownIdeal.nD Cert.ReferenceAdamDownIdeal.τ).loc Cert.ReferenceAdamDownIdeal.main_arg7))
      ∧ r.2.sem = fun _ => 0)

def quiescent_KernelAdamInEven [hKernelAdamInEven : Cert.KernelAdamInEven.Facts] : Prop :=
  ∀ (m : (ℓ : Loc Cert.KernelAdamInEven.nD Cert.KernelAdamInEven.τ Cert.KernelAdamInEven.sig) → Buf (Elt Bits) ℓ) (g : Dev Cert.KernelAdamInEven.nD → PrngReg), Pre_KernelAdamInEven m →
    θ_run (Cert.KernelAdamInEven.defs (F := Bits)) (onTc (τ := Cert.KernelAdamInEven.τ) (Cert.KernelAdamInEven.main (F := Bits))) ⟨m, fun _ => 0, g⟩ (fun r => (∀ c : Dev Cert.KernelAdamInEven.nD,
      r.2.mem ((c.tc : Thread Cert.KernelAdamInEven.nD Cert.KernelAdamInEven.τ).loc Cert.KernelAdamInEven.main_arg0) = m ((c.tc : Thread Cert.KernelAdamInEven.nD Cert.KernelAdamInEven.τ).loc Cert.KernelAdamInEven.main_arg0)
      ∧ r.2.mem ((c.tc : Thread Cert.KernelAdamInEven.nD Cert.KernelAdamInEven.τ).loc Cert.KernelAdamInEven.main_arg1) = m ((c.tc : Thread Cert.KernelAdamInEven.nD Cert.KernelAdamInEven.τ).loc Cert.KernelAdamInEven.main_arg1)
      ∧ r.2.mem ((c.tc : Thread Cert.KernelAdamInEven.nD Cert.KernelAdamInEven.τ).loc Cert.KernelAdamInEven.main_arg2) = m ((c.tc : Thread Cert.KernelAdamInEven.nD Cert.KernelAdamInEven.τ).loc Cert.KernelAdamInEven.main_arg2)
      ∧ r.2.mem ((c.tc : Thread Cert.KernelAdamInEven.nD Cert.KernelAdamInEven.τ).loc Cert.KernelAdamInEven.main_arg3) = m ((c.tc : Thread Cert.KernelAdamInEven.nD Cert.KernelAdamInEven.τ).loc Cert.KernelAdamInEven.main_arg3)
      ∧ r.2.mem ((c.tc : Thread Cert.KernelAdamInEven.nD Cert.KernelAdamInEven.τ).loc Cert.KernelAdamInEven.main_arg4) = m ((c.tc : Thread Cert.KernelAdamInEven.nD Cert.KernelAdamInEven.τ).loc Cert.KernelAdamInEven.main_arg4)
      ∧ r.2.mem ((c.tc : Thread Cert.KernelAdamInEven.nD Cert.KernelAdamInEven.τ).loc Cert.KernelAdamInEven.main_arg5) = m ((c.tc : Thread Cert.KernelAdamInEven.nD Cert.KernelAdamInEven.τ).loc Cert.KernelAdamInEven.main_arg5)
      ∧ r.2.mem ((c.tc : Thread Cert.KernelAdamInEven.nD Cert.KernelAdamInEven.τ).loc Cert.KernelAdamInEven.main_arg6) = m ((c.tc : Thread Cert.KernelAdamInEven.nD Cert.KernelAdamInEven.τ).loc Cert.KernelAdamInEven.main_arg6)
      ∧ r.2.mem ((c.tc : Thread Cert.KernelAdamInEven.nD Cert.KernelAdamInEven.τ).loc Cert.KernelAdamInEven.main_arg7) = m ((c.tc : Thread Cert.KernelAdamInEven.nD Cert.KernelAdamInEven.τ).loc Cert.KernelAdamInEven.main_arg7))
      ∧ r.2.sem = fun _ => 0)

def quiescent_KernelAdamInEvenIdeal [hKernelAdamInEvenIdeal : Cert.KernelAdamInEvenIdeal.Facts] : Prop :=
  ∀ (m : (ℓ : Loc Cert.KernelAdamInEvenIdeal.nD Cert.KernelAdamInEvenIdeal.τ Cert.KernelAdamInEvenIdeal.sig) → Buf (Elt Ideal) ℓ) (g : Dev Cert.KernelAdamInEvenIdeal.nD → PrngReg), Pre_KernelAdamInEvenIdeal m →
    θ_run (Cert.KernelAdamInEvenIdeal.defs (F := Ideal)) (onTc (τ := Cert.KernelAdamInEvenIdeal.τ) (Cert.KernelAdamInEvenIdeal.main (F := Ideal))) ⟨m, fun _ => 0, g⟩ (fun r => (∀ c : Dev Cert.KernelAdamInEvenIdeal.nD,
      r.2.mem ((c.tc : Thread Cert.KernelAdamInEvenIdeal.nD Cert.KernelAdamInEvenIdeal.τ).loc Cert.KernelAdamInEvenIdeal.main_arg0) = m ((c.tc : Thread Cert.KernelAdamInEvenIdeal.nD Cert.KernelAdamInEvenIdeal.τ).loc Cert.KernelAdamInEvenIdeal.main_arg0)
      ∧ r.2.mem ((c.tc : Thread Cert.KernelAdamInEvenIdeal.nD Cert.KernelAdamInEvenIdeal.τ).loc Cert.KernelAdamInEvenIdeal.main_arg1) = m ((c.tc : Thread Cert.KernelAdamInEvenIdeal.nD Cert.KernelAdamInEvenIdeal.τ).loc Cert.KernelAdamInEvenIdeal.main_arg1)
      ∧ r.2.mem ((c.tc : Thread Cert.KernelAdamInEvenIdeal.nD Cert.KernelAdamInEvenIdeal.τ).loc Cert.KernelAdamInEvenIdeal.main_arg2) = m ((c.tc : Thread Cert.KernelAdamInEvenIdeal.nD Cert.KernelAdamInEvenIdeal.τ).loc Cert.KernelAdamInEvenIdeal.main_arg2)
      ∧ r.2.mem ((c.tc : Thread Cert.KernelAdamInEvenIdeal.nD Cert.KernelAdamInEvenIdeal.τ).loc Cert.KernelAdamInEvenIdeal.main_arg3) = m ((c.tc : Thread Cert.KernelAdamInEvenIdeal.nD Cert.KernelAdamInEvenIdeal.τ).loc Cert.KernelAdamInEvenIdeal.main_arg3)
      ∧ r.2.mem ((c.tc : Thread Cert.KernelAdamInEvenIdeal.nD Cert.KernelAdamInEvenIdeal.τ).loc Cert.KernelAdamInEvenIdeal.main_arg4) = m ((c.tc : Thread Cert.KernelAdamInEvenIdeal.nD Cert.KernelAdamInEvenIdeal.τ).loc Cert.KernelAdamInEvenIdeal.main_arg4)
      ∧ r.2.mem ((c.tc : Thread Cert.KernelAdamInEvenIdeal.nD Cert.KernelAdamInEvenIdeal.τ).loc Cert.KernelAdamInEvenIdeal.main_arg5) = m ((c.tc : Thread Cert.KernelAdamInEvenIdeal.nD Cert.KernelAdamInEvenIdeal.τ).loc Cert.KernelAdamInEvenIdeal.main_arg5)
      ∧ r.2.mem ((c.tc : Thread Cert.KernelAdamInEvenIdeal.nD Cert.KernelAdamInEvenIdeal.τ).loc Cert.KernelAdamInEvenIdeal.main_arg6) = m ((c.tc : Thread Cert.KernelAdamInEvenIdeal.nD Cert.KernelAdamInEvenIdeal.τ).loc Cert.KernelAdamInEvenIdeal.main_arg6)
      ∧ r.2.mem ((c.tc : Thread Cert.KernelAdamInEvenIdeal.nD Cert.KernelAdamInEvenIdeal.τ).loc Cert.KernelAdamInEvenIdeal.main_arg7) = m ((c.tc : Thread Cert.KernelAdamInEvenIdeal.nD Cert.KernelAdamInEvenIdeal.τ).loc Cert.KernelAdamInEvenIdeal.main_arg7))
      ∧ r.2.sem = fun _ => 0)

def quiescent_ReferenceAdamInEvenIdeal [hReferenceAdamInEvenIdeal : Cert.ReferenceAdamInEvenIdeal.Facts] : Prop :=
  ∀ (m : (ℓ : Loc Cert.ReferenceAdamInEvenIdeal.nD Cert.ReferenceAdamInEvenIdeal.τ Cert.ReferenceAdamInEvenIdeal.sig) → Buf (Elt Ideal) ℓ) (g : Dev Cert.ReferenceAdamInEvenIdeal.nD → PrngReg), Pre_ReferenceAdamInEvenIdeal m →
    θ_run (Cert.ReferenceAdamInEvenIdeal.defs (F := Ideal)) (onTc (τ := Cert.ReferenceAdamInEvenIdeal.τ) (Cert.ReferenceAdamInEvenIdeal.main (F := Ideal))) ⟨m, fun _ => 0, g⟩ (fun r => (∀ c : Dev Cert.ReferenceAdamInEvenIdeal.nD,
      r.2.mem ((c.tc : Thread Cert.ReferenceAdamInEvenIdeal.nD Cert.ReferenceAdamInEvenIdeal.τ).loc Cert.ReferenceAdamInEvenIdeal.main_arg0) = m ((c.tc : Thread Cert.ReferenceAdamInEvenIdeal.nD Cert.ReferenceAdamInEvenIdeal.τ).loc Cert.ReferenceAdamInEvenIdeal.main_arg0)
      ∧ r.2.mem ((c.tc : Thread Cert.ReferenceAdamInEvenIdeal.nD Cert.ReferenceAdamInEvenIdeal.τ).loc Cert.ReferenceAdamInEvenIdeal.main_arg1) = m ((c.tc : Thread Cert.ReferenceAdamInEvenIdeal.nD Cert.ReferenceAdamInEvenIdeal.τ).loc Cert.ReferenceAdamInEvenIdeal.main_arg1)
      ∧ r.2.mem ((c.tc : Thread Cert.ReferenceAdamInEvenIdeal.nD Cert.ReferenceAdamInEvenIdeal.τ).loc Cert.ReferenceAdamInEvenIdeal.main_arg2) = m ((c.tc : Thread Cert.ReferenceAdamInEvenIdeal.nD Cert.ReferenceAdamInEvenIdeal.τ).loc Cert.ReferenceAdamInEvenIdeal.main_arg2)
      ∧ r.2.mem ((c.tc : Thread Cert.ReferenceAdamInEvenIdeal.nD Cert.ReferenceAdamInEvenIdeal.τ).loc Cert.ReferenceAdamInEvenIdeal.main_arg3) = m ((c.tc : Thread Cert.ReferenceAdamInEvenIdeal.nD Cert.ReferenceAdamInEvenIdeal.τ).loc Cert.ReferenceAdamInEvenIdeal.main_arg3)
      ∧ r.2.mem ((c.tc : Thread Cert.ReferenceAdamInEvenIdeal.nD Cert.ReferenceAdamInEvenIdeal.τ).loc Cert.ReferenceAdamInEvenIdeal.main_arg4) = m ((c.tc : Thread Cert.ReferenceAdamInEvenIdeal.nD Cert.ReferenceAdamInEvenIdeal.τ).loc Cert.ReferenceAdamInEvenIdeal.main_arg4)
      ∧ r.2.mem ((c.tc : Thread Cert.ReferenceAdamInEvenIdeal.nD Cert.ReferenceAdamInEvenIdeal.τ).loc Cert.ReferenceAdamInEvenIdeal.main_arg5) = m ((c.tc : Thread Cert.ReferenceAdamInEvenIdeal.nD Cert.ReferenceAdamInEvenIdeal.τ).loc Cert.ReferenceAdamInEvenIdeal.main_arg5)
      ∧ r.2.mem ((c.tc : Thread Cert.ReferenceAdamInEvenIdeal.nD Cert.ReferenceAdamInEvenIdeal.τ).loc Cert.ReferenceAdamInEvenIdeal.main_arg6) = m ((c.tc : Thread Cert.ReferenceAdamInEvenIdeal.nD Cert.ReferenceAdamInEvenIdeal.τ).loc Cert.ReferenceAdamInEvenIdeal.main_arg6)
      ∧ r.2.mem ((c.tc : Thread Cert.ReferenceAdamInEvenIdeal.nD Cert.ReferenceAdamInEvenIdeal.τ).loc Cert.ReferenceAdamInEvenIdeal.main_arg7) = m ((c.tc : Thread Cert.ReferenceAdamInEvenIdeal.nD Cert.ReferenceAdamInEvenIdeal.τ).loc Cert.ReferenceAdamInEvenIdeal.main_arg7))
      ∧ r.2.sem = fun _ => 0)

def quiescent_KernelAdamInOdd [hKernelAdamInOdd : Cert.KernelAdamInOdd.Facts] : Prop :=
  ∀ (m : (ℓ : Loc Cert.KernelAdamInOdd.nD Cert.KernelAdamInOdd.τ Cert.KernelAdamInOdd.sig) → Buf (Elt Bits) ℓ) (g : Dev Cert.KernelAdamInOdd.nD → PrngReg), Pre_KernelAdamInOdd m →
    θ_run (Cert.KernelAdamInOdd.defs (F := Bits)) (onTc (τ := Cert.KernelAdamInOdd.τ) (Cert.KernelAdamInOdd.main (F := Bits))) ⟨m, fun _ => 0, g⟩ (fun r => (∀ c : Dev Cert.KernelAdamInOdd.nD,
      r.2.mem ((c.tc : Thread Cert.KernelAdamInOdd.nD Cert.KernelAdamInOdd.τ).loc Cert.KernelAdamInOdd.main_arg0) = m ((c.tc : Thread Cert.KernelAdamInOdd.nD Cert.KernelAdamInOdd.τ).loc Cert.KernelAdamInOdd.main_arg0)
      ∧ r.2.mem ((c.tc : Thread Cert.KernelAdamInOdd.nD Cert.KernelAdamInOdd.τ).loc Cert.KernelAdamInOdd.main_arg1) = m ((c.tc : Thread Cert.KernelAdamInOdd.nD Cert.KernelAdamInOdd.τ).loc Cert.KernelAdamInOdd.main_arg1)
      ∧ r.2.mem ((c.tc : Thread Cert.KernelAdamInOdd.nD Cert.KernelAdamInOdd.τ).loc Cert.KernelAdamInOdd.main_arg2) = m ((c.tc : Thread Cert.KernelAdamInOdd.nD Cert.KernelAdamInOdd.τ).loc Cert.KernelAdamInOdd.main_arg2)
      ∧ r.2.mem ((c.tc : Thread Cert.KernelAdamInOdd.nD Cert.KernelAdamInOdd.τ).loc Cert.KernelAdamInOdd.main_arg3) = m ((c.tc : Thread Cert.KernelAdamInOdd.nD Cert.KernelAdamInOdd.τ).loc Cert.KernelAdamInOdd.main_arg3)
      ∧ r.2.mem ((c.tc : Thread Cert.KernelAdamInOdd.nD Cert.KernelAdamInOdd.τ).loc Cert.KernelAdamInOdd.main_arg4) = m ((c.tc : Thread Cert.KernelAdamInOdd.nD Cert.KernelAdamInOdd.τ).loc Cert.KernelAdamInOdd.main_arg4)
      ∧ r.2.mem ((c.tc : Thread Cert.KernelAdamInOdd.nD Cert.KernelAdamInOdd.τ).loc Cert.KernelAdamInOdd.main_arg5) = m ((c.tc : Thread Cert.KernelAdamInOdd.nD Cert.KernelAdamInOdd.τ).loc Cert.KernelAdamInOdd.main_arg5)
      ∧ r.2.mem ((c.tc : Thread Cert.KernelAdamInOdd.nD Cert.KernelAdamInOdd.τ).loc Cert.KernelAdamInOdd.main_arg6) = m ((c.tc : Thread Cert.KernelAdamInOdd.nD Cert.KernelAdamInOdd.τ).loc Cert.KernelAdamInOdd.main_arg6)
      ∧ r.2.mem ((c.tc : Thread Cert.KernelAdamInOdd.nD Cert.KernelAdamInOdd.τ).loc Cert.KernelAdamInOdd.main_arg7) = m ((c.tc : Thread Cert.KernelAdamInOdd.nD Cert.KernelAdamInOdd.τ).loc Cert.KernelAdamInOdd.main_arg7))
      ∧ r.2.sem = fun _ => 0)

def quiescent_KernelAdamInOddIdeal [hKernelAdamInOddIdeal : Cert.KernelAdamInOddIdeal.Facts] : Prop :=
  ∀ (m : (ℓ : Loc Cert.KernelAdamInOddIdeal.nD Cert.KernelAdamInOddIdeal.τ Cert.KernelAdamInOddIdeal.sig) → Buf (Elt Ideal) ℓ) (g : Dev Cert.KernelAdamInOddIdeal.nD → PrngReg), Pre_KernelAdamInOddIdeal m →
    θ_run (Cert.KernelAdamInOddIdeal.defs (F := Ideal)) (onTc (τ := Cert.KernelAdamInOddIdeal.τ) (Cert.KernelAdamInOddIdeal.main (F := Ideal))) ⟨m, fun _ => 0, g⟩ (fun r => (∀ c : Dev Cert.KernelAdamInOddIdeal.nD,
      r.2.mem ((c.tc : Thread Cert.KernelAdamInOddIdeal.nD Cert.KernelAdamInOddIdeal.τ).loc Cert.KernelAdamInOddIdeal.main_arg0) = m ((c.tc : Thread Cert.KernelAdamInOddIdeal.nD Cert.KernelAdamInOddIdeal.τ).loc Cert.KernelAdamInOddIdeal.main_arg0)
      ∧ r.2.mem ((c.tc : Thread Cert.KernelAdamInOddIdeal.nD Cert.KernelAdamInOddIdeal.τ).loc Cert.KernelAdamInOddIdeal.main_arg1) = m ((c.tc : Thread Cert.KernelAdamInOddIdeal.nD Cert.KernelAdamInOddIdeal.τ).loc Cert.KernelAdamInOddIdeal.main_arg1)
      ∧ r.2.mem ((c.tc : Thread Cert.KernelAdamInOddIdeal.nD Cert.KernelAdamInOddIdeal.τ).loc Cert.KernelAdamInOddIdeal.main_arg2) = m ((c.tc : Thread Cert.KernelAdamInOddIdeal.nD Cert.KernelAdamInOddIdeal.τ).loc Cert.KernelAdamInOddIdeal.main_arg2)
      ∧ r.2.mem ((c.tc : Thread Cert.KernelAdamInOddIdeal.nD Cert.KernelAdamInOddIdeal.τ).loc Cert.KernelAdamInOddIdeal.main_arg3) = m ((c.tc : Thread Cert.KernelAdamInOddIdeal.nD Cert.KernelAdamInOddIdeal.τ).loc Cert.KernelAdamInOddIdeal.main_arg3)
      ∧ r.2.mem ((c.tc : Thread Cert.KernelAdamInOddIdeal.nD Cert.KernelAdamInOddIdeal.τ).loc Cert.KernelAdamInOddIdeal.main_arg4) = m ((c.tc : Thread Cert.KernelAdamInOddIdeal.nD Cert.KernelAdamInOddIdeal.τ).loc Cert.KernelAdamInOddIdeal.main_arg4)
      ∧ r.2.mem ((c.tc : Thread Cert.KernelAdamInOddIdeal.nD Cert.KernelAdamInOddIdeal.τ).loc Cert.KernelAdamInOddIdeal.main_arg5) = m ((c.tc : Thread Cert.KernelAdamInOddIdeal.nD Cert.KernelAdamInOddIdeal.τ).loc Cert.KernelAdamInOddIdeal.main_arg5)
      ∧ r.2.mem ((c.tc : Thread Cert.KernelAdamInOddIdeal.nD Cert.KernelAdamInOddIdeal.τ).loc Cert.KernelAdamInOddIdeal.main_arg6) = m ((c.tc : Thread Cert.KernelAdamInOddIdeal.nD Cert.KernelAdamInOddIdeal.τ).loc Cert.KernelAdamInOddIdeal.main_arg6)
      ∧ r.2.mem ((c.tc : Thread Cert.KernelAdamInOddIdeal.nD Cert.KernelAdamInOddIdeal.τ).loc Cert.KernelAdamInOddIdeal.main_arg7) = m ((c.tc : Thread Cert.KernelAdamInOddIdeal.nD Cert.KernelAdamInOddIdeal.τ).loc Cert.KernelAdamInOddIdeal.main_arg7))
      ∧ r.2.sem = fun _ => 0)

def quiescent_ReferenceAdamInOddIdeal [hReferenceAdamInOddIdeal : Cert.ReferenceAdamInOddIdeal.Facts] : Prop :=
  ∀ (m : (ℓ : Loc Cert.ReferenceAdamInOddIdeal.nD Cert.ReferenceAdamInOddIdeal.τ Cert.ReferenceAdamInOddIdeal.sig) → Buf (Elt Ideal) ℓ) (g : Dev Cert.ReferenceAdamInOddIdeal.nD → PrngReg), Pre_ReferenceAdamInOddIdeal m →
    θ_run (Cert.ReferenceAdamInOddIdeal.defs (F := Ideal)) (onTc (τ := Cert.ReferenceAdamInOddIdeal.τ) (Cert.ReferenceAdamInOddIdeal.main (F := Ideal))) ⟨m, fun _ => 0, g⟩ (fun r => (∀ c : Dev Cert.ReferenceAdamInOddIdeal.nD,
      r.2.mem ((c.tc : Thread Cert.ReferenceAdamInOddIdeal.nD Cert.ReferenceAdamInOddIdeal.τ).loc Cert.ReferenceAdamInOddIdeal.main_arg0) = m ((c.tc : Thread Cert.ReferenceAdamInOddIdeal.nD Cert.ReferenceAdamInOddIdeal.τ).loc Cert.ReferenceAdamInOddIdeal.main_arg0)
      ∧ r.2.mem ((c.tc : Thread Cert.ReferenceAdamInOddIdeal.nD Cert.ReferenceAdamInOddIdeal.τ).loc Cert.ReferenceAdamInOddIdeal.main_arg1) = m ((c.tc : Thread Cert.ReferenceAdamInOddIdeal.nD Cert.ReferenceAdamInOddIdeal.τ).loc Cert.ReferenceAdamInOddIdeal.main_arg1)
      ∧ r.2.mem ((c.tc : Thread Cert.ReferenceAdamInOddIdeal.nD Cert.ReferenceAdamInOddIdeal.τ).loc Cert.ReferenceAdamInOddIdeal.main_arg2) = m ((c.tc : Thread Cert.ReferenceAdamInOddIdeal.nD Cert.ReferenceAdamInOddIdeal.τ).loc Cert.ReferenceAdamInOddIdeal.main_arg2)
      ∧ r.2.mem ((c.tc : Thread Cert.ReferenceAdamInOddIdeal.nD Cert.ReferenceAdamInOddIdeal.τ).loc Cert.ReferenceAdamInOddIdeal.main_arg3) = m ((c.tc : Thread Cert.ReferenceAdamInOddIdeal.nD Cert.ReferenceAdamInOddIdeal.τ).loc Cert.ReferenceAdamInOddIdeal.main_arg3)
      ∧ r.2.mem ((c.tc : Thread Cert.ReferenceAdamInOddIdeal.nD Cert.ReferenceAdamInOddIdeal.τ).loc Cert.ReferenceAdamInOddIdeal.main_arg4) = m ((c.tc : Thread Cert.ReferenceAdamInOddIdeal.nD Cert.ReferenceAdamInOddIdeal.τ).loc Cert.ReferenceAdamInOddIdeal.main_arg4)
      ∧ r.2.mem ((c.tc : Thread Cert.ReferenceAdamInOddIdeal.nD Cert.ReferenceAdamInOddIdeal.τ).loc Cert.ReferenceAdamInOddIdeal.main_arg5) = m ((c.tc : Thread Cert.ReferenceAdamInOddIdeal.nD Cert.ReferenceAdamInOddIdeal.τ).loc Cert.ReferenceAdamInOddIdeal.main_arg5)
      ∧ r.2.mem ((c.tc : Thread Cert.ReferenceAdamInOddIdeal.nD Cert.ReferenceAdamInOddIdeal.τ).loc Cert.ReferenceAdamInOddIdeal.main_arg6) = m ((c.tc : Thread Cert.ReferenceAdamInOddIdeal.nD Cert.ReferenceAdamInOddIdeal.τ).loc Cert.ReferenceAdamInOddIdeal.main_arg6)
      ∧ r.2.mem ((c.tc : Thread Cert.ReferenceAdamInOddIdeal.nD Cert.ReferenceAdamInOddIdeal.τ).loc Cert.ReferenceAdamInOddIdeal.main_arg7) = m ((c.tc : Thread Cert.ReferenceAdamInOddIdeal.nD Cert.ReferenceAdamInOddIdeal.τ).loc Cert.ReferenceAdamInOddIdeal.main_arg7))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3)
      ∧ r.2.mem ((c.tc : Thread Cert.KernelAdamOut.nD Cert.KernelAdamOut.τ).loc Cert.KernelAdamOut.main_arg4) = m ((c.tc : Thread Cert.KernelAdamOut.nD Cert.KernelAdamOut.τ).loc Cert.KernelAdamOut.main_arg4)
      ∧ r.2.mem ((c.tc : Thread Cert.KernelAdamOut.nD Cert.KernelAdamOut.τ).loc Cert.KernelAdamOut.main_arg5) = m ((c.tc : Thread Cert.KernelAdamOut.nD Cert.KernelAdamOut.τ).loc Cert.KernelAdamOut.main_arg5)
      ∧ r.2.mem ((c.tc : Thread Cert.KernelAdamOut.nD Cert.KernelAdamOut.τ).loc Cert.KernelAdamOut.main_arg6) = m ((c.tc : Thread Cert.KernelAdamOut.nD Cert.KernelAdamOut.τ).loc Cert.KernelAdamOut.main_arg6)
      ∧ r.2.mem ((c.tc : Thread Cert.KernelAdamOut.nD Cert.KernelAdamOut.τ).loc Cert.KernelAdamOut.main_arg7) = m ((c.tc : Thread Cert.KernelAdamOut.nD Cert.KernelAdamOut.τ).loc Cert.KernelAdamOut.main_arg7))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
      ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4)
      ∧ r.2.mem ((c.tc : Thread Cert.KernelAdamOutIdeal.nD Cert.KernelAdamOutIdeal.τ).loc Cert.KernelAdamOutIdeal.main_arg5) = m ((c.tc : Thread Cert.KernelAdamOutIdeal.nD Cert.KernelAdamOutIdeal.τ).loc Cert.KernelAdamOutIdeal.main_arg5)
      ∧ r.2.mem ((c.tc : Thread Cert.KernelAdamOutIdeal.nD Cert.KernelAdamOutIdeal.τ).loc Cert.KernelAdamOutIdeal.main_arg6) = m ((c.tc : Thread Cert.KernelAdamOutIdeal.nD Cert.KernelAdamOutIdeal.τ).loc Cert.KernelAdamOutIdeal.main_arg6)
      ∧ r.2.mem ((c.tc : Thread Cert.KernelAdamOutIdeal.nD Cert.KernelAdamOutIdeal.τ).loc Cert.KernelAdamOutIdeal.main_arg7) = m ((c.tc : Thread Cert.KernelAdamOutIdeal.nD Cert.KernelAdamOutIdeal.τ).loc Cert.KernelAdamOutIdeal.main_arg7))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3)
      ∧ r.2.mem ((c.tc : Thread Cert.ReferenceAdamOutIdeal.nD Cert.ReferenceAdamOutIdeal.τ).loc Cert.ReferenceAdamOutIdeal.main_arg4) = m ((c.tc : Thread Cert.ReferenceAdamOutIdeal.nD Cert.ReferenceAdamOutIdeal.τ).loc Cert.ReferenceAdamOutIdeal.main_arg4)
      ∧ r.2.mem ((c.tc : Thread Cert.ReferenceAdamOutIdeal.nD Cert.ReferenceAdamOutIdeal.τ).loc Cert.ReferenceAdamOutIdeal.main_arg5) = m ((c.tc : Thread Cert.ReferenceAdamOutIdeal.nD Cert.ReferenceAdamOutIdeal.τ).loc Cert.ReferenceAdamOutIdeal.main_arg5)
      ∧ r.2.mem ((c.tc : Thread Cert.ReferenceAdamOutIdeal.nD Cert.ReferenceAdamOutIdeal.τ).loc Cert.ReferenceAdamOutIdeal.main_arg6) = m ((c.tc : Thread Cert.ReferenceAdamOutIdeal.nD Cert.ReferenceAdamOutIdeal.τ).loc Cert.ReferenceAdamOutIdeal.main_arg6)
      ∧ r.2.mem ((c.tc : Thread Cert.ReferenceAdamOutIdeal.nD Cert.ReferenceAdamOutIdeal.τ).loc Cert.ReferenceAdamOutIdeal.main_arg7) = m ((c.tc : Thread Cert.ReferenceAdamOutIdeal.nD Cert.ReferenceAdamOutIdeal.τ).loc Cert.ReferenceAdamOutIdeal.main_arg7))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def quiescent_KernelSbFwd [hKernelSbFwd : Cert.KernelSbFwd.Facts] : Prop :=
  ∀ (m : (ℓ : Loc Cert.KernelSbFwd.nD Cert.KernelSbFwd.τ Cert.KernelSbFwd.sig) → Buf (Elt Bits) ℓ) (g : Dev Cert.KernelSbFwd.nD → PrngReg), Pre_KernelSbFwd m →
    θ_run (Cert.KernelSbFwd.defs (F := Bits)) (onTc (τ := Cert.KernelSbFwd.τ) (Cert.KernelSbFwd.main (F := Bits))) ⟨m, fun _ => 0, g⟩ (fun r => (∀ c : Dev Cert.KernelSbFwd.nD,
      r.2.mem ((c.tc : Thread Cert.KernelSbFwd.nD Cert.KernelSbFwd.τ).loc Cert.KernelSbFwd.main_arg0) = m ((c.tc : Thread Cert.KernelSbFwd.nD Cert.KernelSbFwd.τ).loc Cert.KernelSbFwd.main_arg0))
      ∧ r.2.sem = fun _ => 0)

def quiescent_KernelSbFwdIdeal [hKernelSbFwdIdeal : Cert.KernelSbFwdIdeal.Facts] : Prop :=
  ∀ (m : (ℓ : Loc Cert.KernelSbFwdIdeal.nD Cert.KernelSbFwdIdeal.τ Cert.KernelSbFwdIdeal.sig) → Buf (Elt Ideal) ℓ) (g : Dev Cert.KernelSbFwdIdeal.nD → PrngReg), Pre_KernelSbFwdIdeal m →
    θ_run (Cert.KernelSbFwdIdeal.defs (F := Ideal)) (onTc (τ := Cert.KernelSbFwdIdeal.τ) (Cert.KernelSbFwdIdeal.main (F := Ideal))) ⟨m, fun _ => 0, g⟩ (fun r => (∀ c : Dev Cert.KernelSbFwdIdeal.nD,
      r.2.mem ((c.tc : Thread Cert.KernelSbFwdIdeal.nD Cert.KernelSbFwdIdeal.τ).loc Cert.KernelSbFwdIdeal.main_arg0) = m ((c.tc : Thread Cert.KernelSbFwdIdeal.nD Cert.KernelSbFwdIdeal.τ).loc Cert.KernelSbFwdIdeal.main_arg0))
      ∧ r.2.sem = fun _ => 0)

def quiescent_KernelSbFwdIdeal_pre_finite_sb_fwd [hKernelSbFwdIdeal : Cert.KernelSbFwdIdeal.Facts] [hPre_finite_sb_fwd : Cert.Pre_finite_sb_fwd.Facts] : Prop :=
  ∀ (m : (ℓ : Loc Cert.KernelSbFwdIdeal.nD Cert.KernelSbFwdIdeal.τ Cert.KernelSbFwdIdeal.sig) → Buf (Elt Ideal) ℓ) (g : Dev Cert.KernelSbFwdIdeal.nD → PrngReg), Pre_KernelSbFwdIdeal_finite_sb_fwd m →
    θ_run (Cert.KernelSbFwdIdeal.defs (F := Ideal)) (onTc (τ := Cert.KernelSbFwdIdeal.τ) (Cert.KernelSbFwdIdeal.main (F := Ideal))) ⟨m, fun _ => 0, g⟩ (fun r => (∀ c : Dev Cert.KernelSbFwdIdeal.nD,
      r.2.mem ((c.tc : Thread Cert.KernelSbFwdIdeal.nD Cert.KernelSbFwdIdeal.τ).loc Cert.KernelSbFwdIdeal.main_arg0) = m ((c.tc : Thread Cert.KernelSbFwdIdeal.nD Cert.KernelSbFwdIdeal.τ).loc Cert.KernelSbFwdIdeal.main_arg0))
      ∧ r.2.sem = fun _ => 0)

def quiescent_ReferenceSbFwdIdeal [hReferenceSbFwdIdeal : Cert.ReferenceSbFwdIdeal.Facts] : Prop :=
  ∀ (m : (ℓ : Loc Cert.ReferenceSbFwdIdeal.nD Cert.ReferenceSbFwdIdeal.τ Cert.ReferenceSbFwdIdeal.sig) → Buf (Elt Ideal) ℓ) (g : Dev Cert.ReferenceSbFwdIdeal.nD → PrngReg), Pre_ReferenceSbFwdIdeal m →
    θ_run (Cert.ReferenceSbFwdIdeal.defs (F := Ideal)) (onTc (τ := Cert.ReferenceSbFwdIdeal.τ) (Cert.ReferenceSbFwdIdeal.main (F := Ideal))) ⟨m, fun _ => 0, g⟩ (fun r => (∀ c : Dev Cert.ReferenceSbFwdIdeal.nD,
      r.2.mem ((c.tc : Thread Cert.ReferenceSbFwdIdeal.nD Cert.ReferenceSbFwdIdeal.τ).loc Cert.ReferenceSbFwdIdeal.main_arg0) = m ((c.tc : Thread Cert.ReferenceSbFwdIdeal.nD Cert.ReferenceSbFwdIdeal.τ).loc Cert.ReferenceSbFwdIdeal.main_arg0))
      ∧ r.2.sem = fun _ => 0)

def quiescent_ReferenceSbFwdIdeal_pre_finite_sb_fwd [hReferenceSbFwdIdeal : Cert.ReferenceSbFwdIdeal.Facts] [hPre_finite_sb_fwd : Cert.Pre_finite_sb_fwd.Facts] : Prop :=
  ∀ (m : (ℓ : Loc Cert.ReferenceSbFwdIdeal.nD Cert.ReferenceSbFwdIdeal.τ Cert.ReferenceSbFwdIdeal.sig) → Buf (Elt Ideal) ℓ) (g : Dev Cert.ReferenceSbFwdIdeal.nD → PrngReg), Pre_ReferenceSbFwdIdeal_finite_sb_fwd m →
    θ_run (Cert.ReferenceSbFwdIdeal.defs (F := Ideal)) (onTc (τ := Cert.ReferenceSbFwdIdeal.τ) (Cert.ReferenceSbFwdIdeal.main (F := Ideal))) ⟨m, fun _ => 0, g⟩ (fun r => (∀ c : Dev Cert.ReferenceSbFwdIdeal.nD,
      r.2.mem ((c.tc : Thread Cert.ReferenceSbFwdIdeal.nD Cert.ReferenceSbFwdIdeal.τ).loc Cert.ReferenceSbFwdIdeal.main_arg0) = m ((c.tc : Thread Cert.ReferenceSbFwdIdeal.nD Cert.ReferenceSbFwdIdeal.τ).loc Cert.ReferenceSbFwdIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelDownDw_KernelDownDwIdeal : Prop :=
  True

def algebraic_KernelDownDwIdeal_ReferenceDownDwIdeal [hKernelDownDwIdeal : Cert.KernelDownDwIdeal.Facts] [hReferenceDownDwIdeal : Cert.ReferenceDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg)
    (m' : (ℓ : Loc Cert.ReferenceDownDwIdeal.nD Cert.ReferenceDownDwIdeal.τ Cert.ReferenceDownDwIdeal.sig) → Buf (Elt Ideal) ℓ) (g' : Dev Cert.ReferenceDownDwIdeal.nD → PrngReg), Pre_KernelDownDwIdeal m →
    (∀ c : Dev Cert.KernelDownDwIdeal.nD,
      m' ((c.tc : Thread Cert.ReferenceDownDwIdeal.nD Cert.ReferenceDownDwIdeal.τ).loc Cert.ReferenceDownDwIdeal.main_arg0) = m ((c.tc : Thread Cert.KernelDownDwIdeal.nD Cert.KernelDownDwIdeal.τ).loc Cert.KernelDownDwIdeal.main_arg0)
      ∧ m' ((c.tc : Thread Cert.ReferenceDownDwIdeal.nD Cert.ReferenceDownDwIdeal.τ).loc Cert.ReferenceDownDwIdeal.main_arg1) = m ((c.tc : Thread Cert.KernelDownDwIdeal.nD Cert.KernelDownDwIdeal.τ).loc Cert.KernelDownDwIdeal.main_arg1)
      ∧ m' ((c.tc : Thread Cert.ReferenceDownDwIdeal.nD Cert.ReferenceDownDwIdeal.τ).loc Cert.ReferenceDownDwIdeal.main_arg2) = m ((c.tc : Thread Cert.KernelDownDwIdeal.nD Cert.KernelDownDwIdeal.τ).loc Cert.KernelDownDwIdeal.main_arg2)
      ∧ m' ((c.tc : Thread Cert.ReferenceDownDwIdeal.nD Cert.ReferenceDownDwIdeal.τ).loc Cert.ReferenceDownDwIdeal.main_arg3) = m ((c.tc : Thread Cert.KernelDownDwIdeal.nD Cert.KernelDownDwIdeal.τ).loc Cert.KernelDownDwIdeal.main_arg3)) →
    ∃ (v0 : (c : Dev Cert.KernelDownDwIdeal.nD) → Buf (Elt Ideal) ((c.tc : Thread Cert.KernelDownDwIdeal.nD Cert.KernelDownDwIdeal.τ).loc Cert.KernelDownDwIdeal.main_v2)),
      θ_run (Cert.KernelDownDwIdeal.defs (F := Ideal)) (onTc (τ := Cert.KernelDownDwIdeal.τ) (Cert.KernelDownDwIdeal.main (F := Ideal))) ⟨m, fun _ => 0, g⟩ (fun r => ∀ c : Dev Cert.KernelDownDwIdeal.nD,
          r.2.mem ((c.tc : Thread Cert.KernelDownDwIdeal.nD Cert.KernelDownDwIdeal.τ).loc Cert.KernelDownDwIdeal.main_v2) = v0 c
          ∧ r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
          ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1)
          ∧ r.2.mem ((c.tc : Thread Cert.KernelDownDwIdeal.nD Cert.KernelDownDwIdeal.τ).loc Cert.KernelDownDwIdeal.main_arg2) = m ((c.tc : Thread Cert.KernelDownDwIdeal.nD Cert.KernelDownDwIdeal.τ).loc Cert.KernelDownDwIdeal.main_arg2)
          ∧ r.2.mem ((c.tc : Thread Cert.KernelDownDwIdeal.nD Cert.KernelDownDwIdeal.τ).loc Cert.KernelDownDwIdeal.main_arg3) = m ((c.tc : Thread Cert.KernelDownDwIdeal.nD Cert.KernelDownDwIdeal.τ).loc Cert.KernelDownDwIdeal.main_arg3))
      ∧ θ_run (Cert.ReferenceDownDwIdeal.defs (F := Ideal)) (onTc (τ := Cert.ReferenceDownDwIdeal.τ) (Cert.ReferenceDownDwIdeal.main (F := Ideal))) ⟨m', fun _ => 0, g'⟩ (fun r => ∀ c : Dev Cert.ReferenceDownDwIdeal.nD,
          r.2.mem ((c.tc : Thread Cert.ReferenceDownDwIdeal.nD Cert.ReferenceDownDwIdeal.τ).loc Cert.ReferenceDownDwIdeal.main_v7) = v0 c
          ∧ r.2.mem ((c.tc : Thread Cert.ReferenceDownDwIdeal.nD Cert.ReferenceDownDwIdeal.τ).loc Cert.ReferenceDownDwIdeal.main_arg0) = m' ((c.tc : Thread Cert.ReferenceDownDwIdeal.nD Cert.ReferenceDownDwIdeal.τ).loc Cert.ReferenceDownDwIdeal.main_arg0)
          ∧ r.2.mem ((c.tc : Thread Cert.ReferenceDownDwIdeal.nD Cert.ReferenceDownDwIdeal.τ).loc Cert.ReferenceDownDwIdeal.main_arg1) = m' ((c.tc : Thread Cert.ReferenceDownDwIdeal.nD Cert.ReferenceDownDwIdeal.τ).loc Cert.ReferenceDownDwIdeal.main_arg1)
          ∧ r.2.mem ((c.tc : Thread Cert.ReferenceDownDwIdeal.nD Cert.ReferenceDownDwIdeal.τ).loc Cert.ReferenceDownDwIdeal.main_arg2) = m' ((c.tc : Thread Cert.ReferenceDownDwIdeal.nD Cert.ReferenceDownDwIdeal.τ).loc Cert.ReferenceDownDwIdeal.main_arg2)
          ∧ r.2.mem ((c.tc : Thread Cert.ReferenceDownDwIdeal.nD Cert.ReferenceDownDwIdeal.τ).loc Cert.ReferenceDownDwIdeal.main_arg3) = m' ((c.tc : Thread Cert.ReferenceDownDwIdeal.nD Cert.ReferenceDownDwIdeal.τ).loc Cert.ReferenceDownDwIdeal.main_arg3))

def preserves_KernelUpDw_KernelUpDwIdeal : Prop :=
  True

def algebraic_KernelUpDwIdeal_ReferenceUpDwIdeal [hKernelUpDwIdeal : Cert.KernelUpDwIdeal.Facts] [hReferenceUpDwIdeal : Cert.ReferenceUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg)
    (m' : (ℓ : Loc Cert.ReferenceUpDwIdeal.nD Cert.ReferenceUpDwIdeal.τ Cert.ReferenceUpDwIdeal.sig) → Buf (Elt Ideal) ℓ) (g' : Dev Cert.ReferenceUpDwIdeal.nD → PrngReg), Pre_KernelUpDwIdeal m →
    (∀ c : Dev Cert.KernelUpDwIdeal.nD,
      m' ((c.tc : Thread Cert.ReferenceUpDwIdeal.nD Cert.ReferenceUpDwIdeal.τ).loc Cert.ReferenceUpDwIdeal.main_arg0) = m ((c.tc : Thread Cert.KernelUpDwIdeal.nD Cert.KernelUpDwIdeal.τ).loc Cert.KernelUpDwIdeal.main_arg0)
      ∧ m' ((c.tc : Thread Cert.ReferenceUpDwIdeal.nD Cert.ReferenceUpDwIdeal.τ).loc Cert.ReferenceUpDwIdeal.main_arg1) = m ((c.tc : Thread Cert.KernelUpDwIdeal.nD Cert.KernelUpDwIdeal.τ).loc Cert.KernelUpDwIdeal.main_arg1)
      ∧ m' ((c.tc : Thread Cert.ReferenceUpDwIdeal.nD Cert.ReferenceUpDwIdeal.τ).loc Cert.ReferenceUpDwIdeal.main_arg2) = m ((c.tc : Thread Cert.KernelUpDwIdeal.nD Cert.KernelUpDwIdeal.τ).loc Cert.KernelUpDwIdeal.main_arg2)
      ∧ m' ((c.tc : Thread Cert.ReferenceUpDwIdeal.nD Cert.ReferenceUpDwIdeal.τ).loc Cert.ReferenceUpDwIdeal.main_arg3) = m ((c.tc : Thread Cert.KernelUpDwIdeal.nD Cert.KernelUpDwIdeal.τ).loc Cert.KernelUpDwIdeal.main_arg3)) →
    ∃ (v0 : (c : Dev Cert.KernelUpDwIdeal.nD) → Buf (Elt Ideal) ((c.tc : Thread Cert.KernelUpDwIdeal.nD Cert.KernelUpDwIdeal.τ).loc Cert.KernelUpDwIdeal.main_v10)),
      θ_run (Cert.KernelUpDwIdeal.defs (F := Ideal)) (onTc (τ := Cert.KernelUpDwIdeal.τ) (Cert.KernelUpDwIdeal.main (F := Ideal))) ⟨m, fun _ => 0, g⟩ (fun r => ∀ c : Dev Cert.KernelUpDwIdeal.nD,
          r.2.mem ((c.tc : Thread Cert.KernelUpDwIdeal.nD Cert.KernelUpDwIdeal.τ).loc Cert.KernelUpDwIdeal.main_v10) = v0 c
          ∧ r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
          ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1)
          ∧ r.2.mem ((c.tc : Thread Cert.KernelUpDwIdeal.nD Cert.KernelUpDwIdeal.τ).loc Cert.KernelUpDwIdeal.main_arg2) = m ((c.tc : Thread Cert.KernelUpDwIdeal.nD Cert.KernelUpDwIdeal.τ).loc Cert.KernelUpDwIdeal.main_arg2)
          ∧ r.2.mem ((c.tc : Thread Cert.KernelUpDwIdeal.nD Cert.KernelUpDwIdeal.τ).loc Cert.KernelUpDwIdeal.main_arg3) = m ((c.tc : Thread Cert.KernelUpDwIdeal.nD Cert.KernelUpDwIdeal.τ).loc Cert.KernelUpDwIdeal.main_arg3))
      ∧ θ_run (Cert.ReferenceUpDwIdeal.defs (F := Ideal)) (onTc (τ := Cert.ReferenceUpDwIdeal.τ) (Cert.ReferenceUpDwIdeal.main (F := Ideal))) ⟨m', fun _ => 0, g'⟩ (fun r => ∀ c : Dev Cert.ReferenceUpDwIdeal.nD,
          r.2.mem ((c.tc : Thread Cert.ReferenceUpDwIdeal.nD Cert.ReferenceUpDwIdeal.τ).loc Cert.ReferenceUpDwIdeal.main_v3) = v0 c
          ∧ r.2.mem ((c.tc : Thread Cert.ReferenceUpDwIdeal.nD Cert.ReferenceUpDwIdeal.τ).loc Cert.ReferenceUpDwIdeal.main_arg0) = m' ((c.tc : Thread Cert.ReferenceUpDwIdeal.nD Cert.ReferenceUpDwIdeal.τ).loc Cert.ReferenceUpDwIdeal.main_arg0)
          ∧ r.2.mem ((c.tc : Thread Cert.ReferenceUpDwIdeal.nD Cert.ReferenceUpDwIdeal.τ).loc Cert.ReferenceUpDwIdeal.main_arg1) = m' ((c.tc : Thread Cert.ReferenceUpDwIdeal.nD Cert.ReferenceUpDwIdeal.τ).loc Cert.ReferenceUpDwIdeal.main_arg1)
          ∧ r.2.mem ((c.tc : Thread Cert.ReferenceUpDwIdeal.nD Cert.ReferenceUpDwIdeal.τ).loc Cert.ReferenceUpDwIdeal.main_arg2) = m' ((c.tc : Thread Cert.ReferenceUpDwIdeal.nD Cert.ReferenceUpDwIdeal.τ).loc Cert.ReferenceUpDwIdeal.main_arg2)
          ∧ r.2.mem ((c.tc : Thread Cert.ReferenceUpDwIdeal.nD Cert.ReferenceUpDwIdeal.τ).loc Cert.ReferenceUpDwIdeal.main_arg3) = m' ((c.tc : Thread Cert.ReferenceUpDwIdeal.nD Cert.ReferenceUpDwIdeal.τ).loc Cert.ReferenceUpDwIdeal.main_arg3))

def preserves_KernelDownBwd_KernelDownBwdIdeal : Prop :=
  True

def algebraic_KernelDownBwdIdeal_ReferenceDownBwdIdeal_pre_finite_down_bwd [hKernelDownBwdIdeal : Cert.KernelDownBwdIdeal.Facts] [hReferenceDownBwdIdeal : Cert.ReferenceDownBwdIdeal.Facts] [hPre_finite_down_bwd : Cert.Pre_finite_down_bwd.Facts] : Prop :=
  ∀ (m : (ℓ : Loc Cert.KernelDownBwdIdeal.nD Cert.KernelDownBwdIdeal.τ Cert.KernelDownBwdIdeal.sig) → Buf (Elt Ideal) ℓ) (g : Dev Cert.KernelDownBwdIdeal.nD → PrngReg)
    (m' : (ℓ : Loc Cert.ReferenceDownBwdIdeal.nD Cert.ReferenceDownBwdIdeal.τ Cert.ReferenceDownBwdIdeal.sig) → Buf (Elt Ideal) ℓ) (g' : Dev Cert.ReferenceDownBwdIdeal.nD → PrngReg), Pre_KernelDownBwdIdeal_finite_down_bwd m →
    (∀ c : Dev Cert.KernelDownBwdIdeal.nD,
      m' ((c.tc : Thread Cert.ReferenceDownBwdIdeal.nD Cert.ReferenceDownBwdIdeal.τ).loc Cert.ReferenceDownBwdIdeal.main_arg0) = m ((c.tc : Thread Cert.KernelDownBwdIdeal.nD Cert.KernelDownBwdIdeal.τ).loc Cert.KernelDownBwdIdeal.main_arg0)
      ∧ m' ((c.tc : Thread Cert.ReferenceDownBwdIdeal.nD Cert.ReferenceDownBwdIdeal.τ).loc Cert.ReferenceDownBwdIdeal.main_arg1) = m ((c.tc : Thread Cert.KernelDownBwdIdeal.nD Cert.KernelDownBwdIdeal.τ).loc Cert.KernelDownBwdIdeal.main_arg1)
      ∧ m' ((c.tc : Thread Cert.ReferenceDownBwdIdeal.nD Cert.ReferenceDownBwdIdeal.τ).loc Cert.ReferenceDownBwdIdeal.main_arg2) = m ((c.tc : Thread Cert.KernelDownBwdIdeal.nD Cert.KernelDownBwdIdeal.τ).loc Cert.KernelDownBwdIdeal.main_arg2)
      ∧ m' ((c.tc : Thread Cert.ReferenceDownBwdIdeal.nD Cert.ReferenceDownBwdIdeal.τ).loc Cert.ReferenceDownBwdIdeal.main_arg3) = m ((c.tc : Thread Cert.KernelDownBwdIdeal.nD Cert.KernelDownBwdIdeal.τ).loc Cert.KernelDownBwdIdeal.main_arg3)) →
    ∃ (v0 : (c : Dev Cert.KernelDownBwdIdeal.nD) → Buf (Elt Ideal) ((c.tc : Thread Cert.KernelDownBwdIdeal.nD Cert.KernelDownBwdIdeal.τ).loc Cert.KernelDownBwdIdeal.main_v7)),
      θ_run (Cert.KernelDownBwdIdeal.defs (F := Ideal)) (onTc (τ := Cert.KernelDownBwdIdeal.τ) (Cert.KernelDownBwdIdeal.main (F := Ideal))) ⟨m, fun _ => 0, g⟩ (fun r => ∀ c : Dev Cert.KernelDownBwdIdeal.nD,
          r.2.mem ((c.tc : Thread Cert.KernelDownBwdIdeal.nD Cert.KernelDownBwdIdeal.τ).loc Cert.KernelDownBwdIdeal.main_v7) = v0 c
          ∧ r.2.mem ((c.tc : Thread Cert.KernelDownBwdIdeal.nD Cert.KernelDownBwdIdeal.τ).loc Cert.KernelDownBwdIdeal.main_arg0) = m ((c.tc : Thread Cert.KernelDownBwdIdeal.nD Cert.KernelDownBwdIdeal.τ).loc Cert.KernelDownBwdIdeal.main_arg0)
          ∧ r.2.mem ((c.tc : Thread Cert.KernelDownBwdIdeal.nD Cert.KernelDownBwdIdeal.τ).loc Cert.KernelDownBwdIdeal.main_arg1) = m ((c.tc : Thread Cert.KernelDownBwdIdeal.nD Cert.KernelDownBwdIdeal.τ).loc Cert.KernelDownBwdIdeal.main_arg1)
          ∧ r.2.mem ((c.tc : Thread Cert.KernelDownBwdIdeal.nD Cert.KernelDownBwdIdeal.τ).loc Cert.KernelDownBwdIdeal.main_arg2) = m ((c.tc : Thread Cert.KernelDownBwdIdeal.nD Cert.KernelDownBwdIdeal.τ).loc Cert.KernelDownBwdIdeal.main_arg2)
          ∧ r.2.mem ((c.tc : Thread Cert.KernelDownBwdIdeal.nD Cert.KernelDownBwdIdeal.τ).loc Cert.KernelDownBwdIdeal.main_arg3) = m ((c.tc : Thread Cert.KernelDownBwdIdeal.nD Cert.KernelDownBwdIdeal.τ).loc Cert.KernelDownBwdIdeal.main_arg3))
      ∧ θ_run (Cert.ReferenceDownBwdIdeal.defs (F := Ideal)) (onTc (τ := Cert.ReferenceDownBwdIdeal.τ) (Cert.ReferenceDownBwdIdeal.main (F := Ideal))) ⟨m', fun _ => 0, g'⟩ (fun r => ∀ c : Dev Cert.ReferenceDownBwdIdeal.nD,
          r.2.mem ((c.tc : Thread Cert.ReferenceDownBwdIdeal.nD Cert.ReferenceDownBwdIdeal.τ).loc Cert.ReferenceDownBwdIdeal.main_v14) = v0 c
          ∧ r.2.mem ((c.tc : Thread Cert.ReferenceDownBwdIdeal.nD Cert.ReferenceDownBwdIdeal.τ).loc Cert.ReferenceDownBwdIdeal.main_arg0) = m' ((c.tc : Thread Cert.ReferenceDownBwdIdeal.nD Cert.ReferenceDownBwdIdeal.τ).loc Cert.ReferenceDownBwdIdeal.main_arg0)
          ∧ r.2.mem ((c.tc : Thread Cert.ReferenceDownBwdIdeal.nD Cert.ReferenceDownBwdIdeal.τ).loc Cert.ReferenceDownBwdIdeal.main_arg1) = m' ((c.tc : Thread Cert.ReferenceDownBwdIdeal.nD Cert.ReferenceDownBwdIdeal.τ).loc Cert.ReferenceDownBwdIdeal.main_arg1)
          ∧ r.2.mem ((c.tc : Thread Cert.ReferenceDownBwdIdeal.nD Cert.ReferenceDownBwdIdeal.τ).loc Cert.ReferenceDownBwdIdeal.main_arg2) = m' ((c.tc : Thread Cert.ReferenceDownBwdIdeal.nD Cert.ReferenceDownBwdIdeal.τ).loc Cert.ReferenceDownBwdIdeal.main_arg2)
          ∧ r.2.mem ((c.tc : Thread Cert.ReferenceDownBwdIdeal.nD Cert.ReferenceDownBwdIdeal.τ).loc Cert.ReferenceDownBwdIdeal.main_arg3) = m' ((c.tc : Thread Cert.ReferenceDownBwdIdeal.nD Cert.ReferenceDownBwdIdeal.τ).loc Cert.ReferenceDownBwdIdeal.main_arg3))

def preserves_KernelUpBwd_KernelUpBwdIdeal : Prop :=
  True

def algebraic_KernelUpBwdIdeal_ReferenceUpBwdIdeal [hKernelUpBwdIdeal : Cert.KernelUpBwdIdeal.Facts] [hReferenceUpBwdIdeal : Cert.ReferenceUpBwdIdeal.Facts] : Prop :=
  ∀ (m : (ℓ : Loc Cert.KernelUpBwdIdeal.nD Cert.KernelUpBwdIdeal.τ Cert.KernelUpBwdIdeal.sig) → Buf (Elt Ideal) ℓ) (g : Dev Cert.KernelUpBwdIdeal.nD → PrngReg)
    (m' : (ℓ : Loc Cert.ReferenceUpBwdIdeal.nD Cert.ReferenceUpBwdIdeal.τ Cert.ReferenceUpBwdIdeal.sig) → Buf (Elt Ideal) ℓ) (g' : Dev Cert.ReferenceUpBwdIdeal.nD → PrngReg), Pre_KernelUpBwdIdeal m →
    (∀ c : Dev Cert.KernelUpBwdIdeal.nD,
      m' ((c.tc : Thread Cert.ReferenceUpBwdIdeal.nD Cert.ReferenceUpBwdIdeal.τ).loc Cert.ReferenceUpBwdIdeal.main_arg0) = m ((c.tc : Thread Cert.KernelUpBwdIdeal.nD Cert.KernelUpBwdIdeal.τ).loc Cert.KernelUpBwdIdeal.main_arg0)
      ∧ m' ((c.tc : Thread Cert.ReferenceUpBwdIdeal.nD Cert.ReferenceUpBwdIdeal.τ).loc Cert.ReferenceUpBwdIdeal.main_arg1) = m ((c.tc : Thread Cert.KernelUpBwdIdeal.nD Cert.KernelUpBwdIdeal.τ).loc Cert.KernelUpBwdIdeal.main_arg1)
      ∧ m' ((c.tc : Thread Cert.ReferenceUpBwdIdeal.nD Cert.ReferenceUpBwdIdeal.τ).loc Cert.ReferenceUpBwdIdeal.main_arg2) = m ((c.tc : Thread Cert.KernelUpBwdIdeal.nD Cert.KernelUpBwdIdeal.τ).loc Cert.KernelUpBwdIdeal.main_arg2)
      ∧ m' ((c.tc : Thread Cert.ReferenceUpBwdIdeal.nD Cert.ReferenceUpBwdIdeal.τ).loc Cert.ReferenceUpBwdIdeal.main_arg3) = m ((c.tc : Thread Cert.KernelUpBwdIdeal.nD Cert.KernelUpBwdIdeal.τ).loc Cert.KernelUpBwdIdeal.main_arg3)
      ∧ m' ((c.tc : Thread Cert.ReferenceUpBwdIdeal.nD Cert.ReferenceUpBwdIdeal.τ).loc Cert.ReferenceUpBwdIdeal.main_arg4) = m ((c.tc : Thread Cert.KernelUpBwdIdeal.nD Cert.KernelUpBwdIdeal.τ).loc Cert.KernelUpBwdIdeal.main_arg4)) →
    ∃ (v0 : (c : Dev Cert.KernelUpBwdIdeal.nD) → Buf (Elt Ideal) ((c.tc : Thread Cert.KernelUpBwdIdeal.nD Cert.KernelUpBwdIdeal.τ).loc Cert.KernelUpBwdIdeal.main_v9_0)) (v1 : (c : Dev Cert.KernelUpBwdIdeal.nD) → Buf (Elt Ideal) ((c.tc : Thread Cert.KernelUpBwdIdeal.nD Cert.KernelUpBwdIdeal.τ).loc Cert.KernelUpBwdIdeal.main_v9_1)) (v2 : (c : Dev Cert.KernelUpBwdIdeal.nD) → Buf (Elt Ideal) ((c.tc : Thread Cert.KernelUpBwdIdeal.nD Cert.KernelUpBwdIdeal.τ).loc Cert.KernelUpBwdIdeal.main_v9_2)),
      θ_run (Cert.KernelUpBwdIdeal.defs (F := Ideal)) (onTc (τ := Cert.KernelUpBwdIdeal.τ) (Cert.KernelUpBwdIdeal.main (F := Ideal))) ⟨m, fun _ => 0, g⟩ (fun r => ∀ c : Dev Cert.KernelUpBwdIdeal.nD,
          r.2.mem ((c.tc : Thread Cert.KernelUpBwdIdeal.nD Cert.KernelUpBwdIdeal.τ).loc Cert.KernelUpBwdIdeal.main_v9_0) = v0 c
          ∧ r.2.mem ((c.tc : Thread Cert.KernelUpBwdIdeal.nD Cert.KernelUpBwdIdeal.τ).loc Cert.KernelUpBwdIdeal.main_v9_1) = v1 c
          ∧ r.2.mem ((c.tc : Thread Cert.KernelUpBwdIdeal.nD Cert.KernelUpBwdIdeal.τ).loc Cert.KernelUpBwdIdeal.main_v9_2) = v2 c
          ∧ r.2.mem ((c.tc : Thread Cert.KernelUpBwdIdeal.nD Cert.KernelUpBwdIdeal.τ).loc Cert.KernelUpBwdIdeal.main_arg0) = m ((c.tc : Thread Cert.KernelUpBwdIdeal.nD Cert.KernelUpBwdIdeal.τ).loc Cert.KernelUpBwdIdeal.main_arg0)
          ∧ r.2.mem ((c.tc : Thread Cert.KernelUpBwdIdeal.nD Cert.KernelUpBwdIdeal.τ).loc Cert.KernelUpBwdIdeal.main_arg1) = m ((c.tc : Thread Cert.KernelUpBwdIdeal.nD Cert.KernelUpBwdIdeal.τ).loc Cert.KernelUpBwdIdeal.main_arg1)
          ∧ r.2.mem ((c.tc : Thread Cert.KernelUpBwdIdeal.nD Cert.KernelUpBwdIdeal.τ).loc Cert.KernelUpBwdIdeal.main_arg2) = m ((c.tc : Thread Cert.KernelUpBwdIdeal.nD Cert.KernelUpBwdIdeal.τ).loc Cert.KernelUpBwdIdeal.main_arg2)
          ∧ r.2.mem ((c.tc : Thread Cert.KernelUpBwdIdeal.nD Cert.KernelUpBwdIdeal.τ).loc Cert.KernelUpBwdIdeal.main_arg3) = m ((c.tc : Thread Cert.KernelUpBwdIdeal.nD Cert.KernelUpBwdIdeal.τ).loc Cert.KernelUpBwdIdeal.main_arg3)
          ∧ r.2.mem ((c.tc : Thread Cert.KernelUpBwdIdeal.nD Cert.KernelUpBwdIdeal.τ).loc Cert.KernelUpBwdIdeal.main_arg4) = m ((c.tc : Thread Cert.KernelUpBwdIdeal.nD Cert.KernelUpBwdIdeal.τ).loc Cert.KernelUpBwdIdeal.main_arg4))
      ∧ θ_run (Cert.ReferenceUpBwdIdeal.defs (F := Ideal)) (onTc (τ := Cert.ReferenceUpBwdIdeal.τ) (Cert.ReferenceUpBwdIdeal.main (F := Ideal))) ⟨m', fun _ => 0, g'⟩ (fun r => ∀ c : Dev Cert.ReferenceUpBwdIdeal.nD,
          r.2.mem ((c.tc : Thread Cert.ReferenceUpBwdIdeal.nD Cert.ReferenceUpBwdIdeal.τ).loc Cert.ReferenceUpBwdIdeal.main_v38) = v0 c
          ∧ r.2.mem ((c.tc : Thread Cert.ReferenceUpBwdIdeal.nD Cert.ReferenceUpBwdIdeal.τ).loc Cert.ReferenceUpBwdIdeal.main_v39) = v1 c
          ∧ r.2.mem ((c.tc : Thread Cert.ReferenceUpBwdIdeal.nD Cert.ReferenceUpBwdIdeal.τ).loc Cert.ReferenceUpBwdIdeal.main_v40) = v2 c
          ∧ r.2.mem ((c.tc : Thread Cert.ReferenceUpBwdIdeal.nD Cert.ReferenceUpBwdIdeal.τ).loc Cert.ReferenceUpBwdIdeal.main_arg0) = m' ((c.tc : Thread Cert.ReferenceUpBwdIdeal.nD Cert.ReferenceUpBwdIdeal.τ).loc Cert.ReferenceUpBwdIdeal.main_arg0)
          ∧ r.2.mem ((c.tc : Thread Cert.ReferenceUpBwdIdeal.nD Cert.ReferenceUpBwdIdeal.τ).loc Cert.ReferenceUpBwdIdeal.main_arg1) = m' ((c.tc : Thread Cert.ReferenceUpBwdIdeal.nD Cert.ReferenceUpBwdIdeal.τ).loc Cert.ReferenceUpBwdIdeal.main_arg1)
          ∧ r.2.mem ((c.tc : Thread Cert.ReferenceUpBwdIdeal.nD Cert.ReferenceUpBwdIdeal.τ).loc Cert.ReferenceUpBwdIdeal.main_arg2) = m' ((c.tc : Thread Cert.ReferenceUpBwdIdeal.nD Cert.ReferenceUpBwdIdeal.τ).loc Cert.ReferenceUpBwdIdeal.main_arg2)
          ∧ r.2.mem ((c.tc : Thread Cert.ReferenceUpBwdIdeal.nD Cert.ReferenceUpBwdIdeal.τ).loc Cert.ReferenceUpBwdIdeal.main_arg3) = m' ((c.tc : Thread Cert.ReferenceUpBwdIdeal.nD Cert.ReferenceUpBwdIdeal.τ).loc Cert.ReferenceUpBwdIdeal.main_arg3)
          ∧ r.2.mem ((c.tc : Thread Cert.ReferenceUpBwdIdeal.nD Cert.ReferenceUpBwdIdeal.τ).loc Cert.ReferenceUpBwdIdeal.main_arg4) = m' ((c.tc : Thread Cert.ReferenceUpBwdIdeal.nD Cert.ReferenceUpBwdIdeal.τ).loc Cert.ReferenceUpBwdIdeal.main_arg4))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v3_0)) (v1 : (c : Dev Cert.KernelUpIdeal.nD) → Buf (Elt Ideal) ((c.tc : Thread Cert.KernelUpIdeal.nD Cert.KernelUpIdeal.τ).loc Cert.KernelUpIdeal.main_v3_1)) (v2 : (c : Dev Cert.KernelUpIdeal.nD) → Buf (Elt Ideal) ((c.tc : Thread Cert.KernelUpIdeal.nD Cert.KernelUpIdeal.τ).loc Cert.KernelUpIdeal.main_v3_2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v3_0) = v0 c
          ∧ r.2.mem ((c.tc : Thread Cert.KernelUpIdeal.nD Cert.KernelUpIdeal.τ).loc Cert.KernelUpIdeal.main_v3_1) = v1 c
          ∧ r.2.mem ((c.tc : Thread Cert.KernelUpIdeal.nD Cert.KernelUpIdeal.τ).loc Cert.KernelUpIdeal.main_v3_2) = v2 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v21) = v0 c
          ∧ r.2.mem ((c.tc : Thread Cert.ReferenceUpIdeal.nD Cert.ReferenceUpIdeal.τ).loc Cert.ReferenceUpIdeal.main_v22) = v1 c
          ∧ r.2.mem ((c.tc : Thread Cert.ReferenceUpIdeal.nD Cert.ReferenceUpIdeal.τ).loc Cert.ReferenceUpIdeal.main_v26) = v2 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v3)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v3) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelOutFwd_KernelOutFwdIdeal : Prop :=
  True

def algebraic_KernelOutFwdIdeal_ReferenceOutFwdIdeal [hKernelOutFwdIdeal : Cert.KernelOutFwdIdeal.Facts] [hReferenceOutFwdIdeal : Cert.ReferenceOutFwdIdeal.Facts] : Prop :=
  ∀ (m : (ℓ : Loc Cert.KernelOutFwdIdeal.nD Cert.KernelOutFwdIdeal.τ Cert.KernelOutFwdIdeal.sig) → Buf (Elt Ideal) ℓ) (g : Dev Cert.KernelOutFwdIdeal.nD → PrngReg)
    (m' : (ℓ : Loc Cert.ReferenceOutFwdIdeal.nD Cert.ReferenceOutFwdIdeal.τ Cert.ReferenceOutFwdIdeal.sig) → Buf (Elt Ideal) ℓ) (g' : Dev Cert.ReferenceOutFwdIdeal.nD → PrngReg), Pre_KernelOutFwdIdeal m →
    (∀ c : Dev Cert.KernelOutFwdIdeal.nD,
      m' ((c.tc : Thread Cert.ReferenceOutFwdIdeal.nD Cert.ReferenceOutFwdIdeal.τ).loc Cert.ReferenceOutFwdIdeal.main_arg0) = m ((c.tc : Thread Cert.KernelOutFwdIdeal.nD Cert.KernelOutFwdIdeal.τ).loc Cert.KernelOutFwdIdeal.main_arg0)
      ∧ m' ((c.tc : Thread Cert.ReferenceOutFwdIdeal.nD Cert.ReferenceOutFwdIdeal.τ).loc Cert.ReferenceOutFwdIdeal.main_arg1) = m ((c.tc : Thread Cert.KernelOutFwdIdeal.nD Cert.KernelOutFwdIdeal.τ).loc Cert.KernelOutFwdIdeal.main_arg1)
      ∧ m' ((c.tc : Thread Cert.ReferenceOutFwdIdeal.nD Cert.ReferenceOutFwdIdeal.τ).loc Cert.ReferenceOutFwdIdeal.main_arg2) = m ((c.tc : Thread Cert.KernelOutFwdIdeal.nD Cert.KernelOutFwdIdeal.τ).loc Cert.KernelOutFwdIdeal.main_arg2)) →
    ∃ (v0 : (c : Dev Cert.KernelOutFwdIdeal.nD) → Buf (Elt Ideal) ((c.tc : Thread Cert.KernelOutFwdIdeal.nD Cert.KernelOutFwdIdeal.τ).loc Cert.KernelOutFwdIdeal.main_v3)),
      θ_run (Cert.KernelOutFwdIdeal.defs (F := Ideal)) (onTc (τ := Cert.KernelOutFwdIdeal.τ) (Cert.KernelOutFwdIdeal.main (F := Ideal))) ⟨m, fun _ => 0, g⟩ (fun r => ∀ c : Dev Cert.KernelOutFwdIdeal.nD,
          r.2.mem ((c.tc : Thread Cert.KernelOutFwdIdeal.nD Cert.KernelOutFwdIdeal.τ).loc Cert.KernelOutFwdIdeal.main_v3) = v0 c
          ∧ r.2.mem ((c.tc : Thread Cert.KernelOutFwdIdeal.nD Cert.KernelOutFwdIdeal.τ).loc Cert.KernelOutFwdIdeal.main_arg0) = m ((c.tc : Thread Cert.KernelOutFwdIdeal.nD Cert.KernelOutFwdIdeal.τ).loc Cert.KernelOutFwdIdeal.main_arg0)
          ∧ r.2.mem ((c.tc : Thread Cert.KernelOutFwdIdeal.nD Cert.KernelOutFwdIdeal.τ).loc Cert.KernelOutFwdIdeal.main_arg1) = m ((c.tc : Thread Cert.KernelOutFwdIdeal.nD Cert.KernelOutFwdIdeal.τ).loc Cert.KernelOutFwdIdeal.main_arg1)
          ∧ r.2.mem ((c.tc : Thread Cert.KernelOutFwdIdeal.nD Cert.KernelOutFwdIdeal.τ).loc Cert.KernelOutFwdIdeal.main_arg2) = m ((c.tc : Thread Cert.KernelOutFwdIdeal.nD Cert.KernelOutFwdIdeal.τ).loc Cert.KernelOutFwdIdeal.main_arg2))
      ∧ θ_run (Cert.ReferenceOutFwdIdeal.defs (F := Ideal)) (onTc (τ := Cert.ReferenceOutFwdIdeal.τ) (Cert.ReferenceOutFwdIdeal.main (F := Ideal))) ⟨m', fun _ => 0, g'⟩ (fun r => ∀ c : Dev Cert.ReferenceOutFwdIdeal.nD,
          r.2.mem ((c.tc : Thread Cert.ReferenceOutFwdIdeal.nD Cert.ReferenceOutFwdIdeal.τ).loc Cert.ReferenceOutFwdIdeal.main_v1) = v0 c
          ∧ r.2.mem ((c.tc : Thread Cert.ReferenceOutFwdIdeal.nD Cert.ReferenceOutFwdIdeal.τ).loc Cert.ReferenceOutFwdIdeal.main_arg0) = m' ((c.tc : Thread Cert.ReferenceOutFwdIdeal.nD Cert.ReferenceOutFwdIdeal.τ).loc Cert.ReferenceOutFwdIdeal.main_arg0)
          ∧ r.2.mem ((c.tc : Thread Cert.ReferenceOutFwdIdeal.nD Cert.ReferenceOutFwdIdeal.τ).loc Cert.ReferenceOutFwdIdeal.main_arg1) = m' ((c.tc : Thread Cert.ReferenceOutFwdIdeal.nD Cert.ReferenceOutFwdIdeal.τ).loc Cert.ReferenceOutFwdIdeal.main_arg1)
          ∧ r.2.mem ((c.tc : Thread Cert.ReferenceOutFwdIdeal.nD Cert.ReferenceOutFwdIdeal.τ).loc Cert.ReferenceOutFwdIdeal.main_arg2) = m' ((c.tc : Thread Cert.ReferenceOutFwdIdeal.nD Cert.ReferenceOutFwdIdeal.τ).loc Cert.ReferenceOutFwdIdeal.main_arg2))

def preserves_KernelOutBwd_KernelOutBwdIdeal : Prop :=
  True

def algebraic_KernelOutBwdIdeal_ReferenceOutBwdIdeal [hKernelOutBwdIdeal : Cert.KernelOutBwdIdeal.Facts] [hReferenceOutBwdIdeal : Cert.ReferenceOutBwdIdeal.Facts] : Prop :=
  ∀ (m : (ℓ : Loc Cert.KernelOutBwdIdeal.nD Cert.KernelOutBwdIdeal.τ Cert.KernelOutBwdIdeal.sig) → Buf (Elt Ideal) ℓ) (g : Dev Cert.KernelOutBwdIdeal.nD → PrngReg)
    (m' : (ℓ : Loc Cert.ReferenceOutBwdIdeal.nD Cert.ReferenceOutBwdIdeal.τ Cert.ReferenceOutBwdIdeal.sig) → Buf (Elt Ideal) ℓ) (g' : Dev Cert.ReferenceOutBwdIdeal.nD → PrngReg), Pre_KernelOutBwdIdeal m →
    (∀ c : Dev Cert.KernelOutBwdIdeal.nD,
      m' ((c.tc : Thread Cert.ReferenceOutBwdIdeal.nD Cert.ReferenceOutBwdIdeal.τ).loc Cert.ReferenceOutBwdIdeal.main_arg0) = m ((c.tc : Thread Cert.KernelOutBwdIdeal.nD Cert.KernelOutBwdIdeal.τ).loc Cert.KernelOutBwdIdeal.main_arg0)
      ∧ m' ((c.tc : Thread Cert.ReferenceOutBwdIdeal.nD Cert.ReferenceOutBwdIdeal.τ).loc Cert.ReferenceOutBwdIdeal.main_arg1) = m ((c.tc : Thread Cert.KernelOutBwdIdeal.nD Cert.KernelOutBwdIdeal.τ).loc Cert.KernelOutBwdIdeal.main_arg1)
      ∧ m' ((c.tc : Thread Cert.ReferenceOutBwdIdeal.nD Cert.ReferenceOutBwdIdeal.τ).loc Cert.ReferenceOutBwdIdeal.main_arg2) = m ((c.tc : Thread Cert.KernelOutBwdIdeal.nD Cert.KernelOutBwdIdeal.τ).loc Cert.KernelOutBwdIdeal.main_arg2)) →
    ∃ (v0 : (c : Dev Cert.KernelOutBwdIdeal.nD) → Buf (Elt Ideal) ((c.tc : Thread Cert.KernelOutBwdIdeal.nD Cert.KernelOutBwdIdeal.τ).loc Cert.KernelOutBwdIdeal.main_v3)),
      θ_run (Cert.KernelOutBwdIdeal.defs (F := Ideal)) (onTc (τ := Cert.KernelOutBwdIdeal.τ) (Cert.KernelOutBwdIdeal.main (F := Ideal))) ⟨m, fun _ => 0, g⟩ (fun r => ∀ c : Dev Cert.KernelOutBwdIdeal.nD,
          r.2.mem ((c.tc : Thread Cert.KernelOutBwdIdeal.nD Cert.KernelOutBwdIdeal.τ).loc Cert.KernelOutBwdIdeal.main_v3) = v0 c
          ∧ r.2.mem ((c.tc : Thread Cert.KernelOutBwdIdeal.nD Cert.KernelOutBwdIdeal.τ).loc Cert.KernelOutBwdIdeal.main_arg0) = m ((c.tc : Thread Cert.KernelOutBwdIdeal.nD Cert.KernelOutBwdIdeal.τ).loc Cert.KernelOutBwdIdeal.main_arg0)
          ∧ r.2.mem ((c.tc : Thread Cert.KernelOutBwdIdeal.nD Cert.KernelOutBwdIdeal.τ).loc Cert.KernelOutBwdIdeal.main_arg1) = m ((c.tc : Thread Cert.KernelOutBwdIdeal.nD Cert.KernelOutBwdIdeal.τ).loc Cert.KernelOutBwdIdeal.main_arg1)
          ∧ r.2.mem ((c.tc : Thread Cert.KernelOutBwdIdeal.nD Cert.KernelOutBwdIdeal.τ).loc Cert.KernelOutBwdIdeal.main_arg2) = m ((c.tc : Thread Cert.KernelOutBwdIdeal.nD Cert.KernelOutBwdIdeal.τ).loc Cert.KernelOutBwdIdeal.main_arg2))
      ∧ θ_run (Cert.ReferenceOutBwdIdeal.defs (F := Ideal)) (onTc (τ := Cert.ReferenceOutBwdIdeal.τ) (Cert.ReferenceOutBwdIdeal.main (F := Ideal))) ⟨m', fun _ => 0, g'⟩ (fun r => ∀ c : Dev Cert.ReferenceOutBwdIdeal.nD,
          r.2.mem ((c.tc : Thread Cert.ReferenceOutBwdIdeal.nD Cert.ReferenceOutBwdIdeal.τ).loc Cert.ReferenceOutBwdIdeal.main_v2) = v0 c
          ∧ r.2.mem ((c.tc : Thread Cert.ReferenceOutBwdIdeal.nD Cert.ReferenceOutBwdIdeal.τ).loc Cert.ReferenceOutBwdIdeal.main_arg0) = m' ((c.tc : Thread Cert.ReferenceOutBwdIdeal.nD Cert.ReferenceOutBwdIdeal.τ).loc Cert.ReferenceOutBwdIdeal.main_arg0)
          ∧ r.2.mem ((c.tc : Thread Cert.ReferenceOutBwdIdeal.nD Cert.ReferenceOutBwdIdeal.τ).loc Cert.ReferenceOutBwdIdeal.main_arg1) = m' ((c.tc : Thread Cert.ReferenceOutBwdIdeal.nD Cert.ReferenceOutBwdIdeal.τ).loc Cert.ReferenceOutBwdIdeal.main_arg1)
          ∧ r.2.mem ((c.tc : Thread Cert.ReferenceOutBwdIdeal.nD Cert.ReferenceOutBwdIdeal.τ).loc Cert.ReferenceOutBwdIdeal.main_arg2) = m' ((c.tc : Thread Cert.ReferenceOutBwdIdeal.nD Cert.ReferenceOutBwdIdeal.τ).loc Cert.ReferenceOutBwdIdeal.main_arg2))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)
      ∧ m' ((c.tc : Thread Cert.ReferenceOutDwIdeal.nD Cert.ReferenceOutDwIdeal.τ).loc Cert.ReferenceOutDwIdeal.main_arg2) = m ((c.tc : Thread Cert.KernelOutDwIdeal.nD Cert.KernelOutDwIdeal.τ).loc Cert.KernelOutDwIdeal.main_arg2)
      ∧ m' ((c.tc : Thread Cert.ReferenceOutDwIdeal.nD Cert.ReferenceOutDwIdeal.τ).loc Cert.ReferenceOutDwIdeal.main_arg3) = m ((c.tc : Thread Cert.KernelOutDwIdeal.nD Cert.KernelOutDwIdeal.τ).loc Cert.KernelOutDwIdeal.main_arg3)) →
    ∃ (v0 : (c : Dev Cert.KernelOutDwIdeal.nD) → Buf (Elt Ideal) ((c.tc : Thread Cert.KernelOutDwIdeal.nD Cert.KernelOutDwIdeal.τ).loc Cert.KernelOutDwIdeal.main_v2)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v2) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1)
          ∧ r.2.mem ((c.tc : Thread Cert.KernelOutDwIdeal.nD Cert.KernelOutDwIdeal.τ).loc Cert.KernelOutDwIdeal.main_arg2) = m ((c.tc : Thread Cert.KernelOutDwIdeal.nD Cert.KernelOutDwIdeal.τ).loc Cert.KernelOutDwIdeal.main_arg2)
          ∧ r.2.mem ((c.tc : Thread Cert.KernelOutDwIdeal.nD Cert.KernelOutDwIdeal.τ).loc Cert.KernelOutDwIdeal.main_arg3) = m ((c.tc : Thread Cert.KernelOutDwIdeal.nD Cert.KernelOutDwIdeal.τ).loc Cert.KernelOutDwIdeal.main_arg3))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v3) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1)
          ∧ r.2.mem ((c.tc : Thread Cert.ReferenceOutDwIdeal.nD Cert.ReferenceOutDwIdeal.τ).loc Cert.ReferenceOutDwIdeal.main_arg2) = m' ((c.tc : Thread Cert.ReferenceOutDwIdeal.nD Cert.ReferenceOutDwIdeal.τ).loc Cert.ReferenceOutDwIdeal.main_arg2)
          ∧ r.2.mem ((c.tc : Thread Cert.ReferenceOutDwIdeal.nD Cert.ReferenceOutDwIdeal.τ).loc Cert.ReferenceOutDwIdeal.main_arg3) = m' ((c.tc : Thread Cert.ReferenceOutDwIdeal.nD Cert.ReferenceOutDwIdeal.τ).loc Cert.ReferenceOutDwIdeal.main_arg3))

def preserves_KernelInFwd_KernelInFwdIdeal : Prop :=
  True

def algebraic_KernelInFwdIdeal_ReferenceInFwdIdeal [hKernelInFwdIdeal : Cert.KernelInFwdIdeal.Facts] [hReferenceInFwdIdeal : Cert.ReferenceInFwdIdeal.Facts] : Prop :=
  ∀ (m : (ℓ : Loc Cert.KernelInFwdIdeal.nD Cert.KernelInFwdIdeal.τ Cert.KernelInFwdIdeal.sig) → Buf (Elt Ideal) ℓ) (g : Dev Cert.KernelInFwdIdeal.nD → PrngReg)
    (m' : (ℓ : Loc Cert.ReferenceInFwdIdeal.nD Cert.ReferenceInFwdIdeal.τ Cert.ReferenceInFwdIdeal.sig) → Buf (Elt Ideal) ℓ) (g' : Dev Cert.ReferenceInFwdIdeal.nD → PrngReg), Pre_KernelInFwdIdeal m →
    (∀ c : Dev Cert.KernelInFwdIdeal.nD,
      m' ((c.tc : Thread Cert.ReferenceInFwdIdeal.nD Cert.ReferenceInFwdIdeal.τ).loc Cert.ReferenceInFwdIdeal.main_arg0) = m ((c.tc : Thread Cert.KernelInFwdIdeal.nD Cert.KernelInFwdIdeal.τ).loc Cert.KernelInFwdIdeal.main_arg0)
      ∧ m' ((c.tc : Thread Cert.ReferenceInFwdIdeal.nD Cert.ReferenceInFwdIdeal.τ).loc Cert.ReferenceInFwdIdeal.main_arg1) = m ((c.tc : Thread Cert.KernelInFwdIdeal.nD Cert.KernelInFwdIdeal.τ).loc Cert.KernelInFwdIdeal.main_arg1)
      ∧ m' ((c.tc : Thread Cert.ReferenceInFwdIdeal.nD Cert.ReferenceInFwdIdeal.τ).loc Cert.ReferenceInFwdIdeal.main_arg2) = m ((c.tc : Thread Cert.KernelInFwdIdeal.nD Cert.KernelInFwdIdeal.τ).loc Cert.KernelInFwdIdeal.main_arg2)) →
    ∃ (v0 : (c : Dev Cert.KernelInFwdIdeal.nD) → Buf (Elt Ideal) ((c.tc : Thread Cert.KernelInFwdIdeal.nD Cert.KernelInFwdIdeal.τ).loc Cert.KernelInFwdIdeal.main_v3_0)) (v1 : (c : Dev Cert.KernelInFwdIdeal.nD) → Buf (Elt Ideal) ((c.tc : Thread Cert.KernelInFwdIdeal.nD Cert.KernelInFwdIdeal.τ).loc Cert.KernelInFwdIdeal.main_v3_1)),
      θ_run (Cert.KernelInFwdIdeal.defs (F := Ideal)) (onTc (τ := Cert.KernelInFwdIdeal.τ) (Cert.KernelInFwdIdeal.main (F := Ideal))) ⟨m, fun _ => 0, g⟩ (fun r => ∀ c : Dev Cert.KernelInFwdIdeal.nD,
          r.2.mem ((c.tc : Thread Cert.KernelInFwdIdeal.nD Cert.KernelInFwdIdeal.τ).loc Cert.KernelInFwdIdeal.main_v3_0) = v0 c
          ∧ r.2.mem ((c.tc : Thread Cert.KernelInFwdIdeal.nD Cert.KernelInFwdIdeal.τ).loc Cert.KernelInFwdIdeal.main_v3_1) = v1 c
          ∧ r.2.mem ((c.tc : Thread Cert.KernelInFwdIdeal.nD Cert.KernelInFwdIdeal.τ).loc Cert.KernelInFwdIdeal.main_arg0) = m ((c.tc : Thread Cert.KernelInFwdIdeal.nD Cert.KernelInFwdIdeal.τ).loc Cert.KernelInFwdIdeal.main_arg0)
          ∧ r.2.mem ((c.tc : Thread Cert.KernelInFwdIdeal.nD Cert.KernelInFwdIdeal.τ).loc Cert.KernelInFwdIdeal.main_arg1) = m ((c.tc : Thread Cert.KernelInFwdIdeal.nD Cert.KernelInFwdIdeal.τ).loc Cert.KernelInFwdIdeal.main_arg1)
          ∧ r.2.mem ((c.tc : Thread Cert.KernelInFwdIdeal.nD Cert.KernelInFwdIdeal.τ).loc Cert.KernelInFwdIdeal.main_arg2) = m ((c.tc : Thread Cert.KernelInFwdIdeal.nD Cert.KernelInFwdIdeal.τ).loc Cert.KernelInFwdIdeal.main_arg2))
      ∧ θ_run (Cert.ReferenceInFwdIdeal.defs (F := Ideal)) (onTc (τ := Cert.ReferenceInFwdIdeal.τ) (Cert.ReferenceInFwdIdeal.main (F := Ideal))) ⟨m', fun _ => 0, g'⟩ (fun r => ∀ c : Dev Cert.ReferenceInFwdIdeal.nD,
          r.2.mem ((c.tc : Thread Cert.ReferenceInFwdIdeal.nD Cert.ReferenceInFwdIdeal.τ).loc Cert.ReferenceInFwdIdeal.main_v14) = v0 c
          ∧ r.2.mem ((c.tc : Thread Cert.ReferenceInFwdIdeal.nD Cert.ReferenceInFwdIdeal.τ).loc Cert.ReferenceInFwdIdeal.main_v18) = v1 c
          ∧ r.2.mem ((c.tc : Thread Cert.ReferenceInFwdIdeal.nD Cert.ReferenceInFwdIdeal.τ).loc Cert.ReferenceInFwdIdeal.main_arg0) = m' ((c.tc : Thread Cert.ReferenceInFwdIdeal.nD Cert.ReferenceInFwdIdeal.τ).loc Cert.ReferenceInFwdIdeal.main_arg0)
          ∧ r.2.mem ((c.tc : Thread Cert.ReferenceInFwdIdeal.nD Cert.ReferenceInFwdIdeal.τ).loc Cert.ReferenceInFwdIdeal.main_arg1) = m' ((c.tc : Thread Cert.ReferenceInFwdIdeal.nD Cert.ReferenceInFwdIdeal.τ).loc Cert.ReferenceInFwdIdeal.main_arg1)
          ∧ r.2.mem ((c.tc : Thread Cert.ReferenceInFwdIdeal.nD Cert.ReferenceInFwdIdeal.τ).loc Cert.ReferenceInFwdIdeal.main_arg2) = m' ((c.tc : Thread Cert.ReferenceInFwdIdeal.nD Cert.ReferenceInFwdIdeal.τ).loc Cert.ReferenceInFwdIdeal.main_arg2))

def preserves_KernelInDw_KernelInDwIdeal : Prop :=
  True

def algebraic_KernelInDwIdeal_ReferenceInDwIdeal [hKernelInDwIdeal : Cert.KernelInDwIdeal.Facts] [hReferenceInDwIdeal : Cert.ReferenceInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg)
    (m' : (ℓ : Loc Cert.ReferenceInDwIdeal.nD Cert.ReferenceInDwIdeal.τ Cert.ReferenceInDwIdeal.sig) → Buf (Elt Ideal) ℓ) (g' : Dev Cert.ReferenceInDwIdeal.nD → PrngReg), Pre_KernelInDwIdeal m →
    (∀ c : Dev Cert.KernelInDwIdeal.nD,
      m' ((c.tc : Thread Cert.ReferenceInDwIdeal.nD Cert.ReferenceInDwIdeal.τ).loc Cert.ReferenceInDwIdeal.main_arg0) = m ((c.tc : Thread Cert.KernelInDwIdeal.nD Cert.KernelInDwIdeal.τ).loc Cert.KernelInDwIdeal.main_arg0)
      ∧ m' ((c.tc : Thread Cert.ReferenceInDwIdeal.nD Cert.ReferenceInDwIdeal.τ).loc Cert.ReferenceInDwIdeal.main_arg1) = m ((c.tc : Thread Cert.KernelInDwIdeal.nD Cert.KernelInDwIdeal.τ).loc Cert.KernelInDwIdeal.main_arg1)
      ∧ m' ((c.tc : Thread Cert.ReferenceInDwIdeal.nD Cert.ReferenceInDwIdeal.τ).loc Cert.ReferenceInDwIdeal.main_arg2) = m ((c.tc : Thread Cert.KernelInDwIdeal.nD Cert.KernelInDwIdeal.τ).loc Cert.KernelInDwIdeal.main_arg2)
      ∧ m' ((c.tc : Thread Cert.ReferenceInDwIdeal.nD Cert.ReferenceInDwIdeal.τ).loc Cert.ReferenceInDwIdeal.main_arg3) = m ((c.tc : Thread Cert.KernelInDwIdeal.nD Cert.KernelInDwIdeal.τ).loc Cert.KernelInDwIdeal.main_arg3)) →
    ∃ (v0 : (c : Dev Cert.KernelInDwIdeal.nD) → Buf (Elt Ideal) ((c.tc : Thread Cert.KernelInDwIdeal.nD Cert.KernelInDwIdeal.τ).loc Cert.KernelInDwIdeal.main_v5)),
      θ_run (Cert.KernelInDwIdeal.defs (F := Ideal)) (onTc (τ := Cert.KernelInDwIdeal.τ) (Cert.KernelInDwIdeal.main (F := Ideal))) ⟨m, fun _ => 0, g⟩ (fun r => ∀ c : Dev Cert.KernelInDwIdeal.nD,
          r.2.mem ((c.tc : Thread Cert.KernelInDwIdeal.nD Cert.KernelInDwIdeal.τ).loc Cert.KernelInDwIdeal.main_v5) = v0 c
          ∧ r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
          ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1)
          ∧ r.2.mem ((c.tc : Thread Cert.KernelInDwIdeal.nD Cert.KernelInDwIdeal.τ).loc Cert.KernelInDwIdeal.main_arg2) = m ((c.tc : Thread Cert.KernelInDwIdeal.nD Cert.KernelInDwIdeal.τ).loc Cert.KernelInDwIdeal.main_arg2)
          ∧ r.2.mem ((c.tc : Thread Cert.KernelInDwIdeal.nD Cert.KernelInDwIdeal.τ).loc Cert.KernelInDwIdeal.main_arg3) = m ((c.tc : Thread Cert.KernelInDwIdeal.nD Cert.KernelInDwIdeal.τ).loc Cert.KernelInDwIdeal.main_arg3))
      ∧ θ_run (Cert.ReferenceInDwIdeal.defs (F := Ideal)) (onTc (τ := Cert.ReferenceInDwIdeal.τ) (Cert.ReferenceInDwIdeal.main (F := Ideal))) ⟨m', fun _ => 0, g'⟩ (fun r => ∀ c : Dev Cert.ReferenceInDwIdeal.nD,
          r.2.mem ((c.tc : Thread Cert.ReferenceInDwIdeal.nD Cert.ReferenceInDwIdeal.τ).loc Cert.ReferenceInDwIdeal.main_v3) = v0 c
          ∧ r.2.mem ((c.tc : Thread Cert.ReferenceInDwIdeal.nD Cert.ReferenceInDwIdeal.τ).loc Cert.ReferenceInDwIdeal.main_arg0) = m' ((c.tc : Thread Cert.ReferenceInDwIdeal.nD Cert.ReferenceInDwIdeal.τ).loc Cert.ReferenceInDwIdeal.main_arg0)
          ∧ r.2.mem ((c.tc : Thread Cert.ReferenceInDwIdeal.nD Cert.ReferenceInDwIdeal.τ).loc Cert.ReferenceInDwIdeal.main_arg1) = m' ((c.tc : Thread Cert.ReferenceInDwIdeal.nD Cert.ReferenceInDwIdeal.τ).loc Cert.ReferenceInDwIdeal.main_arg1)
          ∧ r.2.mem ((c.tc : Thread Cert.ReferenceInDwIdeal.nD Cert.ReferenceInDwIdeal.τ).loc Cert.ReferenceInDwIdeal.main_arg2) = m' ((c.tc : Thread Cert.ReferenceInDwIdeal.nD Cert.ReferenceInDwIdeal.τ).loc Cert.ReferenceInDwIdeal.main_arg2)
          ∧ r.2.mem ((c.tc : Thread Cert.ReferenceInDwIdeal.nD Cert.ReferenceInDwIdeal.τ).loc Cert.ReferenceInDwIdeal.main_arg3) = m' ((c.tc : Thread Cert.ReferenceInDwIdeal.nD Cert.ReferenceInDwIdeal.τ).loc Cert.ReferenceInDwIdeal.main_arg3))

def preserves_KernelInBwd_KernelInBwdIdeal : Prop :=
  True

def algebraic_KernelInBwdIdeal_ReferenceInBwdIdeal [hKernelInBwdIdeal : Cert.KernelInBwdIdeal.Facts] [hReferenceInBwdIdeal : Cert.ReferenceInBwdIdeal.Facts] : Prop :=
  ∀ (m : (ℓ : Loc Cert.KernelInBwdIdeal.nD Cert.KernelInBwdIdeal.τ Cert.KernelInBwdIdeal.sig) → Buf (Elt Ideal) ℓ) (g : Dev Cert.KernelInBwdIdeal.nD → PrngReg)
    (m' : (ℓ : Loc Cert.ReferenceInBwdIdeal.nD Cert.ReferenceInBwdIdeal.τ Cert.ReferenceInBwdIdeal.sig) → Buf (Elt Ideal) ℓ) (g' : Dev Cert.ReferenceInBwdIdeal.nD → PrngReg), Pre_KernelInBwdIdeal m →
    (∀ c : Dev Cert.KernelInBwdIdeal.nD,
      m' ((c.tc : Thread Cert.ReferenceInBwdIdeal.nD Cert.ReferenceInBwdIdeal.τ).loc Cert.ReferenceInBwdIdeal.main_arg0) = m ((c.tc : Thread Cert.KernelInBwdIdeal.nD Cert.KernelInBwdIdeal.τ).loc Cert.KernelInBwdIdeal.main_arg0)
      ∧ m' ((c.tc : Thread Cert.ReferenceInBwdIdeal.nD Cert.ReferenceInBwdIdeal.τ).loc Cert.ReferenceInBwdIdeal.main_arg1) = m ((c.tc : Thread Cert.KernelInBwdIdeal.nD Cert.KernelInBwdIdeal.τ).loc Cert.KernelInBwdIdeal.main_arg1)
      ∧ m' ((c.tc : Thread Cert.ReferenceInBwdIdeal.nD Cert.ReferenceInBwdIdeal.τ).loc Cert.ReferenceInBwdIdeal.main_arg2) = m ((c.tc : Thread Cert.KernelInBwdIdeal.nD Cert.KernelInBwdIdeal.τ).loc Cert.KernelInBwdIdeal.main_arg2)
      ∧ m' ((c.tc : Thread Cert.ReferenceInBwdIdeal.nD Cert.ReferenceInBwdIdeal.τ).loc Cert.ReferenceInBwdIdeal.main_arg3) = m ((c.tc : Thread Cert.KernelInBwdIdeal.nD Cert.KernelInBwdIdeal.τ).loc Cert.KernelInBwdIdeal.main_arg3)
      ∧ m' ((c.tc : Thread Cert.ReferenceInBwdIdeal.nD Cert.ReferenceInBwdIdeal.τ).loc Cert.ReferenceInBwdIdeal.main_arg4) = m ((c.tc : Thread Cert.KernelInBwdIdeal.nD Cert.KernelInBwdIdeal.τ).loc Cert.KernelInBwdIdeal.main_arg4)) →
    ∃ (v0 : (c : Dev Cert.KernelInBwdIdeal.nD) → Buf (Elt Ideal) ((c.tc : Thread Cert.KernelInBwdIdeal.nD Cert.KernelInBwdIdeal.τ).loc Cert.KernelInBwdIdeal.main_v4_0)) (v1 : (c : Dev Cert.KernelInBwdIdeal.nD) → Buf (Elt Ideal) ((c.tc : Thread Cert.KernelInBwdIdeal.nD Cert.KernelInBwdIdeal.τ).loc Cert.KernelInBwdIdeal.main_v4_1)) (v2 : (c : Dev Cert.KernelInBwdIdeal.nD) → Buf (Elt Ideal) ((c.tc : Thread Cert.KernelInBwdIdeal.nD Cert.KernelInBwdIdeal.τ).loc Cert.KernelInBwdIdeal.main_v4_2)),
      θ_run (Cert.KernelInBwdIdeal.defs (F := Ideal)) (onTc (τ := Cert.KernelInBwdIdeal.τ) (Cert.KernelInBwdIdeal.main (F := Ideal))) ⟨m, fun _ => 0, g⟩ (fun r => ∀ c : Dev Cert.KernelInBwdIdeal.nD,
          r.2.mem ((c.tc : Thread Cert.KernelInBwdIdeal.nD Cert.KernelInBwdIdeal.τ).loc Cert.KernelInBwdIdeal.main_v4_0) = v0 c
          ∧ r.2.mem ((c.tc : Thread Cert.KernelInBwdIdeal.nD Cert.KernelInBwdIdeal.τ).loc Cert.KernelInBwdIdeal.main_v4_1) = v1 c
          ∧ r.2.mem ((c.tc : Thread Cert.KernelInBwdIdeal.nD Cert.KernelInBwdIdeal.τ).loc Cert.KernelInBwdIdeal.main_v4_2) = v2 c
          ∧ r.2.mem ((c.tc : Thread Cert.KernelInBwdIdeal.nD Cert.KernelInBwdIdeal.τ).loc Cert.KernelInBwdIdeal.main_arg0) = m ((c.tc : Thread Cert.KernelInBwdIdeal.nD Cert.KernelInBwdIdeal.τ).loc Cert.KernelInBwdIdeal.main_arg0)
          ∧ r.2.mem ((c.tc : Thread Cert.KernelInBwdIdeal.nD Cert.KernelInBwdIdeal.τ).loc Cert.KernelInBwdIdeal.main_arg1) = m ((c.tc : Thread Cert.KernelInBwdIdeal.nD Cert.KernelInBwdIdeal.τ).loc Cert.KernelInBwdIdeal.main_arg1)
          ∧ r.2.mem ((c.tc : Thread Cert.KernelInBwdIdeal.nD Cert.KernelInBwdIdeal.τ).loc Cert.KernelInBwdIdeal.main_arg2) = m ((c.tc : Thread Cert.KernelInBwdIdeal.nD Cert.KernelInBwdIdeal.τ).loc Cert.KernelInBwdIdeal.main_arg2)
          ∧ r.2.mem ((c.tc : Thread Cert.KernelInBwdIdeal.nD Cert.KernelInBwdIdeal.τ).loc Cert.KernelInBwdIdeal.main_arg3) = m ((c.tc : Thread Cert.KernelInBwdIdeal.nD Cert.KernelInBwdIdeal.τ).loc Cert.KernelInBwdIdeal.main_arg3)
          ∧ r.2.mem ((c.tc : Thread Cert.KernelInBwdIdeal.nD Cert.KernelInBwdIdeal.τ).loc Cert.KernelInBwdIdeal.main_arg4) = m ((c.tc : Thread Cert.KernelInBwdIdeal.nD Cert.KernelInBwdIdeal.τ).loc Cert.KernelInBwdIdeal.main_arg4))
      ∧ θ_run (Cert.ReferenceInBwdIdeal.defs (F := Ideal)) (onTc (τ := Cert.ReferenceInBwdIdeal.τ) (Cert.ReferenceInBwdIdeal.main (F := Ideal))) ⟨m', fun _ => 0, g'⟩ (fun r => ∀ c : Dev Cert.ReferenceInBwdIdeal.nD,
          r.2.mem ((c.tc : Thread Cert.ReferenceInBwdIdeal.nD Cert.ReferenceInBwdIdeal.τ).loc Cert.ReferenceInBwdIdeal.main_v38) = v0 c
          ∧ r.2.mem ((c.tc : Thread Cert.ReferenceInBwdIdeal.nD Cert.ReferenceInBwdIdeal.τ).loc Cert.ReferenceInBwdIdeal.main_v39) = v1 c
          ∧ r.2.mem ((c.tc : Thread Cert.ReferenceInBwdIdeal.nD Cert.ReferenceInBwdIdeal.τ).loc Cert.ReferenceInBwdIdeal.main_v40) = v2 c
          ∧ r.2.mem ((c.tc : Thread Cert.ReferenceInBwdIdeal.nD Cert.ReferenceInBwdIdeal.τ).loc Cert.ReferenceInBwdIdeal.main_arg0) = m' ((c.tc : Thread Cert.ReferenceInBwdIdeal.nD Cert.ReferenceInBwdIdeal.τ).loc Cert.ReferenceInBwdIdeal.main_arg0)
          ∧ r.2.mem ((c.tc : Thread Cert.ReferenceInBwdIdeal.nD Cert.ReferenceInBwdIdeal.τ).loc Cert.ReferenceInBwdIdeal.main_arg1) = m' ((c.tc : Thread Cert.ReferenceInBwdIdeal.nD Cert.ReferenceInBwdIdeal.τ).loc Cert.ReferenceInBwdIdeal.main_arg1)
          ∧ r.2.mem ((c.tc : Thread Cert.ReferenceInBwdIdeal.nD Cert.ReferenceInBwdIdeal.τ).loc Cert.ReferenceInBwdIdeal.main_arg2) = m' ((c.tc : Thread Cert.ReferenceInBwdIdeal.nD Cert.ReferenceInBwdIdeal.τ).loc Cert.ReferenceInBwdIdeal.main_arg2)
          ∧ r.2.mem ((c.tc : Thread Cert.ReferenceInBwdIdeal.nD Cert.ReferenceInBwdIdeal.τ).loc Cert.ReferenceInBwdIdeal.main_arg3) = m' ((c.tc : Thread Cert.ReferenceInBwdIdeal.nD Cert.ReferenceInBwdIdeal.τ).loc Cert.ReferenceInBwdIdeal.main_arg3)
          ∧ r.2.mem ((c.tc : Thread Cert.ReferenceInBwdIdeal.nD Cert.ReferenceInBwdIdeal.τ).loc Cert.ReferenceInBwdIdeal.main_arg4) = m' ((c.tc : Thread Cert.ReferenceInBwdIdeal.nD Cert.ReferenceInBwdIdeal.τ).loc Cert.ReferenceInBwdIdeal.main_arg4))

def preserves_KernelEvenOutBwd_KernelEvenOutBwdIdeal : Prop :=
  True

def algebraic_KernelEvenOutBwdIdeal_ReferenceEvenOutBwdIdeal [hKernelEvenOutBwdIdeal : Cert.KernelEvenOutBwdIdeal.Facts] [hReferenceEvenOutBwdIdeal : Cert.ReferenceEvenOutBwdIdeal.Facts] : Prop :=
  ∀ (m : (ℓ : Loc Cert.KernelEvenOutBwdIdeal.nD Cert.KernelEvenOutBwdIdeal.τ Cert.KernelEvenOutBwdIdeal.sig) → Buf (Elt Ideal) ℓ) (g : Dev Cert.KernelEvenOutBwdIdeal.nD → PrngReg)
    (m' : (ℓ : Loc Cert.ReferenceEvenOutBwdIdeal.nD Cert.ReferenceEvenOutBwdIdeal.τ Cert.ReferenceEvenOutBwdIdeal.sig) → Buf (Elt Ideal) ℓ) (g' : Dev Cert.ReferenceEvenOutBwdIdeal.nD → PrngReg), Pre_KernelEvenOutBwdIdeal m →
    (∀ c : Dev Cert.KernelEvenOutBwdIdeal.nD,
      m' ((c.tc : Thread Cert.ReferenceEvenOutBwdIdeal.nD Cert.ReferenceEvenOutBwdIdeal.τ).loc Cert.ReferenceEvenOutBwdIdeal.main_arg0) = m ((c.tc : Thread Cert.KernelEvenOutBwdIdeal.nD Cert.KernelEvenOutBwdIdeal.τ).loc Cert.KernelEvenOutBwdIdeal.main_arg0)
      ∧ m' ((c.tc : Thread Cert.ReferenceEvenOutBwdIdeal.nD Cert.ReferenceEvenOutBwdIdeal.τ).loc Cert.ReferenceEvenOutBwdIdeal.main_arg1) = m ((c.tc : Thread Cert.KernelEvenOutBwdIdeal.nD Cert.KernelEvenOutBwdIdeal.τ).loc Cert.KernelEvenOutBwdIdeal.main_arg1)
      ∧ m' ((c.tc : Thread Cert.ReferenceEvenOutBwdIdeal.nD Cert.ReferenceEvenOutBwdIdeal.τ).loc Cert.ReferenceEvenOutBwdIdeal.main_arg2) = m ((c.tc : Thread Cert.KernelEvenOutBwdIdeal.nD Cert.KernelEvenOutBwdIdeal.τ).loc Cert.KernelEvenOutBwdIdeal.main_arg2)) →
    ∃ (v0 : (c : Dev Cert.KernelEvenOutBwdIdeal.nD) → Buf (Elt Ideal) ((c.tc : Thread Cert.KernelEvenOutBwdIdeal.nD Cert.KernelEvenOutBwdIdeal.τ).loc Cert.KernelEvenOutBwdIdeal.main_v3)),
      θ_run (Cert.KernelEvenOutBwdIdeal.defs (F := Ideal)) (onTc (τ := Cert.KernelEvenOutBwdIdeal.τ) (Cert.KernelEvenOutBwdIdeal.main (F := Ideal))) ⟨m, fun _ => 0, g⟩ (fun r => ∀ c : Dev Cert.KernelEvenOutBwdIdeal.nD,
          r.2.mem ((c.tc : Thread Cert.KernelEvenOutBwdIdeal.nD Cert.KernelEvenOutBwdIdeal.τ).loc Cert.KernelEvenOutBwdIdeal.main_v3) = v0 c
          ∧ r.2.mem ((c.tc : Thread Cert.KernelEvenOutBwdIdeal.nD Cert.KernelEvenOutBwdIdeal.τ).loc Cert.KernelEvenOutBwdIdeal.main_arg0) = m ((c.tc : Thread Cert.KernelEvenOutBwdIdeal.nD Cert.KernelEvenOutBwdIdeal.τ).loc Cert.KernelEvenOutBwdIdeal.main_arg0)
          ∧ r.2.mem ((c.tc : Thread Cert.KernelEvenOutBwdIdeal.nD Cert.KernelEvenOutBwdIdeal.τ).loc Cert.KernelEvenOutBwdIdeal.main_arg1) = m ((c.tc : Thread Cert.KernelEvenOutBwdIdeal.nD Cert.KernelEvenOutBwdIdeal.τ).loc Cert.KernelEvenOutBwdIdeal.main_arg1)
          ∧ r.2.mem ((c.tc : Thread Cert.KernelEvenOutBwdIdeal.nD Cert.KernelEvenOutBwdIdeal.τ).loc Cert.KernelEvenOutBwdIdeal.main_arg2) = m ((c.tc : Thread Cert.KernelEvenOutBwdIdeal.nD Cert.KernelEvenOutBwdIdeal.τ).loc Cert.KernelEvenOutBwdIdeal.main_arg2))
      ∧ θ_run (Cert.ReferenceEvenOutBwdIdeal.defs (F := Ideal)) (onTc (τ := Cert.ReferenceEvenOutBwdIdeal.τ) (Cert.ReferenceEvenOutBwdIdeal.main (F := Ideal))) ⟨m', fun _ => 0, g'⟩ (fun r => ∀ c : Dev Cert.ReferenceEvenOutBwdIdeal.nD,
          r.2.mem ((c.tc : Thread Cert.ReferenceEvenOutBwdIdeal.nD Cert.ReferenceEvenOutBwdIdeal.τ).loc Cert.ReferenceEvenOutBwdIdeal.main_v1) = v0 c
          ∧ r.2.mem ((c.tc : Thread Cert.ReferenceEvenOutBwdIdeal.nD Cert.ReferenceEvenOutBwdIdeal.τ).loc Cert.ReferenceEvenOutBwdIdeal.main_arg0) = m' ((c.tc : Thread Cert.ReferenceEvenOutBwdIdeal.nD Cert.ReferenceEvenOutBwdIdeal.τ).loc Cert.ReferenceEvenOutBwdIdeal.main_arg0)
          ∧ r.2.mem ((c.tc : Thread Cert.ReferenceEvenOutBwdIdeal.nD Cert.ReferenceEvenOutBwdIdeal.τ).loc Cert.ReferenceEvenOutBwdIdeal.main_arg1) = m' ((c.tc : Thread Cert.ReferenceEvenOutBwdIdeal.nD Cert.ReferenceEvenOutBwdIdeal.τ).loc Cert.ReferenceEvenOutBwdIdeal.main_arg1)
          ∧ r.2.mem ((c.tc : Thread Cert.ReferenceEvenOutBwdIdeal.nD Cert.ReferenceEvenOutBwdIdeal.τ).loc Cert.ReferenceEvenOutBwdIdeal.main_arg2) = m' ((c.tc : Thread Cert.ReferenceEvenOutBwdIdeal.nD Cert.ReferenceEvenOutBwdIdeal.τ).loc Cert.ReferenceEvenOutBwdIdeal.main_arg2))

def preserves_KernelEvenIn_KernelEvenInIdeal : Prop :=
  True

def algebraic_KernelEvenInIdeal_ReferenceEvenInIdeal [hKernelEvenInIdeal : Cert.KernelEvenInIdeal.Facts] [hReferenceEvenInIdeal : Cert.ReferenceEvenInIdeal.Facts] : Prop :=
  ∀ (m : (ℓ : Loc Cert.KernelEvenInIdeal.nD Cert.KernelEvenInIdeal.τ Cert.KernelEvenInIdeal.sig) → Buf (Elt Ideal) ℓ) (g : Dev Cert.KernelEvenInIdeal.nD → PrngReg)
    (m' : (ℓ : Loc Cert.ReferenceEvenInIdeal.nD Cert.ReferenceEvenInIdeal.τ Cert.ReferenceEvenInIdeal.sig) → Buf (Elt Ideal) ℓ) (g' : Dev Cert.ReferenceEvenInIdeal.nD → PrngReg), Pre_KernelEvenInIdeal m →
    (∀ c : Dev Cert.KernelEvenInIdeal.nD,
      m' ((c.tc : Thread Cert.ReferenceEvenInIdeal.nD Cert.ReferenceEvenInIdeal.τ).loc Cert.ReferenceEvenInIdeal.main_arg0) = m ((c.tc : Thread Cert.KernelEvenInIdeal.nD Cert.KernelEvenInIdeal.τ).loc Cert.KernelEvenInIdeal.main_arg0)
      ∧ m' ((c.tc : Thread Cert.ReferenceEvenInIdeal.nD Cert.ReferenceEvenInIdeal.τ).loc Cert.ReferenceEvenInIdeal.main_arg1) = m ((c.tc : Thread Cert.KernelEvenInIdeal.nD Cert.KernelEvenInIdeal.τ).loc Cert.KernelEvenInIdeal.main_arg1)
      ∧ m' ((c.tc : Thread Cert.ReferenceEvenInIdeal.nD Cert.ReferenceEvenInIdeal.τ).loc Cert.ReferenceEvenInIdeal.main_arg2) = m ((c.tc : Thread Cert.KernelEvenInIdeal.nD Cert.KernelEvenInIdeal.τ).loc Cert.KernelEvenInIdeal.main_arg2)) →
    ∃ (v0 : (c : Dev Cert.KernelEvenInIdeal.nD) → Buf (Elt Ideal) ((c.tc : Thread Cert.KernelEvenInIdeal.nD Cert.KernelEvenInIdeal.τ).loc Cert.KernelEvenInIdeal.main_v11_0)) (v1 : (c : Dev Cert.KernelEvenInIdeal.nD) → Buf (Elt Ideal) ((c.tc : Thread Cert.KernelEvenInIdeal.nD Cert.KernelEvenInIdeal.τ).loc Cert.KernelEvenInIdeal.main_v11_1)),
      θ_run (Cert.KernelEvenInIdeal.defs (F := Ideal)) (onTc (τ := Cert.KernelEvenInIdeal.τ) (Cert.KernelEvenInIdeal.main (F := Ideal))) ⟨m, fun _ => 0, g⟩ (fun r => ∀ c : Dev Cert.KernelEvenInIdeal.nD,
          r.2.mem ((c.tc : Thread Cert.KernelEvenInIdeal.nD Cert.KernelEvenInIdeal.τ).loc Cert.KernelEvenInIdeal.main_v11_0) = v0 c
          ∧ r.2.mem ((c.tc : Thread Cert.KernelEvenInIdeal.nD Cert.KernelEvenInIdeal.τ).loc Cert.KernelEvenInIdeal.main_v11_1) = v1 c
          ∧ r.2.mem ((c.tc : Thread Cert.KernelEvenInIdeal.nD Cert.KernelEvenInIdeal.τ).loc Cert.KernelEvenInIdeal.main_arg0) = m ((c.tc : Thread Cert.KernelEvenInIdeal.nD Cert.KernelEvenInIdeal.τ).loc Cert.KernelEvenInIdeal.main_arg0)
          ∧ r.2.mem ((c.tc : Thread Cert.KernelEvenInIdeal.nD Cert.KernelEvenInIdeal.τ).loc Cert.KernelEvenInIdeal.main_arg1) = m ((c.tc : Thread Cert.KernelEvenInIdeal.nD Cert.KernelEvenInIdeal.τ).loc Cert.KernelEvenInIdeal.main_arg1)
          ∧ r.2.mem ((c.tc : Thread Cert.KernelEvenInIdeal.nD Cert.KernelEvenInIdeal.τ).loc Cert.KernelEvenInIdeal.main_arg2) = m ((c.tc : Thread Cert.KernelEvenInIdeal.nD Cert.KernelEvenInIdeal.τ).loc Cert.KernelEvenInIdeal.main_arg2))
      ∧ θ_run (Cert.ReferenceEvenInIdeal.defs (F := Ideal)) (onTc (τ := Cert.ReferenceEvenInIdeal.τ) (Cert.ReferenceEvenInIdeal.main (F := Ideal))) ⟨m', fun _ => 0, g'⟩ (fun r => ∀ c : Dev Cert.ReferenceEvenInIdeal.nD,
          r.2.mem ((c.tc : Thread Cert.ReferenceEvenInIdeal.nD Cert.ReferenceEvenInIdeal.τ).loc Cert.ReferenceEvenInIdeal.main_v21) = v0 c
          ∧ r.2.mem ((c.tc : Thread Cert.ReferenceEvenInIdeal.nD Cert.ReferenceEvenInIdeal.τ).loc Cert.ReferenceEvenInIdeal.main_v26) = v1 c
          ∧ r.2.mem ((c.tc : Thread Cert.ReferenceEvenInIdeal.nD Cert.ReferenceEvenInIdeal.τ).loc Cert.ReferenceEvenInIdeal.main_arg0) = m' ((c.tc : Thread Cert.ReferenceEvenInIdeal.nD Cert.ReferenceEvenInIdeal.τ).loc Cert.ReferenceEvenInIdeal.main_arg0)
          ∧ r.2.mem ((c.tc : Thread Cert.ReferenceEvenInIdeal.nD Cert.ReferenceEvenInIdeal.τ).loc Cert.ReferenceEvenInIdeal.main_arg1) = m' ((c.tc : Thread Cert.ReferenceEvenInIdeal.nD Cert.ReferenceEvenInIdeal.τ).loc Cert.ReferenceEvenInIdeal.main_arg1)
          ∧ r.2.mem ((c.tc : Thread Cert.ReferenceEvenInIdeal.nD Cert.ReferenceEvenInIdeal.τ).loc Cert.ReferenceEvenInIdeal.main_arg2) = m' ((c.tc : Thread Cert.ReferenceEvenInIdeal.nD Cert.ReferenceEvenInIdeal.τ).loc Cert.ReferenceEvenInIdeal.main_arg2))

def preserves_KernelEvenInDw_KernelEvenInDwIdeal : Prop :=
  True

def algebraic_KernelEvenInDwIdeal_ReferenceEvenInDwIdeal [hKernelEvenInDwIdeal : Cert.KernelEvenInDwIdeal.Facts] [hReferenceEvenInDwIdeal : Cert.ReferenceEvenInDwIdeal.Facts] : Prop :=
  ∀ (m : (ℓ : Loc Cert.KernelEvenInDwIdeal.nD Cert.KernelEvenInDwIdeal.τ Cert.KernelEvenInDwIdeal.sig) → Buf (Elt Ideal) ℓ) (g : Dev Cert.KernelEvenInDwIdeal.nD → PrngReg)
    (m' : (ℓ : Loc Cert.ReferenceEvenInDwIdeal.nD Cert.ReferenceEvenInDwIdeal.τ Cert.ReferenceEvenInDwIdeal.sig) → Buf (Elt Ideal) ℓ) (g' : Dev Cert.ReferenceEvenInDwIdeal.nD → PrngReg), Pre_KernelEvenInDwIdeal m →
    (∀ c : Dev Cert.KernelEvenInDwIdeal.nD,
      m' ((c.tc : Thread Cert.ReferenceEvenInDwIdeal.nD Cert.ReferenceEvenInDwIdeal.τ).loc Cert.ReferenceEvenInDwIdeal.main_arg0) = m ((c.tc : Thread Cert.KernelEvenInDwIdeal.nD Cert.KernelEvenInDwIdeal.τ).loc Cert.KernelEvenInDwIdeal.main_arg0)
      ∧ m' ((c.tc : Thread Cert.ReferenceEvenInDwIdeal.nD Cert.ReferenceEvenInDwIdeal.τ).loc Cert.ReferenceEvenInDwIdeal.main_arg1) = m ((c.tc : Thread Cert.KernelEvenInDwIdeal.nD Cert.KernelEvenInDwIdeal.τ).loc Cert.KernelEvenInDwIdeal.main_arg1)
      ∧ m' ((c.tc : Thread Cert.ReferenceEvenInDwIdeal.nD Cert.ReferenceEvenInDwIdeal.τ).loc Cert.ReferenceEvenInDwIdeal.main_arg2) = m ((c.tc : Thread Cert.KernelEvenInDwIdeal.nD Cert.KernelEvenInDwIdeal.τ).loc Cert.KernelEvenInDwIdeal.main_arg2)
      ∧ m' ((c.tc : Thread Cert.ReferenceEvenInDwIdeal.nD Cert.ReferenceEvenInDwIdeal.τ).loc Cert.ReferenceEvenInDwIdeal.main_arg3) = m ((c.tc : Thread Cert.KernelEvenInDwIdeal.nD Cert.KernelEvenInDwIdeal.τ).loc Cert.KernelEvenInDwIdeal.main_arg3)) →
    ∃ (v0 : (c : Dev Cert.KernelEvenInDwIdeal.nD) → Buf (Elt Ideal) ((c.tc : Thread Cert.KernelEvenInDwIdeal.nD Cert.KernelEvenInDwIdeal.τ).loc Cert.KernelEvenInDwIdeal.main_v14)),
      θ_run (Cert.KernelEvenInDwIdeal.defs (F := Ideal)) (onTc (τ := Cert.KernelEvenInDwIdeal.τ) (Cert.KernelEvenInDwIdeal.main (F := Ideal))) ⟨m, fun _ => 0, g⟩ (fun r => ∀ c : Dev Cert.KernelEvenInDwIdeal.nD,
          r.2.mem ((c.tc : Thread Cert.KernelEvenInDwIdeal.nD Cert.KernelEvenInDwIdeal.τ).loc Cert.KernelEvenInDwIdeal.main_v14) = v0 c
          ∧ r.2.mem ((c.tc : Thread Cert.KernelEvenInDwIdeal.nD Cert.KernelEvenInDwIdeal.τ).loc Cert.KernelEvenInDwIdeal.main_arg0) = m ((c.tc : Thread Cert.KernelEvenInDwIdeal.nD Cert.KernelEvenInDwIdeal.τ).loc Cert.KernelEvenInDwIdeal.main_arg0)
          ∧ r.2.mem ((c.tc : Thread Cert.KernelEvenInDwIdeal.nD Cert.KernelEvenInDwIdeal.τ).loc Cert.KernelEvenInDwIdeal.main_arg1) = m ((c.tc : Thread Cert.KernelEvenInDwIdeal.nD Cert.KernelEvenInDwIdeal.τ).loc Cert.KernelEvenInDwIdeal.main_arg1)
          ∧ r.2.mem ((c.tc : Thread Cert.KernelEvenInDwIdeal.nD Cert.KernelEvenInDwIdeal.τ).loc Cert.KernelEvenInDwIdeal.main_arg2) = m ((c.tc : Thread Cert.KernelEvenInDwIdeal.nD Cert.KernelEvenInDwIdeal.τ).loc Cert.KernelEvenInDwIdeal.main_arg2)
          ∧ r.2.mem ((c.tc : Thread Cert.KernelEvenInDwIdeal.nD Cert.KernelEvenInDwIdeal.τ).loc Cert.KernelEvenInDwIdeal.main_arg3) = m ((c.tc : Thread Cert.KernelEvenInDwIdeal.nD Cert.KernelEvenInDwIdeal.τ).loc Cert.KernelEvenInDwIdeal.main_arg3))
      ∧ θ_run (Cert.ReferenceEvenInDwIdeal.defs (F := Ideal)) (onTc (τ := Cert.ReferenceEvenInDwIdeal.τ) (Cert.ReferenceEvenInDwIdeal.main (F := Ideal))) ⟨m', fun _ => 0, g'⟩ (fun r => ∀ c : Dev Cert.ReferenceEvenInDwIdeal.nD,
          r.2.mem ((c.tc : Thread Cert.ReferenceEvenInDwIdeal.nD Cert.ReferenceEvenInDwIdeal.τ).loc Cert.ReferenceEvenInDwIdeal.main_v11) = v0 c
          ∧ r.2.mem ((c.tc : Thread Cert.ReferenceEvenInDwIdeal.nD Cert.ReferenceEvenInDwIdeal.τ).loc Cert.ReferenceEvenInDwIdeal.main_arg0) = m' ((c.tc : Thread Cert.ReferenceEvenInDwIdeal.nD Cert.ReferenceEvenInDwIdeal.τ).loc Cert.ReferenceEvenInDwIdeal.main_arg0)
          ∧ r.2.mem ((c.tc : Thread Cert.ReferenceEvenInDwIdeal.nD Cert.ReferenceEvenInDwIdeal.τ).loc Cert.ReferenceEvenInDwIdeal.main_arg1) = m' ((c.tc : Thread Cert.ReferenceEvenInDwIdeal.nD Cert.ReferenceEvenInDwIdeal.τ).loc Cert.ReferenceEvenInDwIdeal.main_arg1)
          ∧ r.2.mem ((c.tc : Thread Cert.ReferenceEvenInDwIdeal.nD Cert.ReferenceEvenInDwIdeal.τ).loc Cert.ReferenceEvenInDwIdeal.main_arg2) = m' ((c.tc : Thread Cert.ReferenceEvenInDwIdeal.nD Cert.ReferenceEvenInDwIdeal.τ).loc Cert.ReferenceEvenInDwIdeal.main_arg2)
          ∧ r.2.mem ((c.tc : Thread Cert.ReferenceEvenInDwIdeal.nD Cert.ReferenceEvenInDwIdeal.τ).loc Cert.ReferenceEvenInDwIdeal.main_arg3) = m' ((c.tc : Thread Cert.ReferenceEvenInDwIdeal.nD Cert.ReferenceEvenInDwIdeal.τ).loc Cert.ReferenceEvenInDwIdeal.main_arg3))

def preserves_KernelEvenInBwd_KernelEvenInBwdIdeal : Prop :=
  True

def algebraic_KernelEvenInBwdIdeal_ReferenceEvenInBwdIdeal [hKernelEvenInBwdIdeal : Cert.KernelEvenInBwdIdeal.Facts] [hReferenceEvenInBwdIdeal : Cert.ReferenceEvenInBwdIdeal.Facts] : Prop :=
  ∀ (m : (ℓ : Loc Cert.KernelEvenInBwdIdeal.nD Cert.KernelEvenInBwdIdeal.τ Cert.KernelEvenInBwdIdeal.sig) → Buf (Elt Ideal) ℓ) (g : Dev Cert.KernelEvenInBwdIdeal.nD → PrngReg)
    (m' : (ℓ : Loc Cert.ReferenceEvenInBwdIdeal.nD Cert.ReferenceEvenInBwdIdeal.τ Cert.ReferenceEvenInBwdIdeal.sig) → Buf (Elt Ideal) ℓ) (g' : Dev Cert.ReferenceEvenInBwdIdeal.nD → PrngReg), Pre_KernelEvenInBwdIdeal m →
    (∀ c : Dev Cert.KernelEvenInBwdIdeal.nD,
      m' ((c.tc : Thread Cert.ReferenceEvenInBwdIdeal.nD Cert.ReferenceEvenInBwdIdeal.τ).loc Cert.ReferenceEvenInBwdIdeal.main_arg0) = m ((c.tc : Thread Cert.KernelEvenInBwdIdeal.nD Cert.KernelEvenInBwdIdeal.τ).loc Cert.KernelEvenInBwdIdeal.main_arg0)
      ∧ m' ((c.tc : Thread Cert.ReferenceEvenInBwdIdeal.nD Cert.ReferenceEvenInBwdIdeal.τ).loc Cert.ReferenceEvenInBwdIdeal.main_arg1) = m ((c.tc : Thread Cert.KernelEvenInBwdIdeal.nD Cert.KernelEvenInBwdIdeal.τ).loc Cert.KernelEvenInBwdIdeal.main_arg1)
      ∧ m' ((c.tc : Thread Cert.ReferenceEvenInBwdIdeal.nD Cert.ReferenceEvenInBwdIdeal.τ).loc Cert.ReferenceEvenInBwdIdeal.main_arg2) = m ((c.tc : Thread Cert.KernelEvenInBwdIdeal.nD Cert.KernelEvenInBwdIdeal.τ).loc Cert.KernelEvenInBwdIdeal.main_arg2)
      ∧ m' ((c.tc : Thread Cert.ReferenceEvenInBwdIdeal.nD Cert.ReferenceEvenInBwdIdeal.τ).loc Cert.ReferenceEvenInBwdIdeal.main_arg3) = m ((c.tc : Thread Cert.KernelEvenInBwdIdeal.nD Cert.KernelEvenInBwdIdeal.τ).loc Cert.KernelEvenInBwdIdeal.main_arg3)
      ∧ m' ((c.tc : Thread Cert.ReferenceEvenInBwdIdeal.nD Cert.ReferenceEvenInBwdIdeal.τ).loc Cert.ReferenceEvenInBwdIdeal.main_arg4) = m ((c.tc : Thread Cert.KernelEvenInBwdIdeal.nD Cert.KernelEvenInBwdIdeal.τ).loc Cert.KernelEvenInBwdIdeal.main_arg4)) →
    ∃ (v0 : (c : Dev Cert.KernelEvenInBwdIdeal.nD) → Buf (Elt Ideal) ((c.tc : Thread Cert.KernelEvenInBwdIdeal.nD Cert.KernelEvenInBwdIdeal.τ).loc Cert.KernelEvenInBwdIdeal.main_v20_0)) (v1 : (c : Dev Cert.KernelEvenInBwdIdeal.nD) → Buf (Elt Ideal) ((c.tc : Thread Cert.KernelEvenInBwdIdeal.nD Cert.KernelEvenInBwdIdeal.τ).loc Cert.KernelEvenInBwdIdeal.main_v20_1)) (v2 : (c : Dev Cert.KernelEvenInBwdIdeal.nD) → Buf (Elt Ideal) ((c.tc : Thread Cert.KernelEvenInBwdIdeal.nD Cert.KernelEvenInBwdIdeal.τ).loc Cert.KernelEvenInBwdIdeal.main_v20_2)),
      θ_run (Cert.KernelEvenInBwdIdeal.defs (F := Ideal)) (onTc (τ := Cert.KernelEvenInBwdIdeal.τ) (Cert.KernelEvenInBwdIdeal.main (F := Ideal))) ⟨m, fun _ => 0, g⟩ (fun r => ∀ c : Dev Cert.KernelEvenInBwdIdeal.nD,
          r.2.mem ((c.tc : Thread Cert.KernelEvenInBwdIdeal.nD Cert.KernelEvenInBwdIdeal.τ).loc Cert.KernelEvenInBwdIdeal.main_v20_0) = v0 c
          ∧ r.2.mem ((c.tc : Thread Cert.KernelEvenInBwdIdeal.nD Cert.KernelEvenInBwdIdeal.τ).loc Cert.KernelEvenInBwdIdeal.main_v20_1) = v1 c
          ∧ r.2.mem ((c.tc : Thread Cert.KernelEvenInBwdIdeal.nD Cert.KernelEvenInBwdIdeal.τ).loc Cert.KernelEvenInBwdIdeal.main_v20_2) = v2 c
          ∧ r.2.mem ((c.tc : Thread Cert.KernelEvenInBwdIdeal.nD Cert.KernelEvenInBwdIdeal.τ).loc Cert.KernelEvenInBwdIdeal.main_arg0) = m ((c.tc : Thread Cert.KernelEvenInBwdIdeal.nD Cert.KernelEvenInBwdIdeal.τ).loc Cert.KernelEvenInBwdIdeal.main_arg0)
          ∧ r.2.mem ((c.tc : Thread Cert.KernelEvenInBwdIdeal.nD Cert.KernelEvenInBwdIdeal.τ).loc Cert.KernelEvenInBwdIdeal.main_arg1) = m ((c.tc : Thread Cert.KernelEvenInBwdIdeal.nD Cert.KernelEvenInBwdIdeal.τ).loc Cert.KernelEvenInBwdIdeal.main_arg1)
          ∧ r.2.mem ((c.tc : Thread Cert.KernelEvenInBwdIdeal.nD Cert.KernelEvenInBwdIdeal.τ).loc Cert.KernelEvenInBwdIdeal.main_arg2) = m ((c.tc : Thread Cert.KernelEvenInBwdIdeal.nD Cert.KernelEvenInBwdIdeal.τ).loc Cert.KernelEvenInBwdIdeal.main_arg2)
          ∧ r.2.mem ((c.tc : Thread Cert.KernelEvenInBwdIdeal.nD Cert.KernelEvenInBwdIdeal.τ).loc Cert.KernelEvenInBwdIdeal.main_arg3) = m ((c.tc : Thread Cert.KernelEvenInBwdIdeal.nD Cert.KernelEvenInBwdIdeal.τ).loc Cert.KernelEvenInBwdIdeal.main_arg3)
          ∧ r.2.mem ((c.tc : Thread Cert.KernelEvenInBwdIdeal.nD Cert.KernelEvenInBwdIdeal.τ).loc Cert.KernelEvenInBwdIdeal.main_arg4) = m ((c.tc : Thread Cert.KernelEvenInBwdIdeal.nD Cert.KernelEvenInBwdIdeal.τ).loc Cert.KernelEvenInBwdIdeal.main_arg4))
      ∧ θ_run (Cert.ReferenceEvenInBwdIdeal.defs (F := Ideal)) (onTc (τ := Cert.ReferenceEvenInBwdIdeal.τ) (Cert.ReferenceEvenInBwdIdeal.main (F := Ideal))) ⟨m', fun _ => 0, g'⟩ (fun r => ∀ c : Dev Cert.ReferenceEvenInBwdIdeal.nD,
          r.2.mem ((c.tc : Thread Cert.ReferenceEvenInBwdIdeal.nD Cert.ReferenceEvenInBwdIdeal.τ).loc Cert.ReferenceEvenInBwdIdeal.main_v38) = v0 c
          ∧ r.2.mem ((c.tc : Thread Cert.ReferenceEvenInBwdIdeal.nD Cert.ReferenceEvenInBwdIdeal.τ).loc Cert.ReferenceEvenInBwdIdeal.main_v39) = v1 c
          ∧ r.2.mem ((c.tc : Thread Cert.ReferenceEvenInBwdIdeal.nD Cert.ReferenceEvenInBwdIdeal.τ).loc Cert.ReferenceEvenInBwdIdeal.main_v40) = v2 c
          ∧ r.2.mem ((c.tc : Thread Cert.ReferenceEvenInBwdIdeal.nD Cert.ReferenceEvenInBwdIdeal.τ).loc Cert.ReferenceEvenInBwdIdeal.main_arg0) = m' ((c.tc : Thread Cert.ReferenceEvenInBwdIdeal.nD Cert.ReferenceEvenInBwdIdeal.τ).loc Cert.ReferenceEvenInBwdIdeal.main_arg0)
          ∧ r.2.mem ((c.tc : Thread Cert.ReferenceEvenInBwdIdeal.nD Cert.ReferenceEvenInBwdIdeal.τ).loc Cert.ReferenceEvenInBwdIdeal.main_arg1) = m' ((c.tc : Thread Cert.ReferenceEvenInBwdIdeal.nD Cert.ReferenceEvenInBwdIdeal.τ).loc Cert.ReferenceEvenInBwdIdeal.main_arg1)
          ∧ r.2.mem ((c.tc : Thread Cert.ReferenceEvenInBwdIdeal.nD Cert.ReferenceEvenInBwdIdeal.τ).loc Cert.ReferenceEvenInBwdIdeal.main_arg2) = m' ((c.tc : Thread Cert.ReferenceEvenInBwdIdeal.nD Cert.ReferenceEvenInBwdIdeal.τ).loc Cert.ReferenceEvenInBwdIdeal.main_arg2)
          ∧ r.2.mem ((c.tc : Thread Cert.ReferenceEvenInBwdIdeal.nD Cert.ReferenceEvenInBwdIdeal.τ).loc Cert.ReferenceEvenInBwdIdeal.main_arg3) = m' ((c.tc : Thread Cert.ReferenceEvenInBwdIdeal.nD Cert.ReferenceEvenInBwdIdeal.τ).loc Cert.ReferenceEvenInBwdIdeal.main_arg3)
          ∧ r.2.mem ((c.tc : Thread Cert.ReferenceEvenInBwdIdeal.nD Cert.ReferenceEvenInBwdIdeal.τ).loc Cert.ReferenceEvenInBwdIdeal.main_arg4) = m' ((c.tc : Thread Cert.ReferenceEvenInBwdIdeal.nD Cert.ReferenceEvenInBwdIdeal.τ).loc Cert.ReferenceEvenInBwdIdeal.main_arg4))

def preserves_KernelAdamGu_KernelAdamGuIdeal : Prop :=
  True

def algebraic_KernelAdamGuIdeal_ReferenceAdamGuIdeal [hKernelAdamGuIdeal : Cert.KernelAdamGuIdeal.Facts] [hReferenceAdamGuIdeal : Cert.ReferenceAdamGuIdeal.Facts] : Prop :=
  ∀ (m : (ℓ : Loc Cert.KernelAdamGuIdeal.nD Cert.KernelAdamGuIdeal.τ Cert.KernelAdamGuIdeal.sig) → Buf (Elt Ideal) ℓ) (g : Dev Cert.KernelAdamGuIdeal.nD → PrngReg)
    (m' : (ℓ : Loc Cert.ReferenceAdamGuIdeal.nD Cert.ReferenceAdamGuIdeal.τ Cert.ReferenceAdamGuIdeal.sig) → Buf (Elt Ideal) ℓ) (g' : Dev Cert.ReferenceAdamGuIdeal.nD → PrngReg), Pre_KernelAdamGuIdeal m →
    (∀ c : Dev Cert.KernelAdamGuIdeal.nD,
      m' ((c.tc : Thread Cert.ReferenceAdamGuIdeal.nD Cert.ReferenceAdamGuIdeal.τ).loc Cert.ReferenceAdamGuIdeal.main_arg0) = m ((c.tc : Thread Cert.KernelAdamGuIdeal.nD Cert.KernelAdamGuIdeal.τ).loc Cert.KernelAdamGuIdeal.main_arg0)
      ∧ m' ((c.tc : Thread Cert.ReferenceAdamGuIdeal.nD Cert.ReferenceAdamGuIdeal.τ).loc Cert.ReferenceAdamGuIdeal.main_arg1) = m ((c.tc : Thread Cert.KernelAdamGuIdeal.nD Cert.KernelAdamGuIdeal.τ).loc Cert.KernelAdamGuIdeal.main_arg1)
      ∧ m' ((c.tc : Thread Cert.ReferenceAdamGuIdeal.nD Cert.ReferenceAdamGuIdeal.τ).loc Cert.ReferenceAdamGuIdeal.main_arg2) = m ((c.tc : Thread Cert.KernelAdamGuIdeal.nD Cert.KernelAdamGuIdeal.τ).loc Cert.KernelAdamGuIdeal.main_arg2)
      ∧ m' ((c.tc : Thread Cert.ReferenceAdamGuIdeal.nD Cert.ReferenceAdamGuIdeal.τ).loc Cert.ReferenceAdamGuIdeal.main_arg3) = m ((c.tc : Thread Cert.KernelAdamGuIdeal.nD Cert.KernelAdamGuIdeal.τ).loc Cert.KernelAdamGuIdeal.main_arg3)
      ∧ m' ((c.tc : Thread Cert.ReferenceAdamGuIdeal.nD Cert.ReferenceAdamGuIdeal.τ).loc Cert.ReferenceAdamGuIdeal.main_arg4) = m ((c.tc : Thread Cert.KernelAdamGuIdeal.nD Cert.KernelAdamGuIdeal.τ).loc Cert.KernelAdamGuIdeal.main_arg4)
      ∧ m' ((c.tc : Thread Cert.ReferenceAdamGuIdeal.nD Cert.ReferenceAdamGuIdeal.τ).loc Cert.ReferenceAdamGuIdeal.main_arg5) = m ((c.tc : Thread Cert.KernelAdamGuIdeal.nD Cert.KernelAdamGuIdeal.τ).loc Cert.KernelAdamGuIdeal.main_arg5)
      ∧ m' ((c.tc : Thread Cert.ReferenceAdamGuIdeal.nD Cert.ReferenceAdamGuIdeal.τ).loc Cert.ReferenceAdamGuIdeal.main_arg6) = m ((c.tc : Thread Cert.KernelAdamGuIdeal.nD Cert.KernelAdamGuIdeal.τ).loc Cert.KernelAdamGuIdeal.main_arg6)
      ∧ m' ((c.tc : Thread Cert.ReferenceAdamGuIdeal.nD Cert.ReferenceAdamGuIdeal.τ).loc Cert.ReferenceAdamGuIdeal.main_arg7) = m ((c.tc : Thread Cert.KernelAdamGuIdeal.nD Cert.KernelAdamGuIdeal.τ).loc Cert.KernelAdamGuIdeal.main_arg7)) →
    ∃ (v0 : (c : Dev Cert.KernelAdamGuIdeal.nD) → Buf (Elt Ideal) ((c.tc : Thread Cert.KernelAdamGuIdeal.nD Cert.KernelAdamGuIdeal.τ).loc Cert.KernelAdamGuIdeal.main_v0_0)) (v1 : (c : Dev Cert.KernelAdamGuIdeal.nD) → Buf (Elt Ideal) ((c.tc : Thread Cert.KernelAdamGuIdeal.nD Cert.KernelAdamGuIdeal.τ).loc Cert.KernelAdamGuIdeal.main_v0_1)) (v2 : (c : Dev Cert.KernelAdamGuIdeal.nD) → Buf (Elt Ideal) ((c.tc : Thread Cert.KernelAdamGuIdeal.nD Cert.KernelAdamGuIdeal.τ).loc Cert.KernelAdamGuIdeal.main_v0_2)) (v3 : (c : Dev Cert.KernelAdamGuIdeal.nD) → Buf (Elt Ideal) ((c.tc : Thread Cert.KernelAdamGuIdeal.nD Cert.KernelAdamGuIdeal.τ).loc Cert.KernelAdamGuIdeal.main_v0_3)),
      θ_run (Cert.KernelAdamGuIdeal.defs (F := Ideal)) (onTc (τ := Cert.KernelAdamGuIdeal.τ) (Cert.KernelAdamGuIdeal.main (F := Ideal))) ⟨m, fun _ => 0, g⟩ (fun r => ∀ c : Dev Cert.KernelAdamGuIdeal.nD,
          r.2.mem ((c.tc : Thread Cert.KernelAdamGuIdeal.nD Cert.KernelAdamGuIdeal.τ).loc Cert.KernelAdamGuIdeal.main_v0_0) = v0 c
          ∧ r.2.mem ((c.tc : Thread Cert.KernelAdamGuIdeal.nD Cert.KernelAdamGuIdeal.τ).loc Cert.KernelAdamGuIdeal.main_v0_1) = v1 c
          ∧ r.2.mem ((c.tc : Thread Cert.KernelAdamGuIdeal.nD Cert.KernelAdamGuIdeal.τ).loc Cert.KernelAdamGuIdeal.main_v0_2) = v2 c
          ∧ r.2.mem ((c.tc : Thread Cert.KernelAdamGuIdeal.nD Cert.KernelAdamGuIdeal.τ).loc Cert.KernelAdamGuIdeal.main_v0_3) = v3 c
          ∧ r.2.mem ((c.tc : Thread Cert.KernelAdamGuIdeal.nD Cert.KernelAdamGuIdeal.τ).loc Cert.KernelAdamGuIdeal.main_arg0) = m ((c.tc : Thread Cert.KernelAdamGuIdeal.nD Cert.KernelAdamGuIdeal.τ).loc Cert.KernelAdamGuIdeal.main_arg0)
          ∧ r.2.mem ((c.tc : Thread Cert.KernelAdamGuIdeal.nD Cert.KernelAdamGuIdeal.τ).loc Cert.KernelAdamGuIdeal.main_arg1) = m ((c.tc : Thread Cert.KernelAdamGuIdeal.nD Cert.KernelAdamGuIdeal.τ).loc Cert.KernelAdamGuIdeal.main_arg1)
          ∧ r.2.mem ((c.tc : Thread Cert.KernelAdamGuIdeal.nD Cert.KernelAdamGuIdeal.τ).loc Cert.KernelAdamGuIdeal.main_arg2) = m ((c.tc : Thread Cert.KernelAdamGuIdeal.nD Cert.KernelAdamGuIdeal.τ).loc Cert.KernelAdamGuIdeal.main_arg2)
          ∧ r.2.mem ((c.tc : Thread Cert.KernelAdamGuIdeal.nD Cert.KernelAdamGuIdeal.τ).loc Cert.KernelAdamGuIdeal.main_arg3) = m ((c.tc : Thread Cert.KernelAdamGuIdeal.nD Cert.KernelAdamGuIdeal.τ).loc Cert.KernelAdamGuIdeal.main_arg3)
          ∧ r.2.mem ((c.tc : Thread Cert.KernelAdamGuIdeal.nD Cert.KernelAdamGuIdeal.τ).loc Cert.KernelAdamGuIdeal.main_arg4) = m ((c.tc : Thread Cert.KernelAdamGuIdeal.nD Cert.KernelAdamGuIdeal.τ).loc Cert.KernelAdamGuIdeal.main_arg4)
          ∧ r.2.mem ((c.tc : Thread Cert.KernelAdamGuIdeal.nD Cert.KernelAdamGuIdeal.τ).loc Cert.KernelAdamGuIdeal.main_arg5) = m ((c.tc : Thread Cert.KernelAdamGuIdeal.nD Cert.KernelAdamGuIdeal.τ).loc Cert.KernelAdamGuIdeal.main_arg5)
          ∧ r.2.mem ((c.tc : Thread Cert.KernelAdamGuIdeal.nD Cert.KernelAdamGuIdeal.τ).loc Cert.KernelAdamGuIdeal.main_arg6) = m ((c.tc : Thread Cert.KernelAdamGuIdeal.nD Cert.KernelAdamGuIdeal.τ).loc Cert.KernelAdamGuIdeal.main_arg6)
          ∧ r.2.mem ((c.tc : Thread Cert.KernelAdamGuIdeal.nD Cert.KernelAdamGuIdeal.τ).loc Cert.KernelAdamGuIdeal.main_arg7) = m ((c.tc : Thread Cert.KernelAdamGuIdeal.nD Cert.KernelAdamGuIdeal.τ).loc Cert.KernelAdamGuIdeal.main_arg7))
      ∧ θ_run (Cert.ReferenceAdamGuIdeal.defs (F := Ideal)) (onTc (τ := Cert.ReferenceAdamGuIdeal.τ) (Cert.ReferenceAdamGuIdeal.main (F := Ideal))) ⟨m', fun _ => 0, g'⟩ (fun r => ∀ c : Dev Cert.ReferenceAdamGuIdeal.nD,
          r.2.mem ((c.tc : Thread Cert.ReferenceAdamGuIdeal.nD Cert.ReferenceAdamGuIdeal.τ).loc Cert.ReferenceAdamGuIdeal.main_arg1) = v0 c
          ∧ r.2.mem ((c.tc : Thread Cert.ReferenceAdamGuIdeal.nD Cert.ReferenceAdamGuIdeal.τ).loc Cert.ReferenceAdamGuIdeal.main_v23) = v1 c
          ∧ r.2.mem ((c.tc : Thread Cert.ReferenceAdamGuIdeal.nD Cert.ReferenceAdamGuIdeal.τ).loc Cert.ReferenceAdamGuIdeal.main_v4) = v2 c
          ∧ r.2.mem ((c.tc : Thread Cert.ReferenceAdamGuIdeal.nD Cert.ReferenceAdamGuIdeal.τ).loc Cert.ReferenceAdamGuIdeal.main_v10) = v3 c
          ∧ r.2.mem ((c.tc : Thread Cert.ReferenceAdamGuIdeal.nD Cert.ReferenceAdamGuIdeal.τ).loc Cert.ReferenceAdamGuIdeal.main_arg0) = m' ((c.tc : Thread Cert.ReferenceAdamGuIdeal.nD Cert.ReferenceAdamGuIdeal.τ).loc Cert.ReferenceAdamGuIdeal.main_arg0)
          ∧ r.2.mem ((c.tc : Thread Cert.ReferenceAdamGuIdeal.nD Cert.ReferenceAdamGuIdeal.τ).loc Cert.ReferenceAdamGuIdeal.main_arg1) = m' ((c.tc : Thread Cert.ReferenceAdamGuIdeal.nD Cert.ReferenceAdamGuIdeal.τ).loc Cert.ReferenceAdamGuIdeal.main_arg1)
          ∧ r.2.mem ((c.tc : Thread Cert.ReferenceAdamGuIdeal.nD Cert.ReferenceAdamGuIdeal.τ).loc Cert.ReferenceAdamGuIdeal.main_arg2) = m' ((c.tc : Thread Cert.ReferenceAdamGuIdeal.nD Cert.ReferenceAdamGuIdeal.τ).loc Cert.ReferenceAdamGuIdeal.main_arg2)
          ∧ r.2.mem ((c.tc : Thread Cert.ReferenceAdamGuIdeal.nD Cert.ReferenceAdamGuIdeal.τ).loc Cert.ReferenceAdamGuIdeal.main_arg3) = m' ((c.tc : Thread Cert.ReferenceAdamGuIdeal.nD Cert.ReferenceAdamGuIdeal.τ).loc Cert.ReferenceAdamGuIdeal.main_arg3)
          ∧ r.2.mem ((c.tc : Thread Cert.ReferenceAdamGuIdeal.nD Cert.ReferenceAdamGuIdeal.τ).loc Cert.ReferenceAdamGuIdeal.main_arg4) = m' ((c.tc : Thread Cert.ReferenceAdamGuIdeal.nD Cert.ReferenceAdamGuIdeal.τ).loc Cert.ReferenceAdamGuIdeal.main_arg4)
          ∧ r.2.mem ((c.tc : Thread Cert.ReferenceAdamGuIdeal.nD Cert.ReferenceAdamGuIdeal.τ).loc Cert.ReferenceAdamGuIdeal.main_arg5) = m' ((c.tc : Thread Cert.ReferenceAdamGuIdeal.nD Cert.ReferenceAdamGuIdeal.τ).loc Cert.ReferenceAdamGuIdeal.main_arg5)
          ∧ r.2.mem ((c.tc : Thread Cert.ReferenceAdamGuIdeal.nD Cert.ReferenceAdamGuIdeal.τ).loc Cert.ReferenceAdamGuIdeal.main_arg6) = m' ((c.tc : Thread Cert.ReferenceAdamGuIdeal.nD Cert.ReferenceAdamGuIdeal.τ).loc Cert.ReferenceAdamGuIdeal.main_arg6)
          ∧ r.2.mem ((c.tc : Thread Cert.ReferenceAdamGuIdeal.nD Cert.ReferenceAdamGuIdeal.τ).loc Cert.ReferenceAdamGuIdeal.main_arg7) = m' ((c.tc : Thread Cert.ReferenceAdamGuIdeal.nD Cert.ReferenceAdamGuIdeal.τ).loc Cert.ReferenceAdamGuIdeal.main_arg7))

def preserves_KernelAdamDown_KernelAdamDownIdeal : Prop :=
  True

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)
      ∧ m' ((c.tc : Thread Cert.ReferenceAdamDownIdeal.nD Cert.ReferenceAdamDownIdeal.τ).loc Cert.ReferenceAdamDownIdeal.main_arg4) = m ((c.tc : Thread Cert.KernelAdamDownIdeal.nD Cert.KernelAdamDownIdeal.τ).loc Cert.KernelAdamDownIdeal.main_arg4)
      ∧ m' ((c.tc : Thread Cert.ReferenceAdamDownIdeal.nD Cert.ReferenceAdamDownIdeal.τ).loc Cert.ReferenceAdamDownIdeal.main_arg5) = m ((c.tc : Thread Cert.KernelAdamDownIdeal.nD Cert.KernelAdamDownIdeal.τ).loc Cert.KernelAdamDownIdeal.main_arg5)
      ∧ m' ((c.tc : Thread Cert.ReferenceAdamDownIdeal.nD Cert.ReferenceAdamDownIdeal.τ).loc Cert.ReferenceAdamDownIdeal.main_arg6) = m ((c.tc : Thread Cert.KernelAdamDownIdeal.nD Cert.KernelAdamDownIdeal.τ).loc Cert.KernelAdamDownIdeal.main_arg6)
      ∧ m' ((c.tc : Thread Cert.ReferenceAdamDownIdeal.nD Cert.ReferenceAdamDownIdeal.τ).loc Cert.ReferenceAdamDownIdeal.main_arg7) = m ((c.tc : Thread Cert.KernelAdamDownIdeal.nD Cert.KernelAdamDownIdeal.τ).loc Cert.KernelAdamDownIdeal.main_arg7)) →
    ∃ (v0 : (c : Dev Cert.KernelAdamDownIdeal.nD) → Buf (Elt Ideal) ((c.tc : Thread Cert.KernelAdamDownIdeal.nD Cert.KernelAdamDownIdeal.τ).loc Cert.KernelAdamDownIdeal.main_v0_0)) (v1 : (c : Dev Cert.KernelAdamDownIdeal.nD) → Buf (Elt Ideal) ((c.tc : Thread Cert.KernelAdamDownIdeal.nD Cert.KernelAdamDownIdeal.τ).loc Cert.KernelAdamDownIdeal.main_v0_1)) (v2 : (c : Dev Cert.KernelAdamDownIdeal.nD) → Buf (Elt Ideal) ((c.tc : Thread Cert.KernelAdamDownIdeal.nD Cert.KernelAdamDownIdeal.τ).loc Cert.KernelAdamDownIdeal.main_v0_2)) (v3 : (c : Dev Cert.KernelAdamDownIdeal.nD) → Buf (Elt Ideal) ((c.tc : Thread Cert.KernelAdamDownIdeal.nD Cert.KernelAdamDownIdeal.τ).loc Cert.KernelAdamDownIdeal.main_v0_3)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v0_0) = v0 c
          ∧ r.2.mem ((c.tc : Thread Cert.KernelAdamDownIdeal.nD Cert.KernelAdamDownIdeal.τ).loc Cert.KernelAdamDownIdeal.main_v0_1) = v1 c
          ∧ r.2.mem ((c.tc : Thread Cert.KernelAdamDownIdeal.nD Cert.KernelAdamDownIdeal.τ).loc Cert.KernelAdamDownIdeal.main_v0_2) = v2 c
          ∧ r.2.mem ((c.tc : Thread Cert.KernelAdamDownIdeal.nD Cert.KernelAdamDownIdeal.τ).loc Cert.KernelAdamDownIdeal.main_v0_3) = v3 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3)
          ∧ r.2.mem ((c.tc : Thread Cert.KernelAdamDownIdeal.nD Cert.KernelAdamDownIdeal.τ).loc Cert.KernelAdamDownIdeal.main_arg4) = m ((c.tc : Thread Cert.KernelAdamDownIdeal.nD Cert.KernelAdamDownIdeal.τ).loc Cert.KernelAdamDownIdeal.main_arg4)
          ∧ r.2.mem ((c.tc : Thread Cert.KernelAdamDownIdeal.nD Cert.KernelAdamDownIdeal.τ).loc Cert.KernelAdamDownIdeal.main_arg5) = m ((c.tc : Thread Cert.KernelAdamDownIdeal.nD Cert.KernelAdamDownIdeal.τ).loc Cert.KernelAdamDownIdeal.main_arg5)
          ∧ r.2.mem ((c.tc : Thread Cert.KernelAdamDownIdeal.nD Cert.KernelAdamDownIdeal.τ).loc Cert.KernelAdamDownIdeal.main_arg6) = m ((c.tc : Thread Cert.KernelAdamDownIdeal.nD Cert.KernelAdamDownIdeal.τ).loc Cert.KernelAdamDownIdeal.main_arg6)
          ∧ r.2.mem ((c.tc : Thread Cert.KernelAdamDownIdeal.nD Cert.KernelAdamDownIdeal.τ).loc Cert.KernelAdamDownIdeal.main_arg7) = m ((c.tc : Thread Cert.KernelAdamDownIdeal.nD Cert.KernelAdamDownIdeal.τ).loc Cert.KernelAdamDownIdeal.main_arg7))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_arg1) = v0 c
          ∧ r.2.mem ((c.tc : Thread Cert.ReferenceAdamDownIdeal.nD Cert.ReferenceAdamDownIdeal.τ).loc Cert.ReferenceAdamDownIdeal.main_v23) = v1 c
          ∧ r.2.mem ((c.tc : Thread Cert.ReferenceAdamDownIdeal.nD Cert.ReferenceAdamDownIdeal.τ).loc Cert.ReferenceAdamDownIdeal.main_v4) = v2 c
          ∧ r.2.mem ((c.tc : Thread Cert.ReferenceAdamDownIdeal.nD Cert.ReferenceAdamDownIdeal.τ).loc Cert.ReferenceAdamDownIdeal.main_v10) = v3 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3)
          ∧ r.2.mem ((c.tc : Thread Cert.ReferenceAdamDownIdeal.nD Cert.ReferenceAdamDownIdeal.τ).loc Cert.ReferenceAdamDownIdeal.main_arg4) = m' ((c.tc : Thread Cert.ReferenceAdamDownIdeal.nD Cert.ReferenceAdamDownIdeal.τ).loc Cert.ReferenceAdamDownIdeal.main_arg4)
          ∧ r.2.mem ((c.tc : Thread Cert.ReferenceAdamDownIdeal.nD Cert.ReferenceAdamDownIdeal.τ).loc Cert.ReferenceAdamDownIdeal.main_arg5) = m' ((c.tc : Thread Cert.ReferenceAdamDownIdeal.nD Cert.ReferenceAdamDownIdeal.τ).loc Cert.ReferenceAdamDownIdeal.main_arg5)
          ∧ r.2.mem ((c.tc : Thread Cert.ReferenceAdamDownIdeal.nD Cert.ReferenceAdamDownIdeal.τ).loc Cert.ReferenceAdamDownIdeal.main_arg6) = m' ((c.tc : Thread Cert.ReferenceAdamDownIdeal.nD Cert.ReferenceAdamDownIdeal.τ).loc Cert.ReferenceAdamDownIdeal.main_arg6)
          ∧ r.2.mem ((c.tc : Thread Cert.ReferenceAdamDownIdeal.nD Cert.ReferenceAdamDownIdeal.τ).loc Cert.ReferenceAdamDownIdeal.main_arg7) = m' ((c.tc : Thread Cert.ReferenceAdamDownIdeal.nD Cert.ReferenceAdamDownIdeal.τ).loc Cert.ReferenceAdamDownIdeal.main_arg7))

def preserves_KernelAdamInEven_KernelAdamInEvenIdeal : Prop :=
  True

def algebraic_KernelAdamInEvenIdeal_ReferenceAdamInEvenIdeal [hKernelAdamInEvenIdeal : Cert.KernelAdamInEvenIdeal.Facts] [hReferenceAdamInEvenIdeal : Cert.ReferenceAdamInEvenIdeal.Facts] : Prop :=
  ∀ (m : (ℓ : Loc Cert.KernelAdamInEvenIdeal.nD Cert.KernelAdamInEvenIdeal.τ Cert.KernelAdamInEvenIdeal.sig) → Buf (Elt Ideal) ℓ) (g : Dev Cert.KernelAdamInEvenIdeal.nD → PrngReg)
    (m' : (ℓ : Loc Cert.ReferenceAdamInEvenIdeal.nD Cert.ReferenceAdamInEvenIdeal.τ Cert.ReferenceAdamInEvenIdeal.sig) → Buf (Elt Ideal) ℓ) (g' : Dev Cert.ReferenceAdamInEvenIdeal.nD → PrngReg), Pre_KernelAdamInEvenIdeal m →
    (∀ c : Dev Cert.KernelAdamInEvenIdeal.nD,
      m' ((c.tc : Thread Cert.ReferenceAdamInEvenIdeal.nD Cert.ReferenceAdamInEvenIdeal.τ).loc Cert.ReferenceAdamInEvenIdeal.main_arg0) = m ((c.tc : Thread Cert.KernelAdamInEvenIdeal.nD Cert.KernelAdamInEvenIdeal.τ).loc Cert.KernelAdamInEvenIdeal.main_arg0)
      ∧ m' ((c.tc : Thread Cert.ReferenceAdamInEvenIdeal.nD Cert.ReferenceAdamInEvenIdeal.τ).loc Cert.ReferenceAdamInEvenIdeal.main_arg1) = m ((c.tc : Thread Cert.KernelAdamInEvenIdeal.nD Cert.KernelAdamInEvenIdeal.τ).loc Cert.KernelAdamInEvenIdeal.main_arg1)
      ∧ m' ((c.tc : Thread Cert.ReferenceAdamInEvenIdeal.nD Cert.ReferenceAdamInEvenIdeal.τ).loc Cert.ReferenceAdamInEvenIdeal.main_arg2) = m ((c.tc : Thread Cert.KernelAdamInEvenIdeal.nD Cert.KernelAdamInEvenIdeal.τ).loc Cert.KernelAdamInEvenIdeal.main_arg2)
      ∧ m' ((c.tc : Thread Cert.ReferenceAdamInEvenIdeal.nD Cert.ReferenceAdamInEvenIdeal.τ).loc Cert.ReferenceAdamInEvenIdeal.main_arg3) = m ((c.tc : Thread Cert.KernelAdamInEvenIdeal.nD Cert.KernelAdamInEvenIdeal.τ).loc Cert.KernelAdamInEvenIdeal.main_arg3)
      ∧ m' ((c.tc : Thread Cert.ReferenceAdamInEvenIdeal.nD Cert.ReferenceAdamInEvenIdeal.τ).loc Cert.ReferenceAdamInEvenIdeal.main_arg4) = m ((c.tc : Thread Cert.KernelAdamInEvenIdeal.nD Cert.KernelAdamInEvenIdeal.τ).loc Cert.KernelAdamInEvenIdeal.main_arg4)
      ∧ m' ((c.tc : Thread Cert.ReferenceAdamInEvenIdeal.nD Cert.ReferenceAdamInEvenIdeal.τ).loc Cert.ReferenceAdamInEvenIdeal.main_arg5) = m ((c.tc : Thread Cert.KernelAdamInEvenIdeal.nD Cert.KernelAdamInEvenIdeal.τ).loc Cert.KernelAdamInEvenIdeal.main_arg5)
      ∧ m' ((c.tc : Thread Cert.ReferenceAdamInEvenIdeal.nD Cert.ReferenceAdamInEvenIdeal.τ).loc Cert.ReferenceAdamInEvenIdeal.main_arg6) = m ((c.tc : Thread Cert.KernelAdamInEvenIdeal.nD Cert.KernelAdamInEvenIdeal.τ).loc Cert.KernelAdamInEvenIdeal.main_arg6)
      ∧ m' ((c.tc : Thread Cert.ReferenceAdamInEvenIdeal.nD Cert.ReferenceAdamInEvenIdeal.τ).loc Cert.ReferenceAdamInEvenIdeal.main_arg7) = m ((c.tc : Thread Cert.KernelAdamInEvenIdeal.nD Cert.KernelAdamInEvenIdeal.τ).loc Cert.KernelAdamInEvenIdeal.main_arg7)) →
    ∃ (v0 : (c : Dev Cert.KernelAdamInEvenIdeal.nD) → Buf (Elt Ideal) ((c.tc : Thread Cert.KernelAdamInEvenIdeal.nD Cert.KernelAdamInEvenIdeal.τ).loc Cert.KernelAdamInEvenIdeal.main_v0_0)) (v1 : (c : Dev Cert.KernelAdamInEvenIdeal.nD) → Buf (Elt Ideal) ((c.tc : Thread Cert.KernelAdamInEvenIdeal.nD Cert.KernelAdamInEvenIdeal.τ).loc Cert.KernelAdamInEvenIdeal.main_v0_1)) (v2 : (c : Dev Cert.KernelAdamInEvenIdeal.nD) → Buf (Elt Ideal) ((c.tc : Thread Cert.KernelAdamInEvenIdeal.nD Cert.KernelAdamInEvenIdeal.τ).loc Cert.KernelAdamInEvenIdeal.main_v0_2)) (v3 : (c : Dev Cert.KernelAdamInEvenIdeal.nD) → Buf (Elt Ideal) ((c.tc : Thread Cert.KernelAdamInEvenIdeal.nD Cert.KernelAdamInEvenIdeal.τ).loc Cert.KernelAdamInEvenIdeal.main_v0_3)),
      θ_run (Cert.KernelAdamInEvenIdeal.defs (F := Ideal)) (onTc (τ := Cert.KernelAdamInEvenIdeal.τ) (Cert.KernelAdamInEvenIdeal.main (F := Ideal))) ⟨m, fun _ => 0, g⟩ (fun r => ∀ c : Dev Cert.KernelAdamInEvenIdeal.nD,
          r.2.mem ((c.tc : Thread Cert.KernelAdamInEvenIdeal.nD Cert.KernelAdamInEvenIdeal.τ).loc Cert.KernelAdamInEvenIdeal.main_v0_0) = v0 c
          ∧ r.2.mem ((c.tc : Thread Cert.KernelAdamInEvenIdeal.nD Cert.KernelAdamInEvenIdeal.τ).loc Cert.KernelAdamInEvenIdeal.main_v0_1) = v1 c
          ∧ r.2.mem ((c.tc : Thread Cert.KernelAdamInEvenIdeal.nD Cert.KernelAdamInEvenIdeal.τ).loc Cert.KernelAdamInEvenIdeal.main_v0_2) = v2 c
          ∧ r.2.mem ((c.tc : Thread Cert.KernelAdamInEvenIdeal.nD Cert.KernelAdamInEvenIdeal.τ).loc Cert.KernelAdamInEvenIdeal.main_v0_3) = v3 c
          ∧ r.2.mem ((c.tc : Thread Cert.KernelAdamInEvenIdeal.nD Cert.KernelAdamInEvenIdeal.τ).loc Cert.KernelAdamInEvenIdeal.main_arg0) = m ((c.tc : Thread Cert.KernelAdamInEvenIdeal.nD Cert.KernelAdamInEvenIdeal.τ).loc Cert.KernelAdamInEvenIdeal.main_arg0)
          ∧ r.2.mem ((c.tc : Thread Cert.KernelAdamInEvenIdeal.nD Cert.KernelAdamInEvenIdeal.τ).loc Cert.KernelAdamInEvenIdeal.main_arg1) = m ((c.tc : Thread Cert.KernelAdamInEvenIdeal.nD Cert.KernelAdamInEvenIdeal.τ).loc Cert.KernelAdamInEvenIdeal.main_arg1)
          ∧ r.2.mem ((c.tc : Thread Cert.KernelAdamInEvenIdeal.nD Cert.KernelAdamInEvenIdeal.τ).loc Cert.KernelAdamInEvenIdeal.main_arg2) = m ((c.tc : Thread Cert.KernelAdamInEvenIdeal.nD Cert.KernelAdamInEvenIdeal.τ).loc Cert.KernelAdamInEvenIdeal.main_arg2)
          ∧ r.2.mem ((c.tc : Thread Cert.KernelAdamInEvenIdeal.nD Cert.KernelAdamInEvenIdeal.τ).loc Cert.KernelAdamInEvenIdeal.main_arg3) = m ((c.tc : Thread Cert.KernelAdamInEvenIdeal.nD Cert.KernelAdamInEvenIdeal.τ).loc Cert.KernelAdamInEvenIdeal.main_arg3)
          ∧ r.2.mem ((c.tc : Thread Cert.KernelAdamInEvenIdeal.nD Cert.KernelAdamInEvenIdeal.τ).loc Cert.KernelAdamInEvenIdeal.main_arg4) = m ((c.tc : Thread Cert.KernelAdamInEvenIdeal.nD Cert.KernelAdamInEvenIdeal.τ).loc Cert.KernelAdamInEvenIdeal.main_arg4)
          ∧ r.2.mem ((c.tc : Thread Cert.KernelAdamInEvenIdeal.nD Cert.KernelAdamInEvenIdeal.τ).loc Cert.KernelAdamInEvenIdeal.main_arg5) = m ((c.tc : Thread Cert.KernelAdamInEvenIdeal.nD Cert.KernelAdamInEvenIdeal.τ).loc Cert.KernelAdamInEvenIdeal.main_arg5)
          ∧ r.2.mem ((c.tc : Thread Cert.KernelAdamInEvenIdeal.nD Cert.KernelAdamInEvenIdeal.τ).loc Cert.KernelAdamInEvenIdeal.main_arg6) = m ((c.tc : Thread Cert.KernelAdamInEvenIdeal.nD Cert.KernelAdamInEvenIdeal.τ).loc Cert.KernelAdamInEvenIdeal.main_arg6)
          ∧ r.2.mem ((c.tc : Thread Cert.KernelAdamInEvenIdeal.nD Cert.KernelAdamInEvenIdeal.τ).loc Cert.KernelAdamInEvenIdeal.main_arg7) = m ((c.tc : Thread Cert.KernelAdamInEvenIdeal.nD Cert.KernelAdamInEvenIdeal.τ).loc Cert.KernelAdamInEvenIdeal.main_arg7))
      ∧ θ_run (Cert.ReferenceAdamInEvenIdeal.defs (F := Ideal)) (onTc (τ := Cert.ReferenceAdamInEvenIdeal.τ) (Cert.ReferenceAdamInEvenIdeal.main (F := Ideal))) ⟨m', fun _ => 0, g'⟩ (fun r => ∀ c : Dev Cert.ReferenceAdamInEvenIdeal.nD,
          r.2.mem ((c.tc : Thread Cert.ReferenceAdamInEvenIdeal.nD Cert.ReferenceAdamInEvenIdeal.τ).loc Cert.ReferenceAdamInEvenIdeal.main_arg1) = v0 c
          ∧ r.2.mem ((c.tc : Thread Cert.ReferenceAdamInEvenIdeal.nD Cert.ReferenceAdamInEvenIdeal.τ).loc Cert.ReferenceAdamInEvenIdeal.main_v23) = v1 c
          ∧ r.2.mem ((c.tc : Thread Cert.ReferenceAdamInEvenIdeal.nD Cert.ReferenceAdamInEvenIdeal.τ).loc Cert.ReferenceAdamInEvenIdeal.main_v4) = v2 c
          ∧ r.2.mem ((c.tc : Thread Cert.ReferenceAdamInEvenIdeal.nD Cert.ReferenceAdamInEvenIdeal.τ).loc Cert.ReferenceAdamInEvenIdeal.main_v10) = v3 c
          ∧ r.2.mem ((c.tc : Thread Cert.ReferenceAdamInEvenIdeal.nD Cert.ReferenceAdamInEvenIdeal.τ).loc Cert.ReferenceAdamInEvenIdeal.main_arg0) = m' ((c.tc : Thread Cert.ReferenceAdamInEvenIdeal.nD Cert.ReferenceAdamInEvenIdeal.τ).loc Cert.ReferenceAdamInEvenIdeal.main_arg0)
          ∧ r.2.mem ((c.tc : Thread Cert.ReferenceAdamInEvenIdeal.nD Cert.ReferenceAdamInEvenIdeal.τ).loc Cert.ReferenceAdamInEvenIdeal.main_arg1) = m' ((c.tc : Thread Cert.ReferenceAdamInEvenIdeal.nD Cert.ReferenceAdamInEvenIdeal.τ).loc Cert.ReferenceAdamInEvenIdeal.main_arg1)
          ∧ r.2.mem ((c.tc : Thread Cert.ReferenceAdamInEvenIdeal.nD Cert.ReferenceAdamInEvenIdeal.τ).loc Cert.ReferenceAdamInEvenIdeal.main_arg2) = m' ((c.tc : Thread Cert.ReferenceAdamInEvenIdeal.nD Cert.ReferenceAdamInEvenIdeal.τ).loc Cert.ReferenceAdamInEvenIdeal.main_arg2)
          ∧ r.2.mem ((c.tc : Thread Cert.ReferenceAdamInEvenIdeal.nD Cert.ReferenceAdamInEvenIdeal.τ).loc Cert.ReferenceAdamInEvenIdeal.main_arg3) = m' ((c.tc : Thread Cert.ReferenceAdamInEvenIdeal.nD Cert.ReferenceAdamInEvenIdeal.τ).loc Cert.ReferenceAdamInEvenIdeal.main_arg3)
          ∧ r.2.mem ((c.tc : Thread Cert.ReferenceAdamInEvenIdeal.nD Cert.ReferenceAdamInEvenIdeal.τ).loc Cert.ReferenceAdamInEvenIdeal.main_arg4) = m' ((c.tc : Thread Cert.ReferenceAdamInEvenIdeal.nD Cert.ReferenceAdamInEvenIdeal.τ).loc Cert.ReferenceAdamInEvenIdeal.main_arg4)
          ∧ r.2.mem ((c.tc : Thread Cert.ReferenceAdamInEvenIdeal.nD Cert.ReferenceAdamInEvenIdeal.τ).loc Cert.ReferenceAdamInEvenIdeal.main_arg5) = m' ((c.tc : Thread Cert.ReferenceAdamInEvenIdeal.nD Cert.ReferenceAdamInEvenIdeal.τ).loc Cert.ReferenceAdamInEvenIdeal.main_arg5)
          ∧ r.2.mem ((c.tc : Thread Cert.ReferenceAdamInEvenIdeal.nD Cert.ReferenceAdamInEvenIdeal.τ).loc Cert.ReferenceAdamInEvenIdeal.main_arg6) = m' ((c.tc : Thread Cert.ReferenceAdamInEvenIdeal.nD Cert.ReferenceAdamInEvenIdeal.τ).loc Cert.ReferenceAdamInEvenIdeal.main_arg6)
          ∧ r.2.mem ((c.tc : Thread Cert.ReferenceAdamInEvenIdeal.nD Cert.ReferenceAdamInEvenIdeal.τ).loc Cert.ReferenceAdamInEvenIdeal.main_arg7) = m' ((c.tc : Thread Cert.ReferenceAdamInEvenIdeal.nD Cert.ReferenceAdamInEvenIdeal.τ).loc Cert.ReferenceAdamInEvenIdeal.main_arg7))

def preserves_KernelAdamInOdd_KernelAdamInOddIdeal : Prop :=
  True

def algebraic_KernelAdamInOddIdeal_ReferenceAdamInOddIdeal [hKernelAdamInOddIdeal : Cert.KernelAdamInOddIdeal.Facts] [hReferenceAdamInOddIdeal : Cert.ReferenceAdamInOddIdeal.Facts] : Prop :=
  ∀ (m : (ℓ : Loc Cert.KernelAdamInOddIdeal.nD Cert.KernelAdamInOddIdeal.τ Cert.KernelAdamInOddIdeal.sig) → Buf (Elt Ideal) ℓ) (g : Dev Cert.KernelAdamInOddIdeal.nD → PrngReg)
    (m' : (ℓ : Loc Cert.ReferenceAdamInOddIdeal.nD Cert.ReferenceAdamInOddIdeal.τ Cert.ReferenceAdamInOddIdeal.sig) → Buf (Elt Ideal) ℓ) (g' : Dev Cert.ReferenceAdamInOddIdeal.nD → PrngReg), Pre_KernelAdamInOddIdeal m →
    (∀ c : Dev Cert.KernelAdamInOddIdeal.nD,
      m' ((c.tc : Thread Cert.ReferenceAdamInOddIdeal.nD Cert.ReferenceAdamInOddIdeal.τ).loc Cert.ReferenceAdamInOddIdeal.main_arg0) = m ((c.tc : Thread Cert.KernelAdamInOddIdeal.nD Cert.KernelAdamInOddIdeal.τ).loc Cert.KernelAdamInOddIdeal.main_arg0)
      ∧ m' ((c.tc : Thread Cert.ReferenceAdamInOddIdeal.nD Cert.ReferenceAdamInOddIdeal.τ).loc Cert.ReferenceAdamInOddIdeal.main_arg1) = m ((c.tc : Thread Cert.KernelAdamInOddIdeal.nD Cert.KernelAdamInOddIdeal.τ).loc Cert.KernelAdamInOddIdeal.main_arg1)
      ∧ m' ((c.tc : Thread Cert.ReferenceAdamInOddIdeal.nD Cert.ReferenceAdamInOddIdeal.τ).loc Cert.ReferenceAdamInOddIdeal.main_arg2) = m ((c.tc : Thread Cert.KernelAdamInOddIdeal.nD Cert.KernelAdamInOddIdeal.τ).loc Cert.KernelAdamInOddIdeal.main_arg2)
      ∧ m' ((c.tc : Thread Cert.ReferenceAdamInOddIdeal.nD Cert.ReferenceAdamInOddIdeal.τ).loc Cert.ReferenceAdamInOddIdeal.main_arg3) = m ((c.tc : Thread Cert.KernelAdamInOddIdeal.nD Cert.KernelAdamInOddIdeal.τ).loc Cert.KernelAdamInOddIdeal.main_arg3)
      ∧ m' ((c.tc : Thread Cert.ReferenceAdamInOddIdeal.nD Cert.ReferenceAdamInOddIdeal.τ).loc Cert.ReferenceAdamInOddIdeal.main_arg4) = m ((c.tc : Thread Cert.KernelAdamInOddIdeal.nD Cert.KernelAdamInOddIdeal.τ).loc Cert.KernelAdamInOddIdeal.main_arg4)
      ∧ m' ((c.tc : Thread Cert.ReferenceAdamInOddIdeal.nD Cert.ReferenceAdamInOddIdeal.τ).loc Cert.ReferenceAdamInOddIdeal.main_arg5) = m ((c.tc : Thread Cert.KernelAdamInOddIdeal.nD Cert.KernelAdamInOddIdeal.τ).loc Cert.KernelAdamInOddIdeal.main_arg5)
      ∧ m' ((c.tc : Thread Cert.ReferenceAdamInOddIdeal.nD Cert.ReferenceAdamInOddIdeal.τ).loc Cert.ReferenceAdamInOddIdeal.main_arg6) = m ((c.tc : Thread Cert.KernelAdamInOddIdeal.nD Cert.KernelAdamInOddIdeal.τ).loc Cert.KernelAdamInOddIdeal.main_arg6)
      ∧ m' ((c.tc : Thread Cert.ReferenceAdamInOddIdeal.nD Cert.ReferenceAdamInOddIdeal.τ).loc Cert.ReferenceAdamInOddIdeal.main_arg7) = m ((c.tc : Thread Cert.KernelAdamInOddIdeal.nD Cert.KernelAdamInOddIdeal.τ).loc Cert.KernelAdamInOddIdeal.main_arg7)) →
    ∃ (v0 : (c : Dev Cert.KernelAdamInOddIdeal.nD) → Buf (Elt Ideal) ((c.tc : Thread Cert.KernelAdamInOddIdeal.nD Cert.KernelAdamInOddIdeal.τ).loc Cert.KernelAdamInOddIdeal.main_v0_0)) (v1 : (c : Dev Cert.KernelAdamInOddIdeal.nD) → Buf (Elt Ideal) ((c.tc : Thread Cert.KernelAdamInOddIdeal.nD Cert.KernelAdamInOddIdeal.τ).loc Cert.KernelAdamInOddIdeal.main_v0_1)) (v2 : (c : Dev Cert.KernelAdamInOddIdeal.nD) → Buf (Elt Ideal) ((c.tc : Thread Cert.KernelAdamInOddIdeal.nD Cert.KernelAdamInOddIdeal.τ).loc Cert.KernelAdamInOddIdeal.main_v0_2)) (v3 : (c : Dev Cert.KernelAdamInOddIdeal.nD) → Buf (Elt Ideal) ((c.tc : Thread Cert.KernelAdamInOddIdeal.nD Cert.KernelAdamInOddIdeal.τ).loc Cert.KernelAdamInOddIdeal.main_v0_3)),
      θ_run (Cert.KernelAdamInOddIdeal.defs (F := Ideal)) (onTc (τ := Cert.KernelAdamInOddIdeal.τ) (Cert.KernelAdamInOddIdeal.main (F := Ideal))) ⟨m, fun _ => 0, g⟩ (fun r => ∀ c : Dev Cert.KernelAdamInOddIdeal.nD,
          r.2.mem ((c.tc : Thread Cert.KernelAdamInOddIdeal.nD Cert.KernelAdamInOddIdeal.τ).loc Cert.KernelAdamInOddIdeal.main_v0_0) = v0 c
          ∧ r.2.mem ((c.tc : Thread Cert.KernelAdamInOddIdeal.nD Cert.KernelAdamInOddIdeal.τ).loc Cert.KernelAdamInOddIdeal.main_v0_1) = v1 c
          ∧ r.2.mem ((c.tc : Thread Cert.KernelAdamInOddIdeal.nD Cert.KernelAdamInOddIdeal.τ).loc Cert.KernelAdamInOddIdeal.main_v0_2) = v2 c
          ∧ r.2.mem ((c.tc : Thread Cert.KernelAdamInOddIdeal.nD Cert.KernelAdamInOddIdeal.τ).loc Cert.KernelAdamInOddIdeal.main_v0_3) = v3 c
          ∧ r.2.mem ((c.tc : Thread Cert.KernelAdamInOddIdeal.nD Cert.KernelAdamInOddIdeal.τ).loc Cert.KernelAdamInOddIdeal.main_arg0) = m ((c.tc : Thread Cert.KernelAdamInOddIdeal.nD Cert.KernelAdamInOddIdeal.τ).loc Cert.KernelAdamInOddIdeal.main_arg0)
          ∧ r.2.mem ((c.tc : Thread Cert.KernelAdamInOddIdeal.nD Cert.KernelAdamInOddIdeal.τ).loc Cert.KernelAdamInOddIdeal.main_arg1) = m ((c.tc : Thread Cert.KernelAdamInOddIdeal.nD Cert.KernelAdamInOddIdeal.τ).loc Cert.KernelAdamInOddIdeal.main_arg1)
          ∧ r.2.mem ((c.tc : Thread Cert.KernelAdamInOddIdeal.nD Cert.KernelAdamInOddIdeal.τ).loc Cert.KernelAdamInOddIdeal.main_arg2) = m ((c.tc : Thread Cert.KernelAdamInOddIdeal.nD Cert.KernelAdamInOddIdeal.τ).loc Cert.KernelAdamInOddIdeal.main_arg2)
          ∧ r.2.mem ((c.tc : Thread Cert.KernelAdamInOddIdeal.nD Cert.KernelAdamInOddIdeal.τ).loc Cert.KernelAdamInOddIdeal.main_arg3) = m ((c.tc : Thread Cert.KernelAdamInOddIdeal.nD Cert.KernelAdamInOddIdeal.τ).loc Cert.KernelAdamInOddIdeal.main_arg3)
          ∧ r.2.mem ((c.tc : Thread Cert.KernelAdamInOddIdeal.nD Cert.KernelAdamInOddIdeal.τ).loc Cert.KernelAdamInOddIdeal.main_arg4) = m ((c.tc : Thread Cert.KernelAdamInOddIdeal.nD Cert.KernelAdamInOddIdeal.τ).loc Cert.KernelAdamInOddIdeal.main_arg4)
          ∧ r.2.mem ((c.tc : Thread Cert.KernelAdamInOddIdeal.nD Cert.KernelAdamInOddIdeal.τ).loc Cert.KernelAdamInOddIdeal.main_arg5) = m ((c.tc : Thread Cert.KernelAdamInOddIdeal.nD Cert.KernelAdamInOddIdeal.τ).loc Cert.KernelAdamInOddIdeal.main_arg5)
          ∧ r.2.mem ((c.tc : Thread Cert.KernelAdamInOddIdeal.nD Cert.KernelAdamInOddIdeal.τ).loc Cert.KernelAdamInOddIdeal.main_arg6) = m ((c.tc : Thread Cert.KernelAdamInOddIdeal.nD Cert.KernelAdamInOddIdeal.τ).loc Cert.KernelAdamInOddIdeal.main_arg6)
          ∧ r.2.mem ((c.tc : Thread Cert.KernelAdamInOddIdeal.nD Cert.KernelAdamInOddIdeal.τ).loc Cert.KernelAdamInOddIdeal.main_arg7) = m ((c.tc : Thread Cert.KernelAdamInOddIdeal.nD Cert.KernelAdamInOddIdeal.τ).loc Cert.KernelAdamInOddIdeal.main_arg7))
      ∧ θ_run (Cert.ReferenceAdamInOddIdeal.defs (F := Ideal)) (onTc (τ := Cert.ReferenceAdamInOddIdeal.τ) (Cert.ReferenceAdamInOddIdeal.main (F := Ideal))) ⟨m', fun _ => 0, g'⟩ (fun r => ∀ c : Dev Cert.ReferenceAdamInOddIdeal.nD,
          r.2.mem ((c.tc : Thread Cert.ReferenceAdamInOddIdeal.nD Cert.ReferenceAdamInOddIdeal.τ).loc Cert.ReferenceAdamInOddIdeal.main_arg1) = v0 c
          ∧ r.2.mem ((c.tc : Thread Cert.ReferenceAdamInOddIdeal.nD Cert.ReferenceAdamInOddIdeal.τ).loc Cert.ReferenceAdamInOddIdeal.main_v23) = v1 c
          ∧ r.2.mem ((c.tc : Thread Cert.ReferenceAdamInOddIdeal.nD Cert.ReferenceAdamInOddIdeal.τ).loc Cert.ReferenceAdamInOddIdeal.main_v4) = v2 c
          ∧ r.2.mem ((c.tc : Thread Cert.ReferenceAdamInOddIdeal.nD Cert.ReferenceAdamInOddIdeal.τ).loc Cert.ReferenceAdamInOddIdeal.main_v10) = v3 c
          ∧ r.2.mem ((c.tc : Thread Cert.ReferenceAdamInOddIdeal.nD Cert.ReferenceAdamInOddIdeal.τ).loc Cert.ReferenceAdamInOddIdeal.main_arg0) = m' ((c.tc : Thread Cert.ReferenceAdamInOddIdeal.nD Cert.ReferenceAdamInOddIdeal.τ).loc Cert.ReferenceAdamInOddIdeal.main_arg0)
          ∧ r.2.mem ((c.tc : Thread Cert.ReferenceAdamInOddIdeal.nD Cert.ReferenceAdamInOddIdeal.τ).loc Cert.ReferenceAdamInOddIdeal.main_arg1) = m' ((c.tc : Thread Cert.ReferenceAdamInOddIdeal.nD Cert.ReferenceAdamInOddIdeal.τ).loc Cert.ReferenceAdamInOddIdeal.main_arg1)
          ∧ r.2.mem ((c.tc : Thread Cert.ReferenceAdamInOddIdeal.nD Cert.ReferenceAdamInOddIdeal.τ).loc Cert.ReferenceAdamInOddIdeal.main_arg2) = m' ((c.tc : Thread Cert.ReferenceAdamInOddIdeal.nD Cert.ReferenceAdamInOddIdeal.τ).loc Cert.ReferenceAdamInOddIdeal.main_arg2)
          ∧ r.2.mem ((c.tc : Thread Cert.ReferenceAdamInOddIdeal.nD Cert.ReferenceAdamInOddIdeal.τ).loc Cert.ReferenceAdamInOddIdeal.main_arg3) = m' ((c.tc : Thread Cert.ReferenceAdamInOddIdeal.nD Cert.ReferenceAdamInOddIdeal.τ).loc Cert.ReferenceAdamInOddIdeal.main_arg3)
          ∧ r.2.mem ((c.tc : Thread Cert.ReferenceAdamInOddIdeal.nD Cert.ReferenceAdamInOddIdeal.τ).loc Cert.ReferenceAdamInOddIdeal.main_arg4) = m' ((c.tc : Thread Cert.ReferenceAdamInOddIdeal.nD Cert.ReferenceAdamInOddIdeal.τ).loc Cert.ReferenceAdamInOddIdeal.main_arg4)
          ∧ r.2.mem ((c.tc : Thread Cert.ReferenceAdamInOddIdeal.nD Cert.ReferenceAdamInOddIdeal.τ).loc Cert.ReferenceAdamInOddIdeal.main_arg5) = m' ((c.tc : Thread Cert.ReferenceAdamInOddIdeal.nD Cert.ReferenceAdamInOddIdeal.τ).loc Cert.ReferenceAdamInOddIdeal.main_arg5)
          ∧ r.2.mem ((c.tc : Thread Cert.ReferenceAdamInOddIdeal.nD Cert.ReferenceAdamInOddIdeal.τ).loc Cert.ReferenceAdamInOddIdeal.main_arg6) = m' ((c.tc : Thread Cert.ReferenceAdamInOddIdeal.nD Cert.ReferenceAdamInOddIdeal.τ).loc Cert.ReferenceAdamInOddIdeal.main_arg6)
          ∧ r.2.mem ((c.tc : Thread Cert.ReferenceAdamInOddIdeal.nD Cert.ReferenceAdamInOddIdeal.τ).loc Cert.ReferenceAdamInOddIdeal.main_arg7) = m' ((c.tc : Thread Cert.ReferenceAdamInOddIdeal.nD Cert.ReferenceAdamInOddIdeal.τ).loc Cert.ReferenceAdamInOddIdeal.main_arg7))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)
      ∧ m' ((c.tc : Thread Cert.ReferenceAdamOutIdeal.nD Cert.ReferenceAdamOutIdeal.τ).loc Cert.ReferenceAdamOutIdeal.main_arg4) = m ((c.tc : Thread Cert.KernelAdamOutIdeal.nD Cert.KernelAdamOutIdeal.τ).loc Cert.KernelAdamOutIdeal.main_arg4)
      ∧ m' ((c.tc : Thread Cert.ReferenceAdamOutIdeal.nD Cert.ReferenceAdamOutIdeal.τ).loc Cert.ReferenceAdamOutIdeal.main_arg5) = m ((c.tc : Thread Cert.KernelAdamOutIdeal.nD Cert.KernelAdamOutIdeal.τ).loc Cert.KernelAdamOutIdeal.main_arg5)
      ∧ m' ((c.tc : Thread Cert.ReferenceAdamOutIdeal.nD Cert.ReferenceAdamOutIdeal.τ).loc Cert.ReferenceAdamOutIdeal.main_arg6) = m ((c.tc : Thread Cert.KernelAdamOutIdeal.nD Cert.KernelAdamOutIdeal.τ).loc Cert.KernelAdamOutIdeal.main_arg6)
      ∧ m' ((c.tc : Thread Cert.ReferenceAdamOutIdeal.nD Cert.ReferenceAdamOutIdeal.τ).loc Cert.ReferenceAdamOutIdeal.main_arg7) = m ((c.tc : Thread Cert.KernelAdamOutIdeal.nD Cert.KernelAdamOutIdeal.τ).loc Cert.KernelAdamOutIdeal.main_arg7)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)) (v3 : (c : Dev Cert.KernelAdamOutIdeal.nD) → Buf (Elt Ideal) ((c.tc : Thread Cert.KernelAdamOutIdeal.nD Cert.KernelAdamOutIdeal.τ).loc Cert.KernelAdamOutIdeal.main_v0_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_v0_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
          ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4)
          ∧ r.2.mem ((c.tc : Thread Cert.KernelAdamOutIdeal.nD Cert.KernelAdamOutIdeal.τ).loc Cert.KernelAdamOutIdeal.main_arg5) = m ((c.tc : Thread Cert.KernelAdamOutIdeal.nD Cert.KernelAdamOutIdeal.τ).loc Cert.KernelAdamOutIdeal.main_arg5)
          ∧ r.2.mem ((c.tc : Thread Cert.KernelAdamOutIdeal.nD Cert.KernelAdamOutIdeal.τ).loc Cert.KernelAdamOutIdeal.main_arg6) = m ((c.tc : Thread Cert.KernelAdamOutIdeal.nD Cert.KernelAdamOutIdeal.τ).loc Cert.KernelAdamOutIdeal.main_arg6)
          ∧ r.2.mem ((c.tc : Thread Cert.KernelAdamOutIdeal.nD Cert.KernelAdamOutIdeal.τ).loc Cert.KernelAdamOutIdeal.main_arg7) = m ((c.tc : Thread Cert.KernelAdamOutIdeal.nD Cert.KernelAdamOutIdeal.τ).loc Cert.KernelAdamOutIdeal.main_arg7))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_arg1) = v0 c
          ∧ r.2.mem ((c.tc : Thread Cert.ReferenceAdamOutIdeal.nD Cert.ReferenceAdamOutIdeal.τ).loc Cert.ReferenceAdamOutIdeal.main_v23) = v1 c
          ∧ r.2.mem ((c.tc : Thread Cert.ReferenceAdamOutIdeal.nD Cert.ReferenceAdamOutIdeal.τ).loc Cert.ReferenceAdamOutIdeal.main_v4) = v2 c
          ∧ r.2.mem ((c.tc : Thread Cert.ReferenceAdamOutIdeal.nD Cert.ReferenceAdamOutIdeal.τ).loc Cert.ReferenceAdamOutIdeal.main_v10) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3)
          ∧ r.2.mem ((c.tc : Thread Cert.ReferenceAdamOutIdeal.nD Cert.ReferenceAdamOutIdeal.τ).loc Cert.ReferenceAdamOutIdeal.main_arg4) = m' ((c.tc : Thread Cert.ReferenceAdamOutIdeal.nD Cert.ReferenceAdamOutIdeal.τ).loc Cert.ReferenceAdamOutIdeal.main_arg4)
          ∧ r.2.mem ((c.tc : Thread Cert.ReferenceAdamOutIdeal.nD Cert.ReferenceAdamOutIdeal.τ).loc Cert.ReferenceAdamOutIdeal.main_arg5) = m' ((c.tc : Thread Cert.ReferenceAdamOutIdeal.nD Cert.ReferenceAdamOutIdeal.τ).loc Cert.ReferenceAdamOutIdeal.main_arg5)
          ∧ r.2.mem ((c.tc : Thread Cert.ReferenceAdamOutIdeal.nD Cert.ReferenceAdamOutIdeal.τ).loc Cert.ReferenceAdamOutIdeal.main_arg6) = m' ((c.tc : Thread Cert.ReferenceAdamOutIdeal.nD Cert.ReferenceAdamOutIdeal.τ).loc Cert.ReferenceAdamOutIdeal.main_arg6)
          ∧ r.2.mem ((c.tc : Thread Cert.ReferenceAdamOutIdeal.nD Cert.ReferenceAdamOutIdeal.τ).loc Cert.ReferenceAdamOutIdeal.main_arg7) = m' ((c.tc : Thread Cert.ReferenceAdamOutIdeal.nD Cert.ReferenceAdamOutIdeal.τ).loc Cert.ReferenceAdamOutIdeal.main_arg7))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v23) = v0 c
          ∧ r.2.mem ((c.tc : Thread Cert.ReferenceAdamSmallIdeal.nD Cert.ReferenceAdamSmallIdeal.τ).loc Cert.ReferenceAdamSmallIdeal.main_v4) = v1 c
          ∧ r.2.mem ((c.tc : Thread Cert.ReferenceAdamSmallIdeal.nD Cert.ReferenceAdamSmallIdeal.τ).loc Cert.ReferenceAdamSmallIdeal.main_v10) = v2 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def preserves_KernelSbFwd_KernelSbFwdIdeal : Prop :=
  True

def algebraic_KernelSbFwdIdeal_ReferenceSbFwdIdeal_pre_finite_sb_fwd [hKernelSbFwdIdeal : Cert.KernelSbFwdIdeal.Facts] [hReferenceSbFwdIdeal : Cert.ReferenceSbFwdIdeal.Facts] [hPre_finite_sb_fwd : Cert.Pre_finite_sb_fwd.Facts] : Prop :=
  ∀ (m : (ℓ : Loc Cert.KernelSbFwdIdeal.nD Cert.KernelSbFwdIdeal.τ Cert.KernelSbFwdIdeal.sig) → Buf (Elt Ideal) ℓ) (g : Dev Cert.KernelSbFwdIdeal.nD → PrngReg)
    (m' : (ℓ : Loc Cert.ReferenceSbFwdIdeal.nD Cert.ReferenceSbFwdIdeal.τ Cert.ReferenceSbFwdIdeal.sig) → Buf (Elt Ideal) ℓ) (g' : Dev Cert.ReferenceSbFwdIdeal.nD → PrngReg), Pre_KernelSbFwdIdeal_finite_sb_fwd m →
    (∀ c : Dev Cert.KernelSbFwdIdeal.nD,
      m' ((c.tc : Thread Cert.ReferenceSbFwdIdeal.nD Cert.ReferenceSbFwdIdeal.τ).loc Cert.ReferenceSbFwdIdeal.main_arg0) = m ((c.tc : Thread Cert.KernelSbFwdIdeal.nD Cert.KernelSbFwdIdeal.τ).loc Cert.KernelSbFwdIdeal.main_arg0)) →
    ∃ (v0 : (c : Dev Cert.KernelSbFwdIdeal.nD) → Buf (Elt Ideal) ((c.tc : Thread Cert.KernelSbFwdIdeal.nD Cert.KernelSbFwdIdeal.τ).loc Cert.KernelSbFwdIdeal.main_v1_0)) (v1 : (c : Dev Cert.KernelSbFwdIdeal.nD) → Buf (Elt Ideal) ((c.tc : Thread Cert.KernelSbFwdIdeal.nD Cert.KernelSbFwdIdeal.τ).loc Cert.KernelSbFwdIdeal.main_v1_1)),
      θ_run (Cert.KernelSbFwdIdeal.defs (F := Ideal)) (onTc (τ := Cert.KernelSbFwdIdeal.τ) (Cert.KernelSbFwdIdeal.main (F := Ideal))) ⟨m, fun _ => 0, g⟩ (fun r => ∀ c : Dev Cert.KernelSbFwdIdeal.nD,
          r.2.mem ((c.tc : Thread Cert.KernelSbFwdIdeal.nD Cert.KernelSbFwdIdeal.τ).loc Cert.KernelSbFwdIdeal.main_v1_0) = v0 c
          ∧ r.2.mem ((c.tc : Thread Cert.KernelSbFwdIdeal.nD Cert.KernelSbFwdIdeal.τ).loc Cert.KernelSbFwdIdeal.main_v1_1) = v1 c
          ∧ r.2.mem ((c.tc : Thread Cert.KernelSbFwdIdeal.nD Cert.KernelSbFwdIdeal.τ).loc Cert.KernelSbFwdIdeal.main_arg0) = m ((c.tc : Thread Cert.KernelSbFwdIdeal.nD Cert.KernelSbFwdIdeal.τ).loc Cert.KernelSbFwdIdeal.main_arg0))
      ∧ θ_run (Cert.ReferenceSbFwdIdeal.defs (F := Ideal)) (onTc (τ := Cert.ReferenceSbFwdIdeal.τ) (Cert.ReferenceSbFwdIdeal.main (F := Ideal))) ⟨m', fun _ => 0, g'⟩ (fun r => ∀ c : Dev Cert.ReferenceSbFwdIdeal.nD,
          r.2.mem ((c.tc : Thread Cert.ReferenceSbFwdIdeal.nD Cert.ReferenceSbFwdIdeal.τ).loc Cert.ReferenceSbFwdIdeal.main_v30) = v0 c
          ∧ r.2.mem ((c.tc : Thread Cert.ReferenceSbFwdIdeal.nD Cert.ReferenceSbFwdIdeal.τ).loc Cert.ReferenceSbFwdIdeal.main_v29) = v1 c
          ∧ r.2.mem ((c.tc : Thread Cert.ReferenceSbFwdIdeal.nD Cert.ReferenceSbFwdIdeal.τ).loc Cert.ReferenceSbFwdIdeal.main_arg0) = m' ((c.tc : Thread Cert.ReferenceSbFwdIdeal.nD Cert.ReferenceSbFwdIdeal.τ).loc Cert.ReferenceSbFwdIdeal.main_arg0))

def Claim : Prop :=
  ∃ (hKernel : Cert.Kernel.Facts) (hKernelIdeal : Cert.KernelIdeal.Facts) (hReferenceIdeal : Cert.ReferenceIdeal.Facts) (hKernelDownDw : Cert.KernelDownDw.Facts) (hKernelDownDwIdeal : Cert.KernelDownDwIdeal.Facts) (hReferenceDownDwIdeal : Cert.ReferenceDownDwIdeal.Facts) (hKernelUpDw : Cert.KernelUpDw.Facts) (hKernelUpDwIdeal : Cert.KernelUpDwIdeal.Facts) (hReferenceUpDwIdeal : Cert.ReferenceUpDwIdeal.Facts) (hKernelDownBwd : Cert.KernelDownBwd.Facts) (hKernelDownBwdIdeal : Cert.KernelDownBwdIdeal.Facts) (hReferenceDownBwdIdeal : Cert.ReferenceDownBwdIdeal.Facts) (hKernelUpBwd : Cert.KernelUpBwd.Facts) (hKernelUpBwdIdeal : Cert.KernelUpBwdIdeal.Facts) (hReferenceUpBwdIdeal : Cert.ReferenceUpBwdIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelOutFwd : Cert.KernelOutFwd.Facts) (hKernelOutFwdIdeal : Cert.KernelOutFwdIdeal.Facts) (hReferenceOutFwdIdeal : Cert.ReferenceOutFwdIdeal.Facts) (hKernelOutBwd : Cert.KernelOutBwd.Facts) (hKernelOutBwdIdeal : Cert.KernelOutBwdIdeal.Facts) (hReferenceOutBwdIdeal : Cert.ReferenceOutBwdIdeal.Facts) (hKernelOutDw : Cert.KernelOutDw.Facts) (hKernelOutDwIdeal : Cert.KernelOutDwIdeal.Facts) (hReferenceOutDwIdeal : Cert.ReferenceOutDwIdeal.Facts) (hKernelInFwd : Cert.KernelInFwd.Facts) (hKernelInFwdIdeal : Cert.KernelInFwdIdeal.Facts) (hReferenceInFwdIdeal : Cert.ReferenceInFwdIdeal.Facts) (hKernelInDw : Cert.KernelInDw.Facts) (hKernelInDwIdeal : Cert.KernelInDwIdeal.Facts) (hReferenceInDwIdeal : Cert.ReferenceInDwIdeal.Facts) (hKernelInBwd : Cert.KernelInBwd.Facts) (hKernelInBwdIdeal : Cert.KernelInBwdIdeal.Facts) (hReferenceInBwdIdeal : Cert.ReferenceInBwdIdeal.Facts) (hKernelEvenOutBwd : Cert.KernelEvenOutBwd.Facts) (hKernelEvenOutBwdIdeal : Cert.KernelEvenOutBwdIdeal.Facts) (hReferenceEvenOutBwdIdeal : Cert.ReferenceEvenOutBwdIdeal.Facts) (hKernelEvenIn : Cert.KernelEvenIn.Facts) (hKernelEvenInIdeal : Cert.KernelEvenInIdeal.Facts) (hReferenceEvenInIdeal : Cert.ReferenceEvenInIdeal.Facts) (hKernelEvenInDw : Cert.KernelEvenInDw.Facts) (hKernelEvenInDwIdeal : Cert.KernelEvenInDwIdeal.Facts) (hReferenceEvenInDwIdeal : Cert.ReferenceEvenInDwIdeal.Facts) (hKernelEvenInBwd : Cert.KernelEvenInBwd.Facts) (hKernelEvenInBwdIdeal : Cert.KernelEvenInBwdIdeal.Facts) (hReferenceEvenInBwdIdeal : Cert.ReferenceEvenInBwdIdeal.Facts) (hKernelAdamGu : Cert.KernelAdamGu.Facts) (hKernelAdamGuIdeal : Cert.KernelAdamGuIdeal.Facts) (hReferenceAdamGuIdeal : Cert.ReferenceAdamGuIdeal.Facts) (hKernelAdamDown : Cert.KernelAdamDown.Facts) (hKernelAdamDownIdeal : Cert.KernelAdamDownIdeal.Facts) (hReferenceAdamDownIdeal : Cert.ReferenceAdamDownIdeal.Facts) (hKernelAdamInEven : Cert.KernelAdamInEven.Facts) (hKernelAdamInEvenIdeal : Cert.KernelAdamInEvenIdeal.Facts) (hReferenceAdamInEvenIdeal : Cert.ReferenceAdamInEvenIdeal.Facts) (hKernelAdamInOdd : Cert.KernelAdamInOdd.Facts) (hKernelAdamInOddIdeal : Cert.KernelAdamInOddIdeal.Facts) (hReferenceAdamInOddIdeal : Cert.ReferenceAdamInOddIdeal.Facts) (hKernelAdamOut : Cert.KernelAdamOut.Facts) (hKernelAdamOutIdeal : Cert.KernelAdamOutIdeal.Facts) (hReferenceAdamOutIdeal : Cert.ReferenceAdamOutIdeal.Facts) (hKernelAdamSmall : Cert.KernelAdamSmall.Facts) (hKernelAdamSmallIdeal : Cert.KernelAdamSmallIdeal.Facts) (hReferenceAdamSmallIdeal : Cert.ReferenceAdamSmallIdeal.Facts) (hKernelSbFwd : Cert.KernelSbFwd.Facts) (hKernelSbFwdIdeal : Cert.KernelSbFwdIdeal.Facts) (hReferenceSbFwdIdeal : Cert.ReferenceSbFwdIdeal.Facts) (hPre_finite : Cert.Pre_finite.Facts) (hPre_finite_down_bwd : Cert.Pre_finite_down_bwd.Facts) (hPre_finite_sb_fwd : Cert.Pre_finite_sb_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDownDw (hKernelDownDw := hKernelDownDw)
    ∧ quiescent_KernelDownDwIdeal (hKernelDownDwIdeal := hKernelDownDwIdeal)
    ∧ quiescent_ReferenceDownDwIdeal (hReferenceDownDwIdeal := hReferenceDownDwIdeal)
    ∧ quiescent_KernelUpDw (hKernelUpDw := hKernelUpDw)
    ∧ quiescent_KernelUpDwIdeal (hKernelUpDwIdeal := hKernelUpDwIdeal)
    ∧ quiescent_ReferenceUpDwIdeal (hReferenceUpDwIdeal := hReferenceUpDwIdeal)
    ∧ quiescent_KernelDownBwd (hKernelDownBwd := hKernelDownBwd)
    ∧ quiescent_KernelDownBwdIdeal (hKernelDownBwdIdeal := hKernelDownBwdIdeal)
    ∧ quiescent_KernelDownBwdIdeal_pre_finite_down_bwd (hKernelDownBwdIdeal := hKernelDownBwdIdeal) (hPre_finite_down_bwd := hPre_finite_down_bwd)
    ∧ quiescent_ReferenceDownBwdIdeal (hReferenceDownBwdIdeal := hReferenceDownBwdIdeal)
    ∧ quiescent_ReferenceDownBwdIdeal_pre_finite_down_bwd (hReferenceDownBwdIdeal := hReferenceDownBwdIdeal) (hPre_finite_down_bwd := hPre_finite_down_bwd)
    ∧ quiescent_KernelUpBwd (hKernelUpBwd := hKernelUpBwd)
    ∧ quiescent_KernelUpBwdIdeal (hKernelUpBwdIdeal := hKernelUpBwdIdeal)
    ∧ quiescent_ReferenceUpBwdIdeal (hReferenceUpBwdIdeal := hReferenceUpBwdIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOutFwd (hKernelOutFwd := hKernelOutFwd)
    ∧ quiescent_KernelOutFwdIdeal (hKernelOutFwdIdeal := hKernelOutFwdIdeal)
    ∧ quiescent_ReferenceOutFwdIdeal (hReferenceOutFwdIdeal := hReferenceOutFwdIdeal)
    ∧ quiescent_KernelOutBwd (hKernelOutBwd := hKernelOutBwd)
    ∧ quiescent_KernelOutBwdIdeal (hKernelOutBwdIdeal := hKernelOutBwdIdeal)
    ∧ quiescent_ReferenceOutBwdIdeal (hReferenceOutBwdIdeal := hReferenceOutBwdIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ quiescent_KernelInFwd (hKernelInFwd := hKernelInFwd)
    ∧ quiescent_KernelInFwdIdeal (hKernelInFwdIdeal := hKernelInFwdIdeal)
    ∧ quiescent_ReferenceInFwdIdeal (hReferenceInFwdIdeal := hReferenceInFwdIdeal)
    ∧ quiescent_KernelInDw (hKernelInDw := hKernelInDw)
    ∧ quiescent_KernelInDwIdeal (hKernelInDwIdeal := hKernelInDwIdeal)
    ∧ quiescent_ReferenceInDwIdeal (hReferenceInDwIdeal := hReferenceInDwIdeal)
    ∧ quiescent_KernelInBwd (hKernelInBwd := hKernelInBwd)
    ∧ quiescent_KernelInBwdIdeal (hKernelInBwdIdeal := hKernelInBwdIdeal)
    ∧ quiescent_ReferenceInBwdIdeal (hReferenceInBwdIdeal := hReferenceInBwdIdeal)
    ∧ quiescent_KernelEvenOutBwd (hKernelEvenOutBwd := hKernelEvenOutBwd)
    ∧ quiescent_KernelEvenOutBwdIdeal (hKernelEvenOutBwdIdeal := hKernelEvenOutBwdIdeal)
    ∧ quiescent_ReferenceEvenOutBwdIdeal (hReferenceEvenOutBwdIdeal := hReferenceEvenOutBwdIdeal)
    ∧ quiescent_KernelEvenIn (hKernelEvenIn := hKernelEvenIn)
    ∧ quiescent_KernelEvenInIdeal (hKernelEvenInIdeal := hKernelEvenInIdeal)
    ∧ quiescent_ReferenceEvenInIdeal (hReferenceEvenInIdeal := hReferenceEvenInIdeal)
    ∧ quiescent_KernelEvenInDw (hKernelEvenInDw := hKernelEvenInDw)
    ∧ quiescent_KernelEvenInDwIdeal (hKernelEvenInDwIdeal := hKernelEvenInDwIdeal)
    ∧ quiescent_ReferenceEvenInDwIdeal (hReferenceEvenInDwIdeal := hReferenceEvenInDwIdeal)
    ∧ quiescent_KernelEvenInBwd (hKernelEvenInBwd := hKernelEvenInBwd)
    ∧ quiescent_KernelEvenInBwdIdeal (hKernelEvenInBwdIdeal := hKernelEvenInBwdIdeal)
    ∧ quiescent_ReferenceEvenInBwdIdeal (hReferenceEvenInBwdIdeal := hReferenceEvenInBwdIdeal)
    ∧ quiescent_KernelAdamGu (hKernelAdamGu := hKernelAdamGu)
    ∧ quiescent_KernelAdamGuIdeal (hKernelAdamGuIdeal := hKernelAdamGuIdeal)
    ∧ quiescent_ReferenceAdamGuIdeal (hReferenceAdamGuIdeal := hReferenceAdamGuIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelAdamInEven (hKernelAdamInEven := hKernelAdamInEven)
    ∧ quiescent_KernelAdamInEvenIdeal (hKernelAdamInEvenIdeal := hKernelAdamInEvenIdeal)
    ∧ quiescent_ReferenceAdamInEvenIdeal (hReferenceAdamInEvenIdeal := hReferenceAdamInEvenIdeal)
    ∧ quiescent_KernelAdamInOdd (hKernelAdamInOdd := hKernelAdamInOdd)
    ∧ quiescent_KernelAdamInOddIdeal (hKernelAdamInOddIdeal := hKernelAdamInOddIdeal)
    ∧ quiescent_ReferenceAdamInOddIdeal (hReferenceAdamInOddIdeal := hReferenceAdamInOddIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelSbFwd (hKernelSbFwd := hKernelSbFwd)
    ∧ quiescent_KernelSbFwdIdeal (hKernelSbFwdIdeal := hKernelSbFwdIdeal)
    ∧ quiescent_KernelSbFwdIdeal_pre_finite_sb_fwd (hKernelSbFwdIdeal := hKernelSbFwdIdeal) (hPre_finite_sb_fwd := hPre_finite_sb_fwd)
    ∧ quiescent_ReferenceSbFwdIdeal (hReferenceSbFwdIdeal := hReferenceSbFwdIdeal)
    ∧ quiescent_ReferenceSbFwdIdeal_pre_finite_sb_fwd (hReferenceSbFwdIdeal := hReferenceSbFwdIdeal) (hPre_finite_sb_fwd := hPre_finite_sb_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDownDw_KernelDownDwIdeal
    ∧ algebraic_KernelDownDwIdeal_ReferenceDownDwIdeal (hKernelDownDwIdeal := hKernelDownDwIdeal) (hReferenceDownDwIdeal := hReferenceDownDwIdeal)
    ∧ preserves_KernelUpDw_KernelUpDwIdeal
    ∧ algebraic_KernelUpDwIdeal_ReferenceUpDwIdeal (hKernelUpDwIdeal := hKernelUpDwIdeal) (hReferenceUpDwIdeal := hReferenceUpDwIdeal)
    ∧ preserves_KernelDownBwd_KernelDownBwdIdeal
    ∧ algebraic_KernelDownBwdIdeal_ReferenceDownBwdIdeal_pre_finite_down_bwd (hKernelDownBwdIdeal := hKernelDownBwdIdeal) (hReferenceDownBwdIdeal := hReferenceDownBwdIdeal) (hPre_finite_down_bwd := hPre_finite_down_bwd)
    ∧ preserves_KernelUpBwd_KernelUpBwdIdeal
    ∧ algebraic_KernelUpBwdIdeal_ReferenceUpBwdIdeal (hKernelUpBwdIdeal := hKernelUpBwdIdeal) (hReferenceUpBwdIdeal := hReferenceUpBwdIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelOutFwd_KernelOutFwdIdeal
    ∧ algebraic_KernelOutFwdIdeal_ReferenceOutFwdIdeal (hKernelOutFwdIdeal := hKernelOutFwdIdeal) (hReferenceOutFwdIdeal := hReferenceOutFwdIdeal)
    ∧ preserves_KernelOutBwd_KernelOutBwdIdeal
    ∧ algebraic_KernelOutBwdIdeal_ReferenceOutBwdIdeal (hKernelOutBwdIdeal := hKernelOutBwdIdeal) (hReferenceOutBwdIdeal := hReferenceOutBwdIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
    ∧ preserves_KernelInFwd_KernelInFwdIdeal
    ∧ algebraic_KernelInFwdIdeal_ReferenceInFwdIdeal (hKernelInFwdIdeal := hKernelInFwdIdeal) (hReferenceInFwdIdeal := hReferenceInFwdIdeal)
    ∧ preserves_KernelInDw_KernelInDwIdeal
    ∧ algebraic_KernelInDwIdeal_ReferenceInDwIdeal (hKernelInDwIdeal := hKernelInDwIdeal) (hReferenceInDwIdeal := hReferenceInDwIdeal)
    ∧ preserves_KernelInBwd_KernelInBwdIdeal
    ∧ algebraic_KernelInBwdIdeal_ReferenceInBwdIdeal (hKernelInBwdIdeal := hKernelInBwdIdeal) (hReferenceInBwdIdeal := hReferenceInBwdIdeal)
    ∧ preserves_KernelEvenOutBwd_KernelEvenOutBwdIdeal
    ∧ algebraic_KernelEvenOutBwdIdeal_ReferenceEvenOutBwdIdeal (hKernelEvenOutBwdIdeal := hKernelEvenOutBwdIdeal) (hReferenceEvenOutBwdIdeal := hReferenceEvenOutBwdIdeal)
    ∧ preserves_KernelEvenIn_KernelEvenInIdeal
    ∧ algebraic_KernelEvenInIdeal_ReferenceEvenInIdeal (hKernelEvenInIdeal := hKernelEvenInIdeal) (hReferenceEvenInIdeal := hReferenceEvenInIdeal)
    ∧ preserves_KernelEvenInDw_KernelEvenInDwIdeal
    ∧ algebraic_KernelEvenInDwIdeal_ReferenceEvenInDwIdeal (hKernelEvenInDwIdeal := hKernelEvenInDwIdeal) (hReferenceEvenInDwIdeal := hReferenceEvenInDwIdeal)
    ∧ preserves_KernelEvenInBwd_KernelEvenInBwdIdeal
    ∧ algebraic_KernelEvenInBwdIdeal_ReferenceEvenInBwdIdeal (hKernelEvenInBwdIdeal := hKernelEvenInBwdIdeal) (hReferenceEvenInBwdIdeal := hReferenceEvenInBwdIdeal)
    ∧ preserves_KernelAdamGu_KernelAdamGuIdeal
    ∧ algebraic_KernelAdamGuIdeal_ReferenceAdamGuIdeal (hKernelAdamGuIdeal := hKernelAdamGuIdeal) (hReferenceAdamGuIdeal := hReferenceAdamGuIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelAdamInEven_KernelAdamInEvenIdeal
    ∧ algebraic_KernelAdamInEvenIdeal_ReferenceAdamInEvenIdeal (hKernelAdamInEvenIdeal := hKernelAdamInEvenIdeal) (hReferenceAdamInEvenIdeal := hReferenceAdamInEvenIdeal)
    ∧ preserves_KernelAdamInOdd_KernelAdamInOddIdeal
    ∧ algebraic_KernelAdamInOddIdeal_ReferenceAdamInOddIdeal (hKernelAdamInOddIdeal := hKernelAdamInOddIdeal) (hReferenceAdamInOddIdeal := hReferenceAdamInOddIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelSbFwd_KernelSbFwdIdeal
    ∧ algebraic_KernelSbFwdIdeal_ReferenceSbFwdIdeal_pre_finite_sb_fwd (hKernelSbFwdIdeal := hKernelSbFwdIdeal) (hReferenceSbFwdIdeal := hReferenceSbFwdIdeal) (hPre_finite_sb_fwd := hPre_finite_sb_fwd)
-- ==== Pre_finite.lean ====
abbrev S4096x3072 : Shape := ⟨2, ![4096, 3072]⟩
abbrev S4096x1024 : Shape := ⟨2, ![4096, 1024]⟩
abbrev S_ : Shape := ⟨0, ![]⟩

class Facts : Prop where
  bcast_S_S4096x3072 : S_.BroadcastsInDim S4096x3072 (![] : Fin 0 → Fin S4096x3072.rank)
  bcast_S_S4096x1024 : S_.BroadcastsInDim S4096x1024 (![] : Fin 0 → Fin S4096x1024.rank)

variable [Facts]

def fn {F : FTy → Type} [FloatOps F] (main_arg0 : FVec F S4096x3072 .f32) (main_arg1 : FVec F S4096x1024 .f32) : IVec S4096x3072 1 × IVec S4096x1024 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  (main_v2, main_v5)
-- ==== Pre_finite_down_bwd.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x2816 .f32) (main_arg1 : FVec F S4096x2816 .f32) (main_arg2 : FVec F S2816x1024 .f32) (main_arg3 : FVec F S4096x1024 .f32) : IVec S4096x2816 1 × IVec S2816x1024 1 × IVec S4096x1024 1 :=
  let main_v0 : FVec F S4096x2816 .f32 := Host.absf main_arg1
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S2816x1024 .f32 := Host.absf main_arg2
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg3
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite_sb_fwd.lean ====
abbrev S4096x3072 : Shape := ⟨2, ![4096, 3072]⟩
abbrev S_ : Shape := ⟨0, ![]⟩

class Facts : Prop where
  bcast_S_S4096x3072 : S_.BroadcastsInDim S4096x3072 (![] : Fin 0 → Fin S4096x3072.rank)

variable [Facts]

def fn {F : FTy → Type} [FloatOps F] (main_arg0 : FVec F S4096x3072 .f32) : IVec S4096x3072 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  main_v2
-- ==== Kernel.lean ====
abbrev S4096x3072 : Shape := ⟨2, ![4096, 3072]⟩
abbrev S4096x1024 : Shape := ⟨2, ![4096, 1024]⟩
abbrev S4096x8x128 : Shape := ⟨3, ![4096, 8, 128]⟩
abbrev S8x4096x128 : Shape := ⟨3, ![8, 4096, 128]⟩
abbrev S4096 : Shape := ⟨1, ![4096]⟩
abbrev S8x4096x4096 : Shape := ⟨3, ![8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S512x256 : Shape := ⟨2, ![512, 256]⟩
abbrev S4096x256 : Shape := ⟨2, ![4096, 256]⟩
abbrev S512x128 : Shape := ⟨2, ![512, 128]⟩
abbrev S512 : Shape := ⟨1, ![512]⟩
abbrev S512x1 : Shape := ⟨2, ![512, 1]⟩
abbrev S256x256 : Shape := ⟨2, ![256, 256]⟩
abbrev S256x128 : Shape := ⟨2, ![256, 128]⟩

abbrev nBuf : Space → Nat
  | .hbm => 78
  | .vmem => 16
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x3072, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x8x128, .f32⟩
  | .hbm, ⟨7, _⟩ => ⟨S8x4096x128, .f32⟩
  | .hbm, ⟨8, _⟩ => ⟨S4096x8x128, .f32⟩
  | .hbm, ⟨9, _⟩ => ⟨S8x4096x128, .f32⟩
  | .hbm, ⟨10, _⟩ => ⟨S4096x8x128, .f32⟩
  | .hbm, ⟨11, _⟩ => ⟨S8x4096x128, .f32⟩
  | .hbm, ⟨12, _⟩ => ⟨S4096, .i32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .i1⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S_, .f32⟩
  | .hbm, ⟨41, _⟩ => ⟨S8x4096x4096, .i1⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S_, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S_, .f32⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S8x4096x4096, .i1⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S_, .f32⟩
  | .hbm, ⟨67, _⟩ => ⟨S_, .f32⟩
  | .hbm, ⟨68, _⟩ => ⟨S8x4096x4096, .i1⟩
  | .hbm, ⟨69, _⟩ => ⟨S8x4096x4096, .f32⟩
  | .hbm, ⟨70, _⟩ => ⟨S8x4096x4096, .f32⟩
  | .hbm, ⟨71, _⟩ => ⟨S8x4096x128, .f32⟩
  | .hbm, ⟨72, _⟩ => ⟨S4096x8x128, .f32⟩
  | .hbm, ⟨73, _⟩ => ⟨S4096x1024, .f32⟩
  | .hbm, ⟨74, _⟩ => ⟨S4096x1024, .bf16⟩
  | .hbm, ⟨75, _⟩ => ⟨S4096x1024, .bf16⟩
  | .hbm, ⟨76, _⟩ => ⟨S4096x1024, .f32⟩
  | .hbm, ⟨77, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x256, .f32⟩
  | .local _ .vmem, ⟨7, _⟩ => ⟨S512x256, .f32⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S4096x256, .f32⟩
  | .local _ .vmem, ⟨13, _⟩ => ⟨S4096x256, .f32⟩
  | .local _ .vmem, ⟨14, _⟩ => ⟨S4096x256, .f32⟩
  | .local _ .vmem, ⟨15, _⟩ => ⟨S4096x256, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v20 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_call2_cst : Ref sig .tc := ⟨.hbm, 44, rfl⟩
abbrev main_call2_v0 : Ref sig .tc := ⟨.hbm, 45, rfl⟩
abbrev main_v22 : Ref sig .tc := ⟨.hbm, 46, rfl⟩
abbrev main_v23 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32_0 : Ref sig .tc := ⟨.hbm, 75, rfl⟩
abbrev main_v32_1 : Ref sig .tc := ⟨.hbm, 76, rfl⟩
abbrev main_v32_2 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v41 : BitVec 32 := Scalar.muli arg1 c512_i32
  let c256_i32 : BitVec 32 := 256#32
  let v42 : BitVec 32 := Scalar.addi v41 c256_i32
  v42
def k0_off1 (i : grid0.Coords) (c256_i32 : BitVec 32) : Fin 2 → Nat :=
  let arg1 : BitVec 32 := BitVec.ofNat 32 (i 1).val
  let c512_i32 : BitVec 32 := 512#32
  let v41 : BitVec 32 := Scalar.muli arg1 c512_i32
  let v42 : BitVec 32 := Scalar.addi v41 c256_i32
  let v43 : BitVec 32 := v42
  let v44 : Index := Scalar.indexCast v43
  let c0_18 : Index := 0#32
  ![v44.toNat, 0]
def k0_off2 (i : grid0.Coords) (c256_i32 : BitVec 32) : Fin 2 → Nat :=
  let arg1 : BitVec 32 := BitVec.ofNat 32 (i 1).val
  let c512_i32 : BitVec 32 := 512#32
  let v41 : BitVec 32 := Scalar.muli arg1 c512_i32
  let v42 : BitVec 32 := Scalar.addi v41 c256_i32
  let v43 : BitVec 32 := v42
  let v47 : Index := Scalar.indexCast v43
  let c128_19 : Index := 128#32
  ![v47.toNat, 128]
def k0_mult2 (i : grid0.Coords) : BitVec 32 :=
  let arg1 : BitVec 32 := BitVec.ofNat 32 (i 1).val
  let c512_i32_39 : BitVec 32 := 512#32
  let v99 : BitVec 32 := Scalar.muli arg1 c512_i32_39
  let c0_i32_40 : BitVec 32 := 0#32
  let v100 : BitVec 32 := Scalar.addi v99 c0_i32_40
  v100
@[reducible] def k0_t1_loop (i : grid0.Coords) : Scf.Loop 32 :=
  let c0_i32_122 : BitVec 32 := 0#32
  let arg1 : BitVec 32 := BitVec.ofNat 32 (i 1).val
  let v361 : BitVec 32 := Scalar.subi arg1 c0_i32_122
  let c1_i32 : BitVec 32 := 1#32
  let v363 : BitVec 32 := Scalar.divsi v361 c1_i32
  let v364 : BitVec 32 := Scalar.muli v363 c1_i32
  let v365 : BitVec 32 := Scalar.addi c0_i32_122 v364
  let c1_i32_123 : BitVec 32 := 1#32
  ⟨c0_i32_122, v365, c1_i32_123⟩
def k0_mult3 (i : grid0.Coords) (k0_t1 : Fin (k0_t1_loop i).trips) : BitVec 32 :=
  let arg1 : BitVec 32 := BitVec.ofNat 32 (i 1).val
  let c1_i32_129 : BitVec 32 := 1#32
  let v372 : BitVec 32 := Scalar.subi arg1 c1_i32_129
  let c0_i32_122 : BitVec 32 := 0#32
  let c1_i32_123 : BitVec 32 := 1#32
  let arg10 : BitVec 32 := Scf.iv c0_i32_122 c1_i32_123 k0_t1
  let v373 : BitVec 32 := Scalar.subi v372 arg10
  let c512_i32_130 : BitVec 32 := 512#32
  let v374 : BitVec 32 := Scalar.muli v373 c512_i32_130
  let c256_i32_131 : BitVec 32 := 256#32
  let v375 : BitVec 32 := Scalar.addi v374 c256_i32_131
  v375
def k0_off3 (i : grid0.Coords) (k0_t1 : Fin (k0_t1_loop i).trips) (c256_i32_131 : BitVec 32) : Fin 2 → Nat :=
  let arg1 : BitVec 32 := BitVec.ofNat 32 (i 1).val
  let c1_i32_129 : BitVec 32 := 1#32
  let v372 : BitVec 32 := Scalar.subi arg1 c1_i32_129
  let c0_i32_122 : BitVec 32 := 0#32
  let c1_i32_123 : BitVec 32 := 1#32
  let arg10 : BitVec 32 := Scf.iv c0_i32_122 c1_i32_123 k0_t1
  let v373 : BitVec 32 := Scalar.subi v372 arg10
  let c512_i32_130 : BitVec 32 := 512#32
  let v374 : BitVec 32 := Scalar.muli v373 c512_i32_130
  let v375 : BitVec 32 := Scalar.addi v374 c256_i32_131
  let v376 : BitVec 32 := v375
  let v377 : Index := Scalar.indexCast v376
  let c0_132 : Index := 0#32
  ![v377.toNat, 0]
def k0_off4 (i : grid0.Coords) (k0_t1 : Fin (k0_t1_loop i).trips) (c256_i32_131 : BitVec 32) : Fin 2 → Nat :=
  let arg1 : BitVec 32 := BitVec.ofNat 32 (i 1).val
  let c1_i32_129 : BitVec 32 := 1#32
  let v372 : BitVec 32 := Scalar.subi arg1 c1_i32_129
  let c0_i32_122 : BitVec 32 := 0#32
  let c1_i32_123 : BitVec 32 := 1#32
  let arg10 : BitVec 32 := Scf.iv c0_i32_122 c1_i32_123 k0_t1
  let v373 : BitVec 32 := Scalar.subi v372 arg10
  let c512_i32_130 : BitVec 32 := 512#32
  let v374 : BitVec 32 := Scalar.muli v373 c512_i32_130
  let v375 : BitVec 32 := Scalar.addi v374 c256_i32_131
  let v376 : BitVec 32 := v375
  let v380 : Index := Scalar.indexCast v376
  let c128_133 : Index := 128#32
  ![v380.toNat, 128]
def k0_mult4 (i : grid0.Coords) (k0_t1 : Fin (k0_t1_loop i).trips) : BitVec 32 :=
  let arg1 : BitVec 32 := BitVec.ofNat 32 (i 1).val
  let c1_i32_129 : BitVec 32 := 1#32
  let v372 : BitVec 32 := Scalar.subi arg1 c1_i32_129
  let c0_i32_122 : BitVec 32 := 0#32
  let c1_i32_123 : BitVec 32 := 1#32
  let arg10 : BitVec 32 := Scf.iv c0_i32_122 c1_i32_123 k0_t1
  let v373 : BitVec 32 := Scalar.subi v372 arg10
  let c512_i32_150 : BitVec 32 := 512#32
  let v425 : BitVec 32 := Scalar.muli v373 c512_i32_150
  let c0_i32_151 : BitVec 32 := 0#32
  let v426 : BitVec 32 := Scalar.addi v425 c0_i32_151
  v426
@[reducible] def k0_t2_loop (i : grid0.Coords) : Scf.Loop 32 :=
  let c0_i32_122 : BitVec 32 := 0#32
  let arg1 : BitVec 32 := BitVec.ofNat 32 (i 1).val
  let v361 : BitVec 32 := Scalar.subi arg1 c0_i32_122
  let c1_i32 : BitVec 32 := 1#32
  let v363 : BitVec 32 := Scalar.divsi v361 c1_i32
  let v364 : BitVec 32 := Scalar.muli v363 c1_i32
  let v365 : BitVec 32 := Scalar.addi c0_i32_122 v364
  let v362 : BitVec 32 := Scalar.addi c0_i32_122 v361
  let c1_i32_124 : BitVec 32 := 1#32
  ⟨v365, v362, c1_i32_124⟩
def k0_mult5 (i : grid0.Coords) (k0_t2 : Fin (k0_t2_loop i).trips) : BitVec 32 :=
  let arg1 : BitVec 32 := BitVec.ofNat 32 (i 1).val
  let c1_i32_129 : BitVec 32 := 1#32
  let v372 : BitVec 32 := Scalar.subi arg1 c1_i32_129
  let c0_i32_122 : BitVec 32 := 0#32
  let v361 : BitVec 32 := Scalar.subi arg1 c0_i32_122
  let c1_i32 : BitVec 32 := 1#32
  let v363 : BitVec 32 := Scalar.divsi v361 c1_i32
  let v364 : BitVec 32 := Scalar.muli v363 c1_i32
  let v365 : BitVec 32 := Scalar.addi c0_i32_122 v364
  let c1_i32_124 : BitVec 32 := 1#32
  let arg10 : BitVec 32 := Scf.iv v365 c1_i32_124 k0_t2
  let v373 : BitVec 32 := Scalar.subi v372 arg10
  let c512_i32_130 : BitVec 32 := 512#32
  let v374 : BitVec 32 := Scalar.muli v373 c512_i32_130
  let c256_i32_131 : BitVec 32 := 256#32
  let v375 : BitVec 32 := Scalar.addi v374 c256_i32_131
  v375
def k0_off5 (i : grid0.Coords) (k0_t2 : Fin (k0_t2_loop i).trips) (c256_i32_131 : BitVec 32) : Fin 2 → Nat :=
  let arg1 : BitVec 32 := BitVec.ofNat 32 (i 1).val
  let c1_i32_129 : BitVec 32 := 1#32
  let v372 : BitVec 32 := Scalar.subi arg1 c1_i32_129
  let c0_i32_122 : BitVec 32 := 0#32
  let v361 : BitVec 32 := Scalar.subi arg1 c0_i32_122
  let c1_i32 : BitVec 32 := 1#32
  let v363 : BitVec 32 := Scalar.divsi v361 c1_i32
  let v364 : BitVec 32 := Scalar.muli v363 c1_i32
  let v365 : BitVec 32 := Scalar.addi c0_i32_122 v364
  let c1_i32_124 : BitVec 32 := 1#32
  let arg10 : BitVec 32 := Scf.iv v365 c1_i32_124 k0_t2
  let v373 : BitVec 32 := Scalar.subi v372 arg10
  let c512_i32_130 : BitVec 32 := 512#32
  let v374 : BitVec 32 := Scalar.muli v373 c512_i32_130
  let v375 : BitVec 32 := Scalar.addi v374 c256_i32_131
  let v376 : BitVec 32 := v375
  let v377 : Index := Scalar.indexCast v376
  let c0_132 : Index := 0#32
  ![v377.toNat, 0]
def k0_off6 (i : grid0.Coords) (k0_t2 : Fin (k0_t2_loop i).trips) (c256_i32_131 : BitVec 32) : Fin 2 → Nat :=
  let arg1 : BitVec 32 := BitVec.ofNat 32 (i 1).val
  let c1_i32_129 : BitVec 32 := 1#32
  let v372 : BitVec 32 := Scalar.subi arg1 c1_i32_129
  let c0_i32_122 : BitVec 32 := 0#32
  let v361 : BitVec 32 := Scalar.subi arg1 c0_i32_122
  let c1_i32 : BitVec 32 := 1#32
  let v363 : BitVec 32 := Scalar.divsi v361 c1_i32
  let v364 : BitVec 32 := Scalar.muli v363 c1_i32
  let v365 : BitVec 32 := Scalar.addi c0_i32_122 v364
  let c1_i32_124 : BitVec 32 := 1#32
  let arg10 : BitVec 32 := Scf.iv v365 c1_i32_124 k0_t2
  let v373 : BitVec 32 := Scalar.subi v372 arg10
  let c512_i32_130 : BitVec 32 := 512#32
  let v374 : BitVec 32 := Scalar.muli v373 c512_i32_130
  let v375 : BitVec 32 := Scalar.addi v374 c256_i32_131
  let v376 : BitVec 32 := v375
  let v380 : Index := Scalar.indexCast v376
  let c128_133 : Index := 128#32
  ![v380.toNat, 128]
def k0_mult6 (i : grid0.Coords) (k0_t2 : Fin (k0_t2_loop i).trips) : BitVec 32 :=
  let arg1 : BitVec 32 := BitVec.ofNat 32 (i 1).val
  let c1_i32_129 : BitVec 32 := 1#32
  let v372 : BitVec 32 := Scalar.subi arg1 c1_i32_129
  let c0_i32_122 : BitVec 32 := 0#32
  let v361 : BitVec 32 := Scalar.subi arg1 c0_i32_122
  let c1_i32 : BitVec 32 := 1#32
  let v363 : BitVec 32 := Scalar.divsi v361 c1_i32
  let v364 : BitVec 32 := Scalar.muli v363 c1_i32
  let v365 : BitVec 32 := Scalar.addi c0_i32_122 v364
  let c1_i32_124 : BitVec 32 := 1#32
  let arg10 : BitVec 32 := Scf.iv v365 c1_i32_124 k0_t2
  let v373 : BitVec 32 := Scalar.subi v372 arg10
  let c512_i32_150 : BitVec 32 := 512#32
  let v425 : BitVec 32 := Scalar.muli v373 c512_i32_150
  let c0_i32_151 : BitVec 32 := 0#32
  let v426 : BitVec 32 := Scalar.addi v425 c0_i32_151
  v426
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x3072 : Shape := ⟨2, ![4096, 3072]⟩
abbrev S4096x1024 : Shape := ⟨2, ![4096, 1024]⟩
abbrev S4096x8x128 : Shape := ⟨3, ![4096, 8, 128]⟩
abbrev S8x4096x128 : Shape := ⟨3, ![8, 4096, 128]⟩
abbrev S4096 : Shape := ⟨1, ![4096]⟩
abbrev S8x4096x4096 : Shape := ⟨3, ![8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩

abbrev nBuf : Space → Nat
  | .hbm => 182
  | .vmem => 0
  | .smem => 0
  | _ => 0

abbrev hbmTy0_0 (i : Nat) : BufTy := match i % 128 with
  | 0 => ⟨S4096x3072, .f32⟩
  | 1 => ⟨S4096x1024, .f32⟩
  | 2 => ⟨S4096x1024, .f32⟩
  | 3 => ⟨S4096x1024, .f32⟩
  | 4 => ⟨S4096x1024, .f32⟩
  | 5 => ⟨S4096x8x128, .f32⟩
  | 6 => ⟨S8x4096x128, .f32⟩
  | 7 => ⟨S4096x8x128, .f32⟩
  | 8 => ⟨S8x4096x128, .f32⟩
  | 9 => ⟨S4096x8x128, .f32⟩
  | 10 => ⟨S8x4096x128, .f32⟩
  | 11 => ⟨S4096, .i32⟩
  | 12 => ⟨S8x4096x4096, .f32⟩
  | 13 => ⟨S_, .f32⟩
  | 14 => ⟨S8x4096x4096, .f32⟩
  | 15 => ⟨S8x4096x4096, .f32⟩
  | 16 => ⟨S1x4096, .i32⟩
  | 17 => ⟨S4096x1, .i32⟩
  | 18 => ⟨S4096x4096, .i32⟩
  | 19 => ⟨S4096x4096, .i32⟩
  | 20 => ⟨S4096x4096, .i1⟩
  | 21 => ⟨S8x4096x4096, .f32⟩
  | 22 => ⟨S8x4096x4096, .f32⟩
  | 23 => ⟨S_, .f32⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .i1⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S_, .f32⟩
  | 38 => ⟨S8x4096x4096, .f32⟩
  | 39 => ⟨S8x4096x4096, .i1⟩
  | 40 => ⟨S_, .f32⟩
  | 41 => ⟨S8x4096x4096, .f32⟩
  | 42 => ⟨S8x4096x4096, .f32⟩
  | 43 => ⟨S_, .f32⟩
  | 44 => ⟨S8x4096x4096, .f32⟩
  | 45 => ⟨S8x4096x4096, .i1⟩
  | 46 => ⟨S_, .f32⟩
  | 47 => ⟨S8x4096x4096, .f32⟩
  | 48 => ⟨S8x4096x4096, .f32⟩
  | 49 => ⟨S8x4096x4096, .f32⟩
  | 50 => ⟨S8x4096x4096, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S8x4096x4096, .f32⟩
  | 59 => ⟨S8x4096x4096, .i1⟩
  | 60 => ⟨S_, .f32⟩
  | 61 => ⟨S8x4096x4096, .f32⟩
  | 62 => ⟨S8x4096x4096, .f32⟩
  | 63 => ⟨S8x4096x4096, .f32⟩
  | 64 => ⟨S8x4096x4096, .f32⟩
  | 65 => ⟨S8x4096x4096, .f32⟩
  | 66 => ⟨S_, .f32⟩
  | 67 => ⟨S8x4096x4096, .f32⟩
  | 68 => ⟨S8x4096x4096, .f32⟩
  | 69 => ⟨S8x4096x4096, .f32⟩
  | 70 => ⟨S_, .f32⟩
  | 71 => ⟨S_, .f32⟩
  | 72 => ⟨S8x4096x4096, .i1⟩
  | 73 => ⟨S8x4096x4096, .f32⟩
  | 74 => ⟨S8x4096x4096, .f32⟩
  | 75 => ⟨S_, .f32⟩
  | 76 => ⟨S8x4096x4096, .f32⟩
  | 77 => ⟨S_, .f32⟩
  | 78 => ⟨S_, .f32⟩
  | 79 => ⟨S8x4096x4096, .f32⟩
  | 80 => ⟨S8x4096x4096, .f32⟩
  | 81 => ⟨S8x4096x4096, .f32⟩
  | 82 => ⟨S_, .f32⟩
  | 83 => ⟨S8x4096x4096, .f32⟩
  | 84 => ⟨S8x4096x4096, .f32⟩
  | 85 => ⟨S8x4096x4096, .f32⟩
  | 86 => ⟨S8x4096x4096, .f32⟩
  | 87 => ⟨S8x4096x4096, .i1⟩
  | 88 => ⟨S8x4096x4096, .f32⟩
  | 89 => ⟨S8x4096x4096, .f32⟩
  | 90 => ⟨S8x4096x4096, .f32⟩
  | 91 => ⟨S8x4096x4096, .f32⟩
  | 92 => ⟨S8x4096x4096, .f32⟩
  | 93 => ⟨S8x4096x4096, .f32⟩
  | 94 => ⟨S8x4096x4096, .f32⟩
  | 95 => ⟨S8x4096x4096, .f32⟩
  | 96 => ⟨S_, .f32⟩
  | 97 => ⟨S8x4096x4096, .f32⟩
  | 98 => ⟨S8x4096x4096, .i1⟩
  | 99 => ⟨S_, .f32⟩
  | 100 => ⟨S8x4096x4096, .f32⟩
  | 101 => ⟨S8x4096x4096, .f32⟩
  | 102 => ⟨S_, .f32⟩
  | 103 => ⟨S8x4096x4096, .f32⟩
  | 104 => ⟨S8x4096x4096, .i1⟩
  | 105 => ⟨S_, .f32⟩
  | 106 => ⟨S8x4096x4096, .f32⟩
  | 107 => ⟨S8x4096x4096, .f32⟩
  | 108 => ⟨S8x4096x4096, .f32⟩
  | 109 => ⟨S8x4096x4096, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S8x4096x4096, .f32⟩
  | 118 => ⟨S8x4096x4096, .i1⟩
  | 119 => ⟨S_, .f32⟩
  | 120 => ⟨S8x4096x4096, .f32⟩
  | 121 => ⟨S8x4096x4096, .f32⟩
  | 122 => ⟨S8x4096x4096, .f32⟩
  | 123 => ⟨S8x4096x4096, .f32⟩
  | 124 => ⟨S8x4096x4096, .f32⟩
  | 125 => ⟨S_, .f32⟩
  | 126 => ⟨S8x4096x4096, .f32⟩
  | 127 => ⟨S8x4096x4096, .f32⟩
  | _ => ⟨S4096x3072, .f32⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S_, .f32⟩
  | 4 => ⟨S_, .f32⟩
  | 5 => ⟨S8x4096x4096, .i1⟩
  | 6 => ⟨S8x4096x4096, .f32⟩
  | 7 => ⟨S8x4096x4096, .f32⟩
  | 8 => ⟨S_, .f32⟩
  | 9 => ⟨S8x4096x4096, .f32⟩
  | 10 => ⟨S8x4096x128, .f32⟩
  | 11 => ⟨S4096x8x128, .f32⟩
  | 12 => ⟨S4096x1024, .f32⟩
  | 13 => ⟨S4096x8x128, .f32⟩
  | 14 => ⟨S8x4096x128, .f32⟩
  | 15 => ⟨S8x128x4096, .f32⟩
  | 16 => ⟨S8x4096x128, .f32⟩
  | 17 => ⟨S8x4096x4096, .f32⟩
  | 18 => ⟨S_, .f32⟩
  | 19 => ⟨S8x4096x4096, .f32⟩
  | 20 => ⟨S8x4096x4096, .f32⟩
  | 21 => ⟨S8x4096x4096, .f32⟩
  | 22 => ⟨S8x4096x4096, .f32⟩
  | 23 => ⟨S8x4096x4096, .f32⟩
  | 24 => ⟨S8x4096x4096, .f32⟩
  | 25 => ⟨S8x4096x4096, .f32⟩
  | 26 => ⟨S_, .f32⟩
  | 27 => ⟨S_, .f32⟩
  | 28 => ⟨S8x4096x4096, .f32⟩
  | 29 => ⟨S8x4096x4096, .f32⟩
  | 30 => ⟨S_, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S_, .f32⟩
  | 39 => ⟨S8x4096x4096, .f32⟩
  | 40 => ⟨S8x4096x4096, .f32⟩
  | 41 => ⟨S8x4096x128, .f32⟩
  | 42 => ⟨S8x4096x128, .f32⟩
  | 43 => ⟨S4096x8x128, .f32⟩
  | 44 => ⟨S4096x1024, .f32⟩
  | 45 => ⟨S4096x8x128, .f32⟩
  | 46 => ⟨S4096x1024, .f32⟩
  | 47 => ⟨S4096x8x128, .f32⟩
  | 48 => ⟨S4096x1024, .f32⟩
  | 49 => ⟨S4096x3072, .f32⟩
  | 50 => ⟨S4096x1024, .f32⟩
  | 51 => ⟨S4096x1024, .f32⟩
  | 52 => ⟨S4096x1024, .f32⟩
  | 53 => ⟨S4096x1024, .bf16⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_cst_0 : Ref sig .tc := ⟨.hbm, 70, rfl⟩
abbrev main_call1_v0 : Ref sig .tc := ⟨.hbm, 71, rfl⟩
abbrev main_v20_1 : Ref sig .tc := ⟨.hbm, 72, rfl⟩
abbrev main_call1_v2 : Ref sig .tc := ⟨.hbm, 73, rfl⟩
abbrev main_v20_0 : Ref sig .tc := ⟨.hbm, 74, rfl⟩
abbrev main_call1_cst : Ref sig .tc := ⟨.hbm, 75, rfl⟩
abbrev main_v20_2 : Ref sig .tc := ⟨.hbm, 76, rfl⟩
abbrev main_call2_cst : Ref sig .tc := ⟨.hbm, 77, rfl⟩
abbrev main_call2_v0 : Ref sig .tc := ⟨.hbm, 78, rfl⟩
abbrev main_v21 : Ref sig .tc := ⟨.hbm, 79, rfl⟩
abbrev main_v22 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v23_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v23_2 : Ref sig .tc := ⟨.hbm, 127, rfl⟩
abbrev main_v23_0 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_v36 : Ref sig .tc := ⟨.hbm, 149, rfl⟩
abbrev main_call6_v0 : Ref sig .tc := ⟨.hbm, 150, rfl⟩
abbrev main_call6_v1 : Ref sig .tc := ⟨.hbm, 151, rfl⟩
abbrev main_v37 : Ref sig .tc := ⟨.hbm, 152, rfl⟩
abbrev main_v38 : Ref sig .tc := ⟨.hbm, 153, rfl⟩
abbrev main_call7_cst : Ref sig .tc := ⟨.hbm, 154, rfl⟩
abbrev main_call7_v0 : Ref sig .tc := ⟨.hbm, 155, rfl⟩
abbrev main_v39 : Ref sig .tc := ⟨.hbm, 156, rfl⟩
abbrev main_v40 : Ref sig .tc := ⟨.hbm, 157, rfl⟩
abbrev main_call8_cst : Ref sig .tc := ⟨.hbm, 158, rfl⟩
abbrev main_call8_v0 : Ref sig .tc := ⟨.hbm, 159, rfl⟩
abbrev main_v41 : Ref sig .tc := ⟨.hbm, 160, rfl⟩
abbrev main_call9_v0 : Ref sig .tc := ⟨.hbm, 161, rfl⟩
abbrev main_call9_v1 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩

abbrev nD : Nat := 1
abbrev τ : Topo := Topo.v7x

variable {F : FTy → Type} [FloatOps F]
-- ==== KernelDownDw.lean ====
abbrev S4096x2816 : Shape := ⟨2, ![4096, 2816]⟩
abbrev S2816x1024 : Shape := ⟨2, ![2816, 1024]⟩
abbrev S4096x1024 : Shape := ⟨2, ![4096, 1024]⟩
abbrev S1x2816x1024 : Shape := ⟨3, ![1, 2816, 1024]⟩
abbrev S4096x256 : Shape := ⟨2, ![4096, 256]⟩
abbrev S1x256x1024 : Shape := ⟨3, ![1, 256, 1024]⟩
abbrev S256x1024 : Shape := ⟨2, ![256, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x2816x1024, .f32⟩
  | .hbm, ⟨4, _⟩ => ⟨S4096x2816, .bf16⟩
  | .hbm, ⟨5, _⟩ => ⟨S4096x1024, .bf16⟩
  | .hbm, ⟨6, _⟩ => ⟨S1x2816x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S1x256x1024, .f32⟩
  | .local _ .vmem, ⟨4, _⟩ => ⟨S1x256x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDownDwIdeal.lean ====
abbrev S4096x2816 : Shape := ⟨2, ![4096, 2816]⟩
abbrev S2816x1024 : Shape := ⟨2, ![2816, 1024]⟩
abbrev S4096x1024 : Shape := ⟨2, ![4096, 1024]⟩
abbrev S1x2816x1024 : Shape := ⟨3, ![1, 2816, 1024]⟩
abbrev S_ : Shape := ⟨0, ![]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x2816x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S1024x2816, .f32⟩
  | .hbm, ⟨12, _⟩ => ⟨S2816x1024, .f32⟩
  | .hbm, ⟨13, _⟩ => ⟨S1x2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== KernelUpDw.lean ====
abbrev S4096x1024 : Shape := ⟨2, ![4096, 1024]⟩
abbrev S1024x5632 : Shape := ⟨2, ![1024, 5632]⟩
abbrev S4096x5632 : Shape := ⟨2, ![4096, 5632]⟩
abbrev S1x1024x5632 : Shape := ⟨3, ![1, 1024, 5632]⟩
abbrev S1x4096x1024 : Shape := ⟨3, ![1, 4096, 1024]⟩
abbrev S2x4096x1024 : Shape := ⟨3, ![2, 4096, 1024]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1x4096x512 : Shape := ⟨3, ![1, 4096, 512]⟩
abbrev S1x4096x1408 : Shape := ⟨3, ![1, 4096, 1408]⟩
abbrev S1x512x1408 : Shape := ⟨3, ![1, 512, 1408]⟩
abbrev S4096x512 : Shape := ⟨2, ![4096, 512]⟩
abbrev S4096x1408 : Shape := ⟨2, ![4096, 1408]⟩
abbrev S512x1408 : Shape := ⟨2, ![512, 1408]⟩

abbrev nBuf : Space → Nat
  | .hbm => 15
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S1x1024x5632, .f32⟩
  | .hbm, ⟨4, _⟩ => ⟨S4096x1024, .bf16⟩
  | .hbm, ⟨5, _⟩ => ⟨S4096x5632, .bf16⟩
  | .hbm, ⟨6, _⟩ => ⟨S1x4096x1024, .bf16⟩
  | .hbm, ⟨7, _⟩ => ⟨S1x4096x1024, .bf16⟩
  | .hbm, ⟨8, _⟩ => ⟨S2x4096x1024, .bf16⟩
  | .hbm, ⟨9, _⟩ => ⟨S4096x2816, .bf16⟩
  | .hbm, ⟨10, _⟩ => ⟨S4096x2816, .bf16⟩
  | .hbm, ⟨11, _⟩ => ⟨S1x4096x2816, .bf16⟩
  | .hbm, ⟨12, _⟩ => ⟨S1x4096x2816, .bf16⟩
  | .hbm, ⟨13, _⟩ => ⟨S2x4096x2816, .bf16⟩
  | .hbm, ⟨14, _⟩ => ⟨S1x1024x5632, .f32⟩
  | .local _ .vmem, ⟨0, _⟩ => ⟨S1x4096x512, .bf16⟩
  | .local _ .vmem, ⟨1, _⟩ => ⟨S1x4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .f32⟩
  | .local _ .vmem, ⟨5, _⟩ => ⟨S1x512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUpDwIdeal.lean ====
abbrev S4096x1024 : Shape := ⟨2, ![4096, 1024]⟩
abbrev S1024x5632 : Shape := ⟨2, ![1024, 5632]⟩
abbrev S4096x5632 : Shape := ⟨2, ![4096, 5632]⟩
abbrev S1x1024x5632 : Shape := ⟨3, ![1, 1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S1x1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1x1024x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelDownBwd.lean ====
abbrev S4096x2816 : Shape := ⟨2, ![4096, 2816]⟩
abbrev S2816x1024 : Shape := ⟨2, ![2816, 1024]⟩
abbrev S4096x1024 : Shape := ⟨2, ![4096, 1024]⟩
abbrev S1x2816x1024 : Shape := ⟨3, ![1, 2816, 1024]⟩
abbrev S1x4096x2816 : Shape := ⟨3, ![1, 4096, 2816]⟩
abbrev S2x4096x2816 : Shape := ⟨3, ![2, 4096, 2816]⟩
abbrev S1024x1024 : Shape := ⟨2, ![1024, 1024]⟩
abbrev S1x1408x1024 : Shape := ⟨3, ![1, 1408, 1024]⟩
abbrev S2x1024x1408 : Shape := ⟨3, ![2, 1024, 1408]⟩
abbrev S1408x1024 : Shape := ⟨2, ![1408, 1024]⟩
abbrev S1024x1408 : Shape := ⟨2, ![1024, 1408]⟩
abbrev S1x1024x1408 : Shape := ⟨3, ![1, 1024, 1408]⟩

abbrev nBuf : Space → Nat
  | .hbm => 12
  | .vmem => 8
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x1024, .bf16⟩
  | .hbm, ⟨5, _⟩ => ⟨S2816x1024, .bf16⟩
  | .hbm, ⟨6, _⟩ => ⟨S1x2816x1024, .bf16⟩
  | .hbm, ⟨7, _⟩ => ⟨S1x4096x2816, .f32⟩
  | .hbm, ⟨8, _⟩ => ⟨S1x4096x2816, .f32⟩
  | .hbm, ⟨9, _⟩ => ⟨S2x4096x2816, .f32⟩
  | .hbm, ⟨10, _⟩ => ⟨S2x4096x2816, .bf16⟩
  | .hbm, ⟨11, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S2x1024x1408, .bf16⟩
  | .local _ .vmem, ⟨7, _⟩ => ⟨S2x1024x1408, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDownBwdIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 36
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S1x4096x2816, .f32⟩
  | .hbm, ⟨33, _⟩ => ⟨S1x4096x2816, .f32⟩
  | .hbm, ⟨34, _⟩ => ⟨S2x4096x2816, .f32⟩
  | .hbm, ⟨35, _⟩ => ⟨S2x4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== KernelUpBwd.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1x1024x5632 : Shape := ⟨3, ![1, 1024, 5632]⟩
abbrev S1x1024 : Shape := ⟨2, ![1, 1024]⟩
abbrev S2x512x2816 : Shape := ⟨3, ![2, 512, 2816]⟩
abbrev S1x1024x2816 : Shape := ⟨3, ![1, 1024, 2816]⟩
abbrev S512x1024 : Shape := ⟨2, ![512, 1024]⟩
abbrev S1x512x2816 : Shape := ⟨3, ![1, 512, 2816]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩

abbrev nBuf : Space → Nat
  | .hbm => 17
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x5632, .bf16⟩
  | .hbm, ⟨6, _⟩ => ⟨S4096x2816, .bf16⟩
  | .hbm, ⟨7, _⟩ => ⟨S4096x2816, .bf16⟩
  | .hbm, ⟨8, _⟩ => ⟨S1x4096x2816, .bf16⟩
  | .hbm, ⟨9, _⟩ => ⟨S1x4096x2816, .bf16⟩
  | .hbm, ⟨10, _⟩ => ⟨S2x4096x2816, .bf16⟩
  | .hbm, ⟨11, _⟩ => ⟨S1024x5632, .bf16⟩
  | .hbm, ⟨12, _⟩ => ⟨S1x1024x5632, .bf16⟩
  | .hbm, ⟨13, _⟩ => ⟨S1x1024, .f32⟩
  | .hbm, ⟨14, _⟩ => ⟨S4096x1024, .f32⟩
  | .hbm, ⟨15, _⟩ => ⟨S4096x1024, .bf16⟩
  | .hbm, ⟨16, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceUpBwdIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KernelUp.lean ====
abbrev S4096x1024 : Shape := ⟨2, ![4096, 1024]⟩
abbrev S1024 : Shape := ⟨1, ![1024]⟩
abbrev S1024x5632 : Shape := ⟨2, ![1024, 5632]⟩
abbrev S1x1024 : Shape := ⟨2, ![1, 1024]⟩
abbrev S1x1024x5632 : Shape := ⟨3, ![1, 1024, 5632]⟩
abbrev S2x4096x2816 : Shape := ⟨3, ![2, 4096, 2816]⟩
abbrev S4096x2816 : Shape := ⟨2, ![4096, 2816]⟩
abbrev S2x4096x1024 : Shape := ⟨3, ![2, 4096, 1024]⟩
abbrev S1024x1024 : Shape := ⟨2, ![1024, 1024]⟩
abbrev S1x1024x1408 : Shape := ⟨3, ![1, 1024, 1408]⟩
abbrev S2x1024x1408 : Shape := ⟨3, ![2, 1024, 1408]⟩
abbrev S1024x1408 : Shape := ⟨2, ![1024, 1408]⟩
abbrev S1x1024x1024 : Shape := ⟨3, ![1, 1024, 1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S1024x5632, .bf16⟩
  | .hbm, ⟨5, _⟩ => ⟨S1x1024x5632, .bf16⟩
  | .hbm, ⟨6, _⟩ => ⟨S2x4096x2816, .bf16⟩
  | .hbm, ⟨7, _⟩ => ⟨S4096x2816, .bf16⟩
  | .hbm, ⟨8, _⟩ => ⟨S2x4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S2x1024x1408, .bf16⟩
  | .local _ .vmem, ⟨8, _⟩ => ⟨S2x1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1x1024x1024, .bf16⟩
  | .local _ .vmem, ⟨12, _⟩ => ⟨S1x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceUpIdeal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1x4096x1024 : Shape := ⟨3, ![1, 4096, 1024]⟩
abbrev S2x4096x1024 : Shape := ⟨3, ![2, 4096, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S1x4096x2816, .f32⟩
  | .hbm, ⟨33, _⟩ => ⟨S1x4096x2816, .f32⟩
  | .hbm, ⟨34, _⟩ => ⟨S2x4096x2816, .f32⟩
  | .hbm, ⟨35, _⟩ => ⟨S2x4096x2816, .bf16⟩
  | .hbm, ⟨36, _⟩ => ⟨S4096x2816, .bf16⟩
  | .hbm, ⟨37, _⟩ => ⟨S1x4096x1024, .f32⟩
  | .hbm, ⟨38, _⟩ => ⟨S1x4096x1024, .f32⟩
  | .hbm, ⟨39, _⟩ => ⟨S2x4096x1024, .f32⟩
  | .hbm, ⟨40, _⟩ => ⟨S2x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelDown.lean ====
abbrev S4096x1024 : Shape := ⟨2, ![4096, 1024]⟩
abbrev S4096x2816 : Shape := ⟨2, ![4096, 2816]⟩
abbrev S2816x1024 : Shape := ⟨2, ![2816, 1024]⟩
abbrev S1x2816x1024 : Shape := ⟨3, ![1, 2816, 1024]⟩
abbrev S1024x2816 : Shape := ⟨2, ![1024, 2816]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x2816, .bf16⟩
  | .hbm, ⟨4, _⟩ => ⟨S2816x1024, .bf16⟩
  | .hbm, ⟨5, _⟩ => ⟨S1x2816x1024, .bf16⟩
  | .hbm, ⟨6, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDownIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelOutFwd.lean ====
abbrev S4096x1024 : Shape := ⟨2, ![4096, 1024]⟩
abbrev S1024x1024 : Shape := ⟨2, ![1024, 1024]⟩
abbrev S1x1024x1024 : Shape := ⟨3, ![1, 1024, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S1024x1024, .bf16⟩
  | .hbm, ⟨5, _⟩ => ⟨S1x1024x1024, .bf16⟩
  | .hbm, ⟨6, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutFwdIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelOutBwd.lean ====
abbrev S4096x1024 : Shape := ⟨2, ![4096, 1024]⟩
abbrev S1024x1024 : Shape := ⟨2, ![1024, 1024]⟩
abbrev S1x1024x1024 : Shape := ⟨3, ![1, 1024, 1024]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S1x1024x1024, .bf16⟩
  | .hbm, ⟨6, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOutBwdIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelOutDw.lean ====
abbrev S4096x1024 : Shape := ⟨2, ![4096, 1024]⟩
abbrev S1024x1024 : Shape := ⟨2, ![1024, 1024]⟩
abbrev S1x1024x1024 : Shape := ⟨3, ![1, 1024, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024x1024, .f32⟩
  | .hbm, ⟨4, _⟩ => ⟨S4096x1024, .bf16⟩
  | .hbm, ⟨5, _⟩ => ⟨S4096x1024, .bf16⟩
  | .hbm, ⟨6, _⟩ => ⟨S1x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .f32⟩
  | .local _ .vmem, ⟨4, _⟩ => ⟨S1x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOutDwIdeal.lean ====
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelInFwd.lean ====
abbrev S4096x1024 : Shape := ⟨2, ![4096, 1024]⟩
abbrev S1024 : Shape := ⟨1, ![1024]⟩
abbrev S1024x3072 : Shape := ⟨2, ![1024, 3072]⟩
abbrev S1x1024 : Shape := ⟨2, ![1, 1024]⟩
abbrev S1x1024x3072 : Shape := ⟨3, ![1, 1024, 3072]⟩
abbrev S4096x3072 : Shape := ⟨2, ![4096, 3072]⟩
abbrev S2x4096x1024 : Shape := ⟨3, ![2, 4096, 1024]⟩
abbrev S512x1024 : Shape := ⟨2, ![512, 1024]⟩
abbrev S1x1024x1536 : Shape := ⟨3, ![1, 1024, 1536]⟩
abbrev S512x1536 : Shape := ⟨2, ![512, 1536]⟩
abbrev S1x512x1024 : Shape := ⟨3, ![1, 512, 1024]⟩
abbrev S512 : Shape := ⟨1, ![512]⟩
abbrev S512x1 : Shape := ⟨2, ![512, 1]⟩
abbrev S1024x1536 : Shape := ⟨2, ![1024, 1536]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S1x1024x3072, .bf16⟩
  | .hbm, ⟨6, _⟩ => ⟨S4096x3072, .bf16⟩
  | .hbm, ⟨7, _⟩ => ⟨S2x4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1536, .bf16⟩
  | .local _ .vmem, ⟨4, _⟩ => ⟨S1x1024x1536, .bf16⟩
  | .local _ .vmem, ⟨5, _⟩ => ⟨S512x1536, .bf16⟩
  | .local _ .vmem, ⟨6, _⟩ => ⟨S512x1536, .bf16⟩
  | .local _ .vmem, ⟨7, _⟩ => ⟨S1x512x1024, .bf16⟩
  | .local _ .vmem, ⟨8, _⟩ => ⟨S1x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceInFwdIdeal.lean ====
abbrev S4096x1024 : Shape := ⟨2, ![4096, 1024]⟩
abbrev S1024 : Shape := ⟨1, ![1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩
abbrev S1x4096x1024 : Shape := ⟨3, ![1, 4096, 1024]⟩
abbrev S2x4096x1024 : Shape := ⟨3, ![2, 4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3072, .f32⟩
  | .hbm, ⟨20, _⟩ => ⟨S4096x3072, .bf16⟩
  | .hbm, ⟨21, _⟩ => ⟨S1x4096x1024, .f32⟩
  | .hbm, ⟨22, _⟩ => ⟨S1x4096x1024, .f32⟩
  | .hbm, ⟨23, _⟩ => ⟨S2x4096x1024, .f32⟩
  | .hbm, ⟨24, _⟩ => ⟨S2x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== KernelInDw.lean ====
abbrev S4096x1024 : Shape := ⟨2, ![4096, 1024]⟩
abbrev S1024x3072 : Shape := ⟨2, ![1024, 3072]⟩
abbrev S4096x3072 : Shape := ⟨2, ![4096, 3072]⟩
abbrev S1x1024x3072 : Shape := ⟨3, ![1, 1024, 3072]⟩
abbrev S1x4096x1024 : Shape := ⟨3, ![1, 4096, 1024]⟩
abbrev S2x4096x1024 : Shape := ⟨3, ![2, 4096, 1024]⟩
abbrev S1x4096x512 : Shape := ⟨3, ![1, 4096, 512]⟩
abbrev S4096x1536 : Shape := ⟨2, ![4096, 1536]⟩
abbrev S1x512x1536 : Shape := ⟨3, ![1, 512, 1536]⟩
abbrev S4096x512 : Shape := ⟨2, ![4096, 512]⟩
abbrev S512x1536 : Shape := ⟨2, ![512, 1536]⟩

abbrev nBuf : Space → Nat
  | .hbm => 10
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S1x1024x3072, .f32⟩
  | .hbm, ⟨4, _⟩ => ⟨S4096x1024, .bf16⟩
  | .hbm, ⟨5, _⟩ => ⟨S1x4096x1024, .bf16⟩
  | .hbm, ⟨6, _⟩ => ⟨S1x4096x1024, .bf16⟩
  | .hbm, ⟨7, _⟩ => ⟨S2x4096x1024, .bf16⟩
  | .hbm, ⟨8, _⟩ => ⟨S4096x3072, .bf16⟩
  | .hbm, ⟨9, _⟩ => ⟨S1x1024x3072, .f32⟩
  | .local _ .vmem, ⟨0, _⟩ => ⟨S1x4096x512, .bf16⟩
  | .local _ .vmem, ⟨1, _⟩ => ⟨S1x4096x512, .bf16⟩
  | .local _ .vmem, ⟨2, _⟩ => ⟨S4096x1536, .bf16⟩
  | .local _ .vmem, ⟨3, _⟩ => ⟨S4096x1536, .bf16⟩
  | .local _ .vmem, ⟨4, _⟩ => ⟨S1x512x1536, .f32⟩
  | .local _ .vmem, ⟨5, _⟩ => ⟨S1x512x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInDwIdeal.lean ====
abbrev S4096x1024 : Shape := ⟨2, ![4096, 1024]⟩
abbrev S1024x3072 : Shape := ⟨2, ![1024, 3072]⟩
abbrev S4096x3072 : Shape := ⟨2, ![4096, 3072]⟩
abbrev S1x1024x3072 : Shape := ⟨3, ![1, 1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S1x1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | .hbm, ⟨7, _⟩ => ⟨S1x1024x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelInBwd.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S1x1024x3072 : Shape := ⟨3, ![1, 1024, 3072]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x3072, .f32⟩
  | .hbm, ⟨4, _⟩ => ⟨S4096x1024, .f32⟩
  | .hbm, ⟨5, _⟩ => ⟨S4096x3072, .bf16⟩
  | .hbm, ⟨6, _⟩ => ⟨S1024x3072, .bf16⟩
  | .hbm, ⟨7, _⟩ => ⟨S1x1024x3072, .bf16⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1x1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceInBwdIdeal.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KernelEvenOutBwd.lean ====
abbrev S4096x1024 : Shape := ⟨2, ![4096, 1024]⟩
abbrev S1024x1024 : Shape := ⟨2, ![1024, 1024]⟩
abbrev S1x1024x1024 : Shape := ⟨3, ![1, 1024, 1024]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S1x1024x1024, .bf16⟩
  | .hbm, ⟨6, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceEvenOutBwdIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelEvenIn.lean ====
abbrev S4096x1024 : Shape := ⟨2, ![4096, 1024]⟩
abbrev S1024 : Shape := ⟨1, ![1024]⟩
abbrev S1024x4108 : Shape := ⟨2, ![1024, 4108]⟩
abbrev S1x1024 : Shape := ⟨2, ![1, 1024]⟩
abbrev S1x1024x4108 : Shape := ⟨3, ![1, 1024, 4108]⟩
abbrev S_ : Shape := ⟨0, ![]⟩
abbrev S1x1024x116 : Shape := ⟨3, ![1, 1024, 116]⟩
abbrev S1x1024x1536 : Shape := ⟨3, ![1, 1024, 1536]⟩
abbrev S1x1024x512 : Shape := ⟨3, ![1, 1024, 512]⟩
abbrev S1x1024x8 : Shape := ⟨3, ![1, 1024, 8]⟩
abbrev S1x1024x4 : Shape := ⟨3, ![1, 1024, 4]⟩
abbrev S1x1024x4224 : Shape := ⟨3, ![1, 1024, 4224]⟩
abbrev S4096x4224 : Shape := ⟨2, ![4096, 4224]⟩
abbrev S3x4096x1024 : Shape := ⟨3, ![3, 4096, 1024]⟩
abbrev S512x1024 : Shape := ⟨2, ![512, 1024]⟩
abbrev S1x1024x1408 : Shape := ⟨3, ![1, 1024, 1408]⟩
abbrev S512x1408 : Shape := ⟨2, ![512, 1408]⟩
abbrev S1x512x1024 : Shape := ⟨3, ![1, 512, 1024]⟩
abbrev S512 : Shape := ⟨1, ![512]⟩
abbrev S512x1 : Shape := ⟨2, ![512, 1]⟩
abbrev S1024x1408 : Shape := ⟨2, ![1024, 1408]⟩

abbrev nBuf : Space → Nat
  | .hbm => 17
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4108, .f32⟩
  | .hbm, ⟨3, _⟩ => ⟨S1x1024, .f32⟩
  | .hbm, ⟨4, _⟩ => ⟨S1024x4108, .bf16⟩
  | .hbm, ⟨5, _⟩ => ⟨S1x1024x4108, .bf16⟩
  | .hbm, ⟨6, _⟩ => ⟨S_, .bf16⟩
  | .hbm, ⟨7, _⟩ => ⟨S1x1024x116, .bf16⟩
  | .hbm, ⟨8, _⟩ => ⟨S1x1024x1536, .bf16⟩
  | .hbm, ⟨9, _⟩ => ⟨S1x1024x1536, .bf16⟩
  | .hbm, ⟨10, _⟩ => ⟨S1x1024x512, .bf16⟩
  | .hbm, ⟨11, _⟩ => ⟨S1x1024x512, .bf16⟩
  | .hbm, ⟨12, _⟩ => ⟨S1x1024x8, .bf16⟩
  | .hbm, ⟨13, _⟩ => ⟨S1x1024x4, .bf16⟩
  | .hbm, ⟨14, _⟩ => ⟨S1x1024x4224, .bf16⟩
  | .hbm, ⟨15, _⟩ => ⟨S4096x4224, .f32⟩
  | .hbm, ⟨16, _⟩ => ⟨S3x4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S512x1408, .f32⟩
  | .local _ .vmem, ⟨6, _⟩ => ⟨S512x1408, .f32⟩
  | .local _ .vmem, ⟨7, _⟩ => ⟨S1x512x1024, .bf16⟩
  | .local _ .vmem, ⟨8, _⟩ => ⟨S1x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceEvenInIdeal.lean ====
abbrev S4096x1024 : Shape := ⟨2, ![4096, 1024]⟩
abbrev S1024 : Shape := ⟨1, ![1024]⟩
abbrev S1024x4108 : Shape := ⟨2, ![1024, 4108]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4108 : Shape := ⟨2, ![4096, 4108]⟩
abbrev S4096x1536 : Shape := ⟨2, ![4096, 1536]⟩
abbrev S4096x512 : Shape := ⟨2, ![4096, 512]⟩
abbrev S4096x8 : Shape := ⟨2, ![4096, 8]⟩
abbrev S4096x4 : Shape := ⟨2, ![4096, 4]⟩
abbrev S4096x116 : Shape := ⟨2, ![4096, 116]⟩
abbrev S4096x4224 : Shape := ⟨2, ![4096, 4224]⟩
abbrev S1x4096x1024 : Shape := ⟨3, ![1, 4096, 1024]⟩
abbrev S3x4096x1024 : Shape := ⟨3, ![3, 4096, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4108, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x4108, .f32⟩
  | .hbm, ⟨20, _⟩ => ⟨S4096x1536, .f32⟩
  | .hbm, ⟨21, _⟩ => ⟨S4096x512, .f32⟩
  | .hbm, ⟨22, _⟩ => ⟨S4096x8, .f32⟩
  | .hbm, ⟨23, _⟩ => ⟨S4096x1536, .f32⟩
  | .hbm, ⟨24, _⟩ => ⟨S4096x512, .f32⟩
  | .hbm, ⟨25, _⟩ => ⟨S4096x4, .f32⟩
  | .hbm, ⟨26, _⟩ => ⟨S_, .f32⟩
  | .hbm, ⟨27, _⟩ => ⟨S4096x116, .f32⟩
  | .hbm, ⟨28, _⟩ => ⟨S4096x4224, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S3x4096x1024, .f32⟩
  | .hbm, ⟨33, _⟩ => ⟨S3x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== KernelEvenInDw.lean ====
abbrev S4096x1024 : Shape := ⟨2, ![4096, 1024]⟩
abbrev S1024x4108 : Shape := ⟨2, ![1024, 4108]⟩
abbrev S4096x4108 : Shape := ⟨2, ![4096, 4108]⟩
abbrev S1x1024x4224 : Shape := ⟨3, ![1, 1024, 4224]⟩
abbrev S1x4096x1024 : Shape := ⟨3, ![1, 4096, 1024]⟩
abbrev S3x4096x1024 : Shape := ⟨3, ![3, 4096, 1024]⟩
abbrev S_ : Shape := ⟨0, ![]⟩
abbrev S4096x116 : Shape := ⟨2, ![4096, 116]⟩
abbrev S4096x1536 : Shape := ⟨2, ![4096, 1536]⟩
abbrev S4096x512 : Shape := ⟨2, ![4096, 512]⟩
abbrev S4096x8 : Shape := ⟨2, ![4096, 8]⟩
abbrev S4096x4 : Shape := ⟨2, ![4096, 4]⟩
abbrev S4096x4224 : Shape := ⟨2, ![4096, 4224]⟩
abbrev S1x4096x512 : Shape := ⟨3, ![1, 4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 20
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4108, .f32⟩
  | .hbm, ⟨2, _⟩ => ⟨S4096x4108, .f32⟩
  | .hbm, ⟨3, _⟩ => ⟨S1x1024x4224, .f32⟩
  | .hbm, ⟨4, _⟩ => ⟨S4096x1024, .bf16⟩
  | .hbm, ⟨5, _⟩ => ⟨S1x4096x1024, .bf16⟩
  | .hbm, ⟨6, _⟩ => ⟨S1x4096x1024, .bf16⟩
  | .hbm, ⟨7, _⟩ => ⟨S1x4096x1024, .bf16⟩
  | .hbm, ⟨8, _⟩ => ⟨S3x4096x1024, .bf16⟩
  | .hbm, ⟨9, _⟩ => ⟨S4096x4108, .bf16⟩
  | .hbm, ⟨10, _⟩ => ⟨S_, .bf16⟩
  | .hbm, ⟨11, _⟩ => ⟨S4096x116, .bf16⟩
  | .hbm, ⟨12, _⟩ => ⟨S4096x1536, .bf16⟩
  | .hbm, ⟨13, _⟩ => ⟨S4096x1536, .bf16⟩
  | .hbm, ⟨14, _⟩ => ⟨S4096x512, .bf16⟩
  | .hbm, ⟨15, _⟩ => ⟨S4096x512, .bf16⟩
  | .hbm, ⟨16, _⟩ => ⟨S4096x8, .bf16⟩
  | .hbm, ⟨17, _⟩ => ⟨S4096x4, .bf16⟩
  | .hbm, ⟨18, _⟩ => ⟨S4096x4224, .bf16⟩
  | .hbm, ⟨19, _⟩ => ⟨S1x1024x4224, .f32⟩
  | .local _ .vmem, ⟨0, _⟩ => ⟨S1x4096x512, .bf16⟩
  | .local _ .vmem, ⟨1, _⟩ => ⟨S1x4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .f32⟩
  | .local _ .vmem, ⟨5, _⟩ => ⟨S1x512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceEvenInDwIdeal.lean ====
abbrev S4096x1024 : Shape := ⟨2, ![4096, 1024]⟩
abbrev S1024x4108 : Shape := ⟨2, ![1024, 4108]⟩
abbrev S4096x4108 : Shape := ⟨2, ![4096, 4108]⟩
abbrev S1x1024x4224 : Shape := ⟨3, ![1, 1024, 4224]⟩
abbrev S4108x1024 : Shape := ⟨2, ![4108, 1024]⟩
abbrev S1024x1536 : Shape := ⟨2, ![1024, 1536]⟩
abbrev S1024x512 : Shape := ⟨2, ![1024, 512]⟩
abbrev S1024x8 : Shape := ⟨2, ![1024, 8]⟩
abbrev S1024x4 : Shape := ⟨2, ![1024, 4]⟩
abbrev S_ : Shape := ⟨0, ![]⟩
abbrev S1024x116 : Shape := ⟨2, ![1024, 116]⟩
abbrev S1024x4224 : Shape := ⟨2, ![1024, 4224]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4108, .f32⟩
  | .hbm, ⟨2, _⟩ => ⟨S4096x4108, .f32⟩
  | .hbm, ⟨3, _⟩ => ⟨S1x1024x4224, .f32⟩
  | .hbm, ⟨4, _⟩ => ⟨S4096x4108, .f32⟩
  | .hbm, ⟨5, _⟩ => ⟨S4108x1024, .f32⟩
  | .hbm, ⟨6, _⟩ => ⟨S1024x4108, .f32⟩
  | .hbm, ⟨7, _⟩ => ⟨S1024x1536, .f32⟩
  | .hbm, ⟨8, _⟩ => ⟨S1024x512, .f32⟩
  | .hbm, ⟨9, _⟩ => ⟨S1024x8, .f32⟩
  | .hbm, ⟨10, _⟩ => ⟨S1024x1536, .f32⟩
  | .hbm, ⟨11, _⟩ => ⟨S1024x512, .f32⟩
  | .hbm, ⟨12, _⟩ => ⟨S1024x4, .f32⟩
  | .hbm, ⟨13, _⟩ => ⟨S_, .f32⟩
  | .hbm, ⟨14, _⟩ => ⟨S1024x116, .f32⟩
  | .hbm, ⟨15, _⟩ => ⟨S1024x4224, .f32⟩
  | .hbm, ⟨16, _⟩ => ⟨S1x1024x4224, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== KernelEvenInBwd.lean ====
abbrev S4096x1024 : Shape := ⟨2, ![4096, 1024]⟩
abbrev S1024 : Shape := ⟨1, ![1024]⟩
abbrev S1024x4108 : Shape := ⟨2, ![1024, 4108]⟩
abbrev S4096x4108 : Shape := ⟨2, ![4096, 4108]⟩
abbrev S_ : Shape := ⟨0, ![]⟩
abbrev S4096x116 : Shape := ⟨2, ![4096, 116]⟩
abbrev S4096x1536 : Shape := ⟨2, ![4096, 1536]⟩
abbrev S4096x512 : Shape := ⟨2, ![4096, 512]⟩
abbrev S4096x8 : Shape := ⟨2, ![4096, 8]⟩
abbrev S4096x4 : Shape := ⟨2, ![4096, 4]⟩
abbrev S4096x4224 : Shape := ⟨2, ![4096, 4224]⟩
abbrev S1x1024x4108 : Shape := ⟨3, ![1, 1024, 4108]⟩
abbrev S1x1024x116 : Shape := ⟨3, ![1, 1024, 116]⟩
abbrev S1x1024x1536 : Shape := ⟨3, ![1, 1024, 1536]⟩
abbrev S1x1024x512 : Shape := ⟨3, ![1, 1024, 512]⟩
abbrev S1x1024x8 : Shape := ⟨3, ![1, 1024, 8]⟩
abbrev S1x1024x4 : Shape := ⟨3, ![1, 1024, 4]⟩
abbrev S1x1024x4224 : Shape := ⟨3, ![1, 1024, 4224]⟩
abbrev S1x1024 : Shape := ⟨2, ![1, 1024]⟩
abbrev S512x4224 : Shape := ⟨2, ![512, 4224]⟩
abbrev S512x1024 : Shape := ⟨2, ![512, 1024]⟩
abbrev S1024x4224 : Shape := ⟨2, ![1024, 4224]⟩
abbrev S512 : Shape := ⟨1, ![512]⟩
abbrev S512x1 : Shape := ⟨2, ![512, 1]⟩

abbrev nBuf : Space → Nat
  | .hbm => 30
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4108, .f32⟩
  | .hbm, ⟨3, _⟩ => ⟨S4096x4108, .f32⟩
  | .hbm, ⟨4, _⟩ => ⟨S4096x1024, .f32⟩
  | .hbm, ⟨5, _⟩ => ⟨S4096x4108, .bf16⟩
  | .hbm, ⟨6, _⟩ => ⟨S_, .bf16⟩
  | .hbm, ⟨7, _⟩ => ⟨S4096x116, .bf16⟩
  | .hbm, ⟨8, _⟩ => ⟨S4096x1536, .bf16⟩
  | .hbm, ⟨9, _⟩ => ⟨S4096x1536, .bf16⟩
  | .hbm, ⟨10, _⟩ => ⟨S4096x512, .bf16⟩
  | .hbm, ⟨11, _⟩ => ⟨S4096x512, .bf16⟩
  | .hbm, ⟨12, _⟩ => ⟨S4096x8, .bf16⟩
  | .hbm, ⟨13, _⟩ => ⟨S4096x4, .bf16⟩
  | .hbm, ⟨14, _⟩ => ⟨S4096x4224, .bf16⟩
  | .hbm, ⟨15, _⟩ => ⟨S1024x4108, .bf16⟩
  | .hbm, ⟨16, _⟩ => ⟨S1x1024x4108, .bf16⟩
  | .hbm, ⟨17, _⟩ => ⟨S_, .bf16⟩
  | .hbm, ⟨18, _⟩ => ⟨S1x1024x116, .bf16⟩
  | .hbm, ⟨19, _⟩ => ⟨S1x1024x1536, .bf16⟩
  | .hbm, ⟨20, _⟩ => ⟨S1x1024x1536, .bf16⟩
  | .hbm, ⟨21, _⟩ => ⟨S1x1024x512, .bf16⟩
  | .hbm, ⟨22, _⟩ => ⟨S1x1024x512, .bf16⟩
  | .hbm, ⟨23, _⟩ => ⟨S1x1024x8, .bf16⟩
  | .hbm, ⟨24, _⟩ => ⟨S1x1024x4, .bf16⟩
  | .hbm, ⟨25, _⟩ => ⟨S1x1024x4224, .bf16⟩
  | .hbm, ⟨26, _⟩ => ⟨S1x1024, .f32⟩
  | .hbm, ⟨27, _⟩ => ⟨S4096x1024, .f32⟩
  | .hbm, ⟨28, _⟩ => ⟨S4096x1024, .bf16⟩
  | .hbm, ⟨29, _⟩ => ⟨S1x1024, .f32⟩
  | .local _ .vmem, ⟨0, _⟩ => ⟨S512x4224, .bf16⟩
  | .local _ .vmem, ⟨1, _⟩ => ⟨S512x4224, .bf16⟩
  | .local _ .vmem, ⟨2, _⟩ => ⟨S1x1024x4224, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev main_v20_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceEvenInBwdIdeal.lean ====
abbrev S4096x1024 : Shape := ⟨2, ![4096, 1024]⟩
abbrev S1024 : Shape := ⟨1, ![1024]⟩
abbrev S1024x4108 : Shape := ⟨2, ![1024, 4108]⟩
abbrev S4096x4108 : Shape := ⟨2, ![4096, 4108]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4108, .f32⟩
  | .hbm, ⟨3, _⟩ => ⟨S4096x4108, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4108, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KernelAdamGu.lean ====
abbrev S1x1024x1408 : Shape := ⟨3, ![1, 1024, 1408]⟩
abbrev S1x128x1408 : Shape := ⟨3, ![1, 128, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .hbm, ⟨7, _⟩ => ⟨S1x1024x1408, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S1x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamGuIdeal.lean ====
abbrev S1x1024x1408 : Shape := ⟨3, ![1, 1024, 1408]⟩
abbrev S1x128x1408 : Shape := ⟨3, ![1, 128, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .hbm, ⟨7, _⟩ => ⟨S1x1024x1408, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S1x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamGuIdeal.lean ====
abbrev S1x1024x1408 : Shape := ⟨3, ![1, 1024, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .hbm, ⟨7, _⟩ => ⟨S1x1024x1408, .f32⟩
  | .hbm, ⟨8, _⟩ => ⟨S_, .f32⟩
  | .hbm, ⟨9, _⟩ => ⟨S1x1024x1408, .f32⟩
  | .hbm, ⟨10, _⟩ => ⟨S1x1024x1408, .f32⟩
  | .hbm, ⟨11, _⟩ => ⟨S_, .f32⟩
  | .hbm, ⟨12, _⟩ => ⟨S1x1024x1408, .f32⟩
  | .hbm, ⟨13, _⟩ => ⟨S1x1024x1408, .f32⟩
  | .hbm, ⟨14, _⟩ => ⟨S1x1024x1408, .f32⟩
  | .hbm, ⟨15, _⟩ => ⟨S_, .f32⟩
  | .hbm, ⟨16, _⟩ => ⟨S1x1024x1408, .f32⟩
  | .hbm, ⟨17, _⟩ => ⟨S1x1024x1408, .f32⟩
  | .hbm, ⟨18, _⟩ => ⟨S1x1024x1408, .f32⟩
  | .hbm, ⟨19, _⟩ => ⟨S_, .f32⟩
  | .hbm, ⟨20, _⟩ => ⟨S1x1024x1408, .f32⟩
  | .hbm, ⟨21, _⟩ => ⟨S1x1024x1408, .f32⟩
  | .hbm, ⟨22, _⟩ => ⟨S1x1024x1408, .f32⟩
  | .hbm, ⟨23, _⟩ => ⟨S_, .f32⟩
  | .hbm, ⟨24, _⟩ => ⟨S1x1024x1408, .f32⟩
  | .hbm, ⟨25, _⟩ => ⟨S1x1024x1408, .f32⟩
  | .hbm, ⟨26, _⟩ => ⟨S_, .f32⟩
  | .hbm, ⟨27, _⟩ => ⟨S1x1024x1408, .f32⟩
  | .hbm, ⟨28, _⟩ => ⟨S1x1024x1408, .f32⟩
  | .hbm, ⟨29, _⟩ => ⟨S1x1024x1408, .f32⟩
  | .hbm, ⟨30, _⟩ => ⟨S_, .f32⟩
  | .hbm, ⟨31, _⟩ => ⟨S1x1024x1408, .f32⟩
  | .hbm, ⟨32, _⟩ => ⟨S1x1024x1408, .f32⟩
  | .hbm, ⟨33, _⟩ => ⟨S1x1024x1408, .f32⟩
  | .hbm, ⟨34, _⟩ => ⟨S_, .f32⟩
  | .hbm, ⟨35, _⟩ => ⟨S1x1024x1408, .f32⟩
  | .hbm, ⟨36, _⟩ => ⟨S1x1024x1408, .f32⟩
  | .hbm, ⟨37, _⟩ => ⟨S1x1024x1408, .f32⟩
  | .hbm, ⟨38, _⟩ => ⟨S_, .f32⟩
  | .hbm, ⟨39, _⟩ => ⟨S1x1024x1408, .f32⟩
  | .hbm, ⟨40, _⟩ => ⟨S1x1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== KernelAdamDown.lean ====
abbrev S1x704x1024 : Shape := ⟨3, ![1, 704, 1024]⟩
abbrev S1x176x1024 : Shape := ⟨3, ![1, 176, 1024]⟩
abbrev S176x1024 : Shape := ⟨2, ![176, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S1x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamDownIdeal.lean ====
abbrev S1x704x1024 : Shape := ⟨3, ![1, 704, 1024]⟩
abbrev S1x176x1024 : Shape := ⟨3, ![1, 176, 1024]⟩
abbrev S176x1024 : Shape := ⟨2, ![176, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S1x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamDownIdeal.lean ====
abbrev S1x704x1024 : Shape := ⟨3, ![1, 704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S_, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S1x704x1024, .f32⟩
  | .hbm, ⟨23, _⟩ => ⟨S_, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | .hbm, ⟨37, _⟩ => ⟨S1x704x1024, .f32⟩
  | .hbm, ⟨38, _⟩ => ⟨S_, .f32⟩
  | .hbm, ⟨39, _⟩ => ⟨S1x704x1024, .f32⟩
  | .hbm, ⟨40, _⟩ => ⟨S1x704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== KernelAdamInEven.lean ====
abbrev S1x1024x1027 : Shape := ⟨3, ![1, 1024, 1027]⟩
abbrev S1x128x1027 : Shape := ⟨3, ![1, 128, 1027]⟩
abbrev S128x1027 : Shape := ⟨2, ![128, 1027]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x1027, .f32⟩
  | .hbm, ⟨1, _⟩ => ⟨S1x1024x1027, .f32⟩
  | .hbm, ⟨2, _⟩ => ⟨S1x1024x1027, .f32⟩
  | .hbm, ⟨3, _⟩ => ⟨S1x1024x1027, .f32⟩
  | .hbm, ⟨4, _⟩ => ⟨S1x1024x1027, .f32⟩
  | .hbm, ⟨5, _⟩ => ⟨S1x1024x1027, .f32⟩
  | .hbm, ⟨6, _⟩ => ⟨S1x1024x1027, .f32⟩
  | .hbm, ⟨7, _⟩ => ⟨S1x1024x1027, .f32⟩
  | .hbm, ⟨8, _⟩ => ⟨S1x1024x1027, .f32⟩
  | .hbm, ⟨9, _⟩ => ⟨S1x1024x1027, .f32⟩
  | .hbm, ⟨10, _⟩ => ⟨S1x1024x1027, .f32⟩
  | .hbm, ⟨11, _⟩ => ⟨S1x1024x1027, .f32⟩
  | .local _ .vmem, ⟨0, _⟩ => ⟨S1x128x1027, .f32⟩
  | .local _ .vmem, ⟨1, _⟩ => ⟨S1x128x1027, .f32⟩
  | .local _ .vmem, ⟨2, _⟩ => ⟨S1x128x1027, .f32⟩
  | .local _ .vmem, ⟨3, _⟩ => ⟨S1x128x1027, .f32⟩
  | .local _ .vmem, ⟨4, _⟩ => ⟨S1x128x1027, .f32⟩
  | .local _ .vmem, ⟨5, _⟩ => ⟨S1x128x1027, .f32⟩
  | .local _ .vmem, ⟨6, _⟩ => ⟨S1x128x1027, .f32⟩
  | .local _ .vmem, ⟨7, _⟩ => ⟨S1x128x1027, .f32⟩
  | .local _ .vmem, ⟨8, _⟩ => ⟨S1x128x1027, .f32⟩
  | .local _ .vmem, ⟨9, _⟩ => ⟨S1x128x1027, .f32⟩
  | .local _ .vmem, ⟨10, _⟩ => ⟨S1x128x1027, .f32⟩
  | .local _ .vmem, ⟨11, _⟩ => ⟨S1x128x1027, .f32⟩
  | .local _ .vmem, ⟨12, _⟩ => ⟨S1x128x1027, .f32⟩
  | .local _ .vmem, ⟨13, _⟩ => ⟨S1x128x1027, .f32⟩
  | .local _ .vmem, ⟨14, _⟩ => ⟨S1x128x1027, .f32⟩
  | .local _ .vmem, ⟨15, _⟩ => ⟨S1x128x1027, .f32⟩
  | _, _ => ⟨S1x1024x1027, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1027 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1027 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1027 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1027 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1027 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1027 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1027 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1027 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamInEvenIdeal.lean ====
abbrev S1x1024x1027 : Shape := ⟨3, ![1, 1024, 1027]⟩
abbrev S1x128x1027 : Shape := ⟨3, ![1, 128, 1027]⟩
abbrev S128x1027 : Shape := ⟨2, ![128, 1027]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x1027, .f32⟩
  | .hbm, ⟨1, _⟩ => ⟨S1x1024x1027, .f32⟩
  | .hbm, ⟨2, _⟩ => ⟨S1x1024x1027, .f32⟩
  | .hbm, ⟨3, _⟩ => ⟨S1x1024x1027, .f32⟩
  | .hbm, ⟨4, _⟩ => ⟨S1x1024x1027, .f32⟩
  | .hbm, ⟨5, _⟩ => ⟨S1x1024x1027, .f32⟩
  | .hbm, ⟨6, _⟩ => ⟨S1x1024x1027, .f32⟩
  | .hbm, ⟨7, _⟩ => ⟨S1x1024x1027, .f32⟩
  | .hbm, ⟨8, _⟩ => ⟨S1x1024x1027, .f32⟩
  | .hbm, ⟨9, _⟩ => ⟨S1x1024x1027, .f32⟩
  | .hbm, ⟨10, _⟩ => ⟨S1x1024x1027, .f32⟩
  | .hbm, ⟨11, _⟩ => ⟨S1x1024x1027, .f32⟩
  | .local _ .vmem, ⟨0, _⟩ => ⟨S1x128x1027, .f32⟩
  | .local _ .vmem, ⟨1, _⟩ => ⟨S1x128x1027, .f32⟩
  | .local _ .vmem, ⟨2, _⟩ => ⟨S1x128x1027, .f32⟩
  | .local _ .vmem, ⟨3, _⟩ => ⟨S1x128x1027, .f32⟩
  | .local _ .vmem, ⟨4, _⟩ => ⟨S1x128x1027, .f32⟩
  | .local _ .vmem, ⟨5, _⟩ => ⟨S1x128x1027, .f32⟩
  | .local _ .vmem, ⟨6, _⟩ => ⟨S1x128x1027, .f32⟩
  | .local _ .vmem, ⟨7, _⟩ => ⟨S1x128x1027, .f32⟩
  | .local _ .vmem, ⟨8, _⟩ => ⟨S1x128x1027, .f32⟩
  | .local _ .vmem, ⟨9, _⟩ => ⟨S1x128x1027, .f32⟩
  | .local _ .vmem, ⟨10, _⟩ => ⟨S1x128x1027, .f32⟩
  | .local _ .vmem, ⟨11, _⟩ => ⟨S1x128x1027, .f32⟩
  | .local _ .vmem, ⟨12, _⟩ => ⟨S1x128x1027, .f32⟩
  | .local _ .vmem, ⟨13, _⟩ => ⟨S1x128x1027, .f32⟩
  | .local _ .vmem, ⟨14, _⟩ => ⟨S1x128x1027, .f32⟩
  | .local _ .vmem, ⟨15, _⟩ => ⟨S1x128x1027, .f32⟩
  | _, _ => ⟨S1x1024x1027, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1027 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1027 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1027 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1027 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1027 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1027 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1027 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1027 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamInEvenIdeal.lean ====
abbrev S1x1024x1027 : Shape := ⟨3, ![1, 1024, 1027]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x1027, .f32⟩
  | .hbm, ⟨1, _⟩ => ⟨S1x1024x1027, .f32⟩
  | .hbm, ⟨2, _⟩ => ⟨S1x1024x1027, .f32⟩
  | .hbm, ⟨3, _⟩ => ⟨S1x1024x1027, .f32⟩
  | .hbm, ⟨4, _⟩ => ⟨S1x1024x1027, .f32⟩
  | .hbm, ⟨5, _⟩ => ⟨S1x1024x1027, .f32⟩
  | .hbm, ⟨6, _⟩ => ⟨S1x1024x1027, .f32⟩
  | .hbm, ⟨7, _⟩ => ⟨S1x1024x1027, .f32⟩
  | .hbm, ⟨8, _⟩ => ⟨S_, .f32⟩
  | .hbm, ⟨9, _⟩ => ⟨S1x1024x1027, .f32⟩
  | .hbm, ⟨10, _⟩ => ⟨S1x1024x1027, .f32⟩
  | .hbm, ⟨11, _⟩ => ⟨S_, .f32⟩
  | .hbm, ⟨12, _⟩ => ⟨S1x1024x1027, .f32⟩
  | .hbm, ⟨13, _⟩ => ⟨S1x1024x1027, .f32⟩
  | .hbm, ⟨14, _⟩ => ⟨S1x1024x1027, .f32⟩
  | .hbm, ⟨15, _⟩ => ⟨S_, .f32⟩
  | .hbm, ⟨16, _⟩ => ⟨S1x1024x1027, .f32⟩
  | .hbm, ⟨17, _⟩ => ⟨S1x1024x1027, .f32⟩
  | .hbm, ⟨18, _⟩ => ⟨S1x1024x1027, .f32⟩
  | .hbm, ⟨19, _⟩ => ⟨S_, .f32⟩
  | .hbm, ⟨20, _⟩ => ⟨S1x1024x1027, .f32⟩
  | .hbm, ⟨21, _⟩ => ⟨S1x1024x1027, .f32⟩
  | .hbm, ⟨22, _⟩ => ⟨S1x1024x1027, .f32⟩
  | .hbm, ⟨23, _⟩ => ⟨S_, .f32⟩
  | .hbm, ⟨24, _⟩ => ⟨S1x1024x1027, .f32⟩
  | .hbm, ⟨25, _⟩ => ⟨S1x1024x1027, .f32⟩
  | .hbm, ⟨26, _⟩ => ⟨S_, .f32⟩
  | .hbm, ⟨27, _⟩ => ⟨S1x1024x1027, .f32⟩
  | .hbm, ⟨28, _⟩ => ⟨S1x1024x1027, .f32⟩
  | .hbm, ⟨29, _⟩ => ⟨S1x1024x1027, .f32⟩
  | .hbm, ⟨30, _⟩ => ⟨S_, .f32⟩
  | .hbm, ⟨31, _⟩ => ⟨S1x1024x1027, .f32⟩
  | .hbm, ⟨32, _⟩ => ⟨S1x1024x1027, .f32⟩
  | .hbm, ⟨33, _⟩ => ⟨S1x1024x1027, .f32⟩
  | .hbm, ⟨34, _⟩ => ⟨S_, .f32⟩
  | .hbm, ⟨35, _⟩ => ⟨S1x1024x1027, .f32⟩
  | .hbm, ⟨36, _⟩ => ⟨S1x1024x1027, .f32⟩
  | .hbm, ⟨37, _⟩ => ⟨S1x1024x1027, .f32⟩
  | .hbm, ⟨38, _⟩ => ⟨S_, .f32⟩
  | .hbm, ⟨39, _⟩ => ⟨S1x1024x1027, .f32⟩
  | .hbm, ⟨40, _⟩ => ⟨S1x1024x1027, .f32⟩
  | _, _ => ⟨S1x1024x1027, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== KernelAdamInOdd.lean ====
abbrev S1x1024x768 : Shape := ⟨3, ![1, 1024, 768]⟩
abbrev S1x256x768 : Shape := ⟨3, ![1, 256, 768]⟩
abbrev S256x768 : Shape := ⟨2, ![256, 768]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamInOddIdeal.lean ====
abbrev S1x1024x768 : Shape := ⟨3, ![1, 1024, 768]⟩
abbrev S1x256x768 : Shape := ⟨3, ![1, 256, 768]⟩
abbrev S256x768 : Shape := ⟨2, ![256, 768]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamInOddIdeal.lean ====
abbrev S1x1024x768 : Shape := ⟨3, ![1, 1024, 768]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .hbm, ⟨8, _⟩ => ⟨S_, .f32⟩
  | .hbm, ⟨9, _⟩ => ⟨S1x1024x768, .f32⟩
  | .hbm, ⟨10, _⟩ => ⟨S1x1024x768, .f32⟩
  | .hbm, ⟨11, _⟩ => ⟨S_, .f32⟩
  | .hbm, ⟨12, _⟩ => ⟨S1x1024x768, .f32⟩
  | .hbm, ⟨13, _⟩ => ⟨S1x1024x768, .f32⟩
  | .hbm, ⟨14, _⟩ => ⟨S1x1024x768, .f32⟩
  | .hbm, ⟨15, _⟩ => ⟨S_, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S1x1024x768, .f32⟩
  | .hbm, ⟨23, _⟩ => ⟨S_, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | .hbm, ⟨37, _⟩ => ⟨S1x1024x768, .f32⟩
  | .hbm, ⟨38, _⟩ => ⟨S_, .f32⟩
  | .hbm, ⟨39, _⟩ => ⟨S1x1024x768, .f32⟩
  | .hbm, ⟨40, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== KernelAdamOut.lean ====
abbrev S1x256x1024 : Shape := ⟨3, ![1, 256, 1024]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamOutIdeal.lean ====
abbrev S1x256x1024 : Shape := ⟨3, ![1, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== KernelAdamSmall.lean ====
abbrev S136x128 : Shape := ⟨2, ![136, 128]⟩

abbrev nBuf : Space → Nat
  | .hbm => 7
  | .vmem => 7
  | .smem => 0
  | _ => 0

abbrev bufTy : (tb : Table) → Fin (tcTables nBuf tb) → BufTy
  | .hbm, ⟨0, _⟩ => ⟨S136x128, .f32⟩
  | .hbm, ⟨1, _⟩ => ⟨S136x128, .f32⟩
  | .hbm, ⟨2, _⟩ => ⟨S136x128, .f32⟩
  | .hbm, ⟨3, _⟩ => ⟨S136x128, .f32⟩
  | .hbm, ⟨4, _⟩ => ⟨S136x128, .f32⟩
  | .hbm, ⟨5, _⟩ => ⟨S136x128, .f32⟩
  | .hbm, ⟨6, _⟩ => ⟨S136x128, .f32⟩
  | .local _ .vmem, ⟨0, _⟩ => ⟨S136x128, .f32⟩
  | .local _ .vmem, ⟨1, _⟩ => ⟨S136x128, .f32⟩
  | .local _ .vmem, ⟨2, _⟩ => ⟨S136x128, .f32⟩
  | .local _ .vmem, ⟨3, _⟩ => ⟨S136x128, .f32⟩
  | .local _ .vmem, ⟨4, _⟩ => ⟨S136x128, .f32⟩
  | .local _ .vmem, ⟨5, _⟩ => ⟨S136x128, .f32⟩
  | .local _ .vmem, ⟨6, _⟩ => ⟨S136x128, .f32⟩
  | _, _ => ⟨S136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S136x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S136x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S136x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S136x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S136x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamSmallIdeal.lean ====
abbrev S136x128 : Shape := ⟨2, ![136, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S136x128, .f32⟩
  | .hbm, ⟨1, _⟩ => ⟨S136x128, .f32⟩
  | .hbm, ⟨2, _⟩ => ⟨S136x128, .f32⟩
  | .hbm, ⟨3, _⟩ => ⟨S136x128, .f32⟩
  | .hbm, ⟨4, _⟩ => ⟨S_, .f32⟩
  | .hbm, ⟨5, _⟩ => ⟨S136x128, .f32⟩
  | .hbm, ⟨6, _⟩ => ⟨S136x128, .f32⟩
  | .hbm, ⟨7, _⟩ => ⟨S_, .f32⟩
  | .hbm, ⟨8, _⟩ => ⟨S136x128, .f32⟩
  | .hbm, ⟨9, _⟩ => ⟨S136x128, .f32⟩
  | .hbm, ⟨10, _⟩ => ⟨S136x128, .f32⟩
  | .hbm, ⟨11, _⟩ => ⟨S_, .f32⟩
  | .hbm, ⟨12, _⟩ => ⟨S136x128, .f32⟩
  | .hbm, ⟨13, _⟩ => ⟨S136x128, .f32⟩
  | .hbm, ⟨14, _⟩ => ⟨S136x128, .f32⟩
  | .hbm, ⟨15, _⟩ => ⟨S_, .f32⟩
  | .hbm, ⟨16, _⟩ => ⟨S136x128, .f32⟩
  | .hbm, ⟨17, _⟩ => ⟨S136x128, .f32⟩
  | .hbm, ⟨18, _⟩ => ⟨S136x128, .f32⟩
  | .hbm, ⟨19, _⟩ => ⟨S_, .f32⟩
  | .hbm, ⟨20, _⟩ => ⟨S136x128, .f32⟩
  | .hbm, ⟨21, _⟩ => ⟨S136x128, .f32⟩
  | .hbm, ⟨22, _⟩ => ⟨S_, .f32⟩
  | .hbm, ⟨23, _⟩ => ⟨S136x128, .f32⟩
  | .hbm, ⟨24, _⟩ => ⟨S136x128, .f32⟩
  | .hbm, ⟨25, _⟩ => ⟨S136x128, .f32⟩
  | .hbm, ⟨26, _⟩ => ⟨S_, .f32⟩
  | .hbm, ⟨27, _⟩ => ⟨S136x128, .f32⟩
  | .hbm, ⟨28, _⟩ => ⟨S136x128, .f32⟩
  | .hbm, ⟨29, _⟩ => ⟨S136x128, .f32⟩
  | .hbm, ⟨30, _⟩ => ⟨S_, .f32⟩
  | .hbm, ⟨31, _⟩ => ⟨S136x128, .f32⟩
  | .hbm, ⟨32, _⟩ => ⟨S136x128, .f32⟩
  | .hbm, ⟨33, _⟩ => ⟨S136x128, .f32⟩
  | .hbm, ⟨34, _⟩ => ⟨S_, .f32⟩
  | .hbm, ⟨35, _⟩ => ⟨S136x128, .f32⟩
  | .hbm, ⟨36, _⟩ => ⟨S136x128, .f32⟩
  | _, _ => ⟨S136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelSbFwd.lean ====
abbrev S4096x3072 : Shape := ⟨2, ![4096, 3072]⟩
abbrev S4096x1024 : Shape := ⟨2, ![4096, 1024]⟩
abbrev S512x256 : Shape := ⟨2, ![512, 256]⟩
abbrev S4096x256 : Shape := ⟨2, ![4096, 256]⟩
abbrev S512x128 : Shape := ⟨2, ![512, 128]⟩
abbrev S256x256 : Shape := ⟨2, ![256, 256]⟩
abbrev S512x1 : Shape := ⟨2, ![512, 1]⟩
abbrev S256x128 : Shape := ⟨2, ![256, 128]⟩
abbrev S512 : Shape := ⟨1, ![512]⟩

abbrev nBuf : Space → Nat
  | .hbm => 4
  | .vmem => 10
  | .smem => 0
  | _ => 0

abbrev bufTy : (tb : Table) → Fin (tcTables nBuf tb) → BufTy
  | .hbm, ⟨0, _⟩ => ⟨S4096x3072, .f32⟩
  | .hbm, ⟨1, _⟩ => ⟨S4096x3072, .bf16⟩
  | .hbm, ⟨2, _⟩ => ⟨S4096x1024, .bf16⟩
  | .hbm, ⟨3, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x256, .bf16⟩
  | .local _ .vmem, ⟨7, _⟩ => ⟨S512x256, .bf16⟩
  | .local _ .vmem, ⟨8, _⟩ => ⟨S512x256, .f32⟩
  | .local _ .vmem, ⟨9, _⟩ => ⟨S512x256, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v16 : BitVec 32 := Scalar.muli arg1 c512_i32
  let c256_i32 : BitVec 32 := 256#32
  let v17 : BitVec 32 := Scalar.addi v16 c256_i32
  v17
def k0_off1 (i : grid0.Coords) (c256_i32 : BitVec 32) : Fin 2 → Nat :=
  let arg1 : BitVec 32 := BitVec.ofNat 32 (i 1).val
  let c512_i32 : BitVec 32 := 512#32
  let v16 : BitVec 32 := Scalar.muli arg1 c512_i32
  let v17 : BitVec 32 := Scalar.addi v16 c256_i32
  let v18 : BitVec 32 := v17
  let v19 : Index := Scalar.indexCast v18
  let c0_5 : Index := 0#32
  ![v19.toNat, 0]
def k0_off2 (i : grid0.Coords) (c256_i32 : BitVec 32) : Fin 2 → Nat :=
  let arg1 : BitVec 32 := BitVec.ofNat 32 (i 1).val
  let c512_i32 : BitVec 32 := 512#32
  let v16 : BitVec 32 := Scalar.muli arg1 c512_i32
  let v17 : BitVec 32 := Scalar.addi v16 c256_i32
  let v18 : BitVec 32 := v17
  let v22 : Index := Scalar.indexCast v18
  let c128_6 : Index := 128#32
  ![v22.toNat, 128]
def k0_mult2 (i : grid0.Coords) : BitVec 32 :=
  let arg1 : BitVec 32 := BitVec.ofNat 32 (i 1).val
  let c512_i32_22 : BitVec 32 := 512#32
  let v64 : BitVec 32 := Scalar.muli arg1 c512_i32_22
  let c0_i32 : BitVec 32 := 0#32
  let v65 : BitVec 32 := Scalar.addi v64 c0_i32
  v65
@[reducible] def k0_t1_loop (i : grid0.Coords) : Scf.Loop 32 :=
  let c0_i32_60 : BitVec 32 := 0#32
  let arg1 : BitVec 32 := BitVec.ofNat 32 (i 1).val
  let v192 : BitVec 32 := Scalar.subi arg1 c0_i32_60
  let c1_i32 : BitVec 32 := 1#32
  let v194 : BitVec 32 := Scalar.divsi v192 c1_i32
  let v195 : BitVec 32 := Scalar.muli v194 c1_i32
  let v196 : BitVec 32 := Scalar.addi c0_i32_60 v195
  let c1_i32_61 : BitVec 32 := 1#32
  ⟨c0_i32_60, v196, c1_i32_61⟩
def k0_mult3 (i : grid0.Coords) (k0_t1 : Fin (k0_t1_loop i).trips) : BitVec 32 :=
  let arg1 : BitVec 32 := BitVec.ofNat 32 (i 1).val
  let c1_i32_71 : BitVec 32 := 1#32
  let v205 : BitVec 32 := Scalar.subi arg1 c1_i32_71
  let c0_i32_60 : BitVec 32 := 0#32
  let c1_i32_61 : BitVec 32 := 1#32
  let arg7 : BitVec 32 := Scf.iv c0_i32_60 c1_i32_61 k0_t1
  let v206 : BitVec 32 := Scalar.subi v205 arg7
  let c512_i32_72 : BitVec 32 := 512#32
  let v207 : BitVec 32 := Scalar.muli v206 c512_i32_72
  let c256_i32_73 : BitVec 32 := 256#32
  let v208 : BitVec 32 := Scalar.addi v207 c256_i32_73
  v208
def k0_off3 (i : grid0.Coords) (k0_t1 : Fin (k0_t1_loop i).trips) (c256_i32_73 : BitVec 32) : Fin 2 → Nat :=
  let arg1 : BitVec 32 := BitVec.ofNat 32 (i 1).val
  let c1_i32_71 : BitVec 32 := 1#32
  let v205 : BitVec 32 := Scalar.subi arg1 c1_i32_71
  let c0_i32_60 : BitVec 32 := 0#32
  let c1_i32_61 : BitVec 32 := 1#32
  let arg7 : BitVec 32 := Scf.iv c0_i32_60 c1_i32_61 k0_t1
  let v206 : BitVec 32 := Scalar.subi v205 arg7
  let c512_i32_72 : BitVec 32 := 512#32
  let v207 : BitVec 32 := Scalar.muli v206 c512_i32_72
  let v208 : BitVec 32 := Scalar.addi v207 c256_i32_73
  let v209 : BitVec 32 := v208
  let v210 : Index := Scalar.indexCast v209
  let c0_74 : Index := 0#32
  ![v210.toNat, 0]
def k0_off4 (i : grid0.Coords) (k0_t1 : Fin (k0_t1_loop i).trips) (c256_i32_73 : BitVec 32) : Fin 2 → Nat :=
  let arg1 : BitVec 32 := BitVec.ofNat 32 (i 1).val
  let c1_i32_71 : BitVec 32 := 1#32
  let v205 : BitVec 32 := Scalar.subi arg1 c1_i32_71
  let c0_i32_60 : BitVec 32 := 0#32
  let c1_i32_61 : BitVec 32 := 1#32
  let arg7 : BitVec 32 := Scf.iv c0_i32_60 c1_i32_61 k0_t1
  let v206 : BitVec 32 := Scalar.subi v205 arg7
  let c512_i32_72 : BitVec 32 := 512#32
  let v207 : BitVec 32 := Scalar.muli v206 c512_i32_72
  let v208 : BitVec 32 := Scalar.addi v207 c256_i32_73
  let v209 : BitVec 32 := v208
  let v213 : Index := Scalar.indexCast v209
  let c128_75 : Index := 128#32
  ![v213.toNat, 128]
def k0_mult4 (i : grid0.Coords) (k0_t1 : Fin (k0_t1_loop i).trips) : BitVec 32 :=
  let arg1 : BitVec 32 := BitVec.ofNat 32 (i 1).val
  let c1_i32_71 : BitVec 32 := 1#32
  let v205 : BitVec 32 := Scalar.subi arg1 c1_i32_71
  let c0_i32_60 : BitVec 32 := 0#32
  let c1_i32_61 : BitVec 32 := 1#32
  let arg7 : BitVec 32 := Scf.iv c0_i32_60 c1_i32_61 k0_t1
  let v206 : BitVec 32 := Scalar.subi v205 arg7
  let c512_i32_88 : BitVec 32 := 512#32
  let v248 : BitVec 32 := Scalar.muli v206 c512_i32_88
  let c0_i32_89 : BitVec 32 := 0#32
  let v249 : BitVec 32 := Scalar.addi v248 c0_i32_89
  v249
@[reducible] def k0_t2_loop (i : grid0.Coords) : Scf.Loop 32 :=
  let c0_i32_60 : BitVec 32 := 0#32
  let arg1 : BitVec 32 := BitVec.ofNat 32 (i 1).val
  let v192 : BitVec 32 := Scalar.subi arg1 c0_i32_60
  let c1_i32 : BitVec 32 := 1#32
  let v194 : BitVec 32 := Scalar.divsi v192 c1_i32
  let v195 : BitVec 32 := Scalar.muli v194 c1_i32
  let v196 : BitVec 32 := Scalar.addi c0_i32_60 v195
  let v193 : BitVec 32 := Scalar.addi c0_i32_60 v192
  let c1_i32_62 : BitVec 32 := 1#32
  ⟨v196, v193, c1_i32_62⟩
def k0_mult5 (i : grid0.Coords) (k0_t2 : Fin (k0_t2_loop i).trips) : BitVec 32 :=
  let arg1 : BitVec 32 := BitVec.ofNat 32 (i 1).val
  let c1_i32_71 : BitVec 32 := 1#32
  let v205 : BitVec 32 := Scalar.subi arg1 c1_i32_71
  let c0_i32_60 : BitVec 32 := 0#32
  let v192 : BitVec 32 := Scalar.subi arg1 c0_i32_60
  let c1_i32 : BitVec 32 := 1#32
  let v194 : BitVec 32 := Scalar.divsi v192 c1_i32
  let v195 : BitVec 32 := Scalar.muli v194 c1_i32
  let v196 : BitVec 32 := Scalar.addi c0_i32_60 v195
  let c1_i32_62 : BitVec 32 := 1#32
  let arg7 : BitVec 32 := Scf.iv v196 c1_i32_62 k0_t2
  let v206 : BitVec 32 := Scalar.subi v205 arg7
  let c512_i32_72 : BitVec 32 := 512#32
  let v207 : BitVec 32 := Scalar.muli v206 c512_i32_72
  let c256_i32_73 : BitVec 32 := 256#32
  let v208 : BitVec 32 := Scalar.addi v207 c256_i32_73
  v208
def k0_off5 (i : grid0.Coords) (k0_t2 : Fin (k0_t2_loop i).trips) (c256_i32_73 : BitVec 32) : Fin 2 → Nat :=
  let arg1 : BitVec 32 := BitVec.ofNat 32 (i 1).val
  let c1_i32_71 : BitVec 32 := 1#32
  let v205 : BitVec 32 := Scalar.subi arg1 c1_i32_71
  let c0_i32_60 : BitVec 32 := 0#32
  let v192 : BitVec 32 := Scalar.subi arg1 c0_i32_60
  let c1_i32 : BitVec 32 := 1#32
  let v194 : BitVec 32 := Scalar.divsi v192 c1_i32
  let v195 : BitVec 32 := Scalar.muli v194 c1_i32
  let v196 : BitVec 32 := Scalar.addi c0_i32_60 v195
  let c1_i32_62 : BitVec 32 := 1#32
  let arg7 : BitVec 32 := Scf.iv v196 c1_i32_62 k0_t2
  let v206 : BitVec 32 := Scalar.subi v205 arg7
  let c512_i32_72 : BitVec 32 := 512#32
  let v207 : BitVec 32 := Scalar.muli v206 c512_i32_72
  let v208 : BitVec 32 := Scalar.addi v207 c256_i32_73
  let v209 : BitVec 32 := v208
  let v210 : Index := Scalar.indexCast v209
  let c0_74 : Index := 0#32
  ![v210.toNat, 0]
def k0_off6 (i : grid0.Coords) (k0_t2 : Fin (k0_t2_loop i).trips) (c256_i32_73 : BitVec 32) : Fin 2 → Nat :=
  let arg1 : BitVec 32 := BitVec.ofNat 32 (i 1).val
  let c1_i32_71 : BitVec 32 := 1#32
  let v205 : BitVec 32 := Scalar.subi arg1 c1_i32_71
  let c0_i32_60 : BitVec 32 := 0#32
  let v192 : BitVec 32 := Scalar.subi arg1 c0_i32_60
  let c1_i32 : BitVec 32 := 1#32
  let v194 : BitVec 32 := Scalar.divsi v192 c1_i32
  let v195 : BitVec 32 := Scalar.muli v194 c1_i32
  let v196 : BitVec 32 := Scalar.addi c0_i32_60 v195
  let c1_i32_62 : BitVec 32 := 1#32
  let arg7 : BitVec 32 := Scf.iv v196 c1_i32_62 k0_t2
  let v206 : BitVec 32 := Scalar.subi v205 arg7
  let c512_i32_72 : BitVec 32 := 512#32
  let v207 : BitVec 32 := Scalar.muli v206 c512_i32_72
  let v208 : BitVec 32 := Scalar.addi v207 c256_i32_73
  let v209 : BitVec 32 := v208
  let v213 : Index := Scalar.indexCast v209
  let c128_75 : Index := 128#32
  ![v213.toNat, 128]
def k0_mult6 (i : grid0.Coords) (k0_t2 : Fin (k0_t2_loop i).trips) : BitVec 32 :=
  let arg1 : BitVec 32 := BitVec.ofNat 32 (i 1).val
  let c1_i32_71 : BitVec 32 := 1#32
  let v205 : BitVec 32 := Scalar.subi arg1 c1_i32_71
  let c0_i32_60 : BitVec 32 := 0#32
  let v192 : BitVec 32 := Scalar.subi arg1 c0_i32_60
  let c1_i32 : BitVec 32 := 1#32
  let v194 : BitVec 32 := Scalar.divsi v192 c1_i32
  let v195 : BitVec 32 := Scalar.muli v194 c1_i32
  let v196 : BitVec 32 := Scalar.addi c0_i32_60 v195
  let c1_i32_62 : BitVec 32 := 1#32
  let arg7 : BitVec 32 := Scf.iv v196 c1_i32_62 k0_t2
  let v206 : BitVec 32 := Scalar.subi v205 arg7
  let c512_i32_88 : BitVec 32 := 512#32
  let v248 : BitVec 32 := Scalar.muli v206 c512_i32_88
  let c0_i32_89 : BitVec 32 := 0#32
  let v249 : BitVec 32 := Scalar.addi v248 c0_i32_89
  v249
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceSbFwdIdeal.lean ====
abbrev S4096x3072 : Shape := ⟨2, ![4096, 3072]⟩
abbrev S4096x1024 : Shape := ⟨2, ![4096, 1024]⟩
abbrev S4096x8x128 : Shape := ⟨3, ![4096, 8, 128]⟩
abbrev S8x4096x128 : Shape := ⟨3, ![8, 4096, 128]⟩
abbrev S4096 : Shape := ⟨1, ![4096]⟩
abbrev S8x4096x4096 : Shape := ⟨3, ![8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x8x128, .f32⟩
  | .hbm, ⟨5, _⟩ => ⟨S8x4096x128, .f32⟩
  | .hbm, ⟨6, _⟩ => ⟨S4096x8x128, .f32⟩
  | .hbm, ⟨7, _⟩ => ⟨S8x4096x128, .f32⟩
  | .hbm, ⟨8, _⟩ => ⟨S4096x8x128, .f32⟩
  | .hbm, ⟨9, _⟩ => ⟨S8x4096x128, .f32⟩
  | .hbm, ⟨10, _⟩ => ⟨S4096, .i32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S_, .f32⟩
  | .hbm, ⟨39, _⟩ => ⟨S8x4096x4096, .i1⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S_, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S_, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S8x4096x4096, .i1⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S_, .f32⟩
  | .hbm, ⟨65, _⟩ => ⟨S_, .f32⟩
  | .hbm, ⟨66, _⟩ => ⟨S8x4096x4096, .i1⟩
  | .hbm, ⟨67, _⟩ => ⟨S8x4096x4096, .f32⟩
  | .hbm, ⟨68, _⟩ => ⟨S8x4096x4096, .f32⟩
  | .hbm, ⟨69, _⟩ => ⟨S8x4096x128, .f32⟩
  | .hbm, ⟨70, _⟩ => ⟨S4096x8x128, .f32⟩
  | .hbm, ⟨71, _⟩ => ⟨S4096x1024, .f32⟩
  | .hbm, ⟨72, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_call2_cst : Ref sig .tc := ⟨.hbm, 42, rfl⟩
abbrev main_call2_v0 : Ref sig .tc := ⟨.hbm, 43, rfl⟩
abbrev main_v21 : Ref sig .tc := ⟨.hbm, 44, rfl⟩
abbrev main_v22 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩

abbrev nD : Nat := 1
abbrev τ : Topo := Topo.v7x

variable {F : FTy → Type} [FloatOps F]
-- ==== Proof.Step.lean ====
/-
  What one sub-block of 256 keys contributes to the stick-breaking gradient of one head's 512 queries, as the kernel
  computes it and at any values of the floats: the scores, the softplus, the weights, the weights' cotangent, the
  scores' cotangent, the three gradients' increments and the two running row sums. A mask (the diagonal block's
  `key < query`) is optional.
-/
module

public import proofs.«01_k».proof.Proof.Gen.KernelIdeal.Frame

@[expose] public section

noncomputable section

namespace Cert.Proof.SB

open Cert.KernelIdeal Cert.KernelIdeal.Facts₀
open Idealize.ShloMosaic Idealize.ShloMosaic.TcCoe

variable {F : FTy → Type} [FloatOps F]

/-- A constant over the score tile. -/
abbrev cst (w : BitVec 32) : FVec F S512x256 .f32 := broadcast S512x256 (Scalar.ofBits .f32 w)

/-- A column over the score tile. -/
abbrev cols (x : FVec F S512x1 .f32) : FVec F S512x256 .f32 := broadcastTo S512x256 x broadcasts_S512x1_S512x256

/-- A tile's sum over each row's columns. -/
abbrev rowSum (x : FVec F S512x256 .f32) : FVec F S512x1 .f32 :=
  shapeCast S512x1 (multiReduction .add [1] S512 x 0x00000000#32 reduces_S512x256_S512 (.inl rfl) rfl) shapeCasts_S512_S512x1

/-- A tile zeroed off the mask, where there is one. -/
def msk : Option (IVec S512x256 1) → FVec F S512x256 .f32 → FVec F S512x256 .f32
  | none, x => x
  | some M, x => select M x (cst 0x00000000#32)

/-- Queries against keys (or output cotangents against values): the products of all their rows. -/
def rows (q : FVec F S512x128 .bf16) (k : Vec F S256x128 .bf16) : FVec F S512x256 .f32 :=
  matmul dot_S512x128_S256x128_S512x256_1_1_0_0_n_n none q (shapeCast S256x128 k shapeCasts_S256x128_S256x128)
    (constant S512x256 .f32 0x00000000#32)

/-- The scores: the scaled products. -/
def sz (q : FVec F S512x128 .bf16) (k : Vec F S256x128 .bf16) : FVec F S512x256 .f32 := mulf (rows q k) (cst 0x3DB504F3#32)

/-- Softplus, by the larger of the argument and zero. -/
def sp (z : FVec F S512x256 .f32) : FVec F S512x256 .f32 :=
  addf (maximumf z (cst 0x00000000#32)) (log (addf (cst 0x3F800000#32) (exp (subf (cst 0x00000000#32) (absf z)))))

/-- The sigmoid, by the softplus. -/
def sg (z : FVec F S512x256 .f32) : FVec F S512x256 .f32 := exp (subf z (sp z))

/-- The product of a tile with one of the two triangles. -/
def tri (x : FVec F S512x256 .bf16) (T : FVec F S256x256 .bf16) : FVec F S512x256 .f32 :=
  matmul dot_S512x256_S256x256_S512x256_1_0_0_1_n_n none x T (constant S512x256 .f32 0x00000000#32)

/-- The softplus of the later keys of the sub-block. -/
def within (L : FVec F S256x256 .bf16) (M : Option (IVec S512x256 1)) (z : FVec F S512x256 .f32) : FVec F S512x256 .f32 :=
  tri (truncf .bf16 (msk M (sp z)) bitsLt_bf16_f32) L

/-- The weights, from the running sum `cs` of the softplus of the keys after the sub-block. -/
def wt (L : FVec F S256x256 .bf16) (M : Option (IVec S512x256 1)) (z : FVec F S512x256 .f32) (cs : FVec F S512x1 .f32) :
    FVec F S512x256 .f32 :=
  msk M (mulf (sg z) (exp (subf (cst 0x00000000#32) (addf (cols cs) (within L M z)))))

/-- A product with the second triangle, the left operand in two bfloat16 parts. -/
def split (e : FVec F S512x256 .f32) (N : FVec F S256x256 .bf16) : FVec F S512x256 .f32 :=
  addf (tri (truncf .bf16 e bitsLt_bf16_f32) N)
    (tri (truncf .bf16 (subf e (extf .f32 (truncf .bf16 e bitsLt_bf16_f32) bitsLt_bf16_f32)) bitsLt_bf16_f32) N)

/-- The scores' cotangent, from the weights' cotangent times the weights `e`, the row's total and the running sum `ce`
    of `e` over the keys after the sub-block. -/
def dz (N : FVec F S256x256 .bf16) (M : Option (IVec S512x256 1)) (z e : FVec F S512x256 .f32) (tot ce : FVec F S512x1 .f32) :
    FVec F S512x256 .f32 :=
  msk M (mulf (subf e (mulf (addf e (subf (cols (subf tot ce)) (split e N))) (sg z))) (cst 0x3DB504F3#32))

/-- A sub-block's rows of an accumulated gradient with the queries' contribution added. -/
def accT (w : FVec F S512x256 .f32) (x : FVec F S512x128 .bf16) (old : Vec F S256x128 .f32) : FVec F S256x128 .f32 :=
  addf (shapeCast S256x128 old shapeCasts_S256x128_S256x128)
    (matmul dot_S512x256_S512x128_S256x128_0_0_1_1_n_n none (truncf .bf16 w bitsLt_bf16_f32) x (constant S256x128 .f32 0x00000000#32))

/-- The queries' gradient with a sub-block's contribution added. -/
def accQ (w : FVec F S512x256 .f32) (k : Vec F S256x128 .bf16) (old : FVec F S512x128 .f32) : FVec F S512x128 .f32 :=
  addf old (matmul dot_S512x256_S256x128_S512x128_1_0_0_1_n_n none (truncf .bf16 w bitsLt_bf16_f32)
    (shapeCast S256x128 k shapeCasts_S256x128_S256x128) (constant S512x128 .f32 0x00000000#32))

/-- What one head's sub-blocks share: the queries' rows, the output cotangent's rows, the row's total and the two triangles. -/
structure Hd (F : FTy → Type) [FloatOps F] where
  q : FVec F S512x128 .bf16
  d : FVec F S512x128 .bf16
  tot : FVec F S512x1 .f32
  L : FVec F S256x256 .bf16
  N : FVec F S256x256 .bf16

/-- What one head carries from a sub-block to the next: the sum of the softplus, the sum of `e` and the queries' gradient. -/
structure Cy (F : FTy → Type) [FloatOps F] where
  cs : FVec F S512x1 .f32
  ce : FVec F S512x1 .f32
  dq : FVec F S512x128 .f32

variable (H : Hd F) (M : Option (IVec S512x256 1)) (k v : Vec F S256x128 .bf16) (C : Cy F)

/-- The sub-block's weights, -/
def Hd.a : FVec F S512x256 .f32 := wt H.L M (sz H.q k) C.cs
/-- the weights times their cotangent, -/
def Hd.e : FVec F S512x256 .f32 := mulf (H.a M k C) (rows H.d v)
/-- the scores' cotangent, -/
def Hd.dz : FVec F S512x256 .f32 := SB.dz H.N M (sz H.q k) (H.e M k v C) H.tot C.ce
/-- the keys' gradient with the sub-block added, -/
def Hd.dk (old : Vec F S256x128 .f32) : FVec F S256x128 .f32 := accT (H.dz M k v C) H.q old
/-- the values' gradient with the sub-block added, -/
def Hd.dv (old : Vec F S256x128 .f32) : FVec F S256x128 .f32 := accT (H.a M k C) H.d old
/-- and what is carried to the next sub-block. -/
def Hd.next : Cy F :=
  ⟨addf C.cs (rowSum (msk M (sp (sz H.q k)))), addf C.ce (rowSum (H.e M k v C)), accQ (H.dz M k v C) k C.dq⟩

end Cert.Proof.SB

end
-- ==== Proof.Loop.lean ====
/-
  The loop over the earlier key blocks: its trips, and what it carries from one to the next.
-/
module

public import proofs.«01_k».proof.Proof.Step
public import proofs.«01_k».proof.Proof.Gen.KernelIdeal.Loops

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none
local notation "𝕄" => MT nD τ sig Unit (Elt F) ℕ (UR sig nD τ) ℕ

/-- The loop over the earlier key blocks makes one trip per block, -/
theorem trips1 : ∀ i : grid0.Coords, (k0_t1_loop i).trips = (i 1).val := by decide +kernel
/-- and the loop that would take a remainder makes none. -/
theorem trips2 : ∀ i : grid0.Coords, (k0_t2_loop i).trips = 0 := by decide +kernel

/-- The rows of a trip's two sub-blocks, first head, -/
theorem off3_eq : ∀ (i : grid0.Coords) (k : Fin (k0_t1_loop i).trips) (r : Fin 2),
    k0_off3 i k (BitVec.ofNat 32 (256 * r.val)) = ![512 * ((i 1).val - 1 - k.val) + 256 * r.val, 0] := by decide +kernel
/-- and second. -/
theorem off4_eq : ∀ (i : grid0.Coords) (k : Fin (k0_t1_loop i).trips) (r : Fin 2),
    k0_off4 i k (BitVec.ofNat 32 (256 * r.val)) = ![512 * ((i 1).val - 1 - k.val) + 256 * r.val, 128] := by decide +kernel

instance (i : grid0.Coords) (k : Fin (k0_t1_loop i).trips) : ClosedOff (k0_off3 i k 0#32) :=
  ⟨![512 * ((i 1).val - 1 - k.val) + 256 * 0, 0], off3_eq i k 0⟩
instance (i : grid0.Coords) (k : Fin (k0_t1_loop i).trips) : ClosedOff (k0_off3 i k 256#32) :=
  ⟨![512 * ((i 1).val - 1 - k.val) + 256 * 1, 0], off3_eq i k 1⟩
instance (i : grid0.Coords) (k : Fin (k0_t1_loop i).trips) : ClosedOff (k0_off4 i k 0#32) :=
  ⟨![512 * ((i 1).val - 1 - k.val) + 256 * 0, 128], off4_eq i k 0⟩
instance (i : grid0.Coords) (k : Fin (k0_t1_loop i).trips) : ClosedOff (k0_off4 i k 256#32) :=
  ⟨![512 * ((i 1).val - 1 - k.val) + 256 * 1, 128], off4_eq i k 1⟩

section Trip

variable (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x256 .f32) (harg5 : arg5.IsWhole) (arg6 : Memref sig .tc .vmem S512x256 .bf16) (harg6 : arg6.IsWhole) (arg7 : Memref sig .tc .vmem S512x256 .bf16) (harg7 : arg7.IsWhole) (arg8 : Memref sig .tc .vmem S4096x256 .f32) (harg8 : arg8.IsWhole) (arg9 : Memref sig .tc .vmem S4096x256 .f32) (harg9 : arg9.IsWhole)
  (arg1 : BitVec 32) (v4 : FVec F S512x128 .bf16) (v6 : FVec F S512x128 .bf16) (v8 : FVec F S512x128 .bf16) (v10 : FVec F S512x128 .bf16) (v20 : FVec F S512x1 .f32) (v22 : FVec F S512x1 .f32) (v30 : FVec F S256x256 .bf16) (v34 : FVec F S256x256 .bf16)

abbrev pts {sp : Space} {s : Shape} {e : EltTy} (a : Memref sig .tc sp s e) (c : Dev nD) (g : Buf (Elt F) (a.view.loc (c : Thread nD τ))) : sProp 𝕄 :=
  a.view.loc (c : Thread nD τ) ↦[a.view.set]{fullShare} g

/-- What the loop carries: the two heads' running sums and queries' gradients. -/
abbrev Acc (F : FTy → Type) : Type :=
  FVec F S512x1 .f32 × FVec F S512x1 .f32 × FVec F S512x1 .f32 × FVec F S512x1 .f32 × FVec F S512x128 .f32 × FVec F S512x128 .f32

/-- The first head's part of what is carried, -/
def c0 (x : Acc F) : SB.Cy F := ⟨x.1, x.2.2.1, x.2.2.2.2.1⟩
/-- the second's, -/
def c1 (x : Acc F) : SB.Cy F := ⟨x.2.1, x.2.2.2.1, x.2.2.2.2.2⟩
/-- and the two put together. -/
def cc (a b : SB.Cy F) : Acc F := (a.cs, b.cs, a.ce, b.ce, a.dq, b.dq)

/-- A 256 x 128 block of an array of 4096 rows of 256, at given offsets. -/
abbrev rc (o : Fin 2 → Nat) (h : ∀ a, o a + S256x128.size a ≤ S4096x256.size a) : Rect S4096x256 := Rect.unit (s := S4096x256) o S256x128.size h

/-- What such a block of a staging buffer holds. -/
abbrev ld {e : EltTy} (a : Memref sig .tc .vmem S4096x256 e) (c : Dev nD) (g : Buf (Elt F) (a.view.loc (c : Thread nD τ)))
    (o : Fin 2 → Nat) (h : ∀ a, o a + S256x128.size a ≤ S4096x256.size a) : Vec F S256x128 e :=
  a.view.readAt (Elt F) (rc o h).toLoadRect g

/-- The two heads at a point's operands. -/
abbrev H0 : SB.Hd F := ⟨v4, v8, v20, v30, v34⟩
abbrev H1 : SB.Hd F := ⟨v6, v10, v22, v30, v34⟩

/-- The two heads' two sub-blocks of a key block, the later first: what is carried and the two accumulators after it.
    The four blocks are at the offsets `oA`, `oB` (the later sub-block, first and second head) and `oC`, `oD` (the earlier). -/
def sub2 (H0 H1 : SB.Hd F) (M M' : Option (IVec S512x256 1))
    (oA oB oC oD : Fin 2 → Nat) (hA : ∀ a, oA a + S256x128.size a ≤ S4096x256.size a) (hB : ∀ a, oB a + S256x128.size a ≤ S4096x256.size a)
    (hC : ∀ a, oC a + S256x128.size a ≤ S4096x256.size a) (hD : ∀ a, oD a + S256x128.size a ≤ S4096x256.size a)
    (g3 : Buf (Elt F) (arg3.view.loc (c : Thread nD τ))) (g4 : Buf (Elt F) (arg4.view.loc (c : Thread nD τ)))
    (S : Acc F × Buf (Elt F) (arg8.view.loc (c : Thread nD τ)) × Buf (Elt F) (arg9.view.loc (c : Thread nD τ))) :
    Acc F × Buf (Elt F) (arg8.view.loc (c : Thread nD τ)) × Buf (Elt F) (arg9.view.loc (c : Thread nD τ)) :=
  let kA := ld arg3 c g3 oA hA
  let kB := ld arg3 c g3 oB hB
  let kC := ld arg3 c g3 oC hC
  let kD := ld arg3 c g3 oD hD
  let vA := ld arg4 c g4 oA hA
  let vB := ld arg4 c g4 oB hB
  let vC := ld arg4 c g4 oC hC
  let vD := ld arg4 c g4 oD hD
  let C0 := c0 S.1
  let C1 := c1 S.1
  let C0' := H0.next M kA vA C0
  let C1' := H1.next M kB vB C1
  (cc (H0.next M' kC vC C0') (H1.next M' kD vD C1'),
   arg8.view.writes (Elt F) S.2.1 [⟨rc oD hD, H1.dk M' kD vD C1' (ld arg8 c S.2.1 oD hD)⟩, ⟨rc oC hC, H0.dk M' kC vC C0' (ld arg8 c S.2.1 oC hC)⟩,
     ⟨rc oB hB, H1.dk M kB vB C1 (ld arg8 c S.2.1 oB hB)⟩, ⟨rc oA hA, H0.dk M kA vA C0 (ld arg8 c S.2.1 oA hA)⟩],
   arg9.view.writes (Elt F) S.2.2 [⟨rc oD hD, H1.dv M' kD C1' (ld arg9 c S.2.2 oD hD)⟩, ⟨rc oC hC, H0.dv M' kC C0' (ld arg9 c S.2.2 oC hC)⟩,
     ⟨rc oB hB, H1.dv M kB C1 (ld arg9 c S.2.2 oB hB)⟩, ⟨rc oA hA, H0.dv M kA C0 (ld arg9 c S.2.2 oA hA)⟩])

/-- One trip: the key block `(i 1) - 1 - k`, unmasked. -/
def trip (H0 H1 : SB.Hd F) (g3 : Buf (Elt F) (arg3.view.loc (c : Thread nD τ))) (g4 : Buf (Elt F) (arg4.view.loc (c : Thread nD τ))) (k : Fin (k0_t1_loop i).trips)
    (S : Acc F × Buf (Elt F) (arg8.view.loc (c : Thread nD τ)) × Buf (Elt F) (arg9.view.loc (c : Thread nD τ))) :
    Acc F × Buf (Elt F) (arg8.view.loc (c : Thread nD τ)) × Buf (Elt F) (arg9.view.loc (c : Thread nD τ)) :=
  sub2 c arg3 arg4 arg8 arg9 H0 H1 none none (k0_off3 i k 256#32) (k0_off4 i k 256#32) (k0_off3 i k 0#32) (k0_off4 i k 0#32)
    (Facts₀.k0_off3_inb i k 1) (Facts₀.k0_off4_inb i k 1) (Facts₀.k0_off3_inb i k 0) (Facts₀.k0_off4_inb i k 0) g3 g4 S

set_option maxHeartbeats 4000000 in
theorem trip_run (k : Fin (k0_t1_loop i).trips) (acc : Acc F)
  (g3 : Buf (Elt F) (arg3.view.loc (c : Thread nD τ))) (g4 : Buf (Elt F) (arg4.view.loc (c : Thread nD τ))) (g8 : Buf (Elt F) (arg8.view.loc (c : Thread nD τ))) (g9 : Buf (Elt F) (arg9.view.loc (c : Thread nD τ))) :
  iprop(pts arg3 c g3 ∗ pts arg4 c g4 ∗ pts arg8 c g8 ∗ pts arg9 c g9) ⊢ wp Idealize.ShloMosaic.frame (wpE (defs₀ (F := F)) 𝒱₀ (c : Thread nD τ) none) Set.univ (k0_t1_body (F := F) i arg2 harg2 arg3 harg3 arg4 harg4 arg5 harg5 arg6 harg6 arg7 harg7 arg8 harg8 arg9 harg9 arg1 v4 v6 v8 v10 v20 v22 v30 v34 k acc)
        (fun r => iprop(⌜r = (trip c i arg3 arg4 arg8 arg9 (H0 v4 v8 v20 v30 v34) (H1 v6 v10 v22 v30 v34) g3 g4 k (acc, g8, g9)).1⌝ ∗ pts arg3 c g3 ∗ pts arg4 c g4
          ∗ pts arg8 c (trip c i arg3 arg4 arg8 arg9 (H0 v4 v8 v20 v30 v34) (H1 v6 v10 v22 v30 v34) g3 g4 k (acc, g8, g9)).2.1
          ∗ pts arg9 c (trip c i arg3 arg4 arg8 arg9 (H0 v4 v8 v20 v30 v34) (H1 v6 v10 v22 v30 v34) g3 g4 k (acc, g8, g9)).2.2)) := by
  iintro ⟨H3, H4, H8, H9⟩
  sl_unfold [k0_t1_body]
  sl_exec
  sl_step
  isplitr; · ipureintro; rfl
  isplitl [H3]; · iexact H3
  isplitl [H4]; · iexact H4
  isplitl [H8]; · iexact H8
  iexact H9

/-- What is carried and the two accumulators before trip `k`. -/
def stAt (H0 H1 : SB.Hd F) (g3 : Buf (Elt F) (arg3.view.loc (c : Thread nD τ))) (g4 : Buf (Elt F) (arg4.view.loc (c : Thread nD τ)))
    (S : Acc F × Buf (Elt F) (arg8.view.loc (c : Thread nD τ)) × Buf (Elt F) (arg9.view.loc (c : Thread nD τ))) :
    ℕ → Acc F × Buf (Elt F) (arg8.view.loc (c : Thread nD τ)) × Buf (Elt F) (arg9.view.loc (c : Thread nD τ))
  | 0 => S
  | k + 1 => if h : k < (k0_t1_loop i).trips then trip c i arg3 arg4 arg8 arg9 H0 H1 g3 g4 ⟨k, h⟩ (stAt H0 H1 g3 g4 S k) else stAt H0 H1 g3 g4 S k

/-- The loop's invariant: what is carried and the accumulators are `stAt`'s. -/
abbrev inv1 (H0 H1 : SB.Hd F) (g3 : Buf (Elt F) (arg3.view.loc (c : Thread nD τ))) (g4 : Buf (Elt F) (arg4.view.loc (c : Thread nD τ)))
    (S : Acc F × Buf (Elt F) (arg8.view.loc (c : Thread nD τ)) × Buf (Elt F) (arg9.view.loc (c : Thread nD τ))) (k : ℕ) (acc : Acc F) : sProp 𝕄 :=
  iprop(⌜acc = (stAt c i arg3 arg4 arg8 arg9 H0 H1 g3 g4 S k).1⌝ ∗ pts arg3 c g3 ∗ pts arg4 c g4
    ∗ pts arg8 c (stAt c i arg3 arg4 arg8 arg9 H0 H1 g3 g4 S k).2.1 ∗ pts arg9 c (stAt c i arg3 arg4 arg8 arg9 H0 H1 g3 g4 S k).2.2)

/-- One trip keeps it. -/
theorem inv1_step (g3 : Buf (Elt F) (arg3.view.loc (c : Thread nD τ))) (g4 : Buf (Elt F) (arg4.view.loc (c : Thread nD τ)))
    (S : Acc F × Buf (Elt F) (arg8.view.loc (c : Thread nD τ)) × Buf (Elt F) (arg9.view.loc (c : Thread nD τ))) (k : Fin (k0_t1_loop i).trips) (acc : Acc F) :
    inv1 c i arg3 arg4 arg8 arg9 (H0 v4 v8 v20 v30 v34) (H1 v6 v10 v22 v30 v34) g3 g4 S k.val acc ⊢
      wp Idealize.ShloMosaic.frame (wpE (defs₀ (F := F)) 𝒱₀ (c : Thread nD τ) none) Set.univ (k0_t1_body (F := F) i arg2 harg2 arg3 harg3 arg4 harg4 arg5 harg5 arg6 harg6 arg7 harg7 arg8 harg8 arg9 harg9 arg1 v4 v6 v8 v10 v20 v22 v30 v34 k acc)
        (inv1 c i arg3 arg4 arg8 arg9 (H0 v4 v8 v20 v30 v34) (H1 v6 v10 v22 v30 v34) g3 g4 S (k.val + 1)) := by
  have e : stAt c i arg3 arg4 arg8 arg9 (H0 v4 v8 v20 v30 v34) (H1 v6 v10 v22 v30 v34) g3 g4 S (k.val + 1)
      = trip c i arg3 arg4 arg8 arg9 (H0 v4 v8 v20 v30 v34) (H1 v6 v10 v22 v30 v34) g3 g4 k (stAt c i arg3 arg4 arg8 arg9 (H0 v4 v8 v20 v30 v34) (H1 v6 v10 v22 v30 v34) g3 g4 S k.val) := by
    rw [stAt, dif_pos k.isLt]
  unfold inv1
  rw [e]
  iintro ⟨%ha, H⟩
  subst ha
  iapply trip_run c i arg2 harg2 arg3 harg3 arg4 harg4 arg5 harg5 arg6 harg6 arg7 harg7 arg8 harg8 arg9 harg9 arg1 v4 v6 v8 v10 v20 v22 v30 v34 k
  iexact H

end Trip

end Cert.Proof.KI

end
-- ==== Proof.Body.lean ====
/-
  The body at a point, run once: what it loads, the diagonal step, the loop, and what it stores.
-/
module

public import proofs.«01_k».proof.Proof.Loop

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body

variable (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x256 .f32) (harg5 : arg5.IsWhole) (arg6 : Memref sig .tc .vmem S512x256 .bf16) (harg6 : arg6.IsWhole) (arg7 : Memref sig .tc .vmem S512x256 .bf16) (harg7 : arg7.IsWhole) (arg8 : Memref sig .tc .vmem S4096x256 .f32) (harg8 : arg8.IsWhole) (arg9 : Memref sig .tc .vmem S4096x256 .f32) (harg9 : arg9.IsWhole)

/-- The first point of a group of heads: its gradients start from zero. -/
abbrev cond (i : grid0.Coords) : Prop :=
  Scalar.cmpi .ne (Scalar.extui (Scalar.cmpi .eq (BitVec.ofNat 32 (i 1).val) 0#32) : BitVec 32) 0#32 = 1#1

/-- What the head at columns `o` of the queries' three operands hold at a point. -/
abbrev q2 {e : EltTy} (a : Memref sig .tc .vmem S512x256 e) (c : Dev nD) (g : Buf (Elt F) (a.view.loc (c : Thread nD τ))) :
    Vec F S512x128 e × Vec F S512x128 e :=
  (a.view.readAt (Elt F) (Rect.unit (s := S512x256) ![0, 0] S512x128.size Facts₀.inb_S512x256_S512x128_0_0).toLoadRect g,
   a.view.readAt (Elt F) (Rect.unit (s := S512x256) ![0, 128] S512x128.size Facts₀.inb_S512x256_S512x128_0_128).toLoadRect g)

/-- The first head of a point, -/
def hd0 (g2 : Buf (Elt F) (arg2.view.loc (c : Thread nD τ))) (g5 : Buf (Elt F) (arg5.view.loc (c : Thread nD τ))) (g6 : Buf (Elt F) (arg6.view.loc (c : Thread nD τ))) : SB.Hd F :=
  ⟨k0_pay153 (q2 arg2 c g2).1, k0_pay155 (q2 arg6 c g6).1, k0_pay157 (q2 arg6 c g6).1 (q2 arg5 c g5).1, k0_pay159, k0_pay160⟩
/-- and the second. -/
def hd1 (g2 : Buf (Elt F) (arg2.view.loc (c : Thread nD τ))) (g5 : Buf (Elt F) (arg5.view.loc (c : Thread nD τ))) (g6 : Buf (Elt F) (arg6.view.loc (c : Thread nD τ))) : SB.Hd F :=
  ⟨k0_pay154 (q2 arg2 c g2).2, k0_pay156 (q2 arg6 c g6).2, k0_pay158 (q2 arg6 c g6).2 (q2 arg5 c g5).2, k0_pay159, k0_pay160⟩

/-- The row and the column of an entry of the score tile. -/
def rowNo : IVec S512x256 32 := iota .tc S512x256 32 [0] Facts₀.iota_S512x256_d0_w32
def colNo : IVec S512x256 32 := iota .tc S512x256 32 [1] Facts₀.iota_S512x256_d1_w32

/-- What is carried at a point's start: zeros. -/
def acc0 : Acc F := (k0_pay161, k0_pay162, k0_pay163, k0_pay164, k0_pay165, k0_pay166)

/-- What is carried, and the two accumulators, after the diagonal block. -/
def diag (H0 H1 : SB.Hd F) (g3 : Buf (Elt F) (arg3.view.loc (c : Thread nD τ))) (g4 : Buf (Elt F) (arg4.view.loc (c : Thread nD τ)))
    (g8 : Buf (Elt F) (arg8.view.loc (c : Thread nD τ))) (g9 : Buf (Elt F) (arg9.view.loc (c : Thread nD τ))) :
    Acc F × Buf (Elt F) (arg8.view.loc (c : Thread nD τ)) × Buf (Elt F) (arg9.view.loc (c : Thread nD τ)) :=
  sub2 c arg3 arg4 arg8 arg9 H0 H1 (some (k0_pay173 rowNo colNo)) (some (k0_pay191 rowNo colNo)) (k0_off1 i 256#32) (k0_off2 i 256#32) (k0_off1 i 0#32) (k0_off2 i 0#32)
    (Facts₀.k0_off1_inb i 1) (Facts₀.k0_off2_inb i 1) (Facts₀.k0_off1_inb i 0) (Facts₀.k0_off2_inb i 0) g3 g4 (acc0, g8, g9)

/-- What is carried, and the two accumulators, after a point's key blocks. -/
def fin (H0 H1 : SB.Hd F) (g3 : Buf (Elt F) (arg3.view.loc (c : Thread nD τ))) (g4 : Buf (Elt F) (arg4.view.loc (c : Thread nD τ)))
    (g8 : Buf (Elt F) (arg8.view.loc (c : Thread nD τ))) (g9 : Buf (Elt F) (arg9.view.loc (c : Thread nD τ))) :
    Acc F × Buf (Elt F) (arg8.view.loc (c : Thread nD τ)) × Buf (Elt F) (arg9.view.loc (c : Thread nD τ)) :=
  stAt c i arg3 arg4 arg8 arg9 H0 H1 g3 g4 (diag c i arg3 arg4 arg8 arg9 H0 H1 g3 g4 g8 g9) (k0_t1_loop i).trips

/-- The queries' gradient as a point stores it. -/
def out7 (g7 : Buf (Elt F) (arg7.view.loc (c : Thread nD τ))) (x : Acc F) : Buf (Elt F) (arg7.view.loc (c : Thread nD τ)) :=
  arg7.view.writes (Elt F) g7
    [⟨Rect.unit (s := S512x256) ![0, 128] S512x128.size Facts₀.inb_S512x256_S512x128_0_128, k0_pay22 x.2.2.2.2.2⟩,
     ⟨Rect.unit (s := S512x256) ![0, 0] S512x128.size Facts₀.inb_S512x256_S512x128_0_0, k0_pay21 x.2.2.2.2.1⟩]

/-- An accumulator zeroed whole. -/
def zer (p : FVec F S4096x256 .f32) (a : Memref sig .tc .vmem S4096x256 .f32) (c : Dev nD) (g : Buf (Elt F) (a.view.loc (c : Thread nD τ))) : Buf (Elt F) (a.view.loc (c : Thread nD τ)) :=
  a.view.writes (Elt F) g [⟨Rect.unit (s := S4096x256) ![0, 0] S4096x256.size Facts₀.inb_S4096x256_S4096x256_0_0, p⟩]

theorem zer_def (p : FVec F S4096x256 .f32) (a : Memref sig .tc .vmem S4096x256 .f32) (c : Dev nD) (g : Buf (Elt F) (a.view.loc (c : Thread nD τ))) :
    zer p a c g = a.view.writes (Elt F) g [⟨Rect.unit (s := S4096x256) ![0, 0] S4096x256.size Facts₀.inb_S4096x256_S4096x256_0_0, p⟩] := rfl

set_option maxHeartbeats 8000000 in
/-- A point past a group's first: the accumulators are added to. -/
theorem run_later (hc : ¬ cond i)
  (g2 : Buf (Elt F) (arg2.view.loc (c : Thread nD τ))) (g3 : Buf (Elt F) (arg3.view.loc (c : Thread nD τ))) (g4 : Buf (Elt F) (arg4.view.loc (c : Thread nD τ)))
  (g5 : Buf (Elt F) (arg5.view.loc (c : Thread nD τ))) (g6 : Buf (Elt F) (arg6.view.loc (c : Thread nD τ))) (g7 : Buf (Elt F) (arg7.view.loc (c : Thread nD τ)))
   (g8 : Buf (Elt F) (arg8.view.loc (c : Thread nD τ))) (g9 : Buf (Elt F) (arg9.view.loc (c : Thread nD τ))) :
  iprop(pts arg2 c g2 ∗ pts arg3 c g3 ∗ pts arg4 c g4 ∗ pts arg5 c g5 ∗ pts arg6 c g6 ∗ pts arg7 c g7 ∗ pts arg8 c g8 ∗ pts arg9 c g9) ⊢ wp Idealize.ShloMosaic.frame (wpE (defs₀ (F := F)) 𝒱₀ (c : Thread nD τ) none) Set.univ (cc0_odd_sb_bwd (F := F) i arg2 harg2 arg3 harg3 arg4 harg4 arg5 harg5 arg6 harg6 arg7 harg7 arg8 harg8 arg9 harg9)
        (fun _ => iprop(pts arg2 c g2 ∗ pts arg3 c g3 ∗ pts arg4 c g4 ∗ pts arg5 c g5 ∗ pts arg6 c g6
          ∗ pts arg7 c (out7 c arg7 g7 (fin c i arg3 arg4 arg8 arg9 (hd0 c arg2 arg5 arg6 g2 g5 g6) (hd1 c arg2 arg5 arg6 g2 g5 g6) g3 g4 g8 g9).1)
          ∗ pts arg8 c (fin c i arg3 arg4 arg8 arg9 (hd0 c arg2 arg5 arg6 g2 g5 g6) (hd1 c arg2 arg5 arg6 g2 g5 g6) g3 g4 g8 g9).2.1
          ∗ pts arg9 c (fin c i arg3 arg4 arg8 arg9 (hd0 c arg2 arg5 arg6 g2 g5 g6) (hd1 c arg2 arg5 arg6 g2 g5 g6) g3 g4 g8 g9).2.2)) := by
  iintro ⟨H2, H3, H4, H5, H6, H7, H8, H9⟩
  ihave HX : iprop(pts arg3 c g3 ∗ pts arg4 c g4) $$ [H3 H4]
  · isplitl [H3]
    · iexact H3
    · iexact H4
  sl_unfold [cc0_odd_sb_bwd]
  sl_exec (disch := sl_exact hc)
  have e0 : hd0 c arg2 arg5 arg6 g2 g5 g6 = H0 (run_later.sl.r c arg2 g2) (run_later.sl.r_2 c arg6 g6) (run_later.sl.r_4 c arg5 arg6 g5 g6) k0_pay159 k0_pay160 := rfl
  have e1 : hd1 c arg2 arg5 arg6 g2 g5 g6 = H1 (run_later.sl.r_1 c arg2 g2) (run_later.sl.r_3 c arg6 g6) (run_later.sl.r_5 c arg5 arg6 g5 g6) k0_pay159 k0_pay160 := rfl
  rw [e0, e1]
  clear e0 e1
  generalize run_later.sl.r c arg2 g2 = x0
  generalize run_later.sl.r_1 c arg2 g2 = x1
  generalize run_later.sl.r_2 c arg6 g6 = x2
  generalize run_later.sl.r_3 c arg6 g6 = x3
  generalize run_later.sl.r_4 c arg5 arg6 g5 g6 = x4
  generalize run_later.sl.r_5 c arg5 arg6 g5 g6 = x5
  icases HX with ⟨H3, H4⟩
  sl_exec
  sl_for (inv1 c i arg3 arg4 arg8 arg9 (H0 x0 x2 x4 k0_pay159 k0_pay160) (H1 x1 x3 x5 k0_pay159 k0_pay160) g3 g4
    (diag c i arg3 arg4 arg8 arg9 (H0 x0 x2 x4 k0_pay159 k0_pay160) (H1 x1 x3 x5 k0_pay159 k0_pay160) g3 g4 g8 g9)) $$ [H3 H4 H8 H9]
  case region =>
    exact fun k acc => inv1_step c i arg2 harg2 arg3 harg3 arg4 harg4 arg5 harg5 arg6 harg6 arg7 harg7 arg8 harg8 arg9 harg9 _ _ _ _ _ _ _ _ _ g3 g4 _ k acc
  · unfold inv1
    isplitr; · ipureintro; rfl
    isplitl [H3]; · iexact H3
    isplitl [H4]; · iexact H4
    isplitl [H8]; · iexact H8
    iexact H9
  iintro %acc ⟨%ha, H3, H4, H8, H9⟩
  have ht := trips2 i
  sl_exec
  sl_step
  subst ha
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 8000000 in
/-- A group's first point: the accumulators are zeroed first. -/
theorem run_first (hc : cond i)
  (g2 : Buf (Elt F) (arg2.view.loc (c : Thread nD τ))) (g3 : Buf (Elt F) (arg3.view.loc (c : Thread nD τ))) (g4 : Buf (Elt F) (arg4.view.loc (c : Thread nD τ)))
  (g5 : Buf (Elt F) (arg5.view.loc (c : Thread nD τ))) (g6 : Buf (Elt F) (arg6.view.loc (c : Thread nD τ))) (g7 : Buf (Elt F) (arg7.view.loc (c : Thread nD τ)))
   (g8 : Buf (Elt F) (arg8.view.loc (c : Thread nD τ))) (g9 : Buf (Elt F) (arg9.view.loc (c : Thread nD τ))) :
  iprop(pts arg2 c g2 ∗ pts arg3 c g3 ∗ pts arg4 c g4 ∗ pts arg5 c g5 ∗ pts arg6 c g6 ∗ pts arg7 c g7 ∗ pts arg8 c g8 ∗ pts arg9 c g9) ⊢ wp Idealize.ShloMosaic.frame (wpE (defs₀ (F := F)) 𝒱₀ (c : Thread nD τ) none) Set.univ (cc0_odd_sb_bwd (F := F) i arg2 harg2 arg3 harg3 arg4 harg4 arg5 harg5 arg6 harg6 arg7 harg7 arg8 harg8 arg9 harg9)
        (fun _ => iprop(pts arg2 c g2 ∗ pts arg3 c g3 ∗ pts arg4 c g4 ∗ pts arg5 c g5 ∗ pts arg6 c g6
          ∗ pts arg7 c (out7 c arg7 g7 (fin c i arg3 arg4 arg8 arg9 (hd0 c arg2 arg5 arg6 g2 g5 g6) (hd1 c arg2 arg5 arg6 g2 g5 g6) g3 g4 (zer k0_pay151 arg8 c g8) (zer k0_pay152 arg9 c g9)).1)
          ∗ pts arg8 c (fin c i arg3 arg4 arg8 arg9 (hd0 c arg2 arg5 arg6 g2 g5 g6) (hd1 c arg2 arg5 arg6 g2 g5 g6) g3 g4 (zer k0_pay151 arg8 c g8) (zer k0_pay152 arg9 c g9)).2.1
          ∗ pts arg9 c (fin c i arg3 arg4 arg8 arg9 (hd0 c arg2 arg5 arg6 g2 g5 g6) (hd1 c arg2 arg5 arg6 g2 g5 g6) g3 g4 (zer k0_pay151 arg8 c g8) (zer k0_pay152 arg9 c g9)).2.2)) := by
  iintro ⟨H2, H3, H4, H5, H6, H7, H8, H9⟩
  ihave HX : iprop(pts arg3 c g3 ∗ pts arg4 c g4) $$ [H3 H4]
  · isplitl [H3]
    · iexact H3
    · iexact H4
  sl_unfold [cc0_odd_sb_bwd]
  sl_exec (disch := sl_exact hc)
  have e0 : hd0 c arg2 arg5 arg6 g2 g5 g6 = H0 (run_first.sl.r c arg2 g2) (run_first.sl.r_2 c arg6 g6) (run_first.sl.r_4 c arg5 arg6 g5 g6) k0_pay159 k0_pay160 := rfl
  have e1 : hd1 c arg2 arg5 arg6 g2 g5 g6 = H1 (run_first.sl.r_1 c arg2 g2) (run_first.sl.r_3 c arg6 g6) (run_first.sl.r_5 c arg5 arg6 g5 g6) k0_pay159 k0_pay160 := rfl
  rw [e0, e1]
  clear e0 e1
  rw [← zer_def, ← zer_def]
  generalize zer k0_pay151 arg8 c g8 = z8
  generalize zer k0_pay152 arg9 c g9 = z9
  generalize run_first.sl.r c arg2 g2 = x0
  generalize run_first.sl.r_1 c arg2 g2 = x1
  generalize run_first.sl.r_2 c arg6 g6 = x2
  generalize run_first.sl.r_3 c arg6 g6 = x3
  generalize run_first.sl.r_4 c arg5 arg6 g5 g6 = x4
  generalize run_first.sl.r_5 c arg5 arg6 g5 g6 = x5
  icases HX with ⟨H3, H4⟩
  sl_exec
  sl_for (inv1 c i arg3 arg4 arg8 arg9 (H0 x0 x2 x4 k0_pay159 k0_pay160) (H1 x1 x3 x5 k0_pay159 k0_pay160) g3 g4
    (diag c i arg3 arg4 arg8 arg9 (H0 x0 x2 x4 k0_pay159 k0_pay160) (H1 x1 x3 x5 k0_pay159 k0_pay160) g3 g4 z8 z9)) $$ [H3 H4 H8 H9]
  case region =>
    exact fun k acc => inv1_step c i arg2 harg2 arg3 harg3 arg4 harg4 arg5 harg5 arg6 harg6 arg7 harg7 arg8 harg8 arg9 harg9 _ _ _ _ _ _ _ _ _ g3 g4 _ k acc
  · unfold inv1
    isplitr; · ipureintro; rfl
    isplitl [H3]; · iexact H3
    isplitl [H4]; · iexact H4
    isplitl [H8]; · iexact H8
    iexact H9
  iintro %acc ⟨%ha, H3, H4, H8, H9⟩
  have ht := trips2 i
  sl_exec
  sl_step
  subst ha
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- What a point finds in an accumulator, once it is zeroed where it is to be. -/
def entry (p : FVec F S4096x256 .f32) (a : Memref sig .tc .vmem S4096x256 .f32) (g : Buf (Elt F) (a.view.loc (c : Thread nD τ))) : Buf (Elt F) (a.view.loc (c : Thread nD τ)) :=
  if cond i then zer p a c g else g

/-- A point of the grid: the queries' gradient is stored, the accumulators take the point's contributions. -/
theorem run_body
  (g2 : Buf (Elt F) (arg2.view.loc (c : Thread nD τ))) (g3 : Buf (Elt F) (arg3.view.loc (c : Thread nD τ))) (g4 : Buf (Elt F) (arg4.view.loc (c : Thread nD τ)))
  (g5 : Buf (Elt F) (arg5.view.loc (c : Thread nD τ))) (g6 : Buf (Elt F) (arg6.view.loc (c : Thread nD τ))) (g7 : Buf (Elt F) (arg7.view.loc (c : Thread nD τ)))
   (g8 : Buf (Elt F) (arg8.view.loc (c : Thread nD τ))) (g9 : Buf (Elt F) (arg9.view.loc (c : Thread nD τ))) :
  iprop(pts arg2 c g2 ∗ pts arg3 c g3 ∗ pts arg4 c g4 ∗ pts arg5 c g5 ∗ pts arg6 c g6 ∗ pts arg7 c g7 ∗ pts arg8 c g8 ∗ pts arg9 c g9) ⊢ wp Idealize.ShloMosaic.frame (wpE (defs₀ (F := F)) 𝒱₀ (c : Thread nD τ) none) Set.univ (cc0_odd_sb_bwd (F := F) i arg2 harg2 arg3 harg3 arg4 harg4 arg5 harg5 arg6 harg6 arg7 harg7 arg8 harg8 arg9 harg9)
        (fun _ => iprop(pts arg2 c g2 ∗ pts arg3 c g3 ∗ pts arg4 c g4 ∗ pts arg5 c g5 ∗ pts arg6 c g6
          ∗ pts arg7 c (out7 c arg7 g7 (fin c i arg3 arg4 arg8 arg9 (hd0 c arg2 arg5 arg6 g2 g5 g6) (hd1 c arg2 arg5 arg6 g2 g5 g6) g3 g4 (entry c i k0_pay151 arg8 g8) (entry c i k0_pay152 arg9 g9)).1)
          ∗ pts arg8 c (fin c i arg3 arg4 arg8 arg9 (hd0 c arg2 arg5 arg6 g2 g5 g6) (hd1 c arg2 arg5 arg6 g2 g5 g6) g3 g4 (entry c i k0_pay151 arg8 g8) (entry c i k0_pay152 arg9 g9)).2.1
          ∗ pts arg9 c (fin c i arg3 arg4 arg8 arg9 (hd0 c arg2 arg5 arg6 g2 g5 g6) (hd1 c arg2 arg5 arg6 g2 g5 g6) g3 g4 (entry c i k0_pay151 arg8 g8) (entry c i k0_pay152 arg9 g9)).2.2)) := by
  unfold entry
  by_cases hc : cond i
  · rw [if_pos hc, if_pos hc]
    exact run_first c i arg2 harg2 arg3 harg3 arg4 harg4 arg5 harg5 arg6 harg6 arg7 harg7 arg8 harg8 arg9 harg9 hc g2 g3 g4 g5 g6 g7 g8 g9
  · rw [if_neg hc, if_neg hc]
    exact run_later c i arg2 harg2 arg3 harg3 arg4 harg4 arg5 harg5 arg6 harg6 arg7 harg7 arg8 harg8 arg9 harg9 hc g2 g3 g4 g5 g6 g7 g8 g9

end Body

end Cert.Proof.KI

end
-- ==== Proof.Blocks.lean ====
/-
  What a point of the grid leaves, block by block: the two accumulators are sixteen blocks of 256 rows for each of the two
  heads, and a point of query block `b` adds to the blocks `2 b + 1`, …, `0`, in that order. `cyAt` is what a head carries
  before its `n`-th sub-block; `dkB`, `dvB` are what a point leaves in the blocks; `fin_blocks` reads the run's buffers so.
-/
module

public import proofs.«01_k».proof.Proof.Body
public import Idealize.ShloMosaic.Lib.ValueIdx

@[expose] public section

noncomputable section

namespace Cert.Proof.KI

open Cert.KernelIdeal Cert.KernelIdeal.Gen
open Idealize.ShloMosaic Idealize.ShloMosaic.TcCoe
open Idealize.SL.Sem

variable {F : FTy → Type} [FloatOps F]

theorem rcs_inb (s : Fin 16) (h : Fin 2) : ∀ a, (![256 * s.val, 128 * h.val] : Fin 2 → Nat) a + S256x128.size a ≤ S4096x256.size a := by
  have hs := s.isLt
  have hh := h.isLt
  intro a
  fin_cases a
  · show 256 * s.val + 256 ≤ 4096; omega
  · show 128 * h.val + 128 ≤ 256; omega

/-- Sub-block `s` of head `h`. -/
abbrev rcs (s : Fin 16) (h : Fin 2) : Rect S4096x256 := rc ![256 * s.val, 128 * h.val] (rcs_inb s h)

/-- What it holds. -/
abbrev kb {e : EltTy} (X : S4096x256.Idx → Elt F e) (s : Fin 16) (h : Fin 2) : Vec F S256x128 e := View.ld X (rcs s h)

/-- An array from its sub-blocks, -/
def asm {e : EltTy} (B : Fin 16 → Fin 2 → Vec F S256x128 e) : S4096x256.Idx → Elt F e := fun y =>
  B ⟨(y 0).val / 256, by have h : (y 0).val < 4096 := (y 0).isLt; omega⟩ ⟨(y 1).val / 128, by have h : (y 1).val < 256 := (y 1).isLt; omega⟩
    (ValueIdx.ix2 ⟨(y 0).val % 256, Nat.mod_lt _ (by decide)⟩ ⟨(y 1).val % 128, Nat.mod_lt _ (by decide)⟩)

omit [FloatOps F] in
theorem asm_at {e : EltTy} (B : Fin 16 → Fin 2 → Vec F S256x128 e) (s : Fin 16) (h : Fin 2) (x : S256x128.Idx) (y : S4096x256.Idx)
    (h0 : (y 0).val = 256 * s.val + (x 0).val) (h1 : (y 1).val = 128 * h.val + (x 1).val) : asm B y = B s h x := by
  have l0 : (x 0).val < 256 := (x 0).isLt
  have l1 : (x 1).val < 128 := (x 1).isLt
  have g : ∀ (s' : Fin 16) (h' : Fin 2) (x' : S256x128.Idx), s' = s → h' = h → x' = x → B s' h' x' = B s h x := by
    rintro _ _ _ rfl rfl rfl; rfl
  refine g _ _ _ (Fin.ext ?_) (Fin.ext ?_) ?_
  · show (y 0).val / 256 = s.val; omega
  · show (y 1).val / 128 = h.val; omega
  · rw [ValueIdx.eq_ix2 x]
    congr 1
    · exact Fin.ext (by show (y 0).val % 256 = (x 0).val; omega)
    · exact Fin.ext (by show (y 1).val % 128 = (x 1).val; omega)

omit [FloatOps F] in
/-- whose sub-blocks they are; -/
theorem kb_asm {e : EltTy} (B : Fin 16 → Fin 2 → Vec F S256x128 e) (s : Fin 16) (h : Fin 2) : kb (asm B) s h = B s h := by
  funext x
  exact asm_at B s h x _ (by show _ + 1 * (x 0).val = _; rw [Nat.one_mul]; rfl) (by show _ + 1 * (x 1).val = _; rw [Nat.one_mul]; rfl)

omit [FloatOps F] in
/-- every array is its sub-blocks'. -/
theorem asm_kb {e : EltTy} (X : S4096x256.Idx → Elt F e) : asm (kb X) = X := by
  funext y
  have l0 : (y 0).val < 4096 := (y 0).isLt
  have l1 : (y 1).val < 256 := (y 1).isLt
  refine congrArg X ?_
  funext a
  fin_cases a
  · exact Fin.ext (by show 256 * ((y 0).val / 256) + 1 * ((y 0).val % 256) = (y 0).val; omega)
  · exact Fin.ext (by show 128 * ((y 1).val / 128) + 1 * ((y 1).val % 128) = (y 1).val; omega)

omit [FloatOps F] in
theorem kb_ext {e : EltTy} {X Y : S4096x256.Idx → Elt F e} (h : ∀ s t, kb X s t = kb Y s t) : X = Y := by
  rw [← asm_kb X, ← asm_kb Y]
  congr 1
  funext s t
  exact h s t

theorem rcs_not_mem {s s' : Fin 16} {h h' : Fin 2} (hne : ¬ (s = s' ∧ h = h')) (x : S256x128.Idx) : (rcs s h).idx x ∉ (rcs s' h').set := by
  intro hm
  obtain ⟨x', hx⟩ := (rcs s' h').toLoadRect.exists_idx_of_mem hm
  have l0 : (x 0).val < 256 := (x 0).isLt
  have l1 : (x 1).val < 128 := (x 1).isLt
  have m0 : (x' 0).val < 256 := (x' 0).isLt
  have m1 : (x' 1).val < 128 := (x' 1).isLt
  have e0 : 256 * s'.val + 1 * (x' 0).val = 256 * s.val + 1 * (x 0).val := congrArg (fun y : S4096x256.Idx => (y 0).val) hx
  have e1 : 128 * h'.val + 1 * (x' 1).val = 128 * h.val + 1 * (x 1).val := congrArg (fun y : S4096x256.Idx => (y 1).val) hx
  exact hne ⟨Fin.ext (by omega), Fin.ext (by omega)⟩

section Writes

variable {e : EltTy} (a : Memref sig .tc .vmem S4096x256 e) (f : a.view.ty.Contents (Elt F))

omit [FloatOps F] in
theorem kb_hit (s : Fin 16) (h : Fin 2) (w : Vec F S256x128 e) (L : List (View.Piece (Elt F) S4096x256 e)) :
    kb (a.view.read (Elt F) (a.view.writes (Elt F) f (⟨rcs s h, w⟩ :: L))) s h = w := by
  funext x
  exact View.read_writes_cons_emb a.view f (rcs s h) w L x

omit [FloatOps F] in
theorem kb_miss {s s' : Fin 16} {h h' : Fin 2} (hne : ¬ (s = s' ∧ h = h')) (w : Vec F S256x128 e) (L : List (View.Piece (Elt F) S4096x256 e)) :
    kb (a.view.read (Elt F) (a.view.writes (Elt F) f (⟨rcs s' h', w⟩ :: L))) s h = kb (a.view.read (Elt F) (a.view.writes (Elt F) f L)) s h := by
  funext x
  exact View.read_writes_cons_miss a.view f ⟨rcs s' h', w⟩ L _ (rcs_not_mem hne x)

omit [FloatOps F] in
/-- Four stores, both heads' sub-block `sA` and then both heads' `sC`. -/
theorem kb_four (sA sC : Fin 16) (wA wC : Fin 2 → Vec F S256x128 e) (s : Fin 16) (h : Fin 2) :
    kb (a.view.read (Elt F) (a.view.writes (Elt F) f [⟨rcs sC 1, wC 1⟩, ⟨rcs sC 0, wC 0⟩, ⟨rcs sA 1, wA 1⟩, ⟨rcs sA 0, wA 0⟩])) s h
      = if s = sC then wC h else if s = sA then wA h else kb (a.view.read (Elt F) f) s h := by
  by_cases hC : s = sC
  · subst hC
    rw [if_pos rfl]
    obtain rfl | rfl : h = 0 ∨ h = 1 := by omega
    · rw [kb_miss a f (by simp), kb_hit]
    · rw [kb_hit]
  · rw [if_neg hC, kb_miss a f (fun h => hC h.1), kb_miss a f (fun h => hC h.1)]
    by_cases hA : s = sA
    · subst hA
      rw [if_pos rfl]
      obtain rfl | rfl : h = 0 ∨ h = 1 := by omega
      · rw [kb_miss a f (by simp), kb_hit]
      · rw [kb_hit]
    · rw [if_neg hA, kb_miss a f (fun h => hA h.1), kb_miss a f (fun h => hA h.1)]
      rfl

end Writes

/-- What is carried at a point's start. -/
def cy0 : SB.Cy F := ⟨k0_pay161, k0_pay163, k0_pay165⟩

/-- The mask of the `n`-th sub-block: the first two are the diagonal block's. -/
def mk : ℕ → Option (IVec S512x256 1)
  | 0 => some (k0_pay173 rowNo colNo)
  | 1 => some (k0_pay191 rowNo colNo)
  | _ + 2 => none

/-- The `n`-th sub-block of query block `b`. -/
def sbk (b n : ℕ) : Fin 16 := ⟨(2 * b + 1 - n) % 16, Nat.mod_lt _ (by decide)⟩

section Head

variable (b : ℕ) (H : SB.Hd F) (K V : Fin 16 → Vec F S256x128 .bf16)

/-- What a head carries before the `n`-th sub-block of query block `b`. -/
def cyAt : ℕ → SB.Cy F
  | 0 => cy0
  | n + 1 => H.next (mk n) (K (sbk b n)) (V (sbk b n)) (cyAt n)

/-- What query block `b` leaves in a sub-block of the keys' gradient, from what it held, -/
def dkB (old : Fin 16 → Vec F S256x128 .f32) (s : Fin 16) : Vec F S256x128 .f32 :=
  if s.val ≤ 2 * b + 1 then H.dk (mk (2 * b + 1 - s.val)) (K s) (V s) (cyAt b H K V (2 * b + 1 - s.val)) (old s) else old s
/-- and of the values'. -/
def dvB (old : Fin 16 → Vec F S256x128 .f32) (s : Fin 16) : Vec F S256x128 .f32 :=
  if s.val ≤ 2 * b + 1 then H.dv (mk (2 * b + 1 - s.val)) (K s) (cyAt b H K V (2 * b + 1 - s.val)) (old s) else old s

end Head

section Step

variable (b : ℕ) (hb : b < 8) (H : SB.Hd F) (K V : Fin 16 → Vec F S256x128 .bf16) (old : Fin 16 → Vec F S256x128 .f32) (n : ℕ) (hn : n ≤ 2 * b + 1)

include hb hn in
theorem dkB_sbk : dkB b H K V old (sbk b n) = H.dk (mk n) (K (sbk b n)) (V (sbk b n)) (cyAt b H K V n) (old (sbk b n)) := by
  have v : (sbk b n).val = 2 * b + 1 - n := Nat.mod_eq_of_lt (by omega)
  have w : 2 * b + 1 - (sbk b n).val = n := by omega
  rw [dkB, if_pos (by omega), w]

include hb hn in
theorem dvB_sbk : dvB b H K V old (sbk b n) = H.dv (mk n) (K (sbk b n)) (cyAt b H K V n) (old (sbk b n)) := by
  have v : (sbk b n).val = 2 * b + 1 - n := Nat.mod_eq_of_lt (by omega)
  have w : 2 * b + 1 - (sbk b n).val = n := by omega
  rw [dvB, if_pos (by omega), w]

end Step

omit [FloatOps F] in
/-- Four stores that put in place what is to stand in both heads' sub-blocks `n` and `n + 1`. -/
theorem kb_step (b : ℕ) (hb : b < 8) (n : ℕ) (hn : n + 1 ≤ 2 * b + 1) {e : EltTy} (a : Memref sig .tc .vmem S4096x256 e) (f : a.view.ty.Contents (Elt F))
    (O G : Fin 16 → Fin 2 → Vec F S256x128 e)
    (hf : ∀ s h, kb (a.view.read (Elt F) f) s h = if 2 * b + 1 < s.val + n then G s h else O s h)
    (wA0 wA1 wC0 wC1 : Vec F S256x128 e) (hA0 : wA0 = G (sbk b n) 0) (hA1 : wA1 = G (sbk b n) 1)
    (hC0 : wC0 = G (sbk b (n + 1)) 0) (hC1 : wC1 = G (sbk b (n + 1)) 1) (s : Fin 16) (h : Fin 2) :
    kb (a.view.read (Elt F) (a.view.writes (Elt F) f [⟨rcs (sbk b (n + 1)) 1, wC1⟩, ⟨rcs (sbk b (n + 1)) 0, wC0⟩, ⟨rcs (sbk b n) 1, wA1⟩, ⟨rcs (sbk b n) 0, wA0⟩])) s h
      = if 2 * b + 1 < s.val + (n + 2) then G s h else O s h := by
  have vA : (sbk b n).val = 2 * b + 1 - n := Nat.mod_eq_of_lt (by omega)
  have vC : (sbk b (n + 1)).val = 2 * b + 1 - (n + 1) := Nat.mod_eq_of_lt (by omega)
  subst hA0 hA1 hC0 hC1
  have := kb_four a f (sbk b n) (sbk b (n + 1)) (fun h => G (sbk b n) h) (fun h => G (sbk b (n + 1)) h) s h
  rw [this]
  by_cases hC : s = sbk b (n + 1)
  · subst hC
    rw [if_pos rfl, if_pos (by omega)]
  · have : s.val ≠ 2 * b + 1 - (n + 1) := fun h => hC (Fin.ext (by omega))
    rw [if_neg hC]
    by_cases hA : s = sbk b n
    · subst hA
      rw [if_pos rfl, if_pos (by omega)]
    · have : s.val ≠ 2 * b + 1 - n := fun h => hA (Fin.ext (by omega))
      rw [if_neg hA, hf]
      by_cases hlt : 2 * b + 1 < s.val + n
      · rw [if_pos hlt, if_pos (by omega)]
      · rw [if_neg hlt, if_neg (by omega)]

/-- Either head's part of what is carried. -/
def ch (x : Acc F) (h : Fin 2) : SB.Cy F := if h = 0 then c0 x else c1 x

section Chain

variable (b : ℕ) (hb : b < 8) (c : Dev nD) (arg3 : Memref sig .tc .vmem S4096x256 .bf16) (arg4 : Memref sig .tc .vmem S4096x256 .bf16) (arg8 : Memref sig .tc .vmem S4096x256 .f32) (arg9 : Memref sig .tc .vmem S4096x256 .f32)
  (H : Fin 2 → SB.Hd F) (X3 X4 : S4096x256.Idx → Elt F .bf16) (A8 A9 : S4096x256.Idx → Elt F .f32)

/-- What has been reached before the `n`-th sub-block: both heads' carries, and the blocks of the sub-blocks done. -/
def Reached (n : ℕ) (S : Acc F × Buf (Elt F) (arg8.view.loc (c : Thread nD τ)) × Buf (Elt F) (arg9.view.loc (c : Thread nD τ))) : Prop :=
  (∀ h, ch S.1 h = cyAt b (H h) (fun s => kb X3 s h) (fun s => kb X4 s h) n)
  ∧ (∀ s h, kb (arg8.view.read (Elt F) S.2.1) s h
      = if 2 * b + 1 < s.val + n then dkB b (H h) (fun s => kb X3 s h) (fun s => kb X4 s h) (fun s => kb A8 s h) s else kb A8 s h)
  ∧ (∀ s h, kb (arg9.view.read (Elt F) S.2.2) s h
      = if 2 * b + 1 < s.val + n then dvB b (H h) (fun s => kb X3 s h) (fun s => kb X4 s h) (fun s => kb A9 s h) s else kb A9 s h)

include hb in
/-- A key block takes it two sub-blocks on. -/
theorem reached_step (n : ℕ) (hn : n + 1 ≤ 2 * b + 1) (g3 : Buf (Elt F) (arg3.view.loc (c : Thread nD τ))) (g4 : Buf (Elt F) (arg4.view.loc (c : Thread nD τ)))
    (e3 : arg3.view.read (Elt F) g3 = X3) (e4 : arg4.view.read (Elt F) g4 = X4)
    (S : Acc F × Buf (Elt F) (arg8.view.loc (c : Thread nD τ)) × Buf (Elt F) (arg9.view.loc (c : Thread nD τ)))
    (hS : Reached b c arg8 arg9 H X3 X4 A8 A9 n S)
    (oA oB oC oD : Fin 2 → Nat) (hA : ∀ a, oA a + S256x128.size a ≤ S4096x256.size a) (hB : ∀ a, oB a + S256x128.size a ≤ S4096x256.size a)
    (hC : ∀ a, oC a + S256x128.size a ≤ S4096x256.size a) (hD : ∀ a, oD a + S256x128.size a ≤ S4096x256.size a)
    (eA : oA = ![256 * (sbk b n).val, 128 * (0 : Fin 2).val]) (eB : oB = ![256 * (sbk b n).val, 128 * (1 : Fin 2).val])
    (eC : oC = ![256 * (sbk b (n + 1)).val, 128 * (0 : Fin 2).val]) (eD : oD = ![256 * (sbk b (n + 1)).val, 128 * (1 : Fin 2).val]) :
    Reached b c arg8 arg9 H X3 X4 A8 A9 (n + 2)
      (sub2 c arg3 arg4 arg8 arg9 (H 0) (H 1) (mk n) (mk (n + 1)) oA oB oC oD hA hB hC hD g3 g4 S) := by
  subst eA eB eC eD e3 e4
  obtain ⟨hc, h8, h9⟩ := hS
  have hc0 : c0 S.1 = _ := hc 0
  have hc1 : c1 S.1 = _ := hc 1
  have vA : (sbk b n).val = 2 * b + 1 - n := Nat.mod_eq_of_lt (by omega)
  have vC : (sbk b (n + 1)).val = 2 * b + 1 - (n + 1) := Nat.mod_eq_of_lt (by omega)
  have l8 : ∀ s h, 2 * b + 1 - n = s.val ∨ 2 * b + 1 - (n + 1) = s.val → kb (arg8.view.read (Elt F) S.2.1) s h = kb A8 s h := fun s h hs => by
    rw [h8, if_neg (by omega)]
  have l9 : ∀ s h, 2 * b + 1 - n = s.val ∨ 2 * b + 1 - (n + 1) = s.val → kb (arg9.view.read (Elt F) S.2.2) s h = kb A9 s h := fun s h hs => by
    rw [h9, if_neg (by omega)]
  have n0 : c0 (S.1) = cyAt b (H 0) (fun s => kb (arg3.view.read (Elt F) g3) s 0) (fun s => kb (arg4.view.read (Elt F) g4) s 0) n := hc0
  have n1 : c1 (S.1) = cyAt b (H 1) (fun s => kb (arg3.view.read (Elt F) g3) s 1) (fun s => kb (arg4.view.read (Elt F) g4) s 1) n := hc1
  refine ⟨?_, ?_, ?_⟩
  · intro h
    obtain rfl | rfl : h = 0 ∨ h = 1 := by omega
    · show (H 0).next (mk (n + 1)) _ _ ((H 0).next (mk n) _ _ (c0 S.1)) = _
      rw [n0]; rfl
    · show (H 1).next (mk (n + 1)) _ _ ((H 1).next (mk n) _ _ (c1 S.1)) = _
      rw [n1]; rfl
  · refine kb_step b hb n hn arg8 S.2.1 _ (fun s h => dkB b (H h) (fun s => kb (arg3.view.read (Elt F) g3) s h) (fun s => kb (arg4.view.read (Elt F) g4) s h) (fun s => kb A8 s h) s)
      h8 _ _ _ _ ?_ ?_ ?_ ?_
    · rw [dkB_sbk b hb _ _ _ _ n (by omega), ← n0, ← l8 _ _ (.inl vA.symm)]; rfl
    · rw [dkB_sbk b hb _ _ _ _ n (by omega), ← n1, ← l8 _ _ (.inl vA.symm)]; rfl
    · rw [dkB_sbk b hb _ _ _ _ (n + 1) (by omega), cyAt, ← n0, ← l8 _ _ (.inr vC.symm)]; rfl
    · rw [dkB_sbk b hb _ _ _ _ (n + 1) (by omega), cyAt, ← n1, ← l8 _ _ (.inr vC.symm)]; rfl
  · refine kb_step b hb n hn arg9 S.2.2 _ (fun s h => dvB b (H h) (fun s => kb (arg3.view.read (Elt F) g3) s h) (fun s => kb (arg4.view.read (Elt F) g4) s h) (fun s => kb A9 s h) s)
      h9 _ _ _ _ ?_ ?_ ?_ ?_
    · rw [dvB_sbk b hb _ _ _ _ n (by omega), ← n0, ← l9 _ _ (.inl vA.symm)]; rfl
    · rw [dvB_sbk b hb _ _ _ _ n (by omega), ← n1, ← l9 _ _ (.inl vA.symm)]; rfl
    · rw [dvB_sbk b hb _ _ _ _ (n + 1) (by omega), cyAt, ← n0, ← l9 _ _ (.inr vC.symm)]; rfl
    · rw [dvB_sbk b hb _ _ _ _ (n + 1) (by omega), cyAt, ← n1, ← l9 _ _ (.inr vC.symm)]; rfl

end Chain

section Point

variable (c : Dev nD) (i : grid0.Coords) (arg3 : Memref sig .tc .vmem S4096x256 .bf16) (arg4 : Memref sig .tc .vmem S4096x256 .bf16) (arg8 : Memref sig .tc .vmem S4096x256 .f32) (arg9 : Memref sig .tc .vmem S4096x256 .f32)
  (H : Fin 2 → SB.Hd F) (X3 X4 : S4096x256.Idx → Elt F .bf16) (A8 A9 : S4096x256.Idx → Elt F .f32)
  (g3 : Buf (Elt F) (arg3.view.loc (c : Thread nD τ))) (g4 : Buf (Elt F) (arg4.view.loc (c : Thread nD τ)))
  (g8 : Buf (Elt F) (arg8.view.loc (c : Thread nD τ))) (g9 : Buf (Elt F) (arg9.view.loc (c : Thread nD τ)))
  (e3 : arg3.view.read (Elt F) g3 = X3) (e4 : arg4.view.read (Elt F) g4 = X4)
  (e8 : arg8.view.read (Elt F) g8 = A8) (e9 : arg9.view.read (Elt F) g9 = A9)

theorem coord1_lt (i : grid0.Coords) : (i 1).val < 8 := (i 1).isLt

include e3 e4 e8 e9 in
/-- After the diagonal block two sub-blocks are done. -/
theorem diag_reached : Reached (i 1).val c arg8 arg9 H X3 X4 A8 A9 2 (diag c i arg3 arg4 arg8 arg9 (H 0) (H 1) g3 g4 g8 g9) := by
  have hb := coord1_lt i
  have vA : (sbk (i 1).val 0).val = 2 * (i 1).val + 1 := Nat.mod_eq_of_lt (by omega)
  have vC : (sbk (i 1).val (0 + 1)).val = 2 * (i 1).val := Nat.mod_eq_of_lt (by omega)
  refine reached_step (i 1).val hb c arg3 arg4 arg8 arg9 H X3 X4 A8 A9 0 (by omega) g3 g4 e3 e4 (acc0, g8, g9) ⟨?_, ?_, ?_⟩
    (k0_off1 i 256#32) (k0_off2 i 256#32) (k0_off1 i 0#32) (k0_off2 i 0#32) _ _ _ _ ?_ ?_ ?_ ?_
  · intro h
    obtain rfl | rfl : h = 0 ∨ h = 1 := by omega
    · rfl
    · rfl
  · intro s h
    rw [e8, dkB]
    by_cases hs : s.val ≤ 2 * (i 1).val + 1
    · rw [if_neg (by omega)]
    · rw [if_pos (by omega), if_neg hs]
  · intro s h
    rw [e9, dvB]
    by_cases hs : s.val ≤ 2 * (i 1).val + 1
    · rw [if_neg (by omega)]
    · rw [if_pos (by omega), if_neg hs]
  · refine (k0_off1_eq i 1).trans ?_
    rw [vA, show 512 * (i 1).val + 256 * (1 : Fin 2).val = 256 * (2 * (i 1).val + 1) from by show _ + 256 * 1 = _; omega]; rfl
  · refine (k0_off2_eq i 1).trans ?_
    rw [vA, show 512 * (i 1).val + 256 * (1 : Fin 2).val = 256 * (2 * (i 1).val + 1) from by show _ + 256 * 1 = _; omega]; rfl
  · refine (k0_off1_eq i 0).trans ?_
    rw [vC, show 512 * (i 1).val + 256 * (0 : Fin 2).val = 256 * (2 * (i 1).val) from by show _ + 256 * 0 = _; omega]; rfl
  · refine (k0_off2_eq i 0).trans ?_
    rw [vC, show 512 * (i 1).val + 256 * (0 : Fin 2).val = 256 * (2 * (i 1).val) from by show _ + 256 * 0 = _; omega]; rfl

include e3 e4 e8 e9 in
/-- Before trip `k` of the loop `2 k + 2` are. -/
theorem stAt_reached (k : ℕ) (hk : k ≤ (i 1).val) : Reached (i 1).val c arg8 arg9 H X3 X4 A8 A9 (2 * k + 2)
    (stAt c i arg3 arg4 arg8 arg9 (H 0) (H 1) g3 g4 (diag c i arg3 arg4 arg8 arg9 (H 0) (H 1) g3 g4 g8 g9) k) := by
  have hb := coord1_lt i
  induction k with
  | zero => exact diag_reached c i arg3 arg4 arg8 arg9 H X3 X4 A8 A9 g3 g4 g8 g9 e3 e4 e8 e9
  | succ k ih =>
    have hlt : k < (k0_t1_loop i).trips := by rw [trips1]; omega
    have vA : (sbk (i 1).val (2 * k + 2)).val = 2 * (i 1).val + 1 - (2 * k + 2) := Nat.mod_eq_of_lt (by omega)
    have vC : (sbk (i 1).val (2 * k + 2 + 1)).val = 2 * (i 1).val + 1 - (2 * k + 2 + 1) := Nat.mod_eq_of_lt (by omega)
    rw [stAt, dif_pos hlt]
    refine reached_step (i 1).val hb c arg3 arg4 arg8 arg9 H X3 X4 A8 A9 (2 * k + 2) (by omega) g3 g4 e3 e4 _ (ih (by omega))
      (k0_off3 i ⟨k, hlt⟩ 256#32) (k0_off4 i ⟨k, hlt⟩ 256#32) (k0_off3 i ⟨k, hlt⟩ 0#32) (k0_off4 i ⟨k, hlt⟩ 0#32) _ _ _ _ ?_ ?_ ?_ ?_
    · refine (off3_eq i ⟨k, hlt⟩ 1).trans ?_
      rw [vA, show 512 * ((i 1).val - 1 - k) + 256 * (1 : Fin 2).val = 256 * (2 * (i 1).val + 1 - (2 * k + 2)) from by show _ + 256 * 1 = _; omega]; rfl
    · refine (off4_eq i ⟨k, hlt⟩ 1).trans ?_
      rw [vA, show 512 * ((i 1).val - 1 - k) + 256 * (1 : Fin 2).val = 256 * (2 * (i 1).val + 1 - (2 * k + 2)) from by show _ + 256 * 1 = _; omega]; rfl
    · refine (off3_eq i ⟨k, hlt⟩ 0).trans ?_
      rw [vC, show 512 * ((i 1).val - 1 - k) + 256 * (0 : Fin 2).val = 256 * (2 * (i 1).val + 1 - (2 * k + 2 + 1)) from by show _ + 256 * 0 = _; omega]; rfl
    · refine (off4_eq i ⟨k, hlt⟩ 0).trans ?_
      rw [vC, show 512 * ((i 1).val - 1 - k) + 256 * (0 : Fin 2).val = 256 * (2 * (i 1).val + 1 - (2 * k + 2 + 1)) from by show _ + 256 * 0 = _; omega]; rfl

include e3 e4 e8 e9 in
/-- A point's key blocks done, its sub-blocks all are. -/
theorem fin_reached : Reached (i 1).val c arg8 arg9 H X3 X4 A8 A9 (2 * (i 1).val + 2) (fin c i arg3 arg4 arg8 arg9 (H 0) (H 1) g3 g4 g8 g9) := by
  unfold fin
  rw [trips1]
  exact stAt_reached c i arg3 arg4 arg8 arg9 H X3 X4 A8 A9 g3 g4 g8 g9 e3 e4 e8 e9 (i 1).val (Nat.le_refl _)

include e3 e4 e8 e9 in
/-- What a point leaves in the keys' gradient, -/
theorem fin_8 : arg8.view.read (Elt F) (fin c i arg3 arg4 arg8 arg9 (H 0) (H 1) g3 g4 g8 g9).2.1
    = asm fun s h => dkB (i 1).val (H h) (fun s => kb X3 s h) (fun s => kb X4 s h) (fun s => kb A8 s h) s :=
  kb_ext fun s h => by
    rw [(fin_reached c i arg3 arg4 arg8 arg9 H X3 X4 A8 A9 g3 g4 g8 g9 e3 e4 e8 e9).2.1, if_pos (by omega), kb_asm]

include e3 e4 e8 e9 in
/-- in the values', -/
theorem fin_9 : arg9.view.read (Elt F) (fin c i arg3 arg4 arg8 arg9 (H 0) (H 1) g3 g4 g8 g9).2.2
    = asm fun s h => dvB (i 1).val (H h) (fun s => kb X3 s h) (fun s => kb X4 s h) (fun s => kb A9 s h) s :=
  kb_ext fun s h => by
    rw [(fin_reached c i arg3 arg4 arg8 arg9 H X3 X4 A8 A9 g3 g4 g8 g9 e3 e4 e8 e9).2.2, if_pos (by omega), kb_asm]

end Point

end Cert.Proof.KI

end
-- ==== Proof.Run.lean ====
/-
  The run of the stick-breaking gradient: what each window's staging buffer holds after each point (`dats`), the body's
  obligation at a point from `run_body`, and the program's run, at any values of the floats.
-/
module

public import proofs.«01_k».proof.Proof.Blocks

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

theorem rq_inb (h : Fin 2) : ∀ a, (![0, 128 * h.val] : Fin 2 → Nat) a + S512x128.size a ≤ S512x256.size a := by
  have hh := h.isLt
  intro a
  fin_cases a
  · show 0 + 512 ≤ 512; omega
  · show 128 * h.val + 128 ≤ 256; omega

/-- A head's columns of the queries' block. -/
abbrev rq (h : Fin 2) : Rect S512x256 := Rect.unit (s := S512x256) ![0, 128 * h.val] S512x128.size (rq_inb h)

/-- A head of a point, from the queries', the results' and the cotangents' blocks. -/
def hdAt (X2 : S512x256.Idx → Elt F .bf16) (X5 : S512x256.Idx → Elt F .f32) (X6 : S512x256.Idx → Elt F .bf16) (h : Fin 2) : SB.Hd F :=
  ⟨k0_pay153 (View.ld X2 (rq h)), k0_pay155 (View.ld X6 (rq h)), k0_pay157 (View.ld X6 (rq h)) (View.ld X5 (rq h)), k0_pay159, k0_pay160⟩

/-- The queries' gradient's block from the two heads'. -/
def asmQ (B : Fin 2 → Vec F S512x128 .bf16) : S512x256.Idx → Elt F .bf16 := fun y =>
  B ⟨(y 1).val / 128, by have h : (y 1).val < 256 := (y 1).isLt; omega⟩
    (ValueIdx.ix2 ⟨(y 0).val, (y 0).isLt⟩ ⟨(y 1).val % 128, Nat.mod_lt _ (by decide)⟩)

omit [FloatOps F] in
theorem asmQ_at (B : Fin 2 → Vec F S512x128 .bf16) (h : Fin 2) (x : S512x128.Idx) (y : S512x256.Idx)
    (h0 : (y 0).val = (x 0).val) (h1 : (y 1).val = 128 * h.val + (x 1).val) : asmQ B y = B h x := by
  have l1 : (x 1).val < 128 := (x 1).isLt
  have g : ∀ (h' : Fin 2) (x' : S512x128.Idx), h' = h → x' = x → B h' x' = B h x := by
    rintro _ _ rfl rfl; rfl
  refine g _ _ (Fin.ext ?_) ?_
  · show (y 1).val / 128 = h.val; omega
  · rw [ValueIdx.eq_ix2 x]
    congr 1
    · exact Fin.ext h0
    · exact Fin.ext (by show (y 1).val % 128 = (x 1).val; omega)

omit [FloatOps F] in
/-- Two stores that fill the queries' gradient's block. -/
theorem read_two (a : Memref sig .tc .vmem S512x256 .bf16) (f : a.view.ty.Contents (Elt F)) (B : Fin 2 → Vec F S512x128 .bf16) :
    a.view.read (Elt F) (a.view.writes (Elt F) f [⟨rq 1, B 1⟩, ⟨rq 0, B 0⟩]) = asmQ B := by
  funext y
  have l0 : (y 0).val < 512 := (y 0).isLt
  have l1 : (y 1).val < 256 := (y 1).isLt
  by_cases h : (y 1).val < 128
  · rw [View.read_writes_cons_miss_of_axis a.view f ⟨rq 1, B 1⟩ [⟨rq 0, B 0⟩] y (1 : Fin 2) 128 128 rfl rfl rfl (.inl h)]
    let x : S512x128.Idx := ValueIdx.ix2 ⟨(y 0).val, l0⟩ ⟨(y 1).val, h⟩
    have hx : (rq 0).emb x = y := by
      funext a
      fin_cases a
      · exact Fin.ext (by show 0 + 1 * (y 0).val = (y 0).val; omega)
      · exact Fin.ext (by show 128 * 0 + 1 * (y 1).val = (y 1).val; omega)
    rw [View.read_writes_cons_hit a.view f (rq 0) (B 0) [] x y hx]
    exact (asmQ_at B 0 x y rfl (by show _ = 128 * 0 + (y 1).val; omega)).symm
  · let x : S512x128.Idx := ValueIdx.ix2 ⟨(y 0).val, l0⟩ ⟨(y 1).val - 128, by omega⟩
    have hx : (rq 1).emb x = y := by
      funext a
      fin_cases a
      · exact Fin.ext (by show 0 + 1 * (y 0).val = (y 0).val; omega)
      · exact Fin.ext (by show 128 * 1 + 1 * ((y 1).val - 128) = (y 1).val; omega)
    rw [View.read_writes_cons_hit a.view f (rq 1) (B 1) _ x y hx]
    exact (asmQ_at B 1 x y rfl (by show _ = 128 * 1 + ((y 1).val - 128); omega)).symm

/-- The first point of a group of heads is the one whose query block is the first. -/
theorem cond_iff : ∀ t : Fin cfg0.N, cond (grid0.coords t) ↔ t.val % 8 = 0 := by
  have h : ∀ t : Fin grid0.N, cond (grid0.coords t) ↔ t.val % 8 = 0 := by decide +kernel
  exact h
/-- The query block of a point, -/
theorem coord1 : ∀ t : Fin cfg0.N, ((grid0.coords t) 1).val = t.val % 8 := by
  have h : ∀ t : Fin grid0.N, ((grid0.coords t) 1).val = t.val % 8 := by decide +kernel
  exact h
/-- and its group of heads. -/
theorem coord0 : ∀ t : Fin cfg0.N, ((grid0.coords t) 0).val = t.val / 8 := by
  have h : ∀ t : Fin grid0.N, ((grid0.coords t) 0).val = t.val / 8 := by decide +kernel
  exact h

omit [FloatOps F] in
/-- A store over a whole shape reads what it stored. -/
theorem read_whole {s : Shape} {e : EltTy} (off : Fin s.rank → Nat) (h0 : ∀ a, off a = 0) (inb : ∀ a, off a + s.size a ≤ s.size a)
    (a : Memref sig .tc .vmem s e) (f : a.view.ty.Contents (Elt F)) (p : s.Idx → Elt F e) :
    a.view.read (Elt F) (a.view.writes (Elt F) f [⟨Rect.unit (s := s) off s.size inb, p⟩]) = p := by
  funext y
  refine View.read_writes_cons_hit a.view f (Rect.unit (s := s) off s.size inb) p [] y y ?_
  funext a
  exact Fin.ext (by show off a + 1 * (y a).val = (y a).val; rw [h0]; omega)

section Dats

variable (m : (ℓ : Loc nD τ sig) → Buf (Elt F) ℓ) (c : Dev nD)

/-- A point's heads, -/
def hdT (t : Fin cfg0.N) (h : Fin 2) : SB.Hd F := hdAt (iblk m c 0 t) (iblk m c 3 t) (iblk m c 4 t) h
/-- their keys -/
def kT (t : Fin cfg0.N) (h : Fin 2) (s : Fin 16) : Vec F S256x128 .bf16 := kb (e := .bf16) (iblk m c 1 t) s h
/-- and values. -/
def vT (t : Fin cfg0.N) (h : Fin 2) (s : Fin 16) : Vec F S256x128 .bf16 := kb (e := .bf16) (iblk m c 2 t) s h

/-- The sub-blocks of the keys' gradient after point `n`, -/
def dkT : (n : ℕ) → n < cfg0.N → Fin 16 → Fin 2 → Vec F S256x128 .f32
  | 0, hn => fun s h => dkB (((grid0.coords ⟨0, hn⟩) 1).val) (hdT m c ⟨0, hn⟩ h) (kT m c ⟨0, hn⟩ h) (vT m c ⟨0, hn⟩ h) (fun s => kb (e := .f32) k0_pay151 s h) s
  | n + 1, hn => fun s h => dkB (((grid0.coords ⟨n + 1, hn⟩) 1).val) (hdT m c ⟨n + 1, hn⟩ h) (kT m c ⟨n + 1, hn⟩ h) (vT m c ⟨n + 1, hn⟩ h)
      (fun s => if (n + 1) % 8 = 0 then kb (e := .f32) k0_pay151 s h else dkT n (Nat.lt_of_succ_lt hn) s h) s
/-- and of the values'. -/
def dvT : (n : ℕ) → n < cfg0.N → Fin 16 → Fin 2 → Vec F S256x128 .f32
  | 0, hn => fun s h => dvB (((grid0.coords ⟨0, hn⟩) 1).val) (hdT m c ⟨0, hn⟩ h) (kT m c ⟨0, hn⟩ h) (vT m c ⟨0, hn⟩ h) (fun s => kb (e := .f32) k0_pay152 s h) s
  | n + 1, hn => fun s h => dvB (((grid0.coords ⟨n + 1, hn⟩) 1).val) (hdT m c ⟨n + 1, hn⟩ h) (kT m c ⟨n + 1, hn⟩ h) (vT m c ⟨n + 1, hn⟩ h)
      (fun s => if (n + 1) % 8 = 0 then kb (e := .f32) k0_pay152 s h else dvT n (Nat.lt_of_succ_lt hn) s h) s

/-- The queries' gradient's block of point `t`. -/
def dqT (t : Fin cfg0.N) (h : Fin 2) : Vec F S512x128 .bf16 :=
  k0_pay21 (cyAt (((grid0.coords t) 1).val) (hdT m c t h) (kT m c t h) (vT m c t h) (2 * ((grid0.coords t) 1).val + 2)).dq

/-- What each window's staging buffer holds after each point. -/
def aft (w : Fin cfg0.W) (t : Fin cfg0.N) : (cfg0.win w).block.Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => asmQ (dqT m c t)
  | ⟨6, _⟩ => asm (e := .f32) (dkT m c t.val t.isLt)
  | ⟨7, _⟩ => asm (e := .f32) (dvT m c t.val t.isLt)

/-- The run's data: the arrays as the region finds them, `aft`, and nothing of the kernel's own. -/
def dats (_ : Fin 1) (c : Dev nD) : Dat τ (Elt F) Unit ℕ (UR sig nD τ) ℕ cfg0 c where
  A w := V m c (Pipeline.arrRef spec0 w)
  after := aft m c
  Φ _ := Pipeline.ΦA spec0 c
  q := Pipeline.shareOf spec0
  owed _ := 0

theorem before_0 (t : Fin cfg0.N) (d) : (dats m 0 c).before 0 t d = iblk m c 0 t := before0_0_of m (dats m 0 c) rfl (fun _ => rfl) t d
theorem before_1 (t : Fin cfg0.N) (d) : (dats m 0 c).before 1 t d = iblk m c 1 t := before0_1_of m (dats m 0 c) rfl (fun _ => rfl) t d
theorem before_2 (t : Fin cfg0.N) (d) : (dats m 0 c).before 2 t d = iblk m c 2 t := before0_2_of m (dats m 0 c) rfl (fun _ => rfl) t d
theorem before_3 (t : Fin cfg0.N) (d) : (dats m 0 c).before 3 t d = iblk m c 3 t := before0_3_of m (dats m 0 c) rfl (fun _ => rfl) t d
theorem before_4 (t : Fin cfg0.N) (d) : (dats m 0 c).before 4 t d = iblk m c 4 t := before0_4_of m (dats m 0 c) rfl (fun _ => rfl) t d

/-- Between two points of a group the keys' gradient's buffer keeps what the earlier left, -/
theorem before_6 (t : Fin cfg0.N) (ht : t.val % 8 ≠ 0) (d) :
    (dats m 0 c).before 6 t d = asm (e := .f32) (dkT m c (t.val - 1) (Nat.lt_of_le_of_lt (Nat.sub_le _ _) t.isLt)) :=
  (dats m 0 c).before_out_kept 6 rfl t (by omega)
    (by
      have h : ¬ (cfg0.win 6).flush ⟨t.val - 1, Nat.lt_of_le_of_lt (Nat.sub_le _ _) t.isLt⟩ = true := fun h => by
        have h' := (flush0_6 _).mp h
        have : (t.val - 1) % 8 = 7 := h'
        omega
      exact Bool.eq_false_iff.mpr h)
    (fun _ => rfl) (fun _ _ => rfl) d
/-- and so does the values'. -/
theorem before_7 (t : Fin cfg0.N) (ht : t.val % 8 ≠ 0) (d) :
    (dats m 0 c).before 7 t d = asm (e := .f32) (dvT m c (t.val - 1) (Nat.lt_of_le_of_lt (Nat.sub_le _ _) t.isLt)) :=
  (dats m 0 c).before_out_kept 7 rfl t (by omega)
    (by
      have h : ¬ (cfg0.win 7).flush ⟨t.val - 1, Nat.lt_of_le_of_lt (Nat.sub_le _ _) t.isLt⟩ = true := fun h => by
        have h' := (flush0_7 _).mp h
        have : (t.val - 1) % 8 = 7 := h'
        omega
      exact Bool.eq_false_iff.mpr h)
    (fun _ => rfl) (fun _ _ => rfl) d

/-- The sub-blocks of the keys' gradient after a point, from what the point finds once its group's first has zeroed it, -/
theorem dkT_eq (t : Fin cfg0.N) (X : S4096x256.Idx → Elt F .f32)
    (hX : t.val % 8 ≠ 0 → X = asm (e := .f32) (dkT m c (t.val - 1) (Nat.lt_of_le_of_lt (Nat.sub_le _ _) t.isLt))) :
    dkT m c t.val t.isLt = fun s h => dkB ((grid0.coords t) 1).val (hdT m c t h) (kT m c t h) (vT m c t h)
      (fun s => kb (e := .f32) (if t.val % 8 = 0 then k0_pay151 else X) s h) s := by
  obtain ⟨n, hn⟩ := t
  cases n with
  | zero => rfl
  | succ n =>
    show dkT m c (n + 1) hn = _
    rw [dkT]
    funext s h
    congr 1
    funext s
    by_cases h0 : (n + 1) % 8 = 0
    · rw [if_pos h0, if_pos h0]
    · rw [if_neg h0, if_neg h0, hX h0, kb_asm]; rfl
/-- and of the values'. -/
theorem dvT_eq (t : Fin cfg0.N) (X : S4096x256.Idx → Elt F .f32)
    (hX : t.val % 8 ≠ 0 → X = asm (e := .f32) (dvT m c (t.val - 1) (Nat.lt_of_le_of_lt (Nat.sub_le _ _) t.isLt))) :
    dvT m c t.val t.isLt = fun s h => dvB ((grid0.coords t) 1).val (hdT m c t h) (kT m c t h) (vT m c t h)
      (fun s => kb (e := .f32) (if t.val % 8 = 0 then k0_pay152 else X) s h) s := by
  obtain ⟨n, hn⟩ := t
  cases n with
  | zero => rfl
  | succ n =>
    show dvT m c (n + 1) hn = _
    rw [dvT]
    funext s h
    congr 1
    funext s
    by_cases h0 : (n + 1) % 8 = 0
    · rw [if_pos h0, if_pos h0]
    · rw [if_neg h0, if_neg h0, hX h0, kb_asm]; rfl

/-- What a point finds in an accumulator, read. -/
theorem read_entry (t : Fin cfg0.N) (p : FVec F S4096x256 .f32) (a : Memref sig .tc .vmem S4096x256 .f32) (g : Buf (Elt F) (a.view.loc (c : Thread nD τ)))
    (X : S4096x256.Idx → Elt F .f32) (hX : a.view.read (Elt F) g = X) :
    a.view.read (Elt F) (entry c (grid0.coords t) p a g) = if t.val % 8 = 0 then p else X := by
  unfold entry
  by_cases h : t.val % 8 = 0
  · rw [if_pos h, if_pos ((cond_iff t).mpr h)]
    exact read_whole (F := F) (s := S4096x256) (e := .f32) ![0, 0] (fun a => by fin_cases a <;> rfl) _ a g p
  · rw [if_neg h, if_neg (fun hc => h ((cond_iff t).mp hc)), hX]

section Reads

variable (t : Fin cfg0.N) (arg2 : Memref sig .tc .vmem S512x256 .bf16) (arg3 : Memref sig .tc .vmem S4096x256 .bf16) (arg4 : Memref sig .tc .vmem S4096x256 .bf16) (arg5 : Memref sig .tc .vmem S512x256 .f32) (arg6 : Memref sig .tc .vmem S512x256 .bf16) (arg7 : Memref sig .tc .vmem S512x256 .bf16) (arg8 : Memref sig .tc .vmem S4096x256 .f32) (arg9 : Memref sig .tc .vmem S4096x256 .f32)
  (g2 : Buf (Elt F) (arg2.view.loc (c : Thread nD τ))) (g3 : Buf (Elt F) (arg3.view.loc (c : Thread nD τ))) (g4 : Buf (Elt F) (arg4.view.loc (c : Thread nD τ)))
  (g5 : Buf (Elt F) (arg5.view.loc (c : Thread nD τ))) (g6 : Buf (Elt F) (arg6.view.loc (c : Thread nD τ))) (g7 : Buf (Elt F) (arg7.view.loc (c : Thread nD τ)))
  (g8 : Buf (Elt F) (arg8.view.loc (c : Thread nD τ))) (g9 : Buf (Elt F) (arg9.view.loc (c : Thread nD τ)))
  (X8 X9 : S4096x256.Idx → Elt F .f32)
  (h2 : arg2.view.read (Elt F) g2 = iblk m c 0 t) (h3 : arg3.view.read (Elt F) g3 = iblk m c 1 t) (h4 : arg4.view.read (Elt F) g4 = iblk m c 2 t)
  (h5 : arg5.view.read (Elt F) g5 = iblk m c 3 t) (h6 : arg6.view.read (Elt F) g6 = iblk m c 4 t)
  (h8 : arg8.view.read (Elt F) g8 = X8) (h9 : arg9.view.read (Elt F) g9 = X9)
  (hX8 : t.val % 8 ≠ 0 → X8 = asm (e := .f32) (dkT m c (t.val - 1) (Nat.lt_of_le_of_lt (Nat.sub_le _ _) t.isLt)))
  (hX9 : t.val % 8 ≠ 0 → X9 = asm (e := .f32) (dvT m c (t.val - 1) (Nat.lt_of_le_of_lt (Nat.sub_le _ _) t.isLt)))

include h2 h5 h6 in
theorem hd0_eq : hd0 c arg2 arg5 arg6 g2 g5 g6 = hdT m c t 0 := by
  unfold hdT
  rw [← h2, ← h5, ← h6]
  rfl

include h2 h5 h6 in
theorem hd1_eq : hd1 c arg2 arg5 arg6 g2 g5 g6 = hdT m c t 1 := by
  unfold hdT
  rw [← h2, ← h5, ← h6]
  rfl

/-- What a point's run leaves, from what its buffers hold. -/
abbrev post : Acc F × Buf (Elt F) (arg8.view.loc (c : Thread nD τ)) × Buf (Elt F) (arg9.view.loc (c : Thread nD τ)) :=
  fin c (grid0.coords t) arg3 arg4 arg8 arg9 (hd0 c arg2 arg5 arg6 g2 g5 g6) (hd1 c arg2 arg5 arg6 g2 g5 g6) g3 g4
    (entry c (grid0.coords t) k0_pay151 arg8 g8) (entry c (grid0.coords t) k0_pay152 arg9 g9)

include h2 h3 h4 h5 h6 h8 hX8 in
theorem post_8 : arg8.view.read (Elt F) (post c t arg2 arg3 arg4 arg5 arg6 arg8 arg9 g2 g3 g4 g5 g6 g8 g9).2.1 = asm (e := .f32) (dkT m c t.val t.isLt) := by
  unfold post
  rw [hd0_eq m c t arg2 arg5 arg6 g2 g5 g6 h2 h5 h6, hd1_eq m c t arg2 arg5 arg6 g2 g5 g6 h2 h5 h6,
    fin_8 c (grid0.coords t) arg3 arg4 arg8 arg9 (hdT m c t) (iblk m c 1 t) (iblk m c 2 t) _ _ g3 g4 _ _ h3 h4
      (read_entry c t k0_pay151 arg8 g8 X8 h8) rfl, dkT_eq m c t X8 hX8]
  rfl

include h2 h3 h4 h5 h6 h9 hX9 in
theorem post_9 : arg9.view.read (Elt F) (post c t arg2 arg3 arg4 arg5 arg6 arg8 arg9 g2 g3 g4 g5 g6 g8 g9).2.2 = asm (e := .f32) (dvT m c t.val t.isLt) := by
  unfold post
  rw [hd0_eq m c t arg2 arg5 arg6 g2 g5 g6 h2 h5 h6, hd1_eq m c t arg2 arg5 arg6 g2 g5 g6 h2 h5 h6,
    fin_9 c (grid0.coords t) arg3 arg4 arg8 arg9 (hdT m c t) (iblk m c 1 t) (iblk m c 2 t) _ _ g3 g4 _ _ h3 h4
      rfl (read_entry c t k0_pay152 arg9 g9 X9 h9), dvT_eq m c t X9 hX9]
  rfl

include h2 h3 h4 h5 h6 in
theorem post_7 : arg7.view.read (Elt F) (out7 c arg7 g7 (post c t arg2 arg3 arg4 arg5 arg6 arg8 arg9 g2 g3 g4 g5 g6 g8 g9).1) = asmQ (dqT m c t) := by
  have hr := (fin_reached c (grid0.coords t) arg3 arg4 arg8 arg9 (hdT m c t) (iblk m c 1 t) (iblk m c 2 t) _ _ g3 g4
    (entry c (grid0.coords t) k0_pay151 arg8 g8) (entry c (grid0.coords t) k0_pay152 arg9 g9) h3 h4 rfl rfl).1
  refine (read_two arg7 g7 (fun h => k0_pay21 (ch (post c t arg2 arg3 arg4 arg5 arg6 arg8 arg9 g2 g3 g4 g5 g6 g8 g9).1 h).dq)).trans ?_
  congr 1
  funext h
  unfold post dqT
  rw [hd0_eq m c t arg2 arg5 arg6 g2 g5 g6 h2 h5 h6, hd1_eq m c t arg2 arg5 arg6 g2 g5 g6 h2 h5 h6, hr h]
  rfl

end Reads

set_option maxHeartbeats 2000000 in
/-- The body at a point: from the staging buffers as the pipeline hands them over to the staging buffers at `aft`. -/
theorem sound_body (t : Fin cfg0.N) :
    iprop((Pipeline.ΦA spec0 c : sProp 𝕄) ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d)))
    ⊢ wp Idealize.ShloMosaic.frame (wpE (defs₀ (F := F)) 𝒱₀ (c : Thread nD τ) none) Set.univ (bodyAt0 (F := F) t)
        (fun _ => iprop((Pipeline.ΦA spec0 c : sProp 𝕄) ∗ (dats m 0 c).owesAt () t.succ
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t)
          ∗ owns (c : Thread nD τ) (st0_3 t) fullShare ((dats m 0 c).after 3 t)
          ∗ owns (c : Thread nD τ) (st0_4 t) fullShare ((dats m 0 c).after 4 t)
          ∗ owns (c : Thread nD τ) (st0_5 t) fullShare ((dats m 0 c).after 5 t)
          ∗ owns (c : Thread nD τ) (st0_6 t) fullShare ((dats m 0 c).after 6 t)
          ∗ owns (c : Thread nD τ) (st0_7 t) fullShare ((dats m 0 c).after 7 t))) := by
  unfold owns
  iintro ⟨HΦ, Ho, ⟨%d0, %g2, %h2, H2⟩, ⟨%d1, %g3, %h3, H3⟩, ⟨%d2, %g4, %h4, H4⟩, ⟨%d3, %g5, %h5, H5⟩, ⟨%d4, %g6, %h6, H6⟩, ⟨%d5, %g7, %h7, H7⟩, ⟨%d6, %g8, %h8, H8⟩, ⟨%d7, %g9, %h9, H9⟩⟩
  rw [before_0] at h2
  rw [before_1] at h3
  rw [before_2] at h4
  rw [before_3] at h5
  rw [before_4] at h6
  iapply (wp_wand_r Idealize.ShloMosaic.frame (wpE (defs₀ (F := F)) 𝒱₀ (c : Thread nD τ) none) Set.univ)
  isplitl [H2 H3 H4 H5 H6 H7 H8 H9]
  · iapply (run_body c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) g2 g3 g4 g5 g6 g7 g8 g9)
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %u ⟨H2, H3, H4, H5, H6, H7, H8, H9⟩
  isplitl [HΦ]; · iexact HΦ
  isplitl [Ho]; · iexact Ho
  isplitl [H2]
  · iexists _; isplitr; · (ipureintro; exact h2)
    iexact H2
  isplitl [H3]
  · iexists _; isplitr; · (ipureintro; exact h3)
    iexact H3
  isplitl [H4]
  · iexists _; isplitr; · (ipureintro; exact h4)
    iexact H4
  isplitl [H5]
  · iexists _; isplitr; · (ipureintro; exact h5)
    iexact H5
  isplitl [H6]
  · iexists _; isplitr; · (ipureintro; exact h6)
    iexact H6
  isplitl [H7]
  · iexists _; isplitr
    swap; · iexact H7
    ipureintro
    exact post_7 m c t (st0_0 t) (st0_1 t) (st0_2 t) (st0_3 t) (st0_4 t) (st0_5 t) (st0_6 t) (st0_7 t) g2 g3 g4 g5 g6 g7 g8 g9 h2 h3 h4 h5 h6
  isplitl [H8]
  · iexists _; isplitr
    swap; · iexact H8
    ipureintro
    exact post_8 m c t (st0_0 t) (st0_1 t) (st0_2 t) (st0_3 t) (st0_4 t) (st0_6 t) (st0_7 t) g2 g3 g4 g5 g6 g8 g9 _ h2 h3 h4 h5 h6 h8 (fun ht => before_6 m c t ht d6)
  · iexists _; isplitr
    swap; · iexact H9
    ipureintro
    exact post_9 m c t (st0_0 t) (st0_1 t) (st0_2 t) (st0_3 t) (st0_4 t) (st0_6 t) (st0_7 t) g2 g3 g4 g5 g6 g8 g9 _ h2 h3 h4 h5 h6 h9 (fun ht => before_7 m c t ht d7)

theorem defs₀_row (t : Fin cfg0.N) : (defs₀ (F := F)) .tc cfg0.body (cfg0.bodyArgs t (cfg0.slots t)) = bodyAt0 (F := F) t := by
  unfold defs₀
  rw [Defs.onTc_tc]

set_option maxHeartbeats 2000000 in
/-- The body's obligation at every point. -/
theorem body_obligation : Pipeline.BodyObligation (dats m 0 c) (defs₀ (F := F)) 𝒱₀ () Set.univ := fun t => by
  rw [bigSep_W0, bigSep_W0, defs₀_row]
  exact triple_restated (sound_body m c t) rfl .rfl fun _ => .rfl

end Dats

/-- The program's run: it terminates, the arrays end at what the points leave, every counter ends at zero. -/
theorem run_main (m : (ℓ : Loc nD τ sig) → Buf (Elt F) ℓ) (ρ : Dev nD → PrngReg) :
    θ_run defs (onTc (τ := τ) (main (F := F))) (s₀ m ρ) (fun r => Pipeline.FramePost cfgs (dats m) 0 (V m) r ∧ r.2.sem = fun _ => 0) :=
  Pipeline.θ_run_frame_shared cfgs (dats m) 0 launch₀0 defs₀ 𝒱₀ m ρ main (fun c => (body_obligation m c).loose)
    (fun _ _ _ => rfl) (fun _ _ => rfl) (V m) (hmain m 𝒱₀) (fun _ _ => rfl) (fun _ _ => rfl)
    (fun r => Pipeline.FramePost cfgs (dats m) 0 (V m) r ∧ r.2.sem = fun _ => 0)

/-- The arguments end as launched and every counter at zero. -/
theorem frame_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩) (run_main m ρ)

end Cert.Proof.KI

end
-- ==== Proof.Model.lean ====
/-
  The stick-breaking attention of one head over the reals, its gradient, and the identities between the two ways of
  writing them: sums over the later keys split at a sub-block of 256 keys, the row's total, the sigmoid and softplus.
  Rows and columns are natural numbers; every sum is over the 4096 keys or queries, or the 128 features.
-/
module

public import Mathlib.Data.EReal.Operations
public import Mathlib.Analysis.SpecialFunctions.Log.Basic
public import Mathlib.Algebra.BigOperators.Intervals
public import Mathlib.Tactic.Ring
public import Mathlib.Tactic.Linarith

@[expose] public section

noncomputable section

open scoped BigOperators
open Finset

namespace Cert.Proof.SB

/-! ### Softplus and sigmoid -/

/-- Softplus. -/
def spl (x : ℝ) : ℝ := max x 0 + Real.log (1 + Real.exp (-|x|))

/-- The sigmoid, by the softplus. -/
def sgm (x : ℝ) : ℝ := Real.exp (x - spl x)

theorem spl_neg (x : ℝ) : spl (-x) = spl x - x := by
  unfold spl
  rw [abs_neg]
  rcases le_total 0 x with h | h
  · rw [max_eq_left h, max_eq_right (by linarith)]; ring
  · rw [max_eq_right h, max_eq_left (by linarith)]; ring

theorem exp_spl (x : ℝ) : Real.exp (spl x) = 1 + Real.exp x := by
  have hp : 0 < 1 + Real.exp (-|x|) := by positivity
  unfold spl
  rw [Real.exp_add, Real.exp_log hp]
  rcases le_total 0 x with h | h
  · rw [max_eq_left h, abs_of_nonneg h, mul_add, ← Real.exp_add]
    simp [add_comm]
  · rw [max_eq_right h, abs_of_nonpos h]
    simp

/-- The sigmoids of a number and of its negative sum to one. -/
theorem sgm_neg (x : ℝ) : sgm (-x) = 1 - sgm x := by
  have h1 : sgm (-x) = Real.exp (-spl x) := by
    unfold sgm; rw [spl_neg]; congr 1; ring
  have h2 : sgm x = Real.exp x * Real.exp (-spl x) := by
    unfold sgm; rw [← Real.exp_add]; congr 1
  have h3 : Real.exp (-spl x) * (1 + Real.exp x) = 1 := by
    rw [← exp_spl, ← Real.exp_add]; simp
  rw [h1, h2]; linarith

theorem exp_neg_spl_neg (x t : ℝ) : Real.exp (-spl (-x) + t) = sgm x * Real.exp t := by
  unfold sgm; rw [← Real.exp_add, spl_neg]; congr 1; ring

/-! ### Sums over a sub-block -/

theorem sum_block (f : ℕ → ℝ) (A : ℕ) : ∑ y ∈ range 256, f (A + y) = ∑ j ∈ Ico A (A + 256), f j := by
  rw [sum_Ico_eq_sum_range]; simp

/-- The columns of a sub-block after the `y`-th. -/
theorem sum_after (f : ℕ → ℝ) (A y : ℕ) (hy : y < 256) :
    ∑ k ∈ range 256, f (A + k) * (if y < k then 1 else 0) = ∑ j ∈ Ico (A + y + 1) (A + 256), f j := by
  rw [range_eq_Ico, ← sum_Ico_consecutive _ (Nat.zero_le (y + 1)) (by omega : y + 1 ≤ 256)]
  have h1 : ∑ k ∈ Ico 0 (y + 1), f (A + k) * (if y < k then (1 : ℝ) else 0) = 0 :=
    sum_eq_zero fun k hk => by rw [mem_Ico] at hk; rw [if_neg (by omega), mul_zero]
  rw [h1, zero_add, sum_Ico_eq_sum_range, sum_Ico_eq_sum_range]
  rw [show 256 - (y + 1) = A + 256 - (A + y + 1) by omega]
  refine sum_congr rfl fun k _ => ?_
  rw [if_pos (by omega), mul_one]
  congr 1; omega

/-- The columns of a sub-block from the `y`-th on. -/
theorem sum_from (f : ℕ → ℝ) (A y : ℕ) (hy : y < 256) :
    ∑ k ∈ range 256, f (A + k) * (if y ≤ k then 1 else 0) = ∑ j ∈ Ico (A + y) (A + 256), f j := by
  rw [range_eq_Ico, ← sum_Ico_consecutive _ (Nat.zero_le y) (by omega : y ≤ 256)]
  have h1 : ∑ k ∈ Ico 0 y, f (A + k) * (if y ≤ k then (1 : ℝ) else 0) = 0 :=
    sum_eq_zero fun k hk => by rw [mem_Ico] at hk; rw [if_neg (by omega), mul_zero]
  rw [h1, zero_add, sum_Ico_eq_sum_range, sum_Ico_eq_sum_range]
  rw [show 256 - y = A + 256 - (A + y) by omega]
  refine sum_congr rfl fun k _ => ?_
  rw [if_pos (by omega), mul_one]
  congr 1; omega

/-! ### One head -/

/-- The four arrays of one head: queries, keys, values and the result's cotangent; and the scores' scale. -/
structure In where
  q : ℕ → ℕ → ℝ
  k : ℕ → ℕ → ℝ
  v : ℕ → ℕ → ℝ
  d : ℕ → ℕ → ℝ
  c : ℝ

namespace In

variable (X : In)

/-- The score of key `j` for query `i`. -/
def z (i j : ℕ) : ℝ := (∑ x ∈ range 128, X.q i x * X.k j x) * X.c
/-- Its softplus, at the earlier keys. -/
def p (i j : ℕ) : ℝ := if j < i then spl (X.z i j) else 0
/-- The softplus of the keys after `j`. -/
def tail (i j : ℕ) : ℝ := ∑ j' ∈ Ico (j + 1) 4096, X.p i j'
/-- The weight. -/
def a (i j : ℕ) : ℝ := if j < i then sgm (X.z i j) * Real.exp (-X.tail i j) else 0
/-- The weight's cotangent. -/
def u (i j : ℕ) : ℝ := ∑ x ∈ range 128, X.d i x * X.v j x
/-- The weight times its cotangent. -/
def e (i j : ℕ) : ℝ := X.a i j * X.u i j
/-- Those of the keys before `j`. -/
def l (i j : ℕ) : ℝ := ∑ j' ∈ range j, X.e i j'
/-- The score's cotangent. -/
def dz (i j : ℕ) : ℝ := if j < i then (X.e i j - (X.e i j + X.l i j) * sgm (X.z i j)) * X.c else 0
/-- The result. -/
def o (i x : ℕ) : ℝ := ∑ j ∈ range 4096, X.a i j * X.v j x
/-- The queries' gradient. -/
def dq (i x : ℕ) : ℝ := ∑ j ∈ range 4096, X.dz i j * X.k j x
/-- The keys' gradient. -/
def dk (j x : ℕ) : ℝ := ∑ i ∈ range 4096, X.dz i j * X.q i x
/-- The values' gradient. -/
def dv (j x : ℕ) : ℝ := ∑ i ∈ range 4096, X.a i j * X.d i x

/-- The result against its cotangent is the sum of the weights times their cotangents. -/
theorem total (i : ℕ) : ∑ x ∈ range 128, X.d i x * X.o i x = ∑ j ∈ range 4096, X.e i j := by
  simp only [o, e, u, mul_sum]
  rw [sum_comm]
  refine sum_congr rfl fun j _ => sum_congr rfl fun x _ => by ring

/-- What is carried past the sub-blocks from key `B` on: the softplus, -/
def cs (B i : ℕ) : ℝ := ∑ j ∈ Ico B 4096, X.p i j
/-- the weights times their cotangents, -/
def ce (B i : ℕ) : ℝ := ∑ j ∈ Ico B 4096, X.e i j
/-- and the queries' gradient. -/
def cq (B i x : ℕ) : ℝ := ∑ j ∈ Ico B 4096, X.dz i j * X.k j x

theorem cs_within (A i y : ℕ) (hA : A + 256 ≤ 4096) (hy : y < 256) :
    X.cs (A + 256) i + ∑ k ∈ range 256, X.p i (A + k) * (if y < k then 1 else 0) = X.tail i (A + y) := by
  rw [sum_after _ _ _ hy, cs, tail, add_comm, sum_Ico_consecutive _ (by omega) hA]

theorem ce_left (A i y : ℕ) (hA : A + 256 ≤ 4096) (hy : y < 256) :
    ∑ j ∈ range 4096, X.e i j - X.ce (A + 256) i - ∑ k ∈ range 256, X.e i (A + k) * (if y ≤ k then 1 else 0) = X.l i (A + y) := by
  rw [sum_from _ _ _ hy, ce, l, range_eq_Ico, range_eq_Ico, ← sum_Ico_consecutive _ (Nat.zero_le (A + y)) (by omega : A + y ≤ 4096),
    ← sum_Ico_consecutive _ (by omega : A + y ≤ A + 256) hA]
  ring

theorem cs_next (A i : ℕ) (hA : A + 256 ≤ 4096) : X.cs (A + 256) i + ∑ k ∈ range 256, X.p i (A + k) = X.cs A i := by
  rw [sum_block, cs, cs, add_comm, sum_Ico_consecutive _ (by omega) hA]

theorem ce_next (A i : ℕ) (hA : A + 256 ≤ 4096) : X.ce (A + 256) i + ∑ k ∈ range 256, X.e i (A + k) = X.ce A i := by
  rw [sum_block, ce, ce, add_comm, sum_Ico_consecutive _ (by omega) hA]

theorem cq_next (A i x : ℕ) (hA : A + 256 ≤ 4096) :
    X.cq (A + 256) i x + ∑ k ∈ range 256, X.dz i (A + k) * X.k (A + k) x = X.cq A i x := by
  rw [sum_block (fun j => X.dz i j * X.k j x), cq, cq, add_comm, sum_Ico_consecutive _ (by omega) hA]

theorem p_zero (i j : ℕ) (h : i ≤ j) : X.p i j = 0 := if_neg (by omega)
theorem a_zero (i j : ℕ) (h : i ≤ j) : X.a i j = 0 := if_neg (by omega)
theorem e_zero (i j : ℕ) (h : i ≤ j) : X.e i j = 0 := by rw [e, X.a_zero i j h, zero_mul]
theorem dz_zero (i j : ℕ) (h : i ≤ j) : X.dz i j = 0 := if_neg (by omega)

theorem cs_top (B i : ℕ) (h : i ≤ B) : X.cs B i = 0 :=
  sum_eq_zero fun j hj => X.p_zero i j (by rw [mem_Ico] at hj; omega)
theorem ce_top (B i : ℕ) (h : i ≤ B) : X.ce B i = 0 :=
  sum_eq_zero fun j hj => X.e_zero i j (by rw [mem_Ico] at hj; omega)
theorem cq_top (B i x : ℕ) (h : i ≤ B) : X.cq B i x = 0 :=
  sum_eq_zero fun j hj => by rw [X.dz_zero i j (by rw [mem_Ico] at hj; omega), zero_mul]
theorem cq_all (i x : ℕ) : X.cq 0 i x = X.dq i x := by rw [cq, dq, range_eq_Ico]

/-- The keys' gradient from the first `b` blocks of 512 queries, -/
def dkUp (b j x : ℕ) : ℝ := ∑ i ∈ range (512 * b), X.dz i j * X.q i x
/-- and the values'. -/
def dvUp (b j x : ℕ) : ℝ := ∑ i ∈ range (512 * b), X.a i j * X.d i x

theorem sum_more (f : ℕ → ℝ) (b : ℕ) : ∑ i ∈ range (512 * b), f i + ∑ r ∈ range 512, f (512 * b + r) = ∑ i ∈ range (512 * (b + 1)), f i := by
  rw [show 512 * (b + 1) = 512 * b + 512 by ring, sum_range_add]

theorem dkUp_next (b j x : ℕ) : X.dkUp b j x + ∑ r ∈ range 512, X.dz (512 * b + r) j * X.q (512 * b + r) x = X.dkUp (b + 1) j x :=
  sum_more (fun i => X.dz i j * X.q i x) b
theorem dvUp_next (b j x : ℕ) : X.dvUp b j x + ∑ r ∈ range 512, X.a (512 * b + r) j * X.d (512 * b + r) x = X.dvUp (b + 1) j x :=
  sum_more (fun i => X.a i j * X.d i x) b
/-- Queries no later than the key add nothing. -/
theorem dkUp_skip (b j x : ℕ) (h : 512 * (b + 1) ≤ j) : X.dkUp b j x = X.dkUp (b + 1) j x := by
  rw [← dkUp_next, sum_eq_zero (s := range 512) fun r hr => ?_, add_zero]
  rw [mem_range] at hr
  rw [X.dz_zero _ _ (by omega), zero_mul]
theorem dvUp_skip (b j x : ℕ) (h : 512 * (b + 1) ≤ j) : X.dvUp b j x = X.dvUp (b + 1) j x := by
  rw [← dvUp_next, sum_eq_zero (s := range 512) fun r hr => ?_, add_zero]
  rw [mem_range] at hr
  rw [X.a_zero _ _ (by omega), zero_mul]
theorem dkUp_zero (j x : ℕ) : X.dkUp 0 j x = 0 := by simp [dkUp]
theorem dvUp_zero (j x : ℕ) : X.dvUp 0 j x = 0 := by simp [dvUp]
theorem dkUp_all (j x : ℕ) : X.dkUp 8 j x = X.dk j x := rfl
theorem dvUp_all (j x : ℕ) : X.dvUp 8 j x = X.dv j x := rfl

/-- The score's cotangent as automatic differentiation writes it. -/
theorem dz_vjp (i j : ℕ) :
    (X.e i j * sgm (-X.z i j) - (if j < i then X.l i j else 0) * sgm (X.z i j)) * X.c = X.dz i j := by
  unfold dz
  split
  · rw [sgm_neg]; ring
  · rw [X.e_zero i j (by omega)]; ring

end In

end Cert.Proof.SB

end
-- ==== Proof.Tile.lean ====
/-
  The tile functions of `Step` at the ideal values, on tiles that hold reals: each holds the real tile one expects. A
  tile of `n` rows and `m` columns holds the reals `f` when its entry at row `r` and column `c` is `f r c`.
-/
module

public import proofs.«01_k».proof.Proof.Step
public import proofs.«01_k».proof.Proof.Model
public import Idealize.ShloMosaic.PureOps.Ideal.Laws
public import Idealize.ShloMosaic.Lib.Pipeline.Value
public import Idealize.ShloMosaic.Lib.ValueIdx
public import Idealize.ShloMosaic.Lib.ValueLayoutCasts

@[expose] public section

noncomputable section

namespace Cert.Proof.SB

open Cert.KernelIdeal Cert.KernelIdeal.Facts₀
open Idealize.ShloMosaic Idealize.ShloMosaic.TcCoe
open Idealize.ShloMosaic.ValueIdx
open Finset

/-- A tile holds the reals `f`. -/
def Co {n m : ℕ} (x : (⟨2, ![n, m]⟩ : Shape).Idx → EReal) (f : ℕ → ℕ → ℝ) : Prop :=
  ∀ (r : Fin n) (c : Fin m), x (ix2 r c) = ((f r.val c.val : ℝ) : EReal)

theorem Co.congr {n m : ℕ} {x : (⟨2, ![n, m]⟩ : Shape).Idx → EReal} {f g : ℕ → ℕ → ℝ} (h : Co x f)
    (e : ∀ r c, r < n → c < m → f r c = g r c) : Co x g := fun r c => by rw [h r c, e _ _ r.isLt c.isLt]

theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [sum_insert ha, sum_insert ha, ih, EReal.coe_add]

theorem coe_sum_fin (n : ℕ) (f : ℕ → ℝ) : ∑ k : Fin n, ((f k.val : ℝ) : EReal) = ((∑ k ∈ range n, f k : ℝ) : EReal) := by
  rw [coe_sum, Fin.sum_univ_eq_sum_range]

/-- The scores' scale. -/
def cR : ℝ := 11863283 / 2 ^ 27

theorem scale_word : Ideal.ofBits .f32 0x3DB504F3#32 = ((cR : ℝ) : EReal) := by
  unfold cR
  simp [Ideal.ofBits, Ideal.ieee, -EReal.coe_mul]
  norm_num

theorem zero_word : Ideal.ofBits .f32 0x00000000#32 = ((0 : ℝ) : EReal) := by rw [Ideal.ofBits_zero_f32]; rfl
theorem one_word : Ideal.ofBits .f32 0x3F800000#32 = ((1 : ℝ) : EReal) := by
  simp [Ideal.ofBits, Ideal.ieee, -EReal.coe_mul]
  norm_num

/-! ### Products -/

/-- A product of tiles, from its two operands at each index of the sum. -/
theorem co_mm {a b c d e f : ℕ} {φ ψ : FTy} (D : DotDims ⟨2, ![a, b]⟩ ⟨2, ![c, d]⟩ ⟨2, ![e, f]⟩) (n : ℕ)
    (hr : D.contr.rank = 1) (hs : ∀ h : 0 < D.contr.rank, D.contr.size ⟨0, h⟩ = n)
    (x : FVec Ideal ⟨2, ![a, b]⟩ φ) (y : FVec Ideal ⟨2, ![c, d]⟩ ψ) (g : ℕ → ℕ → ℕ → ℝ)
    (h : ∀ (i : Fin e) (j : Fin f) (k : Fin n), x (D.lhsIdx (ix2 i j) ((contrEquiv1 D n hr (hs _)).symm k))
      * y (D.rhsIdx (ix2 i j) ((contrEquiv1 D n hr (hs _)).symm k)) = ((g i.val j.val k.val : ℝ) : EReal)) :
    Co (matmul D none x y (constant ⟨2, ![e, f]⟩ .f32 0x00000000#32)) (fun i j => ∑ k ∈ range n, g i j k) := by
  intro i j
  simp only [matmul]
  rw [Ideal.matmul_constant_zero_apply, ← Equiv.sum_comp (contrEquiv1 D n hr (hs _)).symm]
  rw [← coe_sum_fin]
  exact sum_congr rfl fun k _ => h i j k

theorem lhs11 (i : Fin 512) (j : Fin 256) (k : Fin 128) :
    dot_S512x128_S256x128_S512x256_1_1_0_0_n_n.lhsIdx (ix2 i j)
      ((contrEquiv1 dot_S512x128_S256x128_S512x256_1_1_0_0_n_n 128 rfl rfl).symm k) = ix2 i k := by
  have hk := contrEquiv1_symm_val dot_S512x128_S256x128_S512x256_1_1_0_0_n_n 128 rfl rfl k
  refine funext fun a => Fin.ext (match a with | ⟨0, _⟩ => ?_ | ⟨1, _⟩ => ?_)
  · rfl
  · exact (DotDims.lhsIdx_val_of_single _ rfl _ _).trans hk
theorem rhs11 (i : Fin 512) (j : Fin 256) (k : Fin 128) :
    dot_S512x128_S256x128_S512x256_1_1_0_0_n_n.rhsIdx (ix2 i j)
      ((contrEquiv1 dot_S512x128_S256x128_S512x256_1_1_0_0_n_n 128 rfl rfl).symm k) = ix2 j k := by
  have hk := contrEquiv1_symm_val dot_S512x128_S256x128_S512x256_1_1_0_0_n_n 128 rfl rfl k
  refine funext fun a => Fin.ext (match a with | ⟨0, _⟩ => ?_ | ⟨1, _⟩ => ?_)
  · rfl
  · exact (DotDims.rhsIdx_val_of_single _ rfl _ _).trans hk
theorem lhs10 (i : Fin 512) (j : Fin 256) (k : Fin 256) :
    dot_S512x256_S256x256_S512x256_1_0_0_1_n_n.lhsIdx (ix2 i j)
      ((contrEquiv1 dot_S512x256_S256x256_S512x256_1_0_0_1_n_n 256 rfl rfl).symm k) = ix2 i k := by
  have hk := contrEquiv1_symm_val dot_S512x256_S256x256_S512x256_1_0_0_1_n_n 256 rfl rfl k
  refine funext fun a => Fin.ext (match a with | ⟨0, _⟩ => ?_ | ⟨1, _⟩ => ?_)
  · rfl
  · exact (DotDims.lhsIdx_val_of_single _ rfl _ _).trans hk
theorem rhs10 (i : Fin 512) (j : Fin 256) (k : Fin 256) :
    dot_S512x256_S256x256_S512x256_1_0_0_1_n_n.rhsIdx (ix2 i j)
      ((contrEquiv1 dot_S512x256_S256x256_S512x256_1_0_0_1_n_n 256 rfl rfl).symm k) = ix2 k j := by
  have hk := contrEquiv1_symm_val dot_S512x256_S256x256_S512x256_1_0_0_1_n_n 256 rfl rfl k
  refine funext fun a => Fin.ext (match a with | ⟨0, _⟩ => ?_ | ⟨1, _⟩ => ?_)
  · exact (DotDims.rhsIdx_val_of_single _ rfl _ _).trans hk
  · rfl
theorem lhs00 (i : Fin 256) (j : Fin 128) (k : Fin 512) :
    dot_S512x256_S512x128_S256x128_0_0_1_1_n_n.lhsIdx (ix2 i j)
      ((contrEquiv1 dot_S512x256_S512x128_S256x128_0_0_1_1_n_n 512 rfl rfl).symm k) = ix2 k i := by
  have hk := contrEquiv1_symm_val dot_S512x256_S512x128_S256x128_0_0_1_1_n_n 512 rfl rfl k
  refine funext fun a => Fin.ext (match a with | ⟨0, _⟩ => ?_ | ⟨1, _⟩ => ?_)
  · exact (DotDims.lhsIdx_val_of_single _ rfl _ _).trans hk
  · rfl
theorem rhs00 (i : Fin 256) (j : Fin 128) (k : Fin 512) :
    dot_S512x256_S512x128_S256x128_0_0_1_1_n_n.rhsIdx (ix2 i j)
      ((contrEquiv1 dot_S512x256_S512x128_S256x128_0_0_1_1_n_n 512 rfl rfl).symm k) = ix2 k j := by
  have hk := contrEquiv1_symm_val dot_S512x256_S512x128_S256x128_0_0_1_1_n_n 512 rfl rfl k
  refine funext fun a => Fin.ext (match a with | ⟨0, _⟩ => ?_ | ⟨1, _⟩ => ?_)
  · exact (DotDims.rhsIdx_val_of_single _ rfl _ _).trans hk
  · rfl
theorem lhsQ (i : Fin 512) (j : Fin 128) (k : Fin 256) :
    dot_S512x256_S256x128_S512x128_1_0_0_1_n_n.lhsIdx (ix2 i j)
      ((contrEquiv1 dot_S512x256_S256x128_S512x128_1_0_0_1_n_n 256 rfl rfl).symm k) = ix2 i k := by
  have hk := contrEquiv1_symm_val dot_S512x256_S256x128_S512x128_1_0_0_1_n_n 256 rfl rfl k
  refine funext fun a => Fin.ext (match a with | ⟨0, _⟩ => ?_ | ⟨1, _⟩ => ?_)
  · rfl
  · exact (DotDims.lhsIdx_val_of_single _ rfl _ _).trans hk
theorem rhsQ (i : Fin 512) (j : Fin 128) (k : Fin 256) :
    dot_S512x256_S256x128_S512x128_1_0_0_1_n_n.rhsIdx (ix2 i j)
      ((contrEquiv1 dot_S512x256_S256x128_S512x128_1_0_0_1_n_n 256 rfl rfl).symm k) = ix2 k j := by
  have hk := contrEquiv1_symm_val dot_S512x256_S256x128_S512x128_1_0_0_1_n_n 256 rfl rfl k
  refine funext fun a => Fin.ext (match a with | ⟨0, _⟩ => ?_ | ⟨1, _⟩ => ?_)
  · exact (DotDims.rhsIdx_val_of_single _ rfl _ _).trans hk
  · rfl

theorem co_rows {q : FVec Ideal S512x128 .bf16} {k : Vec Ideal S256x128 .bf16} {fq fk : ℕ → ℕ → ℝ} (hq : Co q fq) (hk : Co k fk) :
    Co (rows q k) (fun r c => ∑ x ∈ range 128, fq r x * fk c x) := by
  unfold rows
  rw [shapeCast_self]
  refine co_mm _ 128 rfl (fun _ => rfl) _ _ _ fun i j x => ?_
  rw [lhs11, rhs11, hq i x, hk j x, ← EReal.coe_mul]

theorem co_tri {x : FVec Ideal S512x256 .bf16} {T : FVec Ideal S256x256 .bf16} {f t : ℕ → ℕ → ℝ} (hx : Co x f) (hT : Co T t) :
    Co (tri x T) (fun r c => ∑ k ∈ range 256, f r k * t k c) := by
  refine co_mm _ 256 rfl (fun _ => rfl) _ _ _ fun i j x => ?_
  rw [lhs10, rhs10, hx i x, hT x j, ← EReal.coe_mul]

theorem co_accT {w : FVec Ideal S512x256 .f32} {x : FVec Ideal S512x128 .bf16} {old : Vec Ideal S256x128 .f32} {fw fx fo : ℕ → ℕ → ℝ}
    (hw : Co w fw) (hx : Co x fx) (ho : Co old fo) :
    Co (accT w x old) (fun c y => fo c y + ∑ r ∈ range 512, fw r c * fx r y) := by
  have h := co_mm dot_S512x256_S512x128_S256x128_0_0_1_1_n_n 512 rfl (fun _ => rfl)
    (truncf .bf16 w bitsLt_bf16_f32) x (fun c y r => fw r c * fx r y) fun i j k => by
      rw [lhs00, rhs00, truncf_apply, hw k i, hx k j, ← EReal.coe_mul]
  intro c y
  unfold accT
  rw [addf_apply, shapeCast_self, ho c y, h c y, ← EReal.coe_add]

theorem co_accQ {w : FVec Ideal S512x256 .f32} {k : Vec Ideal S256x128 .bf16} {old : FVec Ideal S512x128 .f32} {fw fk fo : ℕ → ℕ → ℝ}
    (hw : Co w fw) (hk : Co k fk) (ho : Co old fo) :
    Co (accQ w k old) (fun r x => fo r x + ∑ c ∈ range 256, fw r c * fk c x) := by
  have h := co_mm dot_S512x256_S256x128_S512x128_1_0_0_1_n_n 256 rfl (fun _ => rfl)
    (truncf .bf16 w bitsLt_bf16_f32) k (fun r x c => fw r c * fk c x) fun i j c => by
      rw [lhsQ, rhsQ, truncf_apply, hw i c, hk c j, ← EReal.coe_mul]
  intro r x
  unfold accQ
  rw [addf_apply, shapeCast_self, ho r x, h r x, ← EReal.coe_add]

/-! ### Entry by entry -/

theorem cst_at (w : BitVec 32) (i : S512x256.Idx) : (cst w : FVec Ideal S512x256 .f32) i = Ideal.ofBits .f32 w := rfl

theorem cols_at {x : FVec Ideal S512x1 .f32} {f : ℕ → ℕ → ℝ} (hx : Co x f) (r : Fin 512) (c : Fin 256) :
    cols x (ix2 r c) = ((f r.val 0 : ℝ) : EReal) := by
  rw [show cols x (ix2 r c) = x (ix2 r (0 : Fin 1)) from
    broadcastTo_apply x _ _ _ fun a => match a with | ⟨0, _⟩ => rfl | ⟨1, _⟩ => rfl]
  exact hx r 0

theorem co_rowSum {x : FVec Ideal S512x256 .f32} {f : ℕ → ℕ → ℝ} (hx : Co x f) :
    Co (rowSum x) (fun r _ => ∑ c ∈ range 256, f r c) := by
  intro r u
  show shapeCast S512x1 _ _ (ix2 r u) = _
  rw [shapeCast_a_a1_apply, ← coe_sum_fin]
  refine (Ideal.multiReduction_add_single x _ _ _ _ _).trans ?_
  refine sum_congr rfl fun c _ => ?_
  rw [← hx r c]
  congr 1
  exact funext fun a => Fin.ext (match a with | ⟨0, _⟩ => rfl | ⟨1, _⟩ => rfl)

theorem co_addf {n m : ℕ} {φ : FTy} {x y : FVec Ideal ⟨2, ![n, m]⟩ φ} {f g : ℕ → ℕ → ℝ} (hx : Co x f) (hy : Co y g) :
    Co (addf x y) (fun r c => f r c + g r c) := fun r c => by rw [addf_apply, hx r c, hy r c, ← EReal.coe_add]
theorem co_mulf {n m : ℕ} {φ : FTy} {x y : FVec Ideal ⟨2, ![n, m]⟩ φ} {f g : ℕ → ℕ → ℝ} (hx : Co x f) (hy : Co y g) :
    Co (mulf x y) (fun r c => f r c * g r c) := fun r c => by rw [mulf_apply, hx r c, hy r c, ← EReal.coe_mul]
theorem co_subf {n m : ℕ} {φ : FTy} {x y : FVec Ideal ⟨2, ![n, m]⟩ φ} {f g : ℕ → ℕ → ℝ} (hx : Co x f) (hy : Co y g) :
    Co (subf x y) (fun r c => f r c - g r c) := fun r c => by rw [subf_apply, hx r c, hy r c, ← EReal.coe_sub]
theorem co_truncf {n m : ℕ} {φ ψ : FTy} {x : FVec Ideal ⟨2, ![n, m]⟩ φ} {f : ℕ → ℕ → ℝ} (hx : Co x f) (h : ψ.bits < φ.bits) :
    Co (truncf ψ x h) f := fun r c => by rw [truncf_apply, hx r c]
theorem co_extf {n m : ℕ} {φ ψ : FTy} {x : FVec Ideal ⟨2, ![n, m]⟩ φ} {f : ℕ → ℕ → ℝ} (hx : Co x f) (h : φ.bits < ψ.bits) :
    Co (extf ψ x h) f := fun r c => by rw [extf_apply, hx r c]
theorem co_exp {n m : ℕ} {φ : FTy} {x : FVec Ideal ⟨2, ![n, m]⟩ φ} {f : ℕ → ℕ → ℝ} (hx : Co x f) :
    Co (exp x) (fun r c => Real.exp (f r c)) := fun r c => by
  show Ideal.exp (x (ix2 r c)) = _
  rw [hx r c]; rfl
theorem co_cst {w : BitVec 32} {c : ℝ} (h : Ideal.ofBits .f32 w = (c : EReal)) : Co (cst w : FVec Ideal S512x256 .f32) (fun _ _ => c) :=
  fun _ _ => h
theorem co_cols {x : FVec Ideal S512x1 .f32} {f : ℕ → ℕ → ℝ} (hx : Co x f) : Co (cols x) (fun r _ => f r 0) := fun r c => cols_at hx r c

/-- Softplus on the reals. -/
theorem spl_ideal (x : ℝ) : max (x : EReal) ((0 : ℝ) : EReal) + Ideal.log (((1 : ℝ) : EReal) + Ideal.exp (((0 : ℝ) : EReal) - max (x : EReal) (-(x : EReal))))
    = ((spl x : ℝ) : EReal) := by
  have hp : ¬ (1 + Real.exp (-|x|) ≤ 0) := by have : 0 < Real.exp (-|x|) := Real.exp_pos _; linarith
  have hm (a b : ℝ) : max (a : EReal) (b : EReal) = ((max a b : ℝ) : EReal) := (EReal.coe_strictMono.monotone.map_max).symm
  rw [← EReal.coe_neg, hm, hm, ← EReal.coe_sub, Ideal.exp_coe, ← EReal.coe_add, Ideal.log_coe,
    show max x (-x) = |x| from rfl, zero_sub, if_neg hp, ← EReal.coe_add]
  rfl

theorem co_sp {z : FVec Ideal S512x256 .f32} {f : ℕ → ℕ → ℝ} (hz : Co z f) : Co (sp z) (fun r c => spl (f r c)) := by
  intro r c
  rw [← spl_ideal, ← zero_word, ← one_word, ← hz r c]
  rfl

theorem co_sg {z : FVec Ideal S512x256 .f32} {f : ℕ → ℕ → ℝ} (hz : Co z f) : Co (sg z) (fun r c => sgm (f r c)) :=
  co_exp (co_subf hz (co_sp hz))

theorem co_sz {q : FVec Ideal S512x128 .bf16} {k : Vec Ideal S256x128 .bf16} {fq fk : ℕ → ℕ → ℝ} (hq : Co q fq) (hk : Co k fk) :
    Co (sz q k) (fun r c => (∑ x ∈ range 128, fq r x * fk c x) * cR) :=
  co_mulf (co_rows hq hk) (co_cst scale_word)

/-- A mask is 1 where `p` holds; no mask stands for one that is 1 everywhere. -/
def Ms (M : Option (IVec S512x256 1)) (p : ℕ → ℕ → Prop) [∀ r c, Decidable (p r c)] : Prop :=
  match M with
  | none => ∀ r c, r < 512 → c < 256 → p r c
  | some M => ∀ (r : Fin 512) (c : Fin 256), M (ix2 r c) = BitVec.ofBool (decide (p r.val c.val))

theorem co_msk {M : Option (IVec S512x256 1)} {p : ℕ → ℕ → Prop} [∀ r c, Decidable (p r c)] (hM : Ms M p)
    {x : FVec Ideal S512x256 .f32} {f : ℕ → ℕ → ℝ} (hx : Co x f) : Co (msk M x) (fun r c => if p r c then f r c else 0) := by
  intro r c
  show _ = ((if p r.val c.val then f r.val c.val else 0 : ℝ) : EReal)
  cases M with
  | none => rw [if_pos (hM _ _ r.isLt c.isLt)]; exact hx r c
  | some M =>
    show Scalar.select (M (ix2 r c)) (x (ix2 r c)) (Ideal.ofBits .f32 0x00000000#32) = _
    rw [hM r c, hx r c, zero_word]
    by_cases h : p r.val c.val
    · rw [if_pos h, decide_eq_true h]; rfl
    · rw [if_neg h, decide_eq_false h]; rfl

theorem co_split {e : FVec Ideal S512x256 .f32} {N : FVec Ideal S256x256 .bf16} {f t : ℕ → ℕ → ℝ} (he : Co e f) (hN : Co N t) :
    Co (split e N) (fun r c => ∑ k ∈ range 256, f r k * t k c) := by
  refine (co_addf (co_tri (co_truncf he _) hN) (co_tri (co_truncf (co_subf he (co_extf (co_truncf he _) _)) _) hN)).congr fun r c _ _ => ?_
  simp

/-! ### A sub-block -/

/-- What a head's sub-blocks share, for the queries `R`, …, `R + 511`. -/
structure HdOf (X : In) (R : ℕ) (H : Hd Ideal) : Prop where
  q : Co H.q (fun r x => X.q (R + r) x)
  d : Co H.d (fun r x => X.d (R + r) x)
  tot : Co H.tot (fun r _ => ∑ j ∈ range 4096, X.e (R + r) j)
  L : Co H.L (fun k c => if c < k then 1 else 0)
  N : Co H.N (fun k c => if c ≤ k then 1 else 0)

/-- What is carried past the keys from `B` on, for those queries. -/
structure CyOf (X : In) (R B : ℕ) (C : Cy Ideal) : Prop where
  cs : Co C.cs (fun r _ => X.cs B (R + r))
  ce : Co C.ce (fun r _ => X.ce B (R + r))
  dq : Co C.dq (fun r x => X.cq B (R + r) x)

section Block

variable {X : In} {R A : ℕ} {H : Hd Ideal} {M : Option (IVec S512x256 1)} {K V : Vec Ideal S256x128 .bf16} {C : Cy Ideal}

theorem of_z (hc : X.c = cR) (hH : HdOf X R H) (hK : Co K (fun y x => X.k (A + y) x)) :
    Co (sz H.q K) (fun r y => X.z (R + r) (A + y)) :=
  (co_sz hH.q hK).congr fun r y _ _ => by rw [In.z, hc]

theorem of_p (hc : X.c = cR) (hH : HdOf X R H) (hK : Co K (fun y x => X.k (A + y) x)) (hM : Ms M (fun r y => A + y < R + r)) :
    Co (msk M (sp (sz H.q K))) (fun r y => X.p (R + r) (A + y)) :=
  co_msk hM (co_sp (of_z hc hH hK))

theorem of_a (hA : A + 256 ≤ 4096) (hc : X.c = cR) (hH : HdOf X R H) (hC : CyOf X R (A + 256) C)
    (hK : Co K (fun y x => X.k (A + y) x)) (hM : Ms M (fun r y => A + y < R + r)) :
    Co (H.a M K C) (fun r y => X.a (R + r) (A + y)) := by
  have hz := of_z hc hH hK
  have hw : Co (within H.L M (sz H.q K)) _ := co_tri (co_truncf (of_p hc hH hK hM) _) hH.L
  refine (co_msk hM (co_mulf (co_sg hz) (co_exp (co_subf (co_cst zero_word) (co_addf (co_cols hC.cs) hw))))).congr fun r y _ hy => ?_
  rw [X.cs_within A (R + r) y hA hy, zero_sub]
  rfl

theorem of_e (hA : A + 256 ≤ 4096) (hc : X.c = cR) (hH : HdOf X R H) (hC : CyOf X R (A + 256) C)
    (hK : Co K (fun y x => X.k (A + y) x)) (hV : Co V (fun y x => X.v (A + y) x)) (hM : Ms M (fun r y => A + y < R + r)) :
    Co (H.e M K V C) (fun r y => X.e (R + r) (A + y)) :=
  co_mulf (of_a hA hc hH hC hK hM) (co_rows hH.d hV)

theorem of_dz (hA : A + 256 ≤ 4096) (hc : X.c = cR) (hH : HdOf X R H) (hC : CyOf X R (A + 256) C)
    (hK : Co K (fun y x => X.k (A + y) x)) (hV : Co V (fun y x => X.v (A + y) x)) (hM : Ms M (fun r y => A + y < R + r)) :
    Co (H.dz M K V C) (fun r y => X.dz (R + r) (A + y)) := by
  have he := of_e hA hc hH hC hK hV hM
  refine (co_msk hM (co_mulf (co_subf he (co_mulf (co_addf he (co_subf (co_cols (co_subf hH.tot hC.ce)) (co_split he hH.N)))
    (co_sg (of_z hc hH hK)))) (co_cst scale_word))).congr fun r y _ hy => ?_
  rw [X.ce_left A (R + r) y hA hy, ← hc]
  rfl

theorem of_dk (hA : A + 256 ≤ 4096) (hc : X.c = cR) (hH : HdOf X R H) (hC : CyOf X R (A + 256) C)
    (hK : Co K (fun y x => X.k (A + y) x)) (hV : Co V (fun y x => X.v (A + y) x)) (hM : Ms M (fun r y => A + y < R + r))
    {old : Vec Ideal S256x128 .f32} {fo : ℕ → ℕ → ℝ} (ho : Co old fo) :
    Co (H.dk M K V C old) (fun y x => fo y x + ∑ r ∈ range 512, X.dz (R + r) (A + y) * X.q (R + r) x) :=
  co_accT (of_dz hA hc hH hC hK hV hM) hH.q ho

theorem of_dv (hA : A + 256 ≤ 4096) (hc : X.c = cR) (hH : HdOf X R H) (hC : CyOf X R (A + 256) C)
    (hK : Co K (fun y x => X.k (A + y) x)) (hM : Ms M (fun r y => A + y < R + r))
    {old : Vec Ideal S256x128 .f32} {fo : ℕ → ℕ → ℝ} (ho : Co old fo) :
    Co (H.dv M K C old) (fun y x => fo y x + ∑ r ∈ range 512, X.a (R + r) (A + y) * X.d (R + r) x) :=
  co_accT (of_a hA hc hH hC hK hM) hH.d ho

/-- A sub-block takes what is carried past its end to what is carried past its start. -/
theorem of_next (hA : A + 256 ≤ 4096) (hc : X.c = cR) (hH : HdOf X R H) (hC : CyOf X R (A + 256) C)
    (hK : Co K (fun y x => X.k (A + y) x)) (hV : Co V (fun y x => X.v (A + y) x)) (hM : Ms M (fun r y => A + y < R + r)) :
    CyOf X R A (H.next M K V C) where
  cs := (co_addf hC.cs (co_rowSum (of_p hc hH hK hM))).congr fun r _ _ _ => X.cs_next A (R + r) hA
  ce := (co_addf hC.ce (co_rowSum (of_e hA hc hH hC hK hV hM))).congr fun r _ _ _ => X.ce_next A (R + r) hA
  dq := (co_accQ (of_dz hA hc hH hC hK hV hM) hK hC.dq).congr fun r x _ _ => X.cq_next A (R + r) x hA

end Block

end Cert.Proof.SB

end
-- ==== Proof.Tri.lean ====
/-
  The two triangles and the diagonal block's two masks, entry by entry, and the carried zeros.
-/
module

public import proofs.«01_k».proof.Proof.Tile
public import proofs.«01_k».proof.Proof.Blocks
public import Idealize.ShloMosaic.Lib.WordCmp

@[expose] public section

noncomputable section

namespace Cert.Proof.KI

open Cert.KernelIdeal Cert.KernelIdeal.Gen
open Idealize.ShloMosaic Idealize.ShloMosaic.TcCoe
open Idealize.ShloMosaic.ValueIdx Idealize.ShloMosaic.WordCmp
open Cert.Proof.SB

/-- A decided bit as a float is one or zero. -/
theorem bit_float (p : Prop) [Decidable p] :
    (FloatOps.sitofp (F := Ideal) .f32 ((BitVec.ofBool (decide p)).setWidth 32) : EReal) = (((if p then 1 else 0 : ℝ) : ℝ) : EReal) := by
  by_cases h : p
  · rw [decide_eq_true h, if_pos h]
    show (((BitVec.setWidth 32 (BitVec.ofBool true)).toInt : ℝ) : EReal) = _
    rw [show (BitVec.setWidth 32 (BitVec.ofBool true)).toInt = 1 by decide]; simp
  · rw [decide_eq_false h, if_neg h]
    show (((BitVec.setWidth 32 (BitVec.ofBool false)).toInt : ℝ) : EReal) = _
    rw [show (BitVec.setWidth 32 (BitVec.ofBool false)).toInt = 0 by decide]; simp

/-- The first triangle: 1 where the row is after the column. -/
theorem co_L : Co (k0_pay159 (F := Ideal)) (fun k c => if c < k then 1 else 0) := by
  intro k c
  have hk := k.isLt
  have hc := c.isLt
  show FloatOps.sitofp (F := Ideal) .f32 ((IntOp.cmpi .sgt (BitVec.ofNat 32 (0 * 256 + k.val)) (BitVec.ofNat 32 (0 * 256 + c.val))).setWidth 32) = _
  rw [Nat.zero_mul, Nat.zero_add, Nat.zero_add, cmpi_sgt_ofNat (by omega) (by omega)]
  exact bit_float _

/-- The second: 1 from the diagonal on. -/
theorem co_N : Co (k0_pay160 (F := Ideal)) (fun k c => if c ≤ k then 1 else 0) := by
  intro k c
  have hk := k.isLt
  have hc := c.isLt
  show FloatOps.sitofp (F := Ideal) .f32 ((IntOp.cmpi .sge (BitVec.ofNat 32 (0 * 256 + k.val)) (BitVec.ofNat 32 (0 * 256 + c.val))).setWidth 32) = _
  rw [Nat.zero_mul, Nat.zero_add, Nat.zero_add, cmpi_sge_ofNat (by omega) (by omega)]
  exact bit_float _

/-- The mask of the `n`-th sub-block of query block `b` is 1 where the key is before the query. -/
theorem ms_mk (b n : ℕ) (hn : n ≤ 2 * b + 1) : Ms (mk n) (fun r y => 256 * (2 * b + 1 - n) + y < 512 * b + r) := by
  match n with
  | 0 =>
    intro r y
    have hr := r.isLt
    have hy := y.isLt
    show IntOp.cmpi .slt (IntOp.addi (BitVec.ofNat 32 (0 * 256 + y.val)) (BitVec.ofNat 32 256)) (BitVec.ofNat 32 (0 * 512 + r.val)) = _
    rw [show IntOp.addi (BitVec.ofNat 32 (0 * 256 + y.val)) (BitVec.ofNat 32 256) = BitVec.ofNat 32 (y.val + 256) by
        rw [Nat.zero_mul, Nat.zero_add, BitVec.ofNat_add]; rfl,
      Nat.zero_mul, Nat.zero_add, cmpi_slt_ofNat (by omega) (by omega)]
    exact congrArg BitVec.ofBool (decide_eq_decide.mpr (by omega))
  | 1 =>
    intro r y
    have hr := r.isLt
    have hy := y.isLt
    show IntOp.cmpi .slt (IntOp.addi (BitVec.ofNat 32 (0 * 256 + y.val)) (BitVec.ofNat 32 0)) (BitVec.ofNat 32 (0 * 512 + r.val)) = _
    rw [show IntOp.addi (BitVec.ofNat 32 (0 * 256 + y.val)) (BitVec.ofNat 32 0) = BitVec.ofNat 32 (y.val + 0) by
        rw [Nat.zero_mul, Nat.zero_add, BitVec.ofNat_add]; rfl,
      Nat.zero_mul, Nat.zero_add, Nat.add_zero, cmpi_slt_ofNat (by omega) (by omega)]
    exact congrArg BitVec.ofBool (decide_eq_decide.mpr (by omega))
  | n + 2 =>
    intro r y hr hy
    show 256 * (2 * b + 1 - (n + 2)) + y < 512 * b + r
    omega

/-- Nothing is carried into a point. -/
theorem of_cy0 (X : In) (R B : ℕ) (h : R + 511 ≤ B) : CyOf X R B (cy0 (F := Ideal)) where
  cs := fun r _ => zero_word.trans (congrArg _ (X.cs_top B (R + r.val) (by have := r.isLt; omega)).symm)
  ce := fun r _ => zero_word.trans (congrArg _ (X.ce_top B (R + r.val) (by have := r.isLt; omega)).symm)
  dq := fun r x => zero_word.trans (congrArg _ (X.cq_top B (R + r.val) x.val (by have := r.isLt; omega)).symm)

section Point

variable {X : In} {b : ℕ} {H : Hd Ideal} {K V : Fin 16 → Vec Ideal S256x128 .bf16}

/-- What is carried before the `n`-th sub-block. -/
theorem of_cyAt (hb : b < 8) (hc : X.c = cR) (hH : HdOf X (512 * b) H) (hK : ∀ s, Co (K s) (fun y x => X.k (256 * s.val + y) x))
    (hV : ∀ s, Co (V s) (fun y x => X.v (256 * s.val + y) x)) (n : ℕ) (hn : n ≤ 2 * b + 2) :
    CyOf X (512 * b) (256 * (2 * b + 2 - n)) (cyAt b H K V n) := by
  induction n with
  | zero => exact of_cy0 X _ _ (by omega)
  | succ n ih =>
    have v : (sbk b n).val = 2 * b + 1 - n := Nat.mod_eq_of_lt (by omega)
    have hC := ih (by omega)
    rw [show 256 * (2 * b + 2 - n) = 256 * (2 * b + 1 - n) + 256 by omega] at hC
    rw [show 2 * b + 2 - (n + 1) = 2 * b + 1 - n by omega]
    have hk := hK (sbk b n)
    have hv := hV (sbk b n)
    rw [v] at hk hv
    exact of_next (by omega) hc hH hC hk hv (ms_mk b n (by omega))

/-- The queries' gradient's block. -/
theorem of_dq (hb : b < 8) (hc : X.c = cR) (hH : HdOf X (512 * b) H) (hK : ∀ s, Co (K s) (fun y x => X.k (256 * s.val + y) x))
    (hV : ∀ s, Co (V s) (fun y x => X.v (256 * s.val + y) x)) :
    Co (k0_pay21 (cyAt b H K V (2 * b + 2)).dq) (fun r x => X.dq (512 * b + r) x) := by
  have h := (of_cyAt hb hc hH hK hV (2 * b + 2) le_rfl).dq
  refine (co_truncf h bitsLt_bf16_f32).congr fun r x _ _ => ?_
  rw [show 256 * (2 * b + 2 - (2 * b + 2)) = 0 by omega, X.cq_all]

/-- A point takes the keys' gradient from the blocks of queries before its own to those up to its own, -/
theorem of_dkB (hb : b < 8) (hc : X.c = cR) (hH : HdOf X (512 * b) H) (hK : ∀ s, Co (K s) (fun y x => X.k (256 * s.val + y) x))
    (hV : ∀ s, Co (V s) (fun y x => X.v (256 * s.val + y) x)) {old : Fin 16 → Vec Ideal S256x128 .f32}
    (ho : ∀ s, Co (old s) (fun y x => X.dkUp b (256 * s.val + y) x)) (s : Fin 16) :
    Co (dkB b H K V old s) (fun y x => X.dkUp (b + 1) (256 * s.val + y) x) := by
  unfold dkB
  split
  · rename_i h
    have hC := of_cyAt hb hc hH hK hV (2 * b + 1 - s.val) (by omega)
    rw [show 256 * (2 * b + 2 - (2 * b + 1 - s.val)) = 256 * s.val + 256 by omega] at hC
    have hM := ms_mk b (2 * b + 1 - s.val) (by omega)
    rw [show 2 * b + 1 - (2 * b + 1 - s.val) = s.val by omega] at hM
    exact (of_dk (by omega) hc hH hC (hK s) (hV s) hM (ho s)).congr fun y x _ _ => X.dkUp_next _ _ _
  · exact (ho s).congr fun y x _ _ => X.dkUp_skip _ _ _ (by omega)

/-- and the values' likewise. -/
theorem of_dvB (hb : b < 8) (hc : X.c = cR) (hH : HdOf X (512 * b) H) (hK : ∀ s, Co (K s) (fun y x => X.k (256 * s.val + y) x))
    (hV : ∀ s, Co (V s) (fun y x => X.v (256 * s.val + y) x)) {old : Fin 16 → Vec Ideal S256x128 .f32}
    (ho : ∀ s, Co (old s) (fun y x => X.dvUp b (256 * s.val + y) x)) (s : Fin 16) :
    Co (dvB b H K V old s) (fun y x => X.dvUp (b + 1) (256 * s.val + y) x) := by
  unfold dvB
  split
  · rename_i h
    have hC := of_cyAt hb hc hH hK hV (2 * b + 1 - s.val) (by omega)
    rw [show 256 * (2 * b + 2 - (2 * b + 1 - s.val)) = 256 * s.val + 256 by omega] at hC
    have hM := ms_mk b (2 * b + 1 - s.val) (by omega)
    rw [show 2 * b + 1 - (2 * b + 1 - s.val) = s.val by omega] at hM
    exact (of_dv (by omega) hc hH hC (hK s) hM (ho s)).congr fun y x _ _ => X.dvUp_next _ _ _
  · exact (ho s).congr fun y x _ _ => X.dvUp_skip _ _ _ (by omega)

end Point

end Cert.Proof.KI

end
-- ==== Proof.Window.lean ====
/-
  Two running sums along the last axis of a three-axis array, as `stablehlo.reduce_window` states them: the sum from a
  position to the end, and the sum from the start to a position.
-/
module

public import proofs.«01_k».proof.Proof.Tile

@[expose] public section

noncomputable section

namespace Cert.Proof.SB

open Idealize.ShloMosaic Idealize.ShloMosaic.ValueIdx
open Finset

/-- A left fold of additions from zero is the sum. -/
theorem foldl_sum (n : ℕ) (g : Fin n → EReal) : (List.finRange n).foldl (fun r i => r + g i) 0 = ∑ i, g i := by
  rw [Fin.sum_univ_def, List.sum_eq_foldl, List.foldl_map]

theorem numel_line (n : ℕ) : (⟨3, ![1, 1, n]⟩ : Shape).numel = n := by
  simp [Shape.numel, Fin.prod_univ_three]

/-- Position `w` of a one-by-one-by-`n` window is its `w`-th along the last axis. -/
theorem symm_line (n : ℕ) (w : Fin (⟨3, ![1, 1, n]⟩ : Shape).numel) :
    (((⟨3, ![1, 1, n]⟩ : Shape).rowMajor.symm w) 0).val = 0 ∧ (((⟨3, ![1, 1, n]⟩ : Shape).rowMajor.symm w) 1).val = 0
      ∧ (((⟨3, ![1, 1, n]⟩ : Shape).rowMajor.symm w) 2).val = w.val := by
  have h := Shape.rowMajor_val_three (d := ![1, 1, n]) ((⟨3, ![1, 1, n]⟩ : Shape).rowMajor.symm w)
  rw [Equiv.apply_symm_apply] at h
  have h0 : (((⟨3, ![1, 1, n]⟩ : Shape).rowMajor.symm w) 0).val < 1 := (((⟨3, ![1, 1, n]⟩ : Shape).rowMajor.symm w) 0).isLt
  have h1 : (((⟨3, ![1, 1, n]⟩ : Shape).rowMajor.symm w) 1).val < 1 := (((⟨3, ![1, 1, n]⟩ : Shape).rowMajor.symm w) 1).isLt
  have e0 : (((⟨3, ![1, 1, n]⟩ : Shape).rowMajor.symm w) 0).val = 0 := by omega
  have e1 : (((⟨3, ![1, 1, n]⟩ : Shape).rowMajor.symm w) 1).val = 0 := by omega
  refine ⟨e0, e1, ?_⟩
  rw [e0, e1] at h
  rw [h]
  simp

variable {A B n : ℕ}

/-- The window sum as a sum over the window's positions, padding counted as zero. -/
theorem window_sum (lo hi : ℕ) (x : (⟨3, ![A, B, n]⟩ : Shape).Idx → EReal) (f : ℕ → ℝ)
    (h : (⟨3, ![A, B, n]⟩ : Shape).ReduceWindows ![1, 1, n] ![1, 1, 1] ![0, 0, lo] ![0, 0, hi] (⟨3, ![A, B, n]⟩ : Shape))
    (i : Fin A) (j : Fin B) (k : Fin n) (hx : ∀ k', x (ix3 i j k') = ((f k'.val : ℝ) : EReal)) :
    Ideal.hostReduceWindowAdd ![1, 1, n] ![1, 1, 1] ![0, 0, lo] ![0, 0, hi] h x 0 (ix3 i j k)
      = ((∑ w ∈ range n, (if lo ≤ k.val + w ∧ k.val + w - lo < n then f (k.val + w - lo) else 0) : ℝ) : EReal) := by
  unfold Ideal.hostReduceWindowAdd
  refine (foldl_sum _ _).trans ?_
  refine (Finset.sum_congr (g := fun w : Fin (⟨3, ![1, 1, n]⟩ : Shape).numel =>
    (((fun w : ℕ => if lo ≤ k.val + w ∧ k.val + w - lo < n then f (k.val + w - lo) else 0) w.val : ℝ) : EReal)) rfl fun w _ => ?_).trans ?_
  · obtain ⟨e0, e1, e2⟩ := symm_line n w
    have hi0 := i.isLt
    have hj0 := j.isLt
    dsimp only
    split
    · next hin =>
      have h2 := hin 2
      change lo ≤ k.val * 1 + (((⟨3, ![1, 1, n]⟩ : Shape).rowMajor.symm w) 2).val
        ∧ k.val * 1 + (((⟨3, ![1, 1, n]⟩ : Shape).rowMajor.symm w) 2).val - lo < n at h2
      rw [e2, Nat.mul_one] at h2
      rw [if_pos h2]
      refine (congrArg x (funext fun a => Fin.ext ?_)).trans (hx ⟨k.val + w.val - lo, h2.2⟩)
      match a with
      | ⟨0, _⟩ =>
        show i.val * 1 + (((⟨3, ![1, 1, n]⟩ : Shape).rowMajor.symm w) 0).val - 0 = i.val
        rw [e0]; omega
      | ⟨1, _⟩ =>
        show j.val * 1 + (((⟨3, ![1, 1, n]⟩ : Shape).rowMajor.symm w) 1).val - 0 = j.val
        rw [e1]; omega
      | ⟨2, _⟩ =>
        show k.val * 1 + (((⟨3, ![1, 1, n]⟩ : Shape).rowMajor.symm w) 2).val - lo = k.val + w.val - lo
        rw [e2]; omega
    · next hin =>
      rw [if_neg]
      · rfl
      · rintro ⟨g1, g2⟩
        refine hin fun a => ?_
        match a with
        | ⟨0, _⟩ =>
          show 0 ≤ i.val * 1 + (((⟨3, ![1, 1, n]⟩ : Shape).rowMajor.symm w) 0).val
            ∧ i.val * 1 + (((⟨3, ![1, 1, n]⟩ : Shape).rowMajor.symm w) 0).val - 0 < A
          rw [e0]; omega
        | ⟨1, _⟩ =>
          show 0 ≤ j.val * 1 + (((⟨3, ![1, 1, n]⟩ : Shape).rowMajor.symm w) 1).val
            ∧ j.val * 1 + (((⟨3, ![1, 1, n]⟩ : Shape).rowMajor.symm w) 1).val - 0 < B
          rw [e1]; omega
        | ⟨2, _⟩ =>
          show lo ≤ k.val * 1 + (((⟨3, ![1, 1, n]⟩ : Shape).rowMajor.symm w) 2).val
            ∧ k.val * 1 + (((⟨3, ![1, 1, n]⟩ : Shape).rowMajor.symm w) 2).val - lo < n
          rw [e2]; omega
  · rw [coe_sum_fin _ (fun w : ℕ => if lo ≤ k.val + w ∧ k.val + w - lo < n then f (k.val + w - lo) else 0), numel_line]

/-- The sum from a position to the end. -/
theorem sum_to_end (hi : ℕ) (x : (⟨3, ![A, B, n]⟩ : Shape).Idx → EReal) (f : ℕ → ℝ)
    (h : (⟨3, ![A, B, n]⟩ : Shape).ReduceWindows ![1, 1, n] ![1, 1, 1] ![0, 0, 0] ![0, 0, hi] (⟨3, ![A, B, n]⟩ : Shape))
    (i : Fin A) (j : Fin B) (k : Fin n) (hx : ∀ k', x (ix3 i j k') = ((f k'.val : ℝ) : EReal)) :
    Ideal.hostReduceWindowAdd ![1, 1, n] ![1, 1, 1] ![0, 0, 0] ![0, 0, hi] h x 0 (ix3 i j k)
      = ((∑ k' ∈ Ico k.val n, f k' : ℝ) : EReal) := by
  rw [window_sum 0 hi x f h i j k hx]
  congr 1
  have hk := k.isLt
  rw [sum_Ico_eq_sum_range]
  have e : range n = range ((n - k.val) + k.val) := by congr 1; omega
  rw [e, sum_range_add]
  rw [show ∑ x ∈ range k.val, (if 0 ≤ k.val + (n - k.val + x) ∧ k.val + (n - k.val + x) - 0 < n then f (k.val + (n - k.val + x) - 0) else 0) = 0 from
    sum_eq_zero fun w _ => if_neg (by omega), add_zero]
  refine sum_congr rfl fun w hw => ?_
  rw [mem_range] at hw
  rw [if_pos (by omega), Nat.sub_zero]

/-- The sum from the start to a position. -/
theorem sum_from_start (m : ℕ) (hm : m + 1 = n) (x : (⟨3, ![A, B, n]⟩ : Shape).Idx → EReal) (f : ℕ → ℝ)
    (h : (⟨3, ![A, B, n]⟩ : Shape).ReduceWindows ![1, 1, n] ![1, 1, 1] ![0, 0, m] ![0, 0, 0] (⟨3, ![A, B, n]⟩ : Shape))
    (i : Fin A) (j : Fin B) (k : Fin n) (hx : ∀ k', x (ix3 i j k') = ((f k'.val : ℝ) : EReal)) :
    Ideal.hostReduceWindowAdd ![1, 1, n] ![1, 1, 1] ![0, 0, m] ![0, 0, 0] h x 0 (ix3 i j k)
      = ((∑ k' ∈ range (k.val + 1), f k' : ℝ) : EReal) := by
  rw [window_sum m 0 x f h i j k hx]
  congr 1
  have hk := k.isLt
  have e : range n = range ((m - k.val) + (k.val + 1)) := by congr 1; omega
  rw [e, sum_range_add]
  rw [show ∑ x ∈ range (m - k.val), (if m ≤ k.val + x ∧ k.val + x - m < n then f (k.val + x - m) else 0) = 0 from
    sum_eq_zero fun w hw => if_neg (by rw [mem_range] at hw; omega), zero_add]
  refine sum_congr rfl fun w hw => ?_
  rw [mem_range] at hw
  rw [if_pos (by omega)]
  congr 1; omega

/-- The same of the host's operation, from an initial value of zero. -/
theorem host_to_end (hi : ℕ) (x : FVec Ideal ⟨3, ![A, B, n]⟩ .f32) {u : Shape} (v : FVec Ideal u .f32) (f : ℕ → ℝ)
    (h : (⟨3, ![A, B, n]⟩ : Shape).ReduceWindows ![1, 1, n] ![1, 1, 1] ![0, 0, 0] ![0, 0, hi] (⟨3, ![A, B, n]⟩ : Shape))
    (hu : 0 < u.numel) (hv : v (Shape.Idx.first hu) = (0 : EReal))
    (i : Fin A) (j : Fin B) (k : Fin n) (hx : ∀ k', x (ix3 i j k') = ((f k'.val : ℝ) : EReal)) :
    Host.reduceWindowAdd ![1, 1, n] ![1, 1, 1] ![0, 0, 0] ![0, 0, hi] x v h hu (ix3 i j k)
      = ((∑ k' ∈ Ico k.val n, f k' : ℝ) : EReal) := by
  refine Eq.trans ?_ (sum_to_end hi x f h i j k hx)
  show Ideal.hostReduceWindowAdd ![1, 1, n] ![1, 1, 1] ![0, 0, 0] ![0, 0, hi] h x (v (Shape.Idx.first hu)) (ix3 i j k) = _
  rw [hv]

theorem host_from_start (m : ℕ) (hm : m + 1 = n) (x : FVec Ideal ⟨3, ![A, B, n]⟩ .f32) {u : Shape} (v : FVec Ideal u .f32) (f : ℕ → ℝ)
    (h : (⟨3, ![A, B, n]⟩ : Shape).ReduceWindows ![1, 1, n] ![1, 1, 1] ![0, 0, m] ![0, 0, 0] (⟨3, ![A, B, n]⟩ : Shape))
    (hu : 0 < u.numel) (hv : v (Shape.Idx.first hu) = (0 : EReal))
    (i : Fin A) (j : Fin B) (k : Fin n) (hx : ∀ k', x (ix3 i j k') = ((f k'.val : ℝ) : EReal)) :
    Host.reduceWindowAdd ![1, 1, n] ![1, 1, 1] ![0, 0, m] ![0, 0, 0] x v h hu (ix3 i j k)
      = ((∑ k' ∈ range (k.val + 1), f k' : ℝ) : EReal) := by
  refine Eq.trans ?_ (sum_from_start m hm x f h i j k hx)
  show Ideal.hostReduceWindowAdd ![1, 1, n] ![1, 1, 1] ![0, 0, m] ![0, 0, 0] h x (v (Shape.Idx.first hu)) (ix3 i j k) = _
  rw [hv]

end Cert.Proof.SB
-- ==== Proof.Heads.lean ====
/-
  The heads of the two arguments: the arrays of head `h` read from the packed queries, keys and values and from the
  result's cotangent; and two- and three-axis arrays that hold reals.
-/
module

public import proofs.«01_k».proof.Proof.Tile

@[expose] public section

noncomputable section

namespace Cert.Proof.SB

open Idealize.ShloMosaic Idealize.ShloMosaic.ValueIdx
open Finset

/-- The real an array holds at a row and a column; zero outside it. -/
def rd {n m : ℕ} (x : (⟨2, ![n, m]⟩ : Shape).Idx → EReal) (r c : ℕ) : ℝ :=
  if h : r < n ∧ c < m then (x (ix2 ⟨r, h.1⟩ ⟨c, h.2⟩)).toReal else 0

/-- Every entry is a real. -/
def Fin2 {n m : ℕ} (x : (⟨2, ![n, m]⟩ : Shape).Idx → EReal) : Prop := ∀ i, ∃ r : ℝ, x i = (r : EReal)

theorem rd_co {n m : ℕ} {x : (⟨2, ![n, m]⟩ : Shape).Idx → EReal} (hx : Fin2 x) : Co x (rd x) := fun r c => by
  obtain ⟨s, hs⟩ := hx (ix2 r c)
  unfold rd
  rw [dif_pos ⟨r.isLt, c.isLt⟩, hs, EReal.toReal_coe]

/-- An entry named by the values of its coordinates. -/
theorem Co.at {n m : ℕ} {x : (⟨2, ![n, m]⟩ : Shape).Idx → EReal} {f : ℕ → ℕ → ℝ} (hx : Co x f) (i : (⟨2, ![n, m]⟩ : Shape).Idx)
    (r c : ℕ) (h0 : (i 0).val = r) (h1 : (i 1).val = c) : x i = ((f r c : ℝ) : EReal) := by
  subst h0 h1
  exact (congrArg x (eq_ix2 i)).trans (hx (i 0) (i 1))

/-- Head `h`: 128 columns of each array. -/
def headIn (a0 : (⟨2, ![4096, 3072]⟩ : Shape).Idx → EReal) (a1 : (⟨2, ![4096, 1024]⟩ : Shape).Idx → EReal) (h : ℕ) : In where
  q i x := rd a0 i (128 * h + x)
  k j x := rd a0 j (1024 + (128 * h + x))
  v j x := rd a0 j (2048 + (128 * h + x))
  d i x := rd a1 i (128 * h + x)
  c := cR

/-- A three-axis array holds the reals `f`. -/
def Co3 {a n m : ℕ} (x : (⟨3, ![a, n, m]⟩ : Shape).Idx → EReal) (f : ℕ → ℕ → ℕ → ℝ) : Prop :=
  ∀ (h : Fin a) (r : Fin n) (c : Fin m), x (ix3 h r c) = ((f h.val r.val c.val : ℝ) : EReal)

theorem Co3.at {a n m : ℕ} {x : (⟨3, ![a, n, m]⟩ : Shape).Idx → EReal} {f : ℕ → ℕ → ℕ → ℝ} (hx : Co3 x f)
    (i : (⟨3, ![a, n, m]⟩ : Shape).Idx) (h r c : ℕ) (h0 : (i 0).val = h) (h1 : (i 1).val = r) (h2 : (i 2).val = c) :
    x i = ((f h r c : ℝ) : EReal) := by
  subst h0 h1 h2
  exact (congrArg x (eq_ix3 i)).trans (hx (i 0) (i 1) (i 2))

end Cert.Proof.SB
-- ==== Proof.Ref.lean ====
/-
  The reference, one operation at a time, at arguments that hold reals: what each array holds, head by head, in the
  terms of `Model`.
-/
module

public import proofs.«01_k».proof.Proof.Gen.ReferenceIdeal.Read
public import proofs.«01_k».proof.Proof.Window
public import proofs.«01_k».proof.Proof.Heads
public import Idealize.ShloMosaic.Lib.WordCmp

@[expose] public section

set_option maxRecDepth 8192

noncomputable section

namespace Cert.Proof.SB

open Cert.ReferenceIdeal Cert.ReferenceIdeal.Gen Cert.ReferenceIdeal.Read
open Idealize.ShloMosaic Idealize.ShloMosaic.TcCoe
open Idealize.ShloMosaic.ValueIdx
open Finset

/-! ### The operations at reals -/

section Ops

variable {a b : Ideal .f32} {s t : ℝ}

theorem mulC (ha : a = (s : EReal)) (hb : b = (t : EReal)) : FloatOps.mulf a b = ((s * t : ℝ) : EReal) := by
  rw [ha, hb]; exact (EReal.coe_mul s t).symm
theorem addC (ha : a = (s : EReal)) (hb : b = (t : EReal)) : FloatOps.addf a b = ((s + t : ℝ) : EReal) := by
  rw [ha, hb]; exact (EReal.coe_add s t).symm
theorem subC (ha : a = (s : EReal)) (hb : b = (t : EReal)) : FloatOps.subf a b = ((s - t : ℝ) : EReal) := by
  rw [ha, hb]; exact (EReal.coe_sub s t).symm
theorem negC (ha : a = (s : EReal)) : FloatOps.hostNegf a = ((-s : ℝ) : EReal) := by
  rw [ha]; exact (EReal.coe_neg s).symm
theorem expC (ha : a = (s : EReal)) : FloatOps.hostUnary .exp a = ((Real.exp s : ℝ) : EReal) := by
  rw [ha]; exact Ideal.exp_coe s

theorem selC (p : Prop) [Decidable p] (ha : a = (s : EReal)) (hb : b = (t : EReal)) :
    Scalar.select (BitVec.ofBool (decide p)) a b = ((if p then s else t : ℝ) : EReal) := by
  by_cases h : p
  · rw [if_pos h, decide_eq_true h]; exact ha
  · rw [if_neg h, decide_eq_false h]; exact hb

theorem coeEq {s t : ℝ} (h : s = t) : (s : EReal) = (t : EReal) := congrArg _ h

theorem zeroC : FloatOps.ofBits (F := Ideal) .f32 0x00000000#32 = ((0 : ℝ) : EReal) := zero_word

theorem inf_word : Ideal.ofBits .f32 0x7F800000#32 = (⊤ : EReal) := by
  simp [Ideal.ofBits, Ideal.ieee]

/-- A real is not infinity. -/
theorem not_inf (ha : a = (s : EReal)) :
    FloatOps.cmpf .oeq a (FloatOps.ofBits (F := Ideal) .f32 0x7F800000#32) = 0#1 := by
  rw [ha]
  show Ideal.cmp .oeq (s : EReal) (Ideal.ofBits .f32 0x7F800000#32) = 0#1
  rw [inf_word]
  simp [Ideal.cmp]

/-- The guarded choice keeps a real. -/
theorem guardC {z : Ideal .f32} (ha : a = (s : EReal)) :
    Scalar.select (FloatOps.cmpf .oeq a (FloatOps.ofBits (F := Ideal) .f32 0x7F800000#32)) z a = (s : EReal) := by
  rw [not_inf ha]; exact ha

/-- The softplus as the host states it. -/
theorem splC (ha : a = (s : EReal)) :
    Scalar.select (FloatOps.cmpf .une (FloatOps.subf a (FloatOps.ofBits (F := Ideal) .f32 0x00000000#32))
        (FloatOps.subf a (FloatOps.ofBits (F := Ideal) .f32 0x00000000#32)))
      (FloatOps.addf a (FloatOps.ofBits (F := Ideal) .f32 0x00000000#32))
      (FloatOps.addf (FloatOps.maximumf a (FloatOps.ofBits (F := Ideal) .f32 0x00000000#32))
        (FloatOps.hostUnary .log1p (FloatOps.hostUnary .exp (FloatOps.hostNegf (FloatOps.hostAbsf
          (FloatOps.subf a (FloatOps.ofBits (F := Ideal) .f32 0x00000000#32)))))))
      = ((spl s : ℝ) : EReal) := by
  rw [subC ha zeroC, ha, sub_zero]
  have h : FloatOps.cmpf (F := Ideal) (φ := .f32) .une (s : EReal) (s : EReal) = 0#1 := by
    show Ideal.cmp .une (s : EReal) (s : EReal) = 0#1
    simp [Ideal.cmp]
  rw [h, ← spl_ideal s]
  show max (s : EReal) (Ideal.ofBits .f32 0x00000000#32) + Ideal.log (1 + Ideal.exp (-max (s : EReal) (-(s : EReal)))) = _
  rw [zero_word, EReal.coe_one, EReal.coe_zero, zero_sub]

end Ops

/-! ### The arrays -/

variable {x0 : (⟨2, ![4096, 3072]⟩ : Shape).Idx → EReal} {x1 : (⟨2, ![4096, 1024]⟩ : Shape).Idx → EReal}

/-- The heads of the two arguments. -/
local notation "H" => headIn x0 x1

theorem ref_q (h0 : Fin2 x0) : Co3 (val_main_v4 (F := Ideal) x0) (fun h i x => rd x0 i (128 * h + x)) := fun h r c => by
  rw [val_main_v4_apply, val_main_v3_apply, val_main_v0_apply]
  have := h.isLt; have := r.isLt; have := c.isLt
  exact (rd_co h0).at _ _ _ (by show ((r.val * 8 + h.val) * 128 + c.val) / 1024 = r.val; omega)
    (by show ((r.val * 8 + h.val) * 128 + c.val) % 1024 = 128 * h.val + c.val; omega)

theorem ref_k (h0 : Fin2 x0) : Co3 (val_main_v6 (F := Ideal) x0) (fun h i x => rd x0 i (1024 + (128 * h + x))) := fun h r c => by
  rw [val_main_v6_apply, val_main_v5_apply, val_main_v1_apply]
  have := h.isLt; have := r.isLt; have := c.isLt
  exact (rd_co h0).at _ _ _ (by show ((r.val * 8 + h.val) * 128 + c.val) / 1024 = r.val; omega)
    (by show 1024 + ((r.val * 8 + h.val) * 128 + c.val) % 1024 = 1024 + (128 * h.val + c.val); omega)

theorem ref_v (h0 : Fin2 x0) : Co3 (val_main_v8 (F := Ideal) x0) (fun h i x => rd x0 i (2048 + (128 * h + x))) := fun h r c => by
  rw [val_main_v8_apply, val_main_v7_apply, val_main_v2_apply]
  have := h.isLt; have := r.isLt; have := c.isLt
  exact (rd_co h0).at _ _ _ (by show ((r.val * 8 + h.val) * 128 + c.val) / 1024 = r.val; omega)
    (by show 2048 + ((r.val * 8 + h.val) * 128 + c.val) % 1024 = 2048 + (128 * h.val + c.val); omega)

theorem ref_d (h1 : Fin2 x1) : Co3 (val_main_v31 (F := Ideal) x1) (fun h i x => rd x1 i (128 * h + x)) := fun h r c => by
  rw [val_main_v31_apply, val_main_v30_apply]
  have := h.isLt; have := r.isLt; have := c.isLt
  exact (rd_co h1).at _ _ _ (by show ((r.val * 8 + h.val) * 128 + c.val) / 1024 = r.val; omega)
    (by show ((r.val * 8 + h.val) * 128 + c.val) % 1024 = 128 * h.val + c.val; omega)

/-- The scores. -/
theorem ref_z (h0 : Fin2 x0) (h1 : Fin2 x1) : Co3 (val_main_v12 (F := Ideal) x0) (fun h i j => (H h).z i j) := fun h r c => by
  refine (val_main_v12_apply _ _).trans (mulC ?_ ?_)
  · rw [val_main_v10_apply]
    refine (sum_congr rfl fun k _ => ?_).trans (coe_sum_fin 128 (fun x => (H h).q r.val x * (H h).k c.val x))
    exact (congrArg₂ (· * ·) ((ref_q h0).at _ h.val r.val k.val rfl rfl rfl) ((ref_k h0).at _ h.val c.val k.val rfl rfl rfl)).trans
      (EReal.coe_mul _ _).symm
  · exact scale_word

/-- The mask of the earlier keys. -/
theorem ref_mask (i : S4096x4096.Idx) : val_main_v17 (F := Ideal) i = BitVec.ofBool (decide ((i 1).val < (i 0).val)) := by
  rw [val_main_v17_apply, val_main_v15_apply, val_main_v16_apply, val_main_v13_apply, val_main_v14_apply, val_main_v9_apply, val_main_v9_apply]
  have ha : (i 1).val < 4096 := (i 1).isLt
  have hb : (i 0).val < 4096 := (i 0).isLt
  exact WordCmp.cmpi_slt_ofNat (by show (i 1).val < 2 ^ 31; omega) (by show (i 0).val < 2 ^ 31; omega)

theorem ref_mask0 (h : Fin 8) (r c : Fin 4096) : val_main_v20_1 (F := Ideal) (ix3 h r c) = BitVec.ofBool (decide (c.val < r.val)) :=
  (val_main_v20_1_apply _).trans (ref_mask _)
theorem ref_mask1 (h : Fin 8) (r c : Fin 4096) : val_main_v26_1 (F := Ideal) (ix3 h r c) = BitVec.ofBool (decide (c.val < r.val)) :=
  (val_main_v26_1_apply _).trans (ref_mask _)

theorem ref_zz (h0 : Fin2 x0) (h1 : Fin2 x1) : Co3 (val_main_call0_v0 (F := Ideal) x0) (fun h i j => (H h).z i j) := fun h r c => by
  refine (val_main_call0_v0_apply _ _).trans ((negC (negC (ref_z h0 h1 h r c))).trans (coeEq (neg_neg _)))

theorem ref_nz (h0 : Fin2 x0) (h1 : Fin2 x1) : Co3 (val_main_call3_v0 (F := Ideal) x0) (fun h i j => -(H h).z i j) := fun h r c =>
  (val_main_call3_v0_apply _ _).trans (negC (ref_z h0 h1 h r c))

theorem ref_spl0 (h0 : Fin2 x0) (h1 : Fin2 x1) : Co3 (val_main_call0_v1_0 (F := Ideal) x0) (fun h i j => spl ((H h).z i j)) := fun h r c =>
  splC (ref_zz h0 h1 h r c)
theorem ref_spl3 (h0 : Fin2 x0) (h1 : Fin2 x1) : Co3 (val_main_call3_v1_0 (F := Ideal) x0) (fun h i j => spl (-(H h).z i j)) := fun h r c =>
  splC (ref_nz h0 h1 h r c)

/-- The sigmoids of the scores and of their negatives. -/
theorem ref_sgm (h0 : Fin2 x0) (h1 : Fin2 x1) : Co3 (val_main_v19_1 (F := Ideal) x0) (fun h i j => sgm ((H h).z i j)) := fun h r c =>
  expC (subC (guardC (ref_zz h0 h1 h r c)) (guardC (ref_spl0 h0 h1 h r c)))
theorem ref_sgmn (h0 : Fin2 x0) (h1 : Fin2 x1) : Co3 (val_main_v23_1 (F := Ideal) x0) (fun h i j => sgm (-(H h).z i j)) := fun h r c =>
  expC (subC (guardC (ref_nz h0 h1 h r c)) (guardC (ref_spl3 h0 h1 h r c)))

theorem ref_np (h0 : Fin2 x0) (h1 : Fin2 x1) : Co3 (val_main_v20_0 (F := Ideal) x0) (fun h i j => -(H h).p i j) := fun h r c => by
  rw [val_main_v20_0_apply, ref_mask0]
  refine (selC _ (negC (ref_spl0 h0 h1 h r c)) zeroC).trans (coeEq ?_)
  beta_reduce
  unfold In.p
  split
  · rfl
  · exact neg_zero.symm

theorem ref_sum (h0 : Fin2 x0) (h1 : Fin2 x1) : Co3 (val_main_v21 (F := Ideal) x0) (fun h i j => ∑ j' ∈ Ico j 4096, -(H h).p i j') := fun h r c => by
  unfold val_main_v21
  exact host_to_end 4095 (val_main_v20_0 (F := Ideal) x0) _ (fun j => -(H h).p r.val j) _ _ Ideal.ofBits_zero_f32 h r c
    (fun k => ref_np h0 h1 h r k)

theorem ref_tail (h0 : Fin2 x0) (h1 : Fin2 x1) : Co3 (val_main_v22 (F := Ideal) x0) (fun h i j => -(H h).tail i j) := fun h r c => by
  refine (val_main_v22_apply _ _).trans ((subC (ref_sum h0 h1 h r c) (ref_np h0 h1 h r c)).trans (coeEq ?_))
  have hc := c.isLt
  beta_reduce
  unfold In.tail
  rw [sum_eq_sum_Ico_succ_bot hc, sum_neg_distrib]
  ring

/-- The weights before the mask. -/
theorem ref_w (h0 : Fin2 x0) (h1 : Fin2 x1) : Co3 (val_main_v25 (F := Ideal) x0) (fun h i j => sgm ((H h).z i j) * Real.exp (-(H h).tail i j)) := fun h r c => by
  refine (val_main_v25_apply _ _).trans ((expC ((val_main_v24_apply _ _).trans (addC (negC (ref_spl3 h0 h1 h r c)) (ref_tail h0 h1 h r c)))).trans (coeEq ?_))
  exact exp_neg_spl_neg _ _

/-- The weights. -/
theorem ref_a (h0 : Fin2 x0) (h1 : Fin2 x1) : Co3 (val_main_v26_0 (F := Ideal) x0) (fun h i j => (H h).a i j) := fun h r c => by
  rw [val_main_v26_0_apply, ref_mask1]
  exact selC _ (ref_w h0 h1 h r c) zeroC

/-- The result of the attention, by heads and merged. -/
theorem ref_o3 (h0 : Fin2 x0) (h1 : Fin2 x1) : Co3 (val_main_v27 (F := Ideal) x0) (fun h i x => (H h).o i x) := fun h r c => by
  rw [val_main_v27_apply]
  refine (sum_congr rfl fun k _ => ?_).trans (coe_sum_fin 4096 (fun j => (H h).a r.val j * (H h).v j c.val))
  exact (congrArg₂ (· * ·) ((ref_a h0 h1).at _ h.val r.val k.val rfl rfl rfl) ((ref_v h0).at _ h.val k.val c.val rfl rfl rfl)).trans
    (EReal.coe_mul _ _).symm

theorem ref_o (h0 : Fin2 x0) (h1 : Fin2 x1) : Co (val_main_v29 (F := Ideal) x0) (fun i x => (H (x / 128)).o i (x % 128)) := fun r c => by
  rw [val_main_v29_apply, val_main_v28_apply]
  have := r.isLt; have := c.isLt
  exact (ref_o3 h0 h1).at _ _ _ _ (by show (r.val * 1024 + c.val) / 128 % 8 = c.val / 128; omega)
    (by show (r.val * 1024 + c.val) / 1024 = r.val; omega) (by show (r.val * 1024 + c.val) % 128 = c.val % 128; omega)

/-! ### The gradient -/

theorem ref_dv3 (h0 : Fin2 x0) (h1 : Fin2 x1) : Co3 (val_main_v33 (F := Ideal) x0 x1) (fun h j x => (H h).dv j x) := fun h r c => by
  rw [val_main_v33_apply, val_main_v32_apply]
  refine (sum_congr rfl fun k _ => ?_).trans (coe_sum_fin 4096 (fun i => (H h).a i r.val * (H h).d i c.val))
  refine (congrArg₂ (· * ·) ((ref_d h1).at _ h.val k.val c.val rfl rfl rfl) ((ref_a h0 h1).at _ h.val k.val r.val rfl rfl rfl)).trans ?_
  exact (EReal.coe_mul _ _).symm.trans (coeEq (mul_comm _ _))

theorem ref_u (h0 : Fin2 x0) (h1 : Fin2 x1) : Co3 (val_main_v34 (F := Ideal) x0 x1) (fun h i j => (H h).u i j) := fun h r c => by
  rw [val_main_v34_apply]
  refine (sum_congr rfl fun k _ => ?_).trans (coe_sum_fin 128 (fun x => (H h).d r.val x * (H h).v c.val x))
  exact (congrArg₂ (· * ·) ((ref_d h1).at _ h.val r.val k.val rfl rfl rfl) ((ref_v h0).at _ h.val c.val k.val rfl rfl rfl)).trans
    (EReal.coe_mul _ _).symm

theorem ref_e (h0 : Fin2 x0) (h1 : Fin2 x1) : Co3 (val_main_v36 (F := Ideal) x0 x1) (fun h i j => (H h).e i j) := fun h r c => by
  rw [val_main_v36_apply, val_main_v35_apply, ref_mask1]
  refine (mulC (selC _ (ref_u h0 h1 h r c) zeroC) (ref_w h0 h1 h r c)).trans (coeEq ?_)
  beta_reduce
  unfold In.e In.a
  split
  · ring
  · ring

theorem ref_le (h0 : Fin2 x0) (h1 : Fin2 x1) : Co3 (val_main_v39 (F := Ideal) x0 x1) (fun h i j => ∑ j' ∈ range (j + 1), (H h).e i j') := fun h r c => by
  unfold val_main_v39
  exact host_from_start 4095 rfl (val_main_v36 (F := Ideal) x0 x1) _ (fun j => (H h).e r.val j) _ _ Ideal.ofBits_zero_f32 h r c
    (fun k => ref_e h0 h1 h r k)

theorem ref_l (h0 : Fin2 x0) (h1 : Fin2 x1) : Co3 (val_main_v40 (F := Ideal) x0 x1) (fun h i j => (H h).l i j) := fun h r c => by
  refine (val_main_v40_apply _ _ _).trans ((addC (negC (ref_e h0 h1 h r c)) (ref_le h0 h1 h r c)).trans (coeEq ?_))
  beta_reduce
  unfold In.l
  rw [sum_range_succ]
  ring

/-- The scores' gradient. -/
theorem ref_dz (h0 : Fin2 x0) (h1 : Fin2 x1) : Co3 (val_main_v46 (F := Ideal) x0 x1) (fun h i j => (H h).dz i j) := fun h r c => by
  have e1 := negC (mulC (negC (ref_e h0 h1 h r c)) (ref_sgmn h0 h1 h r c))
  have e2 : val_main_v41 (F := Ideal) x0 x1 (ix3 h r c) = ((if c.val < r.val then (H h).l r.val c.val else 0 : ℝ) : EReal) := by
    rw [val_main_v41_apply, ref_mask0]
    exact selC _ (ref_l h0 h1 h r c) zeroC
  have e3 := negC (negC (mulC (negC e2) (ref_sgm h0 h1 h r c)))
  refine (mulC (addC e1 e3) scale_word).trans (coeEq ?_)
  beta_reduce
  rw [← In.dz_vjp]
  show _ * cR = _ * cR
  ring

theorem ref_dk3 (h0 : Fin2 x0) (h1 : Fin2 x1) : Co3 (val_main_v47 (F := Ideal) x0 x1) (fun h j x => (H h).dk j x) := fun h r c => by
  rw [val_main_v47_apply]
  refine (sum_congr rfl fun k _ => ?_).trans (coe_sum_fin 4096 (fun i => (H h).dz i r.val * (H h).q i c.val))
  exact (congrArg₂ (· * ·) ((ref_dz h0 h1).at _ h.val k.val r.val rfl rfl rfl) ((ref_q h0).at _ h.val k.val c.val rfl rfl rfl)).trans
    (EReal.coe_mul _ _).symm

theorem ref_dq3 (h0 : Fin2 x0) (h1 : Fin2 x1) : Co3 (val_main_v48 (F := Ideal) x0 x1) (fun h i x => (H h).dq i x) := fun h r c => by
  rw [val_main_v48_apply]
  refine (sum_congr rfl fun k _ => ?_).trans (coe_sum_fin 4096 (fun j => (H h).dz r.val j * (H h).k j c.val))
  exact (congrArg₂ (· * ·) ((ref_dz h0 h1).at _ h.val r.val k.val rfl rfl rfl) ((ref_k h0).at _ h.val k.val c.val rfl rfl rfl)).trans
    (EReal.coe_mul _ _).symm

theorem ref_dq54 (h0 : Fin2 x0) (h1 : Fin2 x1) : Co (val_main_v54 (F := Ideal) x0 x1) (fun i x => (H (x / 128)).dq i (x % 128)) := fun r c => by
  rw [val_main_v54_apply, val_main_v53_apply]
  have := r.isLt; have := c.isLt
  exact (ref_dq3 h0 h1).at _ _ _ _ (by show (r.val * 1024 + c.val) / 128 % 8 = c.val / 128; omega)
    (by show (r.val * 1024 + c.val) / 1024 = r.val; omega) (by show (r.val * 1024 + c.val) % 128 = c.val % 128; omega)

theorem ref_dk52 (h0 : Fin2 x0) (h1 : Fin2 x1) : Co (val_main_v52 (F := Ideal) x0 x1) (fun i x => (H (x / 128)).dk i (x % 128)) := fun r c => by
  rw [val_main_v52_apply, val_main_v51_apply]
  have := r.isLt; have := c.isLt
  exact (ref_dk3 h0 h1).at _ _ _ _ (by show (r.val * 1024 + c.val) / 128 % 8 = c.val / 128; omega)
    (by show (r.val * 1024 + c.val) / 1024 = r.val; omega) (by show (r.val * 1024 + c.val) % 128 = c.val % 128; omega)

theorem ref_dv50 (h0 : Fin2 x0) (h1 : Fin2 x1) : Co (val_main_v50 (F := Ideal) x0 x1) (fun i x => (H (x / 128)).dv i (x % 128)) := fun r c => by
  rw [val_main_v50_apply, val_main_v49_apply]
  have := r.isLt; have := c.isLt
  exact (ref_dv3 h0 h1).at _ _ _ _ (by show (r.val * 1024 + c.val) / 128 % 8 = c.val / 128; omega)
    (by show (r.val * 1024 + c.val) / 1024 = r.val; omega) (by show (r.val * 1024 + c.val) % 128 = c.val % 128; omega)

end Cert.Proof.SB
-- ==== Proof.Host.lean ====
/-
  The kernel's host lines before the call: the packed queries, keys and values, the result's cotangent, and the
  attention's result, which the lines compute with the reference's own operations.
-/
module

public import proofs.«01_k».proof.Proof.Gen.KernelIdeal.Frame
public import proofs.«01_k».proof.Proof.Ref
public import Idealize.ShloMosaic.Lib.StableHlo.RunRead

@[expose] public section

set_option maxRecDepth 8192
set_option maxHeartbeats 2000000

noncomputable section

namespace Cert.Proof.KI

open Cert.KernelIdeal Cert.KernelIdeal.Gen
open Idealize.ShloMosaic Idealize.ShloMosaic.TcCoe Idealize.SL.Sem
open Idealize.ShloMosaic.StableHlo

variable (m : (l : Loc nD τ sig) → Buf (Elt Ideal) l) (c : Dev nD)

/-- The two arguments as launched. -/
abbrev A0 : (⟨2, ![4096, 3072]⟩ : Shape).Idx → EReal := m ((c : Thread nD τ).loc main_arg0)
abbrev A1 : (⟨2, ![4096, 1024]⟩ : Shape).Idx → EReal := m ((c : Thread nD τ).loc main_arg1)

theorem V_v0 : (V m c main_v0 : (⟨2, ![4096, 3072]⟩ : Shape).Idx → EReal) = A0 m c := by
  unfold V
  after_reads_simp
  rfl

theorem V_v31 : (V m c main_v31 : (⟨2, ![4096, 1024]⟩ : Shape).Idx → EReal) = A1 m c := by
  unfold V
  after_reads_simp
  rfl

theorem V_v30 : (V m c main_v30 : (⟨2, ![4096, 1024]⟩ : Shape).Idx → EReal) = Cert.ReferenceIdeal.Read.val_main_v29 (F := Ideal) (A0 m c) := by
  unfold V
  after_reads_simp
  rfl

end Cert.Proof.KI
-- ==== Proof.Point.lean ====
/-
  What the blocks of a point hold, when the arguments hold reals.
-/
module

public import proofs.«01_k».proof.Proof.Run
public import proofs.«01_k».proof.Proof.Tri
public import proofs.«01_k».proof.Proof.Host
public import Idealize.ShloMosaic.Lib.Pipeline.ValueKit

@[expose] public section

set_option maxRecDepth 16384
set_option maxHeartbeats 2000000

noncomputable section

namespace Cert.Proof.KI

open Cert.KernelIdeal Cert.KernelIdeal.Gen Cert.Proof.SB
open Idealize.ShloMosaic Idealize.ShloMosaic.TcCoe Idealize.SL.Sem
open Idealize.ShloMosaic.ValueIdx Idealize.ShloMosaic.Tactic
open Finset

variable (m : (l : Loc nD τ sig) → Buf (Elt Ideal) l) (c : Dev nD)

/-- Where the blocks of a point lie. -/
theorem idx_all : ∀ t : Fin cfg0.N,
    win0_0.index t = ![t.val % 8, t.val / 8] ∧ win0_1.index t = ![0, 4 + t.val / 8] ∧ win0_2.index t = ![0, 8 + t.val / 8] ∧
    win0_3.index t = ![t.val % 8, t.val / 8] ∧ win0_4.index t = ![t.val % 8, t.val / 8] ∧ win0_5.index t = ![t.val % 8, t.val / 8] ∧
    win0_6.index t = ![0, t.val / 8] ∧ win0_7.index t = ![0, t.val / 8] := by
  have h : ∀ t : Fin grid0.N,
    win0_0.index t = ![t.val % 8, t.val / 8] ∧ win0_1.index t = ![0, 4 + t.val / 8] ∧ win0_2.index t = ![0, 8 + t.val / 8] ∧
    win0_3.index t = ![t.val % 8, t.val / 8] ∧ win0_4.index t = ![t.val % 8, t.val / 8] ∧ win0_5.index t = ![t.val % 8, t.val / 8] ∧
    win0_6.index t = ![0, t.val / 8] ∧ win0_7.index t = ![0, t.val / 8] := by decide +kernel
  exact h

variable {m c} (h0 : Fin2 (A0 m c)) (h1 : Fin2 (A1 m c))

include h0 in
/-- The queries, -/
theorem co_blk0 (t : Fin cfg0.N) : Co (n := 512) (m := 256) (iblk m c 0 t) (fun r x => rd (A0 m c) (512 * (t.val % 8) + r) (256 * (t.val / 8) + x)) := fun r x => by
  have e := (idx_all t).1
  refine (congrFun (V_v0 m c) _).trans ((rd_co h0).at _ _ _ ?_ ?_)
  · blk_simp [e]
    simp; omega
  · blk_simp [e]
    simp; omega

include h0 in
/-- the keys -/
theorem co_blk1 (t : Fin cfg0.N) : Co (n := 4096) (m := 256) (iblk m c 1 t) (fun r x => rd (A0 m c) r (1024 + 256 * (t.val / 8) + x)) := fun r x => by
  have e := (idx_all t).2.1
  refine (congrFun (V_v0 m c) _).trans ((rd_co h0).at _ _ _ ?_ ?_)
  · blk_simp [e]
  · blk_simp [e]
    simp; omega

include h0 in
/-- and the values, -/
theorem co_blk2 (t : Fin cfg0.N) : Co (n := 4096) (m := 256) (iblk m c 2 t) (fun r x => rd (A0 m c) r (2048 + 256 * (t.val / 8) + x)) := fun r x => by
  have e := (idx_all t).2.2.1
  refine (congrFun (V_v0 m c) _).trans ((rd_co h0).at _ _ _ ?_ ?_)
  · blk_simp [e]
  · blk_simp [e]
    simp; omega

include h0 h1 in
/-- the attention's result -/
theorem co_blk3 (t : Fin cfg0.N) : Co (n := 512) (m := 256) (iblk m c 3 t)
    (fun r x => (headIn (A0 m c) (A1 m c) ((256 * (t.val / 8) + x) / 128)).o (512 * (t.val % 8) + r) ((256 * (t.val / 8) + x) % 128)) := fun r x => by
  have e := (idx_all t).2.2.2.1
  refine (congrFun (V_v30 m c) _).trans ((ref_o h0 h1).at _ (512 * (t.val % 8) + r.val) (256 * (t.val / 8) + x.val) ?_ ?_)
  · blk_simp [e]
    simp; omega
  · blk_simp [e]
    simp; omega

include h1 in
/-- and its cotangent. -/
theorem co_blk4 (t : Fin cfg0.N) : Co (n := 512) (m := 256) (iblk m c 4 t) (fun r x => rd (A1 m c) (512 * (t.val % 8) + r) (256 * (t.val / 8) + x)) := fun r x => by
  have e := (idx_all t).2.2.2.2.1
  refine (congrFun (V_v31 m c) _).trans ((rd_co h1).at _ _ _ ?_ ?_)
  · blk_simp [e]
    simp; omega
  · blk_simp [e]
    simp; omega

variable (m c) in
/-- The head a point handles in its columns of head `h`. -/
abbrev hdX (t : Fin cfg0.N) (h : Fin 2) : In := headIn (A0 m c) (A1 m c) (2 * (t.val / 8) + h.val)

theorem rq_at {X : S512x256.Idx → Elt Ideal .bf16} {f : ℕ → ℕ → ℝ} (hX : Co (n := 512) (m := 256) X f) (h : Fin 2) :
    Co (n := 512) (m := 128) (View.ld (Val := Elt Ideal) (e' := .bf16) X (rq h)) (fun r x => f r (128 * h.val + x)) := fun r x =>
  hX.at _ _ _ (by show 0 + 1 * r.val = r.val; omega) (by show 128 * h.val + 1 * x.val = 128 * h.val + x.val; omega)

theorem rq_at32 {X : S512x256.Idx → Elt Ideal .f32} {f : ℕ → ℕ → ℝ} (hX : Co (n := 512) (m := 256) X f) (h : Fin 2) :
    Co (n := 512) (m := 128) (View.ld (Val := Elt Ideal) (e' := .f32) X (rq h)) (fun r x => f r (128 * h.val + x)) := fun r x =>
  hX.at _ _ _ (by show 0 + 1 * r.val = r.val; omega) (by show 128 * h.val + 1 * x.val = 128 * h.val + x.val; omega)

theorem kb_at {X : S4096x256.Idx → EReal} {f : ℕ → ℕ → ℝ} (hX : Co (n := 4096) (m := 256) X f) (s : Fin 16) (h : Fin 2) :
    Co (n := 256) (m := 128) (kb (F := Ideal) (e := .bf16) X s h) (fun y x => f (256 * s.val + y) (128 * h.val + x)) := fun y x =>
  hX.at _ _ _ (by show 256 * s.val + 1 * y.val = 256 * s.val + y.val; omega) (by show 128 * h.val + 1 * x.val = 128 * h.val + x.val; omega)

include h0 in
theorem co_kT (t : Fin cfg0.N) (h : Fin 2) (s : Fin 16) : Co (n := 256) (m := 128) (kT m c t h s) (fun y x => (hdX m c t h).k (256 * s.val + y) x) :=
  (kb_at (co_blk1 h0 t) s h).congr fun y x _ _ => by
    show rd _ _ _ = rd _ _ _
    congr 1; omega

include h0 in
theorem co_vT (t : Fin cfg0.N) (h : Fin 2) (s : Fin 16) : Co (n := 256) (m := 128) (vT m c t h s) (fun y x => (hdX m c t h).v (256 * s.val + y) x) :=
  (kb_at (co_blk2 h0 t) s h).congr fun y x _ _ => by
    show rd _ _ _ = rd _ _ _
    congr 1; omega

/-- The sum of a tile's rows. -/
theorem co_rowSum128 {x : FVec Ideal S512x128 .f32} {f : ℕ → ℕ → ℝ} (hx : Co x f) :
    Co (shapeCast S512x1 (multiReduction .add [1] S512 x 0x00000000#32 reduces_S512x128_S512 (.inl rfl) rfl) shapeCasts_S512_S512x1)
      (fun r _ => ∑ c ∈ range 128, f r c) := by
  intro r u
  rw [shapeCast_a_a1_apply, ← coe_sum_fin]
  refine (Ideal.multiReduction_add_single x _ _ _ _ _).trans ?_
  refine sum_congr rfl fun c _ => ?_
  rw [← hx r c]
  congr 1
  exact funext fun a => Fin.ext (match a with | ⟨0, _⟩ => rfl | ⟨1, _⟩ => rfl)

include h0 h1 in
/-- A point's head is the head of the arguments. -/
theorem of_hdT (t : Fin cfg0.N) (h : Fin 2) : HdOf (hdX m c t h) (512 * (t.val % 8)) (hdT m c t h) where
  q := by
    show Co (n := 512) (m := 128) (k0_pay153 (F := Ideal) (View.ld (Val := Elt Ideal) (e' := .bf16) (iblk m c 0 t) (rq h))) _
    unfold k0_pay153
    rw [shapeCast_self]
    refine (rq_at (co_blk0 h0 t) h).congr fun r x _ _ => ?_
    show rd _ _ _ = rd _ _ _
    congr 1; omega
  d := by
    show Co (n := 512) (m := 128) (k0_pay155 (F := Ideal) (View.ld (Val := Elt Ideal) (e' := .bf16) (iblk m c 4 t) (rq h))) _
    unfold k0_pay155
    rw [shapeCast_self]
    refine (rq_at (co_blk4 h1 t) h).congr fun r x _ _ => ?_
    show rd _ _ _ = rd _ _ _
    congr 1; omega
  tot := by
    show Co (n := 512) (m := 1) (k0_pay157 (F := Ideal) _ _) _
    unfold k0_pay157 k0_pay155
    rw [shapeCast_self, shapeCast_self]
    refine (co_rowSum128 (co_mulf (co_extf (rq_at (co_blk4 h1 t) h) bitsLt_bf16_f32) (rq_at32 (co_blk3 h0 h1 t) h))).congr fun r _ _ _ => ?_
    rw [← In.total]
    refine sum_congr rfl fun x hx => ?_
    rw [mem_range] at hx
    have hh := h.isLt
    rw [show (256 * (t.val / 8) + (128 * h.val + x)) / 128 = 2 * (t.val / 8) + h.val by omega,
      show (256 * (t.val / 8) + (128 * h.val + x)) % 128 = x by omega]
    congr 1
    show rd _ _ _ = rd _ _ _
    congr 1; omega
  L := co_L
  N := co_N

include h0 h1 in
/-- The queries' gradient's block of a point. -/
theorem co_dqT (t : Fin cfg0.N) (h : Fin 2) : Co (n := 512) (m := 128) (dqT m c t h) (fun r x => (hdX m c t h).dq (512 * (t.val % 8) + r) x) := by
  unfold dqT
  rw [coord1]
  exact of_dq (Nat.mod_lt _ (by decide)) rfl (of_hdT h0 h1 t h) (co_kT h0 t h) (co_vT h0 t h)

theorem co_zeroK {X : In} {b : ℕ} (hb : b = 0) (s : Fin 16) (h : Fin 2) :
    Co (n := 256) (m := 128) (kb (F := Ideal) (e := .f32) (k0_pay151 (F := Ideal)) s h) (fun y x => X.dkUp b (256 * s.val + y) x) := fun y x => by
  subst hb
  exact zero_word.trans (coeEq (X.dkUp_zero _ _).symm)

theorem co_zeroV {X : In} {b : ℕ} (hb : b = 0) (s : Fin 16) (h : Fin 2) :
    Co (n := 256) (m := 128) (kb (F := Ideal) (e := .f32) (k0_pay152 (F := Ideal)) s h) (fun y x => X.dvUp b (256 * s.val + y) x) := fun y x => by
  subst hb
  exact zero_word.trans (coeEq (X.dvUp_zero _ _).symm)

include h0 h1 in
/-- The keys' gradient after a point: the queries up to the point's own. -/
theorem co_dkT (h : Fin 2) : ∀ (n : ℕ) (hn : n < cfg0.N) (s : Fin 16),
    Co (n := 256) (m := 128) (dkT m c n hn s h) (fun y x => (hdX m c ⟨n, hn⟩ h).dkUp (n % 8 + 1) (256 * s.val + y) x)
  | 0, hn, s => by
    unfold dkT
    rw [coord1]
    exact of_dkB (Nat.mod_lt _ (by decide)) rfl (of_hdT h0 h1 ⟨0, hn⟩ h) (co_kT h0 ⟨0, hn⟩ h) (co_vT h0 ⟨0, hn⟩ h) (fun s => co_zeroK rfl s h) s
  | n + 1, hn, s => by
    unfold dkT
    rw [coord1]
    refine of_dkB (Nat.mod_lt _ (by decide)) rfl (of_hdT h0 h1 ⟨n + 1, hn⟩ h) (co_kT h0 ⟨n + 1, hn⟩ h) (co_vT h0 ⟨n + 1, hn⟩ h) (fun s => ?_) s
    show Co (if (n + 1) % 8 = 0 then _ else _) _
    split
    · rename_i e
      exact co_zeroK e s h
    · rename_i e
      have ih := co_dkT h n (Nat.lt_of_succ_lt hn) s
      have e1 : n % 8 + 1 = (n + 1) % 8 := by omega
      have e2 : hdX m c ⟨n, Nat.lt_of_succ_lt hn⟩ h = hdX m c ⟨n + 1, hn⟩ h := by
        show headIn _ _ (2 * (n / 8) + h.val) = headIn _ _ (2 * ((n + 1) / 8) + h.val)
        rw [show n / 8 = (n + 1) / 8 by omega]
      rw [e1, e2] at ih
      exact ih

include h0 h1 in
/-- The values' gradient after a point. -/
theorem co_dvT (h : Fin 2) : ∀ (n : ℕ) (hn : n < cfg0.N) (s : Fin 16),
    Co (n := 256) (m := 128) (dvT m c n hn s h) (fun y x => (hdX m c ⟨n, hn⟩ h).dvUp (n % 8 + 1) (256 * s.val + y) x)
  | 0, hn, s => by
    unfold dvT
    rw [coord1]
    exact of_dvB (Nat.mod_lt _ (by decide)) rfl (of_hdT h0 h1 ⟨0, hn⟩ h) (co_kT h0 ⟨0, hn⟩ h) (co_vT h0 ⟨0, hn⟩ h) (fun s => co_zeroV rfl s h) s
  | n + 1, hn, s => by
    unfold dvT
    rw [coord1]
    refine of_dvB (Nat.mod_lt _ (by decide)) rfl (of_hdT h0 h1 ⟨n + 1, hn⟩ h) (co_kT h0 ⟨n + 1, hn⟩ h) (co_vT h0 ⟨n + 1, hn⟩ h) (fun s => ?_) s
    show Co (if (n + 1) % 8 = 0 then _ else _) _
    split
    · rename_i e
      exact co_zeroV e s h
    · rename_i e
      have ih := co_dvT h n (Nat.lt_of_succ_lt hn) s
      have e1 : n % 8 + 1 = (n + 1) % 8 := by omega
      have e2 : hdX m c ⟨n, Nat.lt_of_succ_lt hn⟩ h = hdX m c ⟨n + 1, hn⟩ h := by
        show headIn _ _ (2 * (n / 8) + h.val) = headIn _ _ (2 * ((n + 1) / 8) + h.val)
        rw [show n / 8 = (n + 1) / 8 by omega]
      rw [e1, e2] at ih
      exact ih

end Cert.Proof.KI
-- ==== Proof.Result.lean ====
/-
  The kernel's three results at the run's end, when the arguments hold reals.
-/
module

public import proofs.«01_k».proof.Proof.Point

@[expose] public section

set_option maxRecDepth 16384
set_option maxHeartbeats 2000000

noncomputable section

namespace Cert.Proof.KI

open Cert.KernelIdeal Cert.KernelIdeal.Gen Cert.Proof.SB
open Idealize.ShloMosaic Idealize.ShloMosaic.TcCoe Idealize.SL.Sem
open Idealize.ShloMosaic.ValueIdx Idealize.ShloMosaic.Tactic

variable (m : (l : Loc nD τ sig) → Buf (Elt Ideal) l) (c : Dev nD)

/-- The gradients of the queries, -/
def gQ : (⟨2, ![4096, 1024]⟩ : Shape).Idx → EReal := fun i =>
  (((headIn (A0 m c) (A1 m c) ((i 1).val / 128)).dq (i 0).val ((i 1).val % 128) : ℝ) : EReal)
/-- of the keys -/
def gK : (⟨2, ![4096, 1024]⟩ : Shape).Idx → EReal := fun i =>
  (((headIn (A0 m c) (A1 m c) ((i 1).val / 128)).dk (i 0).val ((i 1).val % 128) : ℝ) : EReal)
/-- and of the values. -/
def gV : (⟨2, ![4096, 1024]⟩ : Shape).Idx → EReal := fun i =>
  (((headIn (A0 m c) (A1 m c) ((i 1).val / 128)).dv (i 0).val ((i 1).val % 128) : ℝ) : EReal)

variable {m c} (h0 : Fin2 (A0 m c)) (h1 : Fin2 (A1 m c))

include h0 h1 in
theorem asmQ_gQ (t : Fin cfg0.N) (y : S512x256.Idx) (i : (⟨2, ![4096, 1024]⟩ : Shape).Idx)
    (e0 : (i 0).val = 512 * (t.val % 8) + (y 0).val) (e1 : (i 1).val = 256 * (t.val / 8) + (y 1).val) : asmQ (dqT m c t) y = gQ m c i := by
  have l1 : (y 1).val < 256 := (y 1).isLt
  have l0 : (y 0).val < 512 := (y 0).isLt
  refine (asmQ_at (dqT m c t) ⟨(y 1).val / 128, by omega⟩ (ValueIdx.ix2 ⟨(y 0).val, l0⟩ ⟨(y 1).val % 128, Nat.mod_lt _ (by decide)⟩) y rfl
    (by show (y 1).val = 128 * ((y 1).val / 128) + (y 1).val % 128; omega)).trans ?_
  refine (co_dqT h0 h1 t _ _ _).trans ?_
  unfold gQ hdX
  rw [e0, show (i 1).val / 128 = 2 * (t.val / 8) + (y 1).val / 128 by omega, show (i 1).val % 128 = (y 1).val % 128 by omega]

include h0 h1 in
theorem asm_gK (t : Fin cfg0.N) (ht : t.val % 8 = 7) (y : S4096x256.Idx) (i : (⟨2, ![4096, 1024]⟩ : Shape).Idx)
    (e0 : (i 0).val = (y 0).val) (e1 : (i 1).val = 256 * (t.val / 8) + (y 1).val) :
    asm (e := .f32) (dkT m c t.val t.isLt) y = gK m c i := by
  have l1 : (y 1).val < 256 := (y 1).isLt
  have l0 : (y 0).val < 4096 := (y 0).isLt
  refine (asm_at (dkT m c t.val t.isLt) ⟨(y 0).val / 256, by omega⟩ ⟨(y 1).val / 128, by omega⟩
    (ValueIdx.ix2 ⟨(y 0).val % 256, Nat.mod_lt _ (by decide)⟩ ⟨(y 1).val % 128, Nat.mod_lt _ (by decide)⟩) y
    (by show (y 0).val = 256 * ((y 0).val / 256) + (y 0).val % 256; omega)
    (by show (y 1).val = 128 * ((y 1).val / 128) + (y 1).val % 128; omega)).trans ?_
  refine (co_dkT h0 h1 _ t.val t.isLt _ _ _).trans ?_
  unfold gK hdX
  beta_reduce
  rw [ht, In.dkUp_all, e0, show (i 1).val / 128 = 2 * (t.val / 8) + (y 1).val / 128 by omega, show (i 1).val % 128 = (y 1).val % 128 by omega]
  show ((In.dk _ (256 * ((y 0).val / 256) + (y 0).val % 256) _ : ℝ) : EReal) = _
  rw [Nat.div_add_mod]

include h0 h1 in
theorem asm_gV (t : Fin cfg0.N) (ht : t.val % 8 = 7) (y : S4096x256.Idx) (i : (⟨2, ![4096, 1024]⟩ : Shape).Idx)
    (e0 : (i 0).val = (y 0).val) (e1 : (i 1).val = 256 * (t.val / 8) + (y 1).val) :
    asm (e := .f32) (dvT m c t.val t.isLt) y = gV m c i := by
  have l1 : (y 1).val < 256 := (y 1).isLt
  have l0 : (y 0).val < 4096 := (y 0).isLt
  refine (asm_at (dvT m c t.val t.isLt) ⟨(y 0).val / 256, by omega⟩ ⟨(y 1).val / 128, by omega⟩
    (ValueIdx.ix2 ⟨(y 0).val % 256, Nat.mod_lt _ (by decide)⟩ ⟨(y 1).val % 128, Nat.mod_lt _ (by decide)⟩) y
    (by show (y 0).val = 256 * ((y 0).val / 256) + (y 0).val % 256; omega)
    (by show (y 1).val = 128 * ((y 1).val / 128) + (y 1).val % 128; omega)).trans ?_
  refine (co_dvT h0 h1 _ t.val t.isLt _ _ _).trans ?_
  unfold gV hdX
  beta_reduce
  rw [ht, In.dvUp_all, e0, show (i 1).val / 128 = 2 * (t.val / 8) + (y 1).val / 128 by omega, show (i 1).val % 128 = (y 1).val % 128 by omega]
  show ((In.dv _ (256 * ((y 0).val / 256) + (y 0).val % 256) _ : ℝ) : EReal) = _
  rw [Nat.div_add_mod]

include h0 h1 in
/-- The first result is the queries' gradient, -/
theorem res_q : (dats m 0 c).arrAt 5 cfg0.N = gQ m c :=
  (dats m 0 c).arrAt_eq_of_covers 5 (gQ m c) (by decide +kernel) fun t _ y => by
    have e := (idx_all t).2.2.2.2.2.1
    refine asmQ_gQ h0 h1 t _ _ ?_ ?_
    · show _ = 512 * (t.val % 8) + (y 0).val
      blk_simp [e]
      simp; omega
    · show _ = 256 * (t.val / 8) + (y 1).val
      blk_simp [e]
      simp; omega

include h0 h1 in
/-- the second the keys' -/
theorem res_k : (dats m 0 c).arrAt 6 cfg0.N = gK m c :=
  (dats m 0 c).arrAt_eq_of_covers 6 (gK m c) (by decide +kernel) fun t hf y => by
    have e := (idx_all t).2.2.2.2.2.2.1
    refine asm_gK h0 h1 t ((flush0_6 t).mp hf) _ _ ?_ ?_
    · show _ = (y 0).val
      blk_simp [e]
    · show _ = 256 * (t.val / 8) + (y 1).val
      blk_simp [e]
      simp; omega

include h0 h1 in
/-- and the third the values'. -/
theorem res_v : (dats m 0 c).arrAt 7 cfg0.N = gV m c :=
  (dats m 0 c).arrAt_eq_of_covers 7 (gV m c) (by decide +kernel) fun t hf y => by
    have e := (idx_all t).2.2.2.2.2.2.2
    refine asm_gV h0 h1 t ((flush0_7 t).mp hf) _ _ ?_ ?_
    · show _ = (y 0).val
      blk_simp [e]
    · show _ = 256 * (t.val / 8) + (y 1).val
      blk_simp [e]
      simp; omega

/-- The run leaves the three gradients in the three results and the arguments as launched. -/
theorem run_values (m : (l : Loc nD τ sig) → Buf (Elt Ideal) l) (ρ : Dev nD → PrngReg)
    (h0 : ∀ c, Fin2 (A0 m c)) (h1 : ∀ c, Fin2 (A1 m c)) :
    θ_run defs (onTc (τ := τ) (main (F := Ideal))) ⟨m, fun _ => 0, ρ⟩ (fun r => ∀ c : Dev nD,
      r.2.mem ((c.tc : Thread nD τ).loc main_v32_0) = gQ m c
      ∧ r.2.mem ((c.tc : Thread nD τ).loc main_v32_1) = gK m c
      ∧ r.2.mem ((c.tc : Thread nD τ).loc main_v32_2) = gV m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).1 5).trans (res_q (h0 c) (h1 c)), ((h.1 c).1 6).trans (res_k (h0 c) (h1 c)), ((h.1 c).1 7).trans (res_v (h0 c) (h1 c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩) (run_main m ρ)

end Cert.Proof.KI
-- ==== Proof.Out.lean ====
/-
  The reference's three results, after the concatenation and the slices.
-/
module

public import proofs.«01_k».proof.Proof.Ref
public import Idealize.ShloMosaic.Lib.Pipeline.Value

@[expose] public section

set_option maxRecDepth 16384
set_option maxHeartbeats 2000000

noncomputable section

namespace Cert.Proof.SB

open Cert.ReferenceIdeal Cert.ReferenceIdeal.Gen Cert.ReferenceIdeal.Read
open Idealize.ShloMosaic Idealize.ShloMosaic.ValueIdx
open Finset

variable {x0 : (⟨2, ![4096, 3072]⟩ : Shape).Idx → EReal} {x1 : (⟨2, ![4096, 1024]⟩ : Shape).Idx → EReal}

local notation "H" => headIn x0 x1

/-- A column of three arrays side by side, in piece `k`. -/
theorem cat_at (a b d : S4096x1024.Idx → EReal) (k : ℕ) (hk : k < 3) (x : S4096x1024.Idx → EReal) (hx : [a, b, d][k] = x)
    (hc) (j : S4096x3072.Idx) (i : S4096x1024.Idx) (e0 : (i 0).val = (j 0).val) (e1 : 1024 * k + (i 1).val = (j 1).val) :
    concatenate (α := EReal) S4096x3072 1 [⟨S4096x1024, a⟩, ⟨S4096x1024, b⟩, ⟨S4096x1024, d⟩] hc j = x i := by
  refine concatenate_apply_piece (1 : Fin 2) [⟨S4096x1024, a⟩, ⟨S4096x1024, b⟩, ⟨S4096x1024, d⟩] hc j k (show k < 3 from hk) S4096x1024 x ?_ rfl (1024 * k) ?_ i ?_ e1
  · rcases k with _ | _ | _ | k
    · subst hx; rfl
    · subst hx; rfl
    · subst hx; rfl
    · omega
  · rcases k with _ | _ | _ | k
    · rfl
    · rfl
    · rfl
    · omega
  · intro q hq
    fin_cases q
    · exact e0
    · exact absurd rfl hq

/-- The queries' gradient, -/
theorem ref_dq (h0 : Fin2 x0) (h1 : Fin2 x1) : Co (val_main_v59 (F := Ideal) x0 x1) (fun i x => (H (x / 128)).dq i (x % 128)) := fun r c => by
  rw [val_main_v59_apply, val_main_v56_apply]
  unfold val_main_v55
  exact (cat_at _ _ _ 0 (by omega) _ rfl _ _ (ix2 r c) rfl (Nat.zero_add _)).trans (ref_dq54 h0 h1 r c)

/-- the keys' -/
theorem ref_dk (h0 : Fin2 x0) (h1 : Fin2 x1) : Co (val_main_v57 (F := Ideal) x0 x1) (fun i x => (H (x / 128)).dk i (x % 128)) := fun r c => by
  rw [val_main_v57_apply]
  unfold val_main_v55
  exact (cat_at _ _ _ 1 (by omega) _ rfl _ _ (ix2 r c) rfl rfl).trans (ref_dk52 h0 h1 r c)

/-- and the values'. -/
theorem ref_dv (h0 : Fin2 x0) (h1 : Fin2 x1) : Co (val_main_v58 (F := Ideal) x0 x1) (fun i x => (H (x / 128)).dv i (x % 128)) := fun r c => by
  rw [val_main_v58_apply]
  unfold val_main_v55
  exact (cat_at _ _ _ 2 (by omega) _ rfl _ _ (ix2 r c) rfl rfl).trans (ref_dv50 h0 h1 r c)

end Cert.Proof.SB
-- ==== Proof.Scale.lean ====
/-
  Extended reals that are reals, and what the calls of the feed-forward layer share: a product by one half, sums scaled by
  a number that is neither negative nor infinite (such a factor may be taken out of any sum), sums of reals, the logistic
  function.
-/
module

public import Idealize.ShloMosaic.PureOps.Ideal.Laws

@[expose] public section

noncomputable section

namespace Cert.Proof

open Idealize.ShloMosaic

theorem half_word : Ideal.ofBits .f32 0x3F000000#32 = ((1 / 2 : ℝ) : EReal) := by
  simp [Ideal.ofBits, Ideal.ieee, -EReal.coe_mul]
  norm_num

theorem mul_sum_coe {ι : Type*} (s : Finset ι) (c : ℝ) (hc : 0 ≤ c) (f : ι → EReal) :
    (∑ k ∈ s, f k) * (c : EReal) = ∑ k ∈ s, (c : EReal) * f k := by
  classical
  induction s using Finset.induction_on with
  | empty => simp
  | insert a s ha ih =>
    rw [Finset.sum_insert ha, Finset.sum_insert ha, ← ih, mul_comm _ (c : EReal), mul_comm _ (c : EReal),
      EReal.left_distrib_of_nonneg_of_ne_top (by exact_mod_cast hc) (EReal.coe_ne_top c)]

theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem inf_word' : Ideal.ofBits .f32 0x7F800000#32 = (⊤ : EReal) := by
  simp [Ideal.ofBits, Ideal.ieee]

/-- A value whose absolute value is below the infinite word is a real. -/
theorem real_of_lt (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  rw [inf_word'] at h
  induction x with
  | bot => exact absurd h (by show Ideal.cmp .olt (max (⊥ : EReal) (-⊥)) ⊤ ≠ 1#1; simp [Ideal.cmp])
  | top => exact absurd h (by show Ideal.cmp .olt (max (⊤ : EReal) (-⊤)) ⊤ ≠ 1#1; simp [Ideal.cmp])
  | coe r => exact ⟨r, rfl⟩

/-- A sum of products of reals is a real. -/
theorem real_sum {n : ℕ} (s : ℝ) (f g : Fin n → EReal) (hf : ∀ x, ∃ r : ℝ, f x = (r : EReal)) (hg : ∀ x, ∃ r : ℝ, g x = (r : EReal)) :
    ∃ r : ℝ, ∑ x, (s : EReal) * f x * g x = (r : EReal) := by
  choose F hF using hf
  choose G hG using hg
  refine ⟨∑ x, s * F x * G x, ?_⟩
  rw [← coe_sum]
  refine Finset.sum_congr rfl fun x _ => ?_
  rw [hF, hG, EReal.coe_mul, EReal.coe_mul]

/-- The logistic function of the idealized programs. -/
abbrev sg (x : EReal) : EReal := Ideal.div 1 (1 + Ideal.exp (-x))

theorem sg_coe (r : ℝ) : ∃ s : ℝ, sg (r : EReal) = (s : EReal) := by
  have h : (1 : ℝ) + Real.exp (-r) ≠ 0 := (by positivity : (0 : ℝ) < 1 + Real.exp (-r)).ne'
  refine ⟨1 * (1 / (1 + Real.exp (-r))), ?_⟩
  show Ideal.div 1 (1 + Ideal.exp (-(r : EReal))) = _
  rw [← EReal.coe_neg, Ideal.exp_coe, ← EReal.coe_one, ← EReal.coe_add, Ideal.div_coe h, ← EReal.coe_mul]

theorem sg_top : sg ⊤ = 1 := by
  show Ideal.div 1 (1 + Ideal.exp (-⊤)) = 1
  rw [EReal.neg_top, Ideal.exp_bot, add_zero, ← EReal.coe_one, Ideal.div_coe one_ne_zero]
  norm_num

theorem sg_bot : sg ⊥ = 0 := by
  show Ideal.div 1 (1 + Ideal.exp (-⊥)) = 0
  rw [EReal.neg_bot, Ideal.exp_top, EReal.add_top_of_ne_bot (by decide)]
  simp [Ideal.div]

/-- The gradient through the gate's first argument: a real times the derivative of the product with the logistic, spread over the sum. -/
theorem gate (c : ℝ) (g : EReal) : (c : EReal) * (sg g * (1 + g * (1 - sg g))) = c * sg g + g * c * (sg g * (1 - sg g)) := by
  induction g with
  | top => rw [sg_top]; simp [← EReal.coe_one, ← EReal.coe_sub, ← EReal.coe_mul]
  | bot => rw [sg_bot]; simp
  | coe r =>
    obtain ⟨s, hs⟩ := sg_coe r
    rw [hs]
    simp only [← EReal.coe_one, ← EReal.coe_sub, ← EReal.coe_mul, ← EReal.coe_add]
    exact congrArg _ (by ring)

end Cert.Proof

end
-- ==== Proof.DownDw.lean ====
/-
  The gradient of the down product's weight, `0.5 * aᵀ @ dxo`.
-/
module

public import proofs.«01_k».proof.Defs
public import proofs.«01_k».proof.Proof.Scale
public import proofs.«01_k».proof.Proof.Gen.KernelDownDw
public import proofs.«01_k».proof.Proof.Gen.KernelDownDw.Frame
public import proofs.«01_k».proof.Proof.Gen.KernelDownDwIdeal
public import proofs.«01_k».proof.Proof.Gen.KernelDownDwIdeal.Value
public import proofs.«01_k».proof.Proof.Gen.ReferenceDownDwIdeal
public import proofs.«01_k».proof.Proof.Gen.ReferenceDownDwIdeal.Run
public import proofs.«01_k».proof.Proof.Gen.ReferenceDownDwIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.DownDw

open Cert.KernelDownDwIdeal Cert.KernelDownDwIdeal.Gen
open Idealize.ShloMosaic Idealize.ShloMosaic.TcCoe Idealize.SL.Sem

variable (m : (ℓ : Loc nD τ sig) → Buf (Elt Ideal) ℓ)

theorem idx : ∀ t : Fin cfg0.N, win0_0.index t = ![0, t.val] ∧ win0_1.index t = ![0, 0] ∧ win0_2.index t = ![0, t.val, 0] :=
  (by decide +kernel : ∀ t : Fin grid0.N, _)

/-- What the body stores at an entry of a block is the reference's value where the entry sits in the array. -/
theorem point (c : Dev nD) (t : Fin cfg0.N) (y) : k0_pay1 (iblk m c 0 t) (iblk m c 1 t) y
    = Cert.ReferenceDownDwIdeal.Read.val_main_v7 (F := Ideal) (m ((c : Thread nD τ).loc main_arg0)) (m ((c : Thread nD τ).loc main_arg2)) (((cfg0.win 2).blk t).view.emb y) := by
  pointwise [k0_pay1, Cert.ReferenceDownDwIdeal.Read.val_main_v7, Cert.ReferenceDownDwIdeal.Read.val_main_v6, Cert.ReferenceDownDwIdeal.Read.val_main_v5, Cert.ReferenceDownDwIdeal.Read.val_main_v4, Cert.ReferenceDownDwIdeal.Read.val_main_v3, Cert.ReferenceDownDwIdeal.Read.val_main_cst_0]
  rw [half_word, mul_sum_coe _ _ (by norm_num)]
  refine Finset.sum_congr rfl fun x _ => ?_
  rw [mul_assoc]
  refine congrArg (_ * ·) ?_
  refine (mul_comm _ _).trans ?_
  blk_point [iblk, V, idx t]

/-- The result array after the run. -/
theorem final (c : Dev nD) : (dats m 0 c).arrAt 2 cfg0.N
    = Cert.ReferenceDownDwIdeal.Read.val_main_v7 (F := Ideal) (m ((c : Thread nD τ).loc main_arg0)) (m ((c : Thread nD τ).loc main_arg2)) := by
  refine (dats m 0 c).arrAt_eq_of_covers 2 _ (by decide +kernel) fun t _ y => ?_
  blk_simp
  rw [after0_2]
  simp only [outsAt0]
  frame_out
  exact point m c t y

/-- The kernel as printed runs, leaves its arguments unchanged and ends with every counter at zero. -/
theorem frame_kernel : Cert.quiescent_KernelDownDw := fun m ρ _ => Cert.KernelDownDw.Gen.frame (F := Bits) m ρ

/-- The idealized kernel runs, leaves its arguments unchanged and ends with every counter at zero. -/
theorem frame_kernelIdeal : Cert.quiescent_KernelDownDwIdeal := fun m ρ _ => Cert.KernelDownDwIdeal.Gen.frame (F := Ideal) m ρ

/-- The idealized reference runs, leaves its arguments unchanged and ends with every counter at zero. -/
theorem frame_referenceIdeal : Cert.quiescent_ReferenceDownDwIdeal := fun m ρ _ =>
  (θ_run Cert.ReferenceDownDwIdeal.defs _ _).mono
    (fun r h => ⟨fun c => (h c).2, sem_eq_zero_of_no_sems (by decide) r.2⟩)
    (Cert.ReferenceDownDwIdeal.Value.run (F := Ideal) m ρ)

/-- The kernel's result is the reference's, over the extended reals. -/
theorem same_values : Cert.algebraic_KernelDownDwIdeal_ReferenceDownDwIdeal := by
  intro m g m' g' _ hag
  refine ⟨fun c => Cert.ReferenceDownDwIdeal.Read.val_main_v7 (F := Ideal) (m ((c : Thread nD τ).loc main_arg0)) (m ((c : Thread nD τ).loc main_arg2)), (θ_run defs _ _).mono (fun r h c => ⟨(h c).1.trans (final m c), (h c).2⟩) (Cert.KernelDownDwIdeal.Value.run_blocks (F := Ideal) m g), ?_⟩
  refine (θ_run Cert.ReferenceDownDwIdeal.defs _ _).mono (fun r h c => ?_) (Cert.ReferenceDownDwIdeal.Value.run (F := Ideal) m' g')
  obtain ⟨e0, e1, e2, e3⟩ := hag c
  refine ⟨(h c).1.trans ?_, (h c).2⟩
  rw [e0, e2]
  rfl

end Cert.Proof.DownDw

end
-- ==== Proof.UpDw.lean ====
/-
  The gradient of the up product's weight, `nᵀ @ dgu`.
-/
module

public import proofs.«01_k».proof.Defs
public import proofs.«01_k».proof.Proof.Gen.KernelUpDw
public import proofs.«01_k».proof.Proof.Gen.KernelUpDw.Frame
public import proofs.«01_k».proof.Proof.Gen.KernelUpDwIdeal
public import proofs.«01_k».proof.Proof.Gen.KernelUpDwIdeal.Value
public import proofs.«01_k».proof.Proof.Gen.ReferenceUpDwIdeal
public import proofs.«01_k».proof.Proof.Gen.ReferenceUpDwIdeal.Run
public import proofs.«01_k».proof.Proof.Gen.ReferenceUpDwIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.UpDw

open Cert.KernelUpDwIdeal Cert.KernelUpDwIdeal.Gen
open Idealize.ShloMosaic Idealize.ShloMosaic.TcCoe Idealize.SL.Sem

variable (m : (ℓ : Loc nD τ sig) → Buf (Elt Ideal) ℓ)

theorem idx : ∀ t : Fin cfg0.N, win0_0.index t = ![0, 0, t.val % 2] ∧ win0_1.index t = ![t.val / 4, 0, t.val / 2 % 2]
    ∧ win0_2.index t = ![0, t.val % 2, t.val / 2] :=
  (by decide +kernel : ∀ t : Fin grid0.N, _)

/-- The first operand of the call holds the norm's output in each of its two copies. -/
theorem V_v4 (c : Dev nD) (i : S2x4096x1024.Idx) (j : S4096x1024.Idx) (h0 : (j 0).val = (i 1).val) (h1 : (j 1).val = (i 2).val) :
    (V m c main_v4 : S2x4096x1024.Idx → EReal) i = (m ((c : Thread nD τ).loc main_arg0) : S4096x1024.Idx → EReal) j := by
  have hj : j = ValueIdx.ix2 (i 1) (i 2) := funext fun a => Fin.ext (match a with | ⟨0, _⟩ => h0 | ⟨1, _⟩ => h1)
  subst hj
  unfold V
  after_reads_simp
  pointwise
  split <;> rfl

/-- The second operand of the call holds the two halves of the gradient's columns one above the other. -/
theorem V_v9 (c : Dev nD) (i : S2x4096x2816.Idx) (j : S4096x5632.Idx) (h0 : (j 0).val = (i 1).val) (h1 : (j 1).val = 2816 * (i 0).val + (i 2).val) :
    (V m c main_v9 : S2x4096x2816.Idx → EReal) i = (m ((c : Thread nD τ).loc main_arg2) : S4096x5632.Idx → EReal) j := by
  unfold V
  after_reads_simp
  pointwise
  have hi : (i 0).val < 2 := (i 0).isLt
  split
  · refine congrArg (m ((c : Thread nD τ).loc main_arg2)) (funext fun a => Fin.ext (match a with | ⟨0, _⟩ => h0.symm | ⟨1, _⟩ => ?_))
    show (i 2).val = (j 1).val
    omega
  · refine congrArg (m ((c : Thread nD τ).loc main_arg2)) (funext fun a => Fin.ext (match a with | ⟨0, _⟩ => h0.symm | ⟨1, _⟩ => ?_))
    show 2816 + (i 2).val = (j 1).val
    omega

/-- What the body stores at an entry of a block is the reference's value where the entry sits in the array. -/
theorem point (c : Dev nD) (t : Fin cfg0.N) (y) : k0_pay1 (iblk m c 0 t) (iblk m c 1 t) y
    = Cert.ReferenceUpDwIdeal.Read.val_main_v3 (F := Ideal) (m ((c : Thread nD τ).loc main_arg0)) (m ((c : Thread nD τ).loc main_arg2)) (((cfg0.win 2).blk t).view.emb y) := by
  have h8 : t.val < 8 := t.isLt
  pointwise [k0_pay1, Cert.ReferenceUpDwIdeal.Read.val_main_v3, Cert.ReferenceUpDwIdeal.Read.val_main_v2, Cert.ReferenceUpDwIdeal.Read.val_main_v1]
  refine Finset.sum_congr rfl fun x _ => ?_
  refine (mul_comm _ _).trans ?_
  refine congrArg₂ (· * ·) ?_ ?_
  · refine (V_v9 m c _ _ ?_ ?_)
    · blk_simp [idx t]; try simp
    · blk_simp [idx t]
      simp
      omega
  · refine (V_v4 m c _ _ ?_ ?_)
    · blk_simp [idx t]; try simp
    · blk_simp [idx t]; try simp

/-- The result array after the run. -/
theorem final (c : Dev nD) : (dats m 0 c).arrAt 2 cfg0.N
    = Cert.ReferenceUpDwIdeal.Read.val_main_v3 (F := Ideal) (m ((c : Thread nD τ).loc main_arg0)) (m ((c : Thread nD τ).loc main_arg2)) := by
  refine (dats m 0 c).arrAt_eq_of_covers 2 _ (by decide +kernel) fun t _ y => ?_
  blk_simp
  rw [after0_2]
  simp only [outsAt0]
  frame_out
  exact point m c t y

/-- The kernel as printed runs, leaves its arguments unchanged and ends with every counter at zero. -/
theorem frame_kernel : Cert.quiescent_KernelUpDw := fun m ρ _ => Cert.KernelUpDw.Gen.frame (F := Bits) m ρ

/-- The idealized kernel runs, leaves its arguments unchanged and ends with every counter at zero. -/
theorem frame_kernelIdeal : Cert.quiescent_KernelUpDwIdeal := fun m ρ _ => Cert.KernelUpDwIdeal.Gen.frame (F := Ideal) m ρ

/-- The idealized reference runs, leaves its arguments unchanged and ends with every counter at zero. -/
theorem frame_referenceIdeal : Cert.quiescent_ReferenceUpDwIdeal := fun m ρ _ =>
  (θ_run Cert.ReferenceUpDwIdeal.defs _ _).mono
    (fun r h => ⟨fun c => (h c).2, sem_eq_zero_of_no_sems (by decide) r.2⟩)
    (Cert.ReferenceUpDwIdeal.Value.run (F := Ideal) m ρ)

/-- The kernel's result is the reference's, over the extended reals. -/
theorem same_values : Cert.algebraic_KernelUpDwIdeal_ReferenceUpDwIdeal := by
  intro m g m' g' _ hag
  refine ⟨fun c => Cert.ReferenceUpDwIdeal.Read.val_main_v3 (F := Ideal) (m ((c : Thread nD τ).loc main_arg0)) (m ((c : Thread nD τ).loc main_arg2)), (θ_run defs _ _).mono (fun r h c => ⟨(h c).1.trans (final m c), (h c).2⟩) (Cert.KernelUpDwIdeal.Value.run_blocks (F := Ideal) m g), ?_⟩
  refine (θ_run Cert.ReferenceUpDwIdeal.defs _ _).mono (fun r h c => ?_) (Cert.ReferenceUpDwIdeal.Value.run (F := Ideal) m' g')
  obtain ⟨e0, e1, e2, e3⟩ := hag c
  refine ⟨(h c).1.trans ?_, (h c).2⟩
  rw [e0, e2]
  rfl

end Cert.Proof.UpDw

end
-- ==== Proof.DownBwd.lean ====
/-
  The gradient of the down product and of the gate, in the gate's two arguments.
-/
module

public import proofs.«01_k».proof.Defs
public import proofs.«01_k».proof.Proof.Gen.KernelDownBwd
public import proofs.«01_k».proof.Proof.Gen.KernelDownBwd.Frame
public import proofs.«01_k».proof.Proof.Gen.KernelDownBwdIdeal
public import proofs.«01_k».proof.Proof.Gen.KernelDownBwdIdeal.Value
public import proofs.«01_k».proof.Proof.Gen.ReferenceDownBwdIdeal
public import proofs.«01_k».proof.Proof.Gen.ReferenceDownBwdIdeal.Run
public import proofs.«01_k».proof.Proof.Gen.ReferenceDownBwdIdeal.Read
public import proofs.«01_k».proof.Proof.Gen.Pre_finite_down_bwd
public import proofs.«01_k».proof.Proof.Scale
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.DownBwd

open Cert.KernelDownBwdIdeal Cert.KernelDownBwdIdeal.Gen
open Idealize.ShloMosaic Idealize.ShloMosaic.TcCoe Idealize.SL.Sem

variable (m : (ℓ : Loc nD τ sig) → Buf (Elt Ideal) ℓ)

theorem idx : ∀ t : Fin cfg0.N, win0_0.index t = ![t.val % 4, 0] ∧ win0_1.index t = ![0, t.val / 4, 0]
    ∧ win0_2.index t = ![0, t.val % 4, t.val / 4] ∧ win0_3.index t = ![0, t.val % 4, t.val / 4] :=
  (by decide +kernel : ∀ t : Fin grid0.N, _)

/-- The call's third operand holds the two halves of the gate's argument one after the other. -/
theorem V_v6 (c : Dev nD) (i : S2x4096x2816.Idx) (j : S4096x2816.Idx) (h0 : (j 0).val = (i 1).val) (h1 : (j 1).val = (i 2).val) :
    (V m c main_v6 : S2x4096x2816.Idx → EReal) i = if (i 0).val < 1 then (m ((c : Thread nD τ).loc main_arg0) : S4096x2816.Idx → EReal) j
      else (m ((c : Thread nD τ).loc main_arg1) : S4096x2816.Idx → EReal) j := by
  have hj : j = ValueIdx.ix2 (i 1) (i 2) := funext fun a => Fin.ext (match a with | ⟨0, _⟩ => h0 | ⟨1, _⟩ => h1)
  subst hj
  unfold V
  after_reads_simp
  pointwise
  split <;> (after_reads_simp; pointwise; rfl)

theorem read0 (c : Dev nD) (t : Fin cfg0.N) (i : S1024x1024.Idx) (j : S4096x1024.Idx) (h0 : (j 0).val = t.val % 4 * 1024 + (i 0).val) (h1 : (j 1).val = (i 1).val) :
    (iblk m c 0 t : S1024x1024.Idx → EReal) i = (m ((c : Thread nD τ).loc main_arg3) : S4096x1024.Idx → EReal) j := by
  blk_point [iblk, V, idx t]

theorem read1 (c : Dev nD) (t : Fin cfg0.N) (i : S1x1408x1024.Idx) (j : S2816x1024.Idx) (h0 : (j 0).val = t.val / 4 * 1408 + (i 1).val) (h1 : (j 1).val = (i 2).val) :
    (iblk m c 1 t : S1x1408x1024.Idx → EReal) i = (m ((c : Thread nD τ).loc main_arg2) : S2816x1024.Idx → EReal) j := by
  blk_point [iblk, V, idx t]

theorem read2 (c : Dev nD) (t : Fin cfg0.N) (i : S2x1024x1408.Idx) (j : S4096x2816.Idx) (h0 : (j 0).val = t.val % 4 * 1024 + (i 1).val) (h1 : (j 1).val = t.val / 4 * 1408 + (i 2).val) :
    (iblk m c 2 t : S2x1024x1408.Idx → EReal) i = if (i 0).val < 1 then (m ((c : Thread nD τ).loc main_arg0) : S4096x2816.Idx → EReal) j
      else (m ((c : Thread nD τ).loc main_arg1) : S4096x2816.Idx → EReal) j := by
  have h8 : t.val < 8 := t.isLt
  refine (V_v6 m c (((cfg0.win 2).blk t).view.emb i) j ?_ ?_).trans ?_
  · blk_simp [idx t]; omega
  · blk_simp [idx t]; omega
  · have e : ((((cfg0.win 2).blk t).view.emb i) 0).val = (i 0).val := by
      blk_simp [idx t]
    rw [e]

/-- The three blocks read at a point and the four arguments, as arrays of extended reals. -/
abbrev B0 (c : Dev nD) (t : Fin cfg0.N) : S1024x1024.Idx → EReal := iblk m c 0 t
abbrev B1 (c : Dev nD) (t : Fin cfg0.N) : S1x1408x1024.Idx → EReal := iblk m c 1 t
abbrev B2 (c : Dev nD) (t : Fin cfg0.N) : S2x1024x1408.Idx → EReal := iblk m c 2 t
abbrev A0 (c : Dev nD) : S4096x2816.Idx → EReal := m ((c : Thread nD τ).loc main_arg0)
abbrev A1 (c : Dev nD) : S4096x2816.Idx → EReal := m ((c : Thread nD τ).loc main_arg1)
abbrev A2 (c : Dev nD) : S2816x1024.Idx → EReal := m ((c : Thread nD τ).loc main_arg2)
abbrev A3 (c : Dev nD) : S4096x1024.Idx → EReal := m ((c : Thread nD τ).loc main_arg3)

/-- Half the contraction of the two blocks is the reference's contraction of the halved gradient. -/
theorem half_sum (c : Dev nD) (t : Fin cfg0.N) (p : Fin 1024) (q : Fin 1408) (r : Fin 4096) (k : Fin 2816) (hr : r.val = t.val % 4 * 1024 + p.val)
    (hk : k.val = t.val / 4 * 1408 + q.val) :
    ((1 / 2 : ℝ) : EReal) * ∑ x : Fin 1024, B0 m c t (ix2 p x) * B1 m c t (ix3 0 q x)
    = ∑ x : Fin 1024, ((1 / 2 : ℝ) : EReal) * A3 m c (ix2 r x) * A2 m c (ix2 k x) := by
  rw [mul_comm, mul_sum_coe _ _ (by norm_num)]
  refine Finset.sum_congr rfl fun x _ => ?_
  rw [show B0 m c t (ix2 p x) = A3 m c (ix2 r x) from read0 m c t (ix2 p x) (ix2 r x) hr rfl,
    show B1 m c t (ix3 0 q x) = A2 m c (ix2 k x) from read1 m c t (ix3 0 q x) (ix2 k x) hk rfl, mul_assoc]

/-- The gradient of the gate's second argument, the factors in the two programs' orders. -/
theorem second {s s' g g' : EReal} (es : s = s') (eg : g = g') :
    s * g * Ideal.div 1 (1 + Ideal.exp (0 - g)) = g' * Ideal.div 1 (1 + Ideal.exp (-g')) * s' := by
  rw [es, eg, zero_sub, mul_assoc, mul_comm]

/-- The gradient of the gate's first argument. -/
theorem first {s s' g g' u u' : EReal} (es : s = s') (eg : g = g') (eu : u = u') (hs : ∃ r : ℝ, s' = (r : EReal)) (hu : ∃ r : ℝ, u' = (r : EReal)) :
    s * u * (Ideal.div 1 (1 + Ideal.exp (0 - g)) * (1 + g * (1 - Ideal.div 1 (1 + Ideal.exp (0 - g)))))
    = s' * u' * Ideal.div 1 (1 + Ideal.exp (-g')) + g' * (s' * u') * (Ideal.div 1 (1 + Ideal.exp (-g')) * (1 - Ideal.div 1 (1 + Ideal.exp (-g')))) := by
  obtain ⟨a, rfl⟩ := hs
  obtain ⟨b, rfl⟩ := hu
  rw [es, eg, eu, zero_sub, ← EReal.coe_mul]
  exact gate _ _

/-- What the body stores at an entry of a block is the reference's value where the entry sits in the array. -/
theorem point (c : Dev nD) (hu : ∀ i, ∃ r : ℝ, (m ((c : Thread nD τ).loc main_arg1) : S4096x2816.Idx → EReal) i = (r : EReal))
    (hw : ∀ i, ∃ r : ℝ, (m ((c : Thread nD τ).loc main_arg2) : S2816x1024.Idx → EReal) i = (r : EReal))
    (hd : ∀ i, ∃ r : ℝ, (m ((c : Thread nD τ).loc main_arg3) : S4096x1024.Idx → EReal) i = (r : EReal)) (t : Fin cfg0.N) (y) : out0_3 (F := Ideal) (iblk m c 0 t) (iblk m c 1 t) (iblk m c 2 t) y
    = Cert.ReferenceDownBwdIdeal.Read.val_main_v14 (F := Ideal) (m ((c : Thread nD τ).loc main_arg0)) (m ((c : Thread nD τ).loc main_arg1))
      (m ((c : Thread nD τ).loc main_arg2)) (m ((c : Thread nD τ).loc main_arg3)) (((cfg0.win 3).blk t).view.emb y) := by
  have h8 : t.val < 8 := t.isLt
  have j0 : ((((cfg0.win 3).blk t).view.emb y) 0).val = (y 0).val := by blk_simp [idx t]
  have j1 : ((((cfg0.win 3).blk t).view.emb y) 1).val = t.val % 4 * 1024 + (y 1).val := by blk_simp [idx t]
  have j2 : ((((cfg0.win 3).blk t).view.emb y) 2).val = t.val / 4 * 1408 + (y 2).val := by blk_simp [idx t]
  generalize (((cfg0.win 3).blk t).view.emb y) = j at j0 j1 j2 ⊢
  canon_tiles x h
  all_goals (open_payloads; pointwise [Cert.ReferenceDownBwdIdeal.Read.val_main_v14, Cert.ReferenceDownBwdIdeal.Read.val_main_v13, Cert.ReferenceDownBwdIdeal.Read.val_main_v12, Cert.ReferenceDownBwdIdeal.Read.val_main_v11, Cert.ReferenceDownBwdIdeal.Read.val_main_v10, Cert.ReferenceDownBwdIdeal.Read.val_main_v9, Cert.ReferenceDownBwdIdeal.Read.val_main_v8, Cert.ReferenceDownBwdIdeal.Read.val_main_v7, Cert.ReferenceDownBwdIdeal.Read.val_main_v6, Cert.ReferenceDownBwdIdeal.Read.val_main_v5, Cert.ReferenceDownBwdIdeal.Read.val_main_cst_0, Cert.ReferenceDownBwdIdeal.Read.val_main_call1_v2, Cert.ReferenceDownBwdIdeal.Read.val_main_call1_v1, Cert.ReferenceDownBwdIdeal.Read.val_main_call1_v0, Cert.ReferenceDownBwdIdeal.Read.val_main_v0_0, Cert.ReferenceDownBwdIdeal.Read.val_main_v0_1, Cert.ReferenceDownBwdIdeal.Read.val_main_v0_2, Cert.ReferenceDownBwdIdeal.Read.val_main_call0_v0, Cert.ReferenceDownBwdIdeal.Read.val_main_call0_v1, Cert.ReferenceDownBwdIdeal.Read.val_main_call0_v2, Cert.ReferenceDownBwdIdeal.Read.val_main_call0_v3, Cert.ReferenceDownBwdIdeal.Read.val_main_call0_v4, Cert.ReferenceDownBwdIdeal.Read.val_main_call0_v6, Cert.ReferenceDownBwdIdeal.Read.val_main_call0_v7, Cert.ReferenceDownBwdIdeal.Read.val_main_call0_cst, Cert.ReferenceDownBwdIdeal.Read.val_main_call0_cst_0, Cert.ReferenceDownBwdIdeal.Read.val_main_call0_cst_1])
  all_goals rw [half_word]
  all_goals
    have a1 : ((j : S2x4096x2816.Idx) 1).val = t.val % 4 * 1024 + (x 1).val := by rw [j1, h1]
    have a2 : ((j : S2x4096x2816.Idx) 2).val = t.val / 4 * 1408 + (x 2).val := by rw [j2, h2]
    have es := half_sum m c t (x 1) (x 2) (j 1) (j 2) a1 a2
    have eg := (read2 m c t (ix3 0 (x 1) (x 2)) (ix2 (j 1) (j 2)) a1 a2).trans (if_pos (by decide : (0 : ℕ) < 1))
    have eu := (read2 m c t (ix3 1 (x 1) (x 2)) (ix2 (j 1) (j 2)) a1 a2).trans (if_neg (by decide : ¬ (1 : ℕ) < 1))
  · rw [dif_neg (by omega)]
    exact second es eg
  · rw [dif_pos (by omega)]
    exact first es eg eu (real_sum (1 / 2) _ _ (fun x => hd (ix2 (j 1) x)) (fun x => hw (ix2 (j 2) x))) (hu (ix2 (j 1) (j 2)))

/-- The result array after the run. -/
theorem final (c : Dev nD) (hu : ∀ i, ∃ r : ℝ, (m ((c : Thread nD τ).loc main_arg1) : S4096x2816.Idx → EReal) i = (r : EReal))
    (hw : ∀ i, ∃ r : ℝ, (m ((c : Thread nD τ).loc main_arg2) : S2816x1024.Idx → EReal) i = (r : EReal))
    (hd : ∀ i, ∃ r : ℝ, (m ((c : Thread nD τ).loc main_arg3) : S4096x1024.Idx → EReal) i = (r : EReal)) : (dats m 0 c).arrAt 3 cfg0.N
    = Cert.ReferenceDownBwdIdeal.Read.val_main_v14 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 3 _ (by decide +kernel) fun t _ y => ?_
  blk_simp
  rw [after0_3]
  exact point m c hu hw hd t y

/-- The kernel as printed runs, leaves its arguments unchanged and ends with every counter at zero. -/
theorem frame_kernel : Cert.quiescent_KernelDownBwd := fun m ρ _ => Cert.KernelDownBwd.Gen.frame (F := Bits) m ρ

/-- The idealized kernel runs, leaves its arguments unchanged and ends with every counter at zero. -/
theorem frame_kernelIdeal : Cert.quiescent_KernelDownBwdIdeal := fun m ρ _ => Cert.KernelDownBwdIdeal.Gen.frame (F := Ideal) m ρ

/-- The idealized reference runs, leaves its arguments unchanged and ends with every counter at zero. -/
theorem frame_referenceIdeal : Cert.quiescent_ReferenceDownBwdIdeal := fun m ρ _ =>
  (θ_run Cert.ReferenceDownBwdIdeal.defs _ _).mono
    (fun r h => ⟨fun c => (h c).2, sem_eq_zero_of_no_sems (by decide) r.2⟩)
    (Cert.ReferenceDownBwdIdeal.Value.run (F := Ideal) m ρ)

/-- The kernel's result is the reference's, over the extended reals, when the second argument, the weight and the gradient are finite. -/
theorem same_values : Cert.algebraic_KernelDownBwdIdeal_ReferenceDownBwdIdeal_pre_finite_down_bwd := by
  intro m g m' g' hpre hag
  refine ⟨fun c => Cert.ReferenceDownBwdIdeal.Read.val_main_v14 (F := Ideal) (m ((c : Thread nD τ).loc main_arg0)) (m ((c : Thread nD τ).loc main_arg1))
      (m ((c : Thread nD τ).loc main_arg2)) (m ((c : Thread nD τ).loc main_arg3)), (θ_run defs _ _).mono (fun r h c => ⟨(h c).1.trans (final m c (fun i => real_of_lt _ (congrFun (hpre c).1 i)) (fun i => real_of_lt _ (congrFun (hpre c).2.1 i)) (fun i => real_of_lt _ (congrFun (hpre c).2.2 i))), (h c).2⟩) (Cert.KernelDownBwdIdeal.Value.run_blocks (F := Ideal) m g), ?_⟩
  refine (θ_run Cert.ReferenceDownBwdIdeal.defs _ _).mono (fun r h c => ?_) (Cert.ReferenceDownBwdIdeal.Value.run (F := Ideal) m' g')
  obtain ⟨e0, e1, e2, e3⟩ := hag c
  refine ⟨(h c).1.trans ?_, (h c).2⟩
  rw [e0, e1, e2, e3]
  rfl

end Cert.Proof.DownBwd

end
-- ==== Proof.Norm.lean ====
/-
  The gradient through the norm at an entry of a row, as the two programs compute it, and their equality over the extended
  reals.
-/
module

public import proofs.«01_k».proof.Proof.Scale

@[expose] public section

noncomputable section

namespace Cert.Proof

open Idealize.ShloMosaic

/-- One over the root mean square of a row. -/
abbrev rs (f : Fin 1024 → EReal) : EReal :=
  Ideal.rsqrt (Ideal.div (∑ x, f x * f x) (Ideal.ofBits .f32 0x44800000#32) + Ideal.ofBits .f32 0x358637BD#32)

/-- The mean square of a row, with the small number added. -/
abbrev ms (f : Fin 1024 → EReal) : EReal :=
  Ideal.div (∑ x, f x * f x) (Ideal.ofBits .f32 0x44800000#32) + Ideal.ofBits .f32 0x358637BD#32

/-- The gradient through the norm at an entry `a` of a row `f` whose gradient is `b` there and `w` over the row, as the kernel
computes it. -/
abbrev kdx (f w : Fin 1024 → EReal) (a b : EReal) : EReal :=
  rs f * (b - a * rs f * Ideal.div (∑ x, w x * (f x * rs f)) (Ideal.ofBits .f32 0x44800000#32))

/-- The share of the mean square in that gradient, as the reference computes it. -/
abbrev rq (f w : Fin 1024 → EReal) : EReal :=
  Ideal.div ((∑ x, f x * w x) * (Ideal.ofBits .f32 0xBF000000#32 * Ideal.div (rs f) (ms f))) (Ideal.ofBits .f32 0x44800000#32)

/-- The gradient through the norm as the reference computes it. -/
abbrev rdx (f w : Fin 1024 → EReal) (a b : EReal) : EReal := b * rs f + a * rq f w + rq f w * a

theorem word_1024 : Ideal.ofBits .f32 0x44800000#32 = ((1024 : ℝ) : EReal) := by
  simp [Ideal.ofBits, Ideal.ieee, -EReal.coe_mul]
  norm_num

theorem word_neg_half : Ideal.ofBits .f32 0xBF000000#32 = ((-1 / 2 : ℝ) : EReal) := by
  simp [Ideal.ofBits, Ideal.ieee, -EReal.coe_mul]
  norm_num

theorem word_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]
  try norm_num

theorem sq_nonneg' (x : EReal) : 0 ≤ x * x := by
  induction x with
  | bot => simp
  | top => simp
  | coe r => exact_mod_cast mul_self_nonneg r

/-- The mean square is a positive real or infinite. -/
theorem ms_cases (f : Fin 1024 → EReal) : ms f = ⊤ ∨ ∃ v : ℝ, 0 < v ∧ ms f = (v : EReal) := by
  obtain ⟨e, he, hw⟩ := word_eps
  have h2 : (1024 : ℝ) ≠ 0 := by norm_num
  have h0 : 0 ≤ ∑ x, f x * f x := Finset.sum_nonneg fun x _ => sq_nonneg' _
  simp only [ms, hw, word_1024, Ideal.div_coe h2]
  generalize ∑ x, f x * f x = s at h0
  induction s with
  | bot => exact absurd h0 (by decide)
  | top =>
    refine .inl ?_
    rw [EReal.top_mul_coe_of_pos (by norm_num), EReal.top_add_coe]
  | coe r =>
    refine .inr ⟨r * (1 / 1024) + e, ?_, by rw [EReal.coe_add, EReal.coe_mul]⟩
    have hr : 0 ≤ r := by exact_mod_cast h0
    positivity

/-- Twice a value, each half with its sign changed. -/
theorem neg_double (z : EReal) : -z + -z = -(z + z) := by
  induction z with
  | bot => simp
  | top => simp
  | coe r =>
    norm_cast
    ring

/-- The two gradients through the norm are one value: the inverse root cubed is the inverse root over the mean square when that
is real, and both are zero when it is infinite. -/
theorem norm_bwd (f w : Fin 1024 → EReal) (a b : EReal) : kdx f w a b = rdx f w a b := by
  have h2 : (1024 : ℝ) ≠ 0 := by norm_num
  have hrs : rs f = Ideal.rsqrt (ms f) := rfl
  rcases ms_cases f with h | ⟨v, hv, h⟩
  · have hr : rs f = 0 := by rw [hrs, h]; rfl
    simp only [kdx, rdx, rq, hr, h, word_1024, Ideal.div_coe h2]
    simp [Ideal.div]
  · have hr : rs f = (((Real.sqrt v)⁻¹ : ℝ) : EReal) := by
      rw [hrs, h, Ideal.rsqrt_coe, if_neg (not_lt.mpr hv.le), if_neg hv.ne']
    have h3 : (Real.sqrt v)⁻¹ * (Real.sqrt v)⁻¹ = 1 / v := by
      rw [← mul_inv, Real.mul_self_sqrt hv.le, one_div]
    have hp : 0 < (Real.sqrt v)⁻¹ := inv_pos.mpr (Real.sqrt_pos.mpr hv)
    generalize (Real.sqrt v)⁻¹ = ρ at hr h3 hp
    have hs : ∑ x, w x * (f x * (ρ : EReal)) = (∑ x, f x * w x) * (ρ : EReal) := by
      rw [mul_sum_coe _ _ hp.le]
      exact Finset.sum_congr rfl fun x _ => by rw [mul_left_comm, ← mul_assoc, mul_comm]
    simp only [kdx, rdx, rq]
    rw [hr, h, hs]
    generalize ∑ x, f x * w x = p
    have hq : p * (Ideal.ofBits .f32 0xBF000000#32 * Ideal.div (ρ : EReal) (v : EReal)) = -(p * ((ρ * ρ * ρ / 2 : ℝ) : EReal)) := by
      rw [word_neg_half, Ideal.div_coe hv.ne', ← EReal.coe_mul, ← EReal.coe_mul, ← h3, ← mul_neg, ← EReal.coe_neg]
      exact congrArg (fun r : ℝ => p * (r : EReal)) (by ring)
    rw [hq, word_1024, Ideal.div_coe h2, Ideal.div_coe h2, sub_eq_add_neg,
      EReal.left_distrib_of_nonneg_of_ne_top (by exact_mod_cast hp.le) (EReal.coe_ne_top ρ), add_assoc, mul_comm (ρ : EReal) b]
    refine congrArg (b * (ρ : EReal) + ·) ?_
    have e1 : -(p * ((ρ * ρ * ρ / 2 : ℝ) : EReal)) * ((1 / 1024 : ℝ) : EReal) = -(p * ((ρ * ρ * ρ / 2 * (1 / 1024) : ℝ) : EReal)) := by
      rw [EReal.neg_mul, mul_assoc, ← EReal.coe_mul]
    have e2 : a * (p * ((ρ * ρ * ρ / 2 * (1 / 1024) : ℝ) : EReal)) = a * p * ((ρ * ρ * ρ / 2 * (1 / 1024) : ℝ) : EReal) := (mul_assoc _ _ _).symm
    have hk : 0 ≤ ρ * ρ * ρ / 2 * (1 / 1024) := by positivity
    rw [e1, mul_comm (-_ : EReal) a, mul_neg, mul_neg, e2, neg_double,
      ← EReal.left_distrib_of_nonneg (by exact_mod_cast hk) (by exact_mod_cast hk), ← EReal.coe_add]
    refine congrArg (-·) ?_
    have e3 : (ρ : EReal) * (a * (ρ : EReal) * (p * (ρ : EReal) * ((1 / 1024 : ℝ) : EReal)))
        = a * p * ((ρ : EReal) * (ρ : EReal) * (ρ : EReal) * ((1 / 1024 : ℝ) : EReal)) := by ac_rfl
    rw [e3, ← EReal.coe_mul, ← EReal.coe_mul, ← EReal.coe_mul]
    exact congrArg (fun r : ℝ => a * p * (r : EReal)) (by ring)

/-- The kernel's gradient through the norm is the reference's, from equal rows. -/
theorem dx_eq {p p' a a' b b' : EReal} {f f' w w' : Fin 1024 → EReal} (hp : p = p') (ha : a = a') (hb : b = b') (hf : ∀ x, f x = f' x)
    (hw : ∀ x, w x = w' x) : p + kdx f w a b = p' + rdx f' w' a' b' := by
  rw [hp, ha, hb, funext hf, funext hw, norm_bwd]

end Cert.Proof

end
-- ==== Proof.UpBwd.lean ====
/-
  The gradient of the up product and of the norm, in the norm's two arguments.
-/
module

public import proofs.«01_k».proof.Defs
public import proofs.«01_k».proof.Proof.Gen.KernelUpBwd
public import proofs.«01_k».proof.Proof.Gen.KernelUpBwd.Frame
public import proofs.«01_k».proof.Proof.Gen.KernelUpBwdIdeal
public import proofs.«01_k».proof.Proof.Gen.KernelUpBwdIdeal.Value
public import proofs.«01_k».proof.Proof.Gen.ReferenceUpBwdIdeal
public import proofs.«01_k».proof.Proof.Gen.ReferenceUpBwdIdeal.Run
public import proofs.«01_k».proof.Proof.Gen.ReferenceUpBwdIdeal.Read
public import proofs.«01_k».proof.Proof.Norm
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.UpBwd

open Cert.KernelUpBwdIdeal Cert.KernelUpBwdIdeal.Gen
open Idealize.ShloMosaic Idealize.ShloMosaic.TcCoe Idealize.SL.Sem

variable (m : (ℓ : Loc nD τ sig) → Buf (Elt Ideal) ℓ)

theorem idx : ∀ t : Fin cfg0.N, win0_0.index t = ![0, t.val, 0] ∧ win0_1.index t = ![0, 0, 0] ∧ win0_2.index t = ![0, 0, 1]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

/-- A sum over the columns of the two halves. -/
theorem halves (f : Fin 5632 → EReal) :
    ∑ k, f k = ∑ k : Fin 2816, f ⟨k.val, by omega⟩ + ∑ k : Fin 2816, f ⟨2816 + k.val, by omega⟩ :=
  Fin.sum_univ_add (a := 2816) (b := 2816) f

theorem pay1 (g0 g1 : FVec Ideal S1x512x2816 .bf16) (b1 b2 : FVec Ideal S1x1024x2816 .bf16) (b3 b4 : FVec Ideal S512x1024 .f32) (b5 : FVec Ideal S1x1024 .f32) (y) :
    k0_pay1 (F := Ideal) (k0_pay6 b3) (k0_pay8 g0 b1 g1 b2 b5) b4 (k0_pay9 g0 b1 g1 b2 b3 b5) y
    = (b4 y : EReal) + kdx (fun x => b3 (ix2 (y 0) x)) (fun x => (∑ x_1, g0 (ix3 0 (y 0) x_1) * b1 (ix3 0 x x_1) + ∑ x_1, g1 (ix3 0 (y 0) x_1) * b2 (ix3 0 x x_1)) * b5 (ix2 0 x)) (b3 y)
      ((∑ x, g0 (ix3 0 (y 0) x) * b1 (ix3 0 (y 1) x) + ∑ x, g1 (ix3 0 (y 0) x) * b2 (ix3 0 (y 1) x)) * b5 (ix2 0 (y 1))) := by
  pointwise [k0_pay1, k0_pay5, k0_pay6, k0_pay7, k0_pay8, k0_pay9]

theorem pay4 (g0 g1 : FVec Ideal S1x512x2816 .bf16) (b1 b2 : FVec Ideal S1x1024x2816 .bf16) (b3 b4 : FVec Ideal S512x1024 .f32) (b5 : FVec Ideal S1x1024 .f32) (acc) (y) :
    k0_pay4 (F := Ideal) (k0_pay5 g0 b1 g1 b2) (k0_pay7 b3) acc y
    = (acc y : EReal) + ∑ x : Fin 512, (∑ k, g0 (ix3 0 x k) * b1 (ix3 0 (y 1) k) + ∑ k, g1 (ix3 0 x k) * b2 (ix3 0 (y 1) k)) *
        (b3 (ix2 x (y 1)) * rs (fun k => b3 (ix2 x k))) := by
  pointwise [k0_pay4, k0_pay5, k0_pay6, k0_pay7]

theorem pay3 (y) : k0_pay3 (F := Ideal) y = 0 := by
  pointwise [k0_pay3]

theorem ref38 (x0 : FVec Ideal S4096x1024 .f32) (x1 : FVec Ideal S1024 .f32) (x2 : FVec Ideal S1024x5632 .f32) (x3 : FVec Ideal S4096x5632 .f32) (x4 : FVec Ideal S4096x1024 .f32) (y) :
    Cert.ReferenceUpBwdIdeal.Read.val_main_v38 (F := Ideal) x0 x1 x2 x3 x4 y
    = (x4 y : EReal) + rdx (fun x => x0 (ix2 (y 0) x)) (fun x => (∑ k : Fin 5632, x3 (ix2 (y 0) k) * x2 (ix2 x k)) * x1 (ix1 x)) (x0 y)
      ((∑ k : Fin 5632, x3 (ix2 (y 0) k) * x2 (ix2 (y 1) k)) * x1 (ix1 (y 1))) := by
  pointwise [Cert.ReferenceUpBwdIdeal.Read.val_main_v0, Cert.ReferenceUpBwdIdeal.Read.val_main_cst, Cert.ReferenceUpBwdIdeal.Read.val_main_v1, Cert.ReferenceUpBwdIdeal.Read.val_main_v2, Cert.ReferenceUpBwdIdeal.Read.val_main_cst_0, Cert.ReferenceUpBwdIdeal.Read.val_main_v3, Cert.ReferenceUpBwdIdeal.Read.val_main_v4, Cert.ReferenceUpBwdIdeal.Read.val_main_cst_1, Cert.ReferenceUpBwdIdeal.Read.val_main_v5, Cert.ReferenceUpBwdIdeal.Read.val_main_v6, Cert.ReferenceUpBwdIdeal.Read.val_main_v7, Cert.ReferenceUpBwdIdeal.Read.val_main_v8, Cert.ReferenceUpBwdIdeal.Read.val_main_cst_2, Cert.ReferenceUpBwdIdeal.Read.val_main_v9, Cert.ReferenceUpBwdIdeal.Read.val_main_v10, Cert.ReferenceUpBwdIdeal.Read.val_main_v11, Cert.ReferenceUpBwdIdeal.Read.val_main_v12, Cert.ReferenceUpBwdIdeal.Read.val_main_v13, Cert.ReferenceUpBwdIdeal.Read.val_main_v14, Cert.ReferenceUpBwdIdeal.Read.val_main_v15, Cert.ReferenceUpBwdIdeal.Read.val_main_v16, Cert.ReferenceUpBwdIdeal.Read.val_main_v17, Cert.ReferenceUpBwdIdeal.Read.val_main_v18, Cert.ReferenceUpBwdIdeal.Read.val_main_cst_3, Cert.ReferenceUpBwdIdeal.Read.val_main_v19, Cert.ReferenceUpBwdIdeal.Read.val_main_v20, Cert.ReferenceUpBwdIdeal.Read.val_main_v21, Cert.ReferenceUpBwdIdeal.Read.val_main_v22, Cert.ReferenceUpBwdIdeal.Read.val_main_cst_4, Cert.ReferenceUpBwdIdeal.Read.val_main_v23, Cert.ReferenceUpBwdIdeal.Read.val_main_v24, Cert.ReferenceUpBwdIdeal.Read.val_main_cst_5, Cert.ReferenceUpBwdIdeal.Read.val_main_v25, Cert.ReferenceUpBwdIdeal.Read.val_main_v26, Cert.ReferenceUpBwdIdeal.Read.val_main_v27, Cert.ReferenceUpBwdIdeal.Read.val_main_v28, Cert.ReferenceUpBwdIdeal.Read.val_main_v29, Cert.ReferenceUpBwdIdeal.Read.val_main_cst_6, Cert.ReferenceUpBwdIdeal.Read.val_main_v30, Cert.ReferenceUpBwdIdeal.Read.val_main_v31, Cert.ReferenceUpBwdIdeal.Read.val_main_cst_7, Cert.ReferenceUpBwdIdeal.Read.val_main_v32, Cert.ReferenceUpBwdIdeal.Read.val_main_v33, Cert.ReferenceUpBwdIdeal.Read.val_main_v34, Cert.ReferenceUpBwdIdeal.Read.val_main_v35, Cert.ReferenceUpBwdIdeal.Read.val_main_v36, Cert.ReferenceUpBwdIdeal.Read.val_main_v37, Cert.ReferenceUpBwdIdeal.Read.val_main_v38, Cert.ReferenceUpBwdIdeal.Read.val_main_v39, Cert.ReferenceUpBwdIdeal.Read.val_main_v40]
  simp only [Fin.sum_univ_one, Finset.sum_const, Finset.card_univ, Fintype.card_fin, one_smul]

theorem ref40 (x0 : FVec Ideal S4096x1024 .f32) (x1 : FVec Ideal S1024 .f32) (x2 : FVec Ideal S1024x5632 .f32) (x3 : FVec Ideal S4096x5632 .f32) (x4 : FVec Ideal S4096x1024 .f32) (y) :
    Cert.ReferenceUpBwdIdeal.Read.val_main_v40 (F := Ideal) x0 x2 x3 y
    = ∑ x : Fin 4096, ((x0 (ix2 x (y 1)) * rs (fun k => x0 (ix2 x k))) * ∑ k : Fin 5632, x3 (ix2 x k) * x2 (ix2 (y 1) k) : EReal) := by
  pointwise [Cert.ReferenceUpBwdIdeal.Read.val_main_v0, Cert.ReferenceUpBwdIdeal.Read.val_main_cst, Cert.ReferenceUpBwdIdeal.Read.val_main_v1, Cert.ReferenceUpBwdIdeal.Read.val_main_v2, Cert.ReferenceUpBwdIdeal.Read.val_main_cst_0, Cert.ReferenceUpBwdIdeal.Read.val_main_v3, Cert.ReferenceUpBwdIdeal.Read.val_main_v4, Cert.ReferenceUpBwdIdeal.Read.val_main_cst_1, Cert.ReferenceUpBwdIdeal.Read.val_main_v5, Cert.ReferenceUpBwdIdeal.Read.val_main_v6, Cert.ReferenceUpBwdIdeal.Read.val_main_v7, Cert.ReferenceUpBwdIdeal.Read.val_main_v8, Cert.ReferenceUpBwdIdeal.Read.val_main_cst_2, Cert.ReferenceUpBwdIdeal.Read.val_main_v9, Cert.ReferenceUpBwdIdeal.Read.val_main_v10, Cert.ReferenceUpBwdIdeal.Read.val_main_v11, Cert.ReferenceUpBwdIdeal.Read.val_main_v12, Cert.ReferenceUpBwdIdeal.Read.val_main_v13, Cert.ReferenceUpBwdIdeal.Read.val_main_v14, Cert.ReferenceUpBwdIdeal.Read.val_main_v15, Cert.ReferenceUpBwdIdeal.Read.val_main_v16, Cert.ReferenceUpBwdIdeal.Read.val_main_v17, Cert.ReferenceUpBwdIdeal.Read.val_main_v18, Cert.ReferenceUpBwdIdeal.Read.val_main_cst_3, Cert.ReferenceUpBwdIdeal.Read.val_main_v19, Cert.ReferenceUpBwdIdeal.Read.val_main_v20, Cert.ReferenceUpBwdIdeal.Read.val_main_v21, Cert.ReferenceUpBwdIdeal.Read.val_main_v22, Cert.ReferenceUpBwdIdeal.Read.val_main_cst_4, Cert.ReferenceUpBwdIdeal.Read.val_main_v23, Cert.ReferenceUpBwdIdeal.Read.val_main_v24, Cert.ReferenceUpBwdIdeal.Read.val_main_cst_5, Cert.ReferenceUpBwdIdeal.Read.val_main_v25, Cert.ReferenceUpBwdIdeal.Read.val_main_v26, Cert.ReferenceUpBwdIdeal.Read.val_main_v27, Cert.ReferenceUpBwdIdeal.Read.val_main_v28, Cert.ReferenceUpBwdIdeal.Read.val_main_v29, Cert.ReferenceUpBwdIdeal.Read.val_main_cst_6, Cert.ReferenceUpBwdIdeal.Read.val_main_v30, Cert.ReferenceUpBwdIdeal.Read.val_main_v31, Cert.ReferenceUpBwdIdeal.Read.val_main_cst_7, Cert.ReferenceUpBwdIdeal.Read.val_main_v32, Cert.ReferenceUpBwdIdeal.Read.val_main_v33, Cert.ReferenceUpBwdIdeal.Read.val_main_v34, Cert.ReferenceUpBwdIdeal.Read.val_main_v35, Cert.ReferenceUpBwdIdeal.Read.val_main_v36, Cert.ReferenceUpBwdIdeal.Read.val_main_v37, Cert.ReferenceUpBwdIdeal.Read.val_main_v38, Cert.ReferenceUpBwdIdeal.Read.val_main_v39, Cert.ReferenceUpBwdIdeal.Read.val_main_v40]
  simp only [Fin.sum_univ_one, Finset.sum_const, Finset.card_univ, Fintype.card_fin, one_smul]

/-- The call's first operand holds the two halves of the gradient's columns one above the other. -/
theorem V_v5 (c : Dev nD) (i : S2x4096x2816.Idx) (j : S4096x5632.Idx) (h0 : (j 0).val = (i 1).val) (h1 : (j 1).val = 2816 * (i 0).val + (i 2).val) :
    (V m c main_v5 : S2x4096x2816.Idx → EReal) i = (m ((c : Thread nD τ).loc main_arg3) : S4096x5632.Idx → EReal) j := by
  unfold V
  after_reads_simp
  pointwise
  have hi : (i 0).val < 2 := (i 0).isLt
  split
  · refine congrArg (m ((c : Thread nD τ).loc main_arg3)) (funext fun a => Fin.ext (match a with | ⟨0, _⟩ => h0.symm | ⟨1, _⟩ => ?_))
    show (i 2).val = (j 1).val
    omega
  · refine congrArg (m ((c : Thread nD τ).loc main_arg3)) (funext fun a => Fin.ext (match a with | ⟨0, _⟩ => h0.symm | ⟨1, _⟩ => ?_))
    show 2816 + (i 2).val = (j 1).val
    omega

/-- The blocks read at a point and the five arguments, as arrays of extended reals. -/
abbrev G0 (c : Dev nD) (t : Fin cfg0.N) : S1x512x2816.Idx → EReal := (View.ld (iblk m c 0 t) (Rect.unit ![0, 0, 0] ![1, 512, 2816] inb_S2x512x2816_S1x512x2816_0_0_0))
abbrev G1 (c : Dev nD) (t : Fin cfg0.N) : S1x512x2816.Idx → EReal := (View.ld (iblk m c 0 t) (Rect.unit ![1, 0, 0] ![1, 512, 2816] inb_S2x512x2816_S1x512x2816_1_0_0))
abbrev B1 (c : Dev nD) (t : Fin cfg0.N) : S1x1024x2816.Idx → EReal := iblk m c 1 t
abbrev B2 (c : Dev nD) (t : Fin cfg0.N) : S1x1024x2816.Idx → EReal := iblk m c 2 t
abbrev B3 (c : Dev nD) (t : Fin cfg0.N) : S512x1024.Idx → EReal := iblk m c 3 t
abbrev B4 (c : Dev nD) (t : Fin cfg0.N) : S512x1024.Idx → EReal := iblk m c 4 t
abbrev B5 (c : Dev nD) (t : Fin cfg0.N) : S1x1024.Idx → EReal := iblk m c 5 t
abbrev A0 (c : Dev nD) : S4096x1024.Idx → EReal := m ((c : Thread nD τ).loc main_arg0)
abbrev A1 (c : Dev nD) : S1024.Idx → EReal := m ((c : Thread nD τ).loc main_arg1)
abbrev A2 (c : Dev nD) : S1024x5632.Idx → EReal := m ((c : Thread nD τ).loc main_arg2)
abbrev A3 (c : Dev nD) : S4096x5632.Idx → EReal := m ((c : Thread nD τ).loc main_arg3)
abbrev A4 (c : Dev nD) : S4096x1024.Idx → EReal := m ((c : Thread nD τ).loc main_arg4)

theorem readG0 (c : Dev nD) (t : Fin cfg0.N) (i : S1x512x2816.Idx) (j : S4096x5632.Idx) (h0 : (j 0).val = t.val * 512 + (i 1).val)
    (h1 : (j 1).val = (i 2).val) : G0 m c t i = A3 m c j := by
  have hi : (i 0).val < 1 := (i 0).isLt
  refine V_v5 m c _ j ?_ ?_
  · blk_simp [idx t]
    simp [Rect.idx_unit_val]
    omega
  · blk_simp [idx t]
    simp [Rect.idx_unit_val]
    omega

theorem readG1 (c : Dev nD) (t : Fin cfg0.N) (i : S1x512x2816.Idx) (j : S4096x5632.Idx) (h0 : (j 0).val = t.val * 512 + (i 1).val)
    (h1 : (j 1).val = 2816 + (i 2).val) : G1 m c t i = A3 m c j := by
  have hi : (i 0).val < 1 := (i 0).isLt
  refine V_v5 m c _ j ?_ ?_
  · blk_simp [idx t]
    simp [Rect.idx_unit_val]
    omega
  · blk_simp [idx t]
    simp [Rect.idx_unit_val]
    omega

theorem read1 (c : Dev nD) (t : Fin cfg0.N) (i : S1x1024x2816.Idx) (j : S1024x5632.Idx) (h0 : (j 0).val = (i 1).val)
    (h1 : (j 1).val = (i 2).val) : B1 m c t i = A2 m c j := by
  blk_point [iblk, V, idx t]

theorem read2 (c : Dev nD) (t : Fin cfg0.N) (i : S1x1024x2816.Idx) (j : S1024x5632.Idx) (h0 : (j 0).val = (i 1).val)
    (h1 : (j 1).val = 2816 + (i 2).val) : B2 m c t i = A2 m c j := by
  blk_point [iblk, V, idx t]

theorem read3 (c : Dev nD) (t : Fin cfg0.N) (i : S512x1024.Idx) (j : S4096x1024.Idx) (h0 : (j 0).val = t.val * 512 + (i 0).val)
    (h1 : (j 1).val = (i 1).val) : B3 m c t i = A0 m c j := by
  blk_point [iblk, V, idx t]

theorem read4 (c : Dev nD) (t : Fin cfg0.N) (i : S512x1024.Idx) (j : S4096x1024.Idx) (h0 : (j 0).val = t.val * 512 + (i 0).val)
    (h1 : (j 1).val = (i 1).val) : B4 m c t i = A4 m c j := by
  blk_point [iblk, V, idx t]

theorem read5 (c : Dev nD) (t : Fin cfg0.N) (i : S1x1024.Idx) (j : S1024.Idx) (h0 : (j 0).val = (i 1).val) : B5 m c t i = A1 m c j := by
  blk_point [iblk, V, idx t]

/-- The two products of the halves are the one product with the weight. -/
theorem dn_eq (c : Dev nD) (t : Fin cfg0.N) (s : Fin 512) (d : Fin 1024) (r : Fin 4096) (d' : Fin 1024) (hr : r.val = t.val * 512 + s.val) (hd : d'.val = d.val) :
    ∑ k : Fin 2816, G0 m c t (ix3 0 s k) * B1 m c t (ix3 0 d k) + ∑ k : Fin 2816, G1 m c t (ix3 0 s k) * B2 m c t (ix3 0 d k)
    = ∑ k : Fin 5632, A3 m c (ix2 r k) * A2 m c (ix2 d' k) := by
  rw [halves]
  refine congrArg₂ (· + ·) (Finset.sum_congr rfl fun k _ => ?_) (Finset.sum_congr rfl fun k _ => ?_)
  · exact congrArg₂ (· * ·) (readG0 m c t (ix3 0 s k) (ix2 r ⟨k.val, by omega⟩) hr rfl) (read1 m c t (ix3 0 d k) (ix2 d' ⟨k.val, by omega⟩) hd rfl)
  · exact congrArg₂ (· * ·) (readG1 m c t (ix3 0 s k) (ix2 r ⟨2816 + k.val, by omega⟩) hr rfl) (read2 m c t (ix3 0 d k) (ix2 d' ⟨2816 + k.val, by omega⟩) hd rfl)

/-- What the body stores at an entry of a block of the gradient is the reference's value where the entry sits in the array. -/
theorem point (c : Dev nD) (t : Fin cfg0.N) (y : S512x1024.Idx) (j : S4096x1024.Idx) (j0 : (j 0).val = t.val * 512 + (y 0).val) (j1 : (j 1).val = (y 1).val) :
    k0_pay1 (F := Ideal) (k0_pay6 (iblk m c 3 t)) (k0_pay8 (View.ld (iblk m c 0 t) (Rect.unit ![0, 0, 0] ![1, 512, 2816] inb_S2x512x2816_S1x512x2816_0_0_0)) (iblk m c 1 t) (View.ld (iblk m c 0 t) (Rect.unit ![1, 0, 0] ![1, 512, 2816] inb_S2x512x2816_S1x512x2816_1_0_0)) (iblk m c 2 t) (iblk m c 5 t)) (iblk m c 4 t)
      (k0_pay9 (View.ld (iblk m c 0 t) (Rect.unit ![0, 0, 0] ![1, 512, 2816] inb_S2x512x2816_S1x512x2816_0_0_0)) (iblk m c 1 t) (View.ld (iblk m c 0 t) (Rect.unit ![1, 0, 0] ![1, 512, 2816] inb_S2x512x2816_S1x512x2816_1_0_0)) (iblk m c 2 t) (iblk m c 3 t) (iblk m c 5 t)) y
    = Cert.ReferenceUpBwdIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) j := by
  refine (pay1 (G0 m c t) (G1 m c t) (B1 m c t) (B2 m c t) (B3 m c t) (B4 m c t) (B5 m c t) y).trans ?_
  refine Eq.trans ?_ (ref38 (A0 m c) (A1 m c) (A2 m c) (A3 m c) (A4 m c) j).symm
  have ed : ∀ d d' : Fin 1024, d'.val = d.val → (∑ k, G0 m c t (ix3 0 (y 0) k) * B1 m c t (ix3 0 d k) + ∑ k, G1 m c t (ix3 0 (y 0) k) * B2 m c t (ix3 0 d k)) * B5 m c t (ix2 0 d)
      = (∑ k : Fin 5632, A3 m c (ix2 (j 0) k) * A2 m c (ix2 d' k)) * A1 m c (ix1 d') := fun d d' h =>
    congrArg₂ (· * ·) (dn_eq m c t (y 0) d (j 0) d' j0 h) (read5 m c t (ix2 0 d) (ix1 d') h)
  exact dx_eq (read4 m c t y j j0 j1) (read3 m c t y j j0 j1) (ed (y 1) (j 1) j1) (fun x => read3 m c t (ix2 (y 0) x) (ix2 (j 0) x) j0 rfl)
    (fun x => ed x x rfl)

/-- The first result array after the run. -/
theorem final6 (c : Dev nD) : (dats m 0 c).arrAt 6 cfg0.N
    = Cert.ReferenceUpBwdIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  have j0 : ((((cfg0.win 6).blk t).view.emb y) 0).val = t.val * 512 + (y 0).val := by blk_simp [idx t]
  have j1 : ((((cfg0.win 6).blk t).view.emb y) 1).val = (y 1).val := by blk_simp [idx t]
  blk_simp
  rw [after0_6]
  by_cases h : t.val % 8 = 0
  · rw [outsAt0_A m c t h]
    frame_out
    exact point m c t y _ j0 j1
  · rw [outsAt0_B m c t h]
    frame_out
    exact point m c t y _ j0 j1

/-- The second result array after the run holds the same values. -/
theorem final7 (c : Dev nD) : (dats m 0 c).arrAt 7 cfg0.N
    = Cert.ReferenceUpBwdIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  have j0 : ((((cfg0.win 7).blk t).view.emb y) 0).val = t.val * 512 + (y 0).val := by blk_simp [idx t]
  have j1 : ((((cfg0.win 7).blk t).view.emb y) 1).val = (y 1).val := by blk_simp [idx t]
  blk_simp
  rw [after0_7]
  by_cases h : t.val % 8 = 0
  · rw [outsAt0_A m c t h]
    frame_out
    exact point m c t y _ j0 j1
  · rw [outsAt0_B m c t h]
    frame_out
    exact point m c t y _ j0 j1

/-- What a point adds to the gradient of the norm's scale. -/
abbrev part (c : Dev nD) (t : Fin cfg0.N) (d : Fin 1024) : EReal :=
  ∑ x : Fin 512, (∑ k, G0 m c t (ix3 0 x k) * B1 m c t (ix3 0 d k) + ∑ k, G1 m c t (ix3 0 x k) * B2 m c t (ix3 0 d k)) *
    (B3 m c t (ix2 x d) * rs (fun k => B3 m c t (ix2 x k)))

theorem mul_swap {a a' b b' : EReal} (ha : a = a') (hb : b = b') : a * b = b' * a' := by rw [ha, hb, mul_comm]

/-- The third result array after the run: the parts of the points added up. -/
theorem final8 (c : Dev nD) : (dats m 0 c).arrAt 8 cfg0.N = Cert.ReferenceUpBwdIdeal.Read.val_main_v40 (F := Ideal) (m ((c : Thread nD τ).loc main_arg0)) (m ((c : Thread nD τ).loc main_arg2)) (m ((c : Thread nD τ).loc main_arg3)) := by
  refine (dats m 0 c).arrAt_eq_of_after_last 8 t0_7 (by decide +kernel) _ fun j => ?_
  blk_simp
  rw [after0_8]
  rw [Pipeline.eq_sum_fin_of_reset_step_apply_last (fun n h => (outsAt0 m c n h).2.2) 8 (fun _ => 0) (fun t j => part m c t (j 1))
    (fun t h j => by rw [outsAt0_A m c t h]; frame_out; exact (pay4 (G0 m c t) (G1 m c t) (B1 m c t) (B2 m c t) (B3 m c t) (B4 m c t) (B5 m c t) _ j).trans (by rw [pay3]))
    (fun t h j => by rw [outsAt0_B m c t h]; frame_out; exact (pay4 (G0 m c t) (G1 m c t) (B1 m c t) (B2 m c t) (B3 m c t) (B4 m c t) (B5 m c t) _ j))
    (le_of_eq N_0) t0_7 rfl j, zero_add]
  refine (Fin.sum_mul_add_congr fun t x hl => ?_).trans (ref40 (A0 m c) (A1 m c) (A2 m c) (A3 m c) (A4 m c) j).symm
  have e3 : ∀ k, B3 m c t (ix2 x k) = A0 m c (ix2 ⟨t.val * 512 + x.val, hl⟩ k) := fun k => read3 m c t _ _ rfl rfl
  exact mul_swap (dn_eq m c t x (j 1) _ (j 1) rfl rfl) (congrArg₂ (· * ·) (e3 (j 1)) (congrArg rs (funext e3)))

/-- The kernel as printed runs, leaves its arguments unchanged and ends with every counter at zero. -/
theorem frame_kernel : Cert.quiescent_KernelUpBwd := fun m ρ _ => Cert.KernelUpBwd.Gen.frame (F := Bits) m ρ

/-- The idealized kernel runs, leaves its arguments unchanged and ends with every counter at zero. -/
theorem frame_kernelIdeal : Cert.quiescent_KernelUpBwdIdeal := fun m ρ _ => Cert.KernelUpBwdIdeal.Gen.frame (F := Ideal) m ρ

/-- The idealized reference runs, leaves its arguments unchanged and ends with every counter at zero. -/
theorem frame_referenceIdeal : Cert.quiescent_ReferenceUpBwdIdeal := fun m ρ _ =>
  (θ_run Cert.ReferenceUpBwdIdeal.defs _ _).mono
    (fun r h => ⟨fun c => (h c).2.2.2, sem_eq_zero_of_no_sems (by decide) r.2⟩)
    (Cert.ReferenceUpBwdIdeal.Value.run (F := Ideal) m ρ)

/-- The kernel's results are the reference's, over the extended reals. -/
theorem same_values : Cert.algebraic_KernelUpBwdIdeal_ReferenceUpBwdIdeal := by
  intro m g m' g' _ hag
  refine ⟨fun c => Cert.ReferenceUpBwdIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.ReferenceUpBwdIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.ReferenceUpBwdIdeal.Read.val_main_v40 (F := Ideal) (m ((c : Thread nD τ).loc main_arg0)) (m ((c : Thread nD τ).loc main_arg2)) (m ((c : Thread nD τ).loc main_arg3)),
    (θ_run defs _ _).mono (fun r h c => ⟨(h c).1.trans (final6 m c), (h c).2.1.trans (final7 m c), (h c).2.2.1.trans (final8 m c), (h c).2.2.2⟩) (Cert.KernelUpBwdIdeal.Value.run_blocks (F := Ideal) m g), ?_⟩
  refine (θ_run Cert.ReferenceUpBwdIdeal.defs _ _).mono (fun r h c => ?_) (Cert.ReferenceUpBwdIdeal.Value.run (F := Ideal) m' g')
  obtain ⟨e0, e1, e2, e3, e4⟩ := hag c
  refine ⟨(h c).1.trans ?_, (h c).2.1.trans ?_, (h c).2.2.1.trans ?_, (h c).2.2.2⟩
  · rw [Cert.ReferenceUpBwdIdeal.Read.val_main_v38_eq, e0, e1, e2, e3, e4]
  · rw [Cert.ReferenceUpBwdIdeal.Read.val_main_v39_eq, e0, e1, e2, e3, e4]
    rfl
  · rw [e0, e2, e3]
    rfl

end Cert.Proof.UpBwd

end
-- ==== Proof.Up.lean ====
/-
  The forward's norm, up product and gate.
-/
module

public import proofs.«01_k».proof.Defs
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.Up

open Cert.KernelUpIdeal Cert.KernelUpIdeal.Gen
open Idealize.ShloMosaic Idealize.ShloMosaic.TcCoe Idealize.SL.Sem

variable (m : (ℓ : Loc nD τ sig) → Buf (Elt Ideal) ℓ)

theorem idx : ∀ t : Fin cfg0.N, win0_0.index t = ![t.val % 4, 0] ∧ win0_1.index t = ![0, 0] ∧ win0_2.index t = ![0, 0, t.val / 4]
    ∧ win0_3.index t = ![0, 0, t.val / 4 + 2] ∧ win0_4.index t = ![0, t.val % 4, t.val / 4] ∧ win0_5.index t = ![t.val % 4, t.val / 4]
    ∧ win0_6.index t = ![t.val / 4, t.val % 4, 0] :=
  (by decide +kernel : ∀ t : Fin grid0.N, _)

/-- The two products, one above the other, at an entry of a block. -/
theorem point4 (c : Dev nD) (t : Fin cfg0.N) (y) : out0_4 (F := Ideal) (iblk m c 0 t) (iblk m c 1 t) (iblk m c 2 t) (iblk m c 3 t) y
    = Cert.ReferenceUpIdeal.Read.val_main_v21 (F := Ideal) (m ((c : Thread nD τ).loc main_arg0)) (m ((c : Thread nD τ).loc main_arg1)) (m ((c : Thread nD τ).loc main_arg2)) (((cfg0.win 4).blk t).view.emb y) := by
  have h8 : t.val < 8 := t.isLt
  have j0 : ((((cfg0.win 4).blk t).view.emb y) 0).val = (y 0).val := by blk_simp [idx t]
  canon_tiles z h
  · open_payloads
    pointwise [Cert.ReferenceUpIdeal.Read.val_main_v0, Cert.ReferenceUpIdeal.Read.val_main_cst, Cert.ReferenceUpIdeal.Read.val_main_v1, Cert.ReferenceUpIdeal.Read.val_main_v2, Cert.ReferenceUpIdeal.Read.val_main_cst_0, Cert.ReferenceUpIdeal.Read.val_main_v3, Cert.ReferenceUpIdeal.Read.val_main_v4, Cert.ReferenceUpIdeal.Read.val_main_cst_1, Cert.ReferenceUpIdeal.Read.val_main_v5, Cert.ReferenceUpIdeal.Read.val_main_v6, Cert.ReferenceUpIdeal.Read.val_main_v7, Cert.ReferenceUpIdeal.Read.val_main_v8, Cert.ReferenceUpIdeal.Read.val_main_v9, Cert.ReferenceUpIdeal.Read.val_main_v10, Cert.ReferenceUpIdeal.Read.val_main_v11, Cert.ReferenceUpIdeal.Read.val_main_v12, Cert.ReferenceUpIdeal.Read.val_main_v13, Cert.ReferenceUpIdeal.Read.val_main_v14, Cert.ReferenceUpIdeal.Read.val_main_v15, Cert.ReferenceUpIdeal.Read.val_main_call0_v0, Cert.ReferenceUpIdeal.Read.val_main_call0_v1, Cert.ReferenceUpIdeal.Read.val_main_call0_cst, Cert.ReferenceUpIdeal.Read.val_main_call0_v2, Cert.ReferenceUpIdeal.Read.val_main_call0_v3, Cert.ReferenceUpIdeal.Read.val_main_call0_cst_0, Cert.ReferenceUpIdeal.Read.val_main_call0_v4, Cert.ReferenceUpIdeal.Read.val_main_call0_v5, Cert.ReferenceUpIdeal.Read.val_main_v16, Cert.ReferenceUpIdeal.Read.val_main_v17, Cert.ReferenceUpIdeal.Read.val_main_v18, Cert.ReferenceUpIdeal.Read.val_main_v19, Cert.ReferenceUpIdeal.Read.val_main_v20, Cert.ReferenceUpIdeal.Read.val_main_v21, Cert.ReferenceUpIdeal.Read.val_main_v22, Cert.ReferenceUpIdeal.Read.val_main_v23, Cert.ReferenceUpIdeal.Read.val_main_v24, Cert.ReferenceUpIdeal.Read.val_main_v25, Cert.ReferenceUpIdeal.Read.val_main_v26]
    rw [dif_neg (show ¬ ((((cfg0.win 4).blk t).view.emb y) 0).val < 1 by rw [j0]; omega)]
    blk_point [iblk, V, idx t]
  · open_payloads
    pointwise [Cert.ReferenceUpIdeal.Read.val_main_v0, Cert.ReferenceUpIdeal.Read.val_main_cst, Cert.ReferenceUpIdeal.Read.val_main_v1, Cert.ReferenceUpIdeal.Read.val_main_v2, Cert.ReferenceUpIdeal.Read.val_main_cst_0, Cert.ReferenceUpIdeal.Read.val_main_v3, Cert.ReferenceUpIdeal.Read.val_main_v4, Cert.ReferenceUpIdeal.Read.val_main_cst_1, Cert.ReferenceUpIdeal.Read.val_main_v5, Cert.ReferenceUpIdeal.Read.val_main_v6, Cert.ReferenceUpIdeal.Read.val_main_v7, Cert.ReferenceUpIdeal.Read.val_main_v8, Cert.ReferenceUpIdeal.Read.val_main_v9, Cert.ReferenceUpIdeal.Read.val_main_v10, Cert.ReferenceUpIdeal.Read.val_main_v11, Cert.ReferenceUpIdeal.Read.val_main_v12, Cert.ReferenceUpIdeal.Read.val_main_v13, Cert.ReferenceUpIdeal.Read.val_main_v14, Cert.ReferenceUpIdeal.Read.val_main_v15, Cert.ReferenceUpIdeal.Read.val_main_call0_v0, Cert.ReferenceUpIdeal.Read.val_main_call0_v1, Cert.ReferenceUpIdeal.Read.val_main_call0_cst, Cert.ReferenceUpIdeal.Read.val_main_call0_v2, Cert.ReferenceUpIdeal.Read.val_main_call0_v3, Cert.ReferenceUpIdeal.Read.val_main_call0_cst_0, Cert.ReferenceUpIdeal.Read.val_main_call0_v4, Cert.ReferenceUpIdeal.Read.val_main_call0_v5, Cert.ReferenceUpIdeal.Read.val_main_v16, Cert.ReferenceUpIdeal.Read.val_main_v17, Cert.ReferenceUpIdeal.Read.val_main_v18, Cert.ReferenceUpIdeal.Read.val_main_v19, Cert.ReferenceUpIdeal.Read.val_main_v20, Cert.ReferenceUpIdeal.Read.val_main_v21, Cert.ReferenceUpIdeal.Read.val_main_v22, Cert.ReferenceUpIdeal.Read.val_main_v23, Cert.ReferenceUpIdeal.Read.val_main_v24, Cert.ReferenceUpIdeal.Read.val_main_v25, Cert.ReferenceUpIdeal.Read.val_main_v26]
    rw [dif_pos (show ((((cfg0.win 4).blk t).view.emb y) 0).val < 1 by rw [j0]; omega)]
    blk_point [iblk, V, idx t]

/-- The result array of window 4 after the run. -/
theorem final4 (c : Dev nD) : (dats m 0 c).arrAt 4 cfg0.N = Cert.ReferenceUpIdeal.Read.val_main_v21 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 m c t y

/-- The gated product at an entry of a block. -/
theorem point5 (c : Dev nD) (t : Fin cfg0.N) (y) : out0_5 (F := Ideal) (iblk m c 0 t) (iblk m c 1 t) (iblk m c 2 t) (iblk m c 3 t) y
    = Cert.ReferenceUpIdeal.Read.val_main_v22 (F := Ideal) (m ((c : Thread nD τ).loc main_arg0)) (m ((c : Thread nD τ).loc main_arg1)) (m ((c : Thread nD τ).loc main_arg2)) (((cfg0.win 5).blk t).view.emb y) := by
  have h8 : t.val < 8 := t.isLt
  unfold out0_5
  frame_out
  open_payloads
  pointwise [Cert.ReferenceUpIdeal.Read.val_main_v0, Cert.ReferenceUpIdeal.Read.val_main_cst, Cert.ReferenceUpIdeal.Read.val_main_v1, Cert.ReferenceUpIdeal.Read.val_main_v2, Cert.ReferenceUpIdeal.Read.val_main_cst_0, Cert.ReferenceUpIdeal.Read.val_main_v3, Cert.ReferenceUpIdeal.Read.val_main_v4, Cert.ReferenceUpIdeal.Read.val_main_cst_1, Cert.ReferenceUpIdeal.Read.val_main_v5, Cert.ReferenceUpIdeal.Read.val_main_v6, Cert.ReferenceUpIdeal.Read.val_main_v7, Cert.ReferenceUpIdeal.Read.val_main_v8, Cert.ReferenceUpIdeal.Read.val_main_v9, Cert.ReferenceUpIdeal.Read.val_main_v10, Cert.ReferenceUpIdeal.Read.val_main_v11, Cert.ReferenceUpIdeal.Read.val_main_v12, Cert.ReferenceUpIdeal.Read.val_main_v13, Cert.ReferenceUpIdeal.Read.val_main_v14, Cert.ReferenceUpIdeal.Read.val_main_v15, Cert.ReferenceUpIdeal.Read.val_main_call0_v0, Cert.ReferenceUpIdeal.Read.val_main_call0_v1, Cert.ReferenceUpIdeal.Read.val_main_call0_cst, Cert.ReferenceUpIdeal.Read.val_main_call0_v2, Cert.ReferenceUpIdeal.Read.val_main_call0_v3, Cert.ReferenceUpIdeal.Read.val_main_call0_cst_0, Cert.ReferenceUpIdeal.Read.val_main_call0_v4, Cert.ReferenceUpIdeal.Read.val_main_call0_v5, Cert.ReferenceUpIdeal.Read.val_main_v16, Cert.ReferenceUpIdeal.Read.val_main_v17, Cert.ReferenceUpIdeal.Read.val_main_v18, Cert.ReferenceUpIdeal.Read.val_main_v19, Cert.ReferenceUpIdeal.Read.val_main_v20, Cert.ReferenceUpIdeal.Read.val_main_v21, Cert.ReferenceUpIdeal.Read.val_main_v22, Cert.ReferenceUpIdeal.Read.val_main_v23, Cert.ReferenceUpIdeal.Read.val_main_v24, Cert.ReferenceUpIdeal.Read.val_main_v25, Cert.ReferenceUpIdeal.Read.val_main_v26]
  rw [zero_sub]
  blk_point [iblk, V, idx t]

/-- The result array of window 5 after the run. -/
theorem final5 (c : Dev nD) : (dats m 0 c).arrAt 5 cfg0.N = Cert.ReferenceUpIdeal.Read.val_main_v22 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact point5 m c t y

/-- The norm's output at an entry of a block. -/
theorem point6 (c : Dev nD) (t : Fin cfg0.N) (y) : out0_6 (F := Ideal) (iblk m c 0 t) (iblk m c 1 t) (iblk m c 2 t) (iblk m c 3 t) y
    = Cert.ReferenceUpIdeal.Read.val_main_v26 (F := Ideal) (m ((c : Thread nD τ).loc main_arg0)) (m ((c : Thread nD τ).loc main_arg1)) (((cfg0.win 6).blk t).view.emb y) := by
  have h8 : t.val < 8 := t.isLt
  unfold out0_6
  frame_out
  open_payloads
  pointwise [Cert.ReferenceUpIdeal.Read.val_main_v0, Cert.ReferenceUpIdeal.Read.val_main_cst, Cert.ReferenceUpIdeal.Read.val_main_v1, Cert.ReferenceUpIdeal.Read.val_main_v2, Cert.ReferenceUpIdeal.Read.val_main_cst_0, Cert.ReferenceUpIdeal.Read.val_main_v3, Cert.ReferenceUpIdeal.Read.val_main_v4, Cert.ReferenceUpIdeal.Read.val_main_cst_1, Cert.ReferenceUpIdeal.Read.val_main_v5, Cert.ReferenceUpIdeal.Read.val_main_v6, Cert.ReferenceUpIdeal.Read.val_main_v7, Cert.ReferenceUpIdeal.Read.val_main_v8, Cert.ReferenceUpIdeal.Read.val_main_v9, Cert.ReferenceUpIdeal.Read.val_main_v10, Cert.ReferenceUpIdeal.Read.val_main_v11, Cert.ReferenceUpIdeal.Read.val_main_v12, Cert.ReferenceUpIdeal.Read.val_main_v13, Cert.ReferenceUpIdeal.Read.val_main_v14, Cert.ReferenceUpIdeal.Read.val_main_v15, Cert.ReferenceUpIdeal.Read.val_main_call0_v0, Cert.ReferenceUpIdeal.Read.val_main_call0_v1, Cert.ReferenceUpIdeal.Read.val_main_call0_cst, Cert.ReferenceUpIdeal.Read.val_main_call0_v2, Cert.ReferenceUpIdeal.Read.val_main_call0_v3, Cert.ReferenceUpIdeal.Read.val_main_call0_cst_0, Cert.ReferenceUpIdeal.Read.val_main_call0_v4, Cert.ReferenceUpIdeal.Read.val_main_call0_v5, Cert.ReferenceUpIdeal.Read.val_main_v16, Cert.ReferenceUpIdeal.Read.val_main_v17, Cert.ReferenceUpIdeal.Read.val_main_v18, Cert.ReferenceUpIdeal.Read.val_main_v19, Cert.ReferenceUpIdeal.Read.val_main_v20, Cert.ReferenceUpIdeal.Read.val_main_v21, Cert.ReferenceUpIdeal.Read.val_main_v22, Cert.ReferenceUpIdeal.Read.val_main_v23, Cert.ReferenceUpIdeal.Read.val_main_v24, Cert.ReferenceUpIdeal.Read.val_main_v25, Cert.ReferenceUpIdeal.Read.val_main_v26]
  rw [dite_eq_ite, ite_self]
  blk_point [iblk, V, idx t]

/-- The result array of window 6 after the run. -/
theorem final6 (c : Dev nD) : (dats m 0 c).arrAt 6 cfg0.N = Cert.ReferenceUpIdeal.Read.val_main_v26 (F := Ideal) (m ((c : Thread nD τ).loc main_arg0)) (m ((c : Thread nD τ).loc main_arg1)) := by
  refine (dats m 0 c).arrAt_eq_of_covers 6 _ (by decide +kernel) fun t _ y => ?_
  blk_simp
  rw [after0_6]
  exact point6 m c t y

/-- The kernel as printed runs, leaves its arguments unchanged and ends with every counter at zero. -/
theorem frame_kernel : Cert.quiescent_KernelUp := fun m ρ _ => Cert.KernelUp.Gen.frame (F := Bits) m ρ

/-- The idealized kernel runs, leaves its arguments unchanged and ends with every counter at zero. -/
theorem frame_kernelIdeal : Cert.quiescent_KernelUpIdeal := fun m ρ _ => Cert.KernelUpIdeal.Gen.frame (F := Ideal) m ρ

/-- The idealized reference runs, leaves its arguments unchanged and ends with every counter at zero. -/
theorem frame_referenceIdeal : Cert.quiescent_ReferenceUpIdeal := fun m ρ _ =>
  (θ_run Cert.ReferenceUpIdeal.defs _ _).mono
    (fun r h => ⟨fun c => (h c).2.2.2, sem_eq_zero_of_no_sems (by decide) r.2⟩)
    (Cert.ReferenceUpIdeal.Value.run (F := Ideal) m ρ)

/-- The kernel's results are the reference's, over the extended reals. -/
theorem same_values : Cert.algebraic_KernelUpIdeal_ReferenceUpIdeal := by
  intro m g m' g' _ hag
  refine ⟨fun c => Cert.ReferenceUpIdeal.Read.val_main_v21 (F := Ideal) (m ((c : Thread nD τ).loc main_arg0)) (m ((c : Thread nD τ).loc main_arg1)) (m ((c : Thread nD τ).loc main_arg2)),
    fun c => Cert.ReferenceUpIdeal.Read.val_main_v22 (F := Ideal) (m ((c : Thread nD τ).loc main_arg0)) (m ((c : Thread nD τ).loc main_arg1)) (m ((c : Thread nD τ).loc main_arg2)),
    fun c => Cert.ReferenceUpIdeal.Read.val_main_v26 (F := Ideal) (m ((c : Thread nD τ).loc main_arg0)) (m ((c : Thread nD τ).loc main_arg1)),
    (θ_run defs _ _).mono (fun r h c => ⟨(h c).1.trans (final4 m c), (h c).2.1.trans (final5 m c), (h c).2.2.1.trans (final6 m c), (h c).2.2.2⟩) (Cert.KernelUpIdeal.Value.run_blocks (F := Ideal) m g), ?_⟩
  refine (θ_run Cert.ReferenceUpIdeal.defs _ _).mono (fun r h c => ?_) (Cert.ReferenceUpIdeal.Value.run (F := Ideal) m' g')
  obtain ⟨e0, e1, e2⟩ := hag c
  refine ⟨(h c).1.trans ?_, (h c).2.1.trans ?_, (h c).2.2.1.trans ?_, (h c).2.2.2⟩ <;> rw [e0, e1] <;> (try rw [e2]) <;> rfl

end Cert.Proof.Up

end
-- ==== Proof.Down.lean ====
/-
  The forward's down product with its residual, `x + 0.5 * (a @ w_down)`.
-/
module

public import proofs.«01_k».proof.Defs
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.Down

open Cert.KernelDownIdeal Cert.KernelDownIdeal.Gen
open Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![0, 0, 0] ∧ win0_2.index t = ![t.val, 0]
    ∧ win0_3.index t = ![t.val, 0] :=
  (by decide +kernel : ∀ t : Fin grid0.N, _)

/-- The reference's result. -/
abbrev REF (x : FVec Ideal S4096x1024 .f32) (a : FVec Ideal S4096x2816 .f32) (w : FVec Ideal S2816x1024 .f32) : FVec Ideal S4096x1024 .f32 :=
  Cert.ReferenceDownIdeal.Read.val_main_v3 (F := Ideal) x a w

/-- What the body stores at an entry of a block is the reference's value where the entry sits in the array. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF, Cert.ReferenceDownIdeal.Read.val_main_v3, Cert.ReferenceDownIdeal.Read.val_main_v2, Cert.ReferenceDownIdeal.Read.val_main_v1, Cert.ReferenceDownIdeal.Read.val_main_v0, Cert.ReferenceDownIdeal.Read.val_main_cst]
  blk_point [iblk, V, idx t]

/-- The result array after the run. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The kernel as printed runs, leaves its arguments unchanged and ends with every counter at zero. -/
theorem frame_kernel : Cert.quiescent_KernelDown := fun m ρ _ => Cert.KernelDown.Gen.frame (F := Bits) m ρ

/-- The idealized kernel runs, leaves its arguments unchanged and ends with every counter at zero. -/
theorem frame_kernelIdeal : Cert.quiescent_KernelDownIdeal := fun m ρ _ => Cert.KernelDownIdeal.Gen.frame (F := Ideal) m ρ

/-- The idealized reference runs, leaves its arguments unchanged and ends with every counter at zero. -/
theorem frame_referenceIdeal : Cert.quiescent_ReferenceDownIdeal := fun m ρ _ =>
  (θ_run Cert.ReferenceDownIdeal.defs _ _).mono
    (fun r h => ⟨fun c => (h c).2, sem_eq_zero_of_no_sems (by decide) r.2⟩)
    (Cert.ReferenceDownIdeal.Value.run (F := Ideal) m ρ)

/-- The kernel's result is the reference's, over the extended reals. -/
theorem same_values : Cert.algebraic_KernelDownIdeal_ReferenceDownIdeal := by
  intro m g m' g' _ hag
  refine ⟨fun c => REF (m ((c : Thread nD τ).loc main_arg0)) (m ((c : Thread nD τ).loc main_arg1)) (m ((c : Thread nD τ).loc main_arg2)), (θ_run defs _ _).mono (fun r h c => ⟨(h c).1.trans (final m c), (h c).2⟩) (Cert.KernelDownIdeal.Value.run_blocks (F := Ideal) m g), ?_⟩
  refine (θ_run Cert.ReferenceDownIdeal.defs _ _).mono (fun r h c => ?_) (Cert.ReferenceDownIdeal.Value.run (F := Ideal) m' g')
  obtain ⟨e0, e1, e2⟩ := hag c
  refine ⟨(h c).1.trans ?_, (h c).2⟩
  rw [e0, e1, e2]
  rfl

end Cert.Proof.Down

end
-- ==== Proof.OutFwd.lean ====
/-
  The attention's output projection with the residual, `x + o @ w_out`.
-/
module

public import proofs.«01_k».proof.Defs
public import proofs.«01_k».proof.Proof.Gen.KernelOutFwd
public import proofs.«01_k».proof.Proof.Gen.KernelOutFwd.Frame
public import proofs.«01_k».proof.Proof.Gen.KernelOutFwdIdeal
public import proofs.«01_k».proof.Proof.Gen.KernelOutFwdIdeal.Value
public import proofs.«01_k».proof.Proof.Gen.ReferenceOutFwdIdeal
public import proofs.«01_k».proof.Proof.Gen.ReferenceOutFwdIdeal.Run
public import proofs.«01_k».proof.Proof.Gen.ReferenceOutFwdIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.OutFwd

open Cert.KernelOutFwdIdeal Cert.KernelOutFwdIdeal.Gen
open Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, _)

/-- What the body stores at an entry of a block is the reference's value where the entry sits in the array. -/
theorem point (c : Dev nD) (t : Fin cfg0.N) (y) : k0_pay1 (iblk m c 0 t) (iblk m c 1 t) (iblk m c 2 t) y
    = Cert.ReferenceOutFwdIdeal.Read.val_main_v1 (F := Ideal) (m ((c : Thread nD τ).loc main_arg0)) (m ((c : Thread nD τ).loc main_arg1)) (m ((c : Thread nD τ).loc main_arg2)) (((cfg0.win 3).blk t).view.emb y) := by
  pointwise [k0_pay1, Cert.ReferenceOutFwdIdeal.Read.val_main_v1, Cert.ReferenceOutFwdIdeal.Read.val_main_v0]
  blk_point [iblk, V, idx t]

/-- The result array after the run. -/
theorem final (c : Dev nD) : (dats m 0 c).arrAt 3 cfg0.N
    = Cert.ReferenceOutFwdIdeal.Read.val_main_v1 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

/-- The kernel as printed runs, leaves its arguments unchanged and ends with every counter at zero. -/
theorem frame_kernel : Cert.quiescent_KernelOutFwd := fun m ρ _ => Cert.KernelOutFwd.Gen.frame (F := Bits) m ρ

/-- The idealized kernel runs, leaves its arguments unchanged and ends with every counter at zero. -/
theorem frame_kernelIdeal : Cert.quiescent_KernelOutFwdIdeal := fun m ρ _ => Cert.KernelOutFwdIdeal.Gen.frame (F := Ideal) m ρ

/-- The idealized reference runs, leaves its arguments unchanged and ends with every counter at zero. -/
theorem frame_referenceIdeal : Cert.quiescent_ReferenceOutFwdIdeal := fun m ρ _ =>
  (θ_run Cert.ReferenceOutFwdIdeal.defs _ _).mono
    (fun r h => ⟨fun c => (h c).2, sem_eq_zero_of_no_sems (by decide) r.2⟩)
    (Cert.ReferenceOutFwdIdeal.Value.run (F := Ideal) m ρ)

/-- The kernel's result is the reference's, over the extended reals. -/
theorem same_values : Cert.algebraic_KernelOutFwdIdeal_ReferenceOutFwdIdeal := by
  intro m g m' g' _ hag
  refine ⟨fun c => Cert.ReferenceOutFwdIdeal.Read.val_main_v1 (F := Ideal) (m ((c : Thread nD τ).loc main_arg0)) (m ((c : Thread nD τ).loc main_arg1)) (m ((c : Thread nD τ).loc main_arg2)), (θ_run defs _ _).mono (fun r h c => ⟨(h c).1.trans (final m c), (h c).2⟩) (Cert.KernelOutFwdIdeal.Value.run_blocks (F := Ideal) m g), ?_⟩
  refine (θ_run Cert.ReferenceOutFwdIdeal.defs _ _).mono (fun r h c => ?_) (Cert.ReferenceOutFwdIdeal.Value.run (F := Ideal) m' g')
  obtain ⟨e0, e1, e2⟩ := hag c
  refine ⟨(h c).1.trans ?_, (h c).2⟩
  rw [e0, e1, e2]
  rfl

end Cert.Proof.OutFwd

end
-- ==== Proof.OutBwd.lean ====
/-
  The gradient of the output projection in its input, `dxo @ w_outᵀ`.
-/
module

public import proofs.«01_k».proof.Defs
public import proofs.«01_k».proof.Proof.Gen.KernelOutBwd
public import proofs.«01_k».proof.Proof.Gen.KernelOutBwd.Frame
public import proofs.«01_k».proof.Proof.Gen.KernelOutBwdIdeal
public import proofs.«01_k».proof.Proof.Gen.KernelOutBwdIdeal.Value
public import proofs.«01_k».proof.Proof.Gen.ReferenceOutBwdIdeal
public import proofs.«01_k».proof.Proof.Gen.ReferenceOutBwdIdeal.Run
public import proofs.«01_k».proof.Proof.Gen.ReferenceOutBwdIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.OutBwd

open Cert.KernelOutBwdIdeal Cert.KernelOutBwdIdeal.Gen
open Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![0, 0, 0] ∧ win0_2.index t = ![t.val, 0] :=
  (by decide +kernel : ∀ t : Fin grid0.N, _)

/-- What the body stores at an entry of a block is the reference's value where the entry sits in the array. -/
theorem point (c : Dev nD) (t : Fin cfg0.N) (y) : k0_pay1 (iblk m c 0 t) (iblk m c 1 t) y
    = Cert.ReferenceOutBwdIdeal.Read.val_main_v2 (F := Ideal) (m ((c : Thread nD τ).loc main_arg1)) (m ((c : Thread nD τ).loc main_arg2)) (((cfg0.win 2).blk t).view.emb y) := by
  pointwise [k0_pay1, Cert.ReferenceOutBwdIdeal.Read.val_main_v2, Cert.ReferenceOutBwdIdeal.Read.val_main_v1]
  blk_point [iblk, V, idx t]

/-- The result array after the run. -/
theorem final (c : Dev nD) : (dats m 0 c).arrAt 2 cfg0.N
    = Cert.ReferenceOutBwdIdeal.Read.val_main_v2 (F := Ideal) (m ((c : Thread nD τ).loc main_arg1)) (m ((c : Thread nD τ).loc main_arg2)) := by
  refine (dats m 0 c).arrAt_eq_of_covers 2 _ (by decide +kernel) fun t _ y => ?_
  blk_simp
  rw [after0_2]
  frame_out
  exact point m c t y

/-- The kernel as printed runs, leaves its arguments unchanged and ends with every counter at zero. -/
theorem frame_kernel : Cert.quiescent_KernelOutBwd := fun m ρ _ => Cert.KernelOutBwd.Gen.frame (F := Bits) m ρ

/-- The idealized kernel runs, leaves its arguments unchanged and ends with every counter at zero. -/
theorem frame_kernelIdeal : Cert.quiescent_KernelOutBwdIdeal := fun m ρ _ => Cert.KernelOutBwdIdeal.Gen.frame (F := Ideal) m ρ

/-- The idealized reference runs, leaves its arguments unchanged and ends with every counter at zero. -/
theorem frame_referenceIdeal : Cert.quiescent_ReferenceOutBwdIdeal := fun m ρ _ =>
  (θ_run Cert.ReferenceOutBwdIdeal.defs _ _).mono
    (fun r h => ⟨fun c => (h c).2, sem_eq_zero_of_no_sems (by decide) r.2⟩)
    (Cert.ReferenceOutBwdIdeal.Value.run (F := Ideal) m ρ)

/-- The kernel's result is the reference's, over the extended reals. -/
theorem same_values : Cert.algebraic_KernelOutBwdIdeal_ReferenceOutBwdIdeal := by
  intro m g m' g' _ hag
  refine ⟨fun c => Cert.ReferenceOutBwdIdeal.Read.val_main_v2 (F := Ideal) (m ((c : Thread nD τ).loc main_arg1)) (m ((c : Thread nD τ).loc main_arg2)), (θ_run defs _ _).mono (fun r h c => ⟨(h c).1.trans (final m c), (h c).2⟩) (Cert.KernelOutBwdIdeal.Value.run_blocks (F := Ideal) m g), ?_⟩
  refine (θ_run Cert.ReferenceOutBwdIdeal.defs _ _).mono (fun r h c => ?_) (Cert.ReferenceOutBwdIdeal.Value.run (F := Ideal) m' g')
  obtain ⟨e0, e1, e2⟩ := hag c
  refine ⟨(h c).1.trans ?_, (h c).2⟩
  rw [e1, e2]
  rfl

end Cert.Proof.OutBwd

end
-- ==== Proof.OutDw.lean ====
/-
  The gradient of the output projection's weight, `oᵀ @ dxo`.
-/
module

public import proofs.«01_k».proof.Defs
public import proofs.«01_k».proof.Proof.Gen.KernelOutDw
public import proofs.«01_k».proof.Proof.Gen.KernelOutDw.Frame
public import proofs.«01_k».proof.Proof.Gen.KernelOutDwIdeal
public import proofs.«01_k».proof.Proof.Gen.KernelOutDwIdeal.Value
public import proofs.«01_k».proof.Proof.Gen.ReferenceOutDwIdeal
public import proofs.«01_k».proof.Proof.Gen.ReferenceOutDwIdeal.Run
public import proofs.«01_k».proof.Proof.Gen.ReferenceOutDwIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.OutDw

open Cert.KernelOutDwIdeal Cert.KernelOutDwIdeal.Gen
open Idealize.ShloMosaic Idealize.ShloMosaic.TcCoe Idealize.SL.Sem

variable (m : (ℓ : Loc nD τ sig) → Buf (Elt Ideal) ℓ)

theorem idx : ∀ t : Fin cfg0.N, win0_0.index t = ![0, t.val] ∧ win0_1.index t = ![0, 0] ∧ win0_2.index t = ![0, t.val, 0] :=
  (by decide +kernel : ∀ t : Fin grid0.N, _)

/-- What the body stores at an entry of a block is the reference's value where the entry sits in the array. -/
theorem point (c : Dev nD) (t : Fin cfg0.N) (y) : k0_pay1 (iblk m c 0 t) (iblk m c 1 t) y
    = Cert.ReferenceOutDwIdeal.Read.val_main_v3 (F := Ideal) (m ((c : Thread nD τ).loc main_arg0)) (m ((c : Thread nD τ).loc main_arg2)) (((cfg0.win 2).blk t).view.emb y) := by
  pointwise [k0_pay1, Cert.ReferenceOutDwIdeal.Read.val_main_v3, Cert.ReferenceOutDwIdeal.Read.val_main_v2, Cert.ReferenceOutDwIdeal.Read.val_main_v1]
  refine Finset.sum_congr rfl fun x _ => ?_
  refine (mul_comm _ _).trans ?_
  blk_point [iblk, V, idx t]

/-- The result array after the run. -/
theorem final (c : Dev nD) : (dats m 0 c).arrAt 2 cfg0.N
    = Cert.ReferenceOutDwIdeal.Read.val_main_v3 (F := Ideal) (m ((c : Thread nD τ).loc main_arg0)) (m ((c : Thread nD τ).loc main_arg2)) := by
  refine (dats m 0 c).arrAt_eq_of_covers 2 _ (by decide +kernel) fun t _ y => ?_
  blk_simp
  rw [after0_2]
  simp only [outsAt0]
  frame_out
  exact point m c t y

/-- The kernel as printed runs, leaves its arguments unchanged and ends with every counter at zero. -/
theorem frame_kernel : Cert.quiescent_KernelOutDw := fun m ρ _ => Cert.KernelOutDw.Gen.frame (F := Bits) m ρ

/-- The idealized kernel runs, leaves its arguments unchanged and ends with every counter at zero. -/
theorem frame_kernelIdeal : Cert.quiescent_KernelOutDwIdeal := fun m ρ _ => Cert.KernelOutDwIdeal.Gen.frame (F := Ideal) m ρ

/-- The idealized reference runs, leaves its arguments unchanged and ends with every counter at zero. -/
theorem frame_referenceIdeal : Cert.quiescent_ReferenceOutDwIdeal := fun m ρ _ =>
  (θ_run Cert.ReferenceOutDwIdeal.defs _ _).mono
    (fun r h => ⟨fun c => (h c).2, sem_eq_zero_of_no_sems (by decide) r.2⟩)
    (Cert.ReferenceOutDwIdeal.Value.run (F := Ideal) m ρ)

/-- The kernel's result is the reference's, over the extended reals. -/
theorem same_values : Cert.algebraic_KernelOutDwIdeal_ReferenceOutDwIdeal := by
  intro m g m' g' _ hag
  refine ⟨fun c => Cert.ReferenceOutDwIdeal.Read.val_main_v3 (F := Ideal) (m ((c : Thread nD τ).loc main_arg0)) (m ((c : Thread nD τ).loc main_arg2)), (θ_run defs _ _).mono (fun r h c => ⟨(h c).1.trans (final m c), (h c).2⟩) (Cert.KernelOutDwIdeal.Value.run_blocks (F := Ideal) m g), ?_⟩
  refine (θ_run Cert.ReferenceOutDwIdeal.defs _ _).mono (fun r h c => ?_) (Cert.ReferenceOutDwIdeal.Value.run (F := Ideal) m' g')
  obtain ⟨e0, e1, e2, e3⟩ := hag c
  refine ⟨(h c).1.trans ?_, (h c).2⟩
  rw [e0, e2]
  rfl

end Cert.Proof.OutDw

end
-- ==== Proof.InFwd.lean ====
/-
  The norm before the stick-breaking attention and its input projection.
-/
module

public import proofs.«01_k».proof.Defs
public import proofs.«01_k».proof.Proof.Gen.KernelInFwd
public import proofs.«01_k».proof.Proof.Gen.KernelInFwd.Frame
public import proofs.«01_k».proof.Proof.Gen.KernelInFwdIdeal
public import proofs.«01_k».proof.Proof.Gen.KernelInFwdIdeal.Value
public import proofs.«01_k».proof.Proof.Gen.ReferenceInFwdIdeal
public import proofs.«01_k».proof.Proof.Gen.ReferenceInFwdIdeal.Run
public import proofs.«01_k».proof.Proof.Gen.ReferenceInFwdIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.InFwd

open Cert.KernelInFwdIdeal Cert.KernelInFwdIdeal.Gen
open Idealize.ShloMosaic Idealize.ShloMosaic.TcCoe Idealize.SL.Sem

variable (m : (ℓ : Loc nD τ sig) → Buf (Elt Ideal) ℓ)

theorem idx : ∀ t : Fin cfg0.N, win0_0.index t = ![t.val % 8, 0] ∧ win0_1.index t = ![0, 0] ∧ win0_2.index t = ![0, 0, t.val / 8]
    ∧ win0_3.index t = ![t.val % 8, t.val / 8] ∧ win0_4.index t = ![t.val / 8, t.val % 8, 0] :=
  (by decide +kernel : ∀ t : Fin grid0.N, _)

/-- The projection at an entry of a block. -/
theorem point3 (c : Dev nD) (t : Fin cfg0.N) (y) : out0_3 (F := Ideal) (iblk m c 0 t) (iblk m c 1 t) (iblk m c 2 t) y
    = Cert.ReferenceInFwdIdeal.Read.val_main_v14 (F := Ideal) (m ((c : Thread nD τ).loc main_arg0)) (m ((c : Thread nD τ).loc main_arg1)) (m ((c : Thread nD τ).loc main_arg2)) (((cfg0.win 3).blk t).view.emb y) := by
  have h16 : t.val < 16 := t.isLt
  unfold out0_3
  frame_out
  open_payloads
  pointwise [Cert.ReferenceInFwdIdeal.Read.val_main_v0, Cert.ReferenceInFwdIdeal.Read.val_main_cst, Cert.ReferenceInFwdIdeal.Read.val_main_v1, Cert.ReferenceInFwdIdeal.Read.val_main_v2, Cert.ReferenceInFwdIdeal.Read.val_main_cst_0, Cert.ReferenceInFwdIdeal.Read.val_main_v3, Cert.ReferenceInFwdIdeal.Read.val_main_v4, Cert.ReferenceInFwdIdeal.Read.val_main_cst_1, Cert.ReferenceInFwdIdeal.Read.val_main_v5, Cert.ReferenceInFwdIdeal.Read.val_main_v6, Cert.ReferenceInFwdIdeal.Read.val_main_v7, Cert.ReferenceInFwdIdeal.Read.val_main_v8, Cert.ReferenceInFwdIdeal.Read.val_main_v9, Cert.ReferenceInFwdIdeal.Read.val_main_v10, Cert.ReferenceInFwdIdeal.Read.val_main_v11, Cert.ReferenceInFwdIdeal.Read.val_main_v12, Cert.ReferenceInFwdIdeal.Read.val_main_v13, Cert.ReferenceInFwdIdeal.Read.val_main_v14, Cert.ReferenceInFwdIdeal.Read.val_main_v15, Cert.ReferenceInFwdIdeal.Read.val_main_v16, Cert.ReferenceInFwdIdeal.Read.val_main_v17, Cert.ReferenceInFwdIdeal.Read.val_main_v18]
  blk_point [iblk, V, idx t]

/-- The result array of window 3 after the run. -/
theorem final3 (c : Dev nD) : (dats m 0 c).arrAt 3 cfg0.N = Cert.ReferenceInFwdIdeal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point3 m c t y

/-- The norm's output at an entry of a block. -/
theorem point4 (c : Dev nD) (t : Fin cfg0.N) (y) : out0_4 (F := Ideal) (iblk m c 0 t) (iblk m c 1 t) (iblk m c 2 t) y
    = Cert.ReferenceInFwdIdeal.Read.val_main_v18 (F := Ideal) (m ((c : Thread nD τ).loc main_arg0)) (m ((c : Thread nD τ).loc main_arg1)) (((cfg0.win 4).blk t).view.emb y) := by
  have h16 : t.val < 16 := t.isLt
  unfold out0_4
  frame_out
  open_payloads
  pointwise [Cert.ReferenceInFwdIdeal.Read.val_main_v0, Cert.ReferenceInFwdIdeal.Read.val_main_cst, Cert.ReferenceInFwdIdeal.Read.val_main_v1, Cert.ReferenceInFwdIdeal.Read.val_main_v2, Cert.ReferenceInFwdIdeal.Read.val_main_cst_0, Cert.ReferenceInFwdIdeal.Read.val_main_v3, Cert.ReferenceInFwdIdeal.Read.val_main_v4, Cert.ReferenceInFwdIdeal.Read.val_main_cst_1, Cert.ReferenceInFwdIdeal.Read.val_main_v5, Cert.ReferenceInFwdIdeal.Read.val_main_v6, Cert.ReferenceInFwdIdeal.Read.val_main_v7, Cert.ReferenceInFwdIdeal.Read.val_main_v8, Cert.ReferenceInFwdIdeal.Read.val_main_v9, Cert.ReferenceInFwdIdeal.Read.val_main_v10, Cert.ReferenceInFwdIdeal.Read.val_main_v11, Cert.ReferenceInFwdIdeal.Read.val_main_v12, Cert.ReferenceInFwdIdeal.Read.val_main_v13, Cert.ReferenceInFwdIdeal.Read.val_main_v14, Cert.ReferenceInFwdIdeal.Read.val_main_v15, Cert.ReferenceInFwdIdeal.Read.val_main_v16, Cert.ReferenceInFwdIdeal.Read.val_main_v17, Cert.ReferenceInFwdIdeal.Read.val_main_v18]
  rw [dite_eq_ite, ite_self]
  blk_point [iblk, V, idx t]

/-- The result array of window 4 after the run. -/
theorem final4 (c : Dev nD) : (dats m 0 c).arrAt 4 cfg0.N = Cert.ReferenceInFwdIdeal.Read.val_main_v18 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  exact point4 m c t y

/-- The kernel as printed runs, leaves its arguments unchanged and ends with every counter at zero. -/
theorem frame_kernel : Cert.quiescent_KernelInFwd := fun m ρ _ => Cert.KernelInFwd.Gen.frame (F := Bits) m ρ

/-- The idealized kernel runs, leaves its arguments unchanged and ends with every counter at zero. -/
theorem frame_kernelIdeal : Cert.quiescent_KernelInFwdIdeal := fun m ρ _ => Cert.KernelInFwdIdeal.Gen.frame (F := Ideal) m ρ

/-- The idealized reference runs, leaves its arguments unchanged and ends with every counter at zero. -/
theorem frame_referenceIdeal : Cert.quiescent_ReferenceInFwdIdeal := fun m ρ _ =>
  (θ_run Cert.ReferenceInFwdIdeal.defs _ _).mono
    (fun r h => ⟨fun c => (h c).2.2, sem_eq_zero_of_no_sems (by decide) r.2⟩)
    (Cert.ReferenceInFwdIdeal.Value.run (F := Ideal) m ρ)

/-- The kernel's results are the reference's, over the extended reals. -/
theorem same_values : Cert.algebraic_KernelInFwdIdeal_ReferenceInFwdIdeal := by
  intro m g m' g' _ hag
  refine ⟨fun c => Cert.ReferenceInFwdIdeal.Read.val_main_v14 (F := Ideal) (m ((c : Thread nD τ).loc main_arg0)) (m ((c : Thread nD τ).loc main_arg1)) (m ((c : Thread nD τ).loc main_arg2)),
    fun c => Cert.ReferenceInFwdIdeal.Read.val_main_v18 (F := Ideal) (m ((c : Thread nD τ).loc main_arg0)) (m ((c : Thread nD τ).loc main_arg1)),
    (θ_run defs _ _).mono (fun r h c => ⟨(h c).1.trans (final3 m c), (h c).2.1.trans (final4 m c), (h c).2.2⟩) (Cert.KernelInFwdIdeal.Value.run_blocks (F := Ideal) m g), ?_⟩
  refine (θ_run Cert.ReferenceInFwdIdeal.defs _ _).mono (fun r h c => ?_) (Cert.ReferenceInFwdIdeal.Value.run (F := Ideal) m' g')
  obtain ⟨e0, e1, e2⟩ := hag c
  refine ⟨(h c).1.trans ?_, (h c).2.1.trans ?_, (h c).2.2⟩ <;> rw [e0, e1] <;> (try rw [e2]) <;> rfl

end Cert.Proof.InFwd

end
-- ==== Proof.InDw.lean ====
/-
  The gradient of the input projection's weight, `hᵀ @ dqkv`.
-/
module

public import proofs.«01_k».proof.Defs
public import proofs.«01_k».proof.Proof.Gen.KernelInDw
public import proofs.«01_k».proof.Proof.Gen.KernelInDw.Frame
public import proofs.«01_k».proof.Proof.Gen.KernelInDwIdeal
public import proofs.«01_k».proof.Proof.Gen.KernelInDwIdeal.Value
public import proofs.«01_k».proof.Proof.Gen.ReferenceInDwIdeal
public import proofs.«01_k».proof.Proof.Gen.ReferenceInDwIdeal.Run
public import proofs.«01_k».proof.Proof.Gen.ReferenceInDwIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.InDw

open Cert.KernelInDwIdeal Cert.KernelInDwIdeal.Gen
open Idealize.ShloMosaic Idealize.ShloMosaic.TcCoe Idealize.SL.Sem

variable (m : (ℓ : Loc nD τ sig) → Buf (Elt Ideal) ℓ)

theorem idx : ∀ t : Fin cfg0.N, win0_0.index t = ![0, 0, t.val % 2] ∧ win0_1.index t = ![0, t.val / 2] ∧ win0_2.index t = ![0, t.val % 2, t.val / 2] :=
  (by decide +kernel : ∀ t : Fin grid0.N, _)

/-- The first operand of the call holds the norm's output in each of its two copies. -/
theorem V_v3 (c : Dev nD) (i : S2x4096x1024.Idx) (j : S4096x1024.Idx) (h0 : (j 0).val = (i 1).val) (h1 : (j 1).val = (i 2).val) :
    (V m c main_v3 : S2x4096x1024.Idx → EReal) i = (m ((c : Thread nD τ).loc main_arg0) : S4096x1024.Idx → EReal) j := by
  have hj : j = ValueIdx.ix2 (i 1) (i 2) := funext fun a => Fin.ext (match a with | ⟨0, _⟩ => h0 | ⟨1, _⟩ => h1)
  subst hj
  unfold V
  after_reads_simp
  pointwise
  split <;> rfl

/-- What the body stores at an entry of a block is the reference's value where the entry sits in the array. -/
theorem point (c : Dev nD) (t : Fin cfg0.N) (y) : k0_pay1 (iblk m c 0 t) (iblk m c 1 t) y
    = Cert.ReferenceInDwIdeal.Read.val_main_v3 (F := Ideal) (m ((c : Thread nD τ).loc main_arg0)) (m ((c : Thread nD τ).loc main_arg2)) (((cfg0.win 2).blk t).view.emb y) := by
  pointwise [k0_pay1, Cert.ReferenceInDwIdeal.Read.val_main_v3, Cert.ReferenceInDwIdeal.Read.val_main_v2, Cert.ReferenceInDwIdeal.Read.val_main_v1]
  refine Finset.sum_congr rfl fun x _ => ?_
  refine (mul_comm _ _).trans ?_
  refine congrArg₂ (· * ·) ?_ ?_
  · blk_point [iblk, V, idx t]
  · refine (V_v3 m c _ _ ?_ ?_)
    · blk_simp [idx t]; try simp
    · blk_simp [idx t]; try simp

/-- The result array after the run. -/
theorem final (c : Dev nD) : (dats m 0 c).arrAt 2 cfg0.N
    = Cert.ReferenceInDwIdeal.Read.val_main_v3 (F := Ideal) (m ((c : Thread nD τ).loc main_arg0)) (m ((c : Thread nD τ).loc main_arg2)) := by
  refine (dats m 0 c).arrAt_eq_of_covers 2 _ (by decide +kernel) fun t _ y => ?_
  blk_simp
  rw [after0_2]
  simp only [outsAt0]
  frame_out
  exact point m c t y

/-- The kernel as printed runs, leaves its arguments unchanged and ends with every counter at zero. -/
theorem frame_kernel : Cert.quiescent_KernelInDw := fun m ρ _ => Cert.KernelInDw.Gen.frame (F := Bits) m ρ

/-- The idealized kernel runs, leaves its arguments unchanged and ends with every counter at zero. -/
theorem frame_kernelIdeal : Cert.quiescent_KernelInDwIdeal := fun m ρ _ => Cert.KernelInDwIdeal.Gen.frame (F := Ideal) m ρ

/-- The idealized reference runs, leaves its arguments unchanged and ends with every counter at zero. -/
theorem frame_referenceIdeal : Cert.quiescent_ReferenceInDwIdeal := fun m ρ _ =>
  (θ_run Cert.ReferenceInDwIdeal.defs _ _).mono
    (fun r h => ⟨fun c => (h c).2, sem_eq_zero_of_no_sems (by decide) r.2⟩)
    (Cert.ReferenceInDwIdeal.Value.run (F := Ideal) m ρ)

/-- The kernel's result is the reference's, over the extended reals. -/
theorem same_values : Cert.algebraic_KernelInDwIdeal_ReferenceInDwIdeal := by
  intro m g m' g' _ hag
  refine ⟨fun c => Cert.ReferenceInDwIdeal.Read.val_main_v3 (F := Ideal) (m ((c : Thread nD τ).loc main_arg0)) (m ((c : Thread nD τ).loc main_arg2)), (θ_run defs _ _).mono (fun r h c => ⟨(h c).1.trans (final m c), (h c).2⟩) (Cert.KernelInDwIdeal.Value.run_blocks (F := Ideal) m g), ?_⟩
  refine (θ_run Cert.ReferenceInDwIdeal.defs _ _).mono (fun r h c => ?_) (Cert.ReferenceInDwIdeal.Value.run (F := Ideal) m' g')
  obtain ⟨e0, e1, e2, e3⟩ := hag c
  refine ⟨(h c).1.trans ?_, (h c).2⟩
  rw [e0, e2]
  rfl

end Cert.Proof.InDw

end
-- ==== Proof.InBwd.lean ====
/-
  The gradient of the input projection and of the norm before it, in the norm's two arguments.
-/
module

public import proofs.«01_k».proof.Defs
public import proofs.«01_k».proof.Proof.Gen.KernelInBwd
public import proofs.«01_k».proof.Proof.Gen.KernelInBwd.Frame
public import proofs.«01_k».proof.Proof.Gen.KernelInBwdIdeal
public import proofs.«01_k».proof.Proof.Gen.KernelInBwdIdeal.Value
public import proofs.«01_k».proof.Proof.Gen.ReferenceInBwdIdeal
public import proofs.«01_k».proof.Proof.Gen.ReferenceInBwdIdeal.Run
public import proofs.«01_k».proof.Proof.Gen.ReferenceInBwdIdeal.Read
public import proofs.«01_k».proof.Proof.Norm
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.InBwd

open Cert.KernelInBwdIdeal Cert.KernelInBwdIdeal.Gen
open Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![0, 0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] :=
  (by decide +kernel : ∀ t : Fin grid0.N, _)

theorem pay6 (b0 : FVec Ideal S512x3072 .bf16) (b1 : FVec Ideal S1x1024x3072 .bf16) (b2 b3 : FVec Ideal S512x1024 .f32) (b4 : FVec Ideal S1x1024 .f32) (y) :
    k0_pay6 (F := Ideal) b0 b1 b2 b4 b3 y
    = (b3 y : EReal) + kdx (fun x => b2 (ix2 (y 0) x)) (fun x => (∑ k, b0 (ix2 (y 0) k) * b1 (ix3 0 x k)) * b4 (ix2 0 x)) (b2 y)
      ((∑ k, b0 (ix2 (y 0) k) * b1 (ix3 0 (y 1) k)) * b4 (ix2 0 (y 1))) := by
  pointwise [k0_pay3, k0_pay4, k0_pay5, k0_pay6]

theorem pay2 (b0 : FVec Ideal S512x3072 .bf16) (b1 : FVec Ideal S1x1024x3072 .bf16) (b2 b3 : FVec Ideal S512x1024 .f32) (b4 : FVec Ideal S1x1024 .f32) (acc) (y) :
    k0_pay2 (F := Ideal) (k0_pay3 b0 b1) (k0_pay5 b2) acc y
    = (acc y : EReal) + ∑ x : Fin 512, (∑ k, b0 (ix2 x k) * b1 (ix3 0 (y 1) k)) * (b2 (ix2 x (y 1)) * rs (fun k => b2 (ix2 x k))) := by
  pointwise [k0_pay2, k0_pay3, k0_pay4, k0_pay5]

theorem pay1 (y) : k0_pay1 (F := Ideal) y = 0 := by
  pointwise [k0_pay1]

theorem ref38 (x0 : FVec Ideal S4096x1024 .f32) (x1 : FVec Ideal S1024 .f32) (x2 : FVec Ideal S1024x3072 .f32) (x3 : FVec Ideal S4096x3072 .f32) (x4 : FVec Ideal S4096x1024 .f32) (y) :
    Cert.ReferenceInBwdIdeal.Read.val_main_v38 (F := Ideal) x0 x1 x2 x3 x4 y
    = (x4 y : EReal) + rdx (fun x => x0 (ix2 (y 0) x)) (fun x => (∑ k : Fin 3072, x3 (ix2 (y 0) k) * x2 (ix2 x k)) * x1 (ix1 x)) (x0 y)
      ((∑ k : Fin 3072, x3 (ix2 (y 0) k) * x2 (ix2 (y 1) k)) * x1 (ix1 (y 1))) := by
  pointwise [Cert.ReferenceInBwdIdeal.Read.val_main_v0, Cert.ReferenceInBwdIdeal.Read.val_main_cst, Cert.ReferenceInBwdIdeal.Read.val_main_v1, Cert.ReferenceInBwdIdeal.Read.val_main_v2, Cert.ReferenceInBwdIdeal.Read.val_main_cst_0, Cert.ReferenceInBwdIdeal.Read.val_main_v3, Cert.ReferenceInBwdIdeal.Read.val_main_v4, Cert.ReferenceInBwdIdeal.Read.val_main_cst_1, Cert.ReferenceInBwdIdeal.Read.val_main_v5, Cert.ReferenceInBwdIdeal.Read.val_main_v6, Cert.ReferenceInBwdIdeal.Read.val_main_v7, Cert.ReferenceInBwdIdeal.Read.val_main_v8, Cert.ReferenceInBwdIdeal.Read.val_main_cst_2, Cert.ReferenceInBwdIdeal.Read.val_main_v9, Cert.ReferenceInBwdIdeal.Read.val_main_v10, Cert.ReferenceInBwdIdeal.Read.val_main_v11, Cert.ReferenceInBwdIdeal.Read.val_main_v12, Cert.ReferenceInBwdIdeal.Read.val_main_v13, Cert.ReferenceInBwdIdeal.Read.val_main_v14, Cert.ReferenceInBwdIdeal.Read.val_main_v15, Cert.ReferenceInBwdIdeal.Read.val_main_v16, Cert.ReferenceInBwdIdeal.Read.val_main_v17, Cert.ReferenceInBwdIdeal.Read.val_main_v18, Cert.ReferenceInBwdIdeal.Read.val_main_cst_3, Cert.ReferenceInBwdIdeal.Read.val_main_v19, Cert.ReferenceInBwdIdeal.Read.val_main_v20, Cert.ReferenceInBwdIdeal.Read.val_main_v21, Cert.ReferenceInBwdIdeal.Read.val_main_v22, Cert.ReferenceInBwdIdeal.Read.val_main_cst_4, Cert.ReferenceInBwdIdeal.Read.val_main_v23, Cert.ReferenceInBwdIdeal.Read.val_main_v24, Cert.ReferenceInBwdIdeal.Read.val_main_cst_5, Cert.ReferenceInBwdIdeal.Read.val_main_v25, Cert.ReferenceInBwdIdeal.Read.val_main_v26, Cert.ReferenceInBwdIdeal.Read.val_main_v27, Cert.ReferenceInBwdIdeal.Read.val_main_v28, Cert.ReferenceInBwdIdeal.Read.val_main_v29, Cert.ReferenceInBwdIdeal.Read.val_main_cst_6, Cert.ReferenceInBwdIdeal.Read.val_main_v30, Cert.ReferenceInBwdIdeal.Read.val_main_v31, Cert.ReferenceInBwdIdeal.Read.val_main_cst_7, Cert.ReferenceInBwdIdeal.Read.val_main_v32, Cert.ReferenceInBwdIdeal.Read.val_main_v33, Cert.ReferenceInBwdIdeal.Read.val_main_v34, Cert.ReferenceInBwdIdeal.Read.val_main_v35, Cert.ReferenceInBwdIdeal.Read.val_main_v36, Cert.ReferenceInBwdIdeal.Read.val_main_v37, Cert.ReferenceInBwdIdeal.Read.val_main_v38, Cert.ReferenceInBwdIdeal.Read.val_main_v39, Cert.ReferenceInBwdIdeal.Read.val_main_v40]
  simp only [Fin.sum_univ_one, Finset.sum_const, Finset.card_univ, Fintype.card_fin, one_smul]

theorem ref40 (x0 : FVec Ideal S4096x1024 .f32) (x1 : FVec Ideal S1024 .f32) (x2 : FVec Ideal S1024x3072 .f32) (x3 : FVec Ideal S4096x3072 .f32) (x4 : FVec Ideal S4096x1024 .f32) (y) :
    Cert.ReferenceInBwdIdeal.Read.val_main_v40 (F := Ideal) x0 x2 x3 y
    = ∑ x : Fin 4096, ((x0 (ix2 x (y 1)) * rs (fun k => x0 (ix2 x k))) * ∑ k : Fin 3072, x3 (ix2 x k) * x2 (ix2 (y 1) k) : EReal) := by
  pointwise [Cert.ReferenceInBwdIdeal.Read.val_main_v0, Cert.ReferenceInBwdIdeal.Read.val_main_cst, Cert.ReferenceInBwdIdeal.Read.val_main_v1, Cert.ReferenceInBwdIdeal.Read.val_main_v2, Cert.ReferenceInBwdIdeal.Read.val_main_cst_0, Cert.ReferenceInBwdIdeal.Read.val_main_v3, Cert.ReferenceInBwdIdeal.Read.val_main_v4, Cert.ReferenceInBwdIdeal.Read.val_main_cst_1, Cert.ReferenceInBwdIdeal.Read.val_main_v5, Cert.ReferenceInBwdIdeal.Read.val_main_v6, Cert.ReferenceInBwdIdeal.Read.val_main_v7, Cert.ReferenceInBwdIdeal.Read.val_main_v8, Cert.ReferenceInBwdIdeal.Read.val_main_cst_2, Cert.ReferenceInBwdIdeal.Read.val_main_v9, Cert.ReferenceInBwdIdeal.Read.val_main_v10, Cert.ReferenceInBwdIdeal.Read.val_main_v11, Cert.ReferenceInBwdIdeal.Read.val_main_v12, Cert.ReferenceInBwdIdeal.Read.val_main_v13, Cert.ReferenceInBwdIdeal.Read.val_main_v14, Cert.ReferenceInBwdIdeal.Read.val_main_v15, Cert.ReferenceInBwdIdeal.Read.val_main_v16, Cert.ReferenceInBwdIdeal.Read.val_main_v17, Cert.ReferenceInBwdIdeal.Read.val_main_v18, Cert.ReferenceInBwdIdeal.Read.val_main_cst_3, Cert.ReferenceInBwdIdeal.Read.val_main_v19, Cert.ReferenceInBwdIdeal.Read.val_main_v20, Cert.ReferenceInBwdIdeal.Read.val_main_v21, Cert.ReferenceInBwdIdeal.Read.val_main_v22, Cert.ReferenceInBwdIdeal.Read.val_main_cst_4, Cert.ReferenceInBwdIdeal.Read.val_main_v23, Cert.ReferenceInBwdIdeal.Read.val_main_v24, Cert.ReferenceInBwdIdeal.Read.val_main_cst_5, Cert.ReferenceInBwdIdeal.Read.val_main_v25, Cert.ReferenceInBwdIdeal.Read.val_main_v26, Cert.ReferenceInBwdIdeal.Read.val_main_v27, Cert.ReferenceInBwdIdeal.Read.val_main_v28, Cert.ReferenceInBwdIdeal.Read.val_main_v29, Cert.ReferenceInBwdIdeal.Read.val_main_cst_6, Cert.ReferenceInBwdIdeal.Read.val_main_v30, Cert.ReferenceInBwdIdeal.Read.val_main_v31, Cert.ReferenceInBwdIdeal.Read.val_main_cst_7, Cert.ReferenceInBwdIdeal.Read.val_main_v32, Cert.ReferenceInBwdIdeal.Read.val_main_v33, Cert.ReferenceInBwdIdeal.Read.val_main_v34, Cert.ReferenceInBwdIdeal.Read.val_main_v35, Cert.ReferenceInBwdIdeal.Read.val_main_v36, Cert.ReferenceInBwdIdeal.Read.val_main_v37, Cert.ReferenceInBwdIdeal.Read.val_main_v38, Cert.ReferenceInBwdIdeal.Read.val_main_v39, Cert.ReferenceInBwdIdeal.Read.val_main_v40]
  simp only [Fin.sum_univ_one, Finset.sum_const, Finset.card_univ, Fintype.card_fin, one_smul]

/-- The blocks read at a point and the five arguments, as arrays of extended reals. -/
abbrev B0 (c : Dev nD) (t : Fin cfg0.N) : S512x3072.Idx → EReal := iblk m c 0 t
abbrev B1 (c : Dev nD) (t : Fin cfg0.N) : S1x1024x3072.Idx → EReal := iblk m c 1 t
abbrev B2 (c : Dev nD) (t : Fin cfg0.N) : S512x1024.Idx → EReal := iblk m c 2 t
abbrev B3 (c : Dev nD) (t : Fin cfg0.N) : S512x1024.Idx → EReal := iblk m c 3 t
abbrev B4 (c : Dev nD) (t : Fin cfg0.N) : S1x1024.Idx → EReal := iblk m c 4 t
abbrev A0 (c : Dev nD) : S4096x1024.Idx → EReal := m ((c : Thread nD τ).loc main_arg0)
abbrev A1 (c : Dev nD) : S1024.Idx → EReal := m ((c : Thread nD τ).loc main_arg1)
abbrev A2 (c : Dev nD) : S1024x3072.Idx → EReal := m ((c : Thread nD τ).loc main_arg2)
abbrev A3 (c : Dev nD) : S4096x3072.Idx → EReal := m ((c : Thread nD τ).loc main_arg3)
abbrev A4 (c : Dev nD) : S4096x1024.Idx → EReal := m ((c : Thread nD τ).loc main_arg4)

theorem read0 (c : Dev nD) (t : Fin cfg0.N) (i : S512x3072.Idx) (j : S4096x3072.Idx) (h0 : (j 0).val = t.val * 512 + (i 0).val)
    (h1 : (j 1).val = (i 1).val) : B0 m c t i = A3 m c j := by
  blk_point [iblk, V, idx t]

theorem read1 (c : Dev nD) (t : Fin cfg0.N) (i : S1x1024x3072.Idx) (j : S1024x3072.Idx) (h0 : (j 0).val = (i 1).val)
    (h1 : (j 1).val = (i 2).val) : B1 m c t i = A2 m c j := by
  blk_point [iblk, V, idx t]

theorem read2 (c : Dev nD) (t : Fin cfg0.N) (i : S512x1024.Idx) (j : S4096x1024.Idx) (h0 : (j 0).val = t.val * 512 + (i 0).val)
    (h1 : (j 1).val = (i 1).val) : B2 m c t i = A0 m c j := by
  blk_point [iblk, V, idx t]

theorem read3 (c : Dev nD) (t : Fin cfg0.N) (i : S512x1024.Idx) (j : S4096x1024.Idx) (h0 : (j 0).val = t.val * 512 + (i 0).val)
    (h1 : (j 1).val = (i 1).val) : B3 m c t i = A4 m c j := by
  blk_point [iblk, V, idx t]

theorem read4 (c : Dev nD) (t : Fin cfg0.N) (i : S1x1024.Idx) (j : S1024.Idx) (h0 : (j 0).val = (i 1).val) : B4 m c t i = A1 m c j := by
  blk_point [iblk, V, idx t]

/-- A row of the block times a row of the weight is the row of the array times the same row. -/
theorem dn_eq (c : Dev nD) (t : Fin cfg0.N) (s : Fin 512) (d : Fin 1024) (r : Fin 4096) (d' : Fin 1024) (hr : r.val = t.val * 512 + s.val) (hd : d'.val = d.val) :
    ∑ k, B0 m c t (ix2 s k) * B1 m c t (ix3 0 d k) = ∑ k : Fin 3072, A3 m c (ix2 r k) * A2 m c (ix2 d' k) :=
  Finset.sum_congr rfl fun k _ => congrArg₂ (· * ·) (read0 m c t (ix2 s k) (ix2 r k) hr rfl) (read1 m c t (ix3 0 d k) (ix2 d' k) hd rfl)

/-- What the body stores at an entry of a block of the gradient is the reference's value where the entry sits in the array. -/
theorem point (c : Dev nD) (t : Fin cfg0.N) (y : S512x1024.Idx) (j : S4096x1024.Idx) (j0 : (j 0).val = t.val * 512 + (y 0).val) (j1 : (j 1).val = (y 1).val) :
    k0_pay6 (F := Ideal) (iblk m c 0 t) (iblk m c 1 t) (iblk m c 2 t) (iblk m c 4 t) (iblk m c 3 t) y
    = Cert.ReferenceInBwdIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) j := by
  refine (pay6 (B0 m c t) (B1 m c t) (B2 m c t) (B3 m c t) (B4 m c t) y).trans ?_
  refine Eq.trans ?_ (ref38 (A0 m c) (A1 m c) (A2 m c) (A3 m c) (A4 m c) j).symm
  have ed : ∀ d d' : Fin 1024, d'.val = d.val → (∑ k, B0 m c t (ix2 (y 0) k) * B1 m c t (ix3 0 d k)) * B4 m c t (ix2 0 d)
      = (∑ k : Fin 3072, A3 m c (ix2 (j 0) k) * A2 m c (ix2 d' k)) * A1 m c (ix1 d') := fun d d' h =>
    congrArg₂ (· * ·) (dn_eq m c t (y 0) d (j 0) d' j0 h) (read4 m c t (ix2 0 d) (ix1 d') h)
  exact dx_eq (read3 m c t y j j0 j1) (read2 m c t y j j0 j1) (ed (y 1) (j 1) j1) (fun x => read2 m c t (ix2 (y 0) x) (ix2 (j 0) x) j0 rfl)
    (fun x => ed x x rfl)

/-- The first result array after the run. -/
theorem final5 (c : Dev nD) : (dats m 0 c).arrAt 5 cfg0.N
    = Cert.ReferenceInBwdIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  have j0 : ((((cfg0.win 5).blk t).view.emb y) 0).val = t.val * 512 + (y 0).val := by blk_simp [idx t]
  have j1 : ((((cfg0.win 5).blk t).view.emb y) 1).val = (y 1).val := by blk_simp [idx t]
  blk_simp
  rw [after0_5]
  by_cases h : t.val % 8 = 0
  · rw [outsAt0_A m c t h]
    frame_out
    exact point m c t y _ j0 j1
  · rw [outsAt0_B m c t h]
    frame_out
    exact point m c t y _ j0 j1

/-- The second result array after the run holds the same values. -/
theorem final6 (c : Dev nD) : (dats m 0 c).arrAt 6 cfg0.N
    = Cert.ReferenceInBwdIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  have j0 : ((((cfg0.win 6).blk t).view.emb y) 0).val = t.val * 512 + (y 0).val := by blk_simp [idx t]
  have j1 : ((((cfg0.win 6).blk t).view.emb y) 1).val = (y 1).val := by blk_simp [idx t]
  blk_simp
  rw [after0_6]
  by_cases h : t.val % 8 = 0
  · rw [outsAt0_A m c t h]
    frame_out
    exact point m c t y _ j0 j1
  · rw [outsAt0_B m c t h]
    frame_out
    exact point m c t y _ j0 j1

/-- What a point adds to the gradient of the norm's scale. -/
abbrev part (c : Dev nD) (t : Fin cfg0.N) (d : Fin 1024) : EReal :=
  ∑ x : Fin 512, (∑ k, B0 m c t (ix2 x k) * B1 m c t (ix3 0 d k)) * (B2 m c t (ix2 x d) * rs (fun k => B2 m c t (ix2 x k)))

theorem mul_swap {a a' b b' : EReal} (ha : a = a') (hb : b = b') : a * b = b' * a' := by rw [ha, hb, mul_comm]

/-- The third result array after the run: the parts of the points added up. -/
theorem final7 (c : Dev nD) : (dats m 0 c).arrAt 7 cfg0.N = Cert.ReferenceInBwdIdeal.Read.val_main_v40 (F := Ideal) (m ((c : Thread nD τ).loc main_arg0)) (m ((c : Thread nD τ).loc main_arg2)) (m ((c : Thread nD τ).loc main_arg3)) := by
  refine (dats m 0 c).arrAt_eq_of_after_last 7 t0_7 (by decide +kernel) _ fun j => ?_
  blk_simp
  rw [after0_7]
  rw [Pipeline.eq_sum_fin_of_reset_step_apply_last (fun n h => (outsAt0 m c n h).2.2) 8 (fun _ => 0) (fun t j => part m c t (j 1))
    (fun t h j => by rw [outsAt0_A m c t h]; frame_out; exact (pay2 (B0 m c t) (B1 m c t) (B2 m c t) (B3 m c t) (B4 m c t) _ j).trans (by rw [pay1]))
    (fun t h j => by rw [outsAt0_B m c t h]; frame_out; exact (pay2 (B0 m c t) (B1 m c t) (B2 m c t) (B3 m c t) (B4 m c t) _ j))
    (le_of_eq N_0) t0_7 rfl j, zero_add]
  refine (Fin.sum_mul_add_congr fun t x hl => ?_).trans (ref40 (A0 m c) (A1 m c) (A2 m c) (A3 m c) (A4 m c) j).symm
  have e2 : ∀ k, B2 m c t (ix2 x k) = A0 m c (ix2 ⟨t.val * 512 + x.val, hl⟩ k) := fun k => read2 m c t _ _ rfl rfl
  exact mul_swap (dn_eq m c t x (j 1) _ (j 1) rfl rfl) (congrArg₂ (· * ·) (e2 (j 1)) (congrArg rs (funext e2)))

/-- The kernel as printed runs, leaves its arguments unchanged and ends with every counter at zero. -/
theorem frame_kernel : Cert.quiescent_KernelInBwd := fun m ρ _ => Cert.KernelInBwd.Gen.frame (F := Bits) m ρ

/-- The idealized kernel runs, leaves its arguments unchanged and ends with every counter at zero. -/
theorem frame_kernelIdeal : Cert.quiescent_KernelInBwdIdeal := fun m ρ _ => Cert.KernelInBwdIdeal.Gen.frame (F := Ideal) m ρ

/-- The idealized reference runs, leaves its arguments unchanged and ends with every counter at zero. -/
theorem frame_referenceIdeal : Cert.quiescent_ReferenceInBwdIdeal := fun m ρ _ =>
  (θ_run Cert.ReferenceInBwdIdeal.defs _ _).mono
    (fun r h => ⟨fun c => (h c).2.2.2, sem_eq_zero_of_no_sems (by decide) r.2⟩)
    (Cert.ReferenceInBwdIdeal.Value.run (F := Ideal) m ρ)

/-- The kernel's results are the reference's, over the extended reals. -/
theorem same_values : Cert.algebraic_KernelInBwdIdeal_ReferenceInBwdIdeal := by
  intro m g m' g' _ hag
  refine ⟨fun c => Cert.ReferenceInBwdIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.ReferenceInBwdIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.ReferenceInBwdIdeal.Read.val_main_v40 (F := Ideal) (m ((c : Thread nD τ).loc main_arg0)) (m ((c : Thread nD τ).loc main_arg2)) (m ((c : Thread nD τ).loc main_arg3)),
    (θ_run defs _ _).mono (fun r h c => ⟨(h c).1.trans (final5 m c), (h c).2.1.trans (final6 m c), (h c).2.2.1.trans (final7 m c), (h c).2.2.2⟩) (Cert.KernelInBwdIdeal.Value.run_blocks (F := Ideal) m g), ?_⟩
  refine (θ_run Cert.ReferenceInBwdIdeal.defs _ _).mono (fun r h c => ?_) (Cert.ReferenceInBwdIdeal.Value.run (F := Ideal) m' g')
  obtain ⟨e0, e1, e2, e3, e4⟩ := hag c
  refine ⟨(h c).1.trans ?_, (h c).2.1.trans ?_, (h c).2.2.1.trans ?_, (h c).2.2.2⟩
  · rw [Cert.ReferenceInBwdIdeal.Read.val_main_v38_eq, e0, e1, e2, e3, e4]
  · rw [Cert.ReferenceInBwdIdeal.Read.val_main_v39_eq, e0, e1, e2, e3, e4]
    rfl
  · rw [e0, e2, e3]
    rfl

end Cert.Proof.InBwd

end
-- ==== Proof.EvenOutBwd.lean ====
/-
  The gradient of the output projection in its input, `dxo @ w_outᵀ`, as the even layers' call returns it.
-/
module

public import proofs.«01_k».proof.Defs
public import proofs.«01_k».proof.Proof.Gen.KernelEvenOutBwd
public import proofs.«01_k».proof.Proof.Gen.KernelEvenOutBwd.Frame
public import proofs.«01_k».proof.Proof.Gen.KernelEvenOutBwdIdeal
public import proofs.«01_k».proof.Proof.Gen.KernelEvenOutBwdIdeal.Value
public import proofs.«01_k».proof.Proof.Gen.ReferenceEvenOutBwdIdeal
public import proofs.«01_k».proof.Proof.Gen.ReferenceEvenOutBwdIdeal.Run
public import proofs.«01_k».proof.Proof.Gen.ReferenceEvenOutBwdIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.EvenOutBwd

open Cert.KernelEvenOutBwdIdeal Cert.KernelEvenOutBwdIdeal.Gen
open Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![0, 0, 0] ∧ win0_2.index t = ![t.val, 0] :=
  (by decide +kernel : ∀ t : Fin grid0.N, _)

/-- What the body stores at an entry of a block is the reference's value where the entry sits in the array. -/
theorem point (c : Dev nD) (t : Fin cfg0.N) (y) : k0_pay1 (iblk m c 0 t) (iblk m c 1 t) y
    = Cert.ReferenceEvenOutBwdIdeal.Read.val_main_v1 (F := Ideal) (m ((c : Thread nD τ).loc main_arg1)) (m ((c : Thread nD τ).loc main_arg2)) (((cfg0.win 2).blk t).view.emb y) := by
  pointwise [k0_pay1, Cert.ReferenceEvenOutBwdIdeal.Read.val_main_v1]
  blk_point [iblk, V, idx t]

/-- The result array after the run. -/
theorem final (c : Dev nD) : (dats m 0 c).arrAt 2 cfg0.N
    = Cert.ReferenceEvenOutBwdIdeal.Read.val_main_v1 (F := Ideal) (m ((c : Thread nD τ).loc main_arg1)) (m ((c : Thread nD τ).loc main_arg2)) := by
  refine (dats m 0 c).arrAt_eq_of_covers 2 _ (by decide +kernel) fun t _ y => ?_
  blk_simp
  rw [after0_2]
  frame_out
  exact point m c t y

/-- The kernel as printed runs, leaves its arguments unchanged and ends with every counter at zero. -/
theorem frame_kernel : Cert.quiescent_KernelEvenOutBwd := fun m ρ _ => Cert.KernelEvenOutBwd.Gen.frame (F := Bits) m ρ

/-- The idealized kernel runs, leaves its arguments unchanged and ends with every counter at zero. -/
theorem frame_kernelIdeal : Cert.quiescent_KernelEvenOutBwdIdeal := fun m ρ _ => Cert.KernelEvenOutBwdIdeal.Gen.frame (F := Ideal) m ρ

/-- The idealized reference runs, leaves its arguments unchanged and ends with every counter at zero. -/
theorem frame_referenceIdeal : Cert.quiescent_ReferenceEvenOutBwdIdeal := fun m ρ _ =>
  (θ_run Cert.ReferenceEvenOutBwdIdeal.defs _ _).mono
    (fun r h => ⟨fun c => (h c).2, sem_eq_zero_of_no_sems (by decide) r.2⟩)
    (Cert.ReferenceEvenOutBwdIdeal.Value.run (F := Ideal) m ρ)

/-- The kernel's result is the reference's, over the extended reals. -/
theorem same_values : Cert.algebraic_KernelEvenOutBwdIdeal_ReferenceEvenOutBwdIdeal := by
  intro m g m' g' _ hag
  refine ⟨fun c => Cert.ReferenceEvenOutBwdIdeal.Read.val_main_v1 (F := Ideal) (m ((c : Thread nD τ).loc main_arg1)) (m ((c : Thread nD τ).loc main_arg2)), (θ_run defs _ _).mono (fun r h c => ⟨(h c).1.trans (final m c), (h c).2⟩) (Cert.KernelEvenOutBwdIdeal.Value.run_blocks (F := Ideal) m g), ?_⟩
  refine (θ_run Cert.ReferenceEvenOutBwdIdeal.defs _ _).mono (fun r h c => ?_) (Cert.ReferenceEvenOutBwdIdeal.Value.run (F := Ideal) m' g')
  obtain ⟨e0, e1, e2⟩ := hag c
  refine ⟨(h c).1.trans ?_, (h c).2⟩
  rw [e1, e2]
  rfl

end Cert.Proof.EvenOutBwd

end
-- ==== Proof.Even.lean ====
/-
  The columns of the even layers' input projection: where the call puts each column of the reference.
-/
module

public import Mathlib.Algebra.BigOperators.Fin
public import Mathlib.Data.EReal.Operations

@[expose] public section

namespace Cert.Proof.Even

/-- The call's column of a column of the reference: six runs of columns, in another order. -/
def pos (k : ℕ) : ℕ :=
  if k < 1536 then k else if k < 2048 then k + 1536 else if k < 2056 then k + 2048 else if k < 3592 then k - 520
  else if k < 4104 then k - 8 else k

theorem pos_lt {k : ℕ} (h : k < 4108) : pos k < 4108 := by
  unfold pos; split_ifs <;> omega

/-- Every column of the call before the zeros is the place of one of the reference. -/
theorem at_pos {k : ℕ} (h : k < 4108) : ∃ j, j < 4108 ∧ pos j = k := by
  by_cases h1 : k < 1536
  · exact ⟨k, by omega, by unfold pos; split_ifs <;> omega⟩
  by_cases h2 : k < 3072
  · exact ⟨k + 520, by omega, by unfold pos; split_ifs <;> omega⟩
  by_cases h3 : k < 3584
  · exact ⟨k - 1536, by omega, by unfold pos; split_ifs <;> omega⟩
  by_cases h4 : k < 4096
  · exact ⟨k + 8, by omega, by unfold pos; split_ifs <;> omega⟩
  by_cases h5 : k < 4104
  · exact ⟨k - 2048, by omega, by unfold pos; split_ifs <;> omega⟩
  · exact ⟨k, h, by unfold pos; split_ifs <;> omega⟩

/-- A sum over the call's columns is the sum over the reference's, when the columns past them hold zero. -/
theorem sum_pos (f : Fin 4224 → EReal) (g : Fin 4108 → EReal) (h0 : ∀ k : Fin 4224, 4108 ≤ k.val → f k = 0)
    (h1 : ∀ (k : Fin 4108) (k' : Fin 4224), k'.val = pos k.val → f k' = g k) : ∑ k, f k = ∑ k, g k := by
  let e : Fin 4108 → Fin 4224 := fun k => ⟨pos k.val, (pos_lt k.isLt).trans (by norm_num)⟩
  refine (Fintype.sum_of_injective e ?_ g f ?_ fun k => (h1 k (e k) rfl).symm).symm
  · intro a b h
    have h' : pos a.val = pos b.val := congrArg Fin.val h
    have ha := a.isLt
    have hb := b.isLt
    refine Fin.ext ?_
    unfold pos at h'
    split_ifs at h' <;> omega
  · intro k hk
    refine h0 k (not_lt.mp fun hlt => hk ?_)
    obtain ⟨j, hj, hp⟩ := at_pos hlt
    exact ⟨⟨j, hj⟩, Fin.ext hp⟩

end Cert.Proof.Even
-- ==== Proof.EvenIn.lean ====
/-
  The norm before an even layer's mixer and its input projection, in the call's order of the columns.
-/
module

public import proofs.«01_k».proof.Defs
public import proofs.«01_k».proof.Proof.Gen.KernelEvenIn
public import proofs.«01_k».proof.Proof.Gen.KernelEvenIn.Frame
public import proofs.«01_k».proof.Proof.Gen.KernelEvenInIdeal
public import proofs.«01_k».proof.Proof.Gen.KernelEvenInIdeal.Value
public import proofs.«01_k».proof.Proof.Gen.ReferenceEvenInIdeal
public import proofs.«01_k».proof.Proof.Gen.ReferenceEvenInIdeal.Run
public import proofs.«01_k».proof.Proof.Gen.ReferenceEvenInIdeal.Read
public import proofs.«01_k».proof.Proof.Even
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.EvenIn

open Cert.KernelEvenInIdeal Cert.KernelEvenInIdeal.Gen
open Idealize.ShloMosaic Idealize.ShloMosaic.TcCoe Idealize.SL.Sem

variable (m : (ℓ : Loc nD τ sig) → Buf (Elt Ideal) ℓ)

theorem idx : ∀ t : Fin cfg0.N, win0_0.index t = ![t.val % 8, 0] ∧ win0_1.index t = ![0, 0] ∧ win0_2.index t = ![0, 0, t.val / 8]
    ∧ win0_3.index t = ![t.val % 8, t.val / 8] ∧ win0_4.index t = ![t.val / 8, t.val % 8, 0] :=
  (by decide +kernel : ∀ t : Fin grid0.N, _)

/-- An entry of an array of 1024 rows, read at its two coordinates. -/
theorem at1024 (f : S1024x4108.Idx → EReal) (a : Fin 1024) (b : Fin 4108) (j : S1024x4108.Idx) (h0 : a.val = (j 0).val) (h1 : b.val = (j 1).val) :
    f (ix2 a b) = f j :=
  congrArg f (funext fun x => Fin.ext (match x with | ⟨0, _⟩ => h0 | ⟨1, _⟩ => h1))

/-- The call's third operand at the place of a column of the argument. -/
theorem V_v10 (c : Dev nD) (i : S1x1024x4224.Idx) (j : S1024x4108.Idx) (h0 : (i 1).val = (j 0).val) (h1 : (i 2).val = Even.pos (j 1).val) :
    (V m c main_v10 : S1x1024x4224.Idx → EReal) i = (m ((c : Thread nD τ).loc main_arg2) : S1024x4108.Idx → EReal) j := by
  have hj : (j 1).val < 4108 := (j 1).isLt
  unfold Even.pos at h1
  unfold V
  after_reads_simp
  pointwise
  split_ifs
  all_goals (try (exfalso; split_ifs at h1 <;> omega))
  all_goals after_reads_simp
  all_goals pointwise
  all_goals
    refine at1024 (m ((c : Thread nD τ).loc main_arg2)) _ _ j h0 ?_
    dsimp only
    split_ifs at h1 <;> omega

/-- The call's third operand is zero past the columns of the argument. -/
theorem V_v10_zero (c : Dev nD) (i : S1x1024x4224.Idx) (h : 4108 ≤ (i 2).val) : (V m c main_v10 : S1x1024x4224.Idx → EReal) i = (0 : EReal) := by
  unfold V
  after_reads_simp
  pointwise
  split_ifs
  all_goals (try (exfalso; omega))
  after_reads_simp
  pointwise

/-- The reference at the place of a column. -/
theorem ref_at (x0 : FVec Ideal S4096x1024 .f32) (x1 : FVec Ideal S1024 .f32) (x2 : FVec Ideal S1024x4108 .f32) (i : S4096x4224.Idx) (k : Fin 4108) (h : (i 1).val = Even.pos k.val) :
    Cert.ReferenceEvenInIdeal.Read.val_main_v21 (F := Ideal) x0 x1 x2 i = ∑ x : Fin 1024, (Cert.ReferenceEvenInIdeal.Read.val_main_v12 (F := Ideal) x0 x1 (ix2 (i 0) x) * x2 (ix2 x k) : EReal) := by
  have hk : k.val < 4108 := k.isLt
  unfold Even.pos at h
  pointwise [Cert.ReferenceEvenInIdeal.Read.val_main_v13, Cert.ReferenceEvenInIdeal.Read.val_main_v14, Cert.ReferenceEvenInIdeal.Read.val_main_v15, Cert.ReferenceEvenInIdeal.Read.val_main_v16, Cert.ReferenceEvenInIdeal.Read.val_main_v17, Cert.ReferenceEvenInIdeal.Read.val_main_v18, Cert.ReferenceEvenInIdeal.Read.val_main_v19, Cert.ReferenceEvenInIdeal.Read.val_main_cst_2, Cert.ReferenceEvenInIdeal.Read.val_main_v20, Cert.ReferenceEvenInIdeal.Read.val_main_v21]
  split_ifs
  all_goals (try (exfalso; split_ifs at h <;> omega))
  all_goals
    refine Finset.sum_congr rfl fun x _ => congrArg (_ * ·) (at1024 x2 _ _ (ix2 x k) rfl ?_)
    show _ = k.val
    dsimp only
    split_ifs at h <;> omega

/-- The reference is zero past the columns. -/
theorem ref_zero (x0 : FVec Ideal S4096x1024 .f32) (x1 : FVec Ideal S1024 .f32) (x2 : FVec Ideal S1024x4108 .f32) (i : S4096x4224.Idx) (h : 4108 ≤ (i 1).val) : Cert.ReferenceEvenInIdeal.Read.val_main_v21 (F := Ideal) x0 x1 x2 i = (0 : EReal) := by
  pointwise [Cert.ReferenceEvenInIdeal.Read.val_main_v13, Cert.ReferenceEvenInIdeal.Read.val_main_v14, Cert.ReferenceEvenInIdeal.Read.val_main_v15, Cert.ReferenceEvenInIdeal.Read.val_main_v16, Cert.ReferenceEvenInIdeal.Read.val_main_v17, Cert.ReferenceEvenInIdeal.Read.val_main_v18, Cert.ReferenceEvenInIdeal.Read.val_main_v19, Cert.ReferenceEvenInIdeal.Read.val_main_cst_2, Cert.ReferenceEvenInIdeal.Read.val_main_v20, Cert.ReferenceEvenInIdeal.Read.val_main_v21]
  split_ifs
  all_goals (try (exfalso; omega))
  all_goals (try rfl)

/-- The product's payload at an entry. -/
theorem pay3 (b0 : FVec Ideal S512x1024 .f32) (b1 : FVec Ideal S1x1024 .f32) (b2 : FVec Ideal S1x1024x1408 .bf16) (y) :
    k0_pay3 (F := Ideal) b0 b1 b2 y = ∑ x : Fin 1024, (k0_pay1 (F := Ideal) b0 b1 (ix2 (y 0) x) * b2 (ix3 0 x (y 1)) : EReal) := by
  pointwise [k0_pay3]

/-- The norm's output at an entry of the rows of a block. -/
theorem norm_at (c : Dev nD) (t : Fin cfg0.N) (y : S512x1024.Idx) (j : S4096x1024.Idx) (j0 : (j 0).val = t.val % 8 * 512 + (y 0).val) (j1 : (j 1).val = (y 1).val) :
    (k0_pay1 (F := Ideal) (iblk m c 0 t) (iblk m c 1 t) y : EReal) = Cert.ReferenceEvenInIdeal.Read.val_main_v12 (F := Ideal) (m ((c : Thread nD τ).loc main_arg0)) (m ((c : Thread nD τ).loc main_arg1)) j := by
  pointwise [k0_pay1, Cert.ReferenceEvenInIdeal.Read.val_main_v0, Cert.ReferenceEvenInIdeal.Read.val_main_cst, Cert.ReferenceEvenInIdeal.Read.val_main_v1, Cert.ReferenceEvenInIdeal.Read.val_main_v2, Cert.ReferenceEvenInIdeal.Read.val_main_cst_0, Cert.ReferenceEvenInIdeal.Read.val_main_v3, Cert.ReferenceEvenInIdeal.Read.val_main_v4, Cert.ReferenceEvenInIdeal.Read.val_main_cst_1, Cert.ReferenceEvenInIdeal.Read.val_main_v5, Cert.ReferenceEvenInIdeal.Read.val_main_v6, Cert.ReferenceEvenInIdeal.Read.val_main_v7, Cert.ReferenceEvenInIdeal.Read.val_main_v8, Cert.ReferenceEvenInIdeal.Read.val_main_v9, Cert.ReferenceEvenInIdeal.Read.val_main_v10, Cert.ReferenceEvenInIdeal.Read.val_main_v11, Cert.ReferenceEvenInIdeal.Read.val_main_v12]
  blk_point [iblk, V, idx t]

/-- The weight's block read at a point. -/
abbrev B2 (c : Dev nD) (t : Fin cfg0.N) : S1x1024x1408.Idx → EReal := iblk m c 2 t

theorem read2 (c : Dev nD) (t : Fin cfg0.N) (i : S1x1024x1408.Idx) (j : S1024x4108.Idx) (h0 : (i 1).val = (j 0).val)
    (h1 : t.val / 8 * 1408 + (i 2).val = Even.pos (j 1).val) : B2 m c t i = (m ((c : Thread nD τ).loc main_arg2) : S1024x4108.Idx → EReal) j := by
  refine V_v10 m c _ j ?_ ?_
  · blk_simp [idx t]
    simpa using h0
  · blk_simp [idx t]
    simpa using h1

theorem read2_zero (c : Dev nD) (t : Fin cfg0.N) (i : S1x1024x1408.Idx) (h : 4108 ≤ t.val / 8 * 1408 + (i 2).val) : B2 m c t i = 0 := by
  refine V_v10_zero m c _ ?_
  blk_simp [idx t]
  simpa using h

/-- The projection at an entry of a block. -/
theorem point3 (c : Dev nD) (t : Fin cfg0.N) (y : S512x1408.Idx) (i : S4096x4224.Idx) (i0 : (i 0).val = t.val % 8 * 512 + (y 0).val)
    (i1 : (i 1).val = t.val / 8 * 1408 + (y 1).val) : k0_pay3 (F := Ideal) (iblk m c 0 t) (iblk m c 1 t) (iblk m c 2 t) y
    = Cert.ReferenceEvenInIdeal.Read.val_main_v21 (F := Ideal) (m ((c : Thread nD τ).loc main_arg0)) (m ((c : Thread nD τ).loc main_arg1)) (m ((c : Thread nD τ).loc main_arg2)) i := by
  refine (pay3 _ _ (B2 m c t) y).trans ?_
  by_cases hc : (i 1).val < 4108
  · obtain ⟨k, hk, hp⟩ := Even.at_pos hc
    refine Eq.trans ?_ (ref_at _ _ _ i ⟨k, hk⟩ hp.symm).symm
    exact Finset.sum_congr rfl fun x _ => congrArg₂ (· * ·) (norm_at m c t (ix2 (y 0) x) (ix2 (i 0) x) i0 rfl)
      (read2 m c t (ix3 0 x (y 1)) (ix2 x ⟨k, hk⟩) rfl (i1.symm.trans hp.symm))
  · refine Eq.trans ?_ (ref_zero _ _ _ i (not_lt.mp hc)).symm
    refine Finset.sum_eq_zero fun x _ => ?_
    rw [read2_zero m c t (ix3 0 x (y 1)) (by have := not_lt.mp hc; rw [i1] at this; exact this), mul_zero]

/-- The result array of window 3 after the run. -/
theorem final3 (c : Dev nD) : (dats m 0 c).arrAt 3 cfg0.N = Cert.ReferenceEvenInIdeal.Read.val_main_v21 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have i0 : ((((cfg0.win 3).blk t).view.emb y) 0).val = t.val % 8 * 512 + (y 0).val := by blk_simp [idx t]
  have i1 : ((((cfg0.win 3).blk t).view.emb y) 1).val = t.val / 8 * 1408 + (y 1).val := by blk_simp [idx t]
  blk_simp
  rw [after0_3]
  unfold out0_3
  frame_out
  exact point3 m c t y _ i0 i1

/-- The norm's output at an entry of a block. -/
theorem point4 (c : Dev nD) (t : Fin cfg0.N) (y) : out0_4 (F := Ideal) (iblk m c 0 t) (iblk m c 1 t) (iblk m c 2 t) y
    = Cert.ReferenceEvenInIdeal.Read.val_main_v26 (F := Ideal) (m ((c : Thread nD τ).loc main_arg0)) (m ((c : Thread nD τ).loc main_arg1)) (((cfg0.win 4).blk t).view.emb y) := by
  have h24 : t.val < 24 := t.isLt
  unfold out0_4
  frame_out
  open_payloads
  pointwise [Cert.ReferenceEvenInIdeal.Read.val_main_v0, Cert.ReferenceEvenInIdeal.Read.val_main_cst, Cert.ReferenceEvenInIdeal.Read.val_main_v1, Cert.ReferenceEvenInIdeal.Read.val_main_v2, Cert.ReferenceEvenInIdeal.Read.val_main_cst_0, Cert.ReferenceEvenInIdeal.Read.val_main_v3, Cert.ReferenceEvenInIdeal.Read.val_main_v4, Cert.ReferenceEvenInIdeal.Read.val_main_cst_1, Cert.ReferenceEvenInIdeal.Read.val_main_v5, Cert.ReferenceEvenInIdeal.Read.val_main_v6, Cert.ReferenceEvenInIdeal.Read.val_main_v7, Cert.ReferenceEvenInIdeal.Read.val_main_v8, Cert.ReferenceEvenInIdeal.Read.val_main_v9, Cert.ReferenceEvenInIdeal.Read.val_main_v10, Cert.ReferenceEvenInIdeal.Read.val_main_v11, Cert.ReferenceEvenInIdeal.Read.val_main_v12, Cert.ReferenceEvenInIdeal.Read.val_main_v22, Cert.ReferenceEvenInIdeal.Read.val_main_v23, Cert.ReferenceEvenInIdeal.Read.val_main_v24, Cert.ReferenceEvenInIdeal.Read.val_main_v25, Cert.ReferenceEvenInIdeal.Read.val_main_v26]
  simp only [dite_eq_ite, ite_self]
  blk_point [iblk, V, idx t]

/-- The result array of window 4 after the run. -/
theorem final4 (c : Dev nD) : (dats m 0 c).arrAt 4 cfg0.N = Cert.ReferenceEvenInIdeal.Read.val_main_v26 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  exact point4 m c t y

/-- The kernel as printed runs, leaves its arguments unchanged and ends with every counter at zero. -/
theorem frame_kernel : Cert.quiescent_KernelEvenIn := fun m ρ _ => Cert.KernelEvenIn.Gen.frame (F := Bits) m ρ

/-- The idealized kernel runs, leaves its arguments unchanged and ends with every counter at zero. -/
theorem frame_kernelIdeal : Cert.quiescent_KernelEvenInIdeal := fun m ρ _ => Cert.KernelEvenInIdeal.Gen.frame (F := Ideal) m ρ

/-- The idealized reference runs, leaves its arguments unchanged and ends with every counter at zero. -/
theorem frame_referenceIdeal : Cert.quiescent_ReferenceEvenInIdeal := fun m ρ _ =>
  (θ_run Cert.ReferenceEvenInIdeal.defs _ _).mono
    (fun r h => ⟨fun c => (h c).2.2, sem_eq_zero_of_no_sems (by decide) r.2⟩)
    (Cert.ReferenceEvenInIdeal.Value.run (F := Ideal) m ρ)

/-- The kernel's results are the reference's, over the extended reals. -/
theorem same_values : Cert.algebraic_KernelEvenInIdeal_ReferenceEvenInIdeal := by
  intro m g m' g' _ hag
  refine ⟨fun c => Cert.ReferenceEvenInIdeal.Read.val_main_v21 (F := Ideal) (m ((c : Thread nD τ).loc main_arg0)) (m ((c : Thread nD τ).loc main_arg1)) (m ((c : Thread nD τ).loc main_arg2)),
    fun c => Cert.ReferenceEvenInIdeal.Read.val_main_v26 (F := Ideal) (m ((c : Thread nD τ).loc main_arg0)) (m ((c : Thread nD τ).loc main_arg1)),
    (θ_run defs _ _).mono (fun r h c => ⟨(h c).1.trans (final3 m c), (h c).2.1.trans (final4 m c), (h c).2.2⟩) (Cert.KernelEvenInIdeal.Value.run_blocks (F := Ideal) m g), ?_⟩
  refine (θ_run Cert.ReferenceEvenInIdeal.defs _ _).mono (fun r h c => ?_) (Cert.ReferenceEvenInIdeal.Value.run (F := Ideal) m' g')
  obtain ⟨e0, e1, e2⟩ := hag c
  refine ⟨(h c).1.trans ?_, (h c).2.1.trans ?_, (h c).2.2⟩
  · rw [Cert.ReferenceEvenInIdeal.Read.val_main_v21_eq, e0, e1, e2]
  · rw [e0, e1]
    rfl

end Cert.Proof.EvenIn

end
-- ==== Proof.EvenInDw.lean ====
/-
  The gradient of an even layer's input projection's weight, in the call's order of the columns.
-/
module

public import proofs.«01_k».proof.Defs
public import proofs.«01_k».proof.Proof.Gen.KernelEvenInDw
public import proofs.«01_k».proof.Proof.Gen.KernelEvenInDw.Frame
public import proofs.«01_k».proof.Proof.Gen.KernelEvenInDwIdeal
public import proofs.«01_k».proof.Proof.Gen.KernelEvenInDwIdeal.Value
public import proofs.«01_k».proof.Proof.Gen.ReferenceEvenInDwIdeal
public import proofs.«01_k».proof.Proof.Gen.ReferenceEvenInDwIdeal.Run
public import proofs.«01_k».proof.Proof.Gen.ReferenceEvenInDwIdeal.Read
public import proofs.«01_k».proof.Proof.Even
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.EvenInDw

open Cert.KernelEvenInDwIdeal Cert.KernelEvenInDwIdeal.Gen
open Idealize.ShloMosaic Idealize.ShloMosaic.TcCoe Idealize.SL.Sem

variable (m : (ℓ : Loc nD τ sig) → Buf (Elt Ideal) ℓ)

theorem idx : ∀ t : Fin cfg0.N, win0_0.index t = ![0, 0, t.val % 2] ∧ win0_1.index t = ![0, t.val / 2] ∧ win0_2.index t = ![0, t.val % 2, t.val / 2] :=
  (by decide +kernel : ∀ t : Fin grid0.N, _)

/-- An entry of an array of 4096 rows, read at its two coordinates. -/
theorem at4096 (f : S4096x4108.Idx → EReal) (a : Fin 4096) (b : Fin 4108) (j : S4096x4108.Idx) (h0 : a.val = (j 0).val) (h1 : b.val = (j 1).val) :
    f (ix2 a b) = f j :=
  congrArg f (funext fun x => Fin.ext (match x with | ⟨0, _⟩ => h0 | ⟨1, _⟩ => h1))

/-- The first operand of the call holds the norm's output in each of its three copies. -/
theorem V_v4 (c : Dev nD) (i : S3x4096x1024.Idx) (j : S4096x1024.Idx) (h0 : (j 0).val = (i 1).val) (h1 : (j 1).val = (i 2).val) :
    (V m c main_v4 : S3x4096x1024.Idx → EReal) i = (m ((c : Thread nD τ).loc main_arg0) : S4096x1024.Idx → EReal) j := by
  have hj : j = ix2 (i 1) (i 2) := funext fun a => Fin.ext (match a with | ⟨0, _⟩ => h0 | ⟨1, _⟩ => h1)
  subst hj
  unfold V
  after_reads_simp
  pointwise
  split_ifs
  all_goals after_reads_simp
  all_goals (try pointwise)
  all_goals rfl

/-- The second operand of the call at the place of a column of the argument. -/
theorem V_v13 (c : Dev nD) (i : S4096x4224.Idx) (j : S4096x4108.Idx) (h0 : (i 0).val = (j 0).val) (h1 : (i 1).val = Even.pos (j 1).val) :
    (V m c main_v13 : S4096x4224.Idx → EReal) i = (m ((c : Thread nD τ).loc main_arg2) : S4096x4108.Idx → EReal) j := by
  have hj : (j 1).val < 4108 := (j 1).isLt
  unfold Even.pos at h1
  unfold V
  after_reads_simp
  pointwise
  split_ifs
  all_goals (try (exfalso; split_ifs at h1 <;> omega))
  all_goals after_reads_simp
  all_goals pointwise
  all_goals
    refine at4096 (m ((c : Thread nD τ).loc main_arg2)) _ _ j h0 ?_
    dsimp only
    split_ifs at h1 <;> omega

/-- The second operand of the call is zero past the columns of the argument. -/
theorem V_v13_zero (c : Dev nD) (i : S4096x4224.Idx) (h : 4108 ≤ (i 1).val) : (V m c main_v13 : S4096x4224.Idx → EReal) i = (0 : EReal) := by
  unfold V
  after_reads_simp
  pointwise
  split_ifs
  all_goals (try (exfalso; omega))
  after_reads_simp
  pointwise

/-- The reference at the place of a column. -/
theorem ref_at (x0 : FVec Ideal S4096x1024 .f32) (x2 : FVec Ideal S4096x4108 .f32) (i : S1x1024x4224.Idx) (k : Fin 4108) (h : (i 2).val = Even.pos k.val) :
    Cert.ReferenceEvenInDwIdeal.Read.val_main_v11 (F := Ideal) x0 x2 i = ∑ x : Fin 4096, (x2 (ix2 x k) * x0 (ix2 x (i 1)) : EReal) := by
  have hk : k.val < 4108 := k.isLt
  unfold Even.pos at h
  pointwise [Cert.ReferenceEvenInDwIdeal.Read.val_main_v2, Cert.ReferenceEvenInDwIdeal.Read.val_main_v3, Cert.ReferenceEvenInDwIdeal.Read.val_main_v4, Cert.ReferenceEvenInDwIdeal.Read.val_main_v5, Cert.ReferenceEvenInDwIdeal.Read.val_main_v6, Cert.ReferenceEvenInDwIdeal.Read.val_main_v7, Cert.ReferenceEvenInDwIdeal.Read.val_main_v8, Cert.ReferenceEvenInDwIdeal.Read.val_main_cst, Cert.ReferenceEvenInDwIdeal.Read.val_main_v9, Cert.ReferenceEvenInDwIdeal.Read.val_main_v10, Cert.ReferenceEvenInDwIdeal.Read.val_main_v11, Cert.ReferenceEvenInDwIdeal.Read.val_main_v1]
  split_ifs
  all_goals (try (exfalso; split_ifs at h <;> omega))
  all_goals
    refine Finset.sum_congr rfl fun x _ => congrArg (· * x0 (ix2 x (i 1))) (at4096 x2 _ _ (ix2 x k) rfl ?_)
    show _ = k.val
    dsimp only
    split_ifs at h <;> omega

/-- The reference is zero past the columns. -/
theorem ref_zero (x0 : FVec Ideal S4096x1024 .f32) (x2 : FVec Ideal S4096x4108 .f32) (i : S1x1024x4224.Idx) (h : 4108 ≤ (i 2).val) : Cert.ReferenceEvenInDwIdeal.Read.val_main_v11 (F := Ideal) x0 x2 i = (0 : EReal) := by
  pointwise [Cert.ReferenceEvenInDwIdeal.Read.val_main_v2, Cert.ReferenceEvenInDwIdeal.Read.val_main_v3, Cert.ReferenceEvenInDwIdeal.Read.val_main_v4, Cert.ReferenceEvenInDwIdeal.Read.val_main_v5, Cert.ReferenceEvenInDwIdeal.Read.val_main_v6, Cert.ReferenceEvenInDwIdeal.Read.val_main_v7, Cert.ReferenceEvenInDwIdeal.Read.val_main_v8, Cert.ReferenceEvenInDwIdeal.Read.val_main_cst, Cert.ReferenceEvenInDwIdeal.Read.val_main_v9, Cert.ReferenceEvenInDwIdeal.Read.val_main_v10, Cert.ReferenceEvenInDwIdeal.Read.val_main_v11, Cert.ReferenceEvenInDwIdeal.Read.val_main_v1]
  split_ifs
  all_goals (try (exfalso; omega))
  all_goals (try rfl)

/-- The payload at an entry. -/
theorem pay (b0 : FVec Ideal S1x4096x512 .bf16) (b1 : FVec Ideal S4096x1408 .bf16) (y) :
    k0_pay1 (F := Ideal) b0 b1 y = ∑ x : Fin 4096, (b0 (ix3 0 x (y 1)) * b1 (ix2 x (y 2)) : EReal) := by
  pointwise [k0_pay1]

/-- The blocks read at a point. -/
abbrev B0 (c : Dev nD) (t : Fin cfg0.N) : S1x4096x512.Idx → EReal := iblk m c 0 t
abbrev B1 (c : Dev nD) (t : Fin cfg0.N) : S4096x1408.Idx → EReal := iblk m c 1 t

theorem read0 (c : Dev nD) (t : Fin cfg0.N) (i : S1x4096x512.Idx) (j : S4096x1024.Idx) (h0 : (j 0).val = (i 1).val)
    (h1 : (j 1).val = t.val % 2 * 512 + (i 2).val) : B0 m c t i = (m ((c : Thread nD τ).loc main_arg0) : S4096x1024.Idx → EReal) j := by
  refine V_v4 m c _ j ?_ ?_
  · blk_simp [idx t]
    simpa using h0
  · blk_simp [idx t]
    simpa using h1

theorem read1 (c : Dev nD) (t : Fin cfg0.N) (i : S4096x1408.Idx) (j : S4096x4108.Idx) (h0 : (i 0).val = (j 0).val)
    (h1 : t.val / 2 * 1408 + (i 1).val = Even.pos (j 1).val) : B1 m c t i = (m ((c : Thread nD τ).loc main_arg2) : S4096x4108.Idx → EReal) j := by
  refine V_v13 m c _ j ?_ ?_
  · blk_simp [idx t]
    simpa using h0
  · blk_simp [idx t]
    simpa using h1

theorem read1_zero (c : Dev nD) (t : Fin cfg0.N) (i : S4096x1408.Idx) (h : 4108 ≤ t.val / 2 * 1408 + (i 1).val) : B1 m c t i = 0 := by
  refine V_v13_zero m c _ ?_
  blk_simp [idx t]
  simpa using h

/-- What the body stores at an entry of a block is the reference's value where the entry sits in the array. -/
theorem point (c : Dev nD) (t : Fin cfg0.N) (y : S1x512x1408.Idx) (i : S1x1024x4224.Idx) (i1 : (i 1).val = t.val % 2 * 512 + (y 1).val)
    (i2 : (i 2).val = t.val / 2 * 1408 + (y 2).val) : k0_pay1 (iblk m c 0 t) (iblk m c 1 t) y
    = Cert.ReferenceEvenInDwIdeal.Read.val_main_v11 (F := Ideal) (m ((c : Thread nD τ).loc main_arg0)) (m ((c : Thread nD τ).loc main_arg2)) i := by
  refine (pay (B0 m c t) (B1 m c t) y).trans ?_
  by_cases hc : (i 2).val < 4108
  · obtain ⟨k, hk, hp⟩ := Even.at_pos hc
    refine Eq.trans ?_ (ref_at _ _ i ⟨k, hk⟩ hp.symm).symm
    refine Finset.sum_congr rfl fun x _ => (mul_comm _ _).trans (congrArg₂ (· * ·) ?_ ?_)
    · exact read1 m c t (ix2 x (y 2)) (ix2 x ⟨k, hk⟩) rfl (i2.symm.trans hp.symm)
    · exact read0 m c t (ix3 0 x (y 1)) (ix2 x (i 1)) rfl i1
  · refine Eq.trans ?_ (ref_zero _ _ i (not_lt.mp hc)).symm
    refine Finset.sum_eq_zero fun x _ => ?_
    rw [read1_zero m c t (ix2 x (y 2)) (by have := not_lt.mp hc; rw [i2] at this; exact this), mul_zero]

/-- The result array after the run. -/
theorem final (c : Dev nD) : (dats m 0 c).arrAt 2 cfg0.N
    = Cert.ReferenceEvenInDwIdeal.Read.val_main_v11 (F := Ideal) (m ((c : Thread nD τ).loc main_arg0)) (m ((c : Thread nD τ).loc main_arg2)) := by
  refine (dats m 0 c).arrAt_eq_of_covers 2 _ (by decide +kernel) fun t _ y => ?_
  have i1 : ((((cfg0.win 2).blk t).view.emb y) 1).val = t.val % 2 * 512 + (y 1).val := by blk_simp [idx t]
  have i2 : ((((cfg0.win 2).blk t).view.emb y) 2).val = t.val / 2 * 1408 + (y 2).val := by blk_simp [idx t]
  blk_simp
  rw [after0_2]
  simp only [outsAt0]
  frame_out
  exact point m c t y _ i1 i2

/-- The kernel as printed runs, leaves its arguments unchanged and ends with every counter at zero. -/
theorem frame_kernel : Cert.quiescent_KernelEvenInDw := fun m ρ _ => Cert.KernelEvenInDw.Gen.frame (F := Bits) m ρ

/-- The idealized kernel runs, leaves its arguments unchanged and ends with every counter at zero. -/
theorem frame_kernelIdeal : Cert.quiescent_KernelEvenInDwIdeal := fun m ρ _ => Cert.KernelEvenInDwIdeal.Gen.frame (F := Ideal) m ρ

/-- The idealized reference runs, leaves its arguments unchanged and ends with every counter at zero. -/
theorem frame_referenceIdeal : Cert.quiescent_ReferenceEvenInDwIdeal := fun m ρ _ =>
  (θ_run Cert.ReferenceEvenInDwIdeal.defs _ _).mono
    (fun r h => ⟨fun c => (h c).2, sem_eq_zero_of_no_sems (by decide) r.2⟩)
    (Cert.ReferenceEvenInDwIdeal.Value.run (F := Ideal) m ρ)

/-- The kernel's result is the reference's, over the extended reals. -/
theorem same_values : Cert.algebraic_KernelEvenInDwIdeal_ReferenceEvenInDwIdeal := by
  intro m g m' g' _ hag
  refine ⟨fun c => Cert.ReferenceEvenInDwIdeal.Read.val_main_v11 (F := Ideal) (m ((c : Thread nD τ).loc main_arg0)) (m ((c : Thread nD τ).loc main_arg2)), (θ_run defs _ _).mono (fun r h c => ⟨(h c).1.trans (final m c), (h c).2⟩) (Cert.KernelEvenInDwIdeal.Value.run_blocks (F := Ideal) m g), ?_⟩
  refine (θ_run Cert.ReferenceEvenInDwIdeal.defs _ _).mono (fun r h c => ?_) (Cert.ReferenceEvenInDwIdeal.Value.run (F := Ideal) m' g')
  obtain ⟨e0, e1, e2, e3⟩ := hag c
  refine ⟨(h c).1.trans ?_, (h c).2⟩
  rw [e0, e2]
  rfl

end Cert.Proof.EvenInDw

end
-- ==== Proof.EvenInBwd.lean ====
/-
  The gradient of an even layer's input projection and of the norm before it, in the norm's two arguments.
-/
module

public import proofs.«01_k».proof.Defs
public import proofs.«01_k».proof.Proof.Gen.KernelEvenInBwd
public import proofs.«01_k».proof.Proof.Gen.KernelEvenInBwd.Frame
public import proofs.«01_k».proof.Proof.Gen.KernelEvenInBwdIdeal
public import proofs.«01_k».proof.Proof.Gen.KernelEvenInBwdIdeal.Value
public import proofs.«01_k».proof.Proof.Gen.ReferenceEvenInBwdIdeal
public import proofs.«01_k».proof.Proof.Gen.ReferenceEvenInBwdIdeal.Run
public import proofs.«01_k».proof.Proof.Gen.ReferenceEvenInBwdIdeal.Read
public import proofs.«01_k».proof.Proof.Even
public import proofs.«01_k».proof.Proof.Norm
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.EvenInBwd

open Cert.KernelEvenInBwdIdeal Cert.KernelEvenInBwdIdeal.Gen
open Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![0, 0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] :=
  (by decide +kernel : ∀ t : Fin grid0.N, _)

theorem pay6 (b0 : FVec Ideal S512x4224 .bf16) (b1 : FVec Ideal S1x1024x4224 .bf16) (b2 b3 : FVec Ideal S512x1024 .f32) (b4 : FVec Ideal S1x1024 .f32) (y) :
    k0_pay6 (F := Ideal) b0 b1 b2 b4 b3 y
    = (b3 y : EReal) + kdx (fun x => b2 (ix2 (y 0) x)) (fun x => (∑ k, b0 (ix2 (y 0) k) * b1 (ix3 0 x k)) * b4 (ix2 0 x)) (b2 y)
      ((∑ k, b0 (ix2 (y 0) k) * b1 (ix3 0 (y 1) k)) * b4 (ix2 0 (y 1))) := by
  pointwise [k0_pay3, k0_pay4, k0_pay5, k0_pay6]

theorem pay2 (b0 : FVec Ideal S512x4224 .bf16) (b1 : FVec Ideal S1x1024x4224 .bf16) (b2 b3 : FVec Ideal S512x1024 .f32) (b4 : FVec Ideal S1x1024 .f32) (acc) (y) :
    k0_pay2 (F := Ideal) (k0_pay3 b0 b1) (k0_pay5 b2) acc y
    = (acc y : EReal) + ∑ x : Fin 512, (∑ k, b0 (ix2 x k) * b1 (ix3 0 (y 1) k)) * (b2 (ix2 x (y 1)) * rs (fun k => b2 (ix2 x k))) := by
  pointwise [k0_pay2, k0_pay3, k0_pay4, k0_pay5]

theorem pay1 (y) : k0_pay1 (F := Ideal) y = 0 := by
  pointwise [k0_pay1]

theorem ref38 (x0 : FVec Ideal S4096x1024 .f32) (x1 : FVec Ideal S1024 .f32) (x2 : FVec Ideal S1024x4108 .f32) (x3 : FVec Ideal S4096x4108 .f32) (x4 : FVec Ideal S4096x1024 .f32) (y) :
    Cert.ReferenceEvenInBwdIdeal.Read.val_main_v38 (F := Ideal) x0 x1 x2 x3 x4 y
    = (x4 y : EReal) + rdx (fun x => x0 (ix2 (y 0) x)) (fun x => (∑ k : Fin 4108, x3 (ix2 (y 0) k) * x2 (ix2 x k)) * x1 (ix1 x)) (x0 y)
      ((∑ k : Fin 4108, x3 (ix2 (y 0) k) * x2 (ix2 (y 1) k)) * x1 (ix1 (y 1))) := by
  pointwise [Cert.ReferenceEvenInBwdIdeal.Read.val_main_v0, Cert.ReferenceEvenInBwdIdeal.Read.val_main_cst, Cert.ReferenceEvenInBwdIdeal.Read.val_main_v1, Cert.ReferenceEvenInBwdIdeal.Read.val_main_v2, Cert.ReferenceEvenInBwdIdeal.Read.val_main_cst_0, Cert.ReferenceEvenInBwdIdeal.Read.val_main_v3, Cert.ReferenceEvenInBwdIdeal.Read.val_main_v4, Cert.ReferenceEvenInBwdIdeal.Read.val_main_cst_1, Cert.ReferenceEvenInBwdIdeal.Read.val_main_v5, Cert.ReferenceEvenInBwdIdeal.Read.val_main_v6, Cert.ReferenceEvenInBwdIdeal.Read.val_main_v7, Cert.ReferenceEvenInBwdIdeal.Read.val_main_v8, Cert.ReferenceEvenInBwdIdeal.Read.val_main_cst_2, Cert.ReferenceEvenInBwdIdeal.Read.val_main_v9, Cert.ReferenceEvenInBwdIdeal.Read.val_main_v10, Cert.ReferenceEvenInBwdIdeal.Read.val_main_v11, Cert.ReferenceEvenInBwdIdeal.Read.val_main_v12, Cert.ReferenceEvenInBwdIdeal.Read.val_main_v13, Cert.ReferenceEvenInBwdIdeal.Read.val_main_v14, Cert.ReferenceEvenInBwdIdeal.Read.val_main_v15, Cert.ReferenceEvenInBwdIdeal.Read.val_main_v16, Cert.ReferenceEvenInBwdIdeal.Read.val_main_v17, Cert.ReferenceEvenInBwdIdeal.Read.val_main_v18, Cert.ReferenceEvenInBwdIdeal.Read.val_main_cst_3, Cert.ReferenceEvenInBwdIdeal.Read.val_main_v19, Cert.ReferenceEvenInBwdIdeal.Read.val_main_v20, Cert.ReferenceEvenInBwdIdeal.Read.val_main_v21, Cert.ReferenceEvenInBwdIdeal.Read.val_main_v22, Cert.ReferenceEvenInBwdIdeal.Read.val_main_cst_4, Cert.ReferenceEvenInBwdIdeal.Read.val_main_v23, Cert.ReferenceEvenInBwdIdeal.Read.val_main_v24, Cert.ReferenceEvenInBwdIdeal.Read.val_main_cst_5, Cert.ReferenceEvenInBwdIdeal.Read.val_main_v25, Cert.ReferenceEvenInBwdIdeal.Read.val_main_v26, Cert.ReferenceEvenInBwdIdeal.Read.val_main_v27, Cert.ReferenceEvenInBwdIdeal.Read.val_main_v28, Cert.ReferenceEvenInBwdIdeal.Read.val_main_v29, Cert.ReferenceEvenInBwdIdeal.Read.val_main_cst_6, Cert.ReferenceEvenInBwdIdeal.Read.val_main_v30, Cert.ReferenceEvenInBwdIdeal.Read.val_main_v31, Cert.ReferenceEvenInBwdIdeal.Read.val_main_cst_7, Cert.ReferenceEvenInBwdIdeal.Read.val_main_v32, Cert.ReferenceEvenInBwdIdeal.Read.val_main_v33, Cert.ReferenceEvenInBwdIdeal.Read.val_main_v34, Cert.ReferenceEvenInBwdIdeal.Read.val_main_v35, Cert.ReferenceEvenInBwdIdeal.Read.val_main_v36, Cert.ReferenceEvenInBwdIdeal.Read.val_main_v37, Cert.ReferenceEvenInBwdIdeal.Read.val_main_v38, Cert.ReferenceEvenInBwdIdeal.Read.val_main_v39, Cert.ReferenceEvenInBwdIdeal.Read.val_main_v40]
  simp only [Fin.sum_univ_one, Finset.sum_const, Finset.card_univ, Fintype.card_fin, one_smul]

theorem ref40 (x0 : FVec Ideal S4096x1024 .f32) (x1 : FVec Ideal S1024 .f32) (x2 : FVec Ideal S1024x4108 .f32) (x3 : FVec Ideal S4096x4108 .f32) (x4 : FVec Ideal S4096x1024 .f32) (y) :
    Cert.ReferenceEvenInBwdIdeal.Read.val_main_v40 (F := Ideal) x0 x2 x3 y
    = ∑ x : Fin 4096, ((x0 (ix2 x (y 1)) * rs (fun k => x0 (ix2 x k))) * ∑ k : Fin 4108, x3 (ix2 x k) * x2 (ix2 (y 1) k) : EReal) := by
  pointwise [Cert.ReferenceEvenInBwdIdeal.Read.val_main_v0, Cert.ReferenceEvenInBwdIdeal.Read.val_main_cst, Cert.ReferenceEvenInBwdIdeal.Read.val_main_v1, Cert.ReferenceEvenInBwdIdeal.Read.val_main_v2, Cert.ReferenceEvenInBwdIdeal.Read.val_main_cst_0, Cert.ReferenceEvenInBwdIdeal.Read.val_main_v3, Cert.ReferenceEvenInBwdIdeal.Read.val_main_v4, Cert.ReferenceEvenInBwdIdeal.Read.val_main_cst_1, Cert.ReferenceEvenInBwdIdeal.Read.val_main_v5, Cert.ReferenceEvenInBwdIdeal.Read.val_main_v6, Cert.ReferenceEvenInBwdIdeal.Read.val_main_v7, Cert.ReferenceEvenInBwdIdeal.Read.val_main_v8, Cert.ReferenceEvenInBwdIdeal.Read.val_main_cst_2, Cert.ReferenceEvenInBwdIdeal.Read.val_main_v9, Cert.ReferenceEvenInBwdIdeal.Read.val_main_v10, Cert.ReferenceEvenInBwdIdeal.Read.val_main_v11, Cert.ReferenceEvenInBwdIdeal.Read.val_main_v12, Cert.ReferenceEvenInBwdIdeal.Read.val_main_v13, Cert.ReferenceEvenInBwdIdeal.Read.val_main_v14, Cert.ReferenceEvenInBwdIdeal.Read.val_main_v15, Cert.ReferenceEvenInBwdIdeal.Read.val_main_v16, Cert.ReferenceEvenInBwdIdeal.Read.val_main_v17, Cert.ReferenceEvenInBwdIdeal.Read.val_main_v18, Cert.ReferenceEvenInBwdIdeal.Read.val_main_cst_3, Cert.ReferenceEvenInBwdIdeal.Read.val_main_v19, Cert.ReferenceEvenInBwdIdeal.Read.val_main_v20, Cert.ReferenceEvenInBwdIdeal.Read.val_main_v21, Cert.ReferenceEvenInBwdIdeal.Read.val_main_v22, Cert.ReferenceEvenInBwdIdeal.Read.val_main_cst_4, Cert.ReferenceEvenInBwdIdeal.Read.val_main_v23, Cert.ReferenceEvenInBwdIdeal.Read.val_main_v24, Cert.ReferenceEvenInBwdIdeal.Read.val_main_cst_5, Cert.ReferenceEvenInBwdIdeal.Read.val_main_v25, Cert.ReferenceEvenInBwdIdeal.Read.val_main_v26, Cert.ReferenceEvenInBwdIdeal.Read.val_main_v27, Cert.ReferenceEvenInBwdIdeal.Read.val_main_v28, Cert.ReferenceEvenInBwdIdeal.Read.val_main_v29, Cert.ReferenceEvenInBwdIdeal.Read.val_main_cst_6, Cert.ReferenceEvenInBwdIdeal.Read.val_main_v30, Cert.ReferenceEvenInBwdIdeal.Read.val_main_v31, Cert.ReferenceEvenInBwdIdeal.Read.val_main_cst_7, Cert.ReferenceEvenInBwdIdeal.Read.val_main_v32, Cert.ReferenceEvenInBwdIdeal.Read.val_main_v33, Cert.ReferenceEvenInBwdIdeal.Read.val_main_v34, Cert.ReferenceEvenInBwdIdeal.Read.val_main_v35, Cert.ReferenceEvenInBwdIdeal.Read.val_main_v36, Cert.ReferenceEvenInBwdIdeal.Read.val_main_v37, Cert.ReferenceEvenInBwdIdeal.Read.val_main_v38, Cert.ReferenceEvenInBwdIdeal.Read.val_main_v39, Cert.ReferenceEvenInBwdIdeal.Read.val_main_v40]
  simp only [Fin.sum_univ_one, Finset.sum_const, Finset.card_univ, Fintype.card_fin, one_smul]

/-- An entry of an array of 4096 rows, read at its two coordinates. -/
theorem at4096 (f : S4096x4108.Idx → EReal) (a : Fin 4096) (b : Fin 4108) (j : S4096x4108.Idx) (h0 : a.val = (j 0).val) (h1 : b.val = (j 1).val) :
    f (ix2 a b) = f j :=
  congrArg f (funext fun x => Fin.ext (match x with | ⟨0, _⟩ => h0 | ⟨1, _⟩ => h1))

/-- An entry of an array of 1024 rows, read at its two coordinates. -/
theorem at1024 (f : S1024x4108.Idx → EReal) (a : Fin 1024) (b : Fin 4108) (j : S1024x4108.Idx) (h0 : a.val = (j 0).val) (h1 : b.val = (j 1).val) :
    f (ix2 a b) = f j :=
  congrArg f (funext fun x => Fin.ext (match x with | ⟨0, _⟩ => h0 | ⟨1, _⟩ => h1))

/-- The call's first operand at the place of a column of the argument. -/
theorem V_v8 (c : Dev nD) (i : S4096x4224.Idx) (j : S4096x4108.Idx) (h0 : (i 0).val = (j 0).val) (h1 : (i 1).val = Even.pos (j 1).val) :
    (V m c main_v8 : S4096x4224.Idx → EReal) i = (m ((c : Thread nD τ).loc main_arg3) : S4096x4108.Idx → EReal) j := by
  have hj : (j 1).val < 4108 := (j 1).isLt
  unfold Even.pos at h1
  unfold V
  after_reads_simp
  pointwise
  split_ifs
  all_goals (try (exfalso; split_ifs at h1 <;> omega))
  all_goals after_reads_simp
  all_goals pointwise
  all_goals
    refine at4096 (m ((c : Thread nD τ).loc main_arg3)) _ _ j h0 ?_
    dsimp only
    split_ifs at h1 <;> omega

/-- The call's first operand is zero past the columns of the argument. -/
theorem V_v8_zero (c : Dev nD) (i : S4096x4224.Idx) (h : 4108 ≤ (i 1).val) : (V m c main_v8 : S4096x4224.Idx → EReal) i = (0 : EReal) := by
  unfold V
  after_reads_simp
  pointwise
  split_ifs
  all_goals (try (exfalso; omega))
  after_reads_simp
  pointwise

/-- The call's second operand at the place of a column of the argument. -/
theorem V_v18 (c : Dev nD) (i : S1x1024x4224.Idx) (j : S1024x4108.Idx) (h0 : (i 1).val = (j 0).val) (h1 : (i 2).val = Even.pos (j 1).val) :
    (V m c main_v18 : S1x1024x4224.Idx → EReal) i = (m ((c : Thread nD τ).loc main_arg2) : S1024x4108.Idx → EReal) j := by
  have hj : (j 1).val < 4108 := (j 1).isLt
  unfold Even.pos at h1
  unfold V
  after_reads_simp
  pointwise
  split_ifs
  all_goals (try (exfalso; split_ifs at h1 <;> omega))
  all_goals after_reads_simp
  all_goals pointwise
  all_goals
    refine at1024 (m ((c : Thread nD τ).loc main_arg2)) _ _ j h0 ?_
    dsimp only
    split_ifs at h1 <;> omega

/-- The blocks read at a point and the five arguments, as arrays of extended reals. -/
abbrev B0 (c : Dev nD) (t : Fin cfg0.N) : S512x4224.Idx → EReal := iblk m c 0 t
abbrev B1 (c : Dev nD) (t : Fin cfg0.N) : S1x1024x4224.Idx → EReal := iblk m c 1 t
abbrev B2 (c : Dev nD) (t : Fin cfg0.N) : S512x1024.Idx → EReal := iblk m c 2 t
abbrev B3 (c : Dev nD) (t : Fin cfg0.N) : S512x1024.Idx → EReal := iblk m c 3 t
abbrev B4 (c : Dev nD) (t : Fin cfg0.N) : S1x1024.Idx → EReal := iblk m c 4 t
abbrev A0 (c : Dev nD) : S4096x1024.Idx → EReal := m ((c : Thread nD τ).loc main_arg0)
abbrev A1 (c : Dev nD) : S1024.Idx → EReal := m ((c : Thread nD τ).loc main_arg1)
abbrev A2 (c : Dev nD) : S1024x4108.Idx → EReal := m ((c : Thread nD τ).loc main_arg2)
abbrev A3 (c : Dev nD) : S4096x4108.Idx → EReal := m ((c : Thread nD τ).loc main_arg3)
abbrev A4 (c : Dev nD) : S4096x1024.Idx → EReal := m ((c : Thread nD τ).loc main_arg4)

theorem read0 (c : Dev nD) (t : Fin cfg0.N) (i : S512x4224.Idx) (j : S4096x4108.Idx) (h0 : (j 0).val = t.val * 512 + (i 0).val)
    (h1 : (i 1).val = Even.pos (j 1).val) : B0 m c t i = A3 m c j := by
  refine V_v8 m c _ j ?_ ?_
  · blk_simp [idx t]
    omega
  · blk_simp [idx t]
    simpa using h1

theorem read0_zero (c : Dev nD) (t : Fin cfg0.N) (i : S512x4224.Idx) (h : 4108 ≤ (i 1).val) : B0 m c t i = 0 := by
  refine V_v8_zero m c _ ?_
  blk_simp [idx t]
  simpa using h

theorem read1 (c : Dev nD) (t : Fin cfg0.N) (i : S1x1024x4224.Idx) (j : S1024x4108.Idx) (h0 : (j 0).val = (i 1).val)
    (h1 : (i 2).val = Even.pos (j 1).val) : B1 m c t i = A2 m c j := by
  refine V_v18 m c _ j ?_ ?_
  · blk_simp [idx t]
    simpa using h0.symm
  · blk_simp [idx t]
    simpa using h1

theorem read2 (c : Dev nD) (t : Fin cfg0.N) (i : S512x1024.Idx) (j : S4096x1024.Idx) (h0 : (j 0).val = t.val * 512 + (i 0).val)
    (h1 : (j 1).val = (i 1).val) : B2 m c t i = A0 m c j := by
  blk_point [iblk, V, idx t]

theorem read3 (c : Dev nD) (t : Fin cfg0.N) (i : S512x1024.Idx) (j : S4096x1024.Idx) (h0 : (j 0).val = t.val * 512 + (i 0).val)
    (h1 : (j 1).val = (i 1).val) : B3 m c t i = A4 m c j := by
  blk_point [iblk, V, idx t]

theorem read4 (c : Dev nD) (t : Fin cfg0.N) (i : S1x1024.Idx) (j : S1024.Idx) (h0 : (j 0).val = (i 1).val) : B4 m c t i = A1 m c j := by
  blk_point [iblk, V, idx t]

/-- A row of the block times a row of the weight is the row of the array times the same row: the columns in another order,
    and zeros. -/
theorem dn_eq (c : Dev nD) (t : Fin cfg0.N) (s : Fin 512) (d : Fin 1024) (r : Fin 4096) (d' : Fin 1024) (hr : r.val = t.val * 512 + s.val) (hd : d'.val = d.val) :
    ∑ k, B0 m c t (ix2 s k) * B1 m c t (ix3 0 d k) = ∑ k : Fin 4108, A3 m c (ix2 r k) * A2 m c (ix2 d' k) :=
  Even.sum_pos _ _
    (fun k h => (congrArg (· * B1 m c t (ix3 0 d k)) (read0_zero m c t (ix2 s k) h)).trans (zero_mul _))
    fun k k' h => congrArg₂ (· * ·) (read0 m c t (ix2 s k') (ix2 r k) hr h) (read1 m c t (ix3 0 d k') (ix2 d' k) hd h)

/-- What the body stores at an entry of a block of the gradient is the reference's value where the entry sits in the array. -/
theorem point (c : Dev nD) (t : Fin cfg0.N) (y : S512x1024.Idx) (j : S4096x1024.Idx) (j0 : (j 0).val = t.val * 512 + (y 0).val) (j1 : (j 1).val = (y 1).val) :
    k0_pay6 (F := Ideal) (iblk m c 0 t) (iblk m c 1 t) (iblk m c 2 t) (iblk m c 4 t) (iblk m c 3 t) y
    = Cert.ReferenceEvenInBwdIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) j := by
  refine (pay6 (B0 m c t) (B1 m c t) (B2 m c t) (B3 m c t) (B4 m c t) y).trans ?_
  refine Eq.trans ?_ (ref38 (A0 m c) (A1 m c) (A2 m c) (A3 m c) (A4 m c) j).symm
  have ed : ∀ d d' : Fin 1024, d'.val = d.val → (∑ k, B0 m c t (ix2 (y 0) k) * B1 m c t (ix3 0 d k)) * B4 m c t (ix2 0 d)
      = (∑ k : Fin 4108, A3 m c (ix2 (j 0) k) * A2 m c (ix2 d' k)) * A1 m c (ix1 d') := fun d d' h =>
    congrArg₂ (· * ·) (dn_eq m c t (y 0) d (j 0) d' j0 h) (read4 m c t (ix2 0 d) (ix1 d') h)
  exact dx_eq (read3 m c t y j j0 j1) (read2 m c t y j j0 j1) (ed (y 1) (j 1) j1) (fun x => read2 m c t (ix2 (y 0) x) (ix2 (j 0) x) j0 rfl)
    (fun x => ed x x rfl)

/-- The first result array after the run. -/
theorem final5 (c : Dev nD) : (dats m 0 c).arrAt 5 cfg0.N
    = Cert.ReferenceEvenInBwdIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  have j0 : ((((cfg0.win 5).blk t).view.emb y) 0).val = t.val * 512 + (y 0).val := by blk_simp [idx t]
  have j1 : ((((cfg0.win 5).blk t).view.emb y) 1).val = (y 1).val := by blk_simp [idx t]
  blk_simp
  rw [after0_5]
  by_cases h : t.val % 8 = 0
  · rw [outsAt0_A m c t h]
    frame_out
    exact point m c t y _ j0 j1
  · rw [outsAt0_B m c t h]
    frame_out
    exact point m c t y _ j0 j1

/-- The second result array after the run holds the same values. -/
theorem final6 (c : Dev nD) : (dats m 0 c).arrAt 6 cfg0.N
    = Cert.ReferenceEvenInBwdIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  have j0 : ((((cfg0.win 6).blk t).view.emb y) 0).val = t.val * 512 + (y 0).val := by blk_simp [idx t]
  have j1 : ((((cfg0.win 6).blk t).view.emb y) 1).val = (y 1).val := by blk_simp [idx t]
  blk_simp
  rw [after0_6]
  by_cases h : t.val % 8 = 0
  · rw [outsAt0_A m c t h]
    frame_out
    exact point m c t y _ j0 j1
  · rw [outsAt0_B m c t h]
    frame_out
    exact point m c t y _ j0 j1

/-- What a point adds to the gradient of the norm's scale. -/
abbrev part (c : Dev nD) (t : Fin cfg0.N) (d : Fin 1024) : EReal :=
  ∑ x : Fin 512, (∑ k, B0 m c t (ix2 x k) * B1 m c t (ix3 0 d k)) * (B2 m c t (ix2 x d) * rs (fun k => B2 m c t (ix2 x k)))

theorem mul_swap {a a' b b' : EReal} (ha : a = a') (hb : b = b') : a * b = b' * a' := by rw [ha, hb, mul_comm]

/-- The third result array after the run: the parts of the points added up. -/
theorem final7 (c : Dev nD) : (dats m 0 c).arrAt 7 cfg0.N = Cert.ReferenceEvenInBwdIdeal.Read.val_main_v40 (F := Ideal) (m ((c : Thread nD τ).loc main_arg0)) (m ((c : Thread nD τ).loc main_arg2)) (m ((c : Thread nD τ).loc main_arg3)) := by
  refine (dats m 0 c).arrAt_eq_of_after_last 7 t0_7 (by decide +kernel) _ fun j => ?_
  blk_simp
  rw [after0_7]
  rw [Pipeline.eq_sum_fin_of_reset_step_apply_last (fun n h => (outsAt0 m c n h).2.2) 8 (fun _ => 0) (fun t j => part m c t (j 1))
    (fun t h j => by rw [outsAt0_A m c t h]; frame_out; exact (pay2 (B0 m c t) (B1 m c t) (B2 m c t) (B3 m c t) (B4 m c t) _ j).trans (by rw [pay1]))
    (fun t h j => by rw [outsAt0_B m c t h]; frame_out; exact (pay2 (B0 m c t) (B1 m c t) (B2 m c t) (B3 m c t) (B4 m c t) _ j))
    (le_of_eq N_0) t0_7 rfl j, zero_add]
  refine (Fin.sum_mul_add_congr fun t x hl => ?_).trans (ref40 (A0 m c) (A1 m c) (A2 m c) (A3 m c) (A4 m c) j).symm
  have e2 : ∀ k, B2 m c t (ix2 x k) = A0 m c (ix2 ⟨t.val * 512 + x.val, hl⟩ k) := fun k => read2 m c t _ _ rfl rfl
  exact mul_swap (dn_eq m c t x (j 1) _ (j 1) rfl rfl) (congrArg₂ (· * ·) (e2 (j 1)) (congrArg rs (funext e2)))

/-- The kernel as printed runs, leaves its arguments unchanged and ends with every counter at zero. -/
theorem frame_kernel : Cert.quiescent_KernelEvenInBwd := fun m ρ _ => Cert.KernelEvenInBwd.Gen.frame (F := Bits) m ρ

/-- The idealized kernel runs, leaves its arguments unchanged and ends with every counter at zero. -/
theorem frame_kernelIdeal : Cert.quiescent_KernelEvenInBwdIdeal := fun m ρ _ => Cert.KernelEvenInBwdIdeal.Gen.frame (F := Ideal) m ρ

/-- The idealized reference runs, leaves its arguments unchanged and ends with every counter at zero. -/
theorem frame_referenceIdeal : Cert.quiescent_ReferenceEvenInBwdIdeal := fun m ρ _ =>
  (θ_run Cert.ReferenceEvenInBwdIdeal.defs _ _).mono
    (fun r h => ⟨fun c => (h c).2.2.2, sem_eq_zero_of_no_sems (by decide) r.2⟩)
    (Cert.ReferenceEvenInBwdIdeal.Value.run (F := Ideal) m ρ)

/-- The kernel's results are the reference's, over the extended reals. -/
theorem same_values : Cert.algebraic_KernelEvenInBwdIdeal_ReferenceEvenInBwdIdeal := by
  intro m g m' g' _ hag
  refine ⟨fun c => Cert.ReferenceEvenInBwdIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.ReferenceEvenInBwdIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.ReferenceEvenInBwdIdeal.Read.val_main_v40 (F := Ideal) (m ((c : Thread nD τ).loc main_arg0)) (m ((c : Thread nD τ).loc main_arg2)) (m ((c : Thread nD τ).loc main_arg3)),
    (θ_run defs _ _).mono (fun r h c => ⟨(h c).1.trans (final5 m c), (h c).2.1.trans (final6 m c), (h c).2.2.1.trans (final7 m c), (h c).2.2.2⟩) (Cert.KernelEvenInBwdIdeal.Value.run_blocks (F := Ideal) m g), ?_⟩
  refine (θ_run Cert.ReferenceEvenInBwdIdeal.defs _ _).mono (fun r h c => ?_) (Cert.ReferenceEvenInBwdIdeal.Value.run (F := Ideal) m' g')
  obtain ⟨e0, e1, e2, e3, e4⟩ := hag c
  refine ⟨(h c).1.trans ?_, (h c).2.1.trans ?_, (h c).2.2.1.trans ?_, (h c).2.2.2⟩
  · rw [Cert.ReferenceEvenInBwdIdeal.Read.val_main_v38_eq, e0, e1, e2, e3, e4]
  · rw [Cert.ReferenceEvenInBwdIdeal.Read.val_main_v39_eq, e0, e1, e2, e3, e4]
    rfl
  · rw [e0, e2, e3]
    rfl

end Cert.Proof.EvenInBwd

end
-- ==== Proof.AdamGu.lean ====
/-
  One step of the optimiser for the up product's weights: the change of the weights and the two moments, with the gradient
  handed on.
-/
module

public import proofs.«01_k».proof.Defs
public import proofs.«01_k».proof.Proof.Gen.KernelAdamGu
public import proofs.«01_k».proof.Proof.Gen.KernelAdamGu.Frame
public import proofs.«01_k».proof.Proof.Gen.KernelAdamGuIdeal
public import proofs.«01_k».proof.Proof.Gen.KernelAdamGuIdeal.Value
public import proofs.«01_k».proof.Proof.Gen.ReferenceAdamGuIdeal
public import proofs.«01_k».proof.Proof.Gen.ReferenceAdamGuIdeal.Run
public import proofs.«01_k».proof.Proof.Gen.ReferenceAdamGuIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.AdamGu

open Cert.KernelAdamGuIdeal Cert.KernelAdamGuIdeal.Gen
open Idealize.ShloMosaic Idealize.ShloMosaic.TcCoe Idealize.SL.Sem

variable (m : (ℓ : Loc nD τ sig) → Buf (Elt Ideal) ℓ)

theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The gradient at an entry of a block. -/
theorem point4 (c : Dev nD) (t : Fin cfg0.N) (y) : k0_pay7 (iblk m c 1 t) y
    = ((m ((c : Thread nD τ).loc main_arg1)) : FVec Ideal S1x1024x1408 .f32) (((cfg0.win 4).blk t).view.emb y) := by
  pointwise [k0_pay7, k0_pay4]
  blk_point [iblk, V, idx t]

/-- The array of the gradient after the run. -/
theorem final4 (c : Dev nD) : (dats m 0 c).arrAt 4 cfg0.N = (m ((c : Thread nD τ).loc main_arg1)) := by
  refine (dats m 0 c).arrAt_eq_of_covers 4 _ (by decide +kernel) fun t _ y => ?_
  blk_simp
  rw [after0_4]
  simp only [outsAt0]
  frame_out
  exact point4 m c t y

/-- The change of the weights at an entry of a block. -/
theorem point5 (c : Dev nD) (t : Fin cfg0.N) (y) : k0_pay1 (k0_pay8 (iblk m c 1 t) (iblk m c 2 t) (iblk m c 3 t) (iblk m c 0 t)) k0_pay9 y
    = (Cert.ReferenceAdamGuIdeal.Read.val_main_v23 (F := Ideal) (m ((c : Thread nD τ).loc main_arg0)) (m ((c : Thread nD τ).loc main_arg1)) (m ((c : Thread nD τ).loc main_arg2)) (m ((c : Thread nD τ).loc main_arg3)) : FVec Ideal S1x1024x1408 .f32) (((cfg0.win 5).blk t).view.emb y) := by
  pointwise [k0_pay1, k0_pay8, k0_pay9, k0_pay5, k0_pay6, k0_pay4, Cert.ReferenceAdamGuIdeal.Read.val_main_cst, Cert.ReferenceAdamGuIdeal.Read.val_main_v0, Cert.ReferenceAdamGuIdeal.Read.val_main_v1, Cert.ReferenceAdamGuIdeal.Read.val_main_cst_0, Cert.ReferenceAdamGuIdeal.Read.val_main_v2, Cert.ReferenceAdamGuIdeal.Read.val_main_v3, Cert.ReferenceAdamGuIdeal.Read.val_main_v4, Cert.ReferenceAdamGuIdeal.Read.val_main_cst_1, Cert.ReferenceAdamGuIdeal.Read.val_main_v5, Cert.ReferenceAdamGuIdeal.Read.val_main_v6, Cert.ReferenceAdamGuIdeal.Read.val_main_v7, Cert.ReferenceAdamGuIdeal.Read.val_main_cst_2, Cert.ReferenceAdamGuIdeal.Read.val_main_v8, Cert.ReferenceAdamGuIdeal.Read.val_main_v9, Cert.ReferenceAdamGuIdeal.Read.val_main_v10, Cert.ReferenceAdamGuIdeal.Read.val_main_cst_3, Cert.ReferenceAdamGuIdeal.Read.val_main_v11, Cert.ReferenceAdamGuIdeal.Read.val_main_v12, Cert.ReferenceAdamGuIdeal.Read.val_main_cst_4, Cert.ReferenceAdamGuIdeal.Read.val_main_v13, Cert.ReferenceAdamGuIdeal.Read.val_main_v14, Cert.ReferenceAdamGuIdeal.Read.val_main_v15, Cert.ReferenceAdamGuIdeal.Read.val_main_cst_5, Cert.ReferenceAdamGuIdeal.Read.val_main_v16, Cert.ReferenceAdamGuIdeal.Read.val_main_v17, Cert.ReferenceAdamGuIdeal.Read.val_main_v18, Cert.ReferenceAdamGuIdeal.Read.val_main_cst_6, Cert.ReferenceAdamGuIdeal.Read.val_main_v19, Cert.ReferenceAdamGuIdeal.Read.val_main_v20, Cert.ReferenceAdamGuIdeal.Read.val_main_v21, Cert.ReferenceAdamGuIdeal.Read.val_main_cst_7, Cert.ReferenceAdamGuIdeal.Read.val_main_v22, Cert.ReferenceAdamGuIdeal.Read.val_main_v23]
  blk_point [iblk, V, idx t]

/-- The array of the change of the weights after the run. -/
theorem final5 (c : Dev nD) : (dats m 0 c).arrAt 5 cfg0.N = Cert.ReferenceAdamGuIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  simp only [outsAt0]
  frame_out
  exact point5 m c t y

/-- The first moment at an entry of a block. -/
theorem point6 (c : Dev nD) (t : Fin cfg0.N) (y) : k0_pay2 (k0_pay5 (iblk m c 1 t) (iblk m c 2 t)) y
    = (Cert.ReferenceAdamGuIdeal.Read.val_main_v4 (F := Ideal) (m ((c : Thread nD τ).loc main_arg1)) (m ((c : Thread nD τ).loc main_arg2)) : FVec Ideal S1x1024x1408 .f32) (((cfg0.win 6).blk t).view.emb y) := by
  pointwise [k0_pay2, k0_pay5, k0_pay4, Cert.ReferenceAdamGuIdeal.Read.val_main_cst, Cert.ReferenceAdamGuIdeal.Read.val_main_v0, Cert.ReferenceAdamGuIdeal.Read.val_main_v1, Cert.ReferenceAdamGuIdeal.Read.val_main_cst_0, Cert.ReferenceAdamGuIdeal.Read.val_main_v2, Cert.ReferenceAdamGuIdeal.Read.val_main_v3, Cert.ReferenceAdamGuIdeal.Read.val_main_v4]
  blk_point [iblk, V, idx t]

/-- The array of the first moment after the run. -/
theorem final6 (c : Dev nD) : (dats m 0 c).arrAt 6 cfg0.N = Cert.ReferenceAdamGuIdeal.Read.val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  simp only [outsAt0]
  frame_out
  exact point6 m c t y

/-- The second moment at an entry of a block. -/
theorem point7 (c : Dev nD) (t : Fin cfg0.N) (y) : k0_pay3 (k0_pay6 (iblk m c 1 t) (iblk m c 3 t)) y
    = (Cert.ReferenceAdamGuIdeal.Read.val_main_v10 (F := Ideal) (m ((c : Thread nD τ).loc main_arg1)) (m ((c : Thread nD τ).loc main_arg3)) : FVec Ideal S1x1024x1408 .f32) (((cfg0.win 7).blk t).view.emb y) := by
  pointwise [k0_pay3, k0_pay6, k0_pay4, Cert.ReferenceAdamGuIdeal.Read.val_main_cst_1, Cert.ReferenceAdamGuIdeal.Read.val_main_v5, Cert.ReferenceAdamGuIdeal.Read.val_main_v6, Cert.ReferenceAdamGuIdeal.Read.val_main_v7, Cert.ReferenceAdamGuIdeal.Read.val_main_cst_2, Cert.ReferenceAdamGuIdeal.Read.val_main_v8, Cert.ReferenceAdamGuIdeal.Read.val_main_v9, Cert.ReferenceAdamGuIdeal.Read.val_main_v10]
  blk_point [iblk, V, idx t]

/-- The array of the second moment after the run. -/
theorem final7 (c : Dev nD) : (dats m 0 c).arrAt 7 cfg0.N = Cert.ReferenceAdamGuIdeal.Read.val_main_v10 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  simp only [outsAt0]
  frame_out
  exact point7 m c t y

/-- The kernel as printed runs, leaves its arguments unchanged and ends with every counter at zero. -/
theorem frame_kernel : Cert.quiescent_KernelAdamGu := fun m ρ _ => Cert.KernelAdamGu.Gen.frame (F := Bits) m ρ

/-- The idealized kernel runs, leaves its arguments unchanged and ends with every counter at zero. -/
theorem frame_kernelIdeal : Cert.quiescent_KernelAdamGuIdeal := fun m ρ _ => Cert.KernelAdamGuIdeal.Gen.frame (F := Ideal) m ρ

/-- The idealized reference runs, leaves its arguments unchanged and ends with every counter at zero. -/
theorem frame_referenceIdeal : Cert.quiescent_ReferenceAdamGuIdeal := fun m ρ _ =>
  (θ_run Cert.ReferenceAdamGuIdeal.defs _ _).mono
    (fun r h => ⟨fun c => (h c).2.2.2.2, sem_eq_zero_of_no_sems (by decide) r.2⟩)
    (Cert.ReferenceAdamGuIdeal.Value.run (F := Ideal) m ρ)

/-- The kernel's results are the reference's, over the extended reals. -/
theorem same_values : Cert.algebraic_KernelAdamGuIdeal_ReferenceAdamGuIdeal := by
  intro m g m' g' _ hag
  refine ⟨fun c => (m ((c : Thread nD τ).loc main_arg1)), fun c => Cert.ReferenceAdamGuIdeal.Read.val_main_v23 (F := Ideal) (m ((c : Thread nD τ).loc main_arg0)) (m ((c : Thread nD τ).loc main_arg1)) (m ((c : Thread nD τ).loc main_arg2)) (m ((c : Thread nD τ).loc main_arg3)), fun c => Cert.ReferenceAdamGuIdeal.Read.val_main_v4 (F := Ideal) (m ((c : Thread nD τ).loc main_arg1)) (m ((c : Thread nD τ).loc main_arg2)), fun c => Cert.ReferenceAdamGuIdeal.Read.val_main_v10 (F := Ideal) (m ((c : Thread nD τ).loc main_arg1)) (m ((c : Thread nD τ).loc main_arg3)),
    (θ_run defs _ _).mono (fun r h c => ⟨(h c).1.trans (final4 m c), (h c).2.1.trans (final5 m c), (h c).2.2.1.trans (final6 m c), (h c).2.2.2.1.trans (final7 m c), (h c).2.2.2.2⟩) (Cert.KernelAdamGuIdeal.Value.run_blocks (F := Ideal) m g), ?_⟩
  refine (θ_run Cert.ReferenceAdamGuIdeal.defs _ _).mono (fun r h c => ?_) (Cert.ReferenceAdamGuIdeal.Value.run (F := Ideal) m' g')
  obtain ⟨e0, e1, e2, e3, e4, e5, e6, e7⟩ := hag c
  refine ⟨(h c).1.trans ?_, (h c).2.1.trans ?_, (h c).2.2.1.trans ?_, (h c).2.2.2.1.trans ?_, (h c).2.2.2.2⟩
  · exact e1
  · rw [e0, e1, e2, e3]
    rfl
  · rw [e1, e2]
    rfl
  · rw [e1, e3]
    rfl

end Cert.Proof.AdamGu

end
-- ==== Proof.AdamDown.lean ====
/-
  One step of the optimiser for the down product's weights: the change of the weights and the two moments, with the gradient
  handed on.
-/
module

public import proofs.«01_k».proof.Defs
public import proofs.«01_k».proof.Proof.Gen.KernelAdamDown
public import proofs.«01_k».proof.Proof.Gen.KernelAdamDown.Frame
public import proofs.«01_k».proof.Proof.Gen.KernelAdamDownIdeal
public import proofs.«01_k».proof.Proof.Gen.KernelAdamDownIdeal.Value
public import proofs.«01_k».proof.Proof.Gen.ReferenceAdamDownIdeal
public import proofs.«01_k».proof.Proof.Gen.ReferenceAdamDownIdeal.Run
public import proofs.«01_k».proof.Proof.Gen.ReferenceAdamDownIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.AdamDown

open Cert.KernelAdamDownIdeal Cert.KernelAdamDownIdeal.Gen
open Idealize.ShloMosaic Idealize.ShloMosaic.TcCoe Idealize.SL.Sem

variable (m : (ℓ : Loc nD τ sig) → Buf (Elt Ideal) ℓ)

theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The gradient at an entry of a block. -/
theorem point4 (c : Dev nD) (t : Fin cfg0.N) (y) : k0_pay7 (iblk m c 1 t) y
    = ((m ((c : Thread nD τ).loc main_arg1)) : FVec Ideal S1x704x1024 .f32) (((cfg0.win 4).blk t).view.emb y) := by
  pointwise [k0_pay7, k0_pay4]
  blk_point [iblk, V, idx t]

/-- The array of the gradient after the run. -/
theorem final4 (c : Dev nD) : (dats m 0 c).arrAt 4 cfg0.N = (m ((c : Thread nD τ).loc main_arg1)) := by
  refine (dats m 0 c).arrAt_eq_of_covers 4 _ (by decide +kernel) fun t _ y => ?_
  blk_simp
  rw [after0_4]
  simp only [outsAt0]
  frame_out
  exact point4 m c t y

/-- The change of the weights at an entry of a block. -/
theorem point5 (c : Dev nD) (t : Fin cfg0.N) (y) : k0_pay1 (k0_pay8 (iblk m c 1 t) (iblk m c 2 t) (iblk m c 3 t) (iblk m c 0 t)) k0_pay9 y
    = (Cert.ReferenceAdamDownIdeal.Read.val_main_v23 (F := Ideal) (m ((c : Thread nD τ).loc main_arg0)) (m ((c : Thread nD τ).loc main_arg1)) (m ((c : Thread nD τ).loc main_arg2)) (m ((c : Thread nD τ).loc main_arg3)) : FVec Ideal S1x704x1024 .f32) (((cfg0.win 5).blk t).view.emb y) := by
  pointwise [k0_pay1, k0_pay8, k0_pay9, k0_pay5, k0_pay6, k0_pay4, Cert.ReferenceAdamDownIdeal.Read.val_main_cst, Cert.ReferenceAdamDownIdeal.Read.val_main_v0, Cert.ReferenceAdamDownIdeal.Read.val_main_v1, Cert.ReferenceAdamDownIdeal.Read.val_main_cst_0, Cert.ReferenceAdamDownIdeal.Read.val_main_v2, Cert.ReferenceAdamDownIdeal.Read.val_main_v3, Cert.ReferenceAdamDownIdeal.Read.val_main_v4, Cert.ReferenceAdamDownIdeal.Read.val_main_cst_1, Cert.ReferenceAdamDownIdeal.Read.val_main_v5, Cert.ReferenceAdamDownIdeal.Read.val_main_v6, Cert.ReferenceAdamDownIdeal.Read.val_main_v7, Cert.ReferenceAdamDownIdeal.Read.val_main_cst_2, Cert.ReferenceAdamDownIdeal.Read.val_main_v8, Cert.ReferenceAdamDownIdeal.Read.val_main_v9, Cert.ReferenceAdamDownIdeal.Read.val_main_v10, Cert.ReferenceAdamDownIdeal.Read.val_main_cst_3, Cert.ReferenceAdamDownIdeal.Read.val_main_v11, Cert.ReferenceAdamDownIdeal.Read.val_main_v12, Cert.ReferenceAdamDownIdeal.Read.val_main_cst_4, Cert.ReferenceAdamDownIdeal.Read.val_main_v13, Cert.ReferenceAdamDownIdeal.Read.val_main_v14, Cert.ReferenceAdamDownIdeal.Read.val_main_v15, Cert.ReferenceAdamDownIdeal.Read.val_main_cst_5, Cert.ReferenceAdamDownIdeal.Read.val_main_v16, Cert.ReferenceAdamDownIdeal.Read.val_main_v17, Cert.ReferenceAdamDownIdeal.Read.val_main_v18, Cert.ReferenceAdamDownIdeal.Read.val_main_cst_6, Cert.ReferenceAdamDownIdeal.Read.val_main_v19, Cert.ReferenceAdamDownIdeal.Read.val_main_v20, Cert.ReferenceAdamDownIdeal.Read.val_main_v21, Cert.ReferenceAdamDownIdeal.Read.val_main_cst_7, Cert.ReferenceAdamDownIdeal.Read.val_main_v22, Cert.ReferenceAdamDownIdeal.Read.val_main_v23]
  blk_point [iblk, V, idx t]

/-- The array of the change of the weights after the run. -/
theorem final5 (c : Dev nD) : (dats m 0 c).arrAt 5 cfg0.N = Cert.ReferenceAdamDownIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  simp only [outsAt0]
  frame_out
  exact point5 m c t y

/-- The first moment at an entry of a block. -/
theorem point6 (c : Dev nD) (t : Fin cfg0.N) (y) : k0_pay2 (k0_pay5 (iblk m c 1 t) (iblk m c 2 t)) y
    = (Cert.ReferenceAdamDownIdeal.Read.val_main_v4 (F := Ideal) (m ((c : Thread nD τ).loc main_arg1)) (m ((c : Thread nD τ).loc main_arg2)) : FVec Ideal S1x704x1024 .f32) (((cfg0.win 6).blk t).view.emb y) := by
  pointwise [k0_pay2, k0_pay5, k0_pay4, Cert.ReferenceAdamDownIdeal.Read.val_main_cst, Cert.ReferenceAdamDownIdeal.Read.val_main_v0, Cert.ReferenceAdamDownIdeal.Read.val_main_v1, Cert.ReferenceAdamDownIdeal.Read.val_main_cst_0, Cert.ReferenceAdamDownIdeal.Read.val_main_v2, Cert.ReferenceAdamDownIdeal.Read.val_main_v3, Cert.ReferenceAdamDownIdeal.Read.val_main_v4]
  blk_point [iblk, V, idx t]

/-- The array of the first moment after the run. -/
theorem final6 (c : Dev nD) : (dats m 0 c).arrAt 6 cfg0.N = Cert.ReferenceAdamDownIdeal.Read.val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  simp only [outsAt0]
  frame_out
  exact point6 m c t y

/-- The second moment at an entry of a block. -/
theorem point7 (c : Dev nD) (t : Fin cfg0.N) (y) : k0_pay3 (k0_pay6 (iblk m c 1 t) (iblk m c 3 t)) y
    = (Cert.ReferenceAdamDownIdeal.Read.val_main_v10 (F := Ideal) (m ((c : Thread nD τ).loc main_arg1)) (m ((c : Thread nD τ).loc main_arg3)) : FVec Ideal S1x704x1024 .f32) (((cfg0.win 7).blk t).view.emb y) := by
  pointwise [k0_pay3, k0_pay6, k0_pay4, Cert.ReferenceAdamDownIdeal.Read.val_main_cst_1, Cert.ReferenceAdamDownIdeal.Read.val_main_v5, Cert.ReferenceAdamDownIdeal.Read.val_main_v6, Cert.ReferenceAdamDownIdeal.Read.val_main_v7, Cert.ReferenceAdamDownIdeal.Read.val_main_cst_2, Cert.ReferenceAdamDownIdeal.Read.val_main_v8, Cert.ReferenceAdamDownIdeal.Read.val_main_v9, Cert.ReferenceAdamDownIdeal.Read.val_main_v10]
  blk_point [iblk, V, idx t]

/-- The array of the second moment after the run. -/
theorem final7 (c : Dev nD) : (dats m 0 c).arrAt 7 cfg0.N = Cert.ReferenceAdamDownIdeal.Read.val_main_v10 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  simp only [outsAt0]
  frame_out
  exact point7 m c t y

/-- The kernel as printed runs, leaves its arguments unchanged and ends with every counter at zero. -/
theorem frame_kernel : Cert.quiescent_KernelAdamDown := fun m ρ _ => Cert.KernelAdamDown.Gen.frame (F := Bits) m ρ

/-- The idealized kernel runs, leaves its arguments unchanged and ends with every counter at zero. -/
theorem frame_kernelIdeal : Cert.quiescent_KernelAdamDownIdeal := fun m ρ _ => Cert.KernelAdamDownIdeal.Gen.frame (F := Ideal) m ρ

/-- The idealized reference runs, leaves its arguments unchanged and ends with every counter at zero. -/
theorem frame_referenceIdeal : Cert.quiescent_ReferenceAdamDownIdeal := fun m ρ _ =>
  (θ_run Cert.ReferenceAdamDownIdeal.defs _ _).mono
    (fun r h => ⟨fun c => (h c).2.2.2.2, sem_eq_zero_of_no_sems (by decide) r.2⟩)
    (Cert.ReferenceAdamDownIdeal.Value.run (F := Ideal) m ρ)

/-- The kernel's results are the reference's, over the extended reals. -/
theorem same_values : Cert.algebraic_KernelAdamDownIdeal_ReferenceAdamDownIdeal := by
  intro m g m' g' _ hag
  refine ⟨fun c => (m ((c : Thread nD τ).loc main_arg1)), fun c => Cert.ReferenceAdamDownIdeal.Read.val_main_v23 (F := Ideal) (m ((c : Thread nD τ).loc main_arg0)) (m ((c : Thread nD τ).loc main_arg1)) (m ((c : Thread nD τ).loc main_arg2)) (m ((c : Thread nD τ).loc main_arg3)), fun c => Cert.ReferenceAdamDownIdeal.Read.val_main_v4 (F := Ideal) (m ((c : Thread nD τ).loc main_arg1)) (m ((c : Thread nD τ).loc main_arg2)), fun c => Cert.ReferenceAdamDownIdeal.Read.val_main_v10 (F := Ideal) (m ((c : Thread nD τ).loc main_arg1)) (m ((c : Thread nD τ).loc main_arg3)),
    (θ_run defs _ _).mono (fun r h c => ⟨(h c).1.trans (final4 m c), (h c).2.1.trans (final5 m c), (h c).2.2.1.trans (final6 m c), (h c).2.2.2.1.trans (final7 m c), (h c).2.2.2.2⟩) (Cert.KernelAdamDownIdeal.Value.run_blocks (F := Ideal) m g), ?_⟩
  refine (θ_run Cert.ReferenceAdamDownIdeal.defs _ _).mono (fun r h c => ?_) (Cert.ReferenceAdamDownIdeal.Value.run (F := Ideal) m' g')
  obtain ⟨e0, e1, e2, e3, e4, e5, e6, e7⟩ := hag c
  refine ⟨(h c).1.trans ?_, (h c).2.1.trans ?_, (h c).2.2.1.trans ?_, (h c).2.2.2.1.trans ?_, (h c).2.2.2.2⟩
  · exact e1
  · rw [e0, e1, e2, e3]
    rfl
  · rw [e1, e2]
    rfl
  · rw [e1, e3]
    rfl

end Cert.Proof.AdamDown

end
-- ==== Proof.AdamInEven.lean ====
/-
  One step of the optimiser for the even layers' input projection: the change of the weights and the two moments, with the gradient
  handed on.
-/
module

public import proofs.«01_k».proof.Defs
public import proofs.«01_k».proof.Proof.Gen.KernelAdamInEven
public import proofs.«01_k».proof.Proof.Gen.KernelAdamInEven.Frame
public import proofs.«01_k».proof.Proof.Gen.KernelAdamInEvenIdeal
public import proofs.«01_k».proof.Proof.Gen.KernelAdamInEvenIdeal.Value
public import proofs.«01_k».proof.Proof.Gen.ReferenceAdamInEvenIdeal
public import proofs.«01_k».proof.Proof.Gen.ReferenceAdamInEvenIdeal.Run
public import proofs.«01_k».proof.Proof.Gen.ReferenceAdamInEvenIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.AdamInEven

open Cert.KernelAdamInEvenIdeal Cert.KernelAdamInEvenIdeal.Gen
open Idealize.ShloMosaic Idealize.ShloMosaic.TcCoe Idealize.SL.Sem

variable (m : (ℓ : Loc nD τ sig) → Buf (Elt Ideal) ℓ)

theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The gradient at an entry of a block. -/
theorem point4 (c : Dev nD) (t : Fin cfg0.N) (y) : k0_pay7 (iblk m c 1 t) y
    = ((m ((c : Thread nD τ).loc main_arg1)) : FVec Ideal S1x1024x1027 .f32) (((cfg0.win 4).blk t).view.emb y) := by
  pointwise [k0_pay7, k0_pay4]
  blk_point [iblk, V, idx t]

/-- The array of the gradient after the run. -/
theorem final4 (c : Dev nD) : (dats m 0 c).arrAt 4 cfg0.N = (m ((c : Thread nD τ).loc main_arg1)) := by
  refine (dats m 0 c).arrAt_eq_of_covers 4 _ (by decide +kernel) fun t _ y => ?_
  blk_simp
  rw [after0_4]
  simp only [outsAt0]
  frame_out
  exact point4 m c t y

/-- The change of the weights at an entry of a block. -/
theorem point5 (c : Dev nD) (t : Fin cfg0.N) (y) : k0_pay1 (k0_pay8 (iblk m c 1 t) (iblk m c 2 t) (iblk m c 3 t) (iblk m c 0 t)) k0_pay9 y
    = (Cert.ReferenceAdamInEvenIdeal.Read.val_main_v23 (F := Ideal) (m ((c : Thread nD τ).loc main_arg0)) (m ((c : Thread nD τ).loc main_arg1)) (m ((c : Thread nD τ).loc main_arg2)) (m ((c : Thread nD τ).loc main_arg3)) : FVec Ideal S1x1024x1027 .f32) (((cfg0.win 5).blk t).view.emb y) := by
  pointwise [k0_pay1, k0_pay8, k0_pay9, k0_pay5, k0_pay6, k0_pay4, Cert.ReferenceAdamInEvenIdeal.Read.val_main_cst, Cert.ReferenceAdamInEvenIdeal.Read.val_main_v0, Cert.ReferenceAdamInEvenIdeal.Read.val_main_v1, Cert.ReferenceAdamInEvenIdeal.Read.val_main_cst_0, Cert.ReferenceAdamInEvenIdeal.Read.val_main_v2, Cert.ReferenceAdamInEvenIdeal.Read.val_main_v3, Cert.ReferenceAdamInEvenIdeal.Read.val_main_v4, Cert.ReferenceAdamInEvenIdeal.Read.val_main_cst_1, Cert.ReferenceAdamInEvenIdeal.Read.val_main_v5, Cert.ReferenceAdamInEvenIdeal.Read.val_main_v6, Cert.ReferenceAdamInEvenIdeal.Read.val_main_v7, Cert.ReferenceAdamInEvenIdeal.Read.val_main_cst_2, Cert.ReferenceAdamInEvenIdeal.Read.val_main_v8, Cert.ReferenceAdamInEvenIdeal.Read.val_main_v9, Cert.ReferenceAdamInEvenIdeal.Read.val_main_v10, Cert.ReferenceAdamInEvenIdeal.Read.val_main_cst_3, Cert.ReferenceAdamInEvenIdeal.Read.val_main_v11, Cert.ReferenceAdamInEvenIdeal.Read.val_main_v12, Cert.ReferenceAdamInEvenIdeal.Read.val_main_cst_4, Cert.ReferenceAdamInEvenIdeal.Read.val_main_v13, Cert.ReferenceAdamInEvenIdeal.Read.val_main_v14, Cert.ReferenceAdamInEvenIdeal.Read.val_main_v15, Cert.ReferenceAdamInEvenIdeal.Read.val_main_cst_5, Cert.ReferenceAdamInEvenIdeal.Read.val_main_v16, Cert.ReferenceAdamInEvenIdeal.Read.val_main_v17, Cert.ReferenceAdamInEvenIdeal.Read.val_main_v18, Cert.ReferenceAdamInEvenIdeal.Read.val_main_cst_6, Cert.ReferenceAdamInEvenIdeal.Read.val_main_v19, Cert.ReferenceAdamInEvenIdeal.Read.val_main_v20, Cert.ReferenceAdamInEvenIdeal.Read.val_main_v21, Cert.ReferenceAdamInEvenIdeal.Read.val_main_cst_7, Cert.ReferenceAdamInEvenIdeal.Read.val_main_v22, Cert.ReferenceAdamInEvenIdeal.Read.val_main_v23]
  blk_point [iblk, V, idx t]

/-- The array of the change of the weights after the run. -/
theorem final5 (c : Dev nD) : (dats m 0 c).arrAt 5 cfg0.N = Cert.ReferenceAdamInEvenIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  simp only [outsAt0]
  frame_out
  exact point5 m c t y

/-- The first moment at an entry of a block. -/
theorem point6 (c : Dev nD) (t : Fin cfg0.N) (y) : k0_pay2 (k0_pay5 (iblk m c 1 t) (iblk m c 2 t)) y
    = (Cert.ReferenceAdamInEvenIdeal.Read.val_main_v4 (F := Ideal) (m ((c : Thread nD τ).loc main_arg1)) (m ((c : Thread nD τ).loc main_arg2)) : FVec Ideal S1x1024x1027 .f32) (((cfg0.win 6).blk t).view.emb y) := by
  pointwise [k0_pay2, k0_pay5, k0_pay4, Cert.ReferenceAdamInEvenIdeal.Read.val_main_cst, Cert.ReferenceAdamInEvenIdeal.Read.val_main_v0, Cert.ReferenceAdamInEvenIdeal.Read.val_main_v1, Cert.ReferenceAdamInEvenIdeal.Read.val_main_cst_0, Cert.ReferenceAdamInEvenIdeal.Read.val_main_v2, Cert.ReferenceAdamInEvenIdeal.Read.val_main_v3, Cert.ReferenceAdamInEvenIdeal.Read.val_main_v4]
  blk_point [iblk, V, idx t]

/-- The array of the first moment after the run. -/
theorem final6 (c : Dev nD) : (dats m 0 c).arrAt 6 cfg0.N = Cert.ReferenceAdamInEvenIdeal.Read.val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  simp only [outsAt0]
  frame_out
  exact point6 m c t y

/-- The second moment at an entry of a block. -/
theorem point7 (c : Dev nD) (t : Fin cfg0.N) (y) : k0_pay3 (k0_pay6 (iblk m c 1 t) (iblk m c 3 t)) y
    = (Cert.ReferenceAdamInEvenIdeal.Read.val_main_v10 (F := Ideal) (m ((c : Thread nD τ).loc main_arg1)) (m ((c : Thread nD τ).loc main_arg3)) : FVec Ideal S1x1024x1027 .f32) (((cfg0.win 7).blk t).view.emb y) := by
  pointwise [k0_pay3, k0_pay6, k0_pay4, Cert.ReferenceAdamInEvenIdeal.Read.val_main_cst_1, Cert.ReferenceAdamInEvenIdeal.Read.val_main_v5, Cert.ReferenceAdamInEvenIdeal.Read.val_main_v6, Cert.ReferenceAdamInEvenIdeal.Read.val_main_v7, Cert.ReferenceAdamInEvenIdeal.Read.val_main_cst_2, Cert.ReferenceAdamInEvenIdeal.Read.val_main_v8, Cert.ReferenceAdamInEvenIdeal.Read.val_main_v9, Cert.ReferenceAdamInEvenIdeal.Read.val_main_v10]
  blk_point [iblk, V, idx t]

/-- The array of the second moment after the run. -/
theorem final7 (c : Dev nD) : (dats m 0 c).arrAt 7 cfg0.N = Cert.ReferenceAdamInEvenIdeal.Read.val_main_v10 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  simp only [outsAt0]
  frame_out
  exact point7 m c t y

/-- The kernel as printed runs, leaves its arguments unchanged and ends with every counter at zero. -/
theorem frame_kernel : Cert.quiescent_KernelAdamInEven := fun m ρ _ => Cert.KernelAdamInEven.Gen.frame (F := Bits) m ρ

/-- The idealized kernel runs, leaves its arguments unchanged and ends with every counter at zero. -/
theorem frame_kernelIdeal : Cert.quiescent_KernelAdamInEvenIdeal := fun m ρ _ => Cert.KernelAdamInEvenIdeal.Gen.frame (F := Ideal) m ρ

/-- The idealized reference runs, leaves its arguments unchanged and ends with every counter at zero. -/
theorem frame_referenceIdeal : Cert.quiescent_ReferenceAdamInEvenIdeal := fun m ρ _ =>
  (θ_run Cert.ReferenceAdamInEvenIdeal.defs _ _).mono
    (fun r h => ⟨fun c => (h c).2.2.2.2, sem_eq_zero_of_no_sems (by decide) r.2⟩)
    (Cert.ReferenceAdamInEvenIdeal.Value.run (F := Ideal) m ρ)

/-- The kernel's results are the reference's, over the extended reals. -/
theorem same_values : Cert.algebraic_KernelAdamInEvenIdeal_ReferenceAdamInEvenIdeal := by
  intro m g m' g' _ hag
  refine ⟨fun c => (m ((c : Thread nD τ).loc main_arg1)), fun c => Cert.ReferenceAdamInEvenIdeal.Read.val_main_v23 (F := Ideal) (m ((c : Thread nD τ).loc main_arg0)) (m ((c : Thread nD τ).loc main_arg1)) (m ((c : Thread nD τ).loc main_arg2)) (m ((c : Thread nD τ).loc main_arg3)), fun c => Cert.ReferenceAdamInEvenIdeal.Read.val_main_v4 (F := Ideal) (m ((c : Thread nD τ).loc main_arg1)) (m ((c : Thread nD τ).loc main_arg2)), fun c => Cert.ReferenceAdamInEvenIdeal.Read.val_main_v10 (F := Ideal) (m ((c : Thread nD τ).loc main_arg1)) (m ((c : Thread nD τ).loc main_arg3)),
    (θ_run defs _ _).mono (fun r h c => ⟨(h c).1.trans (final4 m c), (h c).2.1.trans (final5 m c), (h c).2.2.1.trans (final6 m c), (h c).2.2.2.1.trans (final7 m c), (h c).2.2.2.2⟩) (Cert.KernelAdamInEvenIdeal.Value.run_blocks (F := Ideal) m g), ?_⟩
  refine (θ_run Cert.ReferenceAdamInEvenIdeal.defs _ _).mono (fun r h c => ?_) (Cert.ReferenceAdamInEvenIdeal.Value.run (F := Ideal) m' g')
  obtain ⟨e0, e1, e2, e3, e4, e5, e6, e7⟩ := hag c
  refine ⟨(h c).1.trans ?_, (h c).2.1.trans ?_, (h c).2.2.1.trans ?_, (h c).2.2.2.1.trans ?_, (h c).2.2.2.2⟩
  · exact e1
  · rw [e0, e1, e2, e3]
    rfl
  · rw [e1, e2]
    rfl
  · rw [e1, e3]
    rfl

end Cert.Proof.AdamInEven

end
-- ==== Proof.AdamInOdd.lean ====
/-
  One step of the optimiser for the odd layers' input projection: the change of the weights and the two moments, with the gradient
  handed on.
-/
module

public import proofs.«01_k».proof.Defs
public import proofs.«01_k».proof.Proof.Gen.KernelAdamInOdd
public import proofs.«01_k».proof.Proof.Gen.KernelAdamInOdd.Frame
public import proofs.«01_k».proof.Proof.Gen.KernelAdamInOddIdeal
public import proofs.«01_k».proof.Proof.Gen.KernelAdamInOddIdeal.Value
public import proofs.«01_k».proof.Proof.Gen.ReferenceAdamInOddIdeal
public import proofs.«01_k».proof.Proof.Gen.ReferenceAdamInOddIdeal.Run
public import proofs.«01_k».proof.Proof.Gen.ReferenceAdamInOddIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.AdamInOdd

open Cert.KernelAdamInOddIdeal Cert.KernelAdamInOddIdeal.Gen
open Idealize.ShloMosaic Idealize.ShloMosaic.TcCoe Idealize.SL.Sem

variable (m : (ℓ : Loc nD τ sig) → Buf (Elt Ideal) ℓ)

theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The gradient at an entry of a block. -/
theorem point4 (c : Dev nD) (t : Fin cfg0.N) (y) : k0_pay7 (iblk m c 1 t) y
    = ((m ((c : Thread nD τ).loc main_arg1)) : FVec Ideal S1x1024x768 .f32) (((cfg0.win 4).blk t).view.emb y) := by
  pointwise [k0_pay7, k0_pay4]
  blk_point [iblk, V, idx t]

/-- The array of the gradient after the run. -/
theorem final4 (c : Dev nD) : (dats m 0 c).arrAt 4 cfg0.N = (m ((c : Thread nD τ).loc main_arg1)) := by
  refine (dats m 0 c).arrAt_eq_of_covers 4 _ (by decide +kernel) fun t _ y => ?_
  blk_simp
  rw [after0_4]
  simp only [outsAt0]
  frame_out
  exact point4 m c t y

/-- The change of the weights at an entry of a block. -/
theorem point5 (c : Dev nD) (t : Fin cfg0.N) (y) : k0_pay1 (k0_pay8 (iblk m c 1 t) (iblk m c 2 t) (iblk m c 3 t) (iblk m c 0 t)) k0_pay9 y
    = (Cert.ReferenceAdamInOddIdeal.Read.val_main_v23 (F := Ideal) (m ((c : Thread nD τ).loc main_arg0)) (m ((c : Thread nD τ).loc main_arg1)) (m ((c : Thread nD τ).loc main_arg2)) (m ((c : Thread nD τ).loc main_arg3)) : FVec Ideal S1x1024x768 .f32) (((cfg0.win 5).blk t).view.emb y) := by
  pointwise [k0_pay1, k0_pay8, k0_pay9, k0_pay5, k0_pay6, k0_pay4, Cert.ReferenceAdamInOddIdeal.Read.val_main_cst, Cert.ReferenceAdamInOddIdeal.Read.val_main_v0, Cert.ReferenceAdamInOddIdeal.Read.val_main_v1, Cert.ReferenceAdamInOddIdeal.Read.val_main_cst_0, Cert.ReferenceAdamInOddIdeal.Read.val_main_v2, Cert.ReferenceAdamInOddIdeal.Read.val_main_v3, Cert.ReferenceAdamInOddIdeal.Read.val_main_v4, Cert.ReferenceAdamInOddIdeal.Read.val_main_cst_1, Cert.ReferenceAdamInOddIdeal.Read.val_main_v5, Cert.ReferenceAdamInOddIdeal.Read.val_main_v6, Cert.ReferenceAdamInOddIdeal.Read.val_main_v7, Cert.ReferenceAdamInOddIdeal.Read.val_main_cst_2, Cert.ReferenceAdamInOddIdeal.Read.val_main_v8, Cert.ReferenceAdamInOddIdeal.Read.val_main_v9, Cert.ReferenceAdamInOddIdeal.Read.val_main_v10, Cert.ReferenceAdamInOddIdeal.Read.val_main_cst_3, Cert.ReferenceAdamInOddIdeal.Read.val_main_v11, Cert.ReferenceAdamInOddIdeal.Read.val_main_v12, Cert.ReferenceAdamInOddIdeal.Read.val_main_cst_4, Cert.ReferenceAdamInOddIdeal.Read.val_main_v13, Cert.ReferenceAdamInOddIdeal.Read.val_main_v14, Cert.ReferenceAdamInOddIdeal.Read.val_main_v15, Cert.ReferenceAdamInOddIdeal.Read.val_main_cst_5, Cert.ReferenceAdamInOddIdeal.Read.val_main_v16, Cert.ReferenceAdamInOddIdeal.Read.val_main_v17, Cert.ReferenceAdamInOddIdeal.Read.val_main_v18, Cert.ReferenceAdamInOddIdeal.Read.val_main_cst_6, Cert.ReferenceAdamInOddIdeal.Read.val_main_v19, Cert.ReferenceAdamInOddIdeal.Read.val_main_v20, Cert.ReferenceAdamInOddIdeal.Read.val_main_v21, Cert.ReferenceAdamInOddIdeal.Read.val_main_cst_7, Cert.ReferenceAdamInOddIdeal.Read.val_main_v22, Cert.ReferenceAdamInOddIdeal.Read.val_main_v23]
  blk_point [iblk, V, idx t]

/-- The array of the change of the weights after the run. -/
theorem final5 (c : Dev nD) : (dats m 0 c).arrAt 5 cfg0.N = Cert.ReferenceAdamInOddIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  simp only [outsAt0]
  frame_out
  exact point5 m c t y

/-- The first moment at an entry of a block. -/
theorem point6 (c : Dev nD) (t : Fin cfg0.N) (y) : k0_pay2 (k0_pay5 (iblk m c 1 t) (iblk m c 2 t)) y
    = (Cert.ReferenceAdamInOddIdeal.Read.val_main_v4 (F := Ideal) (m ((c : Thread nD τ).loc main_arg1)) (m ((c : Thread nD τ).loc main_arg2)) : FVec Ideal S1x1024x768 .f32) (((cfg0.win 6).blk t).view.emb y) := by
  pointwise [k0_pay2, k0_pay5, k0_pay4, Cert.ReferenceAdamInOddIdeal.Read.val_main_cst, Cert.ReferenceAdamInOddIdeal.Read.val_main_v0, Cert.ReferenceAdamInOddIdeal.Read.val_main_v1, Cert.ReferenceAdamInOddIdeal.Read.val_main_cst_0, Cert.ReferenceAdamInOddIdeal.Read.val_main_v2, Cert.ReferenceAdamInOddIdeal.Read.val_main_v3, Cert.ReferenceAdamInOddIdeal.Read.val_main_v4]
  blk_point [iblk, V, idx t]

/-- The array of the first moment after the run. -/
theorem final6 (c : Dev nD) : (dats m 0 c).arrAt 6 cfg0.N = Cert.ReferenceAdamInOddIdeal.Read.val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  simp only [outsAt0]
  frame_out
  exact point6 m c t y

/-- The second moment at an entry of a block. -/
theorem point7 (c : Dev nD) (t : Fin cfg0.N) (y) : k0_pay3 (k0_pay6 (iblk m c 1 t) (iblk m c 3 t)) y
    = (Cert.ReferenceAdamInOddIdeal.Read.val_main_v10 (F := Ideal) (m ((c : Thread nD τ).loc main_arg1)) (m ((c : Thread nD τ).loc main_arg3)) : FVec Ideal S1x1024x768 .f32) (((cfg0.win 7).blk t).view.emb y) := by
  pointwise [k0_pay3, k0_pay6, k0_pay4, Cert.ReferenceAdamInOddIdeal.Read.val_main_cst_1, Cert.ReferenceAdamInOddIdeal.Read.val_main_v5, Cert.ReferenceAdamInOddIdeal.Read.val_main_v6, Cert.ReferenceAdamInOddIdeal.Read.val_main_v7, Cert.ReferenceAdamInOddIdeal.Read.val_main_cst_2, Cert.ReferenceAdamInOddIdeal.Read.val_main_v8, Cert.ReferenceAdamInOddIdeal.Read.val_main_v9, Cert.ReferenceAdamInOddIdeal.Read.val_main_v10]
  blk_point [iblk, V, idx t]

/-- The array of the second moment after the run. -/
theorem final7 (c : Dev nD) : (dats m 0 c).arrAt 7 cfg0.N = Cert.ReferenceAdamInOddIdeal.Read.val_main_v10 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  simp only [outsAt0]
  frame_out
  exact point7 m c t y

/-- The kernel as printed runs, leaves its arguments unchanged and ends with every counter at zero. -/
theorem frame_kernel : Cert.quiescent_KernelAdamInOdd := fun m ρ _ => Cert.KernelAdamInOdd.Gen.frame (F := Bits) m ρ

/-- The idealized kernel runs, leaves its arguments unchanged and ends with every counter at zero. -/
theorem frame_kernelIdeal : Cert.quiescent_KernelAdamInOddIdeal := fun m ρ _ => Cert.KernelAdamInOddIdeal.Gen.frame (F := Ideal) m ρ

/-- The idealized reference runs, leaves its arguments unchanged and ends with every counter at zero. -/
theorem frame_referenceIdeal : Cert.quiescent_ReferenceAdamInOddIdeal := fun m ρ _ =>
  (θ_run Cert.ReferenceAdamInOddIdeal.defs _ _).mono
    (fun r h => ⟨fun c => (h c).2.2.2.2, sem_eq_zero_of_no_sems (by decide) r.2⟩)
    (Cert.ReferenceAdamInOddIdeal.Value.run (F := Ideal) m ρ)

/-- The kernel's results are the reference's, over the extended reals. -/
theorem same_values : Cert.algebraic_KernelAdamInOddIdeal_ReferenceAdamInOddIdeal := by
  intro m g m' g' _ hag
  refine ⟨fun c => (m ((c : Thread nD τ).loc main_arg1)), fun c => Cert.ReferenceAdamInOddIdeal.Read.val_main_v23 (F := Ideal) (m ((c : Thread nD τ).loc main_arg0)) (m ((c : Thread nD τ).loc main_arg1)) (m ((c : Thread nD τ).loc main_arg2)) (m ((c : Thread nD τ).loc main_arg3)), fun c => Cert.ReferenceAdamInOddIdeal.Read.val_main_v4 (F := Ideal) (m ((c : Thread nD τ).loc main_arg1)) (m ((c : Thread nD τ).loc main_arg2)), fun c => Cert.ReferenceAdamInOddIdeal.Read.val_main_v10 (F := Ideal) (m ((c : Thread nD τ).loc main_arg1)) (m ((c : Thread nD τ).loc main_arg3)),
    (θ_run defs _ _).mono (fun r h c => ⟨(h c).1.trans (final4 m c), (h c).2.1.trans (final5 m c), (h c).2.2.1.trans (final6 m c), (h c).2.2.2.1.trans (final7 m c), (h c).2.2.2.2⟩) (Cert.KernelAdamInOddIdeal.Value.run_blocks (F := Ideal) m g), ?_⟩
  refine (θ_run Cert.ReferenceAdamInOddIdeal.defs _ _).mono (fun r h c => ?_) (Cert.ReferenceAdamInOddIdeal.Value.run (F := Ideal) m' g')
  obtain ⟨e0, e1, e2, e3, e4, e5, e6, e7⟩ := hag c
  refine ⟨(h c).1.trans ?_, (h c).2.1.trans ?_, (h c).2.2.1.trans ?_, (h c).2.2.2.1.trans ?_, (h c).2.2.2.2⟩
  · exact e1
  · rw [e0, e1, e2, e3]
    rfl
  · rw [e1, e2]
    rfl
  · rw [e1, e3]
    rfl

end Cert.Proof.AdamInOdd

end
-- ==== Proof.AdamOut.lean ====
/-
  One step of the optimiser for the output projections: the change of the weights and the two moments, with the gradient
  handed on.
-/
module

public import proofs.«01_k».proof.Defs
public import proofs.«01_k».proof.Proof.Gen.KernelAdamOut
public import proofs.«01_k».proof.Proof.Gen.KernelAdamOut.Frame
public import proofs.«01_k».proof.Proof.Gen.KernelAdamOutIdeal
public import proofs.«01_k».proof.Proof.Gen.KernelAdamOutIdeal.Value
public import proofs.«01_k».proof.Proof.Gen.ReferenceAdamOutIdeal
public import proofs.«01_k».proof.Proof.Gen.ReferenceAdamOutIdeal.Run
public import proofs.«01_k».proof.Proof.Gen.ReferenceAdamOutIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.AdamOut

open Cert.KernelAdamOutIdeal Cert.KernelAdamOutIdeal.Gen
open Idealize.ShloMosaic Idealize.ShloMosaic.TcCoe Idealize.SL.Sem

variable (m : (ℓ : Loc nD τ sig) → Buf (Elt Ideal) ℓ)

theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The gradient at an entry of a block. -/
theorem point4 (c : Dev nD) (t : Fin cfg0.N) (y) : k0_pay7 (iblk m c 1 t) y
    = ((m ((c : Thread nD τ).loc main_arg1)) : FVec Ideal S1x256x1024 .f32) (((cfg0.win 4).blk t).view.emb y) := by
  pointwise [k0_pay7, k0_pay4]
  blk_point [iblk, V, idx t]

/-- The array of the gradient after the run. -/
theorem final4 (c : Dev nD) : (dats m 0 c).arrAt 4 cfg0.N = (m ((c : Thread nD τ).loc main_arg1)) := by
  refine (dats m 0 c).arrAt_eq_of_covers 4 _ (by decide +kernel) fun t _ y => ?_
  blk_simp
  rw [after0_4]
  simp only [outsAt0]
  frame_out
  exact point4 m c t y

/-- The change of the weights at an entry of a block. -/
theorem point5 (c : Dev nD) (t : Fin cfg0.N) (y) : k0_pay1 (k0_pay8 (iblk m c 1 t) (iblk m c 2 t) (iblk m c 3 t) (iblk m c 0 t)) k0_pay9 y
    = (Cert.ReferenceAdamOutIdeal.Read.val_main_v23 (F := Ideal) (m ((c : Thread nD τ).loc main_arg0)) (m ((c : Thread nD τ).loc main_arg1)) (m ((c : Thread nD τ).loc main_arg2)) (m ((c : Thread nD τ).loc main_arg3)) : FVec Ideal S1x256x1024 .f32) (((cfg0.win 5).blk t).view.emb y) := by
  pointwise [k0_pay1, k0_pay8, k0_pay9, k0_pay5, k0_pay6, k0_pay4, Cert.ReferenceAdamOutIdeal.Read.val_main_cst, Cert.ReferenceAdamOutIdeal.Read.val_main_v0, Cert.ReferenceAdamOutIdeal.Read.val_main_v1, Cert.ReferenceAdamOutIdeal.Read.val_main_cst_0, Cert.ReferenceAdamOutIdeal.Read.val_main_v2, Cert.ReferenceAdamOutIdeal.Read.val_main_v3, Cert.ReferenceAdamOutIdeal.Read.val_main_v4, Cert.ReferenceAdamOutIdeal.Read.val_main_cst_1, Cert.ReferenceAdamOutIdeal.Read.val_main_v5, Cert.ReferenceAdamOutIdeal.Read.val_main_v6, Cert.ReferenceAdamOutIdeal.Read.val_main_v7, Cert.ReferenceAdamOutIdeal.Read.val_main_cst_2, Cert.ReferenceAdamOutIdeal.Read.val_main_v8, Cert.ReferenceAdamOutIdeal.Read.val_main_v9, Cert.ReferenceAdamOutIdeal.Read.val_main_v10, Cert.ReferenceAdamOutIdeal.Read.val_main_cst_3, Cert.ReferenceAdamOutIdeal.Read.val_main_v11, Cert.ReferenceAdamOutIdeal.Read.val_main_v12, Cert.ReferenceAdamOutIdeal.Read.val_main_cst_4, Cert.ReferenceAdamOutIdeal.Read.val_main_v13, Cert.ReferenceAdamOutIdeal.Read.val_main_v14, Cert.ReferenceAdamOutIdeal.Read.val_main_v15, Cert.ReferenceAdamOutIdeal.Read.val_main_cst_5, Cert.ReferenceAdamOutIdeal.Read.val_main_v16, Cert.ReferenceAdamOutIdeal.Read.val_main_v17, Cert.ReferenceAdamOutIdeal.Read.val_main_v18, Cert.ReferenceAdamOutIdeal.Read.val_main_cst_6, Cert.ReferenceAdamOutIdeal.Read.val_main_v19, Cert.ReferenceAdamOutIdeal.Read.val_main_v20, Cert.ReferenceAdamOutIdeal.Read.val_main_v21, Cert.ReferenceAdamOutIdeal.Read.val_main_cst_7, Cert.ReferenceAdamOutIdeal.Read.val_main_v22, Cert.ReferenceAdamOutIdeal.Read.val_main_v23]
  blk_point [iblk, V, idx t]

/-- The array of the change of the weights after the run. -/
theorem final5 (c : Dev nD) : (dats m 0 c).arrAt 5 cfg0.N = Cert.ReferenceAdamOutIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  simp only [outsAt0]
  frame_out
  exact point5 m c t y

/-- The first moment at an entry of a block. -/
theorem point6 (c : Dev nD) (t : Fin cfg0.N) (y) : k0_pay2 (k0_pay5 (iblk m c 1 t) (iblk m c 2 t)) y
    = (Cert.ReferenceAdamOutIdeal.Read.val_main_v4 (F := Ideal) (m ((c : Thread nD τ).loc main_arg1)) (m ((c : Thread nD τ).loc main_arg2)) : FVec Ideal S1x256x1024 .f32) (((cfg0.win 6).blk t).view.emb y) := by
  pointwise [k0_pay2, k0_pay5, k0_pay4, Cert.ReferenceAdamOutIdeal.Read.val_main_cst, Cert.ReferenceAdamOutIdeal.Read.val_main_v0, Cert.ReferenceAdamOutIdeal.Read.val_main_v1, Cert.ReferenceAdamOutIdeal.Read.val_main_cst_0, Cert.ReferenceAdamOutIdeal.Read.val_main_v2, Cert.ReferenceAdamOutIdeal.Read.val_main_v3, Cert.ReferenceAdamOutIdeal.Read.val_main_v4]
  blk_point [iblk, V, idx t]

/-- The array of the first moment after the run. -/
theorem final6 (c : Dev nD) : (dats m 0 c).arrAt 6 cfg0.N = Cert.ReferenceAdamOutIdeal.Read.val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  simp only [outsAt0]
  frame_out
  exact point6 m c t y

/-- The second moment at an entry of a block. -/
theorem point7 (c : Dev nD) (t : Fin cfg0.N) (y) : k0_pay3 (k0_pay6 (iblk m c 1 t) (iblk m c 3 t)) y
    = (Cert.ReferenceAdamOutIdeal.Read.val_main_v10 (F := Ideal) (m ((c : Thread nD τ).loc main_arg1)) (m ((c : Thread nD τ).loc main_arg3)) : FVec Ideal S1x256x1024 .f32) (((cfg0.win 7).blk t).view.emb y) := by
  pointwise [k0_pay3, k0_pay6, k0_pay4, Cert.ReferenceAdamOutIdeal.Read.val_main_cst_1, Cert.ReferenceAdamOutIdeal.Read.val_main_v5, Cert.ReferenceAdamOutIdeal.Read.val_main_v6, Cert.ReferenceAdamOutIdeal.Read.val_main_v7, Cert.ReferenceAdamOutIdeal.Read.val_main_cst_2, Cert.ReferenceAdamOutIdeal.Read.val_main_v8, Cert.ReferenceAdamOutIdeal.Read.val_main_v9, Cert.ReferenceAdamOutIdeal.Read.val_main_v10]
  blk_point [iblk, V, idx t]

/-- The array of the second moment after the run. -/
theorem final7 (c : Dev nD) : (dats m 0 c).arrAt 7 cfg0.N = Cert.ReferenceAdamOutIdeal.Read.val_main_v10 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  simp only [outsAt0]
  frame_out
  exact point7 m c t y

/-- The kernel as printed runs, leaves its arguments unchanged and ends with every counter at zero. -/
theorem frame_kernel : Cert.quiescent_KernelAdamOut := fun m ρ _ => Cert.KernelAdamOut.Gen.frame (F := Bits) m ρ

/-- The idealized kernel runs, leaves its arguments unchanged and ends with every counter at zero. -/
theorem frame_kernelIdeal : Cert.quiescent_KernelAdamOutIdeal := fun m ρ _ => Cert.KernelAdamOutIdeal.Gen.frame (F := Ideal) m ρ

/-- The idealized reference runs, leaves its arguments unchanged and ends with every counter at zero. -/
theorem frame_referenceIdeal : Cert.quiescent_ReferenceAdamOutIdeal := fun m ρ _ =>
  (θ_run Cert.ReferenceAdamOutIdeal.defs _ _).mono
    (fun r h => ⟨fun c => (h c).2.2.2.2, sem_eq_zero_of_no_sems (by decide) r.2⟩)
    (Cert.ReferenceAdamOutIdeal.Value.run (F := Ideal) m ρ)

/-- The kernel's results are the reference's, over the extended reals. -/
theorem same_values : Cert.algebraic_KernelAdamOutIdeal_ReferenceAdamOutIdeal := by
  intro m g m' g' _ hag
  refine ⟨fun c => (m ((c : Thread nD τ).loc main_arg1)), fun c => Cert.ReferenceAdamOutIdeal.Read.val_main_v23 (F := Ideal) (m ((c : Thread nD τ).loc main_arg0)) (m ((c : Thread nD τ).loc main_arg1)) (m ((c : Thread nD τ).loc main_arg2)) (m ((c : Thread nD τ).loc main_arg3)), fun c => Cert.ReferenceAdamOutIdeal.Read.val_main_v4 (F := Ideal) (m ((c : Thread nD τ).loc main_arg1)) (m ((c : Thread nD τ).loc main_arg2)), fun c => Cert.ReferenceAdamOutIdeal.Read.val_main_v10 (F := Ideal) (m ((c : Thread nD τ).loc main_arg1)) (m ((c : Thread nD τ).loc main_arg3)),
    (θ_run defs _ _).mono (fun r h c => ⟨(h c).1.trans (final4 m c), (h c).2.1.trans (final5 m c), (h c).2.2.1.trans (final6 m c), (h c).2.2.2.1.trans (final7 m c), (h c).2.2.2.2⟩) (Cert.KernelAdamOutIdeal.Value.run_blocks (F := Ideal) m g), ?_⟩
  refine (θ_run Cert.ReferenceAdamOutIdeal.defs _ _).mono (fun r h c => ?_) (Cert.ReferenceAdamOutIdeal.Value.run (F := Ideal) m' g')
  obtain ⟨e0, e1, e2, e3, e4, e5, e6, e7⟩ := hag c
  refine ⟨(h c).1.trans ?_, (h c).2.1.trans ?_, (h c).2.2.1.trans ?_, (h c).2.2.2.1.trans ?_, (h c).2.2.2.2⟩
  · exact e1
  · rw [e0, e1, e2, e3]
    rfl
  · rw [e1, e2]
    rfl
  · rw [e1, e3]
    rfl

end Cert.Proof.AdamOut

end
-- ==== Proof.AdamSmall.lean ====
/-
  One step of the optimiser for the small weights, packed in one array: the change of the weights and the two moments.
-/
module

public import proofs.«01_k».proof.Defs
public import proofs.«01_k».proof.Proof.Gen.KernelAdamSmall
public import proofs.«01_k».proof.Proof.Gen.KernelAdamSmall.Frame
public import proofs.«01_k».proof.Proof.Gen.KernelAdamSmallIdeal
public import proofs.«01_k».proof.Proof.Gen.KernelAdamSmallIdeal.Value
public import proofs.«01_k».proof.Proof.Gen.ReferenceAdamSmallIdeal
public import proofs.«01_k».proof.Proof.Gen.ReferenceAdamSmallIdeal.Run
public import proofs.«01_k».proof.Proof.Gen.ReferenceAdamSmallIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.AdamSmall

open Cert.KernelAdamSmallIdeal Cert.KernelAdamSmallIdeal.Gen
open Idealize.ShloMosaic Idealize.ShloMosaic.TcCoe Idealize.SL.Sem

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The change of the weights at an entry of a block. -/
theorem point4 (c : Dev nD) (t : Fin cfg0.N) (y) : out0_4 (F := Ideal) (iblk m c 0 t) (iblk m c 1 t) (iblk m c 2 t) (iblk m c 3 t) y
    = (Cert.ReferenceAdamSmallIdeal.Read.val_main_v23 (F := Ideal) (m ((c : Thread nD τ).loc main_arg0)) (m ((c : Thread nD τ).loc main_arg1)) (m ((c : Thread nD τ).loc main_arg2)) (m ((c : Thread nD τ).loc main_arg3)) : FVec Ideal S136x128 .f32) (((cfg0.win 4).blk t).view.emb y) := by
  unfold out0_4
  frame_out
  open_payloads
  pointwise [Cert.ReferenceAdamSmallIdeal.Read.val_main_cst, Cert.ReferenceAdamSmallIdeal.Read.val_main_v0, Cert.ReferenceAdamSmallIdeal.Read.val_main_v1, Cert.ReferenceAdamSmallIdeal.Read.val_main_cst_0, Cert.ReferenceAdamSmallIdeal.Read.val_main_v2, Cert.ReferenceAdamSmallIdeal.Read.val_main_v3, Cert.ReferenceAdamSmallIdeal.Read.val_main_v4, Cert.ReferenceAdamSmallIdeal.Read.val_main_cst_1, Cert.ReferenceAdamSmallIdeal.Read.val_main_v5, Cert.ReferenceAdamSmallIdeal.Read.val_main_v6, Cert.ReferenceAdamSmallIdeal.Read.val_main_v7, Cert.ReferenceAdamSmallIdeal.Read.val_main_cst_2, Cert.ReferenceAdamSmallIdeal.Read.val_main_v8, Cert.ReferenceAdamSmallIdeal.Read.val_main_v9, Cert.ReferenceAdamSmallIdeal.Read.val_main_v10, Cert.ReferenceAdamSmallIdeal.Read.val_main_cst_3, Cert.ReferenceAdamSmallIdeal.Read.val_main_v11, Cert.ReferenceAdamSmallIdeal.Read.val_main_v12, Cert.ReferenceAdamSmallIdeal.Read.val_main_cst_4, Cert.ReferenceAdamSmallIdeal.Read.val_main_v13, Cert.ReferenceAdamSmallIdeal.Read.val_main_v14, Cert.ReferenceAdamSmallIdeal.Read.val_main_v15, Cert.ReferenceAdamSmallIdeal.Read.val_main_cst_5, Cert.ReferenceAdamSmallIdeal.Read.val_main_v16, Cert.ReferenceAdamSmallIdeal.Read.val_main_v17, Cert.ReferenceAdamSmallIdeal.Read.val_main_v18, Cert.ReferenceAdamSmallIdeal.Read.val_main_cst_6, Cert.ReferenceAdamSmallIdeal.Read.val_main_v19, Cert.ReferenceAdamSmallIdeal.Read.val_main_v20, Cert.ReferenceAdamSmallIdeal.Read.val_main_v21, Cert.ReferenceAdamSmallIdeal.Read.val_main_cst_7, Cert.ReferenceAdamSmallIdeal.Read.val_main_v22, Cert.ReferenceAdamSmallIdeal.Read.val_main_v23]
  blk_point [iblk, V, idx t]

/-- The array of the change of the weights after the run. -/
theorem final4 (c : Dev nD) : (dats m 0 c).arrAt 4 cfg0.N = Cert.ReferenceAdamSmallIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  exact point4 m c t y

/-- The first moment at an entry of a block. -/
theorem point5 (c : Dev nD) (t : Fin cfg0.N) (y) : out0_5 (F := Ideal) (iblk m c 0 t) (iblk m c 1 t) (iblk m c 2 t) (iblk m c 3 t) y
    = (Cert.ReferenceAdamSmallIdeal.Read.val_main_v4 (F := Ideal) (m ((c : Thread nD τ).loc main_arg1)) (m ((c : Thread nD τ).loc main_arg2)) : FVec Ideal S136x128 .f32) (((cfg0.win 5).blk t).view.emb y) := by
  unfold out0_5
  frame_out
  open_payloads
  pointwise [Cert.ReferenceAdamSmallIdeal.Read.val_main_cst, Cert.ReferenceAdamSmallIdeal.Read.val_main_v0, Cert.ReferenceAdamSmallIdeal.Read.val_main_v1, Cert.ReferenceAdamSmallIdeal.Read.val_main_cst_0, Cert.ReferenceAdamSmallIdeal.Read.val_main_v2, Cert.ReferenceAdamSmallIdeal.Read.val_main_v3, Cert.ReferenceAdamSmallIdeal.Read.val_main_v4]
  blk_point [iblk, V, idx t]

/-- The array of the first moment after the run. -/
theorem final5 (c : Dev nD) : (dats m 0 c).arrAt 5 cfg0.N = Cert.ReferenceAdamSmallIdeal.Read.val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  exact point5 m c t y

/-- The second moment at an entry of a block. -/
theorem point6 (c : Dev nD) (t : Fin cfg0.N) (y) : out0_6 (F := Ideal) (iblk m c 0 t) (iblk m c 1 t) (iblk m c 2 t) (iblk m c 3 t) y
    = (Cert.ReferenceAdamSmallIdeal.Read.val_main_v10 (F := Ideal) (m ((c : Thread nD τ).loc main_arg1)) (m ((c : Thread nD τ).loc main_arg3)) : FVec Ideal S136x128 .f32) (((cfg0.win 6).blk t).view.emb y) := by
  unfold out0_6
  frame_out
  open_payloads
  pointwise [Cert.ReferenceAdamSmallIdeal.Read.val_main_cst_1, Cert.ReferenceAdamSmallIdeal.Read.val_main_v5, Cert.ReferenceAdamSmallIdeal.Read.val_main_v6, Cert.ReferenceAdamSmallIdeal.Read.val_main_v7, Cert.ReferenceAdamSmallIdeal.Read.val_main_cst_2, Cert.ReferenceAdamSmallIdeal.Read.val_main_v8, Cert.ReferenceAdamSmallIdeal.Read.val_main_v9, Cert.ReferenceAdamSmallIdeal.Read.val_main_v10]
  blk_point [iblk, V, idx t]

/-- The array of the second moment after the run. -/
theorem final6 (c : Dev nD) : (dats m 0 c).arrAt 6 cfg0.N = Cert.ReferenceAdamSmallIdeal.Read.val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  exact point6 m c t y

/-- The kernel as printed runs, leaves its arguments unchanged and ends with every counter at zero. -/
theorem frame_kernel : Cert.quiescent_KernelAdamSmall := fun m ρ _ => Cert.KernelAdamSmall.Gen.frame (F := Bits) m ρ

/-- The idealized kernel runs, leaves its arguments unchanged and ends with every counter at zero. -/
theorem frame_kernelIdeal : Cert.quiescent_KernelAdamSmallIdeal := fun m ρ _ => Cert.KernelAdamSmallIdeal.Gen.frame (F := Ideal) m ρ

/-- The idealized reference runs, leaves its arguments unchanged and ends with every counter at zero. -/
theorem frame_referenceIdeal : Cert.quiescent_ReferenceAdamSmallIdeal := fun m ρ _ =>
  (θ_run Cert.ReferenceAdamSmallIdeal.defs _ _).mono
    (fun r h => ⟨fun c => (h c).2.2.2, sem_eq_zero_of_no_sems (by decide) r.2⟩)
    (Cert.ReferenceAdamSmallIdeal.Value.run (F := Ideal) m ρ)

/-- The kernel's results are the reference's, over the extended reals. -/
theorem same_values : Cert.algebraic_KernelAdamSmallIdeal_ReferenceAdamSmallIdeal := by
  intro m g m' g' _ hag
  refine ⟨fun c => Cert.ReferenceAdamSmallIdeal.Read.val_main_v23 (F := Ideal) (m ((c : Thread nD τ).loc main_arg0)) (m ((c : Thread nD τ).loc main_arg1)) (m ((c : Thread nD τ).loc main_arg2)) (m ((c : Thread nD τ).loc main_arg3)), fun c => Cert.ReferenceAdamSmallIdeal.Read.val_main_v4 (F := Ideal) (m ((c : Thread nD τ).loc main_arg1)) (m ((c : Thread nD τ).loc main_arg2)), fun c => Cert.ReferenceAdamSmallIdeal.Read.val_main_v10 (F := Ideal) (m ((c : Thread nD τ).loc main_arg1)) (m ((c : Thread nD τ).loc main_arg3)),
    (θ_run defs _ _).mono (fun r h c => ⟨(h c).1.trans (final4 m c), (h c).2.1.trans (final5 m c), (h c).2.2.1.trans (final6 m c), (h c).2.2.2⟩) (Cert.KernelAdamSmallIdeal.Value.run_blocks (F := Ideal) m g), ?_⟩
  refine (θ_run Cert.ReferenceAdamSmallIdeal.defs _ _).mono (fun r h c => ?_) (Cert.ReferenceAdamSmallIdeal.Value.run (F := Ideal) m' g')
  obtain ⟨e0, e1, e2, e3⟩ := hag c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Proof.AdamSmall

end
-- ==== Proof.SbFwdTile.lean ====
/-
  The stick-breaking attention's forward, tile by tile: what a head's sub-block adds to what it carries, at any values of
  the floats, and, at the ideal values, that tiles of reals give the reals of `Model`: past the sub-blocks from key `B` on a
  head carries the softplus and the weighted values of the keys from `B` on, and past all of them the attention's result.
-/
module

public import proofs.«01_k».proof.Proof.Tri

@[expose] public section

noncomputable section

namespace Cert.Proof.SbFwd

open Cert.KernelIdeal Cert.KernelIdeal.Facts₀ Cert.Proof.SB
open Idealize.ShloMosaic Idealize.ShloMosaic.TcCoe
open Idealize.ShloMosaic.ValueIdx
open Finset

section Any

variable {F : FTy → Type} [FloatOps F]

/-- Weights against values. -/
def mmV (a : FVec F S512x256 .bf16) (v : Vec F S256x128 .bf16) : FVec F S512x128 .f32 :=
  matmul dot_S512x256_S256x128_S512x128_1_0_0_1_n_n none a (shapeCast S256x128 v shapeCasts_S256x128_S256x128) (constant S512x128 .f32 0x00000000#32)

/-- Weights of 32 bits against values: the weights' upper half and what it leaves. -/
def splitV (a : FVec F S512x256 .f32) (v : Vec F S256x128 .bf16) : FVec F S512x128 .f32 :=
  addf (mmV (truncf .bf16 a bitsLt_bf16_f32) v)
    (mmV (truncf .bf16 (subf a (extf .f32 (truncf .bf16 a bitsLt_bf16_f32) bitsLt_bf16_f32)) bitsLt_bf16_f32) v)

/-- What a head carries from a sub-block to the one before it: the softplus of the keys so far and their weighted values. -/
structure Fc (F : FTy → Type) where
  cs : FVec F S512x1 .f32
  acc : FVec F S512x128 .f32

/-- The weights of a sub-block. -/
def wts (L : FVec F S256x256 .bf16) (M : Option (IVec S512x256 1)) (z : FVec F S512x256 .f32) (cs : FVec F S512x1 .f32) : FVec F S512x256 .f32 :=
  msk M (exp (subf (subf z (sp z)) (addf (cols cs) (within L M z))))

/-- A sub-block's step. -/
def fnext (q : FVec F S512x128 .bf16) (L : FVec F S256x256 .bf16) (M : Option (IVec S512x256 1)) (K V : Vec F S256x128 .bf16) (C : Fc F) : Fc F :=
  ⟨addf C.cs (rowSum (msk M (sp (sz q K)))), addf C.acc (splitV (wts L M (sz q K) C.cs) V)⟩

/-- What is carried at a point's start. -/
def fc0 : Fc F := ⟨KI.cy0.cs, KI.cy0.dq⟩

/-- What a head carries before the `n`-th sub-block of query block `b`. -/
def fAt (b : ℕ) (q : FVec F S512x128 .bf16) (L : FVec F S256x256 .bf16) (K V : Fin 16 → Vec F S256x128 .bf16) : ℕ → Fc F
  | 0 => fc0
  | n + 1 => fnext q L (KI.mk n) (K (KI.sbk b n)) (V (KI.sbk b n)) (fAt b q L K V n)

end Any

theorem co_mmV {a : FVec Ideal S512x256 .bf16} {v : Vec Ideal S256x128 .bf16} {f g : ℕ → ℕ → ℝ} (ha : Co a f) (hv : Co v g) :
    Co (mmV a v) (fun r x => ∑ c ∈ range 256, f r c * g c x) := by
  unfold mmV
  rw [shapeCast_self]
  refine co_mm _ 256 rfl (fun _ => rfl) _ _ _ fun i j x => ?_
  rw [lhsQ, rhsQ, ha i x, hv x j, ← EReal.coe_mul]

theorem co_splitV {a : FVec Ideal S512x256 .f32} {v : Vec Ideal S256x128 .bf16} {f g : ℕ → ℕ → ℝ} (ha : Co a f) (hv : Co v g) :
    Co (splitV a v) (fun r x => ∑ c ∈ range 256, f r c * g c x) := by
  refine (co_addf (co_mmV (co_truncf ha _) hv) (co_mmV (co_truncf (co_subf ha (co_extf (co_truncf ha _) _)) _) hv)).congr fun r c _ _ => ?_
  simp

/-- What is carried past the keys from `B` on, for the queries from `R` on. -/
structure FcOf (X : In) (R B : ℕ) (C : Fc Ideal) : Prop where
  cs : Co C.cs (fun r _ => X.cs B (R + r))
  acc : Co C.acc (fun r x => ∑ j ∈ Ico B 4096, X.a (R + r) j * X.v j x)

section Block

variable {X : In} {R A : ℕ} {q : FVec Ideal S512x128 .bf16} {L : FVec Ideal S256x256 .bf16} {M : Option (IVec S512x256 1)}
  {K V : Vec Ideal S256x128 .bf16} {C : Fc Ideal}

theorem of_next (hA : A + 256 ≤ 4096) (hc : X.c = cR) (hq : Co q (fun r x => X.q (R + r) x)) (hL : Co L (fun k c => if c < k then 1 else 0))
    (hC : FcOf X R (A + 256) C) (hK : Co K (fun y x => X.k (A + y) x)) (hV : Co V (fun y x => X.v (A + y) x))
    (hM : Ms M (fun r y => A + y < R + r)) : FcOf X R A (fnext q L M K V C) := by
  have hz : Co (sz q K) (fun r y => X.z (R + r) (A + y)) := (co_sz hq hK).congr fun r y _ _ => by rw [In.z, hc]
  have hp : Co (msk M (sp (sz q K))) (fun r y => X.p (R + r) (A + y)) := co_msk hM (co_sp hz)
  have hw : Co (within L M (sz q K)) _ := co_tri (co_truncf hp _) hL
  have ha : Co (wts L M (sz q K) C.cs) (fun r y => X.a (R + r) (A + y)) := by
    refine (co_msk hM (co_exp (co_subf (co_subf hz (co_sp hz)) (co_addf (co_cols hC.cs) hw)))).congr fun r y _ hy => ?_
    rw [X.cs_within A (R + r) y hA hy, sub_eq_add_neg _ (X.tail _ _), Real.exp_add]
    rfl
  refine ⟨(co_addf hC.cs (co_rowSum hp)).congr fun r _ _ _ => X.cs_next A (R + r) hA, (co_addf hC.acc (co_splitV ha hV)).congr fun r x _ _ => ?_⟩
  rw [sum_block (fun j => X.a (R + r) j * X.v j x), add_comm, sum_Ico_consecutive _ (by omega) hA]

end Block

theorem of_fc0 (X : In) (R B : ℕ) (h : R + 511 ≤ B) : FcOf X R B (fc0 (F := Ideal)) where
  cs := (KI.of_cy0 X R B h).cs
  acc := fun r x => zero_word.trans (congrArg _ (sum_eq_zero fun j hj => by
    have := r.isLt
    rw [X.a_zero _ j (by rw [mem_Ico] at hj; omega), zero_mul]).symm)

/-- What is carried before the `n`-th sub-block. -/
theorem of_fAt {X : In} {b : ℕ} {q : FVec Ideal S512x128 .bf16} {L : FVec Ideal S256x256 .bf16} {K V : Fin 16 → Vec Ideal S256x128 .bf16}
    (hb : b < 8) (hc : X.c = cR) (hq : Co q (fun r x => X.q (512 * b + r) x)) (hL : Co L (fun k c => if c < k then 1 else 0))
    (hK : ∀ s, Co (K s) (fun y x => X.k (256 * s.val + y) x)) (hV : ∀ s, Co (V s) (fun y x => X.v (256 * s.val + y) x))
    (n : ℕ) (hn : n ≤ 2 * b + 2) : FcOf X (512 * b) (256 * (2 * b + 2 - n)) (fAt b q L K V n) := by
  induction n with
  | zero => exact of_fc0 X _ _ (by omega)
  | succ n ih =>
    have v : (KI.sbk b n).val = 2 * b + 1 - n := Nat.mod_eq_of_lt (by omega)
    have hC := ih (by omega)
    rw [show 256 * (2 * b + 2 - n) = 256 * (2 * b + 1 - n) + 256 by omega] at hC
    rw [show 2 * b + 2 - (n + 1) = 2 * b + 1 - n by omega]
    have hk := hK (KI.sbk b n)
    have hv := hV (KI.sbk b n)
    rw [v] at hk hv
    exact of_next (by omega) hc hq hL hC hk hv (KI.ms_mk b n (by omega))

/-- The attention's result's block. -/
theorem of_o {X : In} {b : ℕ} {q : FVec Ideal S512x128 .bf16} {L : FVec Ideal S256x256 .bf16} {K V : Fin 16 → Vec Ideal S256x128 .bf16}
    (hb : b < 8) (hc : X.c = cR) (hq : Co q (fun r x => X.q (512 * b + r) x)) (hL : Co L (fun k c => if c < k then 1 else 0))
    (hK : ∀ s, Co (K s) (fun y x => X.k (256 * s.val + y) x)) (hV : ∀ s, Co (V s) (fun y x => X.v (256 * s.val + y) x)) :
    Co (fAt b q L K V (2 * b + 2)).acc (fun r x => X.o (512 * b + r) x) :=
  (of_fAt hb hc hq hL hK hV (2 * b + 2) le_rfl).acc.congr fun r x _ _ => by
    rw [show 256 * (2 * b + 2 - (2 * b + 2)) = 0 by omega, In.o, range_eq_Ico]

end Cert.Proof.SbFwd

end
-- ==== Proof.SbFwdRun.lean ====
/-
  The run of the stick-breaking attention's forward: what a point's two stores hold, by heads, at any values of the floats.
-/
module

public import proofs.«01_k».proof.Proof.SbFwdTile
public import proofs.«01_k».proof.Proof.Run
public import proofs.«01_k».proof.Proof.Gen.KernelSbFwdIdeal
public import proofs.«01_k».proof.Proof.Gen.KernelSbFwdIdeal.Value

@[expose] public section

set_option maxRecDepth 8192
set_option maxHeartbeats 4000000

noncomputable section

namespace Cert.Proof.SbFwd

open Cert.KernelSbFwdIdeal Cert.KernelSbFwdIdeal.Gen
open Idealize.ShloMosaic Idealize.ShloMosaic.TcCoe
open Idealize.SL.Sem

variable {F : FTy → Type} [FloatOps F]

/-- What the loop carries: the two heads' running sums and weighted values. -/
abbrev Acc (F : FTy → Type) : Type := FVec F S512x1 .f32 × FVec F S512x1 .f32 × FVec F S512x128 .f32 × FVec F S512x128 .f32

/-- The first head's part of what is carried, -/
def c0 (x : Acc F) : Fc F := ⟨x.1, x.2.2.1⟩
/-- the second's, -/
def c1 (x : Acc F) : Fc F := ⟨x.2.1, x.2.2.2⟩
/-- and the two put together. -/
def pk (a b : Fc F) : Acc F := (a.cs, b.cs, a.acc, b.acc)

/-- What a 256 x 128 block of a staging buffer holds. -/
abbrev ld (a : Memref sig .tc .vmem S4096x256 .bf16) (g : BufTy.Contents (Elt F) a.view.ty)
    (o : Fin 2 → Nat) (h : ∀ a, o a + S256x128.size a ≤ S4096x256.size a) : Vec F S256x128 .bf16 :=
  a.view.readAt (Elt F) (Rect.unit (s := S4096x256) o S256x128.size h).toLoadRect g

/-- Such a block is a sub-block of the array the buffer holds. -/
theorem ld_kb (a : Memref sig .tc .vmem S4096x256 .bf16) (ha : a.IsWhole) (X : Vec F S4096x256 .bf16)
    (o : Fin 2 → Nat) (h : ∀ a, o a + S256x128.size a ≤ S4096x256.size a) (s : Fin 16) (t : Fin 2) (e : o = ![256 * s.val, 128 * t.val]) :
    ld a (ha.unread X) o h = KI.kb (F := F) (e := .bf16) X s t := by
  subst e
  funext x
  show a.view.read (Elt F) (ha.unread X) _ = _
  rw [ha.read_unread]

/-- A head's queries. -/
def qh (X : Vec F S512x256 .bf16) (t : Fin 2) : FVec F S512x128 .bf16 :=
  k0_pay71 (View.ld (Val := Elt F) (e' := .bf16) X (KI.rq t))

theorem trips1 : ∀ i : grid0.Coords, (k0_t1_loop i).trips = (i 1).val := by decide +kernel
theorem trips2 : ∀ i : grid0.Coords, (k0_t2_loop i).trips = 0 := by decide +kernel
theorem coord1_lt : ∀ i : grid0.Coords, (i 1).val < 8 := by decide +kernel
theorem off3_eq : ∀ (i : grid0.Coords) (k : Fin (k0_t1_loop i).trips) (r : Fin 2),
    k0_off3 i k (BitVec.ofNat 32 (256 * r.val)) = ![512 * ((i 1).val - 1 - k.val) + 256 * r.val, 0] := by decide +kernel
theorem off4_eq : ∀ (i : grid0.Coords) (k : Fin (k0_t1_loop i).trips) (r : Fin 2),
    k0_off4 i k (BitVec.ofNat 32 (256 * r.val)) = ![512 * ((i 1).val - 1 - k.val) + 256 * r.val, 128] := by decide +kernel
theorem off1_eq : ∀ (i : grid0.Coords) (r : Fin 2),
    k0_off1 i (BitVec.ofNat 32 (256 * r.val)) = ![512 * (i 1).val + 256 * r.val, 0] := by decide +kernel
theorem off2_eq : ∀ (i : grid0.Coords) (r : Fin 2),
    k0_off2 i (BitVec.ofNat 32 (256 * r.val)) = ![512 * (i 1).val + 256 * r.val, 128] := by decide +kernel

section Point

variable (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x256 .bf16) (harg5 : arg5.IsWhole) (arg6 : Memref sig .tc .vmem S512x256 .f32) (harg6 : arg6.IsWhole)

/-- One trip: the two heads' two sub-blocks of a key block, the later first. -/
theorem trip_eq (𝒱 : Variants) (bd : Option 𝒱.V) (arg1 : BitVec 32) (v1 v3 : FVec F S512x128 .bf16) (v11 : FVec F S256x256 .bf16)
    (X3 : BufTy.Contents (Elt F) arg3.view.ty) (X4 : BufTy.Contents (Elt F) arg4.view.ty) (k : Fin (k0_t1_loop i).trips) (acc : Acc F) :
    tripR_k0_t1 (F := F) 𝒱 c bd i arg2 harg2 arg3 harg3 arg4 harg4 arg5 harg5 arg6 harg6 arg1 v1 v3 v11 X3 X4 k acc
      = pk (fnext v1 v11 none (ld arg3 X3 (k0_off3 i k 0#32) (Facts₀.k0_off3_inb i k 0)) (ld arg4 X4 (k0_off3 i k 0#32) (Facts₀.k0_off3_inb i k 0))
            (fnext v1 v11 none (ld arg3 X3 (k0_off3 i k 256#32) (Facts₀.k0_off3_inb i k 1)) (ld arg4 X4 (k0_off3 i k 256#32) (Facts₀.k0_off3_inb i k 1)) (c0 acc)))
          (fnext v3 v11 none (ld arg3 X3 (k0_off4 i k 0#32) (Facts₀.k0_off4_inb i k 0)) (ld arg4 X4 (k0_off4 i k 0#32) (Facts₀.k0_off4_inb i k 0))
            (fnext v3 v11 none (ld arg3 X3 (k0_off4 i k 256#32) (Facts₀.k0_off4_inb i k 1)) (ld arg4 X4 (k0_off4 i k 256#32) (Facts₀.k0_off4_inb i k 1)) (c1 acc))) := by
  unfold tripR_k0_t1 trip_k0_t1
  rfl

variable (x0 : Vec F S512x256 .bf16) (x1 : Vec F S4096x256 .bf16) (x2 : Vec F S4096x256 .bf16)

/-- A head's queries as the run reads them. -/
abbrev q0 : FVec F S512x128 .bf16 := k0_pay71 (arg2.view.readAt (Elt F) (KI.rq 0).toLoadRect (harg2.unread x0))
abbrev q1 : FVec F S512x128 .bf16 := k0_pay72 (arg2.view.readAt (Elt F) (KI.rq 1).toLoadRect (harg2.unread x0))

/-- What is carried after the diagonal block. -/
def diag : Acc F :=
  pk (fnext (q0 arg2 harg2 x0) k0_pay73 (KI.mk 1) (ld arg3 (harg3.unread x1) (k0_off1 i 0#32) (Facts₀.k0_off1_inb i 0)) (ld arg4 (harg4.unread x2) (k0_off1 i 0#32) (Facts₀.k0_off1_inb i 0))
        (fnext (q0 arg2 harg2 x0) k0_pay73 (KI.mk 0) (ld arg3 (harg3.unread x1) (k0_off1 i 256#32) (Facts₀.k0_off1_inb i 1)) (ld arg4 (harg4.unread x2) (k0_off1 i 256#32) (Facts₀.k0_off1_inb i 1)) fc0))
     (fnext (q1 arg2 harg2 x0) k0_pay73 (KI.mk 1) (ld arg3 (harg3.unread x1) (k0_off2 i 0#32) (Facts₀.k0_off2_inb i 0)) (ld arg4 (harg4.unread x2) (k0_off2 i 0#32) (Facts₀.k0_off2_inb i 0))
        (fnext (q1 arg2 harg2 x0) k0_pay73 (KI.mk 0) (ld arg3 (harg3.unread x1) (k0_off2 i 256#32) (Facts₀.k0_off2_inb i 1)) (ld arg4 (harg4.unread x2) (k0_off2 i 256#32) (Facts₀.k0_off2_inb i 1)) fc0))

/-- What is carried before trip `k`. -/
def stA (k : ℕ) : Acc F :=
  st_k0_t1 Variants.none c none i arg2 harg2 arg3 harg3 arg4 harg4 arg5 harg5 arg6 harg6 (BitVec.ofNat 32 (i 1).val) (q0 arg2 harg2 x0) (q1 arg2 harg2 x0) k0_pay73
    (harg3.unread x1) (harg4.unread x2) (diag i arg2 harg2 arg3 harg3 arg4 harg4 x0 x1 x2) k

/-- The two heads after `n` sub-blocks. -/
def both (n : ℕ) : Acc F :=
  pk (fAt (i 1).val (qh x0 0) k0_pay73 (fun s => KI.kb (F := F) (e := .bf16) x1 s 0) (fun s => KI.kb (F := F) (e := .bf16) x2 s 0) n)
    (fAt (i 1).val (qh x0 1) k0_pay73 (fun s => KI.kb (F := F) (e := .bf16) x1 s 1) (fun s => KI.kb (F := F) (e := .bf16) x2 s 1) n)

theorem q0_eq : q0 arg2 harg2 x0 = qh x0 0 := by
  refine congrArg (k0_pay71 (F := F)) (funext fun x => ?_)
  show arg2.view.read (Elt F) (harg2.unread x0) _ = _
  rw [harg2.read_unread]

theorem q1_eq : q1 arg2 harg2 x0 = qh x0 1 := by
  refine congrArg (k0_pay71 (F := F)) (funext fun x => ?_)
  show arg2.view.read (Elt F) (harg2.unread x0) _ = _
  rw [harg2.read_unread]

theorem diag_eq : diag i arg2 harg2 arg3 harg3 arg4 harg4 x0 x1 x2 = both i x0 x1 x2 2 := by
  have hb := coord1_lt i
  have vA : (KI.sbk (i 1).val 0).val = 2 * (i 1).val + 1 := Nat.mod_eq_of_lt (by omega)
  have vC : (KI.sbk (i 1).val 1).val = 2 * (i 1).val := Nat.mod_eq_of_lt (by omega)
  have a1 : k0_off1 i 256#32 = ![256 * (KI.sbk (i 1).val 0).val, 128 * (0 : Fin 2).val] := (off1_eq i 1).trans (by
    rw [vA, show 512 * (i 1).val + 256 * (1 : Fin 2).val = 256 * (2 * (i 1).val + 1) from by show _ + 256 * 1 = _; omega]; rfl)
  have a2 : k0_off2 i 256#32 = ![256 * (KI.sbk (i 1).val 0).val, 128 * (1 : Fin 2).val] := (off2_eq i 1).trans (by
    rw [vA, show 512 * (i 1).val + 256 * (1 : Fin 2).val = 256 * (2 * (i 1).val + 1) from by show _ + 256 * 1 = _; omega]; rfl)
  have a3 : k0_off1 i 0#32 = ![256 * (KI.sbk (i 1).val 1).val, 128 * (0 : Fin 2).val] := (off1_eq i 0).trans (by
    rw [vC, show 512 * (i 1).val + 256 * (0 : Fin 2).val = 256 * (2 * (i 1).val) from by show _ + 256 * 0 = _; omega]; rfl)
  have a4 : k0_off2 i 0#32 = ![256 * (KI.sbk (i 1).val 1).val, 128 * (1 : Fin 2).val] := (off2_eq i 0).trans (by
    rw [vC, show 512 * (i 1).val + 256 * (0 : Fin 2).val = 256 * (2 * (i 1).val) from by show _ + 256 * 0 = _; omega]; rfl)
  unfold diag
  rw [ld_kb arg3 harg3 x1 _ _ _ _ a1, ld_kb arg4 harg4 x2 _ _ _ _ a1, ld_kb arg3 harg3 x1 _ _ _ _ a2, ld_kb arg4 harg4 x2 _ _ _ _ a2,
    ld_kb arg3 harg3 x1 _ _ _ _ a3, ld_kb arg4 harg4 x2 _ _ _ _ a3, ld_kb arg3 harg3 x1 _ _ _ _ a4, ld_kb arg4 harg4 x2 _ _ _ _ a4, q0_eq, q1_eq]
  rfl

theorem st_eq (k : ℕ) (hk : k ≤ (i 1).val) : stA c i arg2 harg2 arg3 harg3 arg4 harg4 arg5 harg5 arg6 harg6 x0 x1 x2 k = both i x0 x1 x2 (2 * k + 2) := by
  have hb := coord1_lt i
  induction k with
  | zero => exact diag_eq i arg2 harg2 arg3 harg3 arg4 harg4 x0 x1 x2
  | succ k ih =>
    have hlt : k < (k0_t1_loop i).trips := by rw [trips1]; omega
    have vA : (KI.sbk (i 1).val (2 * k + 2)).val = 2 * (i 1).val + 1 - (2 * k + 2) := Nat.mod_eq_of_lt (by omega)
    have vC : (KI.sbk (i 1).val (2 * k + 2 + 1)).val = 2 * (i 1).val + 1 - (2 * k + 2 + 1) := Nat.mod_eq_of_lt (by omega)
    have a1 : k0_off3 i ⟨k, hlt⟩ 256#32 = ![256 * (KI.sbk (i 1).val (2 * k + 2)).val, 128 * (0 : Fin 2).val] := (off3_eq i ⟨k, hlt⟩ 1).trans (by
      rw [vA, show 512 * ((i 1).val - 1 - k) + 256 * (1 : Fin 2).val = 256 * (2 * (i 1).val + 1 - (2 * k + 2)) from by show _ + 256 * 1 = _; omega]; rfl)
    have a2 : k0_off4 i ⟨k, hlt⟩ 256#32 = ![256 * (KI.sbk (i 1).val (2 * k + 2)).val, 128 * (1 : Fin 2).val] := (off4_eq i ⟨k, hlt⟩ 1).trans (by
      rw [vA, show 512 * ((i 1).val - 1 - k) + 256 * (1 : Fin 2).val = 256 * (2 * (i 1).val + 1 - (2 * k + 2)) from by show _ + 256 * 1 = _; omega]; rfl)
    have a3 : k0_off3 i ⟨k, hlt⟩ 0#32 = ![256 * (KI.sbk (i 1).val (2 * k + 2 + 1)).val, 128 * (0 : Fin 2).val] := (off3_eq i ⟨k, hlt⟩ 0).trans (by
      rw [vC, show 512 * ((i 1).val - 1 - k) + 256 * (0 : Fin 2).val = 256 * (2 * (i 1).val + 1 - (2 * k + 2 + 1)) from by show _ + 256 * 0 = _; omega]; rfl)
    have a4 : k0_off4 i ⟨k, hlt⟩ 0#32 = ![256 * (KI.sbk (i 1).val (2 * k + 2 + 1)).val, 128 * (1 : Fin 2).val] := (off4_eq i ⟨k, hlt⟩ 0).trans (by
      rw [vC, show 512 * ((i 1).val - 1 - k) + 256 * (0 : Fin 2).val = 256 * (2 * (i 1).val + 1 - (2 * k + 2 + 1)) from by show _ + 256 * 0 = _; omega]; rfl)
    have ih := ih (by omega)
    unfold stA at ih ⊢
    rw [st_k0_t1_succ Variants.none c none i arg2 harg2 arg3 harg3 arg4 harg4 arg5 harg5 arg6 harg6 _ _ _ _ _ _ _ ⟨k, hlt⟩, ih, trip_eq,
      ld_kb arg3 harg3 x1 _ _ _ _ a1, ld_kb arg4 harg4 x2 _ _ _ _ a1, ld_kb arg3 harg3 x1 _ _ _ _ a2, ld_kb arg4 harg4 x2 _ _ _ _ a2,
      ld_kb arg3 harg3 x1 _ _ _ _ a3, ld_kb arg4 harg4 x2 _ _ _ _ a3, ld_kb arg3 harg3 x1 _ _ _ _ a4, ld_kb arg4 harg4 x2 _ _ _ _ a4, q0_eq, q1_eq]
    rfl

/-- The two stores of the rounded result, -/
theorem run3 : (kernelRun0_A c i arg2 harg2 arg3 harg3 arg4 harg4 arg5 harg5 arg6 harg6 x0 x1 x2).1
    = [⟨KI.rq 1, k0_pay14 (both i x0 x1 x2 (2 * (i 1).val + 2)).2.2.2⟩, ⟨KI.rq 0, k0_pay13 (both i x0 x1 x2 (2 * (i 1).val + 2)).2.2.1⟩] := by
  rw [← st_eq c i arg2 harg2 arg3 harg3 arg4 harg4 arg5 harg5 arg6 harg6 x0 x1 x2 (i 1).val le_rfl, ← trips1 i]
  unfold kernelRun0_A
  dsimp only
  rw [show Scf.trips (Scalar.addi (0#32) (Scalar.muli (Scalar.divsi (Scalar.subi (BitVec.ofNat 32 (i 1).val) 0#32) 1#32) 1#32))
    (Scalar.addi (0#32) (Scalar.subi (BitVec.ofNat 32 (i 1).val) 0#32)) 1#32 = 0 from trips2 i]
  rfl

/-- and the two of the result. -/
theorem run4 : (kernelRun0_A c i arg2 harg2 arg3 harg3 arg4 harg4 arg5 harg5 arg6 harg6 x0 x1 x2).2.1
    = [⟨KI.rq 1, (both i x0 x1 x2 (2 * (i 1).val + 2)).2.2.2⟩, ⟨KI.rq 0, (both i x0 x1 x2 (2 * (i 1).val + 2)).2.2.1⟩] := by
  rw [← st_eq c i arg2 harg2 arg3 harg3 arg4 harg4 arg5 harg5 arg6 harg6 x0 x1 x2 (i 1).val le_rfl, ← trips1 i]
  unfold kernelRun0_A
  dsimp only
  rw [show Scf.trips (Scalar.addi (0#32) (Scalar.muli (Scalar.divsi (Scalar.subi (BitVec.ofNat 32 (i 1).val) 0#32) 1#32) 1#32))
    (Scalar.addi (0#32) (Scalar.subi (BitVec.ofNat 32 (i 1).val) 0#32)) 1#32 = 0 from trips2 i]
  rfl

end Point

end Cert.Proof.SbFwd

end
-- ==== Proof.SbFwd.lean ====
/-
  The stick-breaking attention's forward: its two results are the reference's, over the extended reals, when the packed
  queries, keys and values are finite.
-/
module

public import proofs.«01_k».proof.Defs
public import proofs.«01_k».proof.Proof.SbFwdRun
public import proofs.«01_k».proof.Proof.Point
public import proofs.«01_k».proof.Proof.Scale
public import proofs.«01_k».proof.Proof.Gen.KernelSbFwd
public import proofs.«01_k».proof.Proof.Gen.KernelSbFwd.Frame
public import proofs.«01_k».proof.Proof.Gen.ReferenceSbFwdIdeal
public import proofs.«01_k».proof.Proof.Gen.ReferenceSbFwdIdeal.Run
public import proofs.«01_k».proof.Proof.Gen.ReferenceSbFwdIdeal.Read
public import proofs.«01_k».proof.Proof.Gen.Pre_finite_sb_fwd
public import Idealize.ShloMosaic.Lib.Pipeline.ValueKit
public import Idealize.ShloMosaic.Lib.Claim
public import Idealize.ShloMosaic.Lib.StableHlo.RunRead

@[expose] public section

set_option maxRecDepth 16384
set_option maxHeartbeats 2000000

noncomputable section

namespace Cert.Proof.SbFwd

open Cert.KernelSbFwdIdeal Cert.KernelSbFwdIdeal.Gen Cert.Proof.SB
open Idealize.ShloMosaic Idealize.ShloMosaic.TcCoe Idealize.SL.Sem
open Idealize.ShloMosaic.ValueIdx Idealize.ShloMosaic.Tactic Idealize.ShloMosaic.StableHlo
open Finset

section Two

variable {F : FTy → Type} [FloatOps F]

/-- A block from its two heads' halves. -/
def asm2 {e : EltTy} (B : Fin 2 → Vec F S512x128 e) : S512x256.Idx → Elt F e := fun y =>
  B ⟨(y 1).val / 128, by have h : (y 1).val < 256 := (y 1).isLt; omega⟩
    (ValueIdx.ix2 ⟨(y 0).val, (y 0).isLt⟩ ⟨(y 1).val % 128, Nat.mod_lt _ (by decide)⟩)

omit [FloatOps F] in
theorem asm2_at {e : EltTy} (B : Fin 2 → Vec F S512x128 e) (h : Fin 2) (x : S512x128.Idx) (y : S512x256.Idx)
    (h0 : (y 0).val = (x 0).val) (h1 : (y 1).val = 128 * h.val + (x 1).val) : asm2 B y = B h x := by
  have l1 : (x 1).val < 128 := (x 1).isLt
  have g : ∀ (h' : Fin 2) (x' : S512x128.Idx), h' = h → x' = x → B h' x' = B h x := by
    rintro _ _ rfl rfl; rfl
  refine g _ _ (Fin.ext ?_) ?_
  · show (y 1).val / 128 = h.val; omega
  · rw [ValueIdx.eq_ix2 x]
    congr 1
    · exact Fin.ext h0
    · exact Fin.ext (by show (y 1).val % 128 = (x 1).val; omega)

omit [FloatOps F] in
/-- Two stores that fill a block. -/
theorem read_two {e : EltTy} (v : View sig .tc .vmem S512x256 e) (f : v.ty.Contents (Elt F)) (B : Fin 2 → Vec F S512x128 e) :
    v.read (Elt F) (v.writes (Elt F) f [⟨KI.rq 1, B 1⟩, ⟨KI.rq 0, B 0⟩]) = asm2 B := by
  funext y
  have l0 : (y 0).val < 512 := (y 0).isLt
  have l1 : (y 1).val < 256 := (y 1).isLt
  by_cases h : (y 1).val < 128
  · rw [View.read_writes_cons_miss_of_axis v f ⟨KI.rq 1, B 1⟩ [⟨KI.rq 0, B 0⟩] y (1 : Fin 2) 128 128 rfl rfl rfl (.inl h)]
    let x : S512x128.Idx := ValueIdx.ix2 ⟨(y 0).val, l0⟩ ⟨(y 1).val, h⟩
    have hx : (KI.rq 0).emb x = y := by
      funext a
      fin_cases a
      · exact Fin.ext (by show 0 + 1 * (y 0).val = (y 0).val; omega)
      · exact Fin.ext (by show 128 * 0 + 1 * (y 1).val = (y 1).val; omega)
    rw [View.read_writes_cons_hit v f (KI.rq 0) (B 0) [] x y hx]
    exact (asm2_at B 0 x y rfl (by show _ = 128 * 0 + (y 1).val; omega)).symm
  · let x : S512x128.Idx := ValueIdx.ix2 ⟨(y 0).val, l0⟩ ⟨(y 1).val - 128, by omega⟩
    have hx : (KI.rq 1).emb x = y := by
      funext a
      fin_cases a
      · exact Fin.ext (by show 0 + 1 * (y 0).val = (y 0).val; omega)
      · exact Fin.ext (by show 128 * 1 + 1 * ((y 1).val - 128) = (y 1).val; omega)
    rw [View.read_writes_cons_hit v f (KI.rq 1) (B 1) _ x y hx]
    exact (asm2_at B 1 x y rfl (by show _ = 128 * 1 + ((y 1).val - 128); omega)).symm

end Two

variable (m : (l : Loc nD τ sig) → Buf (Elt Ideal) l) (c : Dev nD)

/-- The packed queries, keys and values as launched. -/
abbrev A0 : (⟨2, ![4096, 3072]⟩ : Shape).Idx → EReal := m ((c : Thread nD τ).loc main_arg0)

theorem V_v0 : (V m c main_v0 : (⟨2, ![4096, 3072]⟩ : Shape).Idx → EReal) = A0 m c := by
  unfold V
  after_reads_simp
  rfl

/-- Where the blocks of a point lie. -/
theorem idx_all : ∀ t : Fin cfg0.N,
    win0_0.index t = ![t.val % 8, t.val / 8] ∧ win0_1.index t = ![0, 4 + t.val / 8] ∧ win0_2.index t = ![0, 8 + t.val / 8] ∧
    win0_3.index t = ![t.val % 8, t.val / 8] ∧ win0_4.index t = ![t.val % 8, t.val / 8] := by
  have h : ∀ t : Fin grid0.N,
    win0_0.index t = ![t.val % 8, t.val / 8] ∧ win0_1.index t = ![0, 4 + t.val / 8] ∧ win0_2.index t = ![0, 8 + t.val / 8] ∧
    win0_3.index t = ![t.val % 8, t.val / 8] ∧ win0_4.index t = ![t.val % 8, t.val / 8] := by decide +kernel
  exact h

/-- The query block of a point. -/
theorem coord1 : ∀ t : Fin cfg0.N, ((grid0.coords t) 1).val = t.val % 8 := by
  have h : ∀ t : Fin grid0.N, ((grid0.coords t) 1).val = t.val % 8 := by decide +kernel
  exact h

/-- An array of zeros, for the cotangent the result does not depend on. -/
abbrev Z : (⟨2, ![4096, 1024]⟩ : Shape).Idx → EReal := fun _ => ((0 : ℝ) : EReal)

theorem fin_Z : Fin2 Z := fun _ => ⟨0, rfl⟩

/-- The head a point handles in its columns of head `h`. -/
abbrev hdX (t : Fin cfg0.N) (h : Fin 2) : In := headIn (A0 m c) Z (2 * (t.val / 8) + h.val)

/-- What a point's head leaves. -/
def accH (t : Fin cfg0.N) (h : Fin 2) : FVec Ideal S512x128 .f32 :=
  (fAt ((grid0.coords t) 1).val (qh (iblk m c 0 t) h) k0_pay73 (fun s => KI.kb (F := Ideal) (e := .bf16) (iblk m c 1 t) s h)
    (fun s => KI.kb (F := Ideal) (e := .bf16) (iblk m c 2 t) s h) (2 * ((grid0.coords t) 1).val + 2)).acc

theorem outs3 (t : Fin cfg0.N) : (outsAt0 m c t).1 = asm2 (F := Ideal) (e := .bf16) (fun h => k0_pay13 (accH m c t h)) := by
  show out0_A_3 (F := Ideal) c (grid0.coords t) _ _ _ _ _ _ _ _ _ _ _ _ _ = _
  unfold out0_A_3
  rw [run3]
  exact read_two (F := Ideal) VO0_3 _ (fun h => k0_pay13 (accH m c t h))

theorem outs4 (t : Fin cfg0.N) : (outsAt0 m c t).2 = asm2 (F := Ideal) (e := .f32) (accH m c t) := by
  show out0_A_4 (F := Ideal) c (grid0.coords t) _ _ _ _ _ _ _ _ _ _ _ _ _ = _
  unfold out0_A_4
  rw [run4]
  exact read_two (F := Ideal) VO0_4 _ (accH m c t)

/-- The attention's result. -/
def gO : (⟨2, ![4096, 1024]⟩ : Shape).Idx → EReal := fun i =>
  (((headIn (A0 m c) Z ((i 1).val / 128)).o (i 0).val ((i 1).val % 128) : ℝ) : EReal)

variable {m c} (h0 : Fin2 (A0 m c))

include h0 in
/-- The queries, -/
theorem co_blk0 (t : Fin cfg0.N) : Co (n := 512) (m := 256) (iblk m c 0 t) (fun r x => rd (A0 m c) (512 * (t.val % 8) + r) (256 * (t.val / 8) + x)) := fun r x => by
  have e := (idx_all t).1
  refine (congrFun (V_v0 m c) _).trans ((rd_co h0).at _ _ _ ?_ ?_)
  · blk_simp [e]
    simp; omega
  · blk_simp [e]
    simp; omega

include h0 in
/-- the keys -/
theorem co_blk1 (t : Fin cfg0.N) : Co (n := 4096) (m := 256) (iblk m c 1 t) (fun r x => rd (A0 m c) r (1024 + 256 * (t.val / 8) + x)) := fun r x => by
  have e := (idx_all t).2.1
  refine (congrFun (V_v0 m c) _).trans ((rd_co h0).at _ _ _ ?_ ?_)
  · blk_simp [e]
  · blk_simp [e]
    simp; omega

include h0 in
/-- and the values. -/
theorem co_blk2 (t : Fin cfg0.N) : Co (n := 4096) (m := 256) (iblk m c 2 t) (fun r x => rd (A0 m c) r (2048 + 256 * (t.val / 8) + x)) := fun r x => by
  have e := (idx_all t).2.2.1
  refine (congrFun (V_v0 m c) _).trans ((rd_co h0).at _ _ _ ?_ ?_)
  · blk_simp [e]
  · blk_simp [e]
    simp; omega

include h0 in
/-- A point's head leaves its rows of the result. -/
theorem co_acc (t : Fin cfg0.N) (h : Fin 2) : Co (n := 512) (m := 128) (accH m c t h) (fun r x => (hdX m c t h).o (512 * (t.val % 8) + r) x) := by
  unfold accH
  rw [coord1]
  refine of_o (Nat.mod_lt _ (by decide)) rfl ?_ KI.co_L (fun s => ?_) (fun s => ?_)
  · unfold qh k0_pay71
    rw [shapeCast_self]
    refine (KI.rq_at (co_blk0 h0 t) h).congr fun r x _ _ => ?_
    show rd _ _ _ = rd _ _ _
    congr 1; omega
  · refine (KI.kb_at (co_blk1 h0 t) s h).congr fun y x _ _ => ?_
    show rd _ _ _ = rd _ _ _
    congr 1; omega
  · refine (KI.kb_at (co_blk2 h0 t) s h).congr fun y x _ _ => ?_
    show rd _ _ _ = rd _ _ _
    congr 1; omega

include h0 in
theorem asm_gO (t : Fin cfg0.N) (y : S512x256.Idx) (i : (⟨2, ![4096, 1024]⟩ : Shape).Idx)
    (e0 : (i 0).val = 512 * (t.val % 8) + (y 0).val) (e1 : (i 1).val = 256 * (t.val / 8) + (y 1).val) :
    asm2 (F := Ideal) (e := .f32) (accH m c t) y = gO m c i := by
  have l1 : (y 1).val < 256 := (y 1).isLt
  have l0 : (y 0).val < 512 := (y 0).isLt
  refine (asm2_at (F := Ideal) (e := .f32) (accH m c t) ⟨(y 1).val / 128, by omega⟩ (ValueIdx.ix2 ⟨(y 0).val, l0⟩ ⟨(y 1).val % 128, Nat.mod_lt _ (by decide)⟩) y rfl
    (by show (y 1).val = 128 * ((y 1).val / 128) + (y 1).val % 128; omega)).trans ?_
  refine (co_acc h0 t _ _ _).trans ?_
  unfold gO hdX
  rw [e0, show (i 1).val / 128 = 2 * (t.val / 8) + (y 1).val / 128 by omega, show (i 1).val % 128 = (y 1).val % 128 by omega]

include h0 in
/-- The rounded result's array after the run -/
theorem final3 : (dats m 0 c).arrAt 3 cfg0.N = gO m c :=
  (dats m 0 c).arrAt_eq_of_covers 3 (gO m c) (by decide +kernel) fun t _ y => by
    have e := (idx_all t).2.2.2.1
    rw [after0_3, outs3]
    refine asm_gO h0 t _ _ ?_ ?_
    · show _ = 512 * (t.val % 8) + (y 0).val
      blk_simp [e]
      simp; omega
    · show _ = 256 * (t.val / 8) + (y 1).val
      blk_simp [e]
      simp; omega

include h0 in
/-- and the result's. -/
theorem final4 : (dats m 0 c).arrAt 4 cfg0.N = gO m c :=
  (dats m 0 c).arrAt_eq_of_covers 4 (gO m c) (by decide +kernel) fun t _ y => by
    have e := (idx_all t).2.2.2.2
    rw [after0_4, outs4]
    refine asm_gO h0 t _ _ ?_ ?_
    · show _ = 512 * (t.val % 8) + (y 0).val
      blk_simp [e]
      simp; omega
    · show _ = 256 * (t.val / 8) + (y 1).val
      blk_simp [e]
      simp; omega

include h0 in
/-- The reference's result. -/
theorem reference_value : Cert.ReferenceSbFwdIdeal.Read.val_main_v29 (F := Ideal) (A0 m c) = gO m c := by
  have e : Cert.ReferenceSbFwdIdeal.Read.val_main_v29 (F := Ideal) (A0 m c) = Cert.ReferenceIdeal.Read.val_main_v29 (F := Ideal) (A0 m c) := rfl
  exact e.trans (funext fun i => (ref_o h0 fin_Z).at i _ _ rfl rfl)

/-- The kernel as printed runs, leaves its argument unchanged and ends with every counter at zero. -/
theorem frame_kernel : Cert.quiescent_KernelSbFwd := fun m ρ _ => Cert.KernelSbFwd.Gen.frame (F := Bits) m ρ

/-- The idealized kernel runs, leaves its argument unchanged and ends with every counter at zero. -/
theorem frame_kernelIdeal : Cert.quiescent_KernelSbFwdIdeal := fun m ρ _ => Cert.KernelSbFwdIdeal.Gen.frame (F := Ideal) m ρ

/-- The idealized reference runs, leaves its argument unchanged and ends with every counter at zero. -/
theorem frame_referenceIdeal : Cert.quiescent_ReferenceSbFwdIdeal := fun m ρ _ =>
  (θ_run Cert.ReferenceSbFwdIdeal.defs _ _).mono
    (fun r h => ⟨fun c => (h c).2.2, sem_eq_zero_of_no_sems (by decide) r.2⟩)
    (Cert.ReferenceSbFwdIdeal.Value.run (F := Ideal) m ρ)

/-- The kernel's two results are the reference's, over the extended reals, when the argument is finite. -/
theorem same_values : Cert.algebraic_KernelSbFwdIdeal_ReferenceSbFwdIdeal_pre_finite_sb_fwd := by
  intro m g m' g' hpre hag
  have h0 : ∀ c, Fin2 (A0 m c) := fun c i => real_of_lt _ (congrFun (hpre c) i)
  refine ⟨gO m, gO m, (θ_run defs _ _).mono (fun r h c => ⟨(h c).1.trans (final3 (h0 c)), (h c).2.1.trans (final4 (h0 c)), (h c).2.2⟩)
    (Cert.KernelSbFwdIdeal.Value.run_blocks (F := Ideal) m g), ?_⟩
  refine (θ_run Cert.ReferenceSbFwdIdeal.defs _ _).mono (fun r h c => ?_) (Cert.ReferenceSbFwdIdeal.Value.run (F := Ideal) m' g')
  have e0 := hag c
  refine ⟨(h c).1.trans ?_, (h c).2.1.trans ?_, (h c).2.2⟩
  · rw [Cert.ReferenceSbFwdIdeal.Read.val_main_v30_eq, ← reference_value (h0 c)]
    exact congrArg (Cert.ReferenceSbFwdIdeal.Read.val_main_v29 (F := Ideal)) e0
  · rw [Cert.ReferenceSbFwdIdeal.Read.val_main_v29_eq, ← reference_value (h0 c)]
    exact congrArg (Cert.ReferenceSbFwdIdeal.Read.val_main_v29 (F := Ideal)) e0

end Cert.Proof.SbFwd

end
-- ==== Proof.lean ====
/-
  The certificate. The stick-breaking gradient: the frames of the kernel (as printed and idealized) from its run, the frame
  of the reference from its own run, and the equality of the three gradients over the extended reals, when the arguments
  are finite. The other calls: their modules' frames and equalities, put in the order of the statement.
-/
module

public import proofs.«01_k».proof.Defs
public import proofs.«01_k».proof.Proof.Gen.Kernel
public import proofs.«01_k».proof.Proof.Result
public import proofs.«01_k».proof.Proof.Out
public import proofs.«01_k».proof.Proof.DownDw
public import proofs.«01_k».proof.Proof.UpDw
public import proofs.«01_k».proof.Proof.DownBwd
public import proofs.«01_k».proof.Proof.UpBwd
public import proofs.«01_k».proof.Proof.Up
public import proofs.«01_k».proof.Proof.Down
public import proofs.«01_k».proof.Proof.OutFwd
public import proofs.«01_k».proof.Proof.OutBwd
public import proofs.«01_k».proof.Proof.OutDw
public import proofs.«01_k».proof.Proof.InFwd
public import proofs.«01_k».proof.Proof.InDw
public import proofs.«01_k».proof.Proof.InBwd
public import proofs.«01_k».proof.Proof.EvenOutBwd
public import proofs.«01_k».proof.Proof.EvenIn
public import proofs.«01_k».proof.Proof.EvenInDw
public import proofs.«01_k».proof.Proof.EvenInBwd
public import proofs.«01_k».proof.Proof.AdamGu
public import proofs.«01_k».proof.Proof.AdamDown
public import proofs.«01_k».proof.Proof.AdamInEven
public import proofs.«01_k».proof.Proof.AdamInOdd
public import proofs.«01_k».proof.Proof.AdamOut
public import proofs.«01_k».proof.Proof.AdamSmall
public import proofs.«01_k».proof.Proof.SbFwd
public import proofs.«01_k».proof.Proof.Gen.Pre_finite
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Proof

open Idealize.ShloMosaic Idealize.SL.Sem

/-- The statement of the printed kernel's frame is the statement of the idealized kernel's read at bit patterns: the two
    programs have the same text. -/
theorem frame_same : Cert.quiescent_Kernel =
    (∀ (m : (ℓ : Loc Cert.KernelIdeal.nD Cert.KernelIdeal.τ Cert.KernelIdeal.sig) → Buf (Elt Bits) ℓ) (ρ : Dev Cert.KernelIdeal.nD → PrngReg), True →
      θ_run (Cert.KernelIdeal.defs (F := Bits)) (onTc (τ := Cert.KernelIdeal.τ) (Cert.KernelIdeal.main (F := Bits))) ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0)) := by
  chain_rfl

/-- The kernel as printed runs, leaves its arguments unchanged and ends with every counter at zero. -/
theorem frame_kernel : Cert.quiescent_Kernel :=
  frame_same.mpr fun m ρ _ => KI.frame_main (F := Bits) m ρ

/-- The idealized kernel runs, leaves its arguments unchanged and ends with every counter at zero. -/
theorem frame_kernelIdeal : Cert.quiescent_KernelIdeal := fun m ρ _ =>
  KI.frame_main (F := Ideal) m ρ

/-- The idealized reference runs, leaves its arguments unchanged and ends with every counter at zero. -/
theorem frame_referenceIdeal : Cert.quiescent_ReferenceIdeal := fun m ρ _ =>
  (θ_run Cert.ReferenceIdeal.defs _ _).mono
    (fun r h => ⟨fun c => ⟨(h c).2.2.2.1, (h c).2.2.2.2⟩, sem_eq_zero_of_no_sems (by decide) r.2⟩)
    (Cert.ReferenceIdeal.Value.run (F := Ideal) m ρ)

/-- The predicate makes every entry of the two arguments a real. -/
theorem finite_args (m : (ℓ : Loc Cert.KernelIdeal.nD Cert.KernelIdeal.τ Cert.KernelIdeal.sig) → Buf (Elt Ideal) ℓ)
    (h : Cert.Pre_KernelIdeal_finite m) (c : Dev Cert.KernelIdeal.nD) : SB.Fin2 (KI.A0 m c) ∧ SB.Fin2 (KI.A1 m c) :=
  ⟨fun i => real_of_lt _ (congrFun (h c).1 i), fun i => real_of_lt _ (congrFun (h c).2 i)⟩

/-- The reference's results, from finite arguments. -/
theorem reference_values (m : (ℓ : Loc Cert.KernelIdeal.nD Cert.KernelIdeal.τ Cert.KernelIdeal.sig) → Buf (Elt Ideal) ℓ) (c : Dev Cert.KernelIdeal.nD)
    (h0 : SB.Fin2 (KI.A0 m c)) (h1 : SB.Fin2 (KI.A1 m c)) :
    Cert.ReferenceIdeal.Read.val_main_v59 (F := Ideal) (KI.A0 m c) (KI.A1 m c) = KI.gQ m c
    ∧ Cert.ReferenceIdeal.Read.val_main_v57 (F := Ideal) (KI.A0 m c) (KI.A1 m c) = KI.gK m c
    ∧ Cert.ReferenceIdeal.Read.val_main_v58 (F := Ideal) (KI.A0 m c) (KI.A1 m c) = KI.gV m c :=
  ⟨funext fun i => (SB.ref_dq h0 h1).at i _ _ rfl rfl, funext fun i => (SB.ref_dk h0 h1).at i _ _ rfl rfl,
    funext fun i => (SB.ref_dv h0 h1).at i _ _ rfl rfl⟩

/-- The kernel's gradients of the queries, the keys and the values are the reference's, over the extended reals. -/
theorem same_values : Cert.algebraic_KernelIdeal_ReferenceIdeal_pre_finite := by
  intro m g m' g' hpre hag
  have h0 := fun c => (finite_args m hpre c).1
  have h1 := fun c => (finite_args m hpre c).2
  refine ⟨KI.gQ m, KI.gK m, KI.gV m, KI.run_values m g h0 h1, ?_⟩
  refine (θ_run Cert.ReferenceIdeal.defs _ _).mono (fun r h c => ?_) (Cert.ReferenceIdeal.Value.run (F := Ideal) m' g')
  obtain ⟨e0, e1⟩ := hag c
  obtain ⟨q, k, v, a0, a1⟩ := h c
  obtain ⟨rq, rk, rv⟩ := reference_values m c (h0 c) (h1 c)
  refine ⟨?_, ?_, ?_, a0, a1⟩
  · rw [q, Cert.ReferenceIdeal.Read.val_main_v59_eq, ← rq]
    exact congrArg₂ _ e0 e1
  · rw [k, Cert.ReferenceIdeal.Read.val_main_v57_eq, ← rk]
    exact congrArg₂ _ e0 e1
  · rw [v, Cert.ReferenceIdeal.Read.val_main_v58_eq, ← rv]
    exact congrArg₂ _ e0 e1

/-- The claims of every call, in the order of the statement. -/
theorem claim : Cert.Claim := ⟨Cert.Kernel.Gen.facts, Cert.KernelIdeal.Gen.facts, Cert.ReferenceIdeal.Gen.facts,
  Cert.KernelDownDw.Gen.facts, Cert.KernelDownDwIdeal.Gen.facts, Cert.ReferenceDownDwIdeal.Gen.facts,
  Cert.KernelUpDw.Gen.facts, Cert.KernelUpDwIdeal.Gen.facts, Cert.ReferenceUpDwIdeal.Gen.facts,
  Cert.KernelDownBwd.Gen.facts, Cert.KernelDownBwdIdeal.Gen.facts, Cert.ReferenceDownBwdIdeal.Gen.facts,
  Cert.KernelUpBwd.Gen.facts, Cert.KernelUpBwdIdeal.Gen.facts, Cert.ReferenceUpBwdIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelOutFwd.Gen.facts, Cert.KernelOutFwdIdeal.Gen.facts, Cert.ReferenceOutFwdIdeal.Gen.facts,
  Cert.KernelOutBwd.Gen.facts, Cert.KernelOutBwdIdeal.Gen.facts, Cert.ReferenceOutBwdIdeal.Gen.facts,
  Cert.KernelOutDw.Gen.facts, Cert.KernelOutDwIdeal.Gen.facts, Cert.ReferenceOutDwIdeal.Gen.facts,
  Cert.KernelInFwd.Gen.facts, Cert.KernelInFwdIdeal.Gen.facts, Cert.ReferenceInFwdIdeal.Gen.facts,
  Cert.KernelInDw.Gen.facts, Cert.KernelInDwIdeal.Gen.facts, Cert.ReferenceInDwIdeal.Gen.facts,
  Cert.KernelInBwd.Gen.facts, Cert.KernelInBwdIdeal.Gen.facts, Cert.ReferenceInBwdIdeal.Gen.facts,
  Cert.KernelEvenOutBwd.Gen.facts, Cert.KernelEvenOutBwdIdeal.Gen.facts, Cert.ReferenceEvenOutBwdIdeal.Gen.facts,
  Cert.KernelEvenIn.Gen.facts, Cert.KernelEvenInIdeal.Gen.facts, Cert.ReferenceEvenInIdeal.Gen.facts,
  Cert.KernelEvenInDw.Gen.facts, Cert.KernelEvenInDwIdeal.Gen.facts, Cert.ReferenceEvenInDwIdeal.Gen.facts,
  Cert.KernelEvenInBwd.Gen.facts, Cert.KernelEvenInBwdIdeal.Gen.facts, Cert.ReferenceEvenInBwdIdeal.Gen.facts,
  Cert.KernelAdamGu.Gen.facts, Cert.KernelAdamGuIdeal.Gen.facts, Cert.ReferenceAdamGuIdeal.Gen.facts,
  Cert.KernelAdamDown.Gen.facts, Cert.KernelAdamDownIdeal.Gen.facts, Cert.ReferenceAdamDownIdeal.Gen.facts,
  Cert.KernelAdamInEven.Gen.facts, Cert.KernelAdamInEvenIdeal.Gen.facts, Cert.ReferenceAdamInEvenIdeal.Gen.facts,
  Cert.KernelAdamInOdd.Gen.facts, Cert.KernelAdamInOddIdeal.Gen.facts, Cert.ReferenceAdamInOddIdeal.Gen.facts,
  Cert.KernelAdamOut.Gen.facts, Cert.KernelAdamOutIdeal.Gen.facts, Cert.ReferenceAdamOutIdeal.Gen.facts,
  Cert.KernelAdamSmall.Gen.facts, Cert.KernelAdamSmallIdeal.Gen.facts, Cert.ReferenceAdamSmallIdeal.Gen.facts,
  Cert.KernelSbFwd.Gen.facts, Cert.KernelSbFwdIdeal.Gen.facts, Cert.ReferenceSbFwdIdeal.Gen.facts,
  Cert.Pre_finite.Gen.facts, Cert.Pre_finite_down_bwd.Gen.facts, Cert.Pre_finite_sb_fwd.Gen.facts,
  frame_kernel, frame_kernelIdeal, fun m ρ _ => frame_kernelIdeal m ρ trivial, frame_referenceIdeal, fun m ρ _ => frame_referenceIdeal m ρ trivial,
  DownDw.frame_kernel, DownDw.frame_kernelIdeal, DownDw.frame_referenceIdeal,
  UpDw.frame_kernel, UpDw.frame_kernelIdeal, UpDw.frame_referenceIdeal,
  DownBwd.frame_kernel, DownBwd.frame_kernelIdeal, fun m ρ _ => DownBwd.frame_kernelIdeal m ρ trivial, DownBwd.frame_referenceIdeal, fun m ρ _ => DownBwd.frame_referenceIdeal m ρ trivial,
  UpBwd.frame_kernel, UpBwd.frame_kernelIdeal, UpBwd.frame_referenceIdeal,
  Up.frame_kernel, Up.frame_kernelIdeal, Up.frame_referenceIdeal,
  Down.frame_kernel, Down.frame_kernelIdeal, Down.frame_referenceIdeal,
  OutFwd.frame_kernel, OutFwd.frame_kernelIdeal, OutFwd.frame_referenceIdeal,
  OutBwd.frame_kernel, OutBwd.frame_kernelIdeal, OutBwd.frame_referenceIdeal,
  OutDw.frame_kernel, OutDw.frame_kernelIdeal, OutDw.frame_referenceIdeal,
  InFwd.frame_kernel, InFwd.frame_kernelIdeal, InFwd.frame_referenceIdeal,
  InDw.frame_kernel, InDw.frame_kernelIdeal, InDw.frame_referenceIdeal,
  InBwd.frame_kernel, InBwd.frame_kernelIdeal, InBwd.frame_referenceIdeal,
  EvenOutBwd.frame_kernel, EvenOutBwd.frame_kernelIdeal, EvenOutBwd.frame_referenceIdeal,
  EvenIn.frame_kernel, EvenIn.frame_kernelIdeal, EvenIn.frame_referenceIdeal,
  EvenInDw.frame_kernel, EvenInDw.frame_kernelIdeal, EvenInDw.frame_referenceIdeal,
  EvenInBwd.frame_kernel, EvenInBwd.frame_kernelIdeal, EvenInBwd.frame_referenceIdeal,
  AdamGu.frame_kernel, AdamGu.frame_kernelIdeal, AdamGu.frame_referenceIdeal,
  AdamDown.frame_kernel, AdamDown.frame_kernelIdeal, AdamDown.frame_referenceIdeal,
  AdamInEven.frame_kernel, AdamInEven.frame_kernelIdeal, AdamInEven.frame_referenceIdeal,
  AdamInOdd.frame_kernel, AdamInOdd.frame_kernelIdeal, AdamInOdd.frame_referenceIdeal,
  AdamOut.frame_kernel, AdamOut.frame_kernelIdeal, AdamOut.frame_referenceIdeal,
  AdamSmall.frame_kernel, AdamSmall.frame_kernelIdeal, AdamSmall.frame_referenceIdeal,
  SbFwd.frame_kernel, SbFwd.frame_kernelIdeal, fun m ρ _ => SbFwd.frame_kernelIdeal m ρ trivial, SbFwd.frame_referenceIdeal, fun m ρ _ => SbFwd.frame_referenceIdeal m ρ trivial,
  trivial, same_values, trivial, DownDw.same_values, trivial, UpDw.same_values, trivial, DownBwd.same_values, trivial, UpBwd.same_values, trivial, Up.same_values, trivial, Down.same_values,
  trivial, OutFwd.same_values, trivial, OutBwd.same_values, trivial, OutDw.same_values, trivial, InFwd.same_values, trivial, InDw.same_values, trivial, InBwd.same_values,
  trivial, EvenOutBwd.same_values, trivial, EvenIn.same_values, trivial, EvenInDw.same_values, trivial, EvenInBwd.same_values,
  trivial, AdamGu.same_values, trivial, AdamDown.same_values, trivial, AdamInEven.same_values, trivial, AdamInOdd.same_values, trivial, AdamOut.same_values, trivial, AdamSmall.same_values,
  trivial, SbFwd.same_values⟩

end Cert.Proof

end
